-- ==== Defs.lean ====
def Pre_Kernel [hPre_permutation : Cert.Pre_permutation.Facts] (m : (ℓ : Loc Cert.Kernel.nD Cert.Kernel.τ Cert.Kernel.sig) → Buf (Elt Bits) ℓ) : Prop :=
  ∀ c : Dev Cert.Kernel.nD,
    (Cert.Pre_permutation.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_permutation : Cert.Pre_permutation.Facts] (m : (ℓ : Loc Cert.KernelIdeal.nD Cert.KernelIdeal.τ Cert.KernelIdeal.sig) → Buf (Elt Ideal) ℓ) : Prop :=
  ∀ c : Dev Cert.KernelIdeal.nD,
    (Cert.Pre_permutation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_permutation [hPre_permutation : Cert.Pre_permutation.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_permutation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_permutation : Cert.Pre_permutation.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_permutation : Cert.Pre_permutation.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_permutation [hReferenceIdeal : Cert.ReferenceIdeal.Facts] [hPre_permutation : Cert.Pre_permutation.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_permutation m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S49280x2x128 Cert.KernelIdeal.S49280x1x128
  ∧ IdealRules.bf16_pair.PackStatement Cert.KernelIdeal.S8x128
  ∧ IdealRules.bf16_pair.Statement Cert.KernelIdeal.S8x2x128 Cert.KernelIdeal.S8x1x128
  ∧ IdealRules.bf16_pair.Statement Cert.KernelIdeal.S3072x2x128 Cert.KernelIdeal.S3072x1x128
  ∧ IdealRules.bf16_pair.Statement Cert.KernelIdeal.S6144x128 Cert.KernelIdeal.S3072x128

def algebraic_KernelIdeal_ReferenceIdeal [hKernelIdeal : Cert.KernelIdeal.Facts] [hReferenceIdeal : Cert.ReferenceIdeal.Facts] [hPre_permutation : Cert.Pre_permutation.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_permutation : Cert.Pre_permutation.Facts),
    quiescent_Kernel (hKernel := hKernel) (hPre_permutation := hPre_permutation)
    ∧ quiescent_KernelIdeal (hKernelIdeal := hKernelIdeal) (hPre_permutation := hPre_permutation)
    ∧ quiescent_ReferenceIdeal (hReferenceIdeal := hReferenceIdeal)
    ∧ quiescent_ReferenceIdeal_pre_permutation (hReferenceIdeal := hReferenceIdeal) (hPre_permutation := hPre_permutation)
    ∧ preserves_Kernel_KernelIdeal
    ∧ algebraic_KernelIdeal_ReferenceIdeal (hKernelIdeal := hKernelIdeal) (hReferenceIdeal := hReferenceIdeal) (hPre_permutation := hPre_permutation)
-- ==== Pre_permutation.lean ====
abbrev S2x2560x6144 : Shape := ⟨3, ![2, 2560, 6144]⟩
abbrev S6144 : Shape := ⟨1, ![6144]⟩
abbrev S813x24576 : Shape := ⟨2, ![813, 24576]⟩
abbrev S192x24576 : Shape := ⟨2, ![192, 24576]⟩
abbrev S_ : Shape := ⟨0, ![]⟩
abbrev S6144x1 : Shape := ⟨2, ![6144, 1]⟩
abbrev S1x6144 : Shape := ⟨2, ![1, 6144]⟩
abbrev S6144x6144 : Shape := ⟨2, ![6144, 6144]⟩

class Facts : Prop where
  bcast_S_S6144 : S_.BroadcastsInDim S6144 (![] : Fin 0 → Fin S6144.rank)
  reducesTo_S6144_S_d0 : S6144.ReducesTo [0] S_
  h_S_ : 0 < S_.numel
  bcast_S6144_S6144x1_0 : S6144.BroadcastsInDim S6144x1 (![0] : Fin 1 → Fin S6144x1.rank)
  bcast_S6144_S1x6144_1 : S6144.BroadcastsInDim S1x6144 (![1] : Fin 1 → Fin S1x6144.rank)
  bcast_S6144x1_S6144x6144_0_1 : S6144x1.BroadcastsInDim S6144x6144 (![0, 1] : Fin 2 → Fin S6144x6144.rank)
  bcast_S1x6144_S6144x6144_0_1 : S1x6144.BroadcastsInDim S6144x6144 (![0, 1] : Fin 2 → Fin S6144x6144.rank)
  reducesTo_S6144x6144_S_d0_1 : S6144x6144.ReducesTo [0, 1] S_

variable [Facts]

def fn {F : FTy → Type} [FloatOps F] (main_arg0 : FVec F S2x2560x6144 .bf16) (main_arg1 : FVec F S2x2560x6144 .bf16) (main_arg2 : FVec F S6144 .f32) (main_arg3 : IVec S6144 32) (main_arg4 : IVec S813x24576 32) (main_arg5 : FVec F S192x24576 .bf16) : IVec S_ 1 :=
  let main_v0 : IVec S6144 32 := iotaInDim S6144 32 0
  let main_c : IVec S_ 32 := constantI S_ 32 0#32
  let main_v1 : IVec S6144 32 := broadcastInDim S6144 ![] bcast_S_S6144 main_c
  let main_v2 : IVec S6144 1 := cmpi .sge main_arg3 main_v1
  let main_c_0 : IVec S_ 32 := constantI S_ 32 6144#32
  let main_v3 : IVec S6144 32 := broadcastInDim S6144 ![] bcast_S_S6144 main_c_0
  let main_v4 : IVec S6144 1 := cmpi .slt main_arg3 main_v3
  let main_v5 : IVec S6144 1 := andi main_v2 main_v4
  let main_c_1 : IVec S_ 1 := constantI S_ 1 1#1
  let main_v6 : IVec S_ 1 := (fun x v => Host.reduce IntOp.andi x v reducesTo_S6144_S_d0 h_S_) main_v5 main_c_1
  let main_v7 : IVec S6144x1 32 := broadcastInDim S6144x1 ![0] bcast_S6144_S6144x1_0 main_arg3
  let main_v8 : IVec S1x6144 32 := broadcastInDim S1x6144 ![1] bcast_S6144_S1x6144_1 main_arg3
  let main_v9 : IVec S6144x6144 32 := broadcastInDim S6144x6144 ![0, 1] bcast_S6144x1_S6144x6144_0_1 main_v7
  let main_v10 : IVec S6144x6144 32 := broadcastInDim S6144x6144 ![0, 1] bcast_S1x6144_S6144x6144_0_1 main_v8
  let main_v11 : IVec S6144x6144 1 := cmpi .ne main_v9 main_v10
  let main_v12 : IVec S6144x1 32 := broadcastInDim S6144x1 ![0] bcast_S6144_S6144x1_0 main_v0
  let main_v13 : IVec S1x6144 32 := broadcastInDim S1x6144 ![1] bcast_S6144_S1x6144_1 main_v0
  let main_v14 : IVec S6144x6144 32 := broadcastInDim S6144x6144 ![0, 1] bcast_S6144x1_S6144x6144_0_1 main_v12
  let main_v15 : IVec S6144x6144 32 := broadcastInDim S6144x6144 ![0, 1] bcast_S1x6144_S6144x6144_0_1 main_v13
  let main_v16 : IVec S6144x6144 1 := cmpi .eq main_v14 main_v15
  let main_v17 : IVec S6144x6144 1 := ori main_v11 main_v16
  let main_c_2 : IVec S_ 1 := constantI S_ 1 1#1
  let main_v18 : IVec S_ 1 := (fun x v => Host.reduce IntOp.andi x v reducesTo_S6144x6144_S_d0_1 h_S_) main_v17 main_c_2
  let main_v19 : IVec S_ 1 := andi main_v6 main_v18
  main_v19
-- ==== Kernel.lean ====
abbrev S2x2560x6144 : Shape := ⟨3, ![2, 2560, 6144]⟩
abbrev S6144 : Shape := ⟨1, ![6144]⟩
abbrev S813x24576 : Shape := ⟨2, ![813, 24576]⟩
abbrev S192x24576 : Shape := ⟨2, ![192, 24576]⟩
abbrev S5120x6144 : Shape := ⟨2, ![5120, 6144]⟩
abbrev S1x6144 : Shape := ⟨2, ![1, 6144]⟩
abbrev S256x6144 : Shape := ⟨2, ![256, 6144]⟩
abbrev S256 : Shape := ⟨1, ![256]⟩
abbrev S256x1 : Shape := ⟨2, ![256, 1]⟩
abbrev S5120x24576 : Shape := ⟨2, ![5120, 24576]⟩
abbrev S512x6144 : Shape := ⟨2, ![512, 6144]⟩
abbrev S813x1024 : Shape := ⟨2, ![813, 1024]⟩
abbrev S192x1024 : Shape := ⟨2, ![192, 1024]⟩
abbrev S512x1024 : Shape := ⟨2, ![512, 1024]⟩
abbrev S6160 : Shape := ⟨1, ![6160]⟩
abbrev S6504x128 : Shape := ⟨2, ![6504, 128]⟩
abbrev S1536x128 : Shape := ⟨2, ![1536, 128]⟩
abbrev S49280x128 : Shape := ⟨2, ![49280, 128]⟩
abbrev S1 : Shape := ⟨1, ![1]⟩
abbrev S8x128 : Shape := ⟨2, ![8, 128]⟩
abbrev S5x128 : Shape := ⟨2, ![5, 128]⟩
abbrev S16x128 : Shape := ⟨2, ![16, 128]⟩
abbrev S3072x128 : Shape := ⟨2, ![3072, 128]⟩
abbrev S6144x128 : Shape := ⟨2, ![6144, 128]⟩
abbrev S6144x256 : Shape := ⟨2, ![6144, 256]⟩
abbrev S512x256 : Shape := ⟨2, ![512, 256]⟩
abbrev S2x2560x24576 : Shape := ⟨3, ![2, 2560, 24576]⟩

abbrev nBuf : Space → Nat
  | .hbm => 16
  | .vmem => 20
  | .smem => 3
  | _ => 0

abbrev bufTy : (tb : Table) → Fin (tcTables nBuf tb) → BufTy
  | .hbm, ⟨0, _⟩ => ⟨S2x2560x6144, .bf16⟩
  | .hbm, ⟨1, _⟩ => ⟨S2x2560x6144, .bf16⟩
  | .hbm, ⟨2, _⟩ => ⟨S6144, .f32⟩
  | .hbm, ⟨3, _⟩ => ⟨S6144, .i32⟩
  | .hbm, ⟨4, _⟩ => ⟨S813x24576, .i32⟩
  | .hbm, ⟨5, _⟩ => ⟨S192x24576, .bf16⟩
  | .hbm, ⟨6, _⟩ => ⟨S6144, .i32⟩
  | .hbm, ⟨7, _⟩ => ⟨S5120x6144, .bf16⟩
  | .hbm, ⟨8, _⟩ => ⟨S5120x6144, .bf16⟩
  | .hbm, ⟨9, _⟩ => ⟨S1x6144, .f32⟩
  | .hbm, ⟨10, _⟩ => ⟨S5120x6144, .bf16⟩
  | .hbm, ⟨11, _⟩ => ⟨S5120x6144, .bf16⟩
  | .hbm, ⟨12, _⟩ => ⟨S813x24576, .i32⟩
  | .hbm, ⟨13, _⟩ => ⟨S5120x24576, .bf16⟩
  | .hbm, ⟨14, _⟩ => ⟨S2x2560x24576, .bf16⟩
  | .hbm, ⟨15, _⟩ => ⟨S2x2560x6144, .bf16⟩
  | .local _ .vmem, ⟨0, _⟩ => ⟨S256x6144, .bf16⟩
  | .local _ .vmem, ⟨1, _⟩ => ⟨S256x6144, .bf16⟩
  | .local _ .vmem, ⟨2, _⟩ => ⟨S256x6144, .bf16⟩
  | .local _ .vmem, ⟨3, _⟩ => ⟨S256x6144, .bf16⟩
  | .local _ .vmem, ⟨4, _⟩ => ⟨S1x6144, .f32⟩
  | .local _ .vmem, ⟨5, _⟩ => ⟨S256x6144, .bf16⟩
  | .local _ .vmem, ⟨6, _⟩ => ⟨S256x6144, .bf16⟩
  | .local _ .vmem, ⟨7, _⟩ => ⟨S256x6144, .bf16⟩
  | .local _ .vmem, ⟨8, _⟩ => ⟨S256x6144, .bf16⟩
  | .local _ .vmem, ⟨9, _⟩ => ⟨S512x6144, .bf16⟩
  | .local _ .vmem, ⟨10, _⟩ => ⟨S512x6144, .bf16⟩
  | .local _ .vmem, ⟨11, _⟩ => ⟨S813x1024, .i32⟩
  | .local _ .vmem, ⟨12, _⟩ => ⟨S813x1024, .i32⟩
  | .local _ .vmem, ⟨13, _⟩ => ⟨S192x1024, .bf16⟩
  | .local _ .vmem, ⟨14, _⟩ => ⟨S192x1024, .bf16⟩
  | .local _ .vmem, ⟨15, _⟩ => ⟨S512x1024, .bf16⟩
  | .local _ .vmem, ⟨16, _⟩ => ⟨S512x1024, .bf16⟩
  | .local _ .vmem, ⟨17, _⟩ => ⟨S6504x128, .i32⟩
  | .local _ .vmem, ⟨18, _⟩ => ⟨S1536x128, .f32⟩
  | .local _ .vmem, ⟨19, _⟩ => ⟨S49280x128, .i32⟩
  | .local _ .smem, ⟨0, _⟩ => ⟨S6144, .i32⟩
  | .local _ .smem, ⟨1, _⟩ => ⟨S6144, .i32⟩
  | .local _ .smem, ⟨2, _⟩ => ⟨S6160, .i32⟩
  | _, _ => ⟨S2x2560x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch1 : Ref sig .tc := ⟨.vmem, 17, rfl⟩
abbrev cc1_scratch2 : Ref sig .tc := ⟨.vmem, 18, rfl⟩
abbrev cc1_scratch3 : Ref sig .tc := ⟨.vmem, 19, rfl⟩
abbrev cc1_stg0_0 : Ref sig .tc := ⟨.smem, 0, rfl⟩
abbrev cc1_stg1_0 : Ref sig .tc := ⟨.smem, 1, rfl⟩
abbrev cc1_scratch0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18

abbrev nD : Nat := 1
abbrev τ : Topo := Topo.v7x

variable {F : FTy → Type} [BitOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![25, 10], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k1_t1_loop : Scf.Loop 32 :=
  let c0_i32_8 : BitVec 32 := 0#32
  let c6144_i32 : BitVec 32 := 6144#32
  let v15 : BitVec 32 := Scalar.addi c0_i32_8 c6144_i32
  let c1_i32_9 : BitVec 32 := 1#32
  ⟨c0_i32_8, v15, c1_i32_9⟩
def k1_off1 (k1_t1 : Fin k1_t1_loop.trips) : Fin 1 → Nat :=
  let c0_i32_8 : BitVec 32 := 0#32
  let c1_i32_9 : BitVec 32 := 1#32
  let arg12 : BitVec 32 := Scf.iv c0_i32_8 c1_i32_9 k1_t1
  let v17 : Index := Scalar.indexCast arg12
  ![v17.toNat]
def k1_off2 (v20 : BitVec 32) : Fin 1 → Nat :=
  let v21 : Index := Scalar.indexCast v20
  ![v21.toNat]

def k1_chk1 (i : grid1.Coords) (v20 : BitVec 32) : Prop :=
  (∀ (k1_h1 : k1_cond1 i = 1#1), ∀ a, (k1_off2 v20) a + S1.size a ≤ S6160.size a)
theorem k1_off2_inb : ∀ (i : grid1.Coords) (v20 : BitVec 32) (k1_hw1 : k1_chk1 i v20), ∀ (k1_h1 : k1_cond1 i = 1#1), ∀ a, (k1_off2 v20) a + S1.size a ≤ S6160.size a := fun i v20 k1_hw1 k1_h1 => k1_hw1 k1_h1

@[reducible] def k1_t2_loop : Scf.Loop 32 :=
  let c0_i32_11 : BitVec 32 := 0#32
  let c16_i32 : BitVec 32 := 16#32
  let v16 : BitVec 32 := Scalar.addi c0_i32_11 c16_i32
  let c1_i32_12 : BitVec 32 := 1#32
  ⟨c0_i32_11, v16, c1_i32_12⟩
def k1_off3 (k1_t2 : Fin k1_t2_loop.trips) : Fin 1 → Nat :=
  let c6144_i32_14 : BitVec 32 := 6144#32
  let c0_i32_11 : BitVec 32 := 0#32
  let c1_i32_12 : BitVec 32 := 1#32
  let arg12 : BitVec 32 := Scf.iv c0_i32_11 c1_i32_12 k1_t2
  let v18 : BitVec 32 := Scalar.addi c6144_i32_14 arg12
  let v19 : Index := Scalar.indexCast v18
  ![v19.toNat]
def k1_cond2 (i : grid1.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

@[reducible] def k1_t3_loop : Scf.Loop 32 :=
  let c0_i32_8 : BitVec 32 := 0#32
  let c101_i32 : BitVec 32 := 101#32
  let v15 : BitVec 32 := Scalar.addi c0_i32_8 c101_i32
  let c1_i32_9 : BitVec 32 := 1#32
  ⟨c0_i32_8, v15, c1_i32_9⟩
def k1_mult1 (k1_t3 : Fin k1_t3_loop.trips) : BitVec 32 :=
  let c0_i32_8 : BitVec 32 := 0#32
  let c1_i32_9 : BitVec 32 := 1#32
  let arg12 : BitVec 32 := Scf.iv c0_i32_8 c1_i32_9 k1_t3
  let c8_i32 : BitVec 32 := 8#32
  let v57 : BitVec 32 := Scalar.muli arg12 c8_i32
  v57
def k1_off4 (k1_t3 : Fin k1_t3_loop.trips) : Fin 2 → Nat :=
  let c0_i32_8 : BitVec 32 := 0#32
  let c1_i32_9 : BitVec 32 := 1#32
  let arg12 : BitVec 32 := Scf.iv c0_i32_8 c1_i32_9 k1_t3
  let c8_i32 : BitVec 32 := 8#32
  let v57 : BitVec 32 := Scalar.muli arg12 c8_i32
  let v58 : BitVec 32 := v57
  let v59 : Index := Scalar.indexCast v58
  let c0_29 : Index := 0#32
  ![v59.toNat, 0]
def k1_off5 (k1_t3 : Fin k1_t3_loop.trips) (c0_i32_32 : BitVec 32) : Fin 2 → Nat :=
  let c0_i32_8 : BitVec 32 := 0#32
  let c1_i32_9 : BitVec 32 := 1#32
  let arg12 : BitVec 32 := Scf.iv c0_i32_8 c1_i32_9 k1_t3
  let c8_i32_30 : BitVec 32 := 8#32
  let v62 : BitVec 32 := Scalar.muli arg12 c8_i32_30
  let c8_i32_31 : BitVec 32 := 8#32
  let v63 : BitVec 32 := Scalar.muli v62 c8_i32_31
  let v64 : BitVec 32 := Scalar.addi v63 c0_i32_32
  let v65 : Index := Scalar.indexCast v64
  let c0_33 : Index := 0#32
  ![v65.toNat, 0]
def k1_mult2 (k1_t3 : Fin k1_t3_loop.trips) : BitVec 32 :=
  let c0_i32_8 : BitVec 32 := 0#32
  let c1_i32_9 : BitVec 32 := 1#32
  let arg12 : BitVec 32 := Scf.iv c0_i32_8 c1_i32_9 k1_t3
  let c8_i32_34 : BitVec 32 := 8#32
  let v69 : BitVec 32 := Scalar.muli arg12 c8_i32_34
  v69
def k1_off6 (k1_t3 : Fin k1_t3_loop.trips) : Fin 2 → Nat :=
  let c0_i32_8 : BitVec 32 := 0#32
  let c1_i32_9 : BitVec 32 := 1#32
  let arg12 : BitVec 32 := Scf.iv c0_i32_8 c1_i32_9 k1_t3
  let c8_i32_34 : BitVec 32 := 8#32
  let v69 : BitVec 32 := Scalar.muli arg12 c8_i32_34
  let v70 : BitVec 32 := v69
  let v71 : Index := Scalar.indexCast v70
  let c128_35 : Index := 128#32
  ![v71.toNat, 128]
def k1_mult3 (k1_t3 : Fin k1_t3_loop.trips) : BitVec 32 :=
  let c0_i32_8 : BitVec 32 := 0#32
  let c1_i32_9 : BitVec 32 := 1#32
  let arg12 : BitVec 32 := Scf.iv c0_i32_8 c1_i32_9 k1_t3
  let c8_i32_40 : BitVec 32 := 8#32
  let v81 : BitVec 32 := Scalar.muli arg12 c8_i32_40
  v81
def k1_off7 (k1_t3 : Fin k1_t3_loop.trips) : Fin 2 → Nat :=
  let c0_i32_8 : BitVec 32 := 0#32
  let c1_i32_9 : BitVec 32 := 1#32
  let arg12 : BitVec 32 := Scf.iv c0_i32_8 c1_i32_9 k1_t3
  let c8_i32_40 : BitVec 32 := 8#32
  let v81 : BitVec 32 := Scalar.muli arg12 c8_i32_40
  let v82 : BitVec 32 := v81
  let v83 : Index := Scalar.indexCast v82
  let c256_41 : Index := 256#32
  ![v83.toNat, 256]
def k1_mult4 (k1_t3 : Fin k1_t3_loop.trips) : BitVec 32 :=
  let c0_i32_8 : BitVec 32 := 0#32
  let c1_i32_9 : BitVec 32 := 1#32
  let arg12 : BitVec 32 := Scf.iv c0_i32_8 c1_i32_9 k1_t3
  let c8_i32_45 : BitVec 32 := 8#32
  let v93 : BitVec 32 := Scalar.muli arg12 c8_i32_45
  v93
def k1_off8 (k1_t3 : Fin k1_t3_loop.trips) : Fin 2 → Nat :=
  let c0_i32_8 : BitVec 32 := 0#32
  let c1_i32_9 : BitVec 32 := 1#32
  let arg12 : BitVec 32 := Scf.iv c0_i32_8 c1_i32_9 k1_t3
  let c8_i32_45 : BitVec 32 := 8#32
  let v93 : BitVec 32 := Scalar.muli arg12 c8_i32_45
  let v94 : BitVec 32 := v93
  let v95 : Index := Scalar.indexCast v94
  let c384_46 : Index := 384#32
  ![v95.toNat, 384]
def k1_mult5 (k1_t3 : Fin k1_t3_loop.trips) : BitVec 32 :=
  let c0_i32_8 : BitVec 32 := 0#32
  let c1_i32_9 : BitVec 32 := 1#32
  let arg12 : BitVec 32 := Scf.iv c0_i32_8 c1_i32_9 k1_t3
  let c8_i32_50 : BitVec 32 := 8#32
  let v105 : BitVec 32 := Scalar.muli arg12 c8_i32_50
  v105
def k1_off9 (k1_t3 : Fin k1_t3_loop.trips) : Fin 2 → Nat :=
  let c0_i32_8 : BitVec 32 := 0#32
  let c1_i32_9 : BitVec 32 := 1#32
  let arg12 : BitVec 32 := Scf.iv c0_i32_8 c1_i32_9 k1_t3
  let c8_i32_50 : BitVec 32 := 8#32
  let v105 : BitVec 32 := Scalar.muli arg12 c8_i32_50
  let v106 : BitVec 32 := v105
  let v107 : Index := Scalar.indexCast v106
  let c512_51 : Index := 512#32
  ![v107.toNat, 512]
def k1_mult6 (k1_t3 : Fin k1_t3_loop.trips) : BitVec 32 :=
  let c0_i32_8 : BitVec 32 := 0#32
  let c1_i32_9 : BitVec 32 := 1#32
  let arg12 : BitVec 32 := Scf.iv c0_i32_8 c1_i32_9 k1_t3
  let c8_i32_55 : BitVec 32 := 8#32
  let v117 : BitVec 32 := Scalar.muli arg12 c8_i32_55
  v117
def k1_off10 (k1_t3 : Fin k1_t3_loop.trips) : Fin 2 → Nat :=
  let c0_i32_8 : BitVec 32 := 0#32
  let c1_i32_9 : BitVec 32 := 1#32
  let arg12 : BitVec 32 := Scf.iv c0_i32_8 c1_i32_9 k1_t3
  let c8_i32_55 : BitVec 32 := 8#32
  let v117 : BitVec 32 := Scalar.muli arg12 c8_i32_55
  let v118 : BitVec 32 := v117
  let v119 : Index := Scalar.indexCast v118
  let c640_56 : Index := 640#32
  ![v119.toNat, 640]
def k1_mult7 (k1_t3 : Fin k1_t3_loop.trips) : BitVec 32 :=
  let c0_i32_8 : BitVec 32 := 0#32
  let c1_i32_9 : BitVec 32 := 1#32
  let arg12 : BitVec 32 := Scf.iv c0_i32_8 c1_i32_9 k1_t3
  let c8_i32_60 : BitVec 32 := 8#32
  let v129 : BitVec 32 := Scalar.muli arg12 c8_i32_60
  v129
def k1_off11 (k1_t3 : Fin k1_t3_loop.trips) : Fin 2 → Nat :=
  let c0_i32_8 : BitVec 32 := 0#32
  let c1_i32_9 : BitVec 32 := 1#32
  let arg12 : BitVec 32 := Scf.iv c0_i32_8 c1_i32_9 k1_t3
  let c8_i32_60 : BitVec 32 := 8#32
  let v129 : BitVec 32 := Scalar.muli arg12 c8_i32_60
  let v130 : BitVec 32 := v129
  let v131 : Index := Scalar.indexCast v130
  let c768_61 : Index := 768#32
  ![v131.toNat, 768]
def k1_mult8 (k1_t3 : Fin k1_t3_loop.trips) : BitVec 32 :=
  let c0_i32_8 : BitVec 32 := 0#32
  let c1_i32_9 : BitVec 32 := 1#32
  let arg12 : BitVec 32 := Scf.iv c0_i32_8 c1_i32_9 k1_t3
  let c8_i32_65 : BitVec 32 := 8#32
  let v141 : BitVec 32 := Scalar.muli arg12 c8_i32_65
  v141
def k1_off12 (k1_t3 : Fin k1_t3_loop.trips) : Fin 2 → Nat :=
  let c0_i32_8 : BitVec 32 := 0#32
  let c1_i32_9 : BitVec 32 := 1#32
  let arg12 : BitVec 32 := Scf.iv c0_i32_8 c1_i32_9 k1_t3
  let c8_i32_65 : BitVec 32 := 8#32
  let v141 : BitVec 32 := Scalar.muli arg12 c8_i32_65
  let v142 : BitVec 32 := v141
  let v143 : Index := Scalar.indexCast v142
  let c896_66 : Index := 896#32
  ![v143.toNat, 896]
@[reducible] def k1_t4_loop : Scf.Loop 32 :=
  let c0_i32_26 : BitVec 32 := 0#32
  let c12_i32 : BitVec 32 := 12#32
  let v56 : BitVec 32 := Scalar.addi c0_i32_26 c12_i32
  let c1_i32_27 : BitVec 32 := 1#32
  ⟨c0_i32_26, v56, c1_i32_27⟩
def k1_mult9 (k1_t4 : Fin k1_t4_loop.trips) : BitVec 32 :=
  let c0_i32_26 : BitVec 32 := 0#32
  let c1_i32_27 : BitVec 32 := 1#32
  let arg12 : BitVec 32 := Scf.iv c0_i32_26 c1_i32_27 k1_t4
  let c16_i32 : BitVec 32 := 16#32
  let v57 : BitVec 32 := Scalar.muli arg12 c16_i32
  v57
def k1_off13 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c16_i32 : BitVec 32 := 16#32
  let v57 : BitVec 32 := Scalar.muli arg12 c16_i32
  let v58 : BitVec 32 := v57
  let v59 : Index := Scalar.indexCast v58
  let c0_29 : Index := 0#32
  ![v59.toNat, 0]
def k1_off14 (k1_t4 : Fin k1_t4_loop.trips) (c0_i32_31 : BitVec 32) : Fin 2 → Nat :=
  let c0_i32_26 : BitVec 32 := 0#32
  let c1_i32_27 : BitVec 32 := 1#32
  let arg12 : BitVec 32 := Scf.iv c0_i32_26 c1_i32_27 k1_t4
  let c16_i32_30 : BitVec 32 := 16#32
  let v62 : BitVec 32 := Scalar.muli arg12 c16_i32_30
  let c8_i32 : BitVec 32 := 8#32
  let v63 : BitVec 32 := Scalar.muli v62 c8_i32
  let v64 : BitVec 32 := Scalar.addi v63 c0_i32_31
  let v65 : Index := Scalar.indexCast v64
  let c0_32 : Index := 0#32
  ![v65.toNat, 0]
def k1_mult10 (k1_t4 : Fin k1_t4_loop.trips) : BitVec 32 :=
  let c0_i32_26 : BitVec 32 := 0#32
  let c1_i32_27 : BitVec 32 := 1#32
  let arg12 : BitVec 32 := Scf.iv c0_i32_26 c1_i32_27 k1_t4
  let c16_i32_33 : BitVec 32 := 16#32
  let v69 : BitVec 32 := Scalar.muli arg12 c16_i32_33
  v69
def k1_off15 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c16_i32_33 : BitVec 32 := 16#32
  let v69 : BitVec 32 := Scalar.muli arg12 c16_i32_33
  let v70 : BitVec 32 := v69
  let v71 : Index := Scalar.indexCast v70
  let c128_34 : Index := 128#32
  ![v71.toNat, 128]
def k1_mult11 (k1_t4 : Fin k1_t4_loop.trips) : BitVec 32 :=
  let c0_i32_26 : BitVec 32 := 0#32
  let c1_i32_27 : BitVec 32 := 1#32
  let arg12 : BitVec 32 := Scf.iv c0_i32_26 c1_i32_27 k1_t4
  let c16_i32_39 : BitVec 32 := 16#32
  let v81 : BitVec 32 := Scalar.muli arg12 c16_i32_39
  v81
def k1_off16 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c16_i32_39 : BitVec 32 := 16#32
  let v81 : BitVec 32 := Scalar.muli arg12 c16_i32_39
  let v82 : BitVec 32 := v81
  let v83 : Index := Scalar.indexCast v82
  let c256_40 : Index := 256#32
  ![v83.toNat, 256]
def k1_mult12 (k1_t4 : Fin k1_t4_loop.trips) : BitVec 32 :=
  let c0_i32_26 : BitVec 32 := 0#32
  let c1_i32_27 : BitVec 32 := 1#32
  let arg12 : BitVec 32 := Scf.iv c0_i32_26 c1_i32_27 k1_t4
  let c16_i32_44 : BitVec 32 := 16#32
  let v93 : BitVec 32 := Scalar.muli arg12 c16_i32_44
  v93
def k1_off17 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c16_i32_44 : BitVec 32 := 16#32
  let v93 : BitVec 32 := Scalar.muli arg12 c16_i32_44
  let v94 : BitVec 32 := v93
  let v95 : Index := Scalar.indexCast v94
  let c384_45 : Index := 384#32
  ![v95.toNat, 384]
def k1_mult13 (k1_t4 : Fin k1_t4_loop.trips) : BitVec 32 :=
  let c0_i32_26 : BitVec 32 := 0#32
  let c1_i32_27 : BitVec 32 := 1#32
  let arg12 : BitVec 32 := Scf.iv c0_i32_26 c1_i32_27 k1_t4
  let c16_i32_49 : BitVec 32 := 16#32
  let v105 : BitVec 32 := Scalar.muli arg12 c16_i32_49
  v105
def k1_off18 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c16_i32_49 : BitVec 32 := 16#32
  let v105 : BitVec 32 := Scalar.muli arg12 c16_i32_49
  let v106 : BitVec 32 := v105
  let v107 : Index := Scalar.indexCast v106
  let c512_50 : Index := 512#32
  ![v107.toNat, 512]
def k1_mult14 (k1_t4 : Fin k1_t4_loop.trips) : BitVec 32 :=
  let c0_i32_26 : BitVec 32 := 0#32
  let c1_i32_27 : BitVec 32 := 1#32
  let arg12 : BitVec 32 := Scf.iv c0_i32_26 c1_i32_27 k1_t4
  let c16_i32_54 : BitVec 32 := 16#32
  let v117 : BitVec 32 := Scalar.muli arg12 c16_i32_54
  v117
def k1_off19 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c16_i32_54 : BitVec 32 := 16#32
  let v117 : BitVec 32 := Scalar.muli arg12 c16_i32_54
  let v118 : BitVec 32 := v117
  let v119 : Index := Scalar.indexCast v118
  let c640_55 : Index := 640#32
  ![v119.toNat, 640]
def k1_mult15 (k1_t4 : Fin k1_t4_loop.trips) : BitVec 32 :=
  let c0_i32_26 : BitVec 32 := 0#32
  let c1_i32_27 : BitVec 32 := 1#32
  let arg12 : BitVec 32 := Scf.iv c0_i32_26 c1_i32_27 k1_t4
  let c16_i32_59 : BitVec 32 := 16#32
  let v129 : BitVec 32 := Scalar.muli arg12 c16_i32_59
  v129
def k1_off20 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c16_i32_59 : BitVec 32 := 16#32
  let v129 : BitVec 32 := Scalar.muli arg12 c16_i32_59
  let v130 : BitVec 32 := v129
  let v131 : Index := Scalar.indexCast v130
  let c768_60 : Index := 768#32
  ![v131.toNat, 768]
def k1_mult16 (k1_t4 : Fin k1_t4_loop.trips) : BitVec 32 :=
  let c0_i32_26 : BitVec 32 := 0#32
  let c1_i32_27 : BitVec 32 := 1#32
  let arg12 : BitVec 32 := Scf.iv c0_i32_26 c1_i32_27 k1_t4
  let c16_i32_64 : BitVec 32 := 16#32
  let v141 : BitVec 32 := Scalar.muli arg12 c16_i32_64
  v141
def k1_off21 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c16_i32_64 : BitVec 32 := 16#32
  let v141 : BitVec 32 := Scalar.muli arg12 c16_i32_64
  let v142 : BitVec 32 := v141
  let v143 : Index := Scalar.indexCast v142
  let c896_65 : Index := 896#32
  ![v143.toNat, 896]
def k1_cond3 (i : grid1.Coords) : BitVec 1 :=
  let arg0 : BitVec 32 := BitVec.ofNat 32 (i 0).val
  let c0_i32_4 : BitVec 32 := 0#32
  let v9 : BitVec 1 := Scalar.cmpi .eq arg0 c0_i32_4
  let v10 : BitVec 32 := Scalar.extui v9
  let c0_i32_5 : BitVec 32 := 0#32
  let v11 : BitVec 1 := Scalar.cmpi .ne v10 c0_i32_5
  v11

@[reducible] def k1_t5_loop : Scf.Loop 32 :=
  let c0_i32_8 : BitVec 32 := 0#32
  let c308_i32 : BitVec 32 := 308#32
  let v15 : BitVec 32 := Scalar.addi c0_i32_8 c308_i32
  let c1_i32_9 : BitVec 32 := 1#32
  ⟨c0_i32_8, v15, c1_i32_9⟩
def k1_off22 (i : grid1.Coords) (k1_t5 : Fin k1_t5_loop.trips) : Fin 1 → Nat :=
  let c2_i32 : BitVec 32 := 2#32
  let arg1 : BitVec 32 := BitVec.ofNat 32 (i 1).val
  let c308_i32_11 : BitVec 32 := 308#32
  let v16 : BitVec 32 := Scalar.muli arg1 c308_i32_11
  let c0_i32_8 : BitVec 32 := 0#32
  let c1_i32_9 : BitVec 32 := 1#32
  let arg12 : BitVec 32 := Scf.iv c0_i32_8 c1_i32_9 k1_t5
  let v17 : BitVec 32 := Scalar.addi v16 arg12
  let v18 : BitVec 32 := Scalar.muli c2_i32 v17
  let v19 : Index := Scalar.indexCast v18
  ![v19.toNat]
def k1_off23 (v20 : BitVec 32) : Fin 2 → Nat :=
  let c1023_i32 : BitVec 32 := 1023#32
  let v21 : BitVec 32 := Scalar.andi v20 c1023_i32
  let c8_i32 : BitVec 32 := 8#32
  let v30 : BitVec 32 := Scalar.muli v21 c8_i32
  let v31 : Index := Scalar.indexCast v30
  let c0 : Index := 0#32
  ![v31.toNat, 0]

def k1_off24 (v20 : BitVec 32) : Fin 2 → Nat :=
  let c1023_i32 : BitVec 32 := 1023#32
  let v21 : BitVec 32 := Scalar.andi v20 c1023_i32
  let c27_i32 : BitVec 32 := 27#32
  let v28 : BitVec 32 := Scalar.shrsi v20 c27_i32
  let c1_i32_13 : BitVec 32 := 1#32
  let v29 : BitVec 32 := Scalar.andi v28 c1_i32_13
  let v33 : BitVec 32 := Scalar.addi v21 v29
  let c8_i32_14 : BitVec 32 := 8#32
  let v34 : BitVec 32 := Scalar.muli v33 c8_i32_14
  let v35 : Index := Scalar.indexCast v34
  let c0_15 : Index := 0#32
  ![v35.toNat, 0]
def k1_off25 (v20 : BitVec 32) : Fin 2 → Nat :=
  let c19_i32 : BitVec 32 := 19#32
  let v26 : BitVec 32 := Scalar.shrsi v20 c19_i32
  let c255_i32 : BitVec 32 := 255#32
  let v27 : BitVec 32 := Scalar.andi v26 c255_i32
  let c8_i32_22 : BitVec 32 := 8#32
  let v54 : BitVec 32 := Scalar.muli v27 c8_i32_22
  let v55 : Index := Scalar.indexCast v54
  let c0_23 : Index := 0#32
  ![v55.toNat, 0]

def k1_chk2 (i : grid1.Coords) (v20 : BitVec 32) : Prop :=
  (∀ (k1_h3 : k1_cond3 i = 1#1), ∀ a, (k1_off23 v20) a + S8x128.size a ≤ S6504x128.size a) ∧
  (∀ (k1_h3 : k1_cond3 i = 1#1), ∀ a, (k1_off24 v20) a + S8x128.size a ≤ S6504x128.size a) ∧
  (∀ (k1_h3 : k1_cond3 i = 1#1), ∀ a, (k1_off25 v20) a + S8x128.size a ≤ S1536x128.size a)
theorem k1_off23_inb : ∀ (i : grid1.Coords) (v20 : BitVec 32) (k1_hw2 : k1_chk2 i v20), ∀ (k1_h3 : k1_cond3 i = 1#1), ∀ a, (k1_off23 v20) a + S8x128.size a ≤ S6504x128.size a := fun i v20 k1_hw2 k1_h3 => k1_hw2.1 k1_h3
theorem k1_off24_inb : ∀ (i : grid1.Coords) (v20 : BitVec 32) (k1_hw2 : k1_chk2 i v20), ∀ (k1_h3 : k1_cond3 i = 1#1), ∀ a, (k1_off24 v20) a + S8x128.size a ≤ S6504x128.size a := fun i v20 k1_hw2 k1_h3 => k1_hw2.2.1 k1_h3
theorem k1_off25_inb : ∀ (i : grid1.Coords) (v20 : BitVec 32) (k1_hw2 : k1_chk2 i v20), ∀ (k1_h3 : k1_cond3 i = 1#1), ∀ a, (k1_off25 v20) a + S8x128.size a ≤ S1536x128.size a := fun i v20 k1_hw2 k1_h3 => k1_hw2.2.2 k1_h3

def k1_off26 (i : grid1.Coords) (k1_t5 : Fin k1_t5_loop.trips) : Fin 1 → Nat :=
  let c2_i32_24 : BitVec 32 := 2#32
  let arg1 : BitVec 32 := BitVec.ofNat 32 (i 1).val
  let c308_i32_11 : BitVec 32 := 308#32
  let v16 : BitVec 32 := Scalar.muli arg1 c308_i32_11
  let c0_i32_8 : BitVec 32 := 0#32
  let c1_i32_9 : BitVec 32 := 1#32
  let arg12 : BitVec 32 := Scf.iv c0_i32_8 c1_i32_9 k1_t5
  let v17 : BitVec 32 := Scalar.addi v16 arg12
  let v58 : BitVec 32 := Scalar.muli c2_i32_24 v17
  let c1_i32_25 : BitVec 32 := 1#32
  let v59 : BitVec 32 := Scalar.addi v58 c1_i32_25
  let v60 : Index := Scalar.indexCast v59
  ![v60.toNat]
def k1_off27 (v61 : BitVec 32) : Fin 2 → Nat :=
  let c1023_i32_26 : BitVec 32 := 1023#32
  let v62 : BitVec 32 := Scalar.andi v61 c1023_i32_26
  let c8_i32_35 : BitVec 32 := 8#32
  let v71 : BitVec 32 := Scalar.muli v62 c8_i32_35
  let v72 : Index := Scalar.indexCast v71
  let c0_36 : Index := 0#32
  ![v72.toNat, 0]

def k1_off28 (v61 : BitVec 32) : Fin 2 → Nat :=
  let c1023_i32_26 : BitVec 32 := 1023#32
  let v62 : BitVec 32 := Scalar.andi v61 c1023_i32_26
  let c27_i32_33 : BitVec 32 := 27#32
  let v69 : BitVec 32 := Scalar.shrsi v61 c27_i32_33
  let c1_i32_34 : BitVec 32 := 1#32
  let v70 : BitVec 32 := Scalar.andi v69 c1_i32_34
  let v74 : BitVec 32 := Scalar.addi v62 v70
  let c8_i32_37 : BitVec 32 := 8#32
  let v75 : BitVec 32 := Scalar.muli v74 c8_i32_37
  let v76 : Index := Scalar.indexCast v75
  let c0_38 : Index := 0#32
  ![v76.toNat, 0]
def k1_off29 (v61 : BitVec 32) : Fin 2 → Nat :=
  let c19_i32_31 : BitVec 32 := 19#32
  let v67 : BitVec 32 := Scalar.shrsi v61 c19_i32_31
  let c255_i32_32 : BitVec 32 := 255#32
  let v68 : BitVec 32 := Scalar.andi v67 c255_i32_32
  let c8_i32_45 : BitVec 32 := 8#32
  let v95 : BitVec 32 := Scalar.muli v68 c8_i32_45
  let v96 : Index := Scalar.indexCast v95
  let c0_46 : Index := 0#32
  ![v96.toNat, 0]

def k1_chk3 (i : grid1.Coords) (v61 : BitVec 32) : Prop :=
  (∀ (k1_h3 : k1_cond3 i = 1#1), ∀ a, (k1_off27 v61) a + S8x128.size a ≤ S6504x128.size a) ∧
  (∀ (k1_h3 : k1_cond3 i = 1#1), ∀ a, (k1_off28 v61) a + S8x128.size a ≤ S6504x128.size a) ∧
  (∀ (k1_h3 : k1_cond3 i = 1#1), ∀ a, (k1_off29 v61) a + S8x128.size a ≤ S1536x128.size a)
theorem k1_off27_inb : ∀ (i : grid1.Coords) (v61 : BitVec 32) (k1_hw3 : k1_chk3 i v61), ∀ (k1_h3 : k1_cond3 i = 1#1), ∀ a, (k1_off27 v61) a + S8x128.size a ≤ S6504x128.size a := fun i v61 k1_hw3 k1_h3 => k1_hw3.1 k1_h3
theorem k1_off28_inb : ∀ (i : grid1.Coords) (v61 : BitVec 32) (k1_hw3 : k1_chk3 i v61), ∀ (k1_h3 : k1_cond3 i = 1#1), ∀ a, (k1_off28 v61) a + S8x128.size a ≤ S6504x128.size a := fun i v61 k1_hw3 k1_h3 => k1_hw3.2.1 k1_h3
theorem k1_off29_inb : ∀ (i : grid1.Coords) (v61 : BitVec 32) (k1_hw3 : k1_chk3 i v61), ∀ (k1_h3 : k1_cond3 i = 1#1), ∀ a, (k1_off29 v61) a + S8x128.size a ≤ S1536x128.size a := fun i v61 k1_hw3 k1_h3 => k1_hw3.2.2 k1_h3

def k1_off30 (i : grid1.Coords) (k1_t5 : Fin k1_t5_loop.trips) : Fin 2 → Nat :=
  let arg0 : BitVec 32 := BitVec.ofNat 32 (i 0).val
  let c1_i32 : BitVec 32 := 1#32
  let v8 : BitVec 32 := Scalar.andi arg0 c1_i32
  let c24640_i32 : BitVec 32 := 24640#32
  let v100 : BitVec 32 := Scalar.muli v8 c24640_i32
  let arg1 : BitVec 32 := BitVec.ofNat 32 (i 1).val
  let c308_i32_11 : BitVec 32 := 308#32
  let v16 : BitVec 32 := Scalar.muli arg1 c308_i32_11
  let c0_i32_8 : BitVec 32 := 0#32
  let c1_i32_9 : BitVec 32 := 1#32
  let arg12 : BitVec 32 := Scf.iv c0_i32_8 c1_i32_9 k1_t5
  let v17 : BitVec 32 := Scalar.addi v16 arg12
  let v101 : BitVec 32 := Scalar.addi v100 v17
  let v102 : Index := Scalar.indexCast v101
  let c0_47 : Index := 0#32
  ![v102.toNat, 0]
def k1_cond4 (i : grid1.Coords) : BitVec 1 :=
  let arg0 : BitVec 32 := BitVec.ofNat 32 (i 0).val
  let c0_i32_6 : BitVec 32 := 0#32
  let v12 : BitVec 1 := Scalar.cmpi .sgt arg0 c0_i32_6
  let v13 : BitVec 32 := Scalar.extui v12
  let c0_i32_7 : BitVec 32 := 0#32
  let v14 : BitVec 1 := Scalar.cmpi .ne v13 c0_i32_7
  v14

@[reducible] def k1_t6_loop : Scf.Loop 32 :=
  let c0_i32_8 : BitVec 32 := 0#32
  let c77_i32 : BitVec 32 := 77#32
  let v15 : BitVec 32 := Scalar.addi c0_i32_8 c77_i32
  let c1_i32_9 : BitVec 32 := 1#32
  ⟨c0_i32_8, v15, c1_i32_9⟩
def k1_off31 (i : grid1.Coords) (k1_t6 : Fin k1_t6_loop.trips) : Fin 1 → Nat :=
  let c2_i32 : BitVec 32 := 2#32
  let arg1 : BitVec 32 := BitVec.ofNat 32 (i 1).val
  let c308_i32 : BitVec 32 := 308#32
  let v91 : BitVec 32 := Scalar.muli arg1 c308_i32
  let c0_i32_8 : BitVec 32 := 0#32
  let c1_i32_9 : BitVec 32 := 1#32
  let arg12 : BitVec 32 := Scf.iv c0_i32_8 c1_i32_9 k1_t6
  let v92 : BitVec 32 := Scalar.addi v91 arg12
  let v93 : BitVec 32 := Scalar.muli c2_i32 v92
  let v94 : Index := Scalar.indexCast v93
  ![v94.toNat]
def k1_off32 (v95 : BitVec 32) : Fin 2 → Nat :=
  let c1023_i32 : BitVec 32 := 1023#32
  let v96 : BitVec 32 := Scalar.andi v95 c1023_i32
  let c8_i32 : BitVec 32 := 8#32
  let v105 : BitVec 32 := Scalar.muli v96 c8_i32
  let v106 : Index := Scalar.indexCast v105
  let c0_54 : Index := 0#32
  ![v106.toNat, 0]

def k1_off33 (v95 : BitVec 32) : Fin 2 → Nat :=
  let c1023_i32 : BitVec 32 := 1023#32
  let v96 : BitVec 32 := Scalar.andi v95 c1023_i32
  let c27_i32 : BitVec 32 := 27#32
  let v103 : BitVec 32 := Scalar.shrsi v95 c27_i32
  let c1_i32_53 : BitVec 32 := 1#32
  let v104 : BitVec 32 := Scalar.andi v103 c1_i32_53
  let v108 : BitVec 32 := Scalar.addi v96 v104
  let c8_i32_55 : BitVec 32 := 8#32
  let v109 : BitVec 32 := Scalar.muli v108 c8_i32_55
  let v110 : Index := Scalar.indexCast v109
  let c0_56 : Index := 0#32
  ![v110.toNat, 0]
def k1_off34 (v95 : BitVec 32) : Fin 2 → Nat :=
  let c19_i32 : BitVec 32 := 19#32
  let v101 : BitVec 32 := Scalar.shrsi v95 c19_i32
  let c255_i32 : BitVec 32 := 255#32
  let v102 : BitVec 32 := Scalar.andi v101 c255_i32
  let c8_i32_63 : BitVec 32 := 8#32
  let v129 : BitVec 32 := Scalar.muli v102 c8_i32_63
  let v130 : Index := Scalar.indexCast v129
  let c0_64 : Index := 0#32
  ![v130.toNat, 0]

def k1_chk4 (i : grid1.Coords) (v95 : BitVec 32) : Prop :=
  (∀ (k1_h4 : k1_cond4 i = 1#1), ∀ a, (k1_off32 v95) a + S8x128.size a ≤ S6504x128.size a) ∧
  (∀ (k1_h4 : k1_cond4 i = 1#1), ∀ a, (k1_off33 v95) a + S8x128.size a ≤ S6504x128.size a) ∧
  (∀ (k1_h4 : k1_cond4 i = 1#1), ∀ a, (k1_off34 v95) a + S8x128.size a ≤ S1536x128.size a)
theorem k1_off32_inb : ∀ (i : grid1.Coords) (v95 : BitVec 32) (k1_hw4 : k1_chk4 i v95), ∀ (k1_h4 : k1_cond4 i = 1#1), ∀ a, (k1_off32 v95) a + S8x128.size a ≤ S6504x128.size a := fun i v95 k1_hw4 k1_h4 => k1_hw4.1 k1_h4
theorem k1_off33_inb : ∀ (i : grid1.Coords) (v95 : BitVec 32) (k1_hw4 : k1_chk4 i v95), ∀ (k1_h4 : k1_cond4 i = 1#1), ∀ a, (k1_off33 v95) a + S8x128.size a ≤ S6504x128.size a := fun i v95 k1_hw4 k1_h4 => k1_hw4.2.1 k1_h4
theorem k1_off34_inb : ∀ (i : grid1.Coords) (v95 : BitVec 32) (k1_hw4 : k1_chk4 i v95), ∀ (k1_h4 : k1_cond4 i = 1#1), ∀ a, (k1_off34 v95) a + S8x128.size a ≤ S1536x128.size a := fun i v95 k1_hw4 k1_h4 => k1_hw4.2.2 k1_h4

def k1_off35 (i : grid1.Coords) (k1_t6 : Fin k1_t6_loop.trips) : Fin 1 → Nat :=
  let c2_i32_65 : BitVec 32 := 2#32
  let arg1 : BitVec 32 := BitVec.ofNat 32 (i 1).val
  let c308_i32 : BitVec 32 := 308#32
  let v91 : BitVec 32 := Scalar.muli arg1 c308_i32
  let c0_i32_8 : BitVec 32 := 0#32
  let c1_i32_9 : BitVec 32 := 1#32
  let arg12 : BitVec 32 := Scf.iv c0_i32_8 c1_i32_9 k1_t6
  let v92 : BitVec 32 := Scalar.addi v91 arg12
  let v133 : BitVec 32 := Scalar.muli c2_i32_65 v92
  let c1_i32_66 : BitVec 32 := 1#32
  let v134 : BitVec 32 := Scalar.addi v133 c1_i32_66
  let v135 : Index := Scalar.indexCast v134
  ![v135.toNat]
def k1_off36 (v136 : BitVec 32) : Fin 2 → Nat :=
  let c1023_i32_67 : BitVec 32 := 1023#32
  let v137 : BitVec 32 := Scalar.andi v136 c1023_i32_67
  let c8_i32_76 : BitVec 32 := 8#32
  let v146 : BitVec 32 := Scalar.muli v137 c8_i32_76
  let v147 : Index := Scalar.indexCast v146
  let c0_77 : Index := 0#32
  ![v147.toNat, 0]

def k1_off37 (v136 : BitVec 32) : Fin 2 → Nat :=
  let c1023_i32_67 : BitVec 32 := 1023#32
  let v137 : BitVec 32 := Scalar.andi v136 c1023_i32_67
  let c27_i32_74 : BitVec 32 := 27#32
  let v144 : BitVec 32 := Scalar.shrsi v136 c27_i32_74
  let c1_i32_75 : BitVec 32 := 1#32
  let v145 : BitVec 32 := Scalar.andi v144 c1_i32_75
  let v149 : BitVec 32 := Scalar.addi v137 v145
  let c8_i32_78 : BitVec 32 := 8#32
  let v150 : BitVec 32 := Scalar.muli v149 c8_i32_78
  let v151 : Index := Scalar.indexCast v150
  let c0_79 : Index := 0#32
  ![v151.toNat, 0]
def k1_off38 (v136 : BitVec 32) : Fin 2 → Nat :=
  let c19_i32_72 : BitVec 32 := 19#32
  let v142 : BitVec 32 := Scalar.shrsi v136 c19_i32_72
  let c255_i32_73 : BitVec 32 := 255#32
  let v143 : BitVec 32 := Scalar.andi v142 c255_i32_73
  let c8_i32_86 : BitVec 32 := 8#32
  let v170 : BitVec 32 := Scalar.muli v143 c8_i32_86
  let v171 : Index := Scalar.indexCast v170
  let c0_87 : Index := 0#32
  ![v171.toNat, 0]

def k1_chk5 (i : grid1.Coords) (v136 : BitVec 32) : Prop :=
  (∀ (k1_h4 : k1_cond4 i = 1#1), ∀ a, (k1_off36 v136) a + S8x128.size a ≤ S6504x128.size a) ∧
  (∀ (k1_h4 : k1_cond4 i = 1#1), ∀ a, (k1_off37 v136) a + S8x128.size a ≤ S6504x128.size a) ∧
  (∀ (k1_h4 : k1_cond4 i = 1#1), ∀ a, (k1_off38 v136) a + S8x128.size a ≤ S1536x128.size a)
theorem k1_off36_inb : ∀ (i : grid1.Coords) (v136 : BitVec 32) (k1_hw5 : k1_chk5 i v136), ∀ (k1_h4 : k1_cond4 i = 1#1), ∀ a, (k1_off36 v136) a + S8x128.size a ≤ S6504x128.size a := fun i v136 k1_hw5 k1_h4 => k1_hw5.1 k1_h4
theorem k1_off37_inb : ∀ (i : grid1.Coords) (v136 : BitVec 32) (k1_hw5 : k1_chk5 i v136), ∀ (k1_h4 : k1_cond4 i = 1#1), ∀ a, (k1_off37 v136) a + S8x128.size a ≤ S6504x128.size a := fun i v136 k1_hw5 k1_h4 => k1_hw5.2.1 k1_h4
theorem k1_off38_inb : ∀ (i : grid1.Coords) (v136 : BitVec 32) (k1_hw5 : k1_chk5 i v136), ∀ (k1_h4 : k1_cond4 i = 1#1), ∀ a, (k1_off38 v136) a + S8x128.size a ≤ S1536x128.size a := fun i v136 k1_hw5 k1_h4 => k1_hw5.2.2 k1_h4

def k1_off39 (i : grid1.Coords) (k1_t6 : Fin k1_t6_loop.trips) : Fin 2 → Nat :=
  let arg0 : BitVec 32 := BitVec.ofNat 32 (i 0).val
  let c1_i32 : BitVec 32 := 1#32
  let v8 : BitVec 32 := Scalar.andi arg0 c1_i32
  let c24640_i32_88 : BitVec 32 := 24640#32
  let v175 : BitVec 32 := Scalar.muli v8 c24640_i32_88
  let arg1 : BitVec 32 := BitVec.ofNat 32 (i 1).val
  let c308_i32 : BitVec 32 := 308#32
  let v91 : BitVec 32 := Scalar.muli arg1 c308_i32
  let c0_i32_8 : BitVec 32 := 0#32
  let c1_i32_9 : BitVec 32 := 1#32
  let arg12 : BitVec 32 := Scf.iv c0_i32_8 c1_i32_9 k1_t6
  let v92 : BitVec 32 := Scalar.addi v91 arg12
  let v176 : BitVec 32 := Scalar.addi v175 v92
  let v177 : Index := Scalar.indexCast v176
  let c0_89 : Index := 0#32
  ![v177.toNat, 0]
def k1_mult17 (i : grid1.Coords) : BitVec 32 :=
  let c1_i32_11 : BitVec 32 := 1#32
  let arg0 : BitVec 32 := BitVec.ofNat 32 (i 0).val
  let c1_i32 : BitVec 32 := 1#32
  let v8 : BitVec 32 := Scalar.andi arg0 c1_i32
  let v16 : BitVec 32 := Scalar.subi c1_i32_11 v8
  let c24640_i32 : BitVec 32 := 24640#32
  let v17 : BitVec 32 := Scalar.muli v16 c24640_i32
  let c0_i32_12 : BitVec 32 := 0#32
  let v18 : BitVec 32 := Scalar.addi v17 c0_i32_12
  v18
def k1_off40 (i : grid1.Coords) (c0_i32_12 : BitVec 32) : Fin 2 → Nat :=
  let c1_i32_11 : BitVec 32 := 1#32
  let arg0 : BitVec 32 := BitVec.ofNat 32 (i 0).val
  let c1_i32 : BitVec 32 := 1#32
  let v8 : BitVec 32 := Scalar.andi arg0 c1_i32
  let v16 : BitVec 32 := Scalar.subi c1_i32_11 v8
  let c24640_i32 : BitVec 32 := 24640#32
  let v17 : BitVec 32 := Scalar.muli v16 c24640_i32
  let v18 : BitVec 32 := Scalar.addi v17 c0_i32_12
  let v19 : BitVec 32 := v18
  let v20 : Index := Scalar.indexCast v19
  let c0 : Index := 0#32
  ![v20.toNat, 0]
def k1_mult18 (i : grid1.Coords) : BitVec 32 :=
  let c1_i32_11 : BitVec 32 := 1#32
  let arg0 : BitVec 32 := BitVec.ofNat 32 (i 0).val
  let c1_i32 : BitVec 32 := 1#32
  let v8 : BitVec 32 := Scalar.andi arg0 c1_i32
  let v16 : BitVec 32 := Scalar.subi c1_i32_11 v8
  let c24640_i32 : BitVec 32 := 24640#32
  let v17 : BitVec 32 := Scalar.muli v16 c24640_i32
  let c3080_i32 : BitVec 32 := 3080#32
  let v23 : BitVec 32 := Scalar.addi v17 c3080_i32
  v23
@[reducible] def k1_t7_loop : Scf.Loop 32 :=
  let c77_i32_18 : BitVec 32 := 77#32
  let c77_i32_19 : BitVec 32 := 77#32
  let v34 : BitVec 32 := Scalar.addi c77_i32_18 c77_i32_19
  let c1_i32_20 : BitVec 32 := 1#32
  ⟨c77_i32_18, v34, c1_i32_20⟩
def k1_off41 (i : grid1.Coords) (k1_t7 : Fin k1_t7_loop.trips) : Fin 1 → Nat :=
  let c2_i32 : BitVec 32 := 2#32
  let arg1 : BitVec 32 := BitVec.ofNat 32 (i 1).val
  let c308_i32 : BitVec 32 := 308#32
  let v91 : BitVec 32 := Scalar.muli arg1 c308_i32
  let c77_i32_18 : BitVec 32 := 77#32
  let c1_i32_20 : BitVec 32 := 1#32
  let arg12 : BitVec 32 := Scf.iv c77_i32_18 c1_i32_20 k1_t7
  let v92 : BitVec 32 := Scalar.addi v91 arg12
  let v93 : BitVec 32 := Scalar.muli c2_i32 v92
  let v94 : Index := Scalar.indexCast v93
  ![v94.toNat]
def k1_off42 (v95 : BitVec 32) : Fin 2 → Nat :=
  let c1023_i32 : BitVec 32 := 1023#32
  let v96 : BitVec 32 := Scalar.andi v95 c1023_i32
  let c8_i32 : BitVec 32 := 8#32
  let v105 : BitVec 32 := Scalar.muli v96 c8_i32
  let v106 : Index := Scalar.indexCast v105
  let c0_54 : Index := 0#32
  ![v106.toNat, 0]

def k1_off43 (v95 : BitVec 32) : Fin 2 → Nat :=
  let c1023_i32 : BitVec 32 := 1023#32
  let v96 : BitVec 32 := Scalar.andi v95 c1023_i32
  let c27_i32 : BitVec 32 := 27#32
  let v103 : BitVec 32 := Scalar.shrsi v95 c27_i32
  let c1_i32_53 : BitVec 32 := 1#32
  let v104 : BitVec 32 := Scalar.andi v103 c1_i32_53
  let v108 : BitVec 32 := Scalar.addi v96 v104
  let c8_i32_55 : BitVec 32 := 8#32
  let v109 : BitVec 32 := Scalar.muli v108 c8_i32_55
  let v110 : Index := Scalar.indexCast v109
  let c0_56 : Index := 0#32
  ![v110.toNat, 0]
def k1_off44 (v95 : BitVec 32) : Fin 2 → Nat :=
  let c19_i32 : BitVec 32 := 19#32
  let v101 : BitVec 32 := Scalar.shrsi v95 c19_i32
  let c255_i32 : BitVec 32 := 255#32
  let v102 : BitVec 32 := Scalar.andi v101 c255_i32
  let c8_i32_63 : BitVec 32 := 8#32
  let v129 : BitVec 32 := Scalar.muli v102 c8_i32_63
  let v130 : Index := Scalar.indexCast v129
  let c0_64 : Index := 0#32
  ![v130.toNat, 0]

def k1_chk6 (i : grid1.Coords) (v95 : BitVec 32) : Prop :=
  (∀ (k1_h4 : k1_cond4 i = 1#1), ∀ a, (k1_off42 v95) a + S8x128.size a ≤ S6504x128.size a) ∧
  (∀ (k1_h4 : k1_cond4 i = 1#1), ∀ a, (k1_off43 v95) a + S8x128.size a ≤ S6504x128.size a) ∧
  (∀ (k1_h4 : k1_cond4 i = 1#1), ∀ a, (k1_off44 v95) a + S8x128.size a ≤ S1536x128.size a)
theorem k1_off42_inb : ∀ (i : grid1.Coords) (v95 : BitVec 32) (k1_hw6 : k1_chk6 i v95), ∀ (k1_h4 : k1_cond4 i = 1#1), ∀ a, (k1_off42 v95) a + S8x128.size a ≤ S6504x128.size a := fun i v95 k1_hw6 k1_h4 => k1_hw6.1 k1_h4
theorem k1_off43_inb : ∀ (i : grid1.Coords) (v95 : BitVec 32) (k1_hw6 : k1_chk6 i v95), ∀ (k1_h4 : k1_cond4 i = 1#1), ∀ a, (k1_off43 v95) a + S8x128.size a ≤ S6504x128.size a := fun i v95 k1_hw6 k1_h4 => k1_hw6.2.1 k1_h4
theorem k1_off44_inb : ∀ (i : grid1.Coords) (v95 : BitVec 32) (k1_hw6 : k1_chk6 i v95), ∀ (k1_h4 : k1_cond4 i = 1#1), ∀ a, (k1_off44 v95) a + S8x128.size a ≤ S1536x128.size a := fun i v95 k1_hw6 k1_h4 => k1_hw6.2.2 k1_h4

def k1_off45 (i : grid1.Coords) (k1_t7 : Fin k1_t7_loop.trips) : Fin 1 → Nat :=
  let c2_i32_65 : BitVec 32 := 2#32
  let arg1 : BitVec 32 := BitVec.ofNat 32 (i 1).val
  let c308_i32 : BitVec 32 := 308#32
  let v91 : BitVec 32 := Scalar.muli arg1 c308_i32
  let c77_i32_18 : BitVec 32 := 77#32
  let c1_i32_20 : BitVec 32 := 1#32
  let arg12 : BitVec 32 := Scf.iv c77_i32_18 c1_i32_20 k1_t7
  let v92 : BitVec 32 := Scalar.addi v91 arg12
  let v133 : BitVec 32 := Scalar.muli c2_i32_65 v92
  let c1_i32_66 : BitVec 32 := 1#32
  let v134 : BitVec 32 := Scalar.addi v133 c1_i32_66
  let v135 : Index := Scalar.indexCast v134
  ![v135.toNat]
def k1_off46 (v136 : BitVec 32) : Fin 2 → Nat :=
  let c1023_i32_67 : BitVec 32 := 1023#32
  let v137 : BitVec 32 := Scalar.andi v136 c1023_i32_67
  let c8_i32_76 : BitVec 32 := 8#32
  let v146 : BitVec 32 := Scalar.muli v137 c8_i32_76
  let v147 : Index := Scalar.indexCast v146
  let c0_77 : Index := 0#32
  ![v147.toNat, 0]

def k1_off47 (v136 : BitVec 32) : Fin 2 → Nat :=
  let c1023_i32_67 : BitVec 32 := 1023#32
  let v137 : BitVec 32 := Scalar.andi v136 c1023_i32_67
  let c27_i32_74 : BitVec 32 := 27#32
  let v144 : BitVec 32 := Scalar.shrsi v136 c27_i32_74
  let c1_i32_75 : BitVec 32 := 1#32
  let v145 : BitVec 32 := Scalar.andi v144 c1_i32_75
  let v149 : BitVec 32 := Scalar.addi v137 v145
  let c8_i32_78 : BitVec 32 := 8#32
  let v150 : BitVec 32 := Scalar.muli v149 c8_i32_78
  let v151 : Index := Scalar.indexCast v150
  let c0_79 : Index := 0#32
  ![v151.toNat, 0]
def k1_off48 (v136 : BitVec 32) : Fin 2 → Nat :=
  let c19_i32_72 : BitVec 32 := 19#32
  let v142 : BitVec 32 := Scalar.shrsi v136 c19_i32_72
  let c255_i32_73 : BitVec 32 := 255#32
  let v143 : BitVec 32 := Scalar.andi v142 c255_i32_73
  let c8_i32_86 : BitVec 32 := 8#32
  let v170 : BitVec 32 := Scalar.muli v143 c8_i32_86
  let v171 : Index := Scalar.indexCast v170
  let c0_87 : Index := 0#32
  ![v171.toNat, 0]

def k1_chk7 (i : grid1.Coords) (v136 : BitVec 32) : Prop :=
  (∀ (k1_h4 : k1_cond4 i = 1#1), ∀ a, (k1_off46 v136) a + S8x128.size a ≤ S6504x128.size a) ∧
  (∀ (k1_h4 : k1_cond4 i = 1#1), ∀ a, (k1_off47 v136) a + S8x128.size a ≤ S6504x128.size a) ∧
  (∀ (k1_h4 : k1_cond4 i = 1#1), ∀ a, (k1_off48 v136) a + S8x128.size a ≤ S1536x128.size a)
theorem k1_off46_inb : ∀ (i : grid1.Coords) (v136 : BitVec 32) (k1_hw7 : k1_chk7 i v136), ∀ (k1_h4 : k1_cond4 i = 1#1), ∀ a, (k1_off46 v136) a + S8x128.size a ≤ S6504x128.size a := fun i v136 k1_hw7 k1_h4 => k1_hw7.1 k1_h4
theorem k1_off47_inb : ∀ (i : grid1.Coords) (v136 : BitVec 32) (k1_hw7 : k1_chk7 i v136), ∀ (k1_h4 : k1_cond4 i = 1#1), ∀ a, (k1_off47 v136) a + S8x128.size a ≤ S6504x128.size a := fun i v136 k1_hw7 k1_h4 => k1_hw7.2.1 k1_h4
theorem k1_off48_inb : ∀ (i : grid1.Coords) (v136 : BitVec 32) (k1_hw7 : k1_chk7 i v136), ∀ (k1_h4 : k1_cond4 i = 1#1), ∀ a, (k1_off48 v136) a + S8x128.size a ≤ S1536x128.size a := fun i v136 k1_hw7 k1_h4 => k1_hw7.2.2 k1_h4

def k1_off49 (i : grid1.Coords) (k1_t7 : Fin k1_t7_loop.trips) : Fin 2 → Nat :=
  let arg0 : BitVec 32 := BitVec.ofNat 32 (i 0).val
  let c1_i32 : BitVec 32 := 1#32
  let v8 : BitVec 32 := Scalar.andi arg0 c1_i32
  let c24640_i32_88 : BitVec 32 := 24640#32
  let v175 : BitVec 32 := Scalar.muli v8 c24640_i32_88
  let arg1 : BitVec 32 := BitVec.ofNat 32 (i 1).val
  let c308_i32 : BitVec 32 := 308#32
  let v91 : BitVec 32 := Scalar.muli arg1 c308_i32
  let c77_i32_18 : BitVec 32 := 77#32
  let c1_i32_20 : BitVec 32 := 1#32
  let arg12 : BitVec 32 := Scf.iv c77_i32_18 c1_i32_20 k1_t7
  let v92 : BitVec 32 := Scalar.addi v91 arg12
  let v176 : BitVec 32 := Scalar.addi v175 v92
  let v177 : Index := Scalar.indexCast v176
  let c0_89 : Index := 0#32
  ![v177.toNat, 0]
def k1_mult19 (i : grid1.Coords) : BitVec 32 :=
  let c1_i32_22 : BitVec 32 := 1#32
  let arg0 : BitVec 32 := BitVec.ofNat 32 (i 0).val
  let c1_i32 : BitVec 32 := 1#32
  let v8 : BitVec 32 := Scalar.andi arg0 c1_i32
  let v35 : BitVec 32 := Scalar.subi c1_i32_22 v8
  let c24640_i32_23 : BitVec 32 := 24640#32
  let v36 : BitVec 32 := Scalar.muli v35 c24640_i32_23
  let c6160_i32 : BitVec 32 := 6160#32
  let v37 : BitVec 32 := Scalar.addi v36 c6160_i32
  v37
def k1_mult20 (i : grid1.Coords) : BitVec 32 :=
  let c1_i32_22 : BitVec 32 := 1#32
  let arg0 : BitVec 32 := BitVec.ofNat 32 (i 0).val
  let c1_i32 : BitVec 32 := 1#32
  let v8 : BitVec 32 := Scalar.andi arg0 c1_i32
  let v35 : BitVec 32 := Scalar.subi c1_i32_22 v8
  let c24640_i32_23 : BitVec 32 := 24640#32
  let v36 : BitVec 32 := Scalar.muli v35 c24640_i32_23
  let c9240_i32 : BitVec 32 := 9240#32
  let v42 : BitVec 32 := Scalar.addi v36 c9240_i32
  v42
@[reducible] def k1_t8_loop : Scf.Loop 32 :=
  let c154_i32 : BitVec 32 := 154#32
  let c77_i32_30 : BitVec 32 := 77#32
  let v53 : BitVec 32 := Scalar.addi c154_i32 c77_i32_30
  let c1_i32_31 : BitVec 32 := 1#32
  ⟨c154_i32, v53, c1_i32_31⟩
def k1_off50 (i : grid1.Coords) (k1_t8 : Fin k1_t8_loop.trips) : Fin 1 → Nat :=
  let c2_i32 : BitVec 32 := 2#32
  let arg1 : BitVec 32 := BitVec.ofNat 32 (i 1).val
  let c308_i32 : BitVec 32 := 308#32
  let v91 : BitVec 32 := Scalar.muli arg1 c308_i32
  let c154_i32 : BitVec 32 := 154#32
  let c1_i32_31 : BitVec 32 := 1#32
  let arg12 : BitVec 32 := Scf.iv c154_i32 c1_i32_31 k1_t8
  let v92 : BitVec 32 := Scalar.addi v91 arg12
  let v93 : BitVec 32 := Scalar.muli c2_i32 v92
  let v94 : Index := Scalar.indexCast v93
  ![v94.toNat]
def k1_off51 (v95 : BitVec 32) : Fin 2 → Nat :=
  let c1023_i32 : BitVec 32 := 1023#32
  let v96 : BitVec 32 := Scalar.andi v95 c1023_i32
  let c8_i32 : BitVec 32 := 8#32
  let v105 : BitVec 32 := Scalar.muli v96 c8_i32
  let v106 : Index := Scalar.indexCast v105
  let c0_54 : Index := 0#32
  ![v106.toNat, 0]

def k1_off52 (v95 : BitVec 32) : Fin 2 → Nat :=
  let c1023_i32 : BitVec 32 := 1023#32
  let v96 : BitVec 32 := Scalar.andi v95 c1023_i32
  let c27_i32 : BitVec 32 := 27#32
  let v103 : BitVec 32 := Scalar.shrsi v95 c27_i32
  let c1_i32_53 : BitVec 32 := 1#32
  let v104 : BitVec 32 := Scalar.andi v103 c1_i32_53
  let v108 : BitVec 32 := Scalar.addi v96 v104
  let c8_i32_55 : BitVec 32 := 8#32
  let v109 : BitVec 32 := Scalar.muli v108 c8_i32_55
  let v110 : Index := Scalar.indexCast v109
  let c0_56 : Index := 0#32
  ![v110.toNat, 0]
def k1_off53 (v95 : BitVec 32) : Fin 2 → Nat :=
  let c19_i32 : BitVec 32 := 19#32
  let v101 : BitVec 32 := Scalar.shrsi v95 c19_i32
  let c255_i32 : BitVec 32 := 255#32
  let v102 : BitVec 32 := Scalar.andi v101 c255_i32
  let c8_i32_63 : BitVec 32 := 8#32
  let v129 : BitVec 32 := Scalar.muli v102 c8_i32_63
  let v130 : Index := Scalar.indexCast v129
  let c0_64 : Index := 0#32
  ![v130.toNat, 0]

def k1_chk8 (i : grid1.Coords) (v95 : BitVec 32) : Prop :=
  (∀ (k1_h4 : k1_cond4 i = 1#1), ∀ a, (k1_off51 v95) a + S8x128.size a ≤ S6504x128.size a) ∧
  (∀ (k1_h4 : k1_cond4 i = 1#1), ∀ a, (k1_off52 v95) a + S8x128.size a ≤ S6504x128.size a) ∧
  (∀ (k1_h4 : k1_cond4 i = 1#1), ∀ a, (k1_off53 v95) a + S8x128.size a ≤ S1536x128.size a)
theorem k1_off51_inb : ∀ (i : grid1.Coords) (v95 : BitVec 32) (k1_hw8 : k1_chk8 i v95), ∀ (k1_h4 : k1_cond4 i = 1#1), ∀ a, (k1_off51 v95) a + S8x128.size a ≤ S6504x128.size a := fun i v95 k1_hw8 k1_h4 => k1_hw8.1 k1_h4
theorem k1_off52_inb : ∀ (i : grid1.Coords) (v95 : BitVec 32) (k1_hw8 : k1_chk8 i v95), ∀ (k1_h4 : k1_cond4 i = 1#1), ∀ a, (k1_off52 v95) a + S8x128.size a ≤ S6504x128.size a := fun i v95 k1_hw8 k1_h4 => k1_hw8.2.1 k1_h4
theorem k1_off53_inb : ∀ (i : grid1.Coords) (v95 : BitVec 32) (k1_hw8 : k1_chk8 i v95), ∀ (k1_h4 : k1_cond4 i = 1#1), ∀ a, (k1_off53 v95) a + S8x128.size a ≤ S1536x128.size a := fun i v95 k1_hw8 k1_h4 => k1_hw8.2.2 k1_h4

def k1_off54 (i : grid1.Coords) (k1_t8 : Fin k1_t8_loop.trips) : Fin 1 → Nat :=
  let c2_i32_65 : BitVec 32 := 2#32
  let arg1 : BitVec 32 := BitVec.ofNat 32 (i 1).val
  let c308_i32 : BitVec 32 := 308#32
  let v91 : BitVec 32 := Scalar.muli arg1 c308_i32
  let c154_i32 : BitVec 32 := 154#32
  let c1_i32_31 : BitVec 32 := 1#32
  let arg12 : BitVec 32 := Scf.iv c154_i32 c1_i32_31 k1_t8
  let v92 : BitVec 32 := Scalar.addi v91 arg12
  let v133 : BitVec 32 := Scalar.muli c2_i32_65 v92
  let c1_i32_66 : BitVec 32 := 1#32
  let v134 : BitVec 32 := Scalar.addi v133 c1_i32_66
  let v135 : Index := Scalar.indexCast v134
  ![v135.toNat]
def k1_off55 (v136 : BitVec 32) : Fin 2 → Nat :=
  let c1023_i32_67 : BitVec 32 := 1023#32
  let v137 : BitVec 32 := Scalar.andi v136 c1023_i32_67
  let c8_i32_76 : BitVec 32 := 8#32
  let v146 : BitVec 32 := Scalar.muli v137 c8_i32_76
  let v147 : Index := Scalar.indexCast v146
  let c0_77 : Index := 0#32
  ![v147.toNat, 0]

def k1_off56 (v136 : BitVec 32) : Fin 2 → Nat :=
  let c1023_i32_67 : BitVec 32 := 1023#32
  let v137 : BitVec 32 := Scalar.andi v136 c1023_i32_67
  let c27_i32_74 : BitVec 32 := 27#32
  let v144 : BitVec 32 := Scalar.shrsi v136 c27_i32_74
  let c1_i32_75 : BitVec 32 := 1#32
  let v145 : BitVec 32 := Scalar.andi v144 c1_i32_75
  let v149 : BitVec 32 := Scalar.addi v137 v145
  let c8_i32_78 : BitVec 32 := 8#32
  let v150 : BitVec 32 := Scalar.muli v149 c8_i32_78
  let v151 : Index := Scalar.indexCast v150
  let c0_79 : Index := 0#32
  ![v151.toNat, 0]
def k1_off57 (v136 : BitVec 32) : Fin 2 → Nat :=
  let c19_i32_72 : BitVec 32 := 19#32
  let v142 : BitVec 32 := Scalar.shrsi v136 c19_i32_72
  let c255_i32_73 : BitVec 32 := 255#32
  let v143 : BitVec 32 := Scalar.andi v142 c255_i32_73
  let c8_i32_86 : BitVec 32 := 8#32
  let v170 : BitVec 32 := Scalar.muli v143 c8_i32_86
  let v171 : Index := Scalar.indexCast v170
  let c0_87 : Index := 0#32
  ![v171.toNat, 0]

def k1_chk9 (i : grid1.Coords) (v136 : BitVec 32) : Prop :=
  (∀ (k1_h4 : k1_cond4 i = 1#1), ∀ a, (k1_off55 v136) a + S8x128.size a ≤ S6504x128.size a) ∧
  (∀ (k1_h4 : k1_cond4 i = 1#1), ∀ a, (k1_off56 v136) a + S8x128.size a ≤ S6504x128.size a) ∧
  (∀ (k1_h4 : k1_cond4 i = 1#1), ∀ a, (k1_off57 v136) a + S8x128.size a ≤ S1536x128.size a)
theorem k1_off55_inb : ∀ (i : grid1.Coords) (v136 : BitVec 32) (k1_hw9 : k1_chk9 i v136), ∀ (k1_h4 : k1_cond4 i = 1#1), ∀ a, (k1_off55 v136) a + S8x128.size a ≤ S6504x128.size a := fun i v136 k1_hw9 k1_h4 => k1_hw9.1 k1_h4
theorem k1_off56_inb : ∀ (i : grid1.Coords) (v136 : BitVec 32) (k1_hw9 : k1_chk9 i v136), ∀ (k1_h4 : k1_cond4 i = 1#1), ∀ a, (k1_off56 v136) a + S8x128.size a ≤ S6504x128.size a := fun i v136 k1_hw9 k1_h4 => k1_hw9.2.1 k1_h4
theorem k1_off57_inb : ∀ (i : grid1.Coords) (v136 : BitVec 32) (k1_hw9 : k1_chk9 i v136), ∀ (k1_h4 : k1_cond4 i = 1#1), ∀ a, (k1_off57 v136) a + S8x128.size a ≤ S1536x128.size a := fun i v136 k1_hw9 k1_h4 => k1_hw9.2.2 k1_h4

def k1_off58 (i : grid1.Coords) (k1_t8 : Fin k1_t8_loop.trips) : Fin 2 → Nat :=
  let arg0 : BitVec 32 := BitVec.ofNat 32 (i 0).val
  let c1_i32 : BitVec 32 := 1#32
  let v8 : BitVec 32 := Scalar.andi arg0 c1_i32
  let c24640_i32_88 : BitVec 32 := 24640#32
  let v175 : BitVec 32 := Scalar.muli v8 c24640_i32_88
  let arg1 : BitVec 32 := BitVec.ofNat 32 (i 1).val
  let c308_i32 : BitVec 32 := 308#32
  let v91 : BitVec 32 := Scalar.muli arg1 c308_i32
  let c154_i32 : BitVec 32 := 154#32
  let c1_i32_31 : BitVec 32 := 1#32
  let arg12 : BitVec 32 := Scf.iv c154_i32 c1_i32_31 k1_t8
  let v92 : BitVec 32 := Scalar.addi v91 arg12
  let v176 : BitVec 32 := Scalar.addi v175 v92
  let v177 : Index := Scalar.indexCast v176
  let c0_89 : Index := 0#32
  ![v177.toNat, 0]
def k1_mult21 (i : grid1.Coords) : BitVec 32 :=
  let c1_i32_33 : BitVec 32 := 1#32
  let arg0 : BitVec 32 := BitVec.ofNat 32 (i 0).val
  let c1_i32 : BitVec 32 := 1#32
  let v8 : BitVec 32 := Scalar.andi arg0 c1_i32
  let v54 : BitVec 32 := Scalar.subi c1_i32_33 v8
  let c24640_i32_34 : BitVec 32 := 24640#32
  let v55 : BitVec 32 := Scalar.muli v54 c24640_i32_34
  let c12320_i32 : BitVec 32 := 12320#32
  let v56 : BitVec 32 := Scalar.addi v55 c12320_i32
  v56
def k1_mult22 (i : grid1.Coords) : BitVec 32 :=
  let c1_i32_33 : BitVec 32 := 1#32
  let arg0 : BitVec 32 := BitVec.ofNat 32 (i 0).val
  let c1_i32 : BitVec 32 := 1#32
  let v8 : BitVec 32 := Scalar.andi arg0 c1_i32
  let v54 : BitVec 32 := Scalar.subi c1_i32_33 v8
  let c24640_i32_34 : BitVec 32 := 24640#32
  let v55 : BitVec 32 := Scalar.muli v54 c24640_i32_34
  let c15400_i32 : BitVec 32 := 15400#32
  let v61 : BitVec 32 := Scalar.addi v55 c15400_i32
  v61
@[reducible] def k1_t9_loop : Scf.Loop 32 :=
  let c231_i32 : BitVec 32 := 231#32
  let c77_i32_41 : BitVec 32 := 77#32
  let v72 : BitVec 32 := Scalar.addi c231_i32 c77_i32_41
  let c1_i32_42 : BitVec 32 := 1#32
  ⟨c231_i32, v72, c1_i32_42⟩
def k1_off59 (i : grid1.Coords) (k1_t9 : Fin k1_t9_loop.trips) : Fin 1 → Nat :=
  let c2_i32 : BitVec 32 := 2#32
  let arg1 : BitVec 32 := BitVec.ofNat 32 (i 1).val
  let c308_i32 : BitVec 32 := 308#32
  let v91 : BitVec 32 := Scalar.muli arg1 c308_i32
  let c231_i32 : BitVec 32 := 231#32
  let c1_i32_42 : BitVec 32 := 1#32
  let arg12 : BitVec 32 := Scf.iv c231_i32 c1_i32_42 k1_t9
  let v92 : BitVec 32 := Scalar.addi v91 arg12
  let v93 : BitVec 32 := Scalar.muli c2_i32 v92
  let v94 : Index := Scalar.indexCast v93
  ![v94.toNat]
def k1_off60 (v95 : BitVec 32) : Fin 2 → Nat :=
  let c1023_i32 : BitVec 32 := 1023#32
  let v96 : BitVec 32 := Scalar.andi v95 c1023_i32
  let c8_i32 : BitVec 32 := 8#32
  let v105 : BitVec 32 := Scalar.muli v96 c8_i32
  let v106 : Index := Scalar.indexCast v105
  let c0_54 : Index := 0#32
  ![v106.toNat, 0]

def k1_off61 (v95 : BitVec 32) : Fin 2 → Nat :=
  let c1023_i32 : BitVec 32 := 1023#32
  let v96 : BitVec 32 := Scalar.andi v95 c1023_i32
  let c27_i32 : BitVec 32 := 27#32
  let v103 : BitVec 32 := Scalar.shrsi v95 c27_i32
  let c1_i32_53 : BitVec 32 := 1#32
  let v104 : BitVec 32 := Scalar.andi v103 c1_i32_53
  let v108 : BitVec 32 := Scalar.addi v96 v104
  let c8_i32_55 : BitVec 32 := 8#32
  let v109 : BitVec 32 := Scalar.muli v108 c8_i32_55
  let v110 : Index := Scalar.indexCast v109
  let c0_56 : Index := 0#32
  ![v110.toNat, 0]
def k1_off62 (v95 : BitVec 32) : Fin 2 → Nat :=
  let c19_i32 : BitVec 32 := 19#32
  let v101 : BitVec 32 := Scalar.shrsi v95 c19_i32
  let c255_i32 : BitVec 32 := 255#32
  let v102 : BitVec 32 := Scalar.andi v101 c255_i32
  let c8_i32_63 : BitVec 32 := 8#32
  let v129 : BitVec 32 := Scalar.muli v102 c8_i32_63
  let v130 : Index := Scalar.indexCast v129
  let c0_64 : Index := 0#32
  ![v130.toNat, 0]

def k1_chk10 (i : grid1.Coords) (v95 : BitVec 32) : Prop :=
  (∀ (k1_h4 : k1_cond4 i = 1#1), ∀ a, (k1_off60 v95) a + S8x128.size a ≤ S6504x128.size a) ∧
  (∀ (k1_h4 : k1_cond4 i = 1#1), ∀ a, (k1_off61 v95) a + S8x128.size a ≤ S6504x128.size a) ∧
  (∀ (k1_h4 : k1_cond4 i = 1#1), ∀ a, (k1_off62 v95) a + S8x128.size a ≤ S1536x128.size a)
theorem k1_off60_inb : ∀ (i : grid1.Coords) (v95 : BitVec 32) (k1_hw10 : k1_chk10 i v95), ∀ (k1_h4 : k1_cond4 i = 1#1), ∀ a, (k1_off60 v95) a + S8x128.size a ≤ S6504x128.size a := fun i v95 k1_hw10 k1_h4 => k1_hw10.1 k1_h4
theorem k1_off61_inb : ∀ (i : grid1.Coords) (v95 : BitVec 32) (k1_hw10 : k1_chk10 i v95), ∀ (k1_h4 : k1_cond4 i = 1#1), ∀ a, (k1_off61 v95) a + S8x128.size a ≤ S6504x128.size a := fun i v95 k1_hw10 k1_h4 => k1_hw10.2.1 k1_h4
theorem k1_off62_inb : ∀ (i : grid1.Coords) (v95 : BitVec 32) (k1_hw10 : k1_chk10 i v95), ∀ (k1_h4 : k1_cond4 i = 1#1), ∀ a, (k1_off62 v95) a + S8x128.size a ≤ S1536x128.size a := fun i v95 k1_hw10 k1_h4 => k1_hw10.2.2 k1_h4

def k1_off63 (i : grid1.Coords) (k1_t9 : Fin k1_t9_loop.trips) : Fin 1 → Nat :=
  let c2_i32_65 : BitVec 32 := 2#32
  let arg1 : BitVec 32 := BitVec.ofNat 32 (i 1).val
  let c308_i32 : BitVec 32 := 308#32
  let v91 : BitVec 32 := Scalar.muli arg1 c308_i32
  let c231_i32 : BitVec 32 := 231#32
  let c1_i32_42 : BitVec 32 := 1#32
  let arg12 : BitVec 32 := Scf.iv c231_i32 c1_i32_42 k1_t9
  let v92 : BitVec 32 := Scalar.addi v91 arg12
  let v133 : BitVec 32 := Scalar.muli c2_i32_65 v92
  let c1_i32_66 : BitVec 32 := 1#32
  let v134 : BitVec 32 := Scalar.addi v133 c1_i32_66
  let v135 : Index := Scalar.indexCast v134
  ![v135.toNat]
def k1_off64 (v136 : BitVec 32) : Fin 2 → Nat :=
  let c1023_i32_67 : BitVec 32 := 1023#32
  let v137 : BitVec 32 := Scalar.andi v136 c1023_i32_67
  let c8_i32_76 : BitVec 32 := 8#32
  let v146 : BitVec 32 := Scalar.muli v137 c8_i32_76
  let v147 : Index := Scalar.indexCast v146
  let c0_77 : Index := 0#32
  ![v147.toNat, 0]

def k1_off65 (v136 : BitVec 32) : Fin 2 → Nat :=
  let c1023_i32_67 : BitVec 32 := 1023#32
  let v137 : BitVec 32 := Scalar.andi v136 c1023_i32_67
  let c27_i32_74 : BitVec 32 := 27#32
  let v144 : BitVec 32 := Scalar.shrsi v136 c27_i32_74
  let c1_i32_75 : BitVec 32 := 1#32
  let v145 : BitVec 32 := Scalar.andi v144 c1_i32_75
  let v149 : BitVec 32 := Scalar.addi v137 v145
  let c8_i32_78 : BitVec 32 := 8#32
  let v150 : BitVec 32 := Scalar.muli v149 c8_i32_78
  let v151 : Index := Scalar.indexCast v150
  let c0_79 : Index := 0#32
  ![v151.toNat, 0]
def k1_off66 (v136 : BitVec 32) : Fin 2 → Nat :=
  let c19_i32_72 : BitVec 32 := 19#32
  let v142 : BitVec 32 := Scalar.shrsi v136 c19_i32_72
  let c255_i32_73 : BitVec 32 := 255#32
  let v143 : BitVec 32 := Scalar.andi v142 c255_i32_73
  let c8_i32_86 : BitVec 32 := 8#32
  let v170 : BitVec 32 := Scalar.muli v143 c8_i32_86
  let v171 : Index := Scalar.indexCast v170
  let c0_87 : Index := 0#32
  ![v171.toNat, 0]

def k1_chk11 (i : grid1.Coords) (v136 : BitVec 32) : Prop :=
  (∀ (k1_h4 : k1_cond4 i = 1#1), ∀ a, (k1_off64 v136) a + S8x128.size a ≤ S6504x128.size a) ∧
  (∀ (k1_h4 : k1_cond4 i = 1#1), ∀ a, (k1_off65 v136) a + S8x128.size a ≤ S6504x128.size a) ∧
  (∀ (k1_h4 : k1_cond4 i = 1#1), ∀ a, (k1_off66 v136) a + S8x128.size a ≤ S1536x128.size a)
theorem k1_off64_inb : ∀ (i : grid1.Coords) (v136 : BitVec 32) (k1_hw11 : k1_chk11 i v136), ∀ (k1_h4 : k1_cond4 i = 1#1), ∀ a, (k1_off64 v136) a + S8x128.size a ≤ S6504x128.size a := fun i v136 k1_hw11 k1_h4 => k1_hw11.1 k1_h4
theorem k1_off65_inb : ∀ (i : grid1.Coords) (v136 : BitVec 32) (k1_hw11 : k1_chk11 i v136), ∀ (k1_h4 : k1_cond4 i = 1#1), ∀ a, (k1_off65 v136) a + S8x128.size a ≤ S6504x128.size a := fun i v136 k1_hw11 k1_h4 => k1_hw11.2.1 k1_h4
theorem k1_off66_inb : ∀ (i : grid1.Coords) (v136 : BitVec 32) (k1_hw11 : k1_chk11 i v136), ∀ (k1_h4 : k1_cond4 i = 1#1), ∀ a, (k1_off66 v136) a + S8x128.size a ≤ S1536x128.size a := fun i v136 k1_hw11 k1_h4 => k1_hw11.2.2 k1_h4

def k1_off67 (i : grid1.Coords) (k1_t9 : Fin k1_t9_loop.trips) : Fin 2 → Nat :=
  let arg0 : BitVec 32 := BitVec.ofNat 32 (i 0).val
  let c1_i32 : BitVec 32 := 1#32
  let v8 : BitVec 32 := Scalar.andi arg0 c1_i32
  let c24640_i32_88 : BitVec 32 := 24640#32
  let v175 : BitVec 32 := Scalar.muli v8 c24640_i32_88
  let arg1 : BitVec 32 := BitVec.ofNat 32 (i 1).val
  let c308_i32 : BitVec 32 := 308#32
  let v91 : BitVec 32 := Scalar.muli arg1 c308_i32
  let c231_i32 : BitVec 32 := 231#32
  let c1_i32_42 : BitVec 32 := 1#32
  let arg12 : BitVec 32 := Scf.iv c231_i32 c1_i32_42 k1_t9
  let v92 : BitVec 32 := Scalar.addi v91 arg12
  let v176 : BitVec 32 := Scalar.addi v175 v92
  let v177 : Index := Scalar.indexCast v176
  let c0_89 : Index := 0#32
  ![v177.toNat, 0]
def k1_mult23 (i : grid1.Coords) : BitVec 32 :=
  let c1_i32_44 : BitVec 32 := 1#32
  let arg0 : BitVec 32 := BitVec.ofNat 32 (i 0).val
  let c1_i32 : BitVec 32 := 1#32
  let v8 : BitVec 32 := Scalar.andi arg0 c1_i32
  let v73 : BitVec 32 := Scalar.subi c1_i32_44 v8
  let c24640_i32_45 : BitVec 32 := 24640#32
  let v74 : BitVec 32 := Scalar.muli v73 c24640_i32_45
  let c18480_i32 : BitVec 32 := 18480#32
  let v75 : BitVec 32 := Scalar.addi v74 c18480_i32
  v75
def k1_mult24 (i : grid1.Coords) : BitVec 32 :=
  let c1_i32_44 : BitVec 32 := 1#32
  let arg0 : BitVec 32 := BitVec.ofNat 32 (i 0).val
  let c1_i32 : BitVec 32 := 1#32
  let v8 : BitVec 32 := Scalar.andi arg0 c1_i32
  let v73 : BitVec 32 := Scalar.subi c1_i32_44 v8
  let c24640_i32_45 : BitVec 32 := 24640#32
  let v74 : BitVec 32 := Scalar.muli v73 c24640_i32_45
  let c21560_i32 : BitVec 32 := 21560#32
  let v80 : BitVec 32 := Scalar.addi v74 c21560_i32
  v80
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc1_transform_3 (i : grid1.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage1_0 : Fin 1 → Memref sig .tc .smem S6144 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .smem S6144 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x6144 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S813x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S192x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
abbrev S2x2560x6144 : Shape := ⟨3, ![2, 2560, 6144]⟩
abbrev S6144 : Shape := ⟨1, ![6144]⟩
abbrev S813x24576 : Shape := ⟨2, ![813, 24576]⟩
abbrev S192x24576 : Shape := ⟨2, ![192, 24576]⟩
abbrev S5120x6144 : Shape := ⟨2, ![5120, 6144]⟩
abbrev S1x6144 : Shape := ⟨2, ![1, 6144]⟩
abbrev S256x6144 : Shape := ⟨2, ![256, 6144]⟩
abbrev S256 : Shape := ⟨1, ![256]⟩
abbrev S256x1 : Shape := ⟨2, ![256, 1]⟩
abbrev S5120x24576 : Shape := ⟨2, ![5120, 24576]⟩
abbrev S512x6144 : Shape := ⟨2, ![512, 6144]⟩
abbrev S813x1024 : Shape := ⟨2, ![813, 1024]⟩
abbrev S192x1024 : Shape := ⟨2, ![192, 1024]⟩
abbrev S512x1024 : Shape := ⟨2, ![512, 1024]⟩
abbrev S6160 : Shape := ⟨1, ![6160]⟩
abbrev S6504x128 : Shape := ⟨2, ![6504, 128]⟩
abbrev S1536x128 : Shape := ⟨2, ![1536, 128]⟩
abbrev S49280x128 : Shape := ⟨2, ![49280, 128]⟩
abbrev S49280x2x128 : Shape := ⟨3, ![49280, 2, 128]⟩
abbrev S49280x1x128 : Shape := ⟨3, ![49280, 1, 128]⟩
abbrev S1 : Shape := ⟨1, ![1]⟩
abbrev S8x128 : Shape := ⟨2, ![8, 128]⟩
abbrev S5x128 : Shape := ⟨2, ![5, 128]⟩
abbrev S16x128 : Shape := ⟨2, ![16, 128]⟩
abbrev S8x2x128 : Shape := ⟨3, ![8, 2, 128]⟩
abbrev S8x1x128 : Shape := ⟨3, ![8, 1, 128]⟩
abbrev S3072x128 : Shape := ⟨2, ![3072, 128]⟩
abbrev S3072x2x128 : Shape := ⟨3, ![3072, 2, 128]⟩
abbrev S3072x1x128 : Shape := ⟨3, ![3072, 1, 128]⟩
abbrev S6144x128 : Shape := ⟨2, ![6144, 128]⟩
abbrev S6144x256 : Shape := ⟨2, ![6144, 256]⟩
abbrev S512x256 : Shape := ⟨2, ![512, 256]⟩
abbrev S2x2560x24576 : Shape := ⟨3, ![2, 2560, 24576]⟩

abbrev nBuf : Space → Nat
  | .hbm => 16
  | .vmem => 20
  | .smem => 3
  | _ => 0

abbrev bufTy : (tb : Table) → Fin (tcTables nBuf tb) → BufTy
  | .hbm, ⟨0, _⟩ => ⟨S2x2560x6144, .bf16⟩
  | .hbm, ⟨1, _⟩ => ⟨S2x2560x6144, .bf16⟩
  | .hbm, ⟨2, _⟩ => ⟨S6144, .f32⟩
  | .hbm, ⟨3, _⟩ => ⟨S6144, .i32⟩
  | .hbm, ⟨4, _⟩ => ⟨S813x24576, .i32⟩
  | .hbm, ⟨5, _⟩ => ⟨S192x24576, .bf16⟩
  | .hbm, ⟨6, _⟩ => ⟨S6144, .i32⟩
  | .hbm, ⟨7, _⟩ => ⟨S5120x6144, .bf16⟩
  | .hbm, ⟨8, _⟩ => ⟨S5120x6144, .bf16⟩
  | .hbm, ⟨9, _⟩ => ⟨S1x6144, .f32⟩
  | .hbm, ⟨10, _⟩ => ⟨S5120x6144, .bf16⟩
  | .hbm, ⟨11, _⟩ => ⟨S5120x6144, .bf16⟩
  | .hbm, ⟨12, _⟩ => ⟨S813x24576, .i32⟩
  | .hbm, ⟨13, _⟩ => ⟨S5120x24576, .bf16⟩
  | .hbm, ⟨14, _⟩ => ⟨S2x2560x24576, .bf16⟩
  | .hbm, ⟨15, _⟩ => ⟨S2x2560x6144, .bf16⟩
  | .local _ .vmem, ⟨0, _⟩ => ⟨S256x6144, .bf16⟩
  | .local _ .vmem, ⟨1, _⟩ => ⟨S256x6144, .bf16⟩
  | .local _ .vmem, ⟨2, _⟩ => ⟨S256x6144, .bf16⟩
  | .local _ .vmem, ⟨3, _⟩ => ⟨S256x6144, .bf16⟩
  | .local _ .vmem, ⟨4, _⟩ => ⟨S1x6144, .f32⟩
  | .local _ .vmem, ⟨5, _⟩ => ⟨S256x6144, .bf16⟩
  | .local _ .vmem, ⟨6, _⟩ => ⟨S256x6144, .bf16⟩
  | .local _ .vmem, ⟨7, _⟩ => ⟨S256x6144, .bf16⟩
  | .local _ .vmem, ⟨8, _⟩ => ⟨S256x6144, .bf16⟩
  | .local _ .vmem, ⟨9, _⟩ => ⟨S512x6144, .bf16⟩
  | .local _ .vmem, ⟨10, _⟩ => ⟨S512x6144, .bf16⟩
  | .local _ .vmem, ⟨11, _⟩ => ⟨S813x1024, .i32⟩
  | .local _ .vmem, ⟨12, _⟩ => ⟨S813x1024, .i32⟩
  | .local _ .vmem, ⟨13, _⟩ => ⟨S192x1024, .bf16⟩
  | .local _ .vmem, ⟨14, _⟩ => ⟨S192x1024, .bf16⟩
  | .local _ .vmem, ⟨15, _⟩ => ⟨S512x1024, .bf16⟩
  | .local _ .vmem, ⟨16, _⟩ => ⟨S512x1024, .bf16⟩
  | .local _ .vmem, ⟨17, _⟩ => ⟨S6504x128, .i32⟩
  | .local _ .vmem, ⟨18, _⟩ => ⟨S1536x128, .f32⟩
  | .local _ .vmem, ⟨19, _⟩ => ⟨S49280x2x128, .bf16⟩
  | .local _ .smem, ⟨0, _⟩ => ⟨S6144, .i32⟩
  | .local _ .smem, ⟨1, _⟩ => ⟨S6144, .i32⟩
  | .local _ .smem, ⟨2, _⟩ => ⟨S6160, .i32⟩
  | _, _ => ⟨S2x2560x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch1 : Ref sig .tc := ⟨.vmem, 17, rfl⟩
abbrev cc1_scratch2 : Ref sig .tc := ⟨.vmem, 18, rfl⟩
abbrev cc1_scratch3 : Ref sig .tc := ⟨.vmem, 19, rfl⟩
abbrev cc1_stg0_0 : Ref sig .tc := ⟨.smem, 0, rfl⟩
abbrev cc1_stg1_0 : Ref sig .tc := ⟨.smem, 1, rfl⟩
abbrev cc1_scratch0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![25, 10], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k1_t1_loop : Scf.Loop 32 :=
  let c0_i32_8 : BitVec 32 := 0#32
  let c6144_i32 : BitVec 32 := 6144#32
  let v15 : BitVec 32 := Scalar.addi c0_i32_8 c6144_i32
  let c1_i32_9 : BitVec 32 := 1#32
  ⟨c0_i32_8, v15, c1_i32_9⟩
def k1_off1 (k1_t1 : Fin k1_t1_loop.trips) : Fin 1 → Nat :=
  let c0_i32_8 : BitVec 32 := 0#32
  let c1_i32_9 : BitVec 32 := 1#32
  let arg12 : BitVec 32 := Scf.iv c0_i32_8 c1_i32_9 k1_t1
  let v17 : Index := Scalar.indexCast arg12
  ![v17.toNat]
def k1_off2 (v20 : BitVec 32) : Fin 1 → Nat :=
  let v21 : Index := Scalar.indexCast v20
  ![v21.toNat]

def k1_chk1 (i : grid1.Coords) (v20 : BitVec 32) : Prop :=
  (∀ (k1_h1 : k1_cond1 i = 1#1), ∀ a, (k1_off2 v20) a + S1.size a ≤ S6160.size a)
theorem k1_off2_inb : ∀ (i : grid1.Coords) (v20 : BitVec 32) (k1_hw1 : k1_chk1 i v20), ∀ (k1_h1 : k1_cond1 i = 1#1), ∀ a, (k1_off2 v20) a + S1.size a ≤ S6160.size a := fun i v20 k1_hw1 k1_h1 => k1_hw1 k1_h1

@[reducible] def k1_t2_loop : Scf.Loop 32 :=
  let c0_i32_11 : BitVec 32 := 0#32
  let c16_i32 : BitVec 32 := 16#32
  let v16 : BitVec 32 := Scalar.addi c0_i32_11 c16_i32
  let c1_i32_12 : BitVec 32 := 1#32
  ⟨c0_i32_11, v16, c1_i32_12⟩
def k1_off3 (k1_t2 : Fin k1_t2_loop.trips) : Fin 1 → Nat :=
  let c6144_i32_14 : BitVec 32 := 6144#32
  let c0_i32_11 : BitVec 32 := 0#32
  let c1_i32_12 : BitVec 32 := 1#32
  let arg12 : BitVec 32 := Scf.iv c0_i32_11 c1_i32_12 k1_t2
  let v18 : BitVec 32 := Scalar.addi c6144_i32_14 arg12
  let v19 : Index := Scalar.indexCast v18
  ![v19.toNat]
def k1_cond2 (i : grid1.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

@[reducible] def k1_t3_loop : Scf.Loop 32 :=
  let c0_i32_8 : BitVec 32 := 0#32
  let c101_i32 : BitVec 32 := 101#32
  let v15 : BitVec 32 := Scalar.addi c0_i32_8 c101_i32
  let c1_i32_9 : BitVec 32 := 1#32
  ⟨c0_i32_8, v15, c1_i32_9⟩
def k1_mult1 (k1_t3 : Fin k1_t3_loop.trips) : BitVec 32 :=
  let c0_i32_8 : BitVec 32 := 0#32
  let c1_i32_9 : BitVec 32 := 1#32
  let arg12 : BitVec 32 := Scf.iv c0_i32_8 c1_i32_9 k1_t3
  let c8_i32 : BitVec 32 := 8#32
  let v57 : BitVec 32 := Scalar.muli arg12 c8_i32
  v57
def k1_off4 (k1_t3 : Fin k1_t3_loop.trips) : Fin 2 → Nat :=
  let c0_i32_8 : BitVec 32 := 0#32
  let c1_i32_9 : BitVec 32 := 1#32
  let arg12 : BitVec 32 := Scf.iv c0_i32_8 c1_i32_9 k1_t3
  let c8_i32 : BitVec 32 := 8#32
  let v57 : BitVec 32 := Scalar.muli arg12 c8_i32
  let v58 : BitVec 32 := v57
  let v59 : Index := Scalar.indexCast v58
  let c0_29 : Index := 0#32
  ![v59.toNat, 0]
def k1_off5 (k1_t3 : Fin k1_t3_loop.trips) (c0_i32_32 : BitVec 32) : Fin 2 → Nat :=
  let c0_i32_8 : BitVec 32 := 0#32
  let c1_i32_9 : BitVec 32 := 1#32
  let arg12 : BitVec 32 := Scf.iv c0_i32_8 c1_i32_9 k1_t3
  let c8_i32_30 : BitVec 32 := 8#32
  let v62 : BitVec 32 := Scalar.muli arg12 c8_i32_30
  let c8_i32_31 : BitVec 32 := 8#32
  let v63 : BitVec 32 := Scalar.muli v62 c8_i32_31
  let v64 : BitVec 32 := Scalar.addi v63 c0_i32_32
  let v65 : Index := Scalar.indexCast v64
  let c0_33 : Index := 0#32
  ![v65.toNat, 0]
def k1_mult2 (k1_t3 : Fin k1_t3_loop.trips) : BitVec 32 :=
  let c0_i32_8 : BitVec 32 := 0#32
  let c1_i32_9 : BitVec 32 := 1#32
  let arg12 : BitVec 32 := Scf.iv c0_i32_8 c1_i32_9 k1_t3
  let c8_i32_34 : BitVec 32 := 8#32
  let v69 : BitVec 32 := Scalar.muli arg12 c8_i32_34
  v69
def k1_off6 (k1_t3 : Fin k1_t3_loop.trips) : Fin 2 → Nat :=
  let c0_i32_8 : BitVec 32 := 0#32
  let c1_i32_9 : BitVec 32 := 1#32
  let arg12 : BitVec 32 := Scf.iv c0_i32_8 c1_i32_9 k1_t3
  let c8_i32_34 : BitVec 32 := 8#32
  let v69 : BitVec 32 := Scalar.muli arg12 c8_i32_34
  let v70 : BitVec 32 := v69
  let v71 : Index := Scalar.indexCast v70
  let c128_35 : Index := 128#32
  ![v71.toNat, 128]
def k1_mult3 (k1_t3 : Fin k1_t3_loop.trips) : BitVec 32 :=
  let c0_i32_8 : BitVec 32 := 0#32
  let c1_i32_9 : BitVec 32 := 1#32
  let arg12 : BitVec 32 := Scf.iv c0_i32_8 c1_i32_9 k1_t3
  let c8_i32_40 : BitVec 32 := 8#32
  let v81 : BitVec 32 := Scalar.muli arg12 c8_i32_40
  v81
def k1_off7 (k1_t3 : Fin k1_t3_loop.trips) : Fin 2 → Nat :=
  let c0_i32_8 : BitVec 32 := 0#32
  let c1_i32_9 : BitVec 32 := 1#32
  let arg12 : BitVec 32 := Scf.iv c0_i32_8 c1_i32_9 k1_t3
  let c8_i32_40 : BitVec 32 := 8#32
  let v81 : BitVec 32 := Scalar.muli arg12 c8_i32_40
  let v82 : BitVec 32 := v81
  let v83 : Index := Scalar.indexCast v82
  let c256_41 : Index := 256#32
  ![v83.toNat, 256]
def k1_mult4 (k1_t3 : Fin k1_t3_loop.trips) : BitVec 32 :=
  let c0_i32_8 : BitVec 32 := 0#32
  let c1_i32_9 : BitVec 32 := 1#32
  let arg12 : BitVec 32 := Scf.iv c0_i32_8 c1_i32_9 k1_t3
  let c8_i32_45 : BitVec 32 := 8#32
  let v93 : BitVec 32 := Scalar.muli arg12 c8_i32_45
  v93
def k1_off8 (k1_t3 : Fin k1_t3_loop.trips) : Fin 2 → Nat :=
  let c0_i32_8 : BitVec 32 := 0#32
  let c1_i32_9 : BitVec 32 := 1#32
  let arg12 : BitVec 32 := Scf.iv c0_i32_8 c1_i32_9 k1_t3
  let c8_i32_45 : BitVec 32 := 8#32
  let v93 : BitVec 32 := Scalar.muli arg12 c8_i32_45
  let v94 : BitVec 32 := v93
  let v95 : Index := Scalar.indexCast v94
  let c384_46 : Index := 384#32
  ![v95.toNat, 384]
def k1_mult5 (k1_t3 : Fin k1_t3_loop.trips) : BitVec 32 :=
  let c0_i32_8 : BitVec 32 := 0#32
  let c1_i32_9 : BitVec 32 := 1#32
  let arg12 : BitVec 32 := Scf.iv c0_i32_8 c1_i32_9 k1_t3
  let c8_i32_50 : BitVec 32 := 8#32
  let v105 : BitVec 32 := Scalar.muli arg12 c8_i32_50
  v105
def k1_off9 (k1_t3 : Fin k1_t3_loop.trips) : Fin 2 → Nat :=
  let c0_i32_8 : BitVec 32 := 0#32
  let c1_i32_9 : BitVec 32 := 1#32
  let arg12 : BitVec 32 := Scf.iv c0_i32_8 c1_i32_9 k1_t3
  let c8_i32_50 : BitVec 32 := 8#32
  let v105 : BitVec 32 := Scalar.muli arg12 c8_i32_50
  let v106 : BitVec 32 := v105
  let v107 : Index := Scalar.indexCast v106
  let c512_51 : Index := 512#32
  ![v107.toNat, 512]
def k1_mult6 (k1_t3 : Fin k1_t3_loop.trips) : BitVec 32 :=
  let c0_i32_8 : BitVec 32 := 0#32
  let c1_i32_9 : BitVec 32 := 1#32
  let arg12 : BitVec 32 := Scf.iv c0_i32_8 c1_i32_9 k1_t3
  let c8_i32_55 : BitVec 32 := 8#32
  let v117 : BitVec 32 := Scalar.muli arg12 c8_i32_55
  v117
def k1_off10 (k1_t3 : Fin k1_t3_loop.trips) : Fin 2 → Nat :=
  let c0_i32_8 : BitVec 32 := 0#32
  let c1_i32_9 : BitVec 32 := 1#32
  let arg12 : BitVec 32 := Scf.iv c0_i32_8 c1_i32_9 k1_t3
  let c8_i32_55 : BitVec 32 := 8#32
  let v117 : BitVec 32 := Scalar.muli arg12 c8_i32_55
  let v118 : BitVec 32 := v117
  let v119 : Index := Scalar.indexCast v118
  let c640_56 : Index := 640#32
  ![v119.toNat, 640]
def k1_mult7 (k1_t3 : Fin k1_t3_loop.trips) : BitVec 32 :=
  let c0_i32_8 : BitVec 32 := 0#32
  let c1_i32_9 : BitVec 32 := 1#32
  let arg12 : BitVec 32 := Scf.iv c0_i32_8 c1_i32_9 k1_t3
  let c8_i32_60 : BitVec 32 := 8#32
  let v129 : BitVec 32 := Scalar.muli arg12 c8_i32_60
  v129
def k1_off11 (k1_t3 : Fin k1_t3_loop.trips) : Fin 2 → Nat :=
  let c0_i32_8 : BitVec 32 := 0#32
  let c1_i32_9 : BitVec 32 := 1#32
  let arg12 : BitVec 32 := Scf.iv c0_i32_8 c1_i32_9 k1_t3
  let c8_i32_60 : BitVec 32 := 8#32
  let v129 : BitVec 32 := Scalar.muli arg12 c8_i32_60
  let v130 : BitVec 32 := v129
  let v131 : Index := Scalar.indexCast v130
  let c768_61 : Index := 768#32
  ![v131.toNat, 768]
def k1_mult8 (k1_t3 : Fin k1_t3_loop.trips) : BitVec 32 :=
  let c0_i32_8 : BitVec 32 := 0#32
  let c1_i32_9 : BitVec 32 := 1#32
  let arg12 : BitVec 32 := Scf.iv c0_i32_8 c1_i32_9 k1_t3
  let c8_i32_65 : BitVec 32 := 8#32
  let v141 : BitVec 32 := Scalar.muli arg12 c8_i32_65
  v141
def k1_off12 (k1_t3 : Fin k1_t3_loop.trips) : Fin 2 → Nat :=
  let c0_i32_8 : BitVec 32 := 0#32
  let c1_i32_9 : BitVec 32 := 1#32
  let arg12 : BitVec 32 := Scf.iv c0_i32_8 c1_i32_9 k1_t3
  let c8_i32_65 : BitVec 32 := 8#32
  let v141 : BitVec 32 := Scalar.muli arg12 c8_i32_65
  let v142 : BitVec 32 := v141
  let v143 : Index := Scalar.indexCast v142
  let c896_66 : Index := 896#32
  ![v143.toNat, 896]
@[reducible] def k1_t4_loop : Scf.Loop 32 :=
  let c0_i32_26 : BitVec 32 := 0#32
  let c12_i32 : BitVec 32 := 12#32
  let v56 : BitVec 32 := Scalar.addi c0_i32_26 c12_i32
  let c1_i32_27 : BitVec 32 := 1#32
  ⟨c0_i32_26, v56, c1_i32_27⟩
def k1_mult9 (k1_t4 : Fin k1_t4_loop.trips) : BitVec 32 :=
  let c0_i32_26 : BitVec 32 := 0#32
  let c1_i32_27 : BitVec 32 := 1#32
  let arg12 : BitVec 32 := Scf.iv c0_i32_26 c1_i32_27 k1_t4
  let c16_i32 : BitVec 32 := 16#32
  let v57 : BitVec 32 := Scalar.muli arg12 c16_i32
  v57
def k1_off13 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c16_i32 : BitVec 32 := 16#32
  let v57 : BitVec 32 := Scalar.muli arg12 c16_i32
  let v58 : BitVec 32 := v57
  let v59 : Index := Scalar.indexCast v58
  let c0_29 : Index := 0#32
  ![v59.toNat, 0]
def k1_off14 (k1_t4 : Fin k1_t4_loop.trips) (c0_i32_31 : BitVec 32) : Fin 2 → Nat :=
  let c0_i32_26 : BitVec 32 := 0#32
  let c1_i32_27 : BitVec 32 := 1#32
  let arg12 : BitVec 32 := Scf.iv c0_i32_26 c1_i32_27 k1_t4
  let c16_i32_30 : BitVec 32 := 16#32
  let v62 : BitVec 32 := Scalar.muli arg12 c16_i32_30
  let c8_i32 : BitVec 32 := 8#32
  let v63 : BitVec 32 := Scalar.muli v62 c8_i32
  let v64 : BitVec 32 := Scalar.addi v63 c0_i32_31
  let v65 : Index := Scalar.indexCast v64
  let c0_32 : Index := 0#32
  ![v65.toNat, 0]
def k1_mult10 (k1_t4 : Fin k1_t4_loop.trips) : BitVec 32 :=
  let c0_i32_26 : BitVec 32 := 0#32
  let c1_i32_27 : BitVec 32 := 1#32
  let arg12 : BitVec 32 := Scf.iv c0_i32_26 c1_i32_27 k1_t4
  let c16_i32_33 : BitVec 32 := 16#32
  let v69 : BitVec 32 := Scalar.muli arg12 c16_i32_33
  v69
def k1_off15 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c16_i32_33 : BitVec 32 := 16#32
  let v69 : BitVec 32 := Scalar.muli arg12 c16_i32_33
  let v70 : BitVec 32 := v69
  let v71 : Index := Scalar.indexCast v70
  let c128_34 : Index := 128#32
  ![v71.toNat, 128]
def k1_mult11 (k1_t4 : Fin k1_t4_loop.trips) : BitVec 32 :=
  let c0_i32_26 : BitVec 32 := 0#32
  let c1_i32_27 : BitVec 32 := 1#32
  let arg12 : BitVec 32 := Scf.iv c0_i32_26 c1_i32_27 k1_t4
  let c16_i32_39 : BitVec 32 := 16#32
  let v81 : BitVec 32 := Scalar.muli arg12 c16_i32_39
  v81
def k1_off16 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c16_i32_39 : BitVec 32 := 16#32
  let v81 : BitVec 32 := Scalar.muli arg12 c16_i32_39
  let v82 : BitVec 32 := v81
  let v83 : Index := Scalar.indexCast v82
  let c256_40 : Index := 256#32
  ![v83.toNat, 256]
def k1_mult12 (k1_t4 : Fin k1_t4_loop.trips) : BitVec 32 :=
  let c0_i32_26 : BitVec 32 := 0#32
  let c1_i32_27 : BitVec 32 := 1#32
  let arg12 : BitVec 32 := Scf.iv c0_i32_26 c1_i32_27 k1_t4
  let c16_i32_44 : BitVec 32 := 16#32
  let v93 : BitVec 32 := Scalar.muli arg12 c16_i32_44
  v93
def k1_off17 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c16_i32_44 : BitVec 32 := 16#32
  let v93 : BitVec 32 := Scalar.muli arg12 c16_i32_44
  let v94 : BitVec 32 := v93
  let v95 : Index := Scalar.indexCast v94
  let c384_45 : Index := 384#32
  ![v95.toNat, 384]
def k1_mult13 (k1_t4 : Fin k1_t4_loop.trips) : BitVec 32 :=
  let c0_i32_26 : BitVec 32 := 0#32
  let c1_i32_27 : BitVec 32 := 1#32
  let arg12 : BitVec 32 := Scf.iv c0_i32_26 c1_i32_27 k1_t4
  let c16_i32_49 : BitVec 32 := 16#32
  let v105 : BitVec 32 := Scalar.muli arg12 c16_i32_49
  v105
def k1_off18 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c16_i32_49 : BitVec 32 := 16#32
  let v105 : BitVec 32 := Scalar.muli arg12 c16_i32_49
  let v106 : BitVec 32 := v105
  let v107 : Index := Scalar.indexCast v106
  let c512_50 : Index := 512#32
  ![v107.toNat, 512]
def k1_mult14 (k1_t4 : Fin k1_t4_loop.trips) : BitVec 32 :=
  let c0_i32_26 : BitVec 32 := 0#32
  let c1_i32_27 : BitVec 32 := 1#32
  let arg12 : BitVec 32 := Scf.iv c0_i32_26 c1_i32_27 k1_t4
  let c16_i32_54 : BitVec 32 := 16#32
  let v117 : BitVec 32 := Scalar.muli arg12 c16_i32_54
  v117
def k1_off19 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c16_i32_54 : BitVec 32 := 16#32
  let v117 : BitVec 32 := Scalar.muli arg12 c16_i32_54
  let v118 : BitVec 32 := v117
  let v119 : Index := Scalar.indexCast v118
  let c640_55 : Index := 640#32
  ![v119.toNat, 640]
def k1_mult15 (k1_t4 : Fin k1_t4_loop.trips) : BitVec 32 :=
  let c0_i32_26 : BitVec 32 := 0#32
  let c1_i32_27 : BitVec 32 := 1#32
  let arg12 : BitVec 32 := Scf.iv c0_i32_26 c1_i32_27 k1_t4
  let c16_i32_59 : BitVec 32 := 16#32
  let v129 : BitVec 32 := Scalar.muli arg12 c16_i32_59
  v129
def k1_off20 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c16_i32_59 : BitVec 32 := 16#32
  let v129 : BitVec 32 := Scalar.muli arg12 c16_i32_59
  let v130 : BitVec 32 := v129
  let v131 : Index := Scalar.indexCast v130
  let c768_60 : Index := 768#32
  ![v131.toNat, 768]
def k1_mult16 (k1_t4 : Fin k1_t4_loop.trips) : BitVec 32 :=
  let c0_i32_26 : BitVec 32 := 0#32
  let c1_i32_27 : BitVec 32 := 1#32
  let arg12 : BitVec 32 := Scf.iv c0_i32_26 c1_i32_27 k1_t4
  let c16_i32_64 : BitVec 32 := 16#32
  let v141 : BitVec 32 := Scalar.muli arg12 c16_i32_64
  v141
def k1_off21 (k1_t4 : Fin k1_t4_loop.trips) : Fin 2 → Nat :=
  let c0_i32_26 : BitVec 32 := 0#32
  let c1_i32_27 : BitVec 32 := 1#32
  let arg12 : BitVec 32 := Scf.iv c0_i32_26 c1_i32_27 k1_t4
  let c16_i32_64 : BitVec 32 := 16#32
  let v141 : BitVec 32 := Scalar.muli arg12 c16_i32_64
  let v142 : BitVec 32 := v141
  let v143 : Index := Scalar.indexCast v142
  let c896_65 : Index := 896#32
  ![v143.toNat, 896]
def k1_cond3 (i : grid1.Coords) : BitVec 1 :=
  let arg0 : BitVec 32 := BitVec.ofNat 32 (i 0).val
  let c0_i32_4 : BitVec 32 := 0#32
  let v9 : BitVec 1 := Scalar.cmpi .eq arg0 c0_i32_4
  let v10 : BitVec 32 := Scalar.extui v9
  let c0_i32_5 : BitVec 32 := 0#32
  let v11 : BitVec 1 := Scalar.cmpi .ne v10 c0_i32_5
  v11

@[reducible] def k1_t5_loop : Scf.Loop 32 :=
  let c0_i32_8 : BitVec 32 := 0#32
  let c308_i32 : BitVec 32 := 308#32
  let v15 : BitVec 32 := Scalar.addi c0_i32_8 c308_i32
  let c1_i32_9 : BitVec 32 := 1#32
  ⟨c0_i32_8, v15, c1_i32_9⟩
def k1_off22 (i : grid1.Coords) (k1_t5 : Fin k1_t5_loop.trips) : Fin 1 → Nat :=
  let c2_i32 : BitVec 32 := 2#32
  let arg1 : BitVec 32 := BitVec.ofNat 32 (i 1).val
  let c308_i32_11 : BitVec 32 := 308#32
  let v16 : BitVec 32 := Scalar.muli arg1 c308_i32_11
  let c0_i32_8 : BitVec 32 := 0#32
  let c1_i32_9 : BitVec 32 := 1#32
  let arg12 : BitVec 32 := Scf.iv c0_i32_8 c1_i32_9 k1_t5
  let v17 : BitVec 32 := Scalar.addi v16 arg12
  let v18 : BitVec 32 := Scalar.muli c2_i32 v17
  let v19 : Index := Scalar.indexCast v18
  ![v19.toNat]
def k1_off23 (v20 : BitVec 32) : Fin 2 → Nat :=
  let c1023_i32 : BitVec 32 := 1023#32
  let v21 : BitVec 32 := Scalar.andi v20 c1023_i32
  let c8_i32 : BitVec 32 := 8#32
  let v30 : BitVec 32 := Scalar.muli v21 c8_i32
  let v31 : Index := Scalar.indexCast v30
  let c0 : Index := 0#32
  ![v31.toNat, 0]

def k1_off24 (v20 : BitVec 32) : Fin 2 → Nat :=
  let c1023_i32 : BitVec 32 := 1023#32
  let v21 : BitVec 32 := Scalar.andi v20 c1023_i32
  let c27_i32 : BitVec 32 := 27#32
  let v28 : BitVec 32 := Scalar.shrsi v20 c27_i32
  let c1_i32_13 : BitVec 32 := 1#32
  let v29 : BitVec 32 := Scalar.andi v28 c1_i32_13
  let v33 : BitVec 32 := Scalar.addi v21 v29
  let c8_i32_14 : BitVec 32 := 8#32
  let v34 : BitVec 32 := Scalar.muli v33 c8_i32_14
  let v35 : Index := Scalar.indexCast v34
  let c0_15 : Index := 0#32
  ![v35.toNat, 0]
def k1_off25 (v20 : BitVec 32) : Fin 2 → Nat :=
  let c19_i32 : BitVec 32 := 19#32
  let v26 : BitVec 32 := Scalar.shrsi v20 c19_i32
  let c255_i32 : BitVec 32 := 255#32
  let v27 : BitVec 32 := Scalar.andi v26 c255_i32
  let c8_i32_22 : BitVec 32 := 8#32
  let v54 : BitVec 32 := Scalar.muli v27 c8_i32_22
  let v55 : Index := Scalar.indexCast v54
  let c0_23 : Index := 0#32
  ![v55.toNat, 0]

def k1_chk2 (i : grid1.Coords) (v20 : BitVec 32) : Prop :=
  (∀ (k1_h3 : k1_cond3 i = 1#1), ∀ a, (k1_off23 v20) a + S8x128.size a ≤ S6504x128.size a) ∧
  (∀ (k1_h3 : k1_cond3 i = 1#1), ∀ a, (k1_off24 v20) a + S8x128.size a ≤ S6504x128.size a) ∧
  (∀ (k1_h3 : k1_cond3 i = 1#1), ∀ a, (k1_off25 v20) a + S8x128.size a ≤ S1536x128.size a)
theorem k1_off23_inb : ∀ (i : grid1.Coords) (v20 : BitVec 32) (k1_hw2 : k1_chk2 i v20), ∀ (k1_h3 : k1_cond3 i = 1#1), ∀ a, (k1_off23 v20) a + S8x128.size a ≤ S6504x128.size a := fun i v20 k1_hw2 k1_h3 => k1_hw2.1 k1_h3
theorem k1_off24_inb : ∀ (i : grid1.Coords) (v20 : BitVec 32) (k1_hw2 : k1_chk2 i v20), ∀ (k1_h3 : k1_cond3 i = 1#1), ∀ a, (k1_off24 v20) a + S8x128.size a ≤ S6504x128.size a := fun i v20 k1_hw2 k1_h3 => k1_hw2.2.1 k1_h3
theorem k1_off25_inb : ∀ (i : grid1.Coords) (v20 : BitVec 32) (k1_hw2 : k1_chk2 i v20), ∀ (k1_h3 : k1_cond3 i = 1#1), ∀ a, (k1_off25 v20) a + S8x128.size a ≤ S1536x128.size a := fun i v20 k1_hw2 k1_h3 => k1_hw2.2.2 k1_h3

def k1_off26 (i : grid1.Coords) (k1_t5 : Fin k1_t5_loop.trips) : Fin 1 → Nat :=
  let c2_i32_24 : BitVec 32 := 2#32
  let arg1 : BitVec 32 := BitVec.ofNat 32 (i 1).val
  let c308_i32_11 : BitVec 32 := 308#32
  let v16 : BitVec 32 := Scalar.muli arg1 c308_i32_11
  let c0_i32_8 : BitVec 32 := 0#32
  let c1_i32_9 : BitVec 32 := 1#32
  let arg12 : BitVec 32 := Scf.iv c0_i32_8 c1_i32_9 k1_t5
  let v17 : BitVec 32 := Scalar.addi v16 arg12
  let v58 : BitVec 32 := Scalar.muli c2_i32_24 v17
  let c1_i32_25 : BitVec 32 := 1#32
  let v59 : BitVec 32 := Scalar.addi v58 c1_i32_25
  let v60 : Index := Scalar.indexCast v59
  ![v60.toNat]
def k1_off27 (v61 : BitVec 32) : Fin 2 → Nat :=
  let c1023_i32_26 : BitVec 32 := 1023#32
  let v62 : BitVec 32 := Scalar.andi v61 c1023_i32_26
  let c8_i32_35 : BitVec 32 := 8#32
  let v71 : BitVec 32 := Scalar.muli v62 c8_i32_35
  let v72 : Index := Scalar.indexCast v71
  let c0_36 : Index := 0#32
  ![v72.toNat, 0]

def k1_off28 (v61 : BitVec 32) : Fin 2 → Nat :=
  let c1023_i32_26 : BitVec 32 := 1023#32
  let v62 : BitVec 32 := Scalar.andi v61 c1023_i32_26
  let c27_i32_33 : BitVec 32 := 27#32
  let v69 : BitVec 32 := Scalar.shrsi v61 c27_i32_33
  let c1_i32_34 : BitVec 32 := 1#32
  let v70 : BitVec 32 := Scalar.andi v69 c1_i32_34
  let v74 : BitVec 32 := Scalar.addi v62 v70
  let c8_i32_37 : BitVec 32 := 8#32
  let v75 : BitVec 32 := Scalar.muli v74 c8_i32_37
  let v76 : Index := Scalar.indexCast v75
  let c0_38 : Index := 0#32
  ![v76.toNat, 0]
def k1_off29 (v61 : BitVec 32) : Fin 2 → Nat :=
  let c19_i32_31 : BitVec 32 := 19#32
  let v67 : BitVec 32 := Scalar.shrsi v61 c19_i32_31
  let c255_i32_32 : BitVec 32 := 255#32
  let v68 : BitVec 32 := Scalar.andi v67 c255_i32_32
  let c8_i32_45 : BitVec 32 := 8#32
  let v95 : BitVec 32 := Scalar.muli v68 c8_i32_45
  let v96 : Index := Scalar.indexCast v95
  let c0_46 : Index := 0#32
  ![v96.toNat, 0]

def k1_chk3 (i : grid1.Coords) (v61 : BitVec 32) : Prop :=
  (∀ (k1_h3 : k1_cond3 i = 1#1), ∀ a, (k1_off27 v61) a + S8x128.size a ≤ S6504x128.size a) ∧
  (∀ (k1_h3 : k1_cond3 i = 1#1), ∀ a, (k1_off28 v61) a + S8x128.size a ≤ S6504x128.size a) ∧
  (∀ (k1_h3 : k1_cond3 i = 1#1), ∀ a, (k1_off29 v61) a + S8x128.size a ≤ S1536x128.size a)
theorem k1_off27_inb : ∀ (i : grid1.Coords) (v61 : BitVec 32) (k1_hw3 : k1_chk3 i v61), ∀ (k1_h3 : k1_cond3 i = 1#1), ∀ a, (k1_off27 v61) a + S8x128.size a ≤ S6504x128.size a := fun i v61 k1_hw3 k1_h3 => k1_hw3.1 k1_h3
theorem k1_off28_inb : ∀ (i : grid1.Coords) (v61 : BitVec 32) (k1_hw3 : k1_chk3 i v61), ∀ (k1_h3 : k1_cond3 i = 1#1), ∀ a, (k1_off28 v61) a + S8x128.size a ≤ S6504x128.size a := fun i v61 k1_hw3 k1_h3 => k1_hw3.2.1 k1_h3
theorem k1_off29_inb : ∀ (i : grid1.Coords) (v61 : BitVec 32) (k1_hw3 : k1_chk3 i v61), ∀ (k1_h3 : k1_cond3 i = 1#1), ∀ a, (k1_off29 v61) a + S8x128.size a ≤ S1536x128.size a := fun i v61 k1_hw3 k1_h3 => k1_hw3.2.2 k1_h3

def k1_off30 (i : grid1.Coords) (k1_t5 : Fin k1_t5_loop.trips) : Fin 3 → Nat :=
  let arg0 : BitVec 32 := BitVec.ofNat 32 (i 0).val
  let c1_i32 : BitVec 32 := 1#32
  let v8 : BitVec 32 := Scalar.andi arg0 c1_i32
  let c24640_i32 : BitVec 32 := 24640#32
  let v100 : BitVec 32 := Scalar.muli v8 c24640_i32
  let arg1 : BitVec 32 := BitVec.ofNat 32 (i 1).val
  let c308_i32_11 : BitVec 32 := 308#32
  let v16 : BitVec 32 := Scalar.muli arg1 c308_i32_11
  let c0_i32_8 : BitVec 32 := 0#32
  let c1_i32_9 : BitVec 32 := 1#32
  let arg12 : BitVec 32 := Scf.iv c0_i32_8 c1_i32_9 k1_t5
  let v17 : BitVec 32 := Scalar.addi v16 arg12
  let v101 : BitVec 32 := Scalar.addi v100 v17
  let v102 : Index := Scalar.indexCast v101
  let c0_47 : Index := 0#32
  ![v102.toNat, 0, 0]
def k1_cond4 (i : grid1.Coords) : BitVec 1 :=
  let arg0 : BitVec 32 := BitVec.ofNat 32 (i 0).val
  let c0_i32_6 : BitVec 32 := 0#32
  let v12 : BitVec 1 := Scalar.cmpi .sgt arg0 c0_i32_6
  let v13 : BitVec 32 := Scalar.extui v12
  let c0_i32_7 : BitVec 32 := 0#32
  let v14 : BitVec 1 := Scalar.cmpi .ne v13 c0_i32_7
  v14

@[reducible] def k1_t6_loop : Scf.Loop 32 :=
  let c0_i32_8 : BitVec 32 := 0#32
  let c77_i32 : BitVec 32 := 77#32
  let v15 : BitVec 32 := Scalar.addi c0_i32_8 c77_i32
  let c1_i32_9 : BitVec 32 := 1#32
  ⟨c0_i32_8, v15, c1_i32_9⟩
def k1_off31 (i : grid1.Coords) (k1_t6 : Fin k1_t6_loop.trips) : Fin 1 → Nat :=
  let c2_i32 : BitVec 32 := 2#32
  let arg1 : BitVec 32 := BitVec.ofNat 32 (i 1).val
  let c308_i32 : BitVec 32 := 308#32
  let v91 : BitVec 32 := Scalar.muli arg1 c308_i32
  let c0_i32_8 : BitVec 32 := 0#32
  let c1_i32_9 : BitVec 32 := 1#32
  let arg12 : BitVec 32 := Scf.iv c0_i32_8 c1_i32_9 k1_t6
  let v92 : BitVec 32 := Scalar.addi v91 arg12
  let v93 : BitVec 32 := Scalar.muli c2_i32 v92
  let v94 : Index := Scalar.indexCast v93
  ![v94.toNat]
def k1_off32 (v95 : BitVec 32) : Fin 2 → Nat :=
  let c1023_i32 : BitVec 32 := 1023#32
  let v96 : BitVec 32 := Scalar.andi v95 c1023_i32
  let c8_i32 : BitVec 32 := 8#32
  let v105 : BitVec 32 := Scalar.muli v96 c8_i32
  let v106 : Index := Scalar.indexCast v105
  let c0_54 : Index := 0#32
  ![v106.toNat, 0]

def k1_off33 (v95 : BitVec 32) : Fin 2 → Nat :=
  let c1023_i32 : BitVec 32 := 1023#32
  let v96 : BitVec 32 := Scalar.andi v95 c1023_i32
  let c27_i32 : BitVec 32 := 27#32
  let v103 : BitVec 32 := Scalar.shrsi v95 c27_i32
  let c1_i32_53 : BitVec 32 := 1#32
  let v104 : BitVec 32 := Scalar.andi v103 c1_i32_53
  let v108 : BitVec 32 := Scalar.addi v96 v104
  let c8_i32_55 : BitVec 32 := 8#32
  let v109 : BitVec 32 := Scalar.muli v108 c8_i32_55
  let v110 : Index := Scalar.indexCast v109
  let c0_56 : Index := 0#32
  ![v110.toNat, 0]
def k1_off34 (v95 : BitVec 32) : Fin 2 → Nat :=
  let c19_i32 : BitVec 32 := 19#32
  let v101 : BitVec 32 := Scalar.shrsi v95 c19_i32
  let c255_i32 : BitVec 32 := 255#32
  let v102 : BitVec 32 := Scalar.andi v101 c255_i32
  let c8_i32_63 : BitVec 32 := 8#32
  let v129 : BitVec 32 := Scalar.muli v102 c8_i32_63
  let v130 : Index := Scalar.indexCast v129
  let c0_64 : Index := 0#32
  ![v130.toNat, 0]

def k1_chk4 (i : grid1.Coords) (v95 : BitVec 32) : Prop :=
  (∀ (k1_h4 : k1_cond4 i = 1#1), ∀ a, (k1_off32 v95) a + S8x128.size a ≤ S6504x128.size a) ∧
  (∀ (k1_h4 : k1_cond4 i = 1#1), ∀ a, (k1_off33 v95) a + S8x128.size a ≤ S6504x128.size a) ∧
  (∀ (k1_h4 : k1_cond4 i = 1#1), ∀ a, (k1_off34 v95) a + S8x128.size a ≤ S1536x128.size a)
theorem k1_off32_inb : ∀ (i : grid1.Coords) (v95 : BitVec 32) (k1_hw4 : k1_chk4 i v95), ∀ (k1_h4 : k1_cond4 i = 1#1), ∀ a, (k1_off32 v95) a + S8x128.size a ≤ S6504x128.size a := fun i v95 k1_hw4 k1_h4 => k1_hw4.1 k1_h4
theorem k1_off33_inb : ∀ (i : grid1.Coords) (v95 : BitVec 32) (k1_hw4 : k1_chk4 i v95), ∀ (k1_h4 : k1_cond4 i = 1#1), ∀ a, (k1_off33 v95) a + S8x128.size a ≤ S6504x128.size a := fun i v95 k1_hw4 k1_h4 => k1_hw4.2.1 k1_h4
theorem k1_off34_inb : ∀ (i : grid1.Coords) (v95 : BitVec 32) (k1_hw4 : k1_chk4 i v95), ∀ (k1_h4 : k1_cond4 i = 1#1), ∀ a, (k1_off34 v95) a + S8x128.size a ≤ S1536x128.size a := fun i v95 k1_hw4 k1_h4 => k1_hw4.2.2 k1_h4

def k1_off35 (i : grid1.Coords) (k1_t6 : Fin k1_t6_loop.trips) : Fin 1 → Nat :=
  let c2_i32_65 : BitVec 32 := 2#32
  let arg1 : BitVec 32 := BitVec.ofNat 32 (i 1).val
  let c308_i32 : BitVec 32 := 308#32
  let v91 : BitVec 32 := Scalar.muli arg1 c308_i32
  let c0_i32_8 : BitVec 32 := 0#32
  let c1_i32_9 : BitVec 32 := 1#32
  let arg12 : BitVec 32 := Scf.iv c0_i32_8 c1_i32_9 k1_t6
  let v92 : BitVec 32 := Scalar.addi v91 arg12
  let v133 : BitVec 32 := Scalar.muli c2_i32_65 v92
  let c1_i32_66 : BitVec 32 := 1#32
  let v134 : BitVec 32 := Scalar.addi v133 c1_i32_66
  let v135 : Index := Scalar.indexCast v134
  ![v135.toNat]
def k1_off36 (v136 : BitVec 32) : Fin 2 → Nat :=
  let c1023_i32_67 : BitVec 32 := 1023#32
  let v137 : BitVec 32 := Scalar.andi v136 c1023_i32_67
  let c8_i32_76 : BitVec 32 := 8#32
  let v146 : BitVec 32 := Scalar.muli v137 c8_i32_76
  let v147 : Index := Scalar.indexCast v146
  let c0_77 : Index := 0#32
  ![v147.toNat, 0]

def k1_off37 (v136 : BitVec 32) : Fin 2 → Nat :=
  let c1023_i32_67 : BitVec 32 := 1023#32
  let v137 : BitVec 32 := Scalar.andi v136 c1023_i32_67
  let c27_i32_74 : BitVec 32 := 27#32
  let v144 : BitVec 32 := Scalar.shrsi v136 c27_i32_74
  let c1_i32_75 : BitVec 32 := 1#32
  let v145 : BitVec 32 := Scalar.andi v144 c1_i32_75
  let v149 : BitVec 32 := Scalar.addi v137 v145
  let c8_i32_78 : BitVec 32 := 8#32
  let v150 : BitVec 32 := Scalar.muli v149 c8_i32_78
  let v151 : Index := Scalar.indexCast v150
  let c0_79 : Index := 0#32
  ![v151.toNat, 0]
def k1_off38 (v136 : BitVec 32) : Fin 2 → Nat :=
  let c19_i32_72 : BitVec 32 := 19#32
  let v142 : BitVec 32 := Scalar.shrsi v136 c19_i32_72
  let c255_i32_73 : BitVec 32 := 255#32
  let v143 : BitVec 32 := Scalar.andi v142 c255_i32_73
  let c8_i32_86 : BitVec 32 := 8#32
  let v170 : BitVec 32 := Scalar.muli v143 c8_i32_86
  let v171 : Index := Scalar.indexCast v170
  let c0_87 : Index := 0#32
  ![v171.toNat, 0]

def k1_chk5 (i : grid1.Coords) (v136 : BitVec 32) : Prop :=
  (∀ (k1_h4 : k1_cond4 i = 1#1), ∀ a, (k1_off36 v136) a + S8x128.size a ≤ S6504x128.size a) ∧
  (∀ (k1_h4 : k1_cond4 i = 1#1), ∀ a, (k1_off37 v136) a + S8x128.size a ≤ S6504x128.size a) ∧
  (∀ (k1_h4 : k1_cond4 i = 1#1), ∀ a, (k1_off38 v136) a + S8x128.size a ≤ S1536x128.size a)
theorem k1_off36_inb : ∀ (i : grid1.Coords) (v136 : BitVec 32) (k1_hw5 : k1_chk5 i v136), ∀ (k1_h4 : k1_cond4 i = 1#1), ∀ a, (k1_off36 v136) a + S8x128.size a ≤ S6504x128.size a := fun i v136 k1_hw5 k1_h4 => k1_hw5.1 k1_h4
theorem k1_off37_inb : ∀ (i : grid1.Coords) (v136 : BitVec 32) (k1_hw5 : k1_chk5 i v136), ∀ (k1_h4 : k1_cond4 i = 1#1), ∀ a, (k1_off37 v136) a + S8x128.size a ≤ S6504x128.size a := fun i v136 k1_hw5 k1_h4 => k1_hw5.2.1 k1_h4
theorem k1_off38_inb : ∀ (i : grid1.Coords) (v136 : BitVec 32) (k1_hw5 : k1_chk5 i v136), ∀ (k1_h4 : k1_cond4 i = 1#1), ∀ a, (k1_off38 v136) a + S8x128.size a ≤ S1536x128.size a := fun i v136 k1_hw5 k1_h4 => k1_hw5.2.2 k1_h4

def k1_off39 (i : grid1.Coords) (k1_t6 : Fin k1_t6_loop.trips) : Fin 3 → Nat :=
  let arg0 : BitVec 32 := BitVec.ofNat 32 (i 0).val
  let c1_i32 : BitVec 32 := 1#32
  let v8 : BitVec 32 := Scalar.andi arg0 c1_i32
  let c24640_i32_88 : BitVec 32 := 24640#32
  let v175 : BitVec 32 := Scalar.muli v8 c24640_i32_88
  let arg1 : BitVec 32 := BitVec.ofNat 32 (i 1).val
  let c308_i32 : BitVec 32 := 308#32
  let v91 : BitVec 32 := Scalar.muli arg1 c308_i32
  let c0_i32_8 : BitVec 32 := 0#32
  let c1_i32_9 : BitVec 32 := 1#32
  let arg12 : BitVec 32 := Scf.iv c0_i32_8 c1_i32_9 k1_t6
  let v92 : BitVec 32 := Scalar.addi v91 arg12
  let v176 : BitVec 32 := Scalar.addi v175 v92
  let v177 : Index := Scalar.indexCast v176
  let c0_89 : Index := 0#32
  ![v177.toNat, 0, 0]
def k1_mult17 (i : grid1.Coords) : BitVec 32 :=
  let c1_i32_11 : BitVec 32 := 1#32
  let arg0 : BitVec 32 := BitVec.ofNat 32 (i 0).val
  let c1_i32 : BitVec 32 := 1#32
  let v8 : BitVec 32 := Scalar.andi arg0 c1_i32
  let v16 : BitVec 32 := Scalar.subi c1_i32_11 v8
  let c24640_i32 : BitVec 32 := 24640#32
  let v17 : BitVec 32 := Scalar.muli v16 c24640_i32
  let c0_i32_12 : BitVec 32 := 0#32
  let v18 : BitVec 32 := Scalar.addi v17 c0_i32_12
  v18
def k1_off40 (i : grid1.Coords) (c0_i32_12 : BitVec 32) : Fin 3 → Nat :=
  let c1_i32_11 : BitVec 32 := 1#32
  let arg0 : BitVec 32 := BitVec.ofNat 32 (i 0).val
  let c1_i32 : BitVec 32 := 1#32
  let v8 : BitVec 32 := Scalar.andi arg0 c1_i32
  let v16 : BitVec 32 := Scalar.subi c1_i32_11 v8
  let c24640_i32 : BitVec 32 := 24640#32
  let v17 : BitVec 32 := Scalar.muli v16 c24640_i32
  let v18 : BitVec 32 := Scalar.addi v17 c0_i32_12
  let v19 : BitVec 32 := v18
  let v20 : Index := Scalar.indexCast v19
  let c0 : Index := 0#32
  ![v20.toNat, 0, 0]
def k1_mult18 (i : grid1.Coords) : BitVec 32 :=
  let c1_i32_11 : BitVec 32 := 1#32
  let arg0 : BitVec 32 := BitVec.ofNat 32 (i 0).val
  let c1_i32 : BitVec 32 := 1#32
  let v8 : BitVec 32 := Scalar.andi arg0 c1_i32
  let v16 : BitVec 32 := Scalar.subi c1_i32_11 v8
  let c24640_i32 : BitVec 32 := 24640#32
  let v17 : BitVec 32 := Scalar.muli v16 c24640_i32
  let c3080_i32 : BitVec 32 := 3080#32
  let v23 : BitVec 32 := Scalar.addi v17 c3080_i32
  v23
@[reducible] def k1_t7_loop : Scf.Loop 32 :=
  let c77_i32_18 : BitVec 32 := 77#32
  let c77_i32_19 : BitVec 32 := 77#32
  let v34 : BitVec 32 := Scalar.addi c77_i32_18 c77_i32_19
  let c1_i32_20 : BitVec 32 := 1#32
  ⟨c77_i32_18, v34, c1_i32_20⟩
def k1_off41 (i : grid1.Coords) (k1_t7 : Fin k1_t7_loop.trips) : Fin 1 → Nat :=
  let c2_i32 : BitVec 32 := 2#32
  let arg1 : BitVec 32 := BitVec.ofNat 32 (i 1).val
  let c308_i32 : BitVec 32 := 308#32
  let v91 : BitVec 32 := Scalar.muli arg1 c308_i32
  let c77_i32_18 : BitVec 32 := 77#32
  let c1_i32_20 : BitVec 32 := 1#32
  let arg12 : BitVec 32 := Scf.iv c77_i32_18 c1_i32_20 k1_t7
  let v92 : BitVec 32 := Scalar.addi v91 arg12
  let v93 : BitVec 32 := Scalar.muli c2_i32 v92
  let v94 : Index := Scalar.indexCast v93
  ![v94.toNat]
def k1_off42 (v95 : BitVec 32) : Fin 2 → Nat :=
  let c1023_i32 : BitVec 32 := 1023#32
  let v96 : BitVec 32 := Scalar.andi v95 c1023_i32
  let c8_i32 : BitVec 32 := 8#32
  let v105 : BitVec 32 := Scalar.muli v96 c8_i32
  let v106 : Index := Scalar.indexCast v105
  let c0_54 : Index := 0#32
  ![v106.toNat, 0]

def k1_off43 (v95 : BitVec 32) : Fin 2 → Nat :=
  let c1023_i32 : BitVec 32 := 1023#32
  let v96 : BitVec 32 := Scalar.andi v95 c1023_i32
  let c27_i32 : BitVec 32 := 27#32
  let v103 : BitVec 32 := Scalar.shrsi v95 c27_i32
  let c1_i32_53 : BitVec 32 := 1#32
  let v104 : BitVec 32 := Scalar.andi v103 c1_i32_53
  let v108 : BitVec 32 := Scalar.addi v96 v104
  let c8_i32_55 : BitVec 32 := 8#32
  let v109 : BitVec 32 := Scalar.muli v108 c8_i32_55
  let v110 : Index := Scalar.indexCast v109
  let c0_56 : Index := 0#32
  ![v110.toNat, 0]
def k1_off44 (v95 : BitVec 32) : Fin 2 → Nat :=
  let c19_i32 : BitVec 32 := 19#32
  let v101 : BitVec 32 := Scalar.shrsi v95 c19_i32
  let c255_i32 : BitVec 32 := 255#32
  let v102 : BitVec 32 := Scalar.andi v101 c255_i32
  let c8_i32_63 : BitVec 32 := 8#32
  let v129 : BitVec 32 := Scalar.muli v102 c8_i32_63
  let v130 : Index := Scalar.indexCast v129
  let c0_64 : Index := 0#32
  ![v130.toNat, 0]

def k1_chk6 (i : grid1.Coords) (v95 : BitVec 32) : Prop :=
  (∀ (k1_h4 : k1_cond4 i = 1#1), ∀ a, (k1_off42 v95) a + S8x128.size a ≤ S6504x128.size a) ∧
  (∀ (k1_h4 : k1_cond4 i = 1#1), ∀ a, (k1_off43 v95) a + S8x128.size a ≤ S6504x128.size a) ∧
  (∀ (k1_h4 : k1_cond4 i = 1#1), ∀ a, (k1_off44 v95) a + S8x128.size a ≤ S1536x128.size a)
theorem k1_off42_inb : ∀ (i : grid1.Coords) (v95 : BitVec 32) (k1_hw6 : k1_chk6 i v95), ∀ (k1_h4 : k1_cond4 i = 1#1), ∀ a, (k1_off42 v95) a + S8x128.size a ≤ S6504x128.size a := fun i v95 k1_hw6 k1_h4 => k1_hw6.1 k1_h4
theorem k1_off43_inb : ∀ (i : grid1.Coords) (v95 : BitVec 32) (k1_hw6 : k1_chk6 i v95), ∀ (k1_h4 : k1_cond4 i = 1#1), ∀ a, (k1_off43 v95) a + S8x128.size a ≤ S6504x128.size a := fun i v95 k1_hw6 k1_h4 => k1_hw6.2.1 k1_h4
theorem k1_off44_inb : ∀ (i : grid1.Coords) (v95 : BitVec 32) (k1_hw6 : k1_chk6 i v95), ∀ (k1_h4 : k1_cond4 i = 1#1), ∀ a, (k1_off44 v95) a + S8x128.size a ≤ S1536x128.size a := fun i v95 k1_hw6 k1_h4 => k1_hw6.2.2 k1_h4

def k1_off45 (i : grid1.Coords) (k1_t7 : Fin k1_t7_loop.trips) : Fin 1 → Nat :=
  let c2_i32_65 : BitVec 32 := 2#32
  let arg1 : BitVec 32 := BitVec.ofNat 32 (i 1).val
  let c308_i32 : BitVec 32 := 308#32
  let v91 : BitVec 32 := Scalar.muli arg1 c308_i32
  let c77_i32_18 : BitVec 32 := 77#32
  let c1_i32_20 : BitVec 32 := 1#32
  let arg12 : BitVec 32 := Scf.iv c77_i32_18 c1_i32_20 k1_t7
  let v92 : BitVec 32 := Scalar.addi v91 arg12
  let v133 : BitVec 32 := Scalar.muli c2_i32_65 v92
  let c1_i32_66 : BitVec 32 := 1#32
  let v134 : BitVec 32 := Scalar.addi v133 c1_i32_66
  let v135 : Index := Scalar.indexCast v134
  ![v135.toNat]
def k1_off46 (v136 : BitVec 32) : Fin 2 → Nat :=
  let c1023_i32_67 : BitVec 32 := 1023#32
  let v137 : BitVec 32 := Scalar.andi v136 c1023_i32_67
  let c8_i32_76 : BitVec 32 := 8#32
  let v146 : BitVec 32 := Scalar.muli v137 c8_i32_76
  let v147 : Index := Scalar.indexCast v146
  let c0_77 : Index := 0#32
  ![v147.toNat, 0]

def k1_off47 (v136 : BitVec 32) : Fin 2 → Nat :=
  let c1023_i32_67 : BitVec 32 := 1023#32
  let v137 : BitVec 32 := Scalar.andi v136 c1023_i32_67
  let c27_i32_74 : BitVec 32 := 27#32
  let v144 : BitVec 32 := Scalar.shrsi v136 c27_i32_74
  let c1_i32_75 : BitVec 32 := 1#32
  let v145 : BitVec 32 := Scalar.andi v144 c1_i32_75
  let v149 : BitVec 32 := Scalar.addi v137 v145
  let c8_i32_78 : BitVec 32 := 8#32
  let v150 : BitVec 32 := Scalar.muli v149 c8_i32_78
  let v151 : Index := Scalar.indexCast v150
  let c0_79 : Index := 0#32
  ![v151.toNat, 0]
def k1_off48 (v136 : BitVec 32) : Fin 2 → Nat :=
  let c19_i32_72 : BitVec 32 := 19#32
  let v142 : BitVec 32 := Scalar.shrsi v136 c19_i32_72
  let c255_i32_73 : BitVec 32 := 255#32
  let v143 : BitVec 32 := Scalar.andi v142 c255_i32_73
  let c8_i32_86 : BitVec 32 := 8#32
  let v170 : BitVec 32 := Scalar.muli v143 c8_i32_86
  let v171 : Index := Scalar.indexCast v170
  let c0_87 : Index := 0#32
  ![v171.toNat, 0]

def k1_chk7 (i : grid1.Coords) (v136 : BitVec 32) : Prop :=
  (∀ (k1_h4 : k1_cond4 i = 1#1), ∀ a, (k1_off46 v136) a + S8x128.size a ≤ S6504x128.size a) ∧
  (∀ (k1_h4 : k1_cond4 i = 1#1), ∀ a, (k1_off47 v136) a + S8x128.size a ≤ S6504x128.size a) ∧
  (∀ (k1_h4 : k1_cond4 i = 1#1), ∀ a, (k1_off48 v136) a + S8x128.size a ≤ S1536x128.size a)
theorem k1_off46_inb : ∀ (i : grid1.Coords) (v136 : BitVec 32) (k1_hw7 : k1_chk7 i v136), ∀ (k1_h4 : k1_cond4 i = 1#1), ∀ a, (k1_off46 v136) a + S8x128.size a ≤ S6504x128.size a := fun i v136 k1_hw7 k1_h4 => k1_hw7.1 k1_h4
theorem k1_off47_inb : ∀ (i : grid1.Coords) (v136 : BitVec 32) (k1_hw7 : k1_chk7 i v136), ∀ (k1_h4 : k1_cond4 i = 1#1), ∀ a, (k1_off47 v136) a + S8x128.size a ≤ S6504x128.size a := fun i v136 k1_hw7 k1_h4 => k1_hw7.2.1 k1_h4
theorem k1_off48_inb : ∀ (i : grid1.Coords) (v136 : BitVec 32) (k1_hw7 : k1_chk7 i v136), ∀ (k1_h4 : k1_cond4 i = 1#1), ∀ a, (k1_off48 v136) a + S8x128.size a ≤ S1536x128.size a := fun i v136 k1_hw7 k1_h4 => k1_hw7.2.2 k1_h4

def k1_off49 (i : grid1.Coords) (k1_t7 : Fin k1_t7_loop.trips) : Fin 3 → Nat :=
  let arg0 : BitVec 32 := BitVec.ofNat 32 (i 0).val
  let c1_i32 : BitVec 32 := 1#32
  let v8 : BitVec 32 := Scalar.andi arg0 c1_i32
  let c24640_i32_88 : BitVec 32 := 24640#32
  let v175 : BitVec 32 := Scalar.muli v8 c24640_i32_88
  let arg1 : BitVec 32 := BitVec.ofNat 32 (i 1).val
  let c308_i32 : BitVec 32 := 308#32
  let v91 : BitVec 32 := Scalar.muli arg1 c308_i32
  let c77_i32_18 : BitVec 32 := 77#32
  let c1_i32_20 : BitVec 32 := 1#32
  let arg12 : BitVec 32 := Scf.iv c77_i32_18 c1_i32_20 k1_t7
  let v92 : BitVec 32 := Scalar.addi v91 arg12
  let v176 : BitVec 32 := Scalar.addi v175 v92
  let v177 : Index := Scalar.indexCast v176
  let c0_89 : Index := 0#32
  ![v177.toNat, 0, 0]
def k1_mult19 (i : grid1.Coords) : BitVec 32 :=
  let c1_i32_22 : BitVec 32 := 1#32
  let arg0 : BitVec 32 := BitVec.ofNat 32 (i 0).val
  let c1_i32 : BitVec 32 := 1#32
  let v8 : BitVec 32 := Scalar.andi arg0 c1_i32
  let v35 : BitVec 32 := Scalar.subi c1_i32_22 v8
  let c24640_i32_23 : BitVec 32 := 24640#32
  let v36 : BitVec 32 := Scalar.muli v35 c24640_i32_23
  let c6160_i32 : BitVec 32 := 6160#32
  let v37 : BitVec 32 := Scalar.addi v36 c6160_i32
  v37
def k1_mult20 (i : grid1.Coords) : BitVec 32 :=
  let c1_i32_22 : BitVec 32 := 1#32
  let arg0 : BitVec 32 := BitVec.ofNat 32 (i 0).val
  let c1_i32 : BitVec 32 := 1#32
  let v8 : BitVec 32 := Scalar.andi arg0 c1_i32
  let v35 : BitVec 32 := Scalar.subi c1_i32_22 v8
  let c24640_i32_23 : BitVec 32 := 24640#32
  let v36 : BitVec 32 := Scalar.muli v35 c24640_i32_23
  let c9240_i32 : BitVec 32 := 9240#32
  let v42 : BitVec 32 := Scalar.addi v36 c9240_i32
  v42
@[reducible] def k1_t8_loop : Scf.Loop 32 :=
  let c154_i32 : BitVec 32 := 154#32
  let c77_i32_30 : BitVec 32 := 77#32
  let v53 : BitVec 32 := Scalar.addi c154_i32 c77_i32_30
  let c1_i32_31 : BitVec 32 := 1#32
  ⟨c154_i32, v53, c1_i32_31⟩
def k1_off50 (i : grid1.Coords) (k1_t8 : Fin k1_t8_loop.trips) : Fin 1 → Nat :=
  let c2_i32 : BitVec 32 := 2#32
  let arg1 : BitVec 32 := BitVec.ofNat 32 (i 1).val
  let c308_i32 : BitVec 32 := 308#32
  let v91 : BitVec 32 := Scalar.muli arg1 c308_i32
  let c154_i32 : BitVec 32 := 154#32
  let c1_i32_31 : BitVec 32 := 1#32
  let arg12 : BitVec 32 := Scf.iv c154_i32 c1_i32_31 k1_t8
  let v92 : BitVec 32 := Scalar.addi v91 arg12
  let v93 : BitVec 32 := Scalar.muli c2_i32 v92
  let v94 : Index := Scalar.indexCast v93
  ![v94.toNat]
def k1_off51 (v95 : BitVec 32) : Fin 2 → Nat :=
  let c1023_i32 : BitVec 32 := 1023#32
  let v96 : BitVec 32 := Scalar.andi v95 c1023_i32
  let c8_i32 : BitVec 32 := 8#32
  let v105 : BitVec 32 := Scalar.muli v96 c8_i32
  let v106 : Index := Scalar.indexCast v105
  let c0_54 : Index := 0#32
  ![v106.toNat, 0]

def k1_off52 (v95 : BitVec 32) : Fin 2 → Nat :=
  let c1023_i32 : BitVec 32 := 1023#32
  let v96 : BitVec 32 := Scalar.andi v95 c1023_i32
  let c27_i32 : BitVec 32 := 27#32
  let v103 : BitVec 32 := Scalar.shrsi v95 c27_i32
  let c1_i32_53 : BitVec 32 := 1#32
  let v104 : BitVec 32 := Scalar.andi v103 c1_i32_53
  let v108 : BitVec 32 := Scalar.addi v96 v104
  let c8_i32_55 : BitVec 32 := 8#32
  let v109 : BitVec 32 := Scalar.muli v108 c8_i32_55
  let v110 : Index := Scalar.indexCast v109
  let c0_56 : Index := 0#32
  ![v110.toNat, 0]
def k1_off53 (v95 : BitVec 32) : Fin 2 → Nat :=
  let c19_i32 : BitVec 32 := 19#32
  let v101 : BitVec 32 := Scalar.shrsi v95 c19_i32
  let c255_i32 : BitVec 32 := 255#32
  let v102 : BitVec 32 := Scalar.andi v101 c255_i32
  let c8_i32_63 : BitVec 32 := 8#32
  let v129 : BitVec 32 := Scalar.muli v102 c8_i32_63
  let v130 : Index := Scalar.indexCast v129
  let c0_64 : Index := 0#32
  ![v130.toNat, 0]

def k1_chk8 (i : grid1.Coords) (v95 : BitVec 32) : Prop :=
  (∀ (k1_h4 : k1_cond4 i = 1#1), ∀ a, (k1_off51 v95) a + S8x128.size a ≤ S6504x128.size a) ∧
  (∀ (k1_h4 : k1_cond4 i = 1#1), ∀ a, (k1_off52 v95) a + S8x128.size a ≤ S6504x128.size a) ∧
  (∀ (k1_h4 : k1_cond4 i = 1#1), ∀ a, (k1_off53 v95) a + S8x128.size a ≤ S1536x128.size a)
theorem k1_off51_inb : ∀ (i : grid1.Coords) (v95 : BitVec 32) (k1_hw8 : k1_chk8 i v95), ∀ (k1_h4 : k1_cond4 i = 1#1), ∀ a, (k1_off51 v95) a + S8x128.size a ≤ S6504x128.size a := fun i v95 k1_hw8 k1_h4 => k1_hw8.1 k1_h4
theorem k1_off52_inb : ∀ (i : grid1.Coords) (v95 : BitVec 32) (k1_hw8 : k1_chk8 i v95), ∀ (k1_h4 : k1_cond4 i = 1#1), ∀ a, (k1_off52 v95) a + S8x128.size a ≤ S6504x128.size a := fun i v95 k1_hw8 k1_h4 => k1_hw8.2.1 k1_h4
theorem k1_off53_inb : ∀ (i : grid1.Coords) (v95 : BitVec 32) (k1_hw8 : k1_chk8 i v95), ∀ (k1_h4 : k1_cond4 i = 1#1), ∀ a, (k1_off53 v95) a + S8x128.size a ≤ S1536x128.size a := fun i v95 k1_hw8 k1_h4 => k1_hw8.2.2 k1_h4

def k1_off54 (i : grid1.Coords) (k1_t8 : Fin k1_t8_loop.trips) : Fin 1 → Nat :=
  let c2_i32_65 : BitVec 32 := 2#32
  let arg1 : BitVec 32 := BitVec.ofNat 32 (i 1).val
  let c308_i32 : BitVec 32 := 308#32
  let v91 : BitVec 32 := Scalar.muli arg1 c308_i32
  let c154_i32 : BitVec 32 := 154#32
  let c1_i32_31 : BitVec 32 := 1#32
  let arg12 : BitVec 32 := Scf.iv c154_i32 c1_i32_31 k1_t8
  let v92 : BitVec 32 := Scalar.addi v91 arg12
  let v133 : BitVec 32 := Scalar.muli c2_i32_65 v92
  let c1_i32_66 : BitVec 32 := 1#32
  let v134 : BitVec 32 := Scalar.addi v133 c1_i32_66
  let v135 : Index := Scalar.indexCast v134
  ![v135.toNat]
def k1_off55 (v136 : BitVec 32) : Fin 2 → Nat :=
  let c1023_i32_67 : BitVec 32 := 1023#32
  let v137 : BitVec 32 := Scalar.andi v136 c1023_i32_67
  let c8_i32_76 : BitVec 32 := 8#32
  let v146 : BitVec 32 := Scalar.muli v137 c8_i32_76
  let v147 : Index := Scalar.indexCast v146
  let c0_77 : Index := 0#32
  ![v147.toNat, 0]

def k1_off56 (v136 : BitVec 32) : Fin 2 → Nat :=
  let c1023_i32_67 : BitVec 32 := 1023#32
  let v137 : BitVec 32 := Scalar.andi v136 c1023_i32_67
  let c27_i32_74 : BitVec 32 := 27#32
  let v144 : BitVec 32 := Scalar.shrsi v136 c27_i32_74
  let c1_i32_75 : BitVec 32 := 1#32
  let v145 : BitVec 32 := Scalar.andi v144 c1_i32_75
  let v149 : BitVec 32 := Scalar.addi v137 v145
  let c8_i32_78 : BitVec 32 := 8#32
  let v150 : BitVec 32 := Scalar.muli v149 c8_i32_78
  let v151 : Index := Scalar.indexCast v150
  let c0_79 : Index := 0#32
  ![v151.toNat, 0]
def k1_off57 (v136 : BitVec 32) : Fin 2 → Nat :=
  let c19_i32_72 : BitVec 32 := 19#32
  let v142 : BitVec 32 := Scalar.shrsi v136 c19_i32_72
  let c255_i32_73 : BitVec 32 := 255#32
  let v143 : BitVec 32 := Scalar.andi v142 c255_i32_73
  let c8_i32_86 : BitVec 32 := 8#32
  let v170 : BitVec 32 := Scalar.muli v143 c8_i32_86
  let v171 : Index := Scalar.indexCast v170
  let c0_87 : Index := 0#32
  ![v171.toNat, 0]

def k1_chk9 (i : grid1.Coords) (v136 : BitVec 32) : Prop :=
  (∀ (k1_h4 : k1_cond4 i = 1#1), ∀ a, (k1_off55 v136) a + S8x128.size a ≤ S6504x128.size a) ∧
  (∀ (k1_h4 : k1_cond4 i = 1#1), ∀ a, (k1_off56 v136) a + S8x128.size a ≤ S6504x128.size a) ∧
  (∀ (k1_h4 : k1_cond4 i = 1#1), ∀ a, (k1_off57 v136) a + S8x128.size a ≤ S1536x128.size a)
theorem k1_off55_inb : ∀ (i : grid1.Coords) (v136 : BitVec 32) (k1_hw9 : k1_chk9 i v136), ∀ (k1_h4 : k1_cond4 i = 1#1), ∀ a, (k1_off55 v136) a + S8x128.size a ≤ S6504x128.size a := fun i v136 k1_hw9 k1_h4 => k1_hw9.1 k1_h4
theorem k1_off56_inb : ∀ (i : grid1.Coords) (v136 : BitVec 32) (k1_hw9 : k1_chk9 i v136), ∀ (k1_h4 : k1_cond4 i = 1#1), ∀ a, (k1_off56 v136) a + S8x128.size a ≤ S6504x128.size a := fun i v136 k1_hw9 k1_h4 => k1_hw9.2.1 k1_h4
theorem k1_off57_inb : ∀ (i : grid1.Coords) (v136 : BitVec 32) (k1_hw9 : k1_chk9 i v136), ∀ (k1_h4 : k1_cond4 i = 1#1), ∀ a, (k1_off57 v136) a + S8x128.size a ≤ S1536x128.size a := fun i v136 k1_hw9 k1_h4 => k1_hw9.2.2 k1_h4

def k1_off58 (i : grid1.Coords) (k1_t8 : Fin k1_t8_loop.trips) : Fin 3 → Nat :=
  let arg0 : BitVec 32 := BitVec.ofNat 32 (i 0).val
  let c1_i32 : BitVec 32 := 1#32
  let v8 : BitVec 32 := Scalar.andi arg0 c1_i32
  let c24640_i32_88 : BitVec 32 := 24640#32
  let v175 : BitVec 32 := Scalar.muli v8 c24640_i32_88
  let arg1 : BitVec 32 := BitVec.ofNat 32 (i 1).val
  let c308_i32 : BitVec 32 := 308#32
  let v91 : BitVec 32 := Scalar.muli arg1 c308_i32
  let c154_i32 : BitVec 32 := 154#32
  let c1_i32_31 : BitVec 32 := 1#32
  let arg12 : BitVec 32 := Scf.iv c154_i32 c1_i32_31 k1_t8
  let v92 : BitVec 32 := Scalar.addi v91 arg12
  let v176 : BitVec 32 := Scalar.addi v175 v92
  let v177 : Index := Scalar.indexCast v176
  let c0_89 : Index := 0#32
  ![v177.toNat, 0, 0]
def k1_mult21 (i : grid1.Coords) : BitVec 32 :=
  let c1_i32_33 : BitVec 32 := 1#32
  let arg0 : BitVec 32 := BitVec.ofNat 32 (i 0).val
  let c1_i32 : BitVec 32 := 1#32
  let v8 : BitVec 32 := Scalar.andi arg0 c1_i32
  let v54 : BitVec 32 := Scalar.subi c1_i32_33 v8
  let c24640_i32_34 : BitVec 32 := 24640#32
  let v55 : BitVec 32 := Scalar.muli v54 c24640_i32_34
  let c12320_i32 : BitVec 32 := 12320#32
  let v56 : BitVec 32 := Scalar.addi v55 c12320_i32
  v56
def k1_mult22 (i : grid1.Coords) : BitVec 32 :=
  let c1_i32_33 : BitVec 32 := 1#32
  let arg0 : BitVec 32 := BitVec.ofNat 32 (i 0).val
  let c1_i32 : BitVec 32 := 1#32
  let v8 : BitVec 32 := Scalar.andi arg0 c1_i32
  let v54 : BitVec 32 := Scalar.subi c1_i32_33 v8
  let c24640_i32_34 : BitVec 32 := 24640#32
  let v55 : BitVec 32 := Scalar.muli v54 c24640_i32_34
  let c15400_i32 : BitVec 32 := 15400#32
  let v61 : BitVec 32 := Scalar.addi v55 c15400_i32
  v61
@[reducible] def k1_t9_loop : Scf.Loop 32 :=
  let c231_i32 : BitVec 32 := 231#32
  let c77_i32_41 : BitVec 32 := 77#32
  let v72 : BitVec 32 := Scalar.addi c231_i32 c77_i32_41
  let c1_i32_42 : BitVec 32 := 1#32
  ⟨c231_i32, v72, c1_i32_42⟩
def k1_off59 (i : grid1.Coords) (k1_t9 : Fin k1_t9_loop.trips) : Fin 1 → Nat :=
  let c2_i32 : BitVec 32 := 2#32
  let arg1 : BitVec 32 := BitVec.ofNat 32 (i 1).val
  let c308_i32 : BitVec 32 := 308#32
  let v91 : BitVec 32 := Scalar.muli arg1 c308_i32
  let c231_i32 : BitVec 32 := 231#32
  let c1_i32_42 : BitVec 32 := 1#32
  let arg12 : BitVec 32 := Scf.iv c231_i32 c1_i32_42 k1_t9
  let v92 : BitVec 32 := Scalar.addi v91 arg12
  let v93 : BitVec 32 := Scalar.muli c2_i32 v92
  let v94 : Index := Scalar.indexCast v93
  ![v94.toNat]
def k1_off60 (v95 : BitVec 32) : Fin 2 → Nat :=
  let c1023_i32 : BitVec 32 := 1023#32
  let v96 : BitVec 32 := Scalar.andi v95 c1023_i32
  let c8_i32 : BitVec 32 := 8#32
  let v105 : BitVec 32 := Scalar.muli v96 c8_i32
  let v106 : Index := Scalar.indexCast v105
  let c0_54 : Index := 0#32
  ![v106.toNat, 0]

def k1_off61 (v95 : BitVec 32) : Fin 2 → Nat :=
  let c1023_i32 : BitVec 32 := 1023#32
  let v96 : BitVec 32 := Scalar.andi v95 c1023_i32
  let c27_i32 : BitVec 32 := 27#32
  let v103 : BitVec 32 := Scalar.shrsi v95 c27_i32
  let c1_i32_53 : BitVec 32 := 1#32
  let v104 : BitVec 32 := Scalar.andi v103 c1_i32_53
  let v108 : BitVec 32 := Scalar.addi v96 v104
  let c8_i32_55 : BitVec 32 := 8#32
  let v109 : BitVec 32 := Scalar.muli v108 c8_i32_55
  let v110 : Index := Scalar.indexCast v109
  let c0_56 : Index := 0#32
  ![v110.toNat, 0]
def k1_off62 (v95 : BitVec 32) : Fin 2 → Nat :=
  let c19_i32 : BitVec 32 := 19#32
  let v101 : BitVec 32 := Scalar.shrsi v95 c19_i32
  let c255_i32 : BitVec 32 := 255#32
  let v102 : BitVec 32 := Scalar.andi v101 c255_i32
  let c8_i32_63 : BitVec 32 := 8#32
  let v129 : BitVec 32 := Scalar.muli v102 c8_i32_63
  let v130 : Index := Scalar.indexCast v129
  let c0_64 : Index := 0#32
  ![v130.toNat, 0]

def k1_chk10 (i : grid1.Coords) (v95 : BitVec 32) : Prop :=
  (∀ (k1_h4 : k1_cond4 i = 1#1), ∀ a, (k1_off60 v95) a + S8x128.size a ≤ S6504x128.size a) ∧
  (∀ (k1_h4 : k1_cond4 i = 1#1), ∀ a, (k1_off61 v95) a + S8x128.size a ≤ S6504x128.size a) ∧
  (∀ (k1_h4 : k1_cond4 i = 1#1), ∀ a, (k1_off62 v95) a + S8x128.size a ≤ S1536x128.size a)
theorem k1_off60_inb : ∀ (i : grid1.Coords) (v95 : BitVec 32) (k1_hw10 : k1_chk10 i v95), ∀ (k1_h4 : k1_cond4 i = 1#1), ∀ a, (k1_off60 v95) a + S8x128.size a ≤ S6504x128.size a := fun i v95 k1_hw10 k1_h4 => k1_hw10.1 k1_h4
theorem k1_off61_inb : ∀ (i : grid1.Coords) (v95 : BitVec 32) (k1_hw10 : k1_chk10 i v95), ∀ (k1_h4 : k1_cond4 i = 1#1), ∀ a, (k1_off61 v95) a + S8x128.size a ≤ S6504x128.size a := fun i v95 k1_hw10 k1_h4 => k1_hw10.2.1 k1_h4
theorem k1_off62_inb : ∀ (i : grid1.Coords) (v95 : BitVec 32) (k1_hw10 : k1_chk10 i v95), ∀ (k1_h4 : k1_cond4 i = 1#1), ∀ a, (k1_off62 v95) a + S8x128.size a ≤ S1536x128.size a := fun i v95 k1_hw10 k1_h4 => k1_hw10.2.2 k1_h4

def k1_off63 (i : grid1.Coords) (k1_t9 : Fin k1_t9_loop.trips) : Fin 1 → Nat :=
  let c2_i32_65 : BitVec 32 := 2#32
  let arg1 : BitVec 32 := BitVec.ofNat 32 (i 1).val
  let c308_i32 : BitVec 32 := 308#32
  let v91 : BitVec 32 := Scalar.muli arg1 c308_i32
  let c231_i32 : BitVec 32 := 231#32
  let c1_i32_42 : BitVec 32 := 1#32
  let arg12 : BitVec 32 := Scf.iv c231_i32 c1_i32_42 k1_t9
  let v92 : BitVec 32 := Scalar.addi v91 arg12
  let v133 : BitVec 32 := Scalar.muli c2_i32_65 v92
  let c1_i32_66 : BitVec 32 := 1#32
  let v134 : BitVec 32 := Scalar.addi v133 c1_i32_66
  let v135 : Index := Scalar.indexCast v134
  ![v135.toNat]
def k1_off64 (v136 : BitVec 32) : Fin 2 → Nat :=
  let c1023_i32_67 : BitVec 32 := 1023#32
  let v137 : BitVec 32 := Scalar.andi v136 c1023_i32_67
  let c8_i32_76 : BitVec 32 := 8#32
  let v146 : BitVec 32 := Scalar.muli v137 c8_i32_76
  let v147 : Index := Scalar.indexCast v146
  let c0_77 : Index := 0#32
  ![v147.toNat, 0]

def k1_off65 (v136 : BitVec 32) : Fin 2 → Nat :=
  let c1023_i32_67 : BitVec 32 := 1023#32
  let v137 : BitVec 32 := Scalar.andi v136 c1023_i32_67
  let c27_i32_74 : BitVec 32 := 27#32
  let v144 : BitVec 32 := Scalar.shrsi v136 c27_i32_74
  let c1_i32_75 : BitVec 32 := 1#32
  let v145 : BitVec 32 := Scalar.andi v144 c1_i32_75
  let v149 : BitVec 32 := Scalar.addi v137 v145
  let c8_i32_78 : BitVec 32 := 8#32
  let v150 : BitVec 32 := Scalar.muli v149 c8_i32_78
  let v151 : Index := Scalar.indexCast v150
  let c0_79 : Index := 0#32
  ![v151.toNat, 0]
def k1_off66 (v136 : BitVec 32) : Fin 2 → Nat :=
  let c19_i32_72 : BitVec 32 := 19#32
  let v142 : BitVec 32 := Scalar.shrsi v136 c19_i32_72
  let c255_i32_73 : BitVec 32 := 255#32
  let v143 : BitVec 32 := Scalar.andi v142 c255_i32_73
  let c8_i32_86 : BitVec 32 := 8#32
  let v170 : BitVec 32 := Scalar.muli v143 c8_i32_86
  let v171 : Index := Scalar.indexCast v170
  let c0_87 : Index := 0#32
  ![v171.toNat, 0]

def k1_chk11 (i : grid1.Coords) (v136 : BitVec 32) : Prop :=
  (∀ (k1_h4 : k1_cond4 i = 1#1), ∀ a, (k1_off64 v136) a + S8x128.size a ≤ S6504x128.size a) ∧
  (∀ (k1_h4 : k1_cond4 i = 1#1), ∀ a, (k1_off65 v136) a + S8x128.size a ≤ S6504x128.size a) ∧
  (∀ (k1_h4 : k1_cond4 i = 1#1), ∀ a, (k1_off66 v136) a + S8x128.size a ≤ S1536x128.size a)
theorem k1_off64_inb : ∀ (i : grid1.Coords) (v136 : BitVec 32) (k1_hw11 : k1_chk11 i v136), ∀ (k1_h4 : k1_cond4 i = 1#1), ∀ a, (k1_off64 v136) a + S8x128.size a ≤ S6504x128.size a := fun i v136 k1_hw11 k1_h4 => k1_hw11.1 k1_h4
theorem k1_off65_inb : ∀ (i : grid1.Coords) (v136 : BitVec 32) (k1_hw11 : k1_chk11 i v136), ∀ (k1_h4 : k1_cond4 i = 1#1), ∀ a, (k1_off65 v136) a + S8x128.size a ≤ S6504x128.size a := fun i v136 k1_hw11 k1_h4 => k1_hw11.2.1 k1_h4
theorem k1_off66_inb : ∀ (i : grid1.Coords) (v136 : BitVec 32) (k1_hw11 : k1_chk11 i v136), ∀ (k1_h4 : k1_cond4 i = 1#1), ∀ a, (k1_off66 v136) a + S8x128.size a ≤ S1536x128.size a := fun i v136 k1_hw11 k1_h4 => k1_hw11.2.2 k1_h4

def k1_off67 (i : grid1.Coords) (k1_t9 : Fin k1_t9_loop.trips) : Fin 3 → Nat :=
  let arg0 : BitVec 32 := BitVec.ofNat 32 (i 0).val
  let c1_i32 : BitVec 32 := 1#32
  let v8 : BitVec 32 := Scalar.andi arg0 c1_i32
  let c24640_i32_88 : BitVec 32 := 24640#32
  let v175 : BitVec 32 := Scalar.muli v8 c24640_i32_88
  let arg1 : BitVec 32 := BitVec.ofNat 32 (i 1).val
  let c308_i32 : BitVec 32 := 308#32
  let v91 : BitVec 32 := Scalar.muli arg1 c308_i32
  let c231_i32 : BitVec 32 := 231#32
  let c1_i32_42 : BitVec 32 := 1#32
  let arg12 : BitVec 32 := Scf.iv c231_i32 c1_i32_42 k1_t9
  let v92 : BitVec 32 := Scalar.addi v91 arg12
  let v176 : BitVec 32 := Scalar.addi v175 v92
  let v177 : Index := Scalar.indexCast v176
  let c0_89 : Index := 0#32
  ![v177.toNat, 0, 0]
def k1_mult23 (i : grid1.Coords) : BitVec 32 :=
  let c1_i32_44 : BitVec 32 := 1#32
  let arg0 : BitVec 32 := BitVec.ofNat 32 (i 0).val
  let c1_i32 : BitVec 32 := 1#32
  let v8 : BitVec 32 := Scalar.andi arg0 c1_i32
  let v73 : BitVec 32 := Scalar.subi c1_i32_44 v8
  let c24640_i32_45 : BitVec 32 := 24640#32
  let v74 : BitVec 32 := Scalar.muli v73 c24640_i32_45
  let c18480_i32 : BitVec 32 := 18480#32
  let v75 : BitVec 32 := Scalar.addi v74 c18480_i32
  v75
def k1_mult24 (i : grid1.Coords) : BitVec 32 :=
  let c1_i32_44 : BitVec 32 := 1#32
  let arg0 : BitVec 32 := BitVec.ofNat 32 (i 0).val
  let c1_i32 : BitVec 32 := 1#32
  let v8 : BitVec 32 := Scalar.andi arg0 c1_i32
  let v73 : BitVec 32 := Scalar.subi c1_i32_44 v8
  let c24640_i32_45 : BitVec 32 := 24640#32
  let v74 : BitVec 32 := Scalar.muli v73 c24640_i32_45
  let c21560_i32 : BitVec 32 := 21560#32
  let v80 : BitVec 32 := Scalar.addi v74 c21560_i32
  v80
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc1_transform_3 (i : grid1.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage1_0 : Fin 1 → Memref sig .tc .smem S6144 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .smem S6144 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x6144 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S813x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S192x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S2x2560x6144 : Shape := ⟨3, ![2, 2560, 6144]⟩
abbrev S6144 : Shape := ⟨1, ![6144]⟩
abbrev S813x24576 : Shape := ⟨2, ![813, 24576]⟩
abbrev S192x24576 : Shape := ⟨2, ![192, 24576]⟩
abbrev S1536 : Shape := ⟨1, ![1536]⟩
abbrev S_ : Shape := ⟨0, ![]⟩
abbrev S2x2560 : Shape := ⟨2, ![2, 2560]⟩
abbrev S2x2560x1 : Shape := ⟨3, ![2, 2560, 1]⟩
abbrev S1x1x6144 : Shape := ⟨3, ![1, 1, 6144]⟩
abbrev S1536x1 : Shape := ⟨2, ![1536, 1]⟩
abbrev S1536x24576 : Shape := ⟨2, ![1536, 24576]⟩
abbrev S4 : Shape := ⟨1, ![4]⟩
abbrev S4x1 : Shape := ⟨2, ![4, 1]⟩
abbrev S1x1536 : Shape := ⟨2, ![1, 1536]⟩
abbrev S4x1536 : Shape := ⟨2, ![4, 1536]⟩
abbrev S4x1536x1 : Shape := ⟨3, ![4, 1536, 1]⟩
abbrev S1x1536x1 : Shape := ⟨3, ![1, 1536, 1]⟩
abbrev S192x8x24576 : Shape := ⟨3, ![192, 8, 24576]⟩
abbrev S1x1536x24576 : Shape := ⟨3, ![1, 1536, 24576]⟩
abbrev S4x1536x24576 : Shape := ⟨3, ![4, 1536, 24576]⟩
abbrev S6144x24576 : Shape := ⟨2, ![6144, 24576]⟩
abbrev S1536x4 : Shape := ⟨2, ![1536, 4]⟩
abbrev S5120x6144 : Shape := ⟨2, ![5120, 6144]⟩
abbrev S6144x5120 : Shape := ⟨2, ![6144, 5120]⟩
abbrev S6144x1 : Shape := ⟨2, ![6144, 1]⟩
abbrev S5120x24576 : Shape := ⟨2, ![5120, 24576]⟩
abbrev S2x2560x24576 : Shape := ⟨3, ![2, 2560, 24576]⟩

abbrev nBuf : Space → Nat
  | .hbm => 97
  | .vmem => 0
  | .smem => 0
  | _ => 0

abbrev bufTy : (tb : Table) → Fin (tcTables nBuf tb) → BufTy
  | .hbm, ⟨0, _⟩ => ⟨S2x2560x6144, .bf16⟩
  | .hbm, ⟨1, _⟩ => ⟨S2x2560x6144, .bf16⟩
  | .hbm, ⟨2, _⟩ => ⟨S6144, .f32⟩
  | .hbm, ⟨3, _⟩ => ⟨S6144, .i32⟩
  | .hbm, ⟨4, _⟩ => ⟨S813x24576, .i32⟩
  | .hbm, ⟨5, _⟩ => ⟨S192x24576, .bf16⟩
  | .hbm, ⟨6, _⟩ => ⟨S1536, .i32⟩
  | .hbm, ⟨7, _⟩ => ⟨S1536, .i32⟩
  | .hbm, ⟨8, _⟩ => ⟨S1536, .i32⟩
  | .hbm, ⟨9, _⟩ => ⟨S1536, .i32⟩
  | .hbm, ⟨10, _⟩ => ⟨S2x2560x6144, .f32⟩
  | .hbm, ⟨11, _⟩ => ⟨S2x2560x6144, .f32⟩
  | .hbm, ⟨12, _⟩ => ⟨S2x2560x6144, .f32⟩
  | .hbm, ⟨13, _⟩ => ⟨S2x2560x6144, .bf16⟩
  | .hbm, ⟨14, _⟩ => ⟨S2x2560x6144, .f32⟩
  | .hbm, ⟨15, _⟩ => ⟨S2x2560x6144, .f32⟩
  | .hbm, ⟨16, _⟩ => ⟨S_, .f32⟩
  | .hbm, ⟨17, _⟩ => ⟨S2x2560, .f32⟩
  | .hbm, ⟨18, _⟩ => ⟨S2x2560x1, .f32⟩
  | .hbm, ⟨19, _⟩ => ⟨S_, .f32⟩
  | .hbm, ⟨20, _⟩ => ⟨S2x2560x1, .f32⟩
  | .hbm, ⟨21, _⟩ => ⟨S2x2560x1, .f32⟩
  | .hbm, ⟨22, _⟩ => ⟨S_, .f32⟩
  | .hbm, ⟨23, _⟩ => ⟨S2x2560x1, .f32⟩
  | .hbm, ⟨24, _⟩ => ⟨S2x2560x1, .f32⟩
  | .hbm, ⟨25, _⟩ => ⟨S2x2560x1, .f32⟩
  | .hbm, ⟨26, _⟩ => ⟨S2x2560x6144, .f32⟩
  | .hbm, ⟨27, _⟩ => ⟨S2x2560x6144, .f32⟩
  | .hbm, ⟨28, _⟩ => ⟨S1x1x6144, .f32⟩
  | .hbm, ⟨29, _⟩ => ⟨S2x2560x6144, .f32⟩
  | .hbm, ⟨30, _⟩ => ⟨S2x2560x6144, .f32⟩
  | .hbm, ⟨31, _⟩ => ⟨S2x2560x6144, .bf16⟩
  | .hbm, ⟨32, _⟩ => ⟨S1536x1, .i32⟩
  | .hbm, ⟨33, _⟩ => ⟨S1536x1, .i32⟩
  | .hbm, ⟨34, _⟩ => ⟨S1536x24576, .i32⟩
  | .hbm, ⟨35, _⟩ => ⟨S1536x1, .i32⟩
  | .hbm, ⟨36, _⟩ => ⟨S1536x24576, .i32⟩
  | .hbm, ⟨37, _⟩ => ⟨S1536x24576, .i32⟩
  | .hbm, ⟨38, _⟩ => ⟨S1536x24576, .i32⟩
  | .hbm, ⟨39, _⟩ => ⟨S_, .i32⟩
  | .hbm, ⟨40, _⟩ => ⟨S1536x24576, .i32⟩
  | .hbm, ⟨41, _⟩ => ⟨S1536x24576, .i32⟩
  | .hbm, ⟨42, _⟩ => ⟨S_, .i32⟩
  | .hbm, ⟨43, _⟩ => ⟨S1536x1, .i32⟩
  | .hbm, ⟨44, _⟩ => ⟨S1536x1, .i32⟩
  | .hbm, ⟨45, _⟩ => ⟨S1536x24576, .i32⟩
  | .hbm, ⟨46, _⟩ => ⟨S1536x24576, .i32⟩
  | .hbm, ⟨47, _⟩ => ⟨S1536x24576, .i32⟩
  | .hbm, ⟨48, _⟩ => ⟨S4, .i32⟩
  | .hbm, ⟨49, _⟩ => ⟨S4x1, .i32⟩
  | .hbm, ⟨50, _⟩ => ⟨S1x1536, .i32⟩
  | .hbm, ⟨51, _⟩ => ⟨S4x1536, .i32⟩
  | .hbm, ⟨52, _⟩ => ⟨S4x1536, .i32⟩
  | .hbm, ⟨53, _⟩ => ⟨S4x1536, .i32⟩
  | .hbm, ⟨54, _⟩ => ⟨S4x1536, .i32⟩
  | .hbm, ⟨55, _⟩ => ⟨S4x1536x1, .i32⟩
  | .hbm, ⟨56, _⟩ => ⟨S_, .i32⟩
  | .hbm, ⟨57, _⟩ => ⟨S1536, .i32⟩
  | .hbm, ⟨58, _⟩ => ⟨S1536, .i32⟩
  | .hbm, ⟨59, _⟩ => ⟨S_, .i32⟩
  | .hbm, ⟨60, _⟩ => ⟨S1536, .i32⟩
  | .hbm, ⟨61, _⟩ => ⟨S1536, .i32⟩
  | .hbm, ⟨62, _⟩ => ⟨S1536, .i32⟩
  | .hbm, ⟨63, _⟩ => ⟨S1x1536x1, .i32⟩
  | .hbm, ⟨64, _⟩ => ⟨S_, .i32⟩
  | .hbm, ⟨65, _⟩ => ⟨S1536, .i32⟩
  | .hbm, ⟨66, _⟩ => ⟨S1536, .i32⟩
  | .hbm, ⟨67, _⟩ => ⟨S_, .i32⟩
  | .hbm, ⟨68, _⟩ => ⟨S1536, .i32⟩
  | .hbm, ⟨69, _⟩ => ⟨S1536, .i32⟩
  | .hbm, ⟨70, _⟩ => ⟨S1x1536x1, .i32⟩
  | .hbm, ⟨71, _⟩ => ⟨S192x8x24576, .bf16⟩
  | .hbm, ⟨72, _⟩ => ⟨S1536x24576, .bf16⟩
  | .hbm, ⟨73, _⟩ => ⟨S1x1536x24576, .i32⟩
  | .hbm, ⟨74, _⟩ => ⟨S4x1536x24576, .i32⟩
  | .hbm, ⟨75, _⟩ => ⟨S4x1536x24576, .i32⟩
  | .hbm, ⟨76, _⟩ => ⟨S4x1536x24576, .i32⟩
  | .hbm, ⟨77, _⟩ => ⟨S4x1536x24576, .i32⟩
  | .hbm, ⟨78, _⟩ => ⟨S4x1536x24576, .i32⟩
  | .hbm, ⟨79, _⟩ => ⟨S4x1536x24576, .i32⟩
  | .hbm, ⟨80, _⟩ => ⟨S4x1536x24576, .i32⟩
  | .hbm, ⟨81, _⟩ => ⟨S4x1536x24576, .i32⟩
  | .hbm, ⟨82, _⟩ => ⟨S4x1536x24576, .bf16⟩
  | .hbm, ⟨83, _⟩ => ⟨S1x1536x24576, .bf16⟩
  | .hbm, ⟨84, _⟩ => ⟨S4x1536x24576, .bf16⟩
  | .hbm, ⟨85, _⟩ => ⟨S4x1536x24576, .bf16⟩
  | .hbm, ⟨86, _⟩ => ⟨S6144x24576, .bf16⟩
  | .hbm, ⟨87, _⟩ => ⟨S1536x4, .i32⟩
  | .hbm, ⟨88, _⟩ => ⟨S4x1536, .i32⟩
  | .hbm, ⟨89, _⟩ => ⟨S6144, .i32⟩
  | .hbm, ⟨90, _⟩ => ⟨S5120x6144, .bf16⟩
  | .hbm, ⟨91, _⟩ => ⟨S6144x5120, .bf16⟩
  | .hbm, ⟨92, _⟩ => ⟨S6144x1, .i32⟩
  | .hbm, ⟨93, _⟩ => ⟨S6144x5120, .bf16⟩
  | .hbm, ⟨94, _⟩ => ⟨S5120x24576, .f32⟩
  | .hbm, ⟨95, _⟩ => ⟨S5120x24576, .bf16⟩
  | .hbm, ⟨96, _⟩ => ⟨S2x2560x24576, .bf16⟩
  | _, _ => ⟨S2x2560x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_v20 : Ref sig .tc := ⟨.hbm, 34, rfl⟩
abbrev main_call1_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_call2_v0 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩

abbrev nD : Nat := 1
abbrev τ : Topo := Topo.v7x

variable {F : FTy → Type} [FloatOps F]
-- ==== Proof.PermPre.lean ====
module

public import proofs.«01_k».proof.Pre_permutation
public import proofs.«01_k».proof.Proof.Gen.Pre_permutation
public import Idealize.ShloMosaic.Lib.ReduceAll
public import Idealize.ShloMosaic.Lib.Pipeline.Value
public import Idealize.ShloMosaic.Lib.Pointwise

@[expose] public section

noncomputable section

/-! # The precondition, read back: the permutation's entries lie in range and differ -/

namespace Cert.Pre_permutation

open Idealize.ShloMosaic

theorem ofBool_one {b : Bool} (h : BitVec.ofBool b = 1#1) : b = true := by
  revert h; cases b <;> decide

theorem cmp_sge {a b : BitVec 32} (h : IntOp.cmpi .sge a b = 1#1) : b.toInt ≤ a.toInt := by
  simpa [BitVec.sle_eq_decide] using ofBool_one h

theorem cmp_slt {a b : BitVec 32} (h : IntOp.cmpi .slt a b = 1#1) : a.toInt < b.toInt := by
  simpa [BitVec.slt_eq_decide] using ofBool_one h

theorem cmp_ne {a b : BitVec 32} (h : IntOp.cmpi .ne a b = 1#1) : a ≠ b := by
  simpa using ofBool_one h

theorem cmp_eq {a b : BitVec 32} (h : IntOp.cmpi .eq a b = 1#1) : a = b := by
  simpa using ofBool_one h

theorem or_one {a b : BitVec 1} (h : IntOp.ori a b = 1#1) : a = 1#1 ∨ b = 1#1 := by
  revert a b; decide

variable {F : FTy → Type} [FloatOps F]

/-- A permutation in the predicate's sense has its entries in range, and no two equal. -/
theorem perm_of [hf : Facts] (a0 : FVec F S2x2560x6144 .bf16) (a1 : FVec F S2x2560x6144 .bf16) (a2 : FVec F S6144 .f32) (P : IVec S6144 32)
    (a4 : IVec S813x24576 32) (a5 : FVec F S192x24576 .bf16) (h : fn (F := F) a0 a1 a2 P a4 a5 = fun _ => 1#1) :
    (∀ r : Fin 6144, (P (ValueIdx.ix1 r)).toNat < 6144) ∧ ∀ r r' : Fin 6144, P (ValueIdx.ix1 r) = P (ValueIdx.ix1 r') → r = r' := by
  haveI : Subsingleton S_.Idx := ⟨fun a b => funext fun i => i.elim0⟩
  have h0 := congrFun h ((fun i => i.elim0 : (i : Fin 0) → _))
  obtain ⟨h1, h2⟩ := IntOp.andi_eq_one.1 h0
  constructor
  · intro r
    have := Host.reduce_andi_all _ _ _ _ _ h1 (ValueIdx.ix1 r)
    obtain ⟨hl, hu⟩ := IntOp.andi_eq_one.1 this
    have hl' := cmp_sge hl
    have hu' := cmp_slt hu
    have e0 : (broadcastInDim S6144 ![] hf.bcast_S_S6144 (constantI S_ 32 0#32) (ValueIdx.ix1 r) : BitVec 32).toInt = 0 := rfl
    have e1 : (broadcastInDim S6144 ![] hf.bcast_S_S6144 (constantI S_ 32 6144#32) (ValueIdx.ix1 r) : BitVec 32).toInt = 6144 := rfl
    rw [e0] at hl'; rw [e1] at hu'
    rw [BitVec.toInt_eq_toNat_cond] at hl' hu'
    split at hl' <;> omega
  · intro r r' he
    have := Host.reduce_andi_all _ _ _ _ _ h2 (ValueIdx.ix2 r r')
    have hb1 : ∀ x : S6144.Idx → BitVec 32, broadcastInDim S6144x6144 ![0, 1] hf.bcast_S6144x1_S6144x6144_0_1 (broadcastInDim S6144x1 ![0] hf.bcast_S6144_S6144x1_0 x) (ValueIdx.ix2 r r') = x (ValueIdx.ix1 r) := fun x => by
      pointwise; try rfl
    have hb2 : ∀ x : S6144.Idx → BitVec 32, broadcastInDim S6144x6144 ![0, 1] hf.bcast_S1x6144_S6144x6144_0_1 (broadcastInDim S1x6144 ![1] hf.bcast_S6144_S1x6144_1 x) (ValueIdx.ix2 r r') = x (ValueIdx.ix1 r') := fun x => by
      pointwise; try rfl
    rcases or_one this with hn | heq
    · exact absurd (by rw [hb1, hb2]; exact he) (cmp_ne hn)
    · have := cmp_eq heq
      rw [hb1, hb2] at this
      have e : ∀ k : Fin 6144, iotaInDim S6144 32 0 (ValueIdx.ix1 k) = BitVec.ofNat 32 k.val := fun k => rfl
      rw [e, e] at this
      have hh := congrArg BitVec.toNat this
      rw [BitVec.toNat_ofNat, BitVec.toNat_ofNat, Nat.mod_eq_of_lt (by omega), Nat.mod_eq_of_lt (by omega)] at hh
      exact Fin.ext hh

end Cert.Pre_permutation

end
-- ==== Proof.NormCall.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Norm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec0 c` at any index and level type. -/
def ΦK (c : Dev nD) : sProp 𝕄 :=
  iprop(Pipeline.scopedRest (Ix := Ix) (Name := ℕ) (U := U) (Lvl := Lvl) (Val := Elt F) spec0 c ∗ ∃ r, prngReg c r)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`)by `Dat.before_in_eq_fetched` (unfetched, the index has not moved), the window uncut and never idle. -/
theorem before0_0_of {c : Dev nD} (dat : Dat τ (Elt F) Ix ℕ U Lvl cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`)by `Dat.before_in_eq_fetched` (unfetched, the index has not moved), the window uncut and never idle. -/
theorem before0_1_of {c : Dev nD} (dat : Dat τ (Elt F) Ix ℕ U Lvl cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`)by `Dat.before_in_eq_fetched` (unfetched, the index has not moved), the window uncut and never idle. -/
theorem before0_2_of {c : Dev nD} (dat : Dat τ (Elt F) Ix ℕ U Lvl cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 3, through which its contents are stated (`View.read_writes_of_cover`: the
    choice does not matter). -/
abbrev VO0_3 : View sig .tc .vmem S256x6144 .bf16 := (Memref.whole cc0_stg3_0 : Memref sig .tc .vmem S256x6144 .bf16).view
/-- One staging buffer of output window 4, through which its contents are stated (`View.read_writes_of_cover`: the
    choice does not matter). -/
abbrev VO0_4 : View sig .tc .vmem S256x6144 .bf16 := (Memref.whole cc0_stg4_0 : Memref sig .tc .vmem S256x6144 .bf16).view
/-- Each window's current staging memref at point `t`, spelled as the pipeline passes it (`bodyAt0`), and its wholeness. -/
abbrev ms0_0 (t : Fin cfg0.N) : Memref sig .tc .vmem S256x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x6144 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6144 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x6144 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x6144 .bf16 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs; the pieces are
    the witness that run finds (assigned when `iexact` hands the buffer to the continuation). -/
noncomputable def kernelRun0_A (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S1x6144 .f32) (harg3 : arg3.IsWhole) (arg4 : Memref sig .tc .vmem S256x6144 .bf16) (harg4 : arg4.IsWhole) (arg5 : Memref sig .tc .vmem S256x6144 .bf16) (harg5 : arg5.IsWhole)
    (x0 : Vec F S256x6144 .bf16) (x1 : Vec F S256x6144 .bf16) (x2 : Vec F S1x6144 .f32) :
    Σ' (L3 : List (View.Piece (Elt F) S256x6144 .bf16)), { L4 : List (View.Piece (Elt F) S256x6144 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) 𝒱₀ c none) E (cc0_add_rmsnorm i arg1 harg1 arg2 harg2 arg3 harg3 arg4 harg4 arg5 harg5) K } := by
  refine ⟨?_, ?_, fun E K => ?run⟩
  case run =>
    simp only [cc0_add_rmsnorm_eq_skeleton]; unfold cc0_add_rmsnorm_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-- The run's pieces for output 3 tile its block (1 store of `S256x6144`, checked by the kernel's evaluationby `Piece.tiledL`, linear in the pieces, through a loop's `@[irreducible]` trip theorem too), so they cover it. -/
theorem cover0_A_3 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S1x6144 .f32) (harg3 : arg3.IsWhole) (arg4 : Memref sig .tc .vmem S256x6144 .bf16) (harg4 : arg4.IsWhole) (arg5 : Memref sig .tc .vmem S256x6144 .bf16) (harg5 : arg5.IsWhole)
    (x0 : Vec F S256x6144 .bf16) (x1 : Vec F S256x6144 .bf16) (x2 : Vec F S1x6144 .f32) (y : S256x6144.Idx) :
    ∃ pc ∈ (kernelRun0_A (Ix := Ix) (U := U) (Lvl := Lvl) 𝒱₀ c i arg1 harg1 arg2 harg2 arg3 harg3 arg4 harg4 arg5 harg5 x0 x1 x2).1, y ∈ pc.1.set :=
  View.cover_of_tiledL (kernelRun0_A (Ix := Ix) (U := U) (Lvl := Lvl) 𝒱₀ c i arg1 harg1 arg2 harg2 arg3 harg3 arg4 harg4 arg5 harg5 x0 x1 x2).1 S256x6144.size (by sl_kernel_rfl) y

/-- What the run leaves in output 3's staging buffer: its pieces read back over junk. -/
def out0_A_3 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S1x6144 .f32) (harg3 : arg3.IsWhole) (arg4 : Memref sig .tc .vmem S256x6144 .bf16) (harg4 : arg4.IsWhole) (arg5 : Memref sig .tc .vmem S256x6144 .bf16) (harg5 : arg5.IsWhole)
    (x0 : Vec F S256x6144 .bf16) (x1 : Vec F S256x6144 .bf16) (x2 : Vec F S1x6144 .f32) : Vec F S256x6144 .bf16 :=
  VO0_3.read (Elt F) (VO0_3.writes (Elt F) VO0_3.junk (kernelRun0_A (Ix := Ix) (U := U) (Lvl := Lvl) 𝒱₀ c i arg1 harg1 arg2 harg2 arg3 harg3 arg4 harg4 arg5 harg5 x0 x1 x2).1)

/-- The run's pieces for output 4 tile its block (1 store of `S256x6144`, checked by the kernel's evaluationby `Piece.tiledL`, linear in the pieces, through a loop's `@[irreducible]` trip theorem too), so they cover it. -/
theorem cover0_A_4 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S1x6144 .f32) (harg3 : arg3.IsWhole) (arg4 : Memref sig .tc .vmem S256x6144 .bf16) (harg4 : arg4.IsWhole) (arg5 : Memref sig .tc .vmem S256x6144 .bf16) (harg5 : arg5.IsWhole)
    (x0 : Vec F S256x6144 .bf16) (x1 : Vec F S256x6144 .bf16) (x2 : Vec F S1x6144 .f32) (y : S256x6144.Idx) :
    ∃ pc ∈ (kernelRun0_A (Ix := Ix) (U := U) (Lvl := Lvl) 𝒱₀ c i arg1 harg1 arg2 harg2 arg3 harg3 arg4 harg4 arg5 harg5 x0 x1 x2).2.1, y ∈ pc.1.set :=
  View.cover_of_tiledL (kernelRun0_A (Ix := Ix) (U := U) (Lvl := Lvl) 𝒱₀ c i arg1 harg1 arg2 harg2 arg3 harg3 arg4 harg4 arg5 harg5 x0 x1 x2).2.1 S256x6144.size (by sl_kernel_rfl) y

/-- What the run leaves in output 4's staging buffer: its pieces read back over junk. -/
def out0_A_4 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S1x6144 .f32) (harg3 : arg3.IsWhole) (arg4 : Memref sig .tc .vmem S256x6144 .bf16) (harg4 : arg4.IsWhole) (arg5 : Memref sig .tc .vmem S256x6144 .bf16) (harg5 : arg5.IsWhole)
    (x0 : Vec F S256x6144 .bf16) (x1 : Vec F S256x6144 .bf16) (x2 : Vec F S1x6144 .f32) : Vec F S256x6144 .bf16 :=
  VO0_4.read (Elt F) (VO0_4.writes (Elt F) VO0_4.junk (kernelRun0_A (Ix := Ix) (U := U) (Lvl := Lvl) 𝒱₀ c i arg1 harg1 arg2 harg2 arg3 harg3 arg4 harg4 arg5 harg5 x0 x1 x2).2.1)

/-! ## What the outputs hold after each point -/

/-- What the outputs' staging buffers hold after the body at point `t` (as a tuple, in window order): the run's contents at
    the point's memrefs and input blocks. -/
def outsAt0 (c : Dev nD) (t : Fin cfg0.N) : Vec F S256x6144 .bf16 × Vec F S256x6144 .bf16 :=
  (out0_A_3 (Ix := Ix) (U := U) (Lvl := Lvl) 𝒱₀ c (grid0.coords t) (ms0_0 t) (hs0_0 t) (ms0_1 t) (hs0_1 t) (ms0_2 t) (hs0_2 t) (ms0_3 t) (hs0_3 t) (ms0_4 t) (hs0_4 t) (iblk V c 0 t) (iblk V c 1 t) (iblk V c 2 t), out0_A_4 (Ix := Ix) (U := U) (Lvl := Lvl) 𝒱₀ c (grid0.coords t) (ms0_0 t) (hs0_0 t) (ms0_1 t) (hs0_1 t) (ms0_2 t) (hs0_2 t) (ms0_3 t) (hs0_3 t) (ms0_4 t) (hs0_4 t) (iblk V c 0 t) (iblk V c 1 t) (iblk V c 2 t))

/-! ## The pipeline's proof data -/

/-- The proof data of pipeline 0 on core `c`: the arrays as the region finds them (`V`); after the body at
    point `t` each input's buffer at its block and the outputs' at `outsAt0`; the invariant the class's; the core owing `D c` throughout; full shares. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt0 (Ix := Ix) (U := U) (Lvl := Lvl) 𝒱₀ V c t).1
    | ⟨4, _⟩ => (outsAt0 (Ix := Ix) (U := U) (Lvl := Lvl) 𝒱₀ V c t).2
  Φ _ := ΦK (F := F) (Ix := Ix) (U := U) (Lvl := Lvl) c
  q _ := fullShare
  owed _ := D c

variable (ι : Ix)

local notation "𝕕" => dat (Ix := Ix) (U := U) (Lvl := Lvl) 𝒱₀ V D

/-- The proof data's arrays are the region-entry contents `V`: the proof data's definition projected (`dsimp`). -/
theorem A_eq (c : Dev nD) (w : Fin cfg0.W) : (𝕕 c).A w = V c (Pipeline.arrRef spec0 w) := by
  dsimp only [dat]

/-- What the body leaves, window by window (the proof data's `match` reduced by `dsimp`). -/
theorem after0_0 (c : Dev nD) (t : Fin cfg0.N) : (𝕕 c).after 0 t = iblk V c 0 t := by dsimp only [dat]
theorem after0_1 (c : Dev nD) (t : Fin cfg0.N) : (𝕕 c).after 1 t = iblk V c 1 t := by dsimp only [dat]
theorem after0_2 (c : Dev nD) (t : Fin cfg0.N) : (𝕕 c).after 2 t = iblk V c 2 t := by dsimp only [dat]
theorem after0_3 (c : Dev nD) (t : Fin cfg0.N) : (𝕕 c).after 3 t = (outsAt0 (Ix := Ix) (U := U) (Lvl := Lvl) 𝒱₀ V c t).1 := by dsimp only [dat]
theorem after0_4 (c : Dev nD) (t : Fin cfg0.N) : (𝕕 c).after 4 t = (outsAt0 (Ix := Ix) (U := U) (Lvl := Lvl) 𝒱₀ V c t).2 := by dsimp only [dat]

/-- Each input's current staging buffer holds its block at every point, fetched there or not (`beforeK_W_of`). -/
theorem before0_0 (c : Dev nD) (t : Fin cfg0.N) (d) : (𝕕 c).before 0 t d = iblk V c 0 t :=
  before0_0_of V (𝕕 c) (A_eq 𝒱₀ V D c 0) (after0_0 𝒱₀ V D c) t d
theorem before0_1 (c : Dev nD) (t : Fin cfg0.N) (d) : (𝕕 c).before 1 t d = iblk V c 1 t :=
  before0_1_of V (𝕕 c) (A_eq 𝒱₀ V D c 1) (after0_1 𝒱₀ V D c) t d
theorem before0_2 (c : Dev nD) (t : Fin cfg0.N) (d) : (𝕕 c).before 2 t d = iblk V c 2 t :=
  before0_2_of V (𝕕 c) (A_eq 𝒱₀ V D c 2) (after0_2 𝒱₀ V D c) t d

/-! ## The body obligation, at a generic point -/

/-- What the body is called with at point `t`, -/
def bodyPre (c : Dev nD) (t : Fin cfg0.N) : sProp 𝕄 :=
  iprop((𝕕 c).Φ t.castSucc ∗ (𝕕 c).owesAt ι t.castSucc
    ∗ (∃ d, owns (c : Thread nD τ) (ms0_0 t) fullShare ((𝕕 c).before 0 t d))
    ∗ (∃ d, owns (c : Thread nD τ) (ms0_1 t) fullShare ((𝕕 c).before 1 t d))
    ∗ (∃ d, owns (c : Thread nD τ) (ms0_2 t) fullShare ((𝕕 c).before 2 t d))
    ∗ (∃ d, owns (c : Thread nD τ) (ms0_3 t) fullShare ((𝕕 c).before 3 t d))
    ∗ (∃ d, owns (c : Thread nD τ) (ms0_4 t) fullShare ((𝕕 c).before 4 t d)))

/-- and what it returns. -/
def bodyPost (c : Dev nD) (t : Fin cfg0.N) : sProp 𝕄 :=
  iprop((𝕕 c).Φ t.succ ∗ (𝕕 c).owesAt ι t.succ
    ∗ owns (c : Thread nD τ) (ms0_0 t) fullShare ((𝕕 c).after 0 t)
    ∗ owns (c : Thread nD τ) (ms0_1 t) fullShare ((𝕕 c).after 1 t)
    ∗ owns (c : Thread nD τ) (ms0_2 t) fullShare ((𝕕 c).after 2 t)
    ∗ owns (c : Thread nD τ) (ms0_3 t) fullShare ((𝕕 c).after 3 t)
    ∗ owns (c : Thread nD τ) (ms0_4 t) fullShare ((𝕕 c).after 4 t))

/-- The body at any point: the inputs' memrefs hold their blocks (`before0_W`); so the
    run applies; the invariant passes through unread; the core owes `D c` throughout. -/
theorem sound_body (c : Dev nD) (t : Fin cfg0.N) :
    bodyPre (U := U) (Lvl := Lvl) 𝒱₀ V D ι c t ⊢ wp frame (wpE (defs₀ (F := F)) 𝒱₀ c none) Set.univ (bodyAt0 t) (fun _ => bodyPost (U := U) (Lvl := Lvl) 𝒱₀ V D ι c t) := by
  unfold bodyPre bodyPost bodyAt0
  simp only [before0_0, before0_1, before0_2]
  rw [show (𝕕 c).Φ t.succ = (𝕕 c).Φ t.castSucc from rfl,
    show (𝕕 c).owesAt ι t.succ = (𝕕 c).owesAt ι t.castSucc from rfl,
    after0_0, after0_1, after0_2, after0_3, after0_4]
  unfold outsAt0
  unfold out0_A_3 out0_A_4; (try dsimp only)
  iintro ⟨HΦ, Ho, ⟨%d0, H0⟩, ⟨%d1, H1⟩, ⟨%d2, H2⟩, ⟨%d3, H3⟩, ⟨%d4, H4⟩⟩
  iapply ((kernelRun0_A (Ix := Ix) (U := U) (Lvl := Lvl) 𝒱₀ c (grid0.coords t) _ _ _ _ _ _ _ _ _ _ (iblk V c 0 t) (iblk V c 1 t) (iblk V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 (Ix := Ix) (U := U) (Lvl := Lvl) 𝒱₀ c _ _ _ _ _ _ _ _ _ _ _ _ _ _)
  unfold owns; iexists _; isplitr
  swap; · iexact H4
  ipureintro; exact View.read_writes_of_cover _ _ _ _ _ (cover0_A_4 (Ix := Ix) (U := U) (Lvl := Lvl) 𝒱₀ c _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (𝕕 c) (defs₀ (F := F)) 𝒱₀ ι Set.univ := fun t => by
  rw [bigSep_W0, bigSep_W0, defs₀_row]
  exact triple_restated (sound_body (U := U) (Lvl := Lvl) 𝒱₀ V D ι c t) rfl .rfl fun _ => .rfl

end Cert.KernelIdeal.Norm

end
-- ==== Proof.Spread.lean ====
module

public import proofs.«01_k».proof.Proof.Gen.KernelIdeal.Loops
public import Idealize.ShloMosaic.Lib.CellWrites
public import Idealize.ShloMosaic.Lib.Pipeline.Value
public import Idealize.ShloMosaic.Lib.ValueIdxCore

@[expose] public section

set_option maxRecDepth 16384

noncomputable section

namespace Cert.KernelIdeal.Dq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The resource algebra of the run. -/
local notation "𝕄G" => MT nD τ sig Unit (Elt F) ℕ (UR sig nD τ) ℕ

/-- The words of a permutation of the 6144 rows: each below 6144, no two alike. -/
def PermOk (P : Vec F S6144 .i32) : Prop :=
  (∀ r : Fin 6144, (P (ix1 r)).toNat < 6144) ∧ ∀ r r' : Fin 6144, P (ix1 r) = P (ix1 r') → r = r'

/-- The first `n` descriptors lie at their places. -/
def Scattered (P T : Vec F S6144 .i32) (n : ℕ) (D : Vec F S6160 .i32) : Prop :=
  ∀ r : Fin 6144, r.val < n → ∀ p : Fin 6160, p.val = (P (ix1 r)).toNat → D (ix1 p) = T (ix1 r)

/-- A load of one word of a scalar buffer at cell `k`. -/
theorem readAt_cell {n : ℕ} {κ : Kind} {sp : Space} (v : View sig κ sp (⟨1, ![n]⟩ : Shape) .i32) (f : v.ty.Contents (Elt F))
    {off : Fin 1 → ℕ} (pf : ∀ a, off a + (![1] : Fin 1 → ℕ) a ≤ (⟨1, ![n]⟩ : Shape).size a) (k : Fin n) (h0 : off 0 = k.val)
    (x : (Rect.unit (s := ⟨1, ![n]⟩) off ![1] pf).toLoadRect.shape.Idx) :
    v.readAt (Elt F) (Rect.unit (s := ⟨1, ![n]⟩) off ![1] pf).toLoadRect f x = v.read (Elt F) f (ix1 k) := by
  rw [View.readAt_apply]
  congr 1; funext a; apply Fin.ext
  have : a = 0 := Subsingleton.elim _ _
  subst this
  have hx : (x 0).val < 1 := (x 0).isLt
  show off 0 + 1 * (x 0).val = k.val
  omega

/-- Under a list of writes whose pieces all agree with one function `G`, a place that some piece holds, or that read `G` before, reads `G`. -/
theorem read_writes_agree {κ : Kind} {sp : Space} {s : Shape} {e : EltTy} {Val : EltTy → Type} (v : View sig κ sp s e) (f : v.ty.Contents Val) (G : s.Idx → Val e) (y : s.Idx) :
    ∀ L : List (View.Piece Val s e), (∀ p ∈ L, ∀ x : p.1.shape.Idx, p.2 x = G (p.1.emb x)) →
      ((∃ p ∈ L, y ∈ p.1.set) ∨ v.read Val f y = G y) → v.read Val (v.writes Val f L) y = G y
  | [], _, h => by
    rcases h with ⟨p, hp, _⟩ | h
    · exact absurd hp List.not_mem_nil
    · rw [View.writes_nil]; exact h
  | p :: L, hG, h => by
    by_cases hy : y ∈ p.1.set
    · obtain ⟨x, rfl⟩ : ∃ x, p.1.emb x = y := p.1.exists_idx_of_mem hy
      obtain ⟨r, w⟩ := p
      rw [View.read_writes_cons_emb]
      exact hG ⟨r, w⟩ List.mem_cons_self x
    · rw [View.read_writes_cons_miss _ _ _ _ _ hy]
      refine read_writes_agree v f G y L (fun p' hp' => hG p' (List.mem_cons_of_mem _ hp')) ?_
      rcases h with ⟨p', hp', hy'⟩ | h
      · rcases List.mem_cons.mp hp' with rfl | hm
        · exact absurd hy' hy
        · exact Or.inl ⟨p', hm, hy'⟩
      · exact Or.inr h

/-- The pads hold the first descriptor, the `n` first of them. -/
def Padded (T : Vec F S6144 .i32) (n : ℕ) (D : Vec F S6160 .i32) : Prop :=
  ∀ p : Fin 6160, 6144 ≤ p.val → p.val < 6144 + n → D (ix1 p) = T (ix1 0)

theorem read_cell {κ : Kind} {sp : Space} (v : View sig κ sp S6160 .i32) (f : v.ty.Contents (Elt F)) {off : Fin 1 → ℕ}
    (pf : ∀ a, off a + S1.size a ≤ S6160.size a) (w : Elt F .i32) (p : Fin 6160) :
    v.read (Elt F) (v.writes (Elt F) f [⟨Rect.unit (s := S6160) off S1.size pf, fun _ => w⟩]) (ix1 p)
      = if p.val = off 0 then w else v.read (Elt F) f (ix1 p) :=
  View.read_writes_cons_cell v f pf w [] (ix1 p)

theorem scatter_step (P T : Vec F S6144 .i32) (hP : PermOk P) (k : ℕ) (hk : k < 6144) {κ : Kind} {sp : Space} (v : View sig κ sp S6160 .i32)
    (f : v.ty.Contents (Elt F)) {off : Fin 1 → ℕ} (pf : ∀ a, off a + S1.size a ≤ S6160.size a) (w : Elt F .i32)
    (ho : off 0 = (P (ix1 ⟨k, hk⟩)).toNat) (hw : w = T (ix1 ⟨k, hk⟩)) (h : Scattered P T k (v.read (Elt F) f)) :
    Scattered P T (k + 1) (v.read (Elt F) (v.writes (Elt F) f [⟨Rect.unit (s := S6160) off S1.size pf, fun _ => w⟩])) := by
  intro r hr p hp
  rw [read_cell]
  by_cases hrk : r = ⟨k, hk⟩
  · subst hrk
    rw [if_pos (hp.trans ho.symm), hw]
  · have hne : p.val ≠ off 0 := fun he => hrk (hP.2 _ _ (BitVec.eq_of_toNat_eq (hp.symm.trans (he.trans ho))))
    rw [if_neg hne]
    exact h r (by have : r.val ≠ k := fun he => hrk (Fin.ext he); omega) p hp

theorem pad_step (P T : Vec F S6144 .i32) (hP : PermOk P) (k : ℕ) (hk : k < 16) {κ : Kind} {sp : Space} (v : View sig κ sp S6160 .i32)
    (f : v.ty.Contents (Elt F)) {off : Fin 1 → ℕ} (pf : ∀ a, off a + S1.size a ≤ S6160.size a) (w : Elt F .i32)
    (ho : off 0 = 6144 + k) (hw : w = T (ix1 0)) (h : Scattered P T 6144 (v.read (Elt F) f) ∧ Padded T k (v.read (Elt F) f)) :
    Scattered P T 6144 (v.read (Elt F) (v.writes (Elt F) f [⟨Rect.unit (s := S6160) off S1.size pf, fun _ => w⟩]))
      ∧ Padded T (k + 1) (v.read (Elt F) (v.writes (Elt F) f [⟨Rect.unit (s := S6160) off S1.size pf, fun _ => w⟩])) := by
  refine ⟨fun r hr p hp => ?_, fun p h1 h2 => ?_⟩
  · have := hP.1 r
    rw [read_cell, if_neg (by omega)]
    exact h.1 r hr p hp
  · rw [read_cell]
    by_cases hpk : p.val = 6144 + k
    · rw [if_pos (hpk.trans ho.symm), hw]
    · rw [if_neg (by omega)]
      exact h.2 p h1 (by omega)

/-- What the spread of the packed words puts at row `8 w + b`, lane `l`: word `w` of column `128 b + l`. -/
def spreadQ (q : Vec F S813x1024 .i32) : Vec F S6504x128 .i32 := fun y =>
  q (ix2 ⟨(y 0).val / 8, by have := idx2_lt0 y; omega⟩ ⟨128 * ((y 0).val % 8) + (y 1).val, by have := idx2_lt1 y; omega⟩)

/-- What the spread of the scales puts at row `8 g + b`, lane `l`: the scale of group `g`, column `128 b + l`. -/
def spreadS (s : Vec F S192x1024 .bf16) : Vec F S1536x128 .f32 := fun y =>
  extf .f32 s bitsLt_bf16_f32 (ix2 ⟨(y 0).val / 8, by have := idx2_lt0 y; omega⟩ ⟨128 * ((y 0).val % 8) + (y 1).val, by have := idx2_lt1 y; omega⟩)

theorem pay9_eq (v : Vec F S8x128 .i32) : k1_pay9 (F := F) v = v := by
  unfold k1_pay9; exact (congrArg (fun z => shapeCast S8x128 z shapeCasts_S8x128_S8x128) (shapeCast_self _ _)).trans (shapeCast_self _ _)
theorem pay10_eq (v : Vec F S8x128 .i32) : k1_pay10 (F := F) v = v := by
  unfold k1_pay10; exact (congrArg (fun z => shapeCast S8x128 z shapeCasts_S8x128_S8x128) (shapeCast_self _ _)).trans (shapeCast_self _ _)
theorem pay11_eq (v : Vec F S8x128 .i32) : k1_pay11 (F := F) v = v := by
  unfold k1_pay11; exact (congrArg (fun z => shapeCast S8x128 z shapeCasts_S8x128_S8x128) (shapeCast_self _ _)).trans (shapeCast_self _ _)
theorem pay12_eq (v : Vec F S8x128 .i32) : k1_pay12 (F := F) v = v := by
  unfold k1_pay12; exact (congrArg (fun z => shapeCast S8x128 z shapeCasts_S8x128_S8x128) (shapeCast_self _ _)).trans (shapeCast_self _ _)
theorem pay13_eq (v : Vec F S8x128 .i32) : k1_pay13 (F := F) v = v := by
  unfold k1_pay13; exact (congrArg (fun z => shapeCast S8x128 z shapeCasts_S8x128_S8x128) (shapeCast_self _ _)).trans (shapeCast_self _ _)
theorem pay14_eq (v : Vec F S8x128 .i32) : k1_pay14 (F := F) v = v := by
  unfold k1_pay14; exact (congrArg (fun z => shapeCast S8x128 z shapeCasts_S8x128_S8x128) (shapeCast_self _ _)).trans (shapeCast_self _ _)
theorem pay21_eq (v : Vec F S8x128 .i32) : k1_pay21 (F := F) v = v := by
  unfold k1_pay21; exact (congrArg (fun z => shapeCast S8x128 z shapeCasts_S8x128_S8x128) (shapeCast_self _ _)).trans (shapeCast_self _ _)
theorem pay22_eq (v : Vec F S8x128 .i32) : k1_pay22 (F := F) v = v := by
  unfold k1_pay22; exact (congrArg (fun z => shapeCast S8x128 z shapeCasts_S8x128_S8x128) (shapeCast_self _ _)).trans (shapeCast_self _ _)
theorem pay23_eq (v : Vec F S5x128 .i32) : k1_pay23 (F := F) v = v := by
  unfold k1_pay23; exact (congrArg (fun z => shapeCast S5x128 z shapeCasts_S5x128_S5x128) (shapeCast_self _ _)).trans (shapeCast_self _ _)
theorem pay24_eq (v : Vec F S5x128 .i32) : k1_pay24 (F := F) v = v := by
  unfold k1_pay24; exact (congrArg (fun z => shapeCast S5x128 z shapeCasts_S5x128_S5x128) (shapeCast_self _ _)).trans (shapeCast_self _ _)
theorem pay25_eq (v : Vec F S5x128 .i32) : k1_pay25 (F := F) v = v := by
  unfold k1_pay25; exact (congrArg (fun z => shapeCast S5x128 z shapeCasts_S5x128_S5x128) (shapeCast_self _ _)).trans (shapeCast_self _ _)
theorem pay26_eq (v : Vec F S5x128 .i32) : k1_pay26 (F := F) v = v := by
  unfold k1_pay26; exact (congrArg (fun z => shapeCast S5x128 z shapeCasts_S5x128_S5x128) (shapeCast_self _ _)).trans (shapeCast_self _ _)
theorem pay27_eq (v : Vec F S5x128 .i32) : k1_pay27 (F := F) v = v := by
  unfold k1_pay27; exact (congrArg (fun z => shapeCast S5x128 z shapeCasts_S5x128_S5x128) (shapeCast_self _ _)).trans (shapeCast_self _ _)
theorem pay2_eq (v : Vec F S5x128 .i32) : k1_pay2 (F := F) v = v := by
  unfold k1_pay2; exact (congrArg (fun z => shapeCast S5x128 z shapeCasts_S5x128_S5x128) (shapeCast_self _ _)).trans (shapeCast_self _ _)
theorem pay3_eq (v : Vec F S5x128 .i32) : k1_pay3 (F := F) v = v := by
  unfold k1_pay3; exact (congrArg (fun z => shapeCast S5x128 z shapeCasts_S5x128_S5x128) (shapeCast_self _ _)).trans (shapeCast_self _ _)
theorem pay1_eq (v : IVec S5x128 32) : k1_pay1 v = v := shapeCast_self _ _
theorem pay28_eq (v : Vec F S5x128 .i32) : k1_pay28 (F := F) v = v := shapeCast_self _ _
theorem pay15_eq (v : Vec F S16x128 .bf16) : k1_pay15 (F := F) v = extf .f32 v bitsLt_bf16_f32 := by
  unfold k1_pay15; exact shapeCast_self _ _
theorem pay16_eq (v : Vec F S16x128 .bf16) : k1_pay16 (F := F) v = extf .f32 v bitsLt_bf16_f32 := by
  unfold k1_pay16; exact shapeCast_self _ _
theorem pay17_eq (v : Vec F S16x128 .bf16) : k1_pay17 (F := F) v = extf .f32 v bitsLt_bf16_f32 := by
  unfold k1_pay17; exact shapeCast_self _ _
theorem pay18_eq (v : Vec F S16x128 .bf16) : k1_pay18 (F := F) v = extf .f32 v bitsLt_bf16_f32 := by
  unfold k1_pay18; exact shapeCast_self _ _
theorem pay19_eq (v : Vec F S16x128 .bf16) : k1_pay19 (F := F) v = extf .f32 v bitsLt_bf16_f32 := by
  unfold k1_pay19; exact shapeCast_self _ _
theorem pay20_eq (v : Vec F S16x128 .bf16) : k1_pay20 (F := F) v = extf .f32 v bitsLt_bf16_f32 := by
  unfold k1_pay20; exact shapeCast_self _ _
theorem pay4_eq (v : Vec F S16x128 .bf16) : k1_pay4 (F := F) v = extf .f32 v bitsLt_bf16_f32 := by
  unfold k1_pay4; exact shapeCast_self _ _
theorem pay5_eq (v : Vec F S16x128 .bf16) : k1_pay5 (F := F) v = extf .f32 v bitsLt_bf16_f32 := by
  unfold k1_pay5; exact shapeCast_self _ _

theorem spreadQ_piece {R : ℕ} {κ : Kind} {sp : Space} (v : View sig κ sp S813x1024 .i32) (X : v.ty.Contents (Elt F)) {off5 off9 : Fin 2 → ℕ}
    (inb5 : ∀ a, off5 a + (![R, 128] : Fin 2 → ℕ) a ≤ S813x1024.size a)
    (inb9 : ∀ a, (![R, 128] : Fin 2 → ℕ) a = 0 ∨ off9 a + (![8, 1] : Fin 2 → ℕ) a * ((![R, 128] : Fin 2 → ℕ) a - 1) < S6504x128.size a)
    (spos : ∀ a, 0 < (![8, 1] : Fin 2 → ℕ) a) (w b : ℕ)
    (h5 : off5 = ![w, 128 * b]) (h9 : off9 = ![8 * w + b, 0]) (hb : b < 8) (x : (⟨2, ![R, 128]⟩ : Shape).Idx) :
    v.readAt (Elt F) (Rect.unit (s := S813x1024) off5 ![R, 128] inb5).toLoadRect X x
      = spreadQ (F := F) (v.read (Elt F) X) ((⟨⟨off9, ![R, 128], ![8, 1], inb9⟩, spos⟩ : Rect S6504x128).emb x) := by
  subst h5 h9
  rw [View.readAt_apply]
  unfold spreadQ
  congr 1
  funext a
  apply Fin.ext
  have h0 := idx2_lt0 x
  have h1 := idx2_lt1 x
  match a with
  | ⟨0, _⟩ => show w + 1 * (x 0).val = (8 * w + b + 8 * (x 0).val) / 8; omega
  | ⟨1, _⟩ => show 128 * b + 1 * (x 1).val = 128 * ((8 * w + b + 8 * (x 0).val) % 8) + (0 + 1 * (x 1).val); omega

theorem spreadS_piece {κ : Kind} {sp : Space} (v : View sig κ sp S192x1024 .bf16) (X : v.ty.Contents (Elt F)) {off5 off9 : Fin 2 → ℕ}
    (inb5 : ∀ a, off5 a + (![16, 128] : Fin 2 → ℕ) a ≤ S192x1024.size a)
    (inb9 : ∀ a, (![16, 128] : Fin 2 → ℕ) a = 0 ∨ off9 a + (![8, 1] : Fin 2 → ℕ) a * ((![16, 128] : Fin 2 → ℕ) a - 1) < S1536x128.size a)
    (spos : ∀ a, 0 < (![8, 1] : Fin 2 → ℕ) a) (w b : ℕ)
    (h5 : off5 = ![w, 128 * b]) (h9 : off9 = ![8 * w + b, 0]) (hb : b < 8) (x : S16x128.Idx) :
    extf (F := F) (s := S16x128) .f32 (v.readAt (Elt F) (Rect.unit (s := S192x1024) off5 ![16, 128] inb5).toLoadRect X) bitsLt_bf16_f32 x
      = spreadS (F := F) (v.read (Elt F) X) ((⟨⟨off9, ![16, 128], ![8, 1], inb9⟩, spos⟩ : Rect S1536x128).emb x) := by
  subst h5 h9
  unfold spreadS
  show FloatOps.extf _ _ _ = FloatOps.extf _ _ _
  rw [View.readAt_apply]
  congr 2
  funext a
  apply Fin.ext
  have h0 := idx2_lt0 x
  have h1 := idx2_lt1 x
  match a with
  | ⟨0, _⟩ => show w + 1 * (x 0).val = (8 * w + b + 8 * (x 0).val) / 8; omega
  | ⟨1, _⟩ => show 128 * b + 1 * (x 1).val = 128 * ((8 * w + b + 8 * (x 0).val) % 8) + (0 + 1 * (x 1).val); omega

/-- A row `8 j + b` with `j` below the row count lies in the strided rectangle that starts at row `b`. -/
theorem spread_mem {n : ℕ} {o R : ℕ} (inb9 : ∀ a, (![R, 128] : Fin 2 → ℕ) a = 0 ∨ (![o, 0] : Fin 2 → ℕ) a + (![8, 1] : Fin 2 → ℕ) a * ((![R, 128] : Fin 2 → ℕ) a - 1) < (⟨2, ![n, 128]⟩ : Shape).size a)
    (spos : ∀ a, 0 < (![8, 1] : Fin 2 → ℕ) a) (y : (⟨2, ![n, 128]⟩ : Shape).Idx) (h1 : o ≤ (y 0).val) (h2 : (y 0).val < o + 8 * R)
    (h3 : (y 0).val % 8 = o % 8) : y ∈ (⟨⟨![o, 0], ![R, 128], ![8, 1], inb9⟩, spos⟩ : Rect (⟨2, ![n, 128]⟩ : Shape)).set := by
  refine (⟨⟨![o, 0], ![R, 128], ![8, 1], inb9⟩, spos⟩ : Rect (⟨2, ![n, 128]⟩ : Shape)).mem_set.mpr fun a => ?_
  match a with
  | ⟨0, _⟩ => exact ⟨((y 0).val - o) / 8, by show ((y 0).val - o) / 8 < R; omega, by show (y 0).val = o + 8 * (((y 0).val - o) / 8); omega⟩
  | ⟨1, _⟩ => exact ⟨(y 1).val, (y 1).isLt, by show (y 1).val = 0 + 1 * (y 1).val; omega⟩

section
variable (𝒱 : Variants) (c : Dev nD) (bd : Option 𝒱.V) (E : Set ℕ) (i : grid1.Coords)
  (arg2 : Memref sig .tc .smem S6144 .i32) (harg2 : arg2.IsWhole) (arg3 : Memref sig .tc .smem S6144 .i32) (harg3 : arg3.IsWhole) (arg4 : Memref sig .tc .vmem S512x6144 .bf16) (harg4 : arg4.IsWhole) (arg5 : Memref sig .tc .vmem S813x1024 .i32) (harg5 : arg5.IsWhole) (arg6 : Memref sig .tc .vmem S192x1024 .bf16) (harg6 : arg6.IsWhole) (arg7 : Memref sig .tc .vmem S512x1024 .bf16) (harg7 : arg7.IsWhole) (arg8 : Memref sig .tc .smem S6160 .i32) (harg8 : arg8.IsWhole) (arg9 : Memref sig .tc .vmem S6504x128 .i32) (harg9 : arg9.IsWhole) (arg10 : Memref sig .tc .vmem S1536x128 .f32) (harg10 : arg10.IsWhole) (arg11 : Memref sig .tc .vmem S49280x2x128 .bf16) (harg11 : arg11.IsWhole)

abbrev inv1 (X2 : BufTy.Contents (Elt F) arg2.view.ty) (X3 : BufTy.Contents (Elt F) arg3.view.ty) (k : ℕ) (_ : Unit) : sProp 𝕄G :=
  iprop((arg2.view.loc (c : Thread nD τ) ↦[arg2.view.set]{fullShare} X2) ∗ (arg3.view.loc (c : Thread nD τ) ↦[arg3.view.set]{fullShare} X3)
    ∗ ∃ f, (arg8.view.loc (c : Thread nD τ) ↦[arg8.view.set]{fullShare} f)
      ∗ ⌜Scattered (F := F) (arg2.view.read (Elt F) X2) (arg3.view.read (Elt F) X3) k (arg8.view.read (Elt F) f)⌝)

theorem step1 (k1_h1 : k1_cond1 i = 1#1) (X2 : BufTy.Contents (Elt F) arg2.view.ty) (X3 : BufTy.Contents (Elt F) arg3.view.ty)
    (hP : PermOk (F := F) (arg2.view.read (Elt F) X2)) (k : Fin k1_t1_loop.trips) :
    inv1 (F := F) c arg2 arg3 arg8 X2 X3 k ()
      ⊢ wp frame (wpE (defs₀ (F := F)) 𝒱 (c : Thread nD τ) bd) E (k1_t1_body (F := F) i arg2 harg2 arg3 harg3 arg4 harg4 arg5 harg5 arg6 harg6 arg7 harg7 arg8 harg8 arg9 harg9 arg10 harg10 arg11 harg11 k1_h1 k ())
          (fun _ => inv1 (F := F) c arg2 arg3 arg8 X2 X3 (k + 1) ()) := by
  unfold k1_t1_body
  iintro ⟨H2, H3, ⟨%f, H8, %h8⟩⟩
  have hk : k.val < 6144 := Nat.lt_of_lt_of_le k.isLt k1_t1_abs.2.1
  have hread : ∀ x, arg2.view.readAt (Elt F) (Rect.unit (s := S6144) (k1_off1 k) S1.size (k1_off1_inb i k k1_h1)).toLoadRect X2 x
      = arg2.view.read (Elt F) X2 (ix1 ⟨k.val, hk⟩) := fun x =>
    readAt_cell _ _ _ ⟨k.val, hk⟩ (by rw [k1_off1_eq]; rfl) _
  have hlt := hP.1 ⟨k.val, hk⟩
  have hoff : ∀ w : BitVec 32, k1_off2 w = ![w.toNat] := fun w => rfl
  have hchk : ∀ x, k1_chk1 i (arg2.view.readAt (Elt F) (Rect.unit (s := S6144) (k1_off1 k) S1.size (k1_off1_inb i k k1_h1)).toLoadRect X2 x) := by
    intro x h a
    rw [hread x, hoff]
    have : a = 0 := Subsingleton.elim _ _
    subst this
    show (View.read (Elt F) arg2.view X2 (ix1 ⟨k.val, hk⟩)).toNat + 1 ≤ 6160
    omega
  sl_exec (disch := exact hchk _)
  sl_step
  isplitl [H2]; · iexact H2
  isplitl [H3]; · iexact H3
  iexists _
  isplitl [H8]; · iexact H8
  ipureintro
  refine scatter_step _ _ hP k.val hk _ _ _ _ ?_ ?_ h8
  · exact congrArg BitVec.toNat (hread _)
  · exact readAt_cell _ _ _ ⟨k.val, hk⟩ (by rw [k1_off1_eq]; rfl) _

abbrev inv2 (X2 : BufTy.Contents (Elt F) arg2.view.ty) (X3 : BufTy.Contents (Elt F) arg3.view.ty) (k : ℕ) (_ : Unit) : sProp 𝕄G :=
  iprop((arg2.view.loc (c : Thread nD τ) ↦[arg2.view.set]{fullShare} X2) ∗ (arg3.view.loc (c : Thread nD τ) ↦[arg3.view.set]{fullShare} X3)
    ∗ ∃ f, (arg8.view.loc (c : Thread nD τ) ↦[arg8.view.set]{fullShare} f)
      ∗ ⌜Scattered (F := F) (arg2.view.read (Elt F) X2) (arg3.view.read (Elt F) X3) 6144 (arg8.view.read (Elt F) f)
        ∧ Padded (F := F) (arg3.view.read (Elt F) X3) k (arg8.view.read (Elt F) f)⌝)

theorem step2 (k1_h1 : k1_cond1 i = 1#1) (X2 : BufTy.Contents (Elt F) arg2.view.ty) (X3 : BufTy.Contents (Elt F) arg3.view.ty)
    (hP : PermOk (F := F) (arg2.view.read (Elt F) X2)) (k : Fin k1_t2_loop.trips) :
    inv2 (F := F) c arg2 arg3 arg8 X2 X3 k ()
      ⊢ wp frame (wpE (defs₀ (F := F)) 𝒱 (c : Thread nD τ) bd) E (k1_t2_body (F := F) i arg2 harg2 arg3 harg3 arg4 harg4 arg5 harg5 arg6 harg6 arg7 harg7 arg8 harg8 arg9 harg9 arg10 harg10 arg11 harg11 k1_h1 k ())
          (fun _ => inv2 (F := F) c arg2 arg3 arg8 X2 X3 (k + 1) ()) := by
  unfold k1_t2_body
  iintro ⟨H2, H3, ⟨%f, H8, %h8⟩⟩
  have hk : k.val < 16 := Nat.lt_of_lt_of_le k.isLt k1_t2_abs.2.1
  sl_exec
  sl_step
  isplitl [H2]; · iexact H2
  isplitl [H3]; · iexact H3
  iexists _
  isplitl [H8]; · iexact H8
  ipureintro
  refine pad_step _ _ hP k.val hk _ _ _ _ ?_ ?_ h8
  · rw [k1_off3_eq]; show k.val + 6144 = _; omega
  · exact readAt_cell _ _ _ (0 : Fin 6144) rfl _

abbrev inv3 (X5 : BufTy.Contents (Elt F) arg5.view.ty) (k : ℕ) (_ : Unit) : sProp 𝕄G :=
  iprop((arg5.view.loc (c : Thread nD τ) ↦[arg5.view.set]{fullShare} X5)
    ∗ ∃ f, (arg9.view.loc (c : Thread nD τ) ↦[arg9.view.set]{fullShare} f)
      ∗ ⌜∀ y : S6504x128.Idx, (y 0).val < 64 * k → arg9.view.read (Elt F) f y = spreadQ (F := F) (arg5.view.read (Elt F) X5) y⌝)

theorem step3 (k1_h2 : k1_cond2 i = 1#1) (X5 : BufTy.Contents (Elt F) arg5.view.ty) (k : Fin k1_t3_loop.trips) :
    inv3 (F := F) c arg5 arg9 X5 k ()
      ⊢ wp frame (wpE (defs₀ (F := F)) 𝒱 (c : Thread nD τ) bd) E (k1_t3_body (F := F) i arg2 harg2 arg3 harg3 arg4 harg4 arg5 harg5 arg6 harg6 arg7 harg7 arg8 harg8 arg9 harg9 arg10 harg10 arg11 harg11 k1_h2 k ())
          (fun _ => inv3 (F := F) c arg5 arg9 X5 (k + 1) ()) := by
  unfold k1_t3_body
  sl_open_parts
  iintro ⟨H5, ⟨%f, H9, %h9C⟩⟩
  have hk : k.val < 101 := Nat.lt_of_lt_of_le k.isLt k1_t3_abs.2.1
  sl_exec
  sl_step
  isplitl [H5]; · iexact H5
  iexists _
  isplitl [H9]; · iexact H9
  ipureintro
  intro y hy
  have hoff : ∀ r : Fin 8, k1_off5 k (BitVec.ofNat 32 r.val) = ![64 * k.val + r.val, 0] := k1_off5_eq k
  have h0 := idx2_lt0 y
  have h1 := idx2_lt1 y
  refine read_writes_agree _ _ _ y _ ?_ ?_
  · simp only [List.forall_mem_cons]
    refine ⟨?_, ?_, ?_, ?_, ?_, ?_, ?_, ?_, fun p hp => absurd hp List.not_mem_nil⟩ <;> intro x <;>
      simp only [pay9_eq, pay10_eq, pay11_eq, pay12_eq, pay13_eq, pay14_eq, pay21_eq, pay22_eq]
    · exact spreadQ_piece _ _ _ _ _ (8 * k.val) 7 (k1_off12_eq k) ((hoff 7).trans (by congr 1; show 64 * k.val + 7 = _; omega)) (by omega) x
    · exact spreadQ_piece _ _ _ _ _ (8 * k.val) 6 (k1_off11_eq k) ((hoff 6).trans (by congr 1; show 64 * k.val + 6 = _; omega)) (by omega) x
    · exact spreadQ_piece _ _ _ _ _ (8 * k.val) 5 (k1_off10_eq k) ((hoff 5).trans (by congr 1; show 64 * k.val + 5 = _; omega)) (by omega) x
    · exact spreadQ_piece _ _ _ _ _ (8 * k.val) 4 (k1_off9_eq k) ((hoff 4).trans (by congr 1; show 64 * k.val + 4 = _; omega)) (by omega) x
    · exact spreadQ_piece _ _ _ _ _ (8 * k.val) 3 (k1_off8_eq k) ((hoff 3).trans (by congr 1; show 64 * k.val + 3 = _; omega)) (by omega) x
    · exact spreadQ_piece _ _ _ _ _ (8 * k.val) 2 (k1_off7_eq k) ((hoff 2).trans (by congr 1; show 64 * k.val + 2 = _; omega)) (by omega) x
    · exact spreadQ_piece _ _ _ _ _ (8 * k.val) 1 (k1_off6_eq k) ((hoff 1).trans (by congr 1; show 64 * k.val + 1 = _; omega)) (by omega) x
    · exact spreadQ_piece _ _ _ _ _ (8 * k.val) 0 (k1_off4_eq k) ((hoff 0).trans (by congr 1; show 64 * k.val + 0 = _; omega)) (by omega) x
  · by_cases hlt : (y 0).val < 64 * k.val
    · exact Or.inr (h9C y hlt)
    · left
      have hb : (y 0).val % 8 = 7 ∨ (y 0).val % 8 = 6 ∨ (y 0).val % 8 = 5 ∨ (y 0).val % 8 = 4 ∨ (y 0).val % 8 = 3 ∨ (y 0).val % 8 = 2
        ∨ (y 0).val % 8 = 1 ∨ (y 0).val % 8 = 0 := by omega
      have mem : ∀ (b : Fin 8) {off9 : Fin 2 → ℕ} (h9 : off9 = k1_off5 k (BitVec.ofNat 32 b.val)) (inb9), (y 0).val % 8 = b.val →
          y ∈ (⟨⟨off9, ![8, 128], ![8, 1], inb9⟩, spos_8_1⟩ : Rect S6504x128).set := by
        intro b off9 h9 inb9 hy8
        rw [hoff b] at h9
        subst h9
        exact spread_mem _ _ y (by omega) (by omega) (by omega)
      simp only [List.exists_mem_cons_iff]
      rcases hb with hb | hb | hb | hb | hb | hb | hb | hb
      · exact Or.inl (mem 7 rfl _ hb)
      · exact Or.inr (Or.inl (mem 6 rfl _ hb))
      · exact Or.inr (Or.inr (Or.inl (mem 5 rfl _ hb)))
      · exact Or.inr (Or.inr (Or.inr (Or.inl (mem 4 rfl _ hb))))
      · exact Or.inr (Or.inr (Or.inr (Or.inr (Or.inl (mem 3 rfl _ hb)))))
      · exact Or.inr (Or.inr (Or.inr (Or.inr (Or.inr (Or.inl (mem 2 rfl _ hb))))))
      · exact Or.inr (Or.inr (Or.inr (Or.inr (Or.inr (Or.inr (Or.inl (mem 1 rfl _ hb)))))))
      · exact Or.inr (Or.inr (Or.inr (Or.inr (Or.inr (Or.inr (Or.inr (Or.inl (mem 0 rfl _ hb))))))))

abbrev inv4 (X6 : BufTy.Contents (Elt F) arg6.view.ty) (k : ℕ) (_ : Unit) : sProp 𝕄G :=
  iprop((arg6.view.loc (c : Thread nD τ) ↦[arg6.view.set]{fullShare} X6)
    ∗ ∃ f, (arg10.view.loc (c : Thread nD τ) ↦[arg10.view.set]{fullShare} f)
      ∗ ⌜∀ y : S1536x128.Idx, (y 0).val < 128 * k → arg10.view.read (Elt F) f y = spreadS (F := F) (arg6.view.read (Elt F) X6) y⌝)

theorem step4 (k1_h2 : k1_cond2 i = 1#1) (X6 : BufTy.Contents (Elt F) arg6.view.ty) (k : Fin k1_t4_loop.trips) :
    inv4 (F := F) c arg6 arg10 X6 k ()
      ⊢ wp frame (wpE (defs₀ (F := F)) 𝒱 (c : Thread nD τ) bd) E (k1_t4_body (F := F) i arg2 harg2 arg3 harg3 arg4 harg4 arg5 harg5 arg6 harg6 arg7 harg7 arg8 harg8 arg9 harg9 arg10 harg10 arg11 harg11 k1_h2 k ())
          (fun _ => inv4 (F := F) c arg6 arg10 X6 (k + 1) ()) := by
  unfold k1_t4_body
  iintro ⟨H6, ⟨%f, H10, %h10⟩⟩
  have hk : k.val < 12 := Nat.lt_of_lt_of_le k.isLt k1_t4_abs.2.1
  sl_exec
  sl_step
  isplitl [H6]; · iexact H6
  iexists _
  isplitl [H10]; · iexact H10
  ipureintro
  intro y hy
  have hoff : ∀ r : Fin 8, k1_off14 k (BitVec.ofNat 32 r.val) = ![128 * k.val + r.val, 0] := k1_off14_eq k
  have h0 := idx2_lt0 y
  have h1 := idx2_lt1 y
  refine read_writes_agree _ _ _ y _ ?_ ?_
  · simp only [List.forall_mem_cons]
    refine ⟨?_, ?_, ?_, ?_, ?_, ?_, ?_, ?_, fun p hp => absurd hp List.not_mem_nil⟩ <;> intro x <;>
      simp only [pay15_eq, pay16_eq, pay17_eq, pay18_eq, pay19_eq, pay20_eq, pay4_eq, pay5_eq]
    · exact spreadS_piece _ _ _ _ _ (16 * k.val) 7 (k1_off21_eq k) ((hoff 7).trans (by congr 1; show 128 * k.val + 7 = _; omega)) (by omega) x
    · exact spreadS_piece _ _ _ _ _ (16 * k.val) 6 (k1_off20_eq k) ((hoff 6).trans (by congr 1; show 128 * k.val + 6 = _; omega)) (by omega) x
    · exact spreadS_piece _ _ _ _ _ (16 * k.val) 5 (k1_off19_eq k) ((hoff 5).trans (by congr 1; show 128 * k.val + 5 = _; omega)) (by omega) x
    · exact spreadS_piece _ _ _ _ _ (16 * k.val) 4 (k1_off18_eq k) ((hoff 4).trans (by congr 1; show 128 * k.val + 4 = _; omega)) (by omega) x
    · exact spreadS_piece _ _ _ _ _ (16 * k.val) 3 (k1_off17_eq k) ((hoff 3).trans (by congr 1; show 128 * k.val + 3 = _; omega)) (by omega) x
    · exact spreadS_piece _ _ _ _ _ (16 * k.val) 2 (k1_off16_eq k) ((hoff 2).trans (by congr 1; show 128 * k.val + 2 = _; omega)) (by omega) x
    · exact spreadS_piece _ _ _ _ _ (16 * k.val) 1 (k1_off15_eq k) ((hoff 1).trans (by congr 1; show 128 * k.val + 1 = _; omega)) (by omega) x
    · exact spreadS_piece _ _ _ _ _ (16 * k.val) 0 (k1_off13_eq k) ((hoff 0).trans (by congr 1; show 128 * k.val + 0 = _; omega)) (by omega) x
  · by_cases hlt : (y 0).val < 128 * k.val
    · exact Or.inr (h10 y hlt)
    · left
      have hb : (y 0).val % 8 = 7 ∨ (y 0).val % 8 = 6 ∨ (y 0).val % 8 = 5 ∨ (y 0).val % 8 = 4 ∨ (y 0).val % 8 = 3 ∨ (y 0).val % 8 = 2
        ∨ (y 0).val % 8 = 1 ∨ (y 0).val % 8 = 0 := by omega
      have mem : ∀ (b : Fin 8) {off9 : Fin 2 → ℕ} (h9 : off9 = k1_off14 k (BitVec.ofNat 32 b.val)) (inb9), (y 0).val % 8 = b.val →
          y ∈ (⟨⟨off9, ![16, 128], ![8, 1], inb9⟩, spos_8_1⟩ : Rect S1536x128).set := by
        intro b off9 h9 inb9 hy8
        rw [hoff b] at h9
        subst h9
        exact spread_mem _ _ y (by omega) (by omega) (by omega)
      simp only [List.exists_mem_cons_iff]
      rcases hb with hb | hb | hb | hb | hb | hb | hb | hb
      · exact Or.inl (mem 7 rfl _ hb)
      · exact Or.inr (Or.inl (mem 6 rfl _ hb))
      · exact Or.inr (Or.inr (Or.inl (mem 5 rfl _ hb)))
      · exact Or.inr (Or.inr (Or.inr (Or.inl (mem 4 rfl _ hb))))
      · exact Or.inr (Or.inr (Or.inr (Or.inr (Or.inl (mem 3 rfl _ hb)))))
      · exact Or.inr (Or.inr (Or.inr (Or.inr (Or.inr (Or.inl (mem 2 rfl _ hb))))))
      · exact Or.inr (Or.inr (Or.inr (Or.inr (Or.inr (Or.inr (Or.inl (mem 1 rfl _ hb)))))))
      · exact Or.inr (Or.inr (Or.inr (Or.inr (Or.inr (Or.inr (Or.inr (Or.inl (mem 0 rfl _ hb))))))))
end

end Cert.KernelIdeal.Dq
-- ==== Proof.Dequant.lean ====
module

public import proofs.«01_k».proof.Proof.Spread
public import Idealize.ShloMosaic.Lib.Pointwise

@[expose] public section

set_option maxRecDepth 16384

noncomputable section

namespace Cert.KernelIdeal.Dq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The fields of a descriptor: the word a code begins in, -/
def dLo (d : BitVec 32) : BitVec 32 := Scalar.andi d 1023#32
/-- the word its high bits lie in, -/
def dHi (d : BitVec 32) : BitVec 32 := Scalar.addi (Scalar.andi d 1023#32) (Scalar.andi (Scalar.shrsi d 27#32) 1#32)
/-- the bit it begins at, -/
def dSh (d : BitVec 32) : BitVec 32 := Scalar.andi (Scalar.shrsi d 10#32) 31#32
/-- its width -/
def dBits (d : BitVec 32) : BitVec 32 := Scalar.andi (Scalar.shrsi d 15#32) 15#32
/-- and its group. -/
def dGrp (d : BitVec 32) : BitVec 32 := Scalar.andi (Scalar.shrsi d 19#32) 255#32

/-- A descriptor whose words and group exist. -/
def DOk (d : BitVec 32) : Prop := (dLo d).toNat ≤ 812 ∧ (dHi d).toNat ≤ 812 ∧ (dGrp d).toNat ≤ 191

/-- The code of a descriptor, cut out of its two words and made signed. -/
def codeOf (d x y : BitVec 32) : BitVec 32 :=
  IntOp.subi (IntOp.andi (IntOp.ori (IntOp.shrui .vector x (dSh d)) (IntOp.shli .vector (IntOp.shli .vector y 1#32) (Scalar.subi 31#32 (dSh d))))
    (Scalar.subi (Scalar.shli 1#32 (dBits d)) 1#32)) (Scalar.shli 1#32 (Scalar.subi (dBits d) 1#32))

/-- The weight: code times scale, narrowed. -/
def valOf (d x y : BitVec 32) (s : F .f32) : F .bf16 :=
  FloatOps.truncf .bf16 bitsLt_bf16_f32 (FloatOps.mulf (FloatOps.sitofp .f32 (codeOf d x y)) s)

/-- The weight at descriptor `d` and column `c` of a tile of packed words and scales. -/
def deq (d : BitVec 32) (q : Vec F S813x1024 .i32) (s : Vec F S192x1024 .bf16) (c : Fin 1024) : F .bf16 :=
  valOf (F := F) d (q (ValueIdx.ix2 ⟨(dLo d).toNat % 813, Nat.mod_lt _ (by decide)⟩ c)) (q (ValueIdx.ix2 ⟨(dHi d).toNat % 813, Nat.mod_lt _ (by decide)⟩ c))
    (FloatOps.extf .f32 bitsLt_bf16_f32 (s (ValueIdx.ix2 ⟨(dGrp d).toNat % 192, Nat.mod_lt _ (by decide)⟩ c)))

/-- A slot of the weight buffer, written by the descriptors `D` from the tile `q`, `s`. -/
def wTile (D : Vec F S6160 .i32) (q : Vec F S813x1024 .i32) (s : Vec F S192x1024 .bf16) : Vec F S49280x2x128 .bf16 := fun y =>
  deq (F := F) (D (ValueIdx.ix1 ⟨2 * ((y 0).val % 3080) + (y 1).val, by have h1 : (y 1).val < 2 := (y 1).isLt; omega⟩)) q s
    ⟨128 * ((y 0).val % 24640 / 3080) + (y 2).val, by have h2 : (y 2).val < 128 := (y 2).isLt; omega⟩

/-- The weight buffer `G` after the pairs `[a, a + k)` of slot `σ` have been rewritten by `W`. -/
def wUpd (σ a k : ℕ) (W G : Vec F S49280x2x128 .bf16) : Vec F S49280x2x128 .bf16 := fun y =>
  if (y 0).val / 24640 = σ ∧ a ≤ (y 0).val % 3080 ∧ (y 0).val % 3080 < a + k then W y else G y

theorem wUpd_zero (σ a : ℕ) (W G : Vec F S49280x2x128 .bf16) : wUpd σ a 0 W G = G := by
  funext y; unfold wUpd; exact if_neg (by omega)

theorem wUpd_wUpd (σ a k k' : ℕ) (W G : Vec F S49280x2x128 .bf16) : wUpd σ (a + k) k' W (wUpd σ a k W G) = wUpd σ a (k + k') W G := by
  funext y; unfold wUpd
  by_cases h1 : (y 0).val / 24640 = σ ∧ a + k ≤ (y 0).val % 3080 ∧ (y 0).val % 3080 < a + k + k'
  · rw [if_pos h1, if_pos (by omega)]
  · rw [if_neg h1]
    by_cases h2 : (y 0).val / 24640 = σ ∧ a ≤ (y 0).val % 3080 ∧ (y 0).val % 3080 < a + k
    · rw [if_pos h2, if_pos (by omega)]
    · rw [if_neg h2, if_neg (by omega)]

theorem pay29_apply (d : Elt F .i32) (v w : Vec F S8x128 .i32) (x : S8x128.Idx) : k1_pay29 (F := F) d v w x = codeOf d (v x) (w x) := rfl

theorem pay6_apply (d d' : BitVec 32) (v w v' w' : Vec F S8x128 .i32) (s s' : Vec F S8x128 .f32) (x : S8x2x128.Idx) :
    k1_pay6 (F := F) (k1_pay30 (k1_pay29 (F := F) d v w) s) (Scalar.andi (Scalar.shrsi d' 15#32) 15#32) (k1_pay31 (F := F) d' v' w') 1#32 s' x
      = if (x 1).val % 2 = 0 then valOf (F := F) d (v (ValueIdx.ix2 (x 0) (x 2))) (w (ValueIdx.ix2 (x 0) (x 2))) (s (ValueIdx.ix2 (x 0) (x 2)))
        else valOf (F := F) d' (v' (ValueIdx.ix2 (x 0) (x 2))) (w' (ValueIdx.ix2 (x 0) (x 2))) (s' (ValueIdx.ix2 (x 0) (x 2))) := by
  unfold k1_pay6
  pointwise
  split <;> rfl

/-- The slot a step writes: the parity of its first coordinate. -/
theorem slot_isInt (i : grid1.Coords) : Affine.IsInt (Scalar.andi (BitVec.ofNat 32 (i 0).val) 1#32) (((i 0).val % 2 : ℕ) : Int) := by
  have h : ∀ a : Fin 25, Scalar.andi (BitVec.ofNat 32 a.val) 1#32 = BitVec.ofNat 32 (a.val % 2) := by decide
  rw [h (i 0)]
  exact Affine.ofNat _ ⟨rfl, by omega⟩

theorem k1_off30_eq (i : grid1.Coords) (k : Fin k1_t5_loop.trips) :
    k1_off30 i k = ![(i 0).val % 2 * 24640 + 308 * (i 1).val + k.val, 0, 0] := by
  have r1 : (i 1).val < 10 := (i 1).isLt
  have rk : k.val < 308 := Nat.lt_of_lt_of_le k.isLt k1_t5_abs.2.1
  have r0 : (i 0).val % 2 < 2 := Nat.mod_lt _ (by decide)
  have hs := Affine.muli (slot_isInt i) (Affine.ofNat 24640 ⟨rfl, by omega⟩) ⟨rfl, by omega, by omega⟩
  have h1 : Affine.IsInt (BitVec.ofNat 32 (i 1).val) (((i 1).val : Int)) := Affine.ofNat _ (by omega)
  have h2 := Affine.muli h1 (Affine.ofNat 308 ⟨rfl, by omega⟩) ⟨rfl, by omega, by omega⟩
  have h3 : Affine.IsInt _ ((k.val : Int) + 0) := Affine.iv (Affine.ofNat 0 ⟨rfl, by omega⟩) (Affine.ofNat 1 ⟨rfl, by omega⟩) k.val (by omega)
  have h4 := Affine.addi h2 h3 ⟨rfl, by omega, by omega⟩
  have h5 := Affine.indexCast (Affine.addi hs h4 ⟨rfl, by omega, by omega⟩)
  exact Affine.vec_cons h5 (by omega) <| Affine.vec_cons (Affine.ofNat 0 ⟨rfl, by omega⟩) (by omega) <| Affine.vec_cons (Affine.ofNat 0 ⟨rfl, by omega⟩) (by omega) <| Affine.vec_nil
theorem k1_off39_eq (i : grid1.Coords) (k : Fin k1_t6_loop.trips) :
    k1_off39 i k = ![(i 0).val % 2 * 24640 + 308 * (i 1).val + k.val, 0, 0] := by
  have r1 : (i 1).val < 10 := (i 1).isLt
  have rk : k.val < 77 := Nat.lt_of_lt_of_le k.isLt k1_t6_abs.2.1
  have r0 : (i 0).val % 2 < 2 := Nat.mod_lt _ (by decide)
  have hs := Affine.muli (slot_isInt i) (Affine.ofNat 24640 ⟨rfl, by omega⟩) ⟨rfl, by omega, by omega⟩
  have h1 : Affine.IsInt (BitVec.ofNat 32 (i 1).val) (((i 1).val : Int)) := Affine.ofNat _ (by omega)
  have h2 := Affine.muli h1 (Affine.ofNat 308 ⟨rfl, by omega⟩) ⟨rfl, by omega, by omega⟩
  have h3 : Affine.IsInt _ ((k.val : Int) + 0) := Affine.iv (Affine.ofNat 0 ⟨rfl, by omega⟩) (Affine.ofNat 1 ⟨rfl, by omega⟩) k.val (by omega)
  have h4 := Affine.addi h2 h3 ⟨rfl, by omega, by omega⟩
  have h5 := Affine.indexCast (Affine.addi hs h4 ⟨rfl, by omega, by omega⟩)
  exact Affine.vec_cons h5 (by omega) <| Affine.vec_cons (Affine.ofNat 0 ⟨rfl, by omega⟩) (by omega) <| Affine.vec_cons (Affine.ofNat 0 ⟨rfl, by omega⟩) (by omega) <| Affine.vec_nil
theorem k1_off49_eq (i : grid1.Coords) (k : Fin k1_t7_loop.trips) :
    k1_off49 i k = ![(i 0).val % 2 * 24640 + 308 * (i 1).val + 77 + k.val, 0, 0] := by
  have r1 : (i 1).val < 10 := (i 1).isLt
  have rk : k.val < 77 := Nat.lt_of_lt_of_le k.isLt k1_t7_abs.2.1
  have r0 : (i 0).val % 2 < 2 := Nat.mod_lt _ (by decide)
  have hs := Affine.muli (slot_isInt i) (Affine.ofNat 24640 ⟨rfl, by omega⟩) ⟨rfl, by omega, by omega⟩
  have h1 : Affine.IsInt (BitVec.ofNat 32 (i 1).val) (((i 1).val : Int)) := Affine.ofNat _ (by omega)
  have h2 := Affine.muli h1 (Affine.ofNat 308 ⟨rfl, by omega⟩) ⟨rfl, by omega, by omega⟩
  have h3 : Affine.IsInt _ ((k.val : Int) + 77) := Affine.iv (Affine.ofNat 77 ⟨rfl, by omega⟩) (Affine.ofNat 1 ⟨rfl, by omega⟩) k.val (by omega)
  have h4 := Affine.addi h2 h3 ⟨rfl, by omega, by omega⟩
  have h5 := Affine.indexCast (Affine.addi hs h4 ⟨rfl, by omega, by omega⟩)
  exact Affine.vec_cons h5 (by omega) <| Affine.vec_cons (Affine.ofNat 0 ⟨rfl, by omega⟩) (by omega) <| Affine.vec_cons (Affine.ofNat 0 ⟨rfl, by omega⟩) (by omega) <| Affine.vec_nil
theorem k1_off58_eq (i : grid1.Coords) (k : Fin k1_t8_loop.trips) :
    k1_off58 i k = ![(i 0).val % 2 * 24640 + 308 * (i 1).val + 154 + k.val, 0, 0] := by
  have r1 : (i 1).val < 10 := (i 1).isLt
  have rk : k.val < 77 := Nat.lt_of_lt_of_le k.isLt k1_t8_abs.2.1
  have r0 : (i 0).val % 2 < 2 := Nat.mod_lt _ (by decide)
  have hs := Affine.muli (slot_isInt i) (Affine.ofNat 24640 ⟨rfl, by omega⟩) ⟨rfl, by omega, by omega⟩
  have h1 : Affine.IsInt (BitVec.ofNat 32 (i 1).val) (((i 1).val : Int)) := Affine.ofNat _ (by omega)
  have h2 := Affine.muli h1 (Affine.ofNat 308 ⟨rfl, by omega⟩) ⟨rfl, by omega, by omega⟩
  have h3 : Affine.IsInt _ ((k.val : Int) + 154) := Affine.iv (Affine.ofNat 154 ⟨rfl, by omega⟩) (Affine.ofNat 1 ⟨rfl, by omega⟩) k.val (by omega)
  have h4 := Affine.addi h2 h3 ⟨rfl, by omega, by omega⟩
  have h5 := Affine.indexCast (Affine.addi hs h4 ⟨rfl, by omega, by omega⟩)
  exact Affine.vec_cons h5 (by omega) <| Affine.vec_cons (Affine.ofNat 0 ⟨rfl, by omega⟩) (by omega) <| Affine.vec_cons (Affine.ofNat 0 ⟨rfl, by omega⟩) (by omega) <| Affine.vec_nil
theorem k1_off67_eq (i : grid1.Coords) (k : Fin k1_t9_loop.trips) :
    k1_off67 i k = ![(i 0).val % 2 * 24640 + 308 * (i 1).val + 231 + k.val, 0, 0] := by
  have r1 : (i 1).val < 10 := (i 1).isLt
  have rk : k.val < 77 := Nat.lt_of_lt_of_le k.isLt k1_t9_abs.2.1
  have r0 : (i 0).val % 2 < 2 := Nat.mod_lt _ (by decide)
  have hs := Affine.muli (slot_isInt i) (Affine.ofNat 24640 ⟨rfl, by omega⟩) ⟨rfl, by omega, by omega⟩
  have h1 : Affine.IsInt (BitVec.ofNat 32 (i 1).val) (((i 1).val : Int)) := Affine.ofNat _ (by omega)
  have h2 := Affine.muli h1 (Affine.ofNat 308 ⟨rfl, by omega⟩) ⟨rfl, by omega, by omega⟩
  have h3 : Affine.IsInt _ ((k.val : Int) + 231) := Affine.iv (Affine.ofNat 231 ⟨rfl, by omega⟩) (Affine.ofNat 1 ⟨rfl, by omega⟩) k.val (by omega)
  have h4 := Affine.addi h2 h3 ⟨rfl, by omega, by omega⟩
  have h5 := Affine.indexCast (Affine.addi hs h4 ⟨rfl, by omega, by omega⟩)
  exact Affine.vec_cons h5 (by omega) <| Affine.vec_cons (Affine.ofNat 0 ⟨rfl, by omega⟩) (by omega) <| Affine.vec_cons (Affine.ofNat 0 ⟨rfl, by omega⟩) (by omega) <| Affine.vec_nil
theorem k1_off40_eq (i : grid1.Coords) (r : Fin 8) :
    k1_off40 i (BitVec.ofNat 32 (3080 * r.val)) = ![(1 - (i 0).val % 2) * 24640 + 3080 * r.val, 0, 0] := by
  have r0 : (i 0).val % 2 < 2 := Nat.mod_lt _ (by decide)
  have rr := r.isLt
  have h0 : Affine.IsInt _ (1 - (((i 0).val % 2 : ℕ) : Int)) := Affine.subi (Affine.ofNat 1 ⟨rfl, by omega⟩) (slot_isInt i) ⟨rfl, by omega, by omega⟩
  have hs := Affine.muli h0 (Affine.ofNat 24640 ⟨rfl, by omega⟩) ⟨rfl, by omega, by omega⟩
  have h1 : Affine.IsInt (BitVec.ofNat 32 (3080 * r.val)) ((3080 * r.val : ℕ) : Int) := Affine.ofNat _ ⟨rfl, by omega⟩
  have h5 := Affine.indexCast (Affine.addi hs h1 ⟨rfl, by omega, by omega⟩)
  exact Affine.vec_cons h5 (by omega) <| Affine.vec_cons (Affine.ofNat 0 ⟨rfl, by omega⟩) (by omega) <| Affine.vec_cons (Affine.ofNat 0 ⟨rfl, by omega⟩) (by omega) <| Affine.vec_nil

theorem off23_eq (d : BitVec 32) (h : DOk d) : k1_off23 d = ![8 * (dLo d).toNat, 0] := by
  have h1 := h.1
  have : (IntOp.muli (dLo d) 8#32).toNat = 8 * (dLo d).toNat := by
    show ((dLo d) * 8#32).toNat = _
    rw [BitVec.toNat_mul]
    show (dLo d).toNat * 8 % 4294967296 = _
    omega
  show ![(IntOp.muli (dLo d) 8#32).toNat, 0] = _
  rw [this]
theorem off24_eq (d : BitVec 32) (h : DOk d) : k1_off24 d = ![8 * (dHi d).toNat, 0] := by
  have h1 := h.2.1
  have : (IntOp.muli (dHi d) 8#32).toNat = 8 * (dHi d).toNat := by
    show ((dHi d) * 8#32).toNat = _
    rw [BitVec.toNat_mul]
    show (dHi d).toNat * 8 % 4294967296 = _
    omega
  show ![(IntOp.muli (dHi d) 8#32).toNat, 0] = _
  rw [this]
theorem off25_eq (d : BitVec 32) (h : DOk d) : k1_off25 d = ![8 * (dGrp d).toNat, 0] := by
  have h1 := h.2.2
  have : (IntOp.muli (dGrp d) 8#32).toNat = 8 * (dGrp d).toNat := by
    show ((dGrp d) * 8#32).toNat = _
    rw [BitVec.toNat_mul]
    show (dGrp d).toNat * 8 % 4294967296 = _
    omega
  show ![(IntOp.muli (dGrp d) 8#32).toNat, 0] = _
  rw [this]

end Cert.KernelIdeal.Dq
-- ==== Proof.DequantLoop.lean ====
module

public import proofs.«01_k».proof.Proof.Dequant

@[expose] public section

set_option maxRecDepth 16384

noncomputable section

namespace Cert.KernelIdeal.Dq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem vec3 {a b : ℕ} (h : a = b) : (![a, 0, 0] : Fin 3 → ℕ) = ![b, 0, 0] := by rw [h]

theorem wUpd_step {κ : Kind} {sp : Space} (v : View sig κ sp S49280x2x128 .bf16) (f : v.ty.Contents (Elt F)) (σ a k : ℕ) (hσ : σ < 2) (hk : a + k < 3080)
    {off : Fin 3 → ℕ} (inb : ∀ b, S8x2x128.size b = 0 ∨ off b + (![3080, 1, 1] : Fin 3 → ℕ) b * (S8x2x128.size b - 1) < S49280x2x128.size b)
    (spos : ∀ b, 0 < (![3080, 1, 1] : Fin 3 → ℕ) b) (hoff : off = ![σ * 24640 + (a + k), 0, 0]) (W G : Vec F S49280x2x128 .bf16)
    (P : S8x2x128.Idx → Elt F .bf16) (hP : ∀ x, P x = W ((⟨⟨off, S8x2x128.size, ![3080, 1, 1], inb⟩, spos⟩ : Rect S49280x2x128).emb x))
    (h : ∀ y, v.read (Elt F) f y = wUpd (F := F) σ a k W G y) (y : S49280x2x128.Idx) :
    v.read (Elt F) (v.writes (Elt F) f [⟨⟨⟨off, S8x2x128.size, ![3080, 1, 1], inb⟩, spos⟩, P⟩]) y = wUpd (F := F) σ a (k + 1) W G y := by
  subst hoff
  by_cases hy : y ∈ (⟨⟨![σ * 24640 + (a + k), 0, 0], S8x2x128.size, ![3080, 1, 1], inb⟩, spos⟩ : Rect S49280x2x128).set
  · obtain ⟨x, rfl⟩ : ∃ x, (⟨⟨![σ * 24640 + (a + k), 0, 0], S8x2x128.size, ![3080, 1, 1], inb⟩, spos⟩ : Rect S49280x2x128).emb x = y :=
      (⟨⟨![σ * 24640 + (a + k), 0, 0], S8x2x128.size, ![3080, 1, 1], inb⟩, spos⟩ : Rect S49280x2x128).exists_idx_of_mem hy
    rw [View.read_writes_cons_emb, hP]
    have hx : (x 0).val < 8 := (x 0).isLt
    have e0 : ((⟨⟨![σ * 24640 + (a + k), 0, 0], S8x2x128.size, ![3080, 1, 1], inb⟩, spos⟩ : Rect S49280x2x128).emb x 0).val = σ * 24640 + (a + k) + 3080 * (x 0).val := rfl
    generalize (⟨⟨![σ * 24640 + (a + k), 0, 0], S8x2x128.size, ![3080, 1, 1], inb⟩, spos⟩ : Rect S49280x2x128).emb x = z at e0
    unfold wUpd
    have z1 : (z 0).val / 24640 = σ := by omega
    have z2 : (z 0).val % 3080 = a + k := by omega
    rw [if_pos (show (z 0).val / 24640 = σ ∧ a ≤ (z 0).val % 3080 ∧ (z 0).val % 3080 < a + (k + 1) from ⟨z1, by rw [z2]; exact Nat.le_add_right _ _, by rw [z2]; exact Nat.lt_succ_self _⟩)]
  · rw [View.read_writes_cons_miss _ _ _ _ _ (by exact hy), View.writes_nil, h]
    have hne : ¬((y 0).val / 24640 = σ ∧ (y 0).val % 3080 = a + k) := by
      intro hc
      apply hy
      have h0 : (y 0).val < 49280 := (y 0).isLt
      refine (⟨⟨![σ * 24640 + (a + k), 0, 0], S8x2x128.size, ![3080, 1, 1], inb⟩, spos⟩ : Rect S49280x2x128).mem_set.mpr fun b => ?_
      match b with
      | ⟨0, _⟩ => exact ⟨(y 0).val % 24640 / 3080, by show (y 0).val % 24640 / 3080 < 8; omega, by
          show (y 0).val = σ * 24640 + (a + k) + 3080 * ((y 0).val % 24640 / 3080); omega⟩
      | ⟨1, _⟩ => exact ⟨(y 1).val, (y 1).isLt, by show (y 1).val = 0 + 1 * (y 1).val; omega⟩
      | ⟨2, _⟩ => exact ⟨(y 2).val, (y 2).isLt, by show (y 2).val = 0 + 1 * (y 2).val; omega⟩
    unfold wUpd
    by_cases h1 : (y 0).val / 24640 = σ ∧ a ≤ (y 0).val % 3080 ∧ (y 0).val % 3080 < a + k
    · rw [if_pos h1, if_pos (by omega)]
    · rw [if_neg h1, if_neg (by omega)]

theorem qread {κ : Kind} {sp : Space} (v : View sig κ sp S6504x128 .i32) (X : v.ty.Contents (Elt F)) (q : Vec F S813x1024 .i32)
    (h : ∀ y, v.read (Elt F) X y = spreadQ (F := F) q y) {off : Fin 2 → ℕ} (inb : ∀ a, off a + S8x128.size a ≤ S6504x128.size a) (w : ℕ) (hw : w ≤ 812)
    (ho : off = ![8 * w, 0]) (x : S8x128.Idx) :
    v.readAt (Elt F) (Rect.unit (s := S6504x128) off S8x128.size inb).toLoadRect X x
      = q (ValueIdx.ix2 ⟨w % 813, Nat.mod_lt _ (by decide)⟩ ⟨128 * (x 0).val + (x 1).val, by have := idx2_lt0 x; have := idx2_lt1 x; omega⟩) := by
  subst ho
  rw [View.readAt_apply, h]
  have h0 := idx2_lt0 x
  have h1 := idx2_lt1 x
  unfold spreadQ
  congr 1
  funext a
  apply Fin.ext
  match a with
  | ⟨0, _⟩ => show (8 * w + 1 * (x 0).val) / 8 = w % 813; omega
  | ⟨1, _⟩ => show 128 * ((8 * w + 1 * (x 0).val) % 8) + (0 + 1 * (x 1).val) = 128 * (x 0).val + (x 1).val; omega

theorem sread {κ : Kind} {sp : Space} (v : View sig κ sp S1536x128 .f32) (X : v.ty.Contents (Elt F)) (s : Vec F S192x1024 .bf16)
    (h : ∀ y, v.read (Elt F) X y = spreadS (F := F) s y) {off : Fin 2 → ℕ} (inb : ∀ a, off a + S8x128.size a ≤ S1536x128.size a) (w : ℕ) (hw : w ≤ 191)
    (ho : off = ![8 * w, 0]) (x : S8x128.Idx) :
    v.readAt (Elt F) (Rect.unit (s := S1536x128) off S8x128.size inb).toLoadRect X x
      = FloatOps.extf .f32 bitsLt_bf16_f32 (s (ValueIdx.ix2 ⟨w % 192, Nat.mod_lt _ (by decide)⟩ ⟨128 * (x 0).val + (x 1).val, by have := idx2_lt0 x; have := idx2_lt1 x; omega⟩)) := by
  subst ho
  rw [View.readAt_apply, h]
  have h0 := idx2_lt0 x
  have h1 := idx2_lt1 x
  unfold spreadS
  show FloatOps.extf _ _ _ = FloatOps.extf _ _ _
  congr 2
  funext a
  apply Fin.ext
  match a with
  | ⟨0, _⟩ => show (8 * w + 1 * (x 0).val) / 8 = w % 192; omega
  | ⟨1, _⟩ => show 128 * ((8 * w + 1 * (x 0).val) % 8) + (0 + 1 * (x 1).val) = 128 * (x 0).val + (x 1).val; omega

/-- The pair of weights a trip stores, read off the spread tile, is the slot's at its rows. -/
theorem pair_value (v9 : View sig .tc .vmem S6504x128 .i32) (X9 : v9.ty.Contents (Elt F)) (v10 : View sig .tc .vmem S1536x128 .f32) (X10 : v10.ty.Contents (Elt F))
    (D : Vec F S6160 .i32) (q : Vec F S813x1024 .i32) (s : Vec F S192x1024 .bf16)
    (h9 : ∀ y, v9.read (Elt F) X9 y = spreadQ (F := F) q y) (h10 : ∀ y, v10.read (Elt F) X10 y = spreadS (F := F) s y)
    (σ p : ℕ) (hσ : σ < 2) (hp : p < 3080) (d d' : BitVec 32) (hd : DOk d) (hd' : DOk d')
    (ed : d = D (ValueIdx.ix1 ⟨2 * p, by omega⟩)) (ed' : d' = D (ValueIdx.ix1 ⟨2 * p + 1, by omega⟩))
    (i1 : ∀ a, k1_off23 d a + S8x128.size a ≤ S6504x128.size a) (i2 : ∀ a, k1_off24 d a + S8x128.size a ≤ S6504x128.size a) (i3 : ∀ a, k1_off25 d a + S8x128.size a ≤ S1536x128.size a)
    (i1' : ∀ a, k1_off23 d' a + S8x128.size a ≤ S6504x128.size a) (i2' : ∀ a, k1_off24 d' a + S8x128.size a ≤ S6504x128.size a) (i3' : ∀ a, k1_off25 d' a + S8x128.size a ≤ S1536x128.size a)
    {off : Fin 3 → ℕ} (inb : ∀ b, S8x2x128.size b = 0 ∨ off b + (![3080, 1, 1] : Fin 3 → ℕ) b * (S8x2x128.size b - 1) < S49280x2x128.size b)
    (spos : ∀ b, 0 < (![3080, 1, 1] : Fin 3 → ℕ) b) (hoff : off = ![σ * 24640 + p, 0, 0]) (x : S8x2x128.Idx) :
    k1_pay6 (F := F) (k1_pay30 (k1_pay29 (F := F) d (v9.readAt (Elt F) (Rect.unit (s := S6504x128) (k1_off23 d) S8x128.size i1).toLoadRect X9)
        (v9.readAt (Elt F) (Rect.unit (s := S6504x128) (k1_off24 d) S8x128.size i2).toLoadRect X9))
        (v10.readAt (Elt F) (Rect.unit (s := S1536x128) (k1_off25 d) S8x128.size i3).toLoadRect X10))
      (Scalar.andi (Scalar.shrsi d' 15#32) 15#32)
      (k1_pay31 (F := F) d' (v9.readAt (Elt F) (Rect.unit (s := S6504x128) (k1_off23 d') S8x128.size i1').toLoadRect X9)
        (v9.readAt (Elt F) (Rect.unit (s := S6504x128) (k1_off24 d') S8x128.size i2').toLoadRect X9)) 1#32
      (v10.readAt (Elt F) (Rect.unit (s := S1536x128) (k1_off25 d') S8x128.size i3').toLoadRect X10) x
      = wTile (F := F) D q s ((⟨⟨off, S8x2x128.size, ![3080, 1, 1], inb⟩, spos⟩ : Rect S49280x2x128).emb x) := by
  have hx0 : (x 0).val < 8 := (x 0).isLt
  have hx1 : (x 1).val < 2 := (x 1).isLt
  have hx2 : (x 2).val < 128 := (x 2).isLt
  rw [pay6_apply, qread v9 X9 q h9 i1 _ hd.1 (off23_eq d hd), qread v9 X9 q h9 i2 _ hd.2.1 (off24_eq d hd), sread v10 X10 s h10 i3 _ hd.2.2 (off25_eq d hd),
    qread v9 X9 q h9 i1' _ hd'.1 (off23_eq d' hd'), qread v9 X9 q h9 i2' _ hd'.2.1 (off24_eq d' hd'), sread v10 X10 s h10 i3' _ hd'.2.2 (off25_eq d' hd')]
  subst hoff
  have e0 : ((⟨⟨![σ * 24640 + p, 0, 0], S8x2x128.size, ![3080, 1, 1], inb⟩, spos⟩ : Rect S49280x2x128).emb x 0).val = σ * 24640 + p + 3080 * (x 0).val := rfl
  have e1 : ((⟨⟨![σ * 24640 + p, 0, 0], S8x2x128.size, ![3080, 1, 1], inb⟩, spos⟩ : Rect S49280x2x128).emb x 1).val = 0 + 1 * (x 1).val := rfl
  have e2 : ((⟨⟨![σ * 24640 + p, 0, 0], S8x2x128.size, ![3080, 1, 1], inb⟩, spos⟩ : Rect S49280x2x128).emb x 2).val = 0 + 1 * (x 2).val := rfl
  unfold wTile
  generalize (⟨⟨![σ * 24640 + p, 0, 0], S8x2x128.size, ![3080, 1, 1], inb⟩, spos⟩ : Rect S49280x2x128).emb x = y at e0 e1 e2
  have ec : (⟨128 * ((y 0).val % 24640 / 3080) + (y 2).val, by rw [e0, e2]; omega⟩ : Fin 1024) = ⟨128 * (x 0).val + (x 2).val, by omega⟩ := by
    apply Fin.ext; show 128 * ((y 0).val % 24640 / 3080) + (y 2).val = _; rw [e0, e2]; show _ = 128 * (x 0).val + (x 2).val; omega
  rw [ec]
  by_cases hx : (x 1).val % 2 = 0
  · rw [if_pos hx]
    have er : (⟨2 * ((y 0).val % 3080) + (y 1).val, by rw [e0, e1]; omega⟩ : Fin 6160) = ⟨2 * p, by omega⟩ := by
      apply Fin.ext; show 2 * ((y 0).val % 3080) + (y 1).val = 2 * p; rw [e0, e1]; omega
    rw [er, ← ed]; rfl
  · rw [if_neg hx]
    have er : (⟨2 * ((y 0).val % 3080) + (y 1).val, by rw [e0, e1]; omega⟩ : Fin 6160) = ⟨2 * p + 1, by omega⟩ := by
      apply Fin.ext; show 2 * ((y 0).val % 3080) + (y 1).val = 2 * p + 1; rw [e0, e1]; omega
    rw [er, ← ed']; rfl

theorem off23_inb (d : BitVec 32) (h : DOk d) (a : Fin 2) : k1_off23 d a + S8x128.size a ≤ S6504x128.size a := by
  rw [off23_eq d h]; have := h.1
  match a with
  | ⟨0, _⟩ => show 8 * (dLo d).toNat + 8 ≤ 6504; omega
  | ⟨1, _⟩ => show 0 + 128 ≤ 128; omega
theorem off24_inb (d : BitVec 32) (h : DOk d) (a : Fin 2) : k1_off24 d a + S8x128.size a ≤ S6504x128.size a := by
  rw [off24_eq d h]; have := h.2.1
  match a with
  | ⟨0, _⟩ => show 8 * (dHi d).toNat + 8 ≤ 6504; omega
  | ⟨1, _⟩ => show 0 + 128 ≤ 128; omega
theorem off25_inb (d : BitVec 32) (h : DOk d) (a : Fin 2) : k1_off25 d a + S8x128.size a ≤ S1536x128.size a := by
  rw [off25_eq d h]; have := h.2.2
  match a with
  | ⟨0, _⟩ => show 8 * (dGrp d).toNat + 8 ≤ 1536; omega
  | ⟨1, _⟩ => show 0 + 128 ≤ 128; omega

section
variable (𝒱 : Variants) (c : Dev nD) (bd : Option 𝒱.V) (E : Set ℕ) (i : grid1.Coords)
  (arg2 : Memref sig .tc .smem S6144 .i32) (harg2 : arg2.IsWhole) (arg3 : Memref sig .tc .smem S6144 .i32) (harg3 : arg3.IsWhole) (arg4 : Memref sig .tc .vmem S512x6144 .bf16) (harg4 : arg4.IsWhole) (arg5 : Memref sig .tc .vmem S813x1024 .i32) (harg5 : arg5.IsWhole) (arg6 : Memref sig .tc .vmem S192x1024 .bf16) (harg6 : arg6.IsWhole) (arg7 : Memref sig .tc .vmem S512x1024 .bf16) (harg7 : arg7.IsWhole) (arg8 : Memref sig .tc .smem S6160 .i32) (harg8 : arg8.IsWhole) (arg9 : Memref sig .tc .vmem S6504x128 .i32) (harg9 : arg9.IsWhole) (arg10 : Memref sig .tc .vmem S1536x128 .f32) (harg10 : arg10.IsWhole) (arg11 : Memref sig .tc .vmem S49280x2x128 .bf16) (harg11 : arg11.IsWhole)

abbrev invW (X8 : BufTy.Contents (Elt F) arg8.view.ty) (X9 : BufTy.Contents (Elt F) arg9.view.ty) (X10 : BufTy.Contents (Elt F) arg10.view.ty)
    (W G : Vec F S49280x2x128 .bf16) (σ a : ℕ) (k : ℕ) (_ : Unit) : sProp 𝕄G :=
  iprop((arg8.view.loc (c : Thread nD τ) ↦[arg8.view.set]{fullShare} X8) ∗ (arg9.view.loc (c : Thread nD τ) ↦[arg9.view.set]{fullShare} X9)
    ∗ (arg10.view.loc (c : Thread nD τ) ↦[arg10.view.set]{fullShare} X10)
    ∗ ∃ f, (arg11.view.loc (c : Thread nD τ) ↦[arg11.view.set]{fullShare} f)
      ∗ ⌜∀ y : S49280x2x128.Idx, arg11.view.read (Elt F) f y = wUpd (F := F) σ a k W G y⌝)

theorem step5 (arg1 : BitVec 32) (k1_h3 : k1_cond3 i = 1#1) (X8 : BufTy.Contents (Elt F) arg8.view.ty) (X9 : BufTy.Contents (Elt F) arg9.view.ty) (X10 : BufTy.Contents (Elt F) arg10.view.ty)
    (q : Vec F S813x1024 .i32) (s : Vec F S192x1024 .bf16) (G : Vec F S49280x2x128 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (k : Fin k1_t5_loop.trips) :
    invW (F := F) c arg8 arg9 arg10 arg11 X8 X9 X10 (wTile (F := F) (arg8.view.read (Elt F) X8) q s) G ((i 0).val % 2) (308 * (i 1).val) k ()
      ⊢ wp frame (wpE (defs₀ (F := F)) 𝒱 (c : Thread nD τ) bd) E (k1_t5_body (F := F) i arg2 harg2 arg3 harg3 arg4 harg4 arg5 harg5 arg6 harg6 arg7 harg7 arg8 harg8 arg9 harg9 arg10 harg10 arg11 harg11 arg1 k1_h3 k ())
          (fun _ => invW (F := F) c arg8 arg9 arg10 arg11 X8 X9 X10 (wTile (F := F) (arg8.view.read (Elt F) X8) q s) G ((i 0).val % 2) (308 * (i 1).val) (k + 1) ()) := by
  unfold k1_t5_body
  sl_open_parts
  have r1 : (i 1).val < 10 := (i 1).isLt
  have hk : k.val < 308 := Nat.lt_of_lt_of_le k.isLt k1_t5_abs.2.1
  have hr1 : ∀ x, arg8.view.readAt (Elt F) (Rect.unit (s := S6160) (k1_off22 i k) S1.size (k1_off22_inb i k k1_h3)).toLoadRect X8 x
      = arg8.view.read (Elt F) X8 (ValueIdx.ix1 ⟨2 * (308 * (i 1).val + k.val), by omega⟩) := fun x =>
    readAt_cell _ _ _ ⟨2 * (308 * (i 1).val + k.val), by omega⟩ (by rw [k1_off22_eq]; show 616 * (i 1).val + 2 * k.val = 2 * (308 * (i 1).val + k.val); omega) x
  have hr2 : ∀ x, arg8.view.readAt (Elt F) (Rect.unit (s := S6160) (k1_off26 i k) S1.size (k1_off26_inb i k k1_h3)).toLoadRect X8 x
      = arg8.view.read (Elt F) X8 (ValueIdx.ix1 ⟨2 * (308 * (i 1).val + k.val) + 1, by omega⟩) := fun x =>
    readAt_cell _ _ _ ⟨2 * (308 * (i 1).val + k.val) + 1, by omega⟩ (by rw [k1_off26_eq]; show 616 * (i 1).val + 2 * k.val + 1 = 2 * (308 * (i 1).val + k.val) + 1; omega) x
  have hok1 : ∀ x, DOk (arg8.view.readAt (Elt F) (Rect.unit (s := S6160) (k1_off22 i k) S1.size (k1_off22_inb i k k1_h3)).toLoadRect X8 x) := fun x => by
    rw [hr1 x]; exact h8 _
  have hok2 : ∀ x, DOk (arg8.view.readAt (Elt F) (Rect.unit (s := S6160) (k1_off26 i k) S1.size (k1_off26_inb i k k1_h3)).toLoadRect X8 x) := fun x => by
    rw [hr2 x]; exact h8 _
  have hchk1 : ∀ x, k1_chk2 i (arg8.view.readAt (Elt F) (Rect.unit (s := S6160) (k1_off22 i k) S1.size (k1_off22_inb i k k1_h3)).toLoadRect X8 x) := fun x =>
    ⟨fun _ => off23_inb _ (hok1 x), fun _ => off24_inb _ (hok1 x), fun _ => off25_inb _ (hok1 x)⟩
  have hchk2 : ∀ x, k1_chk3 i (arg8.view.readAt (Elt F) (Rect.unit (s := S6160) (k1_off26 i k) S1.size (k1_off26_inb i k k1_h3)).toLoadRect X8 x) := fun x =>
    ⟨fun _ => off23_inb _ (hok2 x), fun _ => off24_inb _ (hok2 x), fun _ => off25_inb _ (hok2 x)⟩
  iintro ⟨H8, H9, H10, ⟨%f, H11, %h11⟩⟩
  sl_exec (disch := first | exact hchk1 _ | exact hchk2 _)
  sl_step
  isplitl [H8]; · iexact H8
  isplitl [H9]; · iexact H9
  isplitl [H10]; · iexact H10
  iexists _
  isplitl [H11]; · iexact H11
  ipureintro
  refine wUpd_step _ _ ((i 0).val % 2) (308 * (i 1).val) k.val (Nat.mod_lt _ (by decide)) (by omega) _ _ (by rw [k1_off30_eq]; exact vec3 (by omega)) _ _ _ (fun x => ?_) h11
  exact pair_value arg9.view X9 arg10.view X10 _ q s h9 h10 ((i 0).val % 2) (308 * (i 1).val + k.val) (Nat.mod_lt _ (by decide)) (by omega) _ _ (hok1 _) (hok2 _)
    (hr1 _) (hr2 _) _ _ _ _ _ _ _ _ (by rw [k1_off30_eq]; exact vec3 (by omega)) x

theorem step6 (arg1 v8 : BitVec 32) (k1_h4 : k1_cond4 i = 1#1) (X8 : BufTy.Contents (Elt F) arg8.view.ty) (X9 : BufTy.Contents (Elt F) arg9.view.ty) (X10 : BufTy.Contents (Elt F) arg10.view.ty)
    (q : Vec F S813x1024 .i32) (s : Vec F S192x1024 .bf16) (G : Vec F S49280x2x128 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (k : Fin k1_t6_loop.trips) :
    invW (F := F) c arg8 arg9 arg10 arg11 X8 X9 X10 (wTile (F := F) (arg8.view.read (Elt F) X8) q s) G ((i 0).val % 2) (308 * (i 1).val) k ()
      ⊢ wp frame (wpE (defs₀ (F := F)) 𝒱 (c : Thread nD τ) bd) E (k1_t6_body (F := F) i arg2 harg2 arg3 harg3 arg4 harg4 arg5 harg5 arg6 harg6 arg7 harg7 arg8 harg8 arg9 harg9 arg10 harg10 arg11 harg11 arg1 v8 k1_h4 k ())
          (fun _ => invW (F := F) c arg8 arg9 arg10 arg11 X8 X9 X10 (wTile (F := F) (arg8.view.read (Elt F) X8) q s) G ((i 0).val % 2) (308 * (i 1).val) (k + 1) ()) := by
  unfold k1_t6_body
  sl_open_parts
  have r1 : (i 1).val < 10 := (i 1).isLt
  have hk : k.val < 77 := Nat.lt_of_lt_of_le k.isLt k1_t6_abs.2.1
  have hr1 : ∀ x, arg8.view.readAt (Elt F) (Rect.unit (s := S6160) (k1_off31 i k) S1.size (k1_off31_inb i k k1_h4)).toLoadRect X8 x
      = arg8.view.read (Elt F) X8 (ValueIdx.ix1 ⟨2 * (308 * (i 1).val + k.val), by omega⟩) := fun x =>
    readAt_cell _ _ _ ⟨2 * (308 * (i 1).val + k.val), by omega⟩ (by rw [k1_off31_eq]; show 616 * (i 1).val + 2 * k.val = 2 * (308 * (i 1).val + k.val); omega) x
  have hr2 : ∀ x, arg8.view.readAt (Elt F) (Rect.unit (s := S6160) (k1_off35 i k) S1.size (k1_off35_inb i k k1_h4)).toLoadRect X8 x
      = arg8.view.read (Elt F) X8 (ValueIdx.ix1 ⟨2 * (308 * (i 1).val + k.val) + 1, by omega⟩) := fun x =>
    readAt_cell _ _ _ ⟨2 * (308 * (i 1).val + k.val) + 1, by omega⟩ (by rw [k1_off35_eq]; show 616 * (i 1).val + 2 * k.val + 1 = 2 * (308 * (i 1).val + k.val) + 1; omega) x
  have hok1 : ∀ x, DOk (arg8.view.readAt (Elt F) (Rect.unit (s := S6160) (k1_off31 i k) S1.size (k1_off31_inb i k k1_h4)).toLoadRect X8 x) := fun x => by
    rw [hr1 x]; exact h8 _
  have hok2 : ∀ x, DOk (arg8.view.readAt (Elt F) (Rect.unit (s := S6160) (k1_off35 i k) S1.size (k1_off35_inb i k k1_h4)).toLoadRect X8 x) := fun x => by
    rw [hr2 x]; exact h8 _
  have hchk1 : ∀ x, k1_chk4 i (arg8.view.readAt (Elt F) (Rect.unit (s := S6160) (k1_off31 i k) S1.size (k1_off31_inb i k k1_h4)).toLoadRect X8 x) := fun x =>
    ⟨fun _ => off23_inb _ (hok1 x), fun _ => off24_inb _ (hok1 x), fun _ => off25_inb _ (hok1 x)⟩
  have hchk2 : ∀ x, k1_chk5 i (arg8.view.readAt (Elt F) (Rect.unit (s := S6160) (k1_off35 i k) S1.size (k1_off35_inb i k k1_h4)).toLoadRect X8 x) := fun x =>
    ⟨fun _ => off23_inb _ (hok2 x), fun _ => off24_inb _ (hok2 x), fun _ => off25_inb _ (hok2 x)⟩
  iintro ⟨H8, H9, H10, ⟨%f, H11, %h11⟩⟩
  sl_exec (disch := first | exact hchk1 _ | exact hchk2 _)
  sl_step
  isplitl [H8]; · iexact H8
  isplitl [H9]; · iexact H9
  isplitl [H10]; · iexact H10
  iexists _
  isplitl [H11]; · iexact H11
  ipureintro
  refine wUpd_step _ _ ((i 0).val % 2) (308 * (i 1).val) k.val (Nat.mod_lt _ (by decide)) (by omega) _ _ (by rw [k1_off39_eq]; exact vec3 (by omega)) _ _ _ (fun x => ?_) h11
  exact pair_value arg9.view X9 arg10.view X10 _ q s h9 h10 ((i 0).val % 2) (308 * (i 1).val + k.val) (Nat.mod_lt _ (by decide)) (by omega) _ _ (hok1 _) (hok2 _)
    (hr1 _) (hr2 _) _ _ _ _ _ _ _ _ (by rw [k1_off39_eq]; exact vec3 (by omega)) x

theorem step7 (arg1 v8 : BitVec 32) (k1_h4 : k1_cond4 i = 1#1) (X8 : BufTy.Contents (Elt F) arg8.view.ty) (X9 : BufTy.Contents (Elt F) arg9.view.ty) (X10 : BufTy.Contents (Elt F) arg10.view.ty)
    (q : Vec F S813x1024 .i32) (s : Vec F S192x1024 .bf16) (G : Vec F S49280x2x128 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (k : Fin k1_t7_loop.trips) :
    invW (F := F) c arg8 arg9 arg10 arg11 X8 X9 X10 (wTile (F := F) (arg8.view.read (Elt F) X8) q s) G ((i 0).val % 2) (308 * (i 1).val + 77) k ()
      ⊢ wp frame (wpE (defs₀ (F := F)) 𝒱 (c : Thread nD τ) bd) E (k1_t7_body (F := F) i arg2 harg2 arg3 harg3 arg4 harg4 arg5 harg5 arg6 harg6 arg7 harg7 arg8 harg8 arg9 harg9 arg10 harg10 arg11 harg11 arg1 v8 k1_h4 k ())
          (fun _ => invW (F := F) c arg8 arg9 arg10 arg11 X8 X9 X10 (wTile (F := F) (arg8.view.read (Elt F) X8) q s) G ((i 0).val % 2) (308 * (i 1).val + 77) (k + 1) ()) := by
  unfold k1_t7_body
  sl_open_parts
  have r1 : (i 1).val < 10 := (i 1).isLt
  have hk : k.val < 77 := Nat.lt_of_lt_of_le k.isLt k1_t7_abs.2.1
  have hr1 : ∀ x, arg8.view.readAt (Elt F) (Rect.unit (s := S6160) (k1_off41 i k) S1.size (k1_off41_inb i k k1_h4)).toLoadRect X8 x
      = arg8.view.read (Elt F) X8 (ValueIdx.ix1 ⟨2 * (308 * (i 1).val + 77 + k.val), by omega⟩) := fun x =>
    readAt_cell _ _ _ ⟨2 * (308 * (i 1).val + 77 + k.val), by omega⟩ (by rw [k1_off41_eq]; show 616 * (i 1).val + 2 * k.val + 154 = 2 * (308 * (i 1).val + 77 + k.val); omega) x
  have hr2 : ∀ x, arg8.view.readAt (Elt F) (Rect.unit (s := S6160) (k1_off45 i k) S1.size (k1_off45_inb i k k1_h4)).toLoadRect X8 x
      = arg8.view.read (Elt F) X8 (ValueIdx.ix1 ⟨2 * (308 * (i 1).val + 77 + k.val) + 1, by omega⟩) := fun x =>
    readAt_cell _ _ _ ⟨2 * (308 * (i 1).val + 77 + k.val) + 1, by omega⟩ (by rw [k1_off45_eq]; show 616 * (i 1).val + 2 * k.val + 155 = 2 * (308 * (i 1).val + 77 + k.val) + 1; omega) x
  have hok1 : ∀ x, DOk (arg8.view.readAt (Elt F) (Rect.unit (s := S6160) (k1_off41 i k) S1.size (k1_off41_inb i k k1_h4)).toLoadRect X8 x) := fun x => by
    rw [hr1 x]; exact h8 _
  have hok2 : ∀ x, DOk (arg8.view.readAt (Elt F) (Rect.unit (s := S6160) (k1_off45 i k) S1.size (k1_off45_inb i k k1_h4)).toLoadRect X8 x) := fun x => by
    rw [hr2 x]; exact h8 _
  have hchk1 : ∀ x, k1_chk6 i (arg8.view.readAt (Elt F) (Rect.unit (s := S6160) (k1_off41 i k) S1.size (k1_off41_inb i k k1_h4)).toLoadRect X8 x) := fun x =>
    ⟨fun _ => off23_inb _ (hok1 x), fun _ => off24_inb _ (hok1 x), fun _ => off25_inb _ (hok1 x)⟩
  have hchk2 : ∀ x, k1_chk7 i (arg8.view.readAt (Elt F) (Rect.unit (s := S6160) (k1_off45 i k) S1.size (k1_off45_inb i k k1_h4)).toLoadRect X8 x) := fun x =>
    ⟨fun _ => off23_inb _ (hok2 x), fun _ => off24_inb _ (hok2 x), fun _ => off25_inb _ (hok2 x)⟩
  iintro ⟨H8, H9, H10, ⟨%f, H11, %h11⟩⟩
  sl_exec (disch := first | exact hchk1 _ | exact hchk2 _)
  sl_step
  isplitl [H8]; · iexact H8
  isplitl [H9]; · iexact H9
  isplitl [H10]; · iexact H10
  iexists _
  isplitl [H11]; · iexact H11
  ipureintro
  refine wUpd_step _ _ ((i 0).val % 2) (308 * (i 1).val + 77) k.val (Nat.mod_lt _ (by decide)) (by omega) _ _ (by rw [k1_off49_eq]; exact vec3 (by omega)) _ _ _ (fun x => ?_) h11
  exact pair_value arg9.view X9 arg10.view X10 _ q s h9 h10 ((i 0).val % 2) (308 * (i 1).val + 77 + k.val) (Nat.mod_lt _ (by decide)) (by omega) _ _ (hok1 _) (hok2 _)
    (hr1 _) (hr2 _) _ _ _ _ _ _ _ _ (by rw [k1_off49_eq]; exact vec3 (by omega)) x

theorem step8 (arg1 v8 v36 : BitVec 32) (v41 : FVec F S6144x128 .bf16) (c9240 : BitVec 32) (k1_h4 : k1_cond4 i = 1#1) (X8 : BufTy.Contents (Elt F) arg8.view.ty) (X9 : BufTy.Contents (Elt F) arg9.view.ty) (X10 : BufTy.Contents (Elt F) arg10.view.ty)
    (q : Vec F S813x1024 .i32) (s : Vec F S192x1024 .bf16) (G : Vec F S49280x2x128 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (k : Fin k1_t8_loop.trips) :
    invW (F := F) c arg8 arg9 arg10 arg11 X8 X9 X10 (wTile (F := F) (arg8.view.read (Elt F) X8) q s) G ((i 0).val % 2) (308 * (i 1).val + 154) k ()
      ⊢ wp frame (wpE (defs₀ (F := F)) 𝒱 (c : Thread nD τ) bd) E (k1_t8_body (F := F) i arg2 harg2 arg3 harg3 arg4 harg4 arg5 harg5 arg6 harg6 arg7 harg7 arg8 harg8 arg9 harg9 arg10 harg10 arg11 harg11 arg1 v8 k1_h4 v36 v41 c9240 k ())
          (fun _ => invW (F := F) c arg8 arg9 arg10 arg11 X8 X9 X10 (wTile (F := F) (arg8.view.read (Elt F) X8) q s) G ((i 0).val % 2) (308 * (i 1).val + 154) (k + 1) ()) := by
  unfold k1_t8_body
  sl_open_parts
  have r1 : (i 1).val < 10 := (i 1).isLt
  have hk : k.val < 77 := Nat.lt_of_lt_of_le k.isLt k1_t8_abs.2.1
  have hr1 : ∀ x, arg8.view.readAt (Elt F) (Rect.unit (s := S6160) (k1_off50 i k) S1.size (k1_off50_inb i k k1_h4)).toLoadRect X8 x
      = arg8.view.read (Elt F) X8 (ValueIdx.ix1 ⟨2 * (308 * (i 1).val + 154 + k.val), by omega⟩) := fun x =>
    readAt_cell _ _ _ ⟨2 * (308 * (i 1).val + 154 + k.val), by omega⟩ (by rw [k1_off50_eq]; show 616 * (i 1).val + 2 * k.val + 308 = 2 * (308 * (i 1).val + 154 + k.val); omega) x
  have hr2 : ∀ x, arg8.view.readAt (Elt F) (Rect.unit (s := S6160) (k1_off54 i k) S1.size (k1_off54_inb i k k1_h4)).toLoadRect X8 x
      = arg8.view.read (Elt F) X8 (ValueIdx.ix1 ⟨2 * (308 * (i 1).val + 154 + k.val) + 1, by omega⟩) := fun x =>
    readAt_cell _ _ _ ⟨2 * (308 * (i 1).val + 154 + k.val) + 1, by omega⟩ (by rw [k1_off54_eq]; show 616 * (i 1).val + 2 * k.val + 309 = 2 * (308 * (i 1).val + 154 + k.val) + 1; omega) x
  have hok1 : ∀ x, DOk (arg8.view.readAt (Elt F) (Rect.unit (s := S6160) (k1_off50 i k) S1.size (k1_off50_inb i k k1_h4)).toLoadRect X8 x) := fun x => by
    rw [hr1 x]; exact h8 _
  have hok2 : ∀ x, DOk (arg8.view.readAt (Elt F) (Rect.unit (s := S6160) (k1_off54 i k) S1.size (k1_off54_inb i k k1_h4)).toLoadRect X8 x) := fun x => by
    rw [hr2 x]; exact h8 _
  have hchk1 : ∀ x, k1_chk8 i (arg8.view.readAt (Elt F) (Rect.unit (s := S6160) (k1_off50 i k) S1.size (k1_off50_inb i k k1_h4)).toLoadRect X8 x) := fun x =>
    ⟨fun _ => off23_inb _ (hok1 x), fun _ => off24_inb _ (hok1 x), fun _ => off25_inb _ (hok1 x)⟩
  have hchk2 : ∀ x, k1_chk9 i (arg8.view.readAt (Elt F) (Rect.unit (s := S6160) (k1_off54 i k) S1.size (k1_off54_inb i k k1_h4)).toLoadRect X8 x) := fun x =>
    ⟨fun _ => off23_inb _ (hok2 x), fun _ => off24_inb _ (hok2 x), fun _ => off25_inb _ (hok2 x)⟩
  iintro ⟨H8, H9, H10, ⟨%f, H11, %h11⟩⟩
  sl_exec (disch := first | exact hchk1 _ | exact hchk2 _)
  sl_step
  isplitl [H8]; · iexact H8
  isplitl [H9]; · iexact H9
  isplitl [H10]; · iexact H10
  iexists _
  isplitl [H11]; · iexact H11
  ipureintro
  refine wUpd_step _ _ ((i 0).val % 2) (308 * (i 1).val + 154) k.val (Nat.mod_lt _ (by decide)) (by omega) _ _ (by rw [k1_off58_eq]; exact vec3 (by omega)) _ _ _ (fun x => ?_) h11
  exact pair_value arg9.view X9 arg10.view X10 _ q s h9 h10 ((i 0).val % 2) (308 * (i 1).val + 154 + k.val) (Nat.mod_lt _ (by decide)) (by omega) _ _ (hok1 _) (hok2 _)
    (hr1 _) (hr2 _) _ _ _ _ _ _ _ _ (by rw [k1_off58_eq]; exact vec3 (by omega)) x

theorem step9 (arg1 : BitVec 32) (k1_h4 : k1_cond4 i = 1#1) (X8 : BufTy.Contents (Elt F) arg8.view.ty) (X9 : BufTy.Contents (Elt F) arg9.view.ty) (X10 : BufTy.Contents (Elt F) arg10.view.ty)
    (q : Vec F S813x1024 .i32) (s : Vec F S192x1024 .bf16) (G : Vec F S49280x2x128 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (k : Fin k1_t9_loop.trips) :
    invW (F := F) c arg8 arg9 arg10 arg11 X8 X9 X10 (wTile (F := F) (arg8.view.read (Elt F) X8) q s) G ((i 0).val % 2) (308 * (i 1).val + 231) k ()
      ⊢ wp frame (wpE (defs₀ (F := F)) 𝒱 (c : Thread nD τ) bd) E (k1_t9_body (F := F) i arg2 harg2 arg3 harg3 arg4 harg4 arg5 harg5 arg6 harg6 arg7 harg7 arg8 harg8 arg9 harg9 arg10 harg10 arg11 harg11 arg1 k1_h4 k ())
          (fun _ => invW (F := F) c arg8 arg9 arg10 arg11 X8 X9 X10 (wTile (F := F) (arg8.view.read (Elt F) X8) q s) G ((i 0).val % 2) (308 * (i 1).val + 231) (k + 1) ()) := by
  unfold k1_t9_body
  sl_open_parts
  have r1 : (i 1).val < 10 := (i 1).isLt
  have hk : k.val < 77 := Nat.lt_of_lt_of_le k.isLt k1_t9_abs.2.1
  have hr1 : ∀ x, arg8.view.readAt (Elt F) (Rect.unit (s := S6160) (k1_off59 i k) S1.size (k1_off59_inb i k k1_h4)).toLoadRect X8 x
      = arg8.view.read (Elt F) X8 (ValueIdx.ix1 ⟨2 * (308 * (i 1).val + 231 + k.val), by omega⟩) := fun x =>
    readAt_cell _ _ _ ⟨2 * (308 * (i 1).val + 231 + k.val), by omega⟩ (by rw [k1_off59_eq]; show 616 * (i 1).val + 2 * k.val + 462 = 2 * (308 * (i 1).val + 231 + k.val); omega) x
  have hr2 : ∀ x, arg8.view.readAt (Elt F) (Rect.unit (s := S6160) (k1_off63 i k) S1.size (k1_off63_inb i k k1_h4)).toLoadRect X8 x
      = arg8.view.read (Elt F) X8 (ValueIdx.ix1 ⟨2 * (308 * (i 1).val + 231 + k.val) + 1, by omega⟩) := fun x =>
    readAt_cell _ _ _ ⟨2 * (308 * (i 1).val + 231 + k.val) + 1, by omega⟩ (by rw [k1_off63_eq]; show 616 * (i 1).val + 2 * k.val + 463 = 2 * (308 * (i 1).val + 231 + k.val) + 1; omega) x
  have hok1 : ∀ x, DOk (arg8.view.readAt (Elt F) (Rect.unit (s := S6160) (k1_off59 i k) S1.size (k1_off59_inb i k k1_h4)).toLoadRect X8 x) := fun x => by
    rw [hr1 x]; exact h8 _
  have hok2 : ∀ x, DOk (arg8.view.readAt (Elt F) (Rect.unit (s := S6160) (k1_off63 i k) S1.size (k1_off63_inb i k k1_h4)).toLoadRect X8 x) := fun x => by
    rw [hr2 x]; exact h8 _
  have hchk1 : ∀ x, k1_chk10 i (arg8.view.readAt (Elt F) (Rect.unit (s := S6160) (k1_off59 i k) S1.size (k1_off59_inb i k k1_h4)).toLoadRect X8 x) := fun x =>
    ⟨fun _ => off23_inb _ (hok1 x), fun _ => off24_inb _ (hok1 x), fun _ => off25_inb _ (hok1 x)⟩
  have hchk2 : ∀ x, k1_chk11 i (arg8.view.readAt (Elt F) (Rect.unit (s := S6160) (k1_off63 i k) S1.size (k1_off63_inb i k k1_h4)).toLoadRect X8 x) := fun x =>
    ⟨fun _ => off23_inb _ (hok2 x), fun _ => off24_inb _ (hok2 x), fun _ => off25_inb _ (hok2 x)⟩
  iintro ⟨H8, H9, H10, ⟨%f, H11, %h11⟩⟩
  sl_exec (disch := first | exact hchk1 _ | exact hchk2 _)
  sl_step
  isplitl [H8]; · iexact H8
  isplitl [H9]; · iexact H9
  isplitl [H10]; · iexact H10
  iexists _
  isplitl [H11]; · iexact H11
  ipureintro
  refine wUpd_step _ _ ((i 0).val % 2) (308 * (i 1).val + 231) k.val (Nat.mod_lt _ (by decide)) (by omega) _ _ (by rw [k1_off67_eq]; exact vec3 (by omega)) _ _ _ (fun x => ?_) h11
  exact pair_value arg9.view X9 arg10.view X10 _ q s h9 h10 ((i 0).val % 2) (308 * (i 1).val + 231 + k.val) (Nat.mod_lt _ (by decide)) (by omega) _ _ (hok1 _) (hok2 _)
    (hr1 _) (hr2 _) _ _ _ _ _ _ _ _ (by rw [k1_off67_eq]; exact vec3 (by omega)) x

end

end Cert.KernelIdeal.Dq
-- ==== Proof.LoopRuns.lean ====
module

public import proofs.«01_k».proof.Proof.DequantLoop

@[expose] public section

set_option maxRecDepth 16384

noncomputable section

namespace Cert.KernelIdeal.Dq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section
variable (𝒱 : Variants) (c : Dev nD) (bd : Option 𝒱.V) (E : Set ℕ) (i : grid1.Coords)
  (arg2 : Memref sig .tc .smem S6144 .i32) (harg2 : arg2.IsWhole) (arg3 : Memref sig .tc .smem S6144 .i32) (harg3 : arg3.IsWhole) (arg4 : Memref sig .tc .vmem S512x6144 .bf16) (harg4 : arg4.IsWhole) (arg5 : Memref sig .tc .vmem S813x1024 .i32) (harg5 : arg5.IsWhole) (arg6 : Memref sig .tc .vmem S192x1024 .bf16) (harg6 : arg6.IsWhole) (arg7 : Memref sig .tc .vmem S512x1024 .bf16) (harg7 : arg7.IsWhole) (arg8 : Memref sig .tc .smem S6160 .i32) (harg8 : arg8.IsWhole) (arg9 : Memref sig .tc .vmem S6504x128 .i32) (harg9 : arg9.IsWhole) (arg10 : Memref sig .tc .vmem S1536x128 .f32) (harg10 : arg10.IsWhole) (arg11 : Memref sig .tc .vmem S49280x2x128 .bf16) (harg11 : arg11.IsWhole)

theorem trips1 : k1_t1_loop.trips = 6144 := by decide
theorem trips2 : k1_t2_loop.trips = 16 := by decide
theorem trips3 : k1_t3_loop.trips = 101 := by decide
theorem trips4 : k1_t4_loop.trips = 12 := by decide
theorem trips5 : k1_t5_loop.trips = 308 := by decide
theorem trips6 : k1_t6_loop.trips = 77 := by decide
theorem trips7 : k1_t7_loop.trips = 77 := by decide
theorem trips8 : k1_t8_loop.trips = 77 := by decide
theorem trips9 : k1_t9_loop.trips = 77 := by decide

theorem loop5 (arg1 : BitVec 32) (k1_h3 : k1_cond3 i = 1#1) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y)
    {β : Type} (kk : PUnit → Prog (TpuEff nD τ sig (Elt F) Λ₀ .tc) β) (Q : β → sProp 𝕄G) :
    iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x2x128.Idx, arg11.view.read (Elt F) f y = wUpd (F := F) ((i 0).val % 2) (308 * (i 1).val) 308 (wTile (F := F) (arg8.view.read (Elt F) X8) q s) (arg11.view.read (Elt F) X11) y⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t5_loop (k1_t5_ok i k1_h3) ⟨⟩ (k1_t5_body (F := F) i arg2 harg2 arg3 harg3 arg4 harg4 arg5 harg5 arg6 harg6 arg7 harg7 arg8 harg8 arg9 harg9 arg10 harg10 arg11 harg11 arg1 k1_h3) >>= kk) Q := by
  iintro ⟨H8, H9, H10, H11, HK⟩
  unfold Scf.Loop.for
  iapply (Scf.wp_for_bind frame (wpE (defs₀ (F := F)) 𝒱 (c : Thread nD τ) bd) E _ _ _ _ _ _
    (fun k u => invW (F := F) c arg8 arg9 arg10 arg11 X8 X9 X10 (wTile (F := F) (arg8.view.read (Elt F) X8) q s) (arg11.view.read (Elt F) X11) ((i 0).val % 2) (308 * (i 1).val) k u)
    (fun k _ => step5 (F := F) 𝒱 c bd E i arg2 harg2 arg3 harg3 arg4 harg4 arg5 harg5 arg6 harg6 arg7 harg7 arg8 harg8 arg9 harg9 arg10 harg10 arg11 harg11 arg1 k1_h3 X8 X9 X10 q s (arg11.view.read (Elt F) X11) h8 h9 h10 k)) $$ [H8 H9 H10 H11]
  · isplitl [H8]; · iexact H8
    isplitl [H9]; · iexact H9
    isplitl [H10]; · iexact H10
    iexists X11
    isplitl [H11]; · iexact H11
    ipureintro; intro y; rw [wUpd_zero]
  iintro %_ ⟨H8, H9, H10, ⟨%f, H11, %hf⟩⟩
  iapply HK $$ %f
  isplitl [H8]; · iexact H8
  isplitl [H9]; · iexact H9
  isplitl [H10]; · iexact H10
  isplitl [H11]; · iexact H11
  ipureintro
  have ht : Scf.trips k1_t5_loop.lb k1_t5_loop.ub k1_t5_loop.st = 308 := trips5
  rw [ht] at hf
  exact hf

theorem loop6 (arg1 v8 : BitVec 32) (k1_h4 : k1_cond4 i = 1#1) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y)
    {β : Type} (kk : PUnit → Prog (TpuEff nD τ sig (Elt F) Λ₀ .tc) β) (Q : β → sProp 𝕄G) :
    iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x2x128.Idx, arg11.view.read (Elt F) f y = wUpd (F := F) ((i 0).val % 2) (308 * (i 1).val) 77 (wTile (F := F) (arg8.view.read (Elt F) X8) q s) (arg11.view.read (Elt F) X11) y⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t6_loop (k1_t6_ok i k1_h4) ⟨⟩ (k1_t6_body (F := F) i arg2 harg2 arg3 harg3 arg4 harg4 arg5 harg5 arg6 harg6 arg7 harg7 arg8 harg8 arg9 harg9 arg10 harg10 arg11 harg11 arg1 v8 k1_h4) >>= kk) Q := by
  iintro ⟨H8, H9, H10, H11, HK⟩
  unfold Scf.Loop.for
  iapply (Scf.wp_for_bind frame (wpE (defs₀ (F := F)) 𝒱 (c : Thread nD τ) bd) E _ _ _ _ _ _
    (fun k u => invW (F := F) c arg8 arg9 arg10 arg11 X8 X9 X10 (wTile (F := F) (arg8.view.read (Elt F) X8) q s) (arg11.view.read (Elt F) X11) ((i 0).val % 2) (308 * (i 1).val) k u)
    (fun k _ => step6 (F := F) 𝒱 c bd E i arg2 harg2 arg3 harg3 arg4 harg4 arg5 harg5 arg6 harg6 arg7 harg7 arg8 harg8 arg9 harg9 arg10 harg10 arg11 harg11 arg1 v8 k1_h4 X8 X9 X10 q s (arg11.view.read (Elt F) X11) h8 h9 h10 k)) $$ [H8 H9 H10 H11]
  · isplitl [H8]; · iexact H8
    isplitl [H9]; · iexact H9
    isplitl [H10]; · iexact H10
    iexists X11
    isplitl [H11]; · iexact H11
    ipureintro; intro y; rw [wUpd_zero]
  iintro %_ ⟨H8, H9, H10, ⟨%f, H11, %hf⟩⟩
  iapply HK $$ %f
  isplitl [H8]; · iexact H8
  isplitl [H9]; · iexact H9
  isplitl [H10]; · iexact H10
  isplitl [H11]; · iexact H11
  ipureintro
  have ht : Scf.trips k1_t6_loop.lb k1_t6_loop.ub k1_t6_loop.st = 77 := trips6
  rw [ht] at hf
  exact hf

theorem loop7 (arg1 v8 : BitVec 32) (k1_h4 : k1_cond4 i = 1#1) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y)
    {β : Type} (kk : PUnit → Prog (TpuEff nD τ sig (Elt F) Λ₀ .tc) β) (Q : β → sProp 𝕄G) :
    iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x2x128.Idx, arg11.view.read (Elt F) f y = wUpd (F := F) ((i 0).val % 2) (308 * (i 1).val + 77) 77 (wTile (F := F) (arg8.view.read (Elt F) X8) q s) (arg11.view.read (Elt F) X11) y⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t7_loop (k1_t7_ok i k1_h4) ⟨⟩ (k1_t7_body (F := F) i arg2 harg2 arg3 harg3 arg4 harg4 arg5 harg5 arg6 harg6 arg7 harg7 arg8 harg8 arg9 harg9 arg10 harg10 arg11 harg11 arg1 v8 k1_h4) >>= kk) Q := by
  iintro ⟨H8, H9, H10, H11, HK⟩
  unfold Scf.Loop.for
  iapply (Scf.wp_for_bind frame (wpE (defs₀ (F := F)) 𝒱 (c : Thread nD τ) bd) E _ _ _ _ _ _
    (fun k u => invW (F := F) c arg8 arg9 arg10 arg11 X8 X9 X10 (wTile (F := F) (arg8.view.read (Elt F) X8) q s) (arg11.view.read (Elt F) X11) ((i 0).val % 2) (308 * (i 1).val + 77) k u)
    (fun k _ => step7 (F := F) 𝒱 c bd E i arg2 harg2 arg3 harg3 arg4 harg4 arg5 harg5 arg6 harg6 arg7 harg7 arg8 harg8 arg9 harg9 arg10 harg10 arg11 harg11 arg1 v8 k1_h4 X8 X9 X10 q s (arg11.view.read (Elt F) X11) h8 h9 h10 k)) $$ [H8 H9 H10 H11]
  · isplitl [H8]; · iexact H8
    isplitl [H9]; · iexact H9
    isplitl [H10]; · iexact H10
    iexists X11
    isplitl [H11]; · iexact H11
    ipureintro; intro y; rw [wUpd_zero]
  iintro %_ ⟨H8, H9, H10, ⟨%f, H11, %hf⟩⟩
  iapply HK $$ %f
  isplitl [H8]; · iexact H8
  isplitl [H9]; · iexact H9
  isplitl [H10]; · iexact H10
  isplitl [H11]; · iexact H11
  ipureintro
  have ht : Scf.trips k1_t7_loop.lb k1_t7_loop.ub k1_t7_loop.st = 77 := trips7
  rw [ht] at hf
  exact hf

theorem loop8 (arg1 v8 v36 : BitVec 32) (v41 : FVec F S6144x128 .bf16) (c9240 : BitVec 32) (k1_h4 : k1_cond4 i = 1#1) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y)
    {β : Type} (kk : PUnit → Prog (TpuEff nD τ sig (Elt F) Λ₀ .tc) β) (Q : β → sProp 𝕄G) :
    iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x2x128.Idx, arg11.view.read (Elt F) f y = wUpd (F := F) ((i 0).val % 2) (308 * (i 1).val + 154) 77 (wTile (F := F) (arg8.view.read (Elt F) X8) q s) (arg11.view.read (Elt F) X11) y⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t8_loop (k1_t8_ok i k1_h4) ⟨⟩ (k1_t8_body (F := F) i arg2 harg2 arg3 harg3 arg4 harg4 arg5 harg5 arg6 harg6 arg7 harg7 arg8 harg8 arg9 harg9 arg10 harg10 arg11 harg11 arg1 v8 k1_h4 v36 v41 c9240) >>= kk) Q := by
  iintro ⟨H8, H9, H10, H11, HK⟩
  unfold Scf.Loop.for
  iapply (Scf.wp_for_bind frame (wpE (defs₀ (F := F)) 𝒱 (c : Thread nD τ) bd) E _ _ _ _ _ _
    (fun k u => invW (F := F) c arg8 arg9 arg10 arg11 X8 X9 X10 (wTile (F := F) (arg8.view.read (Elt F) X8) q s) (arg11.view.read (Elt F) X11) ((i 0).val % 2) (308 * (i 1).val + 154) k u)
    (fun k _ => step8 (F := F) 𝒱 c bd E i arg2 harg2 arg3 harg3 arg4 harg4 arg5 harg5 arg6 harg6 arg7 harg7 arg8 harg8 arg9 harg9 arg10 harg10 arg11 harg11 arg1 v8 v36 v41 c9240 k1_h4 X8 X9 X10 q s (arg11.view.read (Elt F) X11) h8 h9 h10 k)) $$ [H8 H9 H10 H11]
  · isplitl [H8]; · iexact H8
    isplitl [H9]; · iexact H9
    isplitl [H10]; · iexact H10
    iexists X11
    isplitl [H11]; · iexact H11
    ipureintro; intro y; rw [wUpd_zero]
  iintro %_ ⟨H8, H9, H10, ⟨%f, H11, %hf⟩⟩
  iapply HK $$ %f
  isplitl [H8]; · iexact H8
  isplitl [H9]; · iexact H9
  isplitl [H10]; · iexact H10
  isplitl [H11]; · iexact H11
  ipureintro
  have ht : Scf.trips k1_t8_loop.lb k1_t8_loop.ub k1_t8_loop.st = 77 := trips8
  rw [ht] at hf
  exact hf

theorem loop9 (arg1 : BitVec 32) (k1_h4 : k1_cond4 i = 1#1) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y)
    {β : Type} (kk : PUnit → Prog (TpuEff nD τ sig (Elt F) Λ₀ .tc) β) (Q : β → sProp 𝕄G) :
    iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x2x128.Idx, arg11.view.read (Elt F) f y = wUpd (F := F) ((i 0).val % 2) (308 * (i 1).val + 231) 77 (wTile (F := F) (arg8.view.read (Elt F) X8) q s) (arg11.view.read (Elt F) X11) y⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t9_loop (k1_t9_ok i k1_h4) ⟨⟩ (k1_t9_body (F := F) i arg2 harg2 arg3 harg3 arg4 harg4 arg5 harg5 arg6 harg6 arg7 harg7 arg8 harg8 arg9 harg9 arg10 harg10 arg11 harg11 arg1 k1_h4) >>= kk) Q := by
  iintro ⟨H8, H9, H10, H11, HK⟩
  unfold Scf.Loop.for
  iapply (Scf.wp_for_bind frame (wpE (defs₀ (F := F)) 𝒱 (c : Thread nD τ) bd) E _ _ _ _ _ _
    (fun k u => invW (F := F) c arg8 arg9 arg10 arg11 X8 X9 X10 (wTile (F := F) (arg8.view.read (Elt F) X8) q s) (arg11.view.read (Elt F) X11) ((i 0).val % 2) (308 * (i 1).val + 231) k u)
    (fun k _ => step9 (F := F) 𝒱 c bd E i arg2 harg2 arg3 harg3 arg4 harg4 arg5 harg5 arg6 harg6 arg7 harg7 arg8 harg8 arg9 harg9 arg10 harg10 arg11 harg11 arg1 k1_h4 X8 X9 X10 q s (arg11.view.read (Elt F) X11) h8 h9 h10 k)) $$ [H8 H9 H10 H11]
  · isplitl [H8]; · iexact H8
    isplitl [H9]; · iexact H9
    isplitl [H10]; · iexact H10
    iexists X11
    isplitl [H11]; · iexact H11
    ipureintro; intro y; rw [wUpd_zero]
  iintro %_ ⟨H8, H9, H10, ⟨%f, H11, %hf⟩⟩
  iapply HK $$ %f
  isplitl [H8]; · iexact H8
  isplitl [H9]; · iexact H9
  isplitl [H10]; · iexact H10
  isplitl [H11]; · iexact H11
  ipureintro
  have ht : Scf.trips k1_t9_loop.lb k1_t9_loop.ub k1_t9_loop.st = 77 := trips9
  rw [ht] at hf
  exact hf

theorem loop1 (k1_h1 : k1_cond1 i = 1#1) (X2 : BufTy.Contents (Elt F) arg2.view.ty) (X3 : BufTy.Contents (Elt F) arg3.view.ty) (X8 : BufTy.Contents (Elt F) arg8.view.ty)
    (hP : PermOk (F := F) (arg2.view.read (Elt F) X2))
    {β : Type} (kk : PUnit → Prog (TpuEff nD τ sig (Elt F) Λ₀ .tc) β) (Q : β → sProp 𝕄G) :
    iprop((arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} X8)
      ∗ (∀ f, iprop((arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} f)
          ∗ ⌜Scattered (F := F) (arg2.view.read (Elt F) X2) (arg3.view.read (Elt F) X3) 6144 (arg8.view.read (Elt F) f)⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t1_loop (k1_t1_ok i k1_h1) ⟨⟩ (k1_t1_body (F := F) i arg2 harg2 arg3 harg3 arg4 harg4 arg5 harg5 arg6 harg6 arg7 harg7 arg8 harg8 arg9 harg9 arg10 harg10 arg11 harg11 k1_h1) >>= kk) Q := by
  iintro ⟨H2, H3, H8, HK⟩
  unfold Scf.Loop.for
  iapply (Scf.wp_for_bind frame (wpE (defs₀ (F := F)) 𝒱 (c : Thread nD τ) bd) E _ _ _ _ _ _
    (fun k u => inv1 (F := F) c arg2 arg3 arg8 X2 X3 k u)
    (fun k _ => step1 (F := F) 𝒱 c bd E i arg2 harg2 arg3 harg3 arg4 harg4 arg5 harg5 arg6 harg6 arg7 harg7 arg8 harg8 arg9 harg9 arg10 harg10 arg11 harg11 k1_h1 X2 X3 hP k)) $$ [H2 H3 H8]
  · isplitl [H2]; · iexact H2
    isplitl [H3]; · iexact H3
    iexists X8
    isplitl [H8]; · iexact H8
    ipureintro; intro r hr; exact absurd hr (Nat.not_lt_zero _)
  iintro %_ ⟨H2, H3, ⟨%f, H8, %hf⟩⟩
  iapply HK $$ %f
  isplitl [H2]; · iexact H2
  isplitl [H3]; · iexact H3
  isplitl [H8]; · iexact H8
  ipureintro
  have ht : Scf.trips k1_t1_loop.lb k1_t1_loop.ub k1_t1_loop.st = 6144 := trips1
  rw [ht] at hf
  exact hf

theorem loop2 (k1_h1 : k1_cond1 i = 1#1) (X2 : BufTy.Contents (Elt F) arg2.view.ty) (X3 : BufTy.Contents (Elt F) arg3.view.ty) (X8 : BufTy.Contents (Elt F) arg8.view.ty)
    (hP : PermOk (F := F) (arg2.view.read (Elt F) X2))
    (hS : Scattered (F := F) (arg2.view.read (Elt F) X2) (arg3.view.read (Elt F) X3) 6144 (arg8.view.read (Elt F) X8))
    {β : Type} (kk : PUnit → Prog (TpuEff nD τ sig (Elt F) Λ₀ .tc) β) (Q : β → sProp 𝕄G) :
    iprop((arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} X8)
      ∗ (∀ f, iprop((arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} f)
          ∗ ⌜Scattered (F := F) (arg2.view.read (Elt F) X2) (arg3.view.read (Elt F) X3) 6144 (arg8.view.read (Elt F) f)
            ∧ Padded (F := F) (arg3.view.read (Elt F) X3) 16 (arg8.view.read (Elt F) f)⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t2_loop (k1_t2_ok i k1_h1) ⟨⟩ (k1_t2_body (F := F) i arg2 harg2 arg3 harg3 arg4 harg4 arg5 harg5 arg6 harg6 arg7 harg7 arg8 harg8 arg9 harg9 arg10 harg10 arg11 harg11 k1_h1) >>= kk) Q := by
  iintro ⟨H2, H3, H8, HK⟩
  unfold Scf.Loop.for
  iapply (Scf.wp_for_bind frame (wpE (defs₀ (F := F)) 𝒱 (c : Thread nD τ) bd) E _ _ _ _ _ _
    (fun k u => inv2 (F := F) c arg2 arg3 arg8 X2 X3 k u)
    (fun k _ => step2 (F := F) 𝒱 c bd E i arg2 harg2 arg3 harg3 arg4 harg4 arg5 harg5 arg6 harg6 arg7 harg7 arg8 harg8 arg9 harg9 arg10 harg10 arg11 harg11 k1_h1 X2 X3 hP k)) $$ [H2 H3 H8]
  · isplitl [H2]; · iexact H2
    isplitl [H3]; · iexact H3
    iexists X8
    isplitl [H8]; · iexact H8
    ipureintro; exact ⟨hS, fun p h1 h2 => absurd h2 (by omega)⟩
  iintro %_ ⟨H2, H3, ⟨%f, H8, %hf⟩⟩
  iapply HK $$ %f
  isplitl [H2]; · iexact H2
  isplitl [H3]; · iexact H3
  isplitl [H8]; · iexact H8
  ipureintro
  have ht : Scf.trips k1_t2_loop.lb k1_t2_loop.ub k1_t2_loop.st = 16 := trips2
  rw [ht] at hf
  exact hf

theorem loop3 (k1_h2 : k1_cond2 i = 1#1) (X5 : BufTy.Contents (Elt F) arg5.view.ty) (X9 : BufTy.Contents (Elt F) arg9.view.ty)
    {β : Type} (kk : PUnit → Prog (TpuEff nD τ sig (Elt F) Λ₀ .tc) β) (Q : β → sProp 𝕄G) :
    iprop((arg5.view.loc (c : Thread nD τ) ↦[arg5.view.set]{fullShare} X5) ∗ (arg9.view.loc (c : Thread nD τ) ↦[arg9.view.set]{fullShare} X9)
      ∗ (∀ f, iprop((arg5.view.loc (c : Thread nD τ) ↦[arg5.view.set]{fullShare} X5) ∗ (arg9.view.loc (c : Thread nD τ) ↦[arg9.view.set]{fullShare} f)
          ∗ ⌜∀ y : S6504x128.Idx, (y 0).val < 6464 → arg9.view.read (Elt F) f y = spreadQ (F := F) (arg5.view.read (Elt F) X5) y⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t3_loop (k1_t3_ok i k1_h2) ⟨⟩ (k1_t3_body (F := F) i arg2 harg2 arg3 harg3 arg4 harg4 arg5 harg5 arg6 harg6 arg7 harg7 arg8 harg8 arg9 harg9 arg10 harg10 arg11 harg11 k1_h2) >>= kk) Q := by
  iintro ⟨HA, HB, HK⟩
  unfold Scf.Loop.for
  iapply (Scf.wp_for_bind frame (wpE (defs₀ (F := F)) 𝒱 (c : Thread nD τ) bd) E _ _ _ _ _ _
    (fun k u => inv3 (F := F) c arg5 arg9 X5 k u)
    (fun k _ => step3 (F := F) 𝒱 c bd E i arg2 harg2 arg3 harg3 arg4 harg4 arg5 harg5 arg6 harg6 arg7 harg7 arg8 harg8 arg9 harg9 arg10 harg10 arg11 harg11 k1_h2 X5 k)) $$ [HA HB]
  · isplitl [HA]; · iexact HA
    iexists X9
    isplitl [HB]; · iexact HB
    ipureintro; intro y hy; exact absurd hy (Nat.not_lt_zero _)
  iintro %_ ⟨HA, ⟨%f, HB, %hf⟩⟩
  iapply HK $$ %f
  isplitl [HA]; · iexact HA
  isplitl [HB]; · iexact HB
  ipureintro
  have ht : Scf.trips k1_t3_loop.lb k1_t3_loop.ub k1_t3_loop.st = 101 := trips3
  rw [ht] at hf
  exact hf

theorem loop4 (k1_h2 : k1_cond2 i = 1#1) (X6 : BufTy.Contents (Elt F) arg6.view.ty) (X10 : BufTy.Contents (Elt F) arg10.view.ty)
    {β : Type} (kk : PUnit → Prog (TpuEff nD τ sig (Elt F) Λ₀ .tc) β) (Q : β → sProp 𝕄G) :
    iprop((arg6.view.loc (c : Thread nD τ) ↦[arg6.view.set]{fullShare} X6) ∗ (arg10.view.loc (c : Thread nD τ) ↦[arg10.view.set]{fullShare} X10)
      ∗ (∀ f, iprop((arg6.view.loc (c : Thread nD τ) ↦[arg6.view.set]{fullShare} X6) ∗ (arg10.view.loc (c : Thread nD τ) ↦[arg10.view.set]{fullShare} f)
          ∗ ⌜∀ y : S1536x128.Idx, (y 0).val < 1536 → arg10.view.read (Elt F) f y = spreadS (F := F) (arg6.view.read (Elt F) X6) y⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t4_loop (k1_t4_ok i k1_h2) ⟨⟩ (k1_t4_body (F := F) i arg2 harg2 arg3 harg3 arg4 harg4 arg5 harg5 arg6 harg6 arg7 harg7 arg8 harg8 arg9 harg9 arg10 harg10 arg11 harg11 k1_h2) >>= kk) Q := by
  iintro ⟨HA, HB, HK⟩
  unfold Scf.Loop.for
  iapply (Scf.wp_for_bind frame (wpE (defs₀ (F := F)) 𝒱 (c : Thread nD τ) bd) E _ _ _ _ _ _
    (fun k u => inv4 (F := F) c arg6 arg10 X6 k u)
    (fun k _ => step4 (F := F) 𝒱 c bd E i arg2 harg2 arg3 harg3 arg4 harg4 arg5 harg5 arg6 harg6 arg7 harg7 arg8 harg8 arg9 harg9 arg10 harg10 arg11 harg11 k1_h2 X6 k)) $$ [HA HB]
  · isplitl [HA]; · iexact HA
    iexists X10
    isplitl [HB]; · iexact HB
    ipureintro; intro y hy; exact absurd hy (Nat.not_lt_zero _)
  iintro %_ ⟨HA, ⟨%f, HB, %hf⟩⟩
  iapply HK $$ %f
  isplitl [HA]; · iexact HA
  isplitl [HB]; · iexact HB
  ipureintro
  have ht : Scf.trips k1_t4_loop.lb k1_t4_loop.ub k1_t4_loop.st = 12 := trips4
  rw [ht] at hf
  exact hf

end

end Cert.KernelIdeal.Dq
-- ==== Proof.Parts.lean ====
module

public import proofs.«01_k».proof.Proof.LoopRuns

@[expose] public section

set_option maxRecDepth 16384

noncomputable section

namespace Cert.KernelIdeal.Dq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The slab of the weight buffer that a product reads: 3072 pairs of rows of one block of 128 columns (block `r` of slot `σ`). -/
def rd (G : Vec F S49280x2x128 .bf16) (σ r : ℕ) : Vec F S3072x2x128 .bf16 := fun x =>
  G (ValueIdx.ix3 ⟨(σ * 24640 + 3080 * r + (x 0).val) % 49280, Nat.mod_lt _ (by decide)⟩ (x 1) (x 2))

theorem rd_eq {κ : Kind} {sp : Space} (v : View sig κ sp S49280x2x128 .bf16) (f : v.ty.Contents (Elt F)) (i : grid1.Coords) (r : Fin 8) (a k : ℕ)
    (W G : Vec F S49280x2x128 .bf16) (h : ∀ y, v.read (Elt F) f y = wUpd (F := F) ((i 0).val % 2) a k W G y) {off : Fin 3 → ℕ}
    (inb : ∀ b, off b + S3072x2x128.size b ≤ S49280x2x128.size b) (ho : off = k1_off40 i (BitVec.ofNat 32 (3080 * r.val))) :
    v.readAt (Elt F) (Rect.unit (s := S49280x2x128) off S3072x2x128.size inb).toLoadRect f = rd (F := F) G (1 - (i 0).val % 2) r.val := by
  rw [k1_off40_eq] at ho
  subst ho
  funext x
  rw [View.readAt_apply, h]
  have hx0 : (x 0).val < 3072 := (x 0).isLt
  have hr := r.isLt
  have h2 : (i 0).val % 2 < 2 := Nat.mod_lt _ (by decide)
  have e : ((Rect.unit (s := S49280x2x128) ![(1 - (i 0).val % 2) * 24640 + 3080 * r.val, 0, 0] S3072x2x128.size inb).toLoadRect.idx x)
      = ValueIdx.ix3 ⟨((1 - (i 0).val % 2) * 24640 + 3080 * r.val + (x 0).val) % 49280, Nat.mod_lt _ (by decide)⟩ (x 1) (x 2) := by
    funext b
    apply Fin.ext
    match b with
    | ⟨0, _⟩ => show (1 - (i 0).val % 2) * 24640 + 3080 * r.val + 1 * (x 0).val = ((1 - (i 0).val % 2) * 24640 + 3080 * r.val + (x 0).val) % 49280; omega
    | ⟨1, _⟩ => show 0 + 1 * (x 1).val = (x 1).val; omega
    | ⟨2, _⟩ => show 0 + 1 * (x 2).val = (x 2).val; omega
  rw [e]
  unfold wUpd rd
  refine if_neg fun hc => ?_
  have h1 : ((1 - (i 0).val % 2) * 24640 + 3080 * r.val + (x 0).val) % 49280 / 24640 = (i 0).val % 2 := hc.1
  omega

/-- The output tile: each block of 256 columns is the product of the rows with two slabs. -/
def outT (G : Vec F S49280x2x128 .bf16) (n : Vec F S512x6144 .bf16) (σ : ℕ) : Vec F S512x1024 .bf16 := fun y =>
  k1_pay8 (F := F) (rd G σ (2 * ((y 1).val / 256))) (rd G σ (2 * ((y 1).val / 256) + 1)) n (ValueIdx.ix2 (y 0) ⟨(y 1).val % 256, Nat.mod_lt _ (by decide)⟩)

section
variable (𝒱 : Variants) (c : Dev nD) (bd : Option 𝒱.V) (E : Set ℕ) (i : grid1.Coords)
  (arg2 : Memref sig .tc .smem S6144 .i32) (harg2 : arg2.IsWhole) (arg3 : Memref sig .tc .smem S6144 .i32) (harg3 : arg3.IsWhole) (arg4 : Memref sig .tc .vmem S512x6144 .bf16) (harg4 : arg4.IsWhole) (arg5 : Memref sig .tc .vmem S813x1024 .i32) (harg5 : arg5.IsWhole) (arg6 : Memref sig .tc .vmem S192x1024 .bf16) (harg6 : arg6.IsWhole) (arg7 : Memref sig .tc .vmem S512x1024 .bf16) (harg7 : arg7.IsWhole) (arg8 : Memref sig .tc .smem S6160 .i32) (harg8 : arg8.IsWhole) (arg9 : Memref sig .tc .vmem S6504x128 .i32) (harg9 : arg9.IsWhole) (arg10 : Memref sig .tc .vmem S1536x128 .f32) (harg10 : arg10.IsWhole) (arg11 : Memref sig .tc .vmem S49280x2x128 .bf16) (harg11 : arg11.IsWhole)

theorem part16_run (arg1 v8 : BitVec 32) (k1_h4 : k1_cond4 i = 1#1) (X4 : BufTy.Contents (Elt F) arg4.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (Q : (Σ' (v36 : BitVec 32) (v41 : FVec F S6144x128 .bf16), BitVec 32) → sProp 𝕄G) :
    iprop((arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg4.view.loc (c : Thread nD τ) ↦[arg4.view.set]{fullShare} X4) ∗ (arg7.view.loc (c : Thread nD τ) ↦[arg7.view.set]{fullShare} (arg7.view.writes (Elt F) X7 [⟨Rect.unit (s := S512x1024) ![0, 0] S512x256.size inb_S512x1024_S512x256_0_0,
          k1_pay45 (F := F) (rd (arg11.view.read (Elt F) X11) (1 - (i 0).val % 2) 0) (rd (arg11.view.read (Elt F) X11) (1 - (i 0).val % 2) 1) (arg4.view.readAt (Elt F) (Rect.unit (s := S512x6144) ![0, 0] S512x6144.size inb_S512x6144_S512x6144_0_0).toLoadRect X4)⟩]))
          ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x2x128.Idx, arg11.view.read (Elt F) f y = wUpd (F := F) ((i 0).val % 2) (308 * (i 1).val) 154 (wTile (F := F) (arg8.view.read (Elt F) X8) q s) (arg11.view.read (Elt F) X11) y⌝)
        -∗ ∀ v36, Q ⟨v36, k1_pay47 (F := F) (rd (arg11.view.read (Elt F) X11) (1 - (i 0).val % 2) (2 : Fin 8).val), 9240#32⟩))
      ⊢ wp frame (wpE (defs₀ (F := F)) 𝒱 (c : Thread nD τ) bd) E (k1_part16 (F := F) i arg2 harg2 arg3 harg3 arg4 harg4 arg5 harg5 arg6 harg6 arg7 harg7 arg8 harg8 arg9 harg9 arg10 harg10 arg11 harg11 arg1 v8 k1_h4) Q := by
  rw [k1_part16_eq_skeleton]; unfold k1_part16_skel
  iintro ⟨H4, H7, H8, H9, H10, H11, HK⟩
  iapply (loop6 (F := F) 𝒱 c bd E i arg2 harg2 arg3 harg3 arg4 harg4 arg5 harg5 arg6 harg6 arg7 harg7 arg8 harg8 arg9 harg9 arg10 harg10 arg11 harg11 arg1 v8 k1_h4 X8 X9 X10 X11 q s h8 h9 h10)
  isplitl [H8]; · iexact H8
  isplitl [H9]; · iexact H9
  isplitl [H10]; · iexact H10
  isplitl [H11]; · iexact H11
  iintro %f6 ⟨H8, H9, H10, H11, %h6⟩
  have e0 := rd_eq arg11.view f6 i 0 _ _ _ _ h6 (k1_off40_inb i k1_h4 0) rfl
  have e1 := rd_eq arg11.view f6 i 1 _ _ _ _ h6 (k1_off40_inb i k1_h4 1) rfl
  sl_exec
  iapply (loop7 (F := F) 𝒱 c bd E i arg2 harg2 arg3 harg3 arg4 harg4 arg5 harg5 arg6 harg6 arg7 harg7 arg8 harg8 arg9 harg9 arg10 harg10 arg11 harg11 arg1 v8 k1_h4 X8 X9 X10 f6 q s h8 h9 h10)
  isplitl [H8]; · iexact H8
  isplitl [H9]; · iexact H9
  isplitl [H10]; · iexact H10
  isplitl [H11]; · iexact H11
  iintro %f7 ⟨H8, H9, H10, H11, %h7⟩
  rw [show arg11.view.read (Elt F) f6 = _ from funext h6, wUpd_wUpd] at h7
  have e2 := rd_eq arg11.view f7 i 2 _ _ _ _ h7 (k1_off40_inb i k1_h4 2) rfl
  sl_exec
  sl_step
  ispecialize HK $$ %f7
  iapply HK $$ [H4 H7 H8 H9 H10 H11]
  isplitl [H4]; · iexact H4
  isplitl [H7]; · iexact H7
  isplitl [H8]; · iexact H8
  isplitl [H9]; · iexact H9
  isplitl [H10]; · iexact H10
  isplitl [H11]; · iexact H11
  ipureintro; exact h7

theorem part17_run (arg1 v8 v36 : BitVec 32) (c9240 : BitVec 32) (k1_h4 : k1_cond4 i = 1#1) (X4 : BufTy.Contents (Elt F) arg4.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (G : Vec F S49280x2x128 .bf16)
    (h11 : ∀ y : S49280x2x128.Idx, arg11.view.read (Elt F) X11 y = wUpd (F := F) ((i 0).val % 2) (308 * (i 1).val) 154 (wTile (F := F) (arg8.view.read (Elt F) X8) q s) G y) (Q : PUnit → sProp 𝕄G) :
    iprop((arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg4.view.loc (c : Thread nD τ) ↦[arg4.view.set]{fullShare} X4) ∗ (arg7.view.loc (c : Thread nD τ) ↦[arg7.view.set]{fullShare} (arg7.view.writes (Elt F) X7 [⟨Rect.unit (s := S512x1024) ![0, 512] S512x256.size inb_S512x1024_S512x256_0_512,
            k1_pay50 (F := F) (rd G (1 - (i 0).val % 2) 4) (rd G (1 - (i 0).val % 2) 5) (arg4.view.readAt (Elt F) (Rect.unit (s := S512x6144) ![0, 0] S512x6144.size inb_S512x6144_S512x6144_0_0).toLoadRect X4)⟩,
          ⟨Rect.unit (s := S512x1024) ![0, 256] S512x256.size inb_S512x1024_S512x256_0_256,
            k1_pay48 (F := F) (k1_pay47 (F := F) (rd G (1 - (i 0).val % 2) (2 : Fin 8).val)) (rd G (1 - (i 0).val % 2) 3) (arg4.view.readAt (Elt F) (Rect.unit (s := S512x6144) ![0, 0] S512x6144.size inb_S512x6144_S512x6144_0_0).toLoadRect X4)⟩]))
          ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x2x128.Idx, arg11.view.read (Elt F) f y = wUpd (F := F) ((i 0).val % 2) (308 * (i 1).val) 231 (wTile (F := F) (arg8.view.read (Elt F) X8) q s) G y⌝)
        -∗ Q ⟨⟩))
      ⊢ wp frame (wpE (defs₀ (F := F)) 𝒱 (c : Thread nD τ) bd) E (k1_part17 (F := F) i arg2 harg2 arg3 harg3 arg4 harg4 arg5 harg5 arg6 harg6 arg7 harg7 arg8 harg8 arg9 harg9 arg10 harg10 arg11 harg11 arg1 v8 k1_h4 v36 (k1_pay47 (F := F) (rd G (1 - (i 0).val % 2) (2 : Fin 8).val)) c9240) Q := by
  rw [k1_part17_eq_skeleton]; unfold k1_part17_skel
  iintro ⟨H4, H7, H8, H9, H10, H11, HK⟩
  have e3 := rd_eq arg11.view X11 i 3 _ _ _ _ h11 (k1_off40_inb i k1_h4 3) rfl
  sl_exec
  iapply (loop8 (F := F) 𝒱 c bd E i arg2 harg2 arg3 harg3 arg4 harg4 arg5 harg5 arg6 harg6 arg7 harg7 arg8 harg8 arg9 harg9 arg10 harg10 arg11 harg11 arg1 v8 v36 _ c9240 k1_h4 X8 X9 X10 X11 q s h8 h9 h10)
  isplitl [H8]; · iexact H8
  isplitl [H9]; · iexact H9
  isplitl [H10]; · iexact H10
  isplitl [H11]; · iexact H11
  iintro %f8 ⟨H8, H9, H10, H11, %hf8⟩
  rw [show arg11.view.read (Elt F) X11 = _ from funext h11, wUpd_wUpd] at hf8
  have e4 := rd_eq arg11.view f8 i 4 _ _ _ _ hf8 (k1_off40_inb i k1_h4 4) rfl
  have e5 := rd_eq arg11.view f8 i 5 _ _ _ _ hf8 (k1_off40_inb i k1_h4 5) rfl
  sl_exec
  sl_step
  iapply HK $$ %f8
  isplitl [H4]; · iexact H4
  isplitl [H7]; · iexact H7
  isplitl [H8]; · iexact H8
  isplitl [H9]; · iexact H9
  isplitl [H10]; · iexact H10
  isplitl [H11]; · iexact H11
  ipureintro; exact hf8

theorem part5_run (k1_h2 : k1_cond2 i = 1#1) (X5 : BufTy.Contents (Elt F) arg5.view.ty) (X9 : BufTy.Contents (Elt F) arg9.view.ty) (Q : IVec S5x128 32 → sProp 𝕄G) :
    iprop((arg5.view.loc (c : Thread nD τ) ↦[arg5.view.set]{fullShare} X5) ∗ (arg9.view.loc (c : Thread nD τ) ↦[arg9.view.set]{fullShare} X9)
      ∗ (∀ f, iprop((arg5.view.loc (c : Thread nD τ) ↦[arg5.view.set]{fullShare} X5) ∗ (arg9.view.loc (c : Thread nD τ) ↦[arg9.view.set]{fullShare} f)
          ∗ ⌜∀ y : S6504x128.Idx, ((y 0).val < 6464 ∨ (y 0).val % 8 < 5) → arg9.view.read (Elt F) f y = spreadQ (F := F) (arg5.view.read (Elt F) X5) y⌝)
        -∗ Q (arg5.view.readAt (Elt F) (Rect.unit (s := S813x1024) ![808, 640] S5x128.size inb_S813x1024_S5x128_808_640).toLoadRect X5)))
      ⊢ wp frame (wpE (defs₀ (F := F)) 𝒱 (c : Thread nD τ) bd) E (k1_part5 (F := F) i arg2 harg2 arg3 harg3 arg4 harg4 arg5 harg5 arg6 harg6 arg7 harg7 arg8 harg8 arg9 harg9 arg10 harg10 arg11 harg11 k1_h2) Q := by
  rw [k1_part5_eq_skeleton]; unfold k1_part5_skel
  iintro ⟨H5, H9, HK⟩
  iapply (loop3 (F := F) 𝒱 c bd E i arg2 harg2 arg3 harg3 arg4 harg4 arg5 harg5 arg6 harg6 arg7 harg7 arg8 harg8 arg9 harg9 arg10 harg10 arg11 harg11 k1_h2 X5 X9)
  isplitl [H5]; · iexact H5
  isplitl [H9]; · iexact H9
  iintro %f ⟨H5, H9, %hf⟩
  sl_exec
  sl_step
  rw [pay28_eq]
  iapply HK $$ %_
  isplitl [H5]; · iexact H5
  isplitl [H9]; · iexact H9
  ipureintro
  intro y hy
  refine read_writes_agree _ _ _ y _ ?_ ?_
  · simp only [List.forall_mem_cons]
    refine ⟨?_, ?_, ?_, ?_, ?_, fun p hp => absurd hp List.not_mem_nil⟩ <;> intro x <;>
      simp only [pay23_eq, pay24_eq, pay25_eq, pay26_eq, pay27_eq]
    · exact spreadQ_piece _ _ _ _ _ 808 4 rfl rfl (by omega) x
    · exact spreadQ_piece _ _ _ _ _ 808 3 rfl rfl (by omega) x
    · exact spreadQ_piece _ _ _ _ _ 808 2 rfl rfl (by omega) x
    · exact spreadQ_piece _ _ _ _ _ 808 1 rfl rfl (by omega) x
    · exact spreadQ_piece _ _ _ _ _ 808 0 rfl rfl (by omega) x
  · by_cases hlt : (y 0).val < 6464
    · exact Or.inr (hf y hlt)
    · left
      have h0 := idx2_lt0 y
      have hb : (y 0).val % 8 = 4 ∨ (y 0).val % 8 = 3 ∨ (y 0).val % 8 = 2 ∨ (y 0).val % 8 = 1 ∨ (y 0).val % 8 = 0 := by omega
      simp only [List.exists_mem_cons_iff]
      rcases hb with hb | hb | hb | hb | hb
      · exact Or.inl (spread_mem _ (fun a => by fin_cases a <;> decide) y (by omega) (by omega) (by omega))
      · exact Or.inr (Or.inl (spread_mem _ (fun a => by fin_cases a <;> decide) y (by omega) (by omega) (by omega)))
      · exact Or.inr (Or.inr (Or.inl (spread_mem _ (fun a => by fin_cases a <;> decide) y (by omega) (by omega) (by omega))))
      · exact Or.inr (Or.inr (Or.inr (Or.inl (spread_mem _ (fun a => by fin_cases a <;> decide) y (by omega) (by omega) (by omega)))))
      · exact Or.inr (Or.inr (Or.inr (Or.inr (Or.inl (spread_mem _ (fun a => by fin_cases a <;> decide) y (by omega) (by omega) (by omega))))))
end

end Cert.KernelIdeal.Dq
-- ==== Proof.Body.lean ====
module

public import proofs.«01_k».proof.Proof.Parts

@[expose] public section

set_option maxRecDepth 16384

noncomputable section

namespace Cert.KernelIdeal.Dq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The last three stores of the words' spread fill the rows that were left. -/
theorem tail9 (v5 : View sig .tc .vmem S813x1024 .i32) (X : v5.ty.Contents (Elt F)) (v9 : View sig .tc .vmem S6504x128 .i32) (f : v9.ty.Contents (Elt F))
    (hf : ∀ y : S6504x128.Idx, ((y 0).val < 6464 ∨ (y 0).val % 8 < 5) → v9.read (Elt F) f y = spreadQ (F := F) (v5.read (Elt F) X) y) (y : S6504x128.Idx) :
    v9.read (Elt F) (v9.writes (Elt F) f [
      ⟨⟨(⟨![6471, 0], S5x128.size, ![8, 1], inb_S6504x128_S5x128_6471_0_s_8_1⟩ : LoadRect S6504x128), spos_8_1⟩,
        k1_pay3 (F := F) (v5.readAt (Elt F) (Rect.unit (s := S813x1024) ![808, 896] S5x128.size inb_S813x1024_S5x128_808_896).toLoadRect X)⟩,
      ⟨⟨(⟨![6470, 0], S5x128.size, ![8, 1], inb_S6504x128_S5x128_6470_0_s_8_1⟩ : LoadRect S6504x128), spos_8_1⟩,
        k1_pay2 (F := F) (v5.readAt (Elt F) (Rect.unit (s := S813x1024) ![808, 768] S5x128.size inb_S813x1024_S5x128_808_768).toLoadRect X)⟩,
      ⟨⟨(⟨![6469, 0], S5x128.size, ![8, 1], inb_S6504x128_S5x128_6469_0_s_8_1⟩ : LoadRect S6504x128), spos_8_1⟩,
        k1_pay1 (v5.readAt (Elt F) (Rect.unit (s := S813x1024) ![808, 640] S5x128.size inb_S813x1024_S5x128_808_640).toLoadRect X)⟩]) y
      = spreadQ (F := F) (v5.read (Elt F) X) y := by
  refine read_writes_agree _ _ _ y _ ?_ ?_
  · simp only [List.forall_mem_cons]
    refine ⟨?_, ?_, ?_, fun p hp => absurd hp List.not_mem_nil⟩ <;> intro x <;>
      simp only [pay1_eq, pay2_eq, pay3_eq]
    · exact spreadQ_piece _ _ _ _ _ 808 7 rfl rfl (by omega) x
    · exact spreadQ_piece _ _ _ _ _ 808 6 rfl rfl (by omega) x
    · exact spreadQ_piece _ _ _ _ _ 808 5 rfl rfl (by omega) x
  · by_cases hlt : (y 0).val < 6464 ∨ (y 0).val % 8 < 5
    · exact Or.inr (hf y hlt)
    · left
      have h0 := idx2_lt0 y
      have hb : (y 0).val % 8 = 7 ∨ (y 0).val % 8 = 6 ∨ (y 0).val % 8 = 5 := by omega
      simp only [List.exists_mem_cons_iff]
      rcases hb with hb | hb | hb
      · exact Or.inl (spread_mem _ (fun a => by fin_cases a <;> decide) y (by omega) (by omega) (by omega))
      · exact Or.inr (Or.inl (spread_mem _ (fun a => by fin_cases a <;> decide) y (by omega) (by omega) (by omega)))
      · exact Or.inr (Or.inr (Or.inl (spread_mem _ (fun a => by fin_cases a <;> decide) y (by omega) (by omega) (by omega))))

/-- A load of all of a matrix reads its contents. -/
theorem readAt_all {κ : Kind} {sp : Space} (v : View sig κ sp S512x6144 .bf16) (f : v.ty.Contents (Elt F)) :
    v.readAt (Elt F) (Rect.unit (s := S512x6144) ![0, 0] S512x6144.size inb_S512x6144_S512x6144_0_0).toLoadRect f = v.read (Elt F) f := by
  funext x
  rw [View.readAt_apply]
  congr 1
  funext a
  apply Fin.ext
  match a with
  | ⟨0, _⟩ => show 0 + 1 * (x 0).val = (x 0).val; omega
  | ⟨1, _⟩ => show 0 + 1 * (x 1).val = (x 1).val; omega

/-- A block of 256 columns of the output tile. -/
theorem outT_piece (G : Vec F S49280x2x128 .bf16) (n : Vec F S512x6144 .bf16) (σ a o : ℕ) (ho : o = 256 * a)
    (inb : ∀ b, (![0, o] : Fin 2 → ℕ) b + S512x256.size b ≤ S512x1024.size b) (x : S512x256.Idx) :
    k1_pay8 (F := F) (rd G σ (2 * a)) (rd G σ (2 * a + 1)) n x = outT G n σ ((Rect.unit (s := S512x1024) ![0, o] S512x256.size inb).emb x) := by
  subst ho
  unfold outT
  have h1 : (x 1).val < 256 := (x 1).isLt
  have e1 : (((Rect.unit (s := S512x1024) ![0, 256 * a] S512x256.size inb).emb x) 1).val = 256 * a + (x 1).val := by
    show 256 * a + 1 * (x 1).val = _; omega
  have e0 : (((Rect.unit (s := S512x1024) ![0, 256 * a] S512x256.size inb).emb x) 0).val = (x 0).val := by
    show 0 + 1 * (x 0).val = _; omega
  have e2 : (((Rect.unit (s := S512x1024) ![0, 256 * a] S512x256.size inb).emb x) 1).val / 256 = a := by rw [e1]; omega
  simp only [e2]
  refine congrArg _ ?_
  funext b
  apply Fin.ext
  match b with
  | ⟨0, _⟩ => exact e0.symm
  | ⟨1, _⟩ => show (x 1).val = (((Rect.unit (s := S512x1024) ![0, 256 * a] S512x256.size inb).emb x) 1).val % 256; rw [e1]; omega

theorem outT_of (v4 : View sig .tc .vmem S512x6144 .bf16) (X4 : v4.ty.Contents (Elt F)) (v7 : View sig .tc .vmem S512x1024 .bf16) (X7 : v7.ty.Contents (Elt F))
    (G : Vec F S49280x2x128 .bf16) (σ : ℕ) (y : S512x1024.Idx) :
    v7.read (Elt F) (v7.writes (Elt F) X7 [⟨Rect.unit (s := S512x1024) ![0, 768] S512x256.size inb_S512x1024_S512x256_0_768,
            k1_pay8 (F := F) (rd G σ 6) (rd G σ 7) (v4.readAt (Elt F) (Rect.unit (s := S512x6144) ![0, 0] S512x6144.size inb_S512x6144_S512x6144_0_0).toLoadRect X4)⟩,
          ⟨Rect.unit (s := S512x1024) ![0, 512] S512x256.size inb_S512x1024_S512x256_0_512,
            k1_pay50 (F := F) (rd G σ 4) (rd G σ 5) (v4.readAt (Elt F) (Rect.unit (s := S512x6144) ![0, 0] S512x6144.size inb_S512x6144_S512x6144_0_0).toLoadRect X4)⟩,
          ⟨Rect.unit (s := S512x1024) ![0, 256] S512x256.size inb_S512x1024_S512x256_0_256,
            k1_pay48 (F := F) (k1_pay47 (F := F) (rd G σ 2)) (rd G σ 3) (v4.readAt (Elt F) (Rect.unit (s := S512x6144) ![0, 0] S512x6144.size inb_S512x6144_S512x6144_0_0).toLoadRect X4)⟩,
          ⟨Rect.unit (s := S512x1024) ![0, 0] S512x256.size inb_S512x1024_S512x256_0_0,
            k1_pay45 (F := F) (rd G σ 0) (rd G σ 1) (v4.readAt (Elt F) (Rect.unit (s := S512x6144) ![0, 0] S512x6144.size inb_S512x6144_S512x6144_0_0).toLoadRect X4)⟩]) y = outT (F := F) G (v4.read (Elt F) X4) σ y := by
  rw [readAt_all]
  refine read_writes_agree _ _ _ y _ ?_ ?_
  · simp only [List.forall_mem_cons]
    refine ⟨?_, ?_, ?_, ?_, fun p hp => absurd hp List.not_mem_nil⟩ <;> intro x
    · exact outT_piece G _ σ 3 768 rfl _ x
    · exact outT_piece G _ σ 2 512 rfl _ x
    · exact outT_piece G _ σ 1 256 rfl _ x
    · exact outT_piece G _ σ 0 0 rfl _ x
  · left
    have h1 := idx2_lt1 y
    have hm : ∀ (o : ℕ) (inb : ∀ b, (![0, o] : Fin 2 → ℕ) b + S512x256.size b ≤ S512x1024.size b), o ≤ (y 1).val → (y 1).val < o + 256 →
        y ∈ (Rect.unit (s := S512x1024) ![0, o] S512x256.size inb).set := fun o inb l u => by
      refine (Rect.unit (s := S512x1024) ![0, o] S512x256.size inb).mem_set.mpr fun a => ?_
      match a with
      | ⟨0, _⟩ => exact ⟨(y 0).val, (y 0).isLt, by show (y 0).val = 0 + 1 * (y 0).val; omega⟩
      | ⟨1, _⟩ => exact ⟨(y 1).val - o, by show (y 1).val - o < 256; omega, by show (y 1).val = o + 1 * ((y 1).val - o); omega⟩
    simp only [List.exists_mem_cons_iff]
    have hb : 768 ≤ (y 1).val ∨ (512 ≤ (y 1).val ∧ (y 1).val < 768) ∨ (256 ≤ (y 1).val ∧ (y 1).val < 512) ∨ (y 1).val < 256 := by omega
    rcases hb with hb | hb | hb | hb
    · exact Or.inl (hm _ _ (by omega) (by omega))
    · exact Or.inr (Or.inl (hm _ _ (by omega) (by omega)))
    · exact Or.inr (Or.inr (Or.inl (hm _ _ (by omega) (by omega))))
    · exact Or.inr (Or.inr (Or.inr (Or.inl (hm _ _ (by omega) (by omega)))))

section
variable (𝒱 : Variants) (c : Dev nD) (bd : Option 𝒱.V) (E : Set ℕ) (i : grid1.Coords)
  (arg2 : Memref sig .tc .smem S6144 .i32) (harg2 : arg2.IsWhole) (arg3 : Memref sig .tc .smem S6144 .i32) (harg3 : arg3.IsWhole) (arg4 : Memref sig .tc .vmem S512x6144 .bf16) (harg4 : arg4.IsWhole) (arg5 : Memref sig .tc .vmem S813x1024 .i32) (harg5 : arg5.IsWhole) (arg6 : Memref sig .tc .vmem S192x1024 .bf16) (harg6 : arg6.IsWhole) (arg7 : Memref sig .tc .vmem S512x1024 .bf16) (harg7 : arg7.IsWhole) (arg8 : Memref sig .tc .smem S6160 .i32) (harg8 : arg8.IsWhole) (arg9 : Memref sig .tc .vmem S6504x128 .i32) (harg9 : arg9.IsWhole) (arg10 : Memref sig .tc .vmem S1536x128 .f32) (harg10 : arg10.IsWhole) (arg11 : Memref sig .tc .vmem S49280x2x128 .bf16) (harg11 : arg11.IsWhole)

theorem part5_bind (k1_h2 : k1_cond2 i = 1#1) (X5 : BufTy.Contents (Elt F) arg5.view.ty) (X9 : BufTy.Contents (Elt F) arg9.view.ty)
    {β : Type} (kk : IVec S5x128 32 → Prog (TpuEff nD τ sig (Elt F) Λ₀ .tc) β) (Q : β → sProp 𝕄G) :
    iprop((arg5.view.loc (c : Thread nD τ) ↦[arg5.view.set]{fullShare} X5) ∗ (arg9.view.loc (c : Thread nD τ) ↦[arg9.view.set]{fullShare} X9)
      ∗ (∀ f, iprop((arg5.view.loc (c : Thread nD τ) ↦[arg5.view.set]{fullShare} X5) ∗ (arg9.view.loc (c : Thread nD τ) ↦[arg9.view.set]{fullShare} f)
          ∗ ⌜∀ y : S6504x128.Idx, ((y 0).val < 6464 ∨ (y 0).val % 8 < 5) → arg9.view.read (Elt F) f y = spreadQ (F := F) (arg5.view.read (Elt F) X5) y⌝)
        -∗ wp frame (wpE (defs₀ (F := F)) 𝒱 (c : Thread nD τ) bd) E (kk (arg5.view.readAt (Elt F) (Rect.unit (s := S813x1024) ![808, 640] S5x128.size inb_S813x1024_S5x128_808_640).toLoadRect X5)) Q))
      ⊢ wp frame (wpE (defs₀ (F := F)) 𝒱 (c : Thread nD τ) bd) E (k1_part5 (F := F) i arg2 harg2 arg3 harg3 arg4 harg4 arg5 harg5 arg6 harg6 arg7 harg7 arg8 harg8 arg9 harg9 arg10 harg10 arg11 harg11 k1_h2 >>= kk) Q := by
  rw [wp_bind]
  exact part5_run (F := F) 𝒱 c bd E i arg2 harg2 arg3 harg3 arg4 harg4 arg5 harg5 arg6 harg6 arg7 harg7 arg8 harg8 arg9 harg9 arg10 harg10 arg11 harg11 k1_h2 X5 X9 (fun v => wp frame (wpE (defs₀ (F := F)) 𝒱 (c : Thread nD τ) bd) E (kk v) Q)

theorem run_first (k1_h1 : k1_cond1 i = 1#1) (k1_h2 : k1_cond2 i = 1#1) (k1_h3 : k1_cond3 i = 1#1) (k1_h4 : ¬ k1_cond4 i = 1#1)
    (X2 : BufTy.Contents (Elt F) arg2.view.ty) (X3 : BufTy.Contents (Elt F) arg3.view.ty) (X5 : BufTy.Contents (Elt F) arg5.view.ty) (X6 : BufTy.Contents (Elt F) arg6.view.ty) (X8 : BufTy.Contents (Elt F) arg8.view.ty) (X9 : BufTy.Contents (Elt F) arg9.view.ty) (X10 : BufTy.Contents (Elt F) arg10.view.ty) (X11 : BufTy.Contents (Elt F) arg11.view.ty) (hP : PermOk (F := F) (arg2.view.read (Elt F) X2))
    (hD : ∀ D : Vec F S6160 .i32, Scattered (F := F) (arg2.view.read (Elt F) X2) (arg3.view.read (Elt F) X3) 6144 D →
      Padded (F := F) (arg3.view.read (Elt F) X3) 16 D → ∀ p : Fin 6160, DOk (D (ValueIdx.ix1 p))) (Q : PUnit → sProp 𝕄G) :
    iprop((arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f8 f9 f10 f11, iprop((arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
          ∗ ⌜(Scattered (F := F) (arg2.view.read (Elt F) X2) (arg3.view.read (Elt F) X3) 6144 (arg8.view.read (Elt F) f8)
              ∧ Padded (F := F) (arg3.view.read (Elt F) X3) 16 (arg8.view.read (Elt F) f8))
            ∧ (∀ y, arg9.view.read (Elt F) f9 y = spreadQ (F := F) (arg5.view.read (Elt F) X5) y)
            ∧ (∀ y, arg10.view.read (Elt F) f10 y = spreadS (F := F) (arg6.view.read (Elt F) X6) y)
            ∧ (∀ y, arg11.view.read (Elt F) f11 y = wUpd (F := F) ((i 0).val % 2) (308 * (i 1).val) 308
                (wTile (F := F) (arg8.view.read (Elt F) f8) (arg5.view.read (Elt F) X5) (arg6.view.read (Elt F) X6)) (arg11.view.read (Elt F) X11) y)⌝)
        -∗ Q ⟨⟩))
      ⊢ wp frame (wpE (defs₀ (F := F)) 𝒱 (c : Thread nD τ) bd) E (cc1_dequant_matmul (F := F) i arg2 harg2 arg3 harg3 arg4 harg4 arg5 harg5 arg6 harg6 arg7 harg7 arg8 harg8 arg9 harg9 arg10 harg10 arg11 harg11) Q := by
  rw [cc1_dequant_matmul_eq_skeleton]; unfold cc1_dequant_matmul_skel
  simp only [dif_pos k1_h1, dif_pos k1_h2, dif_pos k1_h3, dif_neg k1_h4, bind_assoc, pure_bind]
  iintro ⟨H2, H3, H5, H6, H8, H9, H10, H11, HK⟩
  iapply (loop1 (F := F) 𝒱 c bd E i arg2 harg2 arg3 harg3 arg4 harg4 arg5 harg5 arg6 harg6 arg7 harg7 arg8 harg8 arg9 harg9 arg10 harg10 arg11 harg11 k1_h1 X2 X3 X8 hP)
  isplitl [H2]; · iexact H2
  isplitl [H3]; · iexact H3
  isplitl [H8]; · iexact H8
  iintro %f0 ⟨H2, H3, H8, %hS⟩
  iapply (loop2 (F := F) 𝒱 c bd E i arg2 harg2 arg3 harg3 arg4 harg4 arg5 harg5 arg6 harg6 arg7 harg7 arg8 harg8 arg9 harg9 arg10 harg10 arg11 harg11 k1_h1 X2 X3 f0 hP hS)
  isplitl [H2]; · iexact H2
  isplitl [H3]; · iexact H3
  isplitl [H8]; · iexact H8
  iintro %f8 ⟨H2, H3, H8, %hSP⟩
  iapply (part5_bind (F := F) 𝒱 c bd E i arg2 harg2 arg3 harg3 arg4 harg4 arg5 harg5 arg6 harg6 arg7 harg7 arg8 harg8 arg9 harg9 arg10 harg10 arg11 harg11 k1_h2 X5 X9)
  isplitl [H5]; · iexact H5
  isplitl [H9]; · iexact H9
  iintro %f9 ⟨H5, H9, %h9⟩
  sl_exec
  iapply (loop4 (F := F) 𝒱 c bd E i arg2 harg2 arg3 harg3 arg4 harg4 arg5 harg5 arg6 harg6 arg7 harg7 arg8 harg8 arg9 harg9 arg10 harg10 arg11 harg11 k1_h2 X6 X10)
  isplitl [H6]; · iexact H6
  isplitl [H10]; · iexact H10
  iintro %f10 ⟨H6, H10, %h10'⟩
  have h10 := fun y => h10' y (idx2_lt0 y)
  iapply (loop5 (F := F) 𝒱 c bd E i arg2 harg2 arg3 harg3 arg4 harg4 arg5 harg5 arg6 harg6 arg7 harg7 arg8 harg8 arg9 harg9 arg10 harg10 arg11 harg11 (BitVec.ofNat 32 (i 1).val) k1_h3 f8 _ f10 X11 (arg5.view.read (Elt F) X5) (arg6.view.read (Elt F) X6) (hD _ hSP.1 hSP.2) (tail9 arg5.view X5 arg9.view f9 h9) h10)
  isplitl [H8]; · iexact H8
  isplitl [H9]; · iexact H9
  isplitl [H10]; · iexact H10
  isplitl [H11]; · iexact H11
  iintro %f11 ⟨H8, H9, H10, H11, %h11⟩
  sl_step
  iapply HK $$ %f8 %_ %f10 %f11
  isplitl [H2]; · iexact H2
  isplitl [H3]; · iexact H3
  isplitl [H5]; · iexact H5
  isplitl [H6]; · iexact H6
  isplitl [H8]; · iexact H8
  isplitl [H9]; · iexact H9
  isplitl [H10]; · iexact H10
  isplitl [H11]; · iexact H11
  ipureintro
  exact ⟨hSP, tail9 arg5.view X5 arg9.view f9 h9, h10, h11⟩

theorem part16_bind (arg1 v8 : BitVec 32) (k1_h4 : k1_cond4 i = 1#1) (X4 : BufTy.Contents (Elt F) arg4.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) {β : Type} (kk : (Σ' (v36 : BitVec 32) (v41 : FVec F S6144x128 .bf16), BitVec 32) → Prog (TpuEff nD τ sig (Elt F) Λ₀ .tc) β) (Q : β → sProp 𝕄G) :
    iprop((arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg4.view.loc (c : Thread nD τ) ↦[arg4.view.set]{fullShare} X4) ∗ (arg7.view.loc (c : Thread nD τ) ↦[arg7.view.set]{fullShare} (arg7.view.writes (Elt F) X7 [⟨Rect.unit (s := S512x1024) ![0, 0] S512x256.size inb_S512x1024_S512x256_0_0,
          k1_pay45 (F := F) (rd (arg11.view.read (Elt F) X11) (1 - (i 0).val % 2) 0) (rd (arg11.view.read (Elt F) X11) (1 - (i 0).val % 2) 1) (arg4.view.readAt (Elt F) (Rect.unit (s := S512x6144) ![0, 0] S512x6144.size inb_S512x6144_S512x6144_0_0).toLoadRect X4)⟩]))
          ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x2x128.Idx, arg11.view.read (Elt F) f y = wUpd (F := F) ((i 0).val % 2) (308 * (i 1).val) 154 (wTile (F := F) (arg8.view.read (Elt F) X8) q s) (arg11.view.read (Elt F) X11) y⌝)
        -∗ ∀ v36, wp frame (wpE (defs₀ (F := F)) 𝒱 (c : Thread nD τ) bd) E (kk ⟨v36, k1_pay47 (F := F) (rd (arg11.view.read (Elt F) X11) (1 - (i 0).val % 2) (2 : Fin 8).val), 9240#32⟩) Q))
      ⊢ wp frame (wpE (defs₀ (F := F)) 𝒱 (c : Thread nD τ) bd) E (k1_part16 (F := F) i arg2 harg2 arg3 harg3 arg4 harg4 arg5 harg5 arg6 harg6 arg7 harg7 arg8 harg8 arg9 harg9 arg10 harg10 arg11 harg11 arg1 v8 k1_h4 >>= kk) Q := by
  rw [wp_bind]
  exact part16_run (F := F) 𝒱 c bd E i arg2 harg2 arg3 harg3 arg4 harg4 arg5 harg5 arg6 harg6 arg7 harg7 arg8 harg8 arg9 harg9 arg10 harg10 arg11 harg11 arg1 v8 k1_h4 X4 X7 X8 X9 X10 X11 q s h8 h9 h10 (fun v => wp frame (wpE (defs₀ (F := F)) 𝒱 (c : Thread nD τ) bd) E (kk v) Q)

theorem part17_bind (arg1 v8 v36 : BitVec 32) (c9240 : BitVec 32) (k1_h4 : k1_cond4 i = 1#1) (X4 : BufTy.Contents (Elt F) arg4.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (G : Vec F S49280x2x128 .bf16)
    (h11 : ∀ y : S49280x2x128.Idx, arg11.view.read (Elt F) X11 y = wUpd (F := F) ((i 0).val % 2) (308 * (i 1).val) 154 (wTile (F := F) (arg8.view.read (Elt F) X8) q s) G y)
    {β : Type} (kk : PUnit → Prog (TpuEff nD τ sig (Elt F) Λ₀ .tc) β) (Q : β → sProp 𝕄G) :
    iprop((arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg4.view.loc (c : Thread nD τ) ↦[arg4.view.set]{fullShare} X4) ∗ (arg7.view.loc (c : Thread nD τ) ↦[arg7.view.set]{fullShare} (arg7.view.writes (Elt F) X7 [⟨Rect.unit (s := S512x1024) ![0, 512] S512x256.size inb_S512x1024_S512x256_0_512,
            k1_pay50 (F := F) (rd G (1 - (i 0).val % 2) 4) (rd G (1 - (i 0).val % 2) 5) (arg4.view.readAt (Elt F) (Rect.unit (s := S512x6144) ![0, 0] S512x6144.size inb_S512x6144_S512x6144_0_0).toLoadRect X4)⟩,
          ⟨Rect.unit (s := S512x1024) ![0, 256] S512x256.size inb_S512x1024_S512x256_0_256,
            k1_pay48 (F := F) (k1_pay47 (F := F) (rd G (1 - (i 0).val % 2) (2 : Fin 8).val)) (rd G (1 - (i 0).val % 2) 3) (arg4.view.readAt (Elt F) (Rect.unit (s := S512x6144) ![0, 0] S512x6144.size inb_S512x6144_S512x6144_0_0).toLoadRect X4)⟩]))
          ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x2x128.Idx, arg11.view.read (Elt F) f y = wUpd (F := F) ((i 0).val % 2) (308 * (i 1).val) 231 (wTile (F := F) (arg8.view.read (Elt F) X8) q s) G y⌝)
        -∗ wp frame (wpE (defs₀ (F := F)) 𝒱 (c : Thread nD τ) bd) E (kk ⟨⟩) Q))
      ⊢ wp frame (wpE (defs₀ (F := F)) 𝒱 (c : Thread nD τ) bd) E (k1_part17 (F := F) i arg2 harg2 arg3 harg3 arg4 harg4 arg5 harg5 arg6 harg6 arg7 harg7 arg8 harg8 arg9 harg9 arg10 harg10 arg11 harg11 arg1 v8 k1_h4 v36 (k1_pay47 (F := F) (rd G (1 - (i 0).val % 2) (2 : Fin 8).val)) c9240 >>= kk) Q := by
  rw [wp_bind]
  exact part17_run (F := F) 𝒱 c bd E i arg2 harg2 arg3 harg3 arg4 harg4 arg5 harg5 arg6 harg6 arg7 harg7 arg8 harg8 arg9 harg9 arg10 harg10 arg11 harg11 arg1 v8 v36 c9240 k1_h4 X4 X7 X8 X9 X10 X11 q s h8 h9 h10 G h11 (fun v => wp frame (wpE (defs₀ (F := F)) 𝒱 (c : Thread nD τ) bd) E (kk v) Q)

theorem run_fill (k1_h1 : ¬ k1_cond1 i = 1#1) (k1_h2 : ¬ k1_cond2 i = 1#1) (k1_h3 : k1_cond3 i = 1#1) (k1_h4 : ¬ k1_cond4 i = 1#1)
    (X8 : BufTy.Contents (Elt F) arg8.view.ty) (X9 : BufTy.Contents (Elt F) arg9.view.ty) (X10 : BufTy.Contents (Elt F) arg10.view.ty) (X11 : BufTy.Contents (Elt F) arg11.view.ty) (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (Q : PUnit → sProp 𝕄G) :
    iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f11, iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11)
          ∗ ⌜∀ y, arg11.view.read (Elt F) f11 y = wUpd (F := F) ((i 0).val % 2) (308 * (i 1).val) 308
                (wTile (F := F) (arg8.view.read (Elt F) X8) q s) (arg11.view.read (Elt F) X11) y⌝)
        -∗ Q ⟨⟩))
      ⊢ wp frame (wpE (defs₀ (F := F)) 𝒱 (c : Thread nD τ) bd) E (cc1_dequant_matmul (F := F) i arg2 harg2 arg3 harg3 arg4 harg4 arg5 harg5 arg6 harg6 arg7 harg7 arg8 harg8 arg9 harg9 arg10 harg10 arg11 harg11) Q := by
  rw [cc1_dequant_matmul_eq_skeleton]; unfold cc1_dequant_matmul_skel
  simp only [dif_neg k1_h1, dif_neg k1_h2, dif_pos k1_h3, dif_neg k1_h4, bind_assoc, pure_bind]
  iintro ⟨H8, H9, H10, H11, HK⟩
  iapply (loop5 (F := F) 𝒱 c bd E i arg2 harg2 arg3 harg3 arg4 harg4 arg5 harg5 arg6 harg6 arg7 harg7 arg8 harg8 arg9 harg9 arg10 harg10 arg11 harg11 (BitVec.ofNat 32 (i 1).val) k1_h3 X8 X9 X10 X11 q s h8 h9 h10)
  isplitl [H8]; · iexact H8
  isplitl [H9]; · iexact H9
  isplitl [H10]; · iexact H10
  isplitl [H11]; · iexact H11
  iintro %f11 ⟨H8, H9, H10, H11, %h11⟩
  sl_step
  iapply HK $$ %f11
  isplitl [H8]; · iexact H8
  isplitl [H9]; · iexact H9
  isplitl [H10]; · iexact H10
  isplitl [H11]; · iexact H11
  ipureintro
  exact h11

theorem run_mul (k1_h1 : ¬ k1_cond1 i = 1#1) (k1_h2 : ¬ k1_cond2 i = 1#1) (k1_h3 : ¬ k1_cond3 i = 1#1) (k1_h4 : k1_cond4 i = 1#1)
    (X4 : BufTy.Contents (Elt F) arg4.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (Q : PUnit → sProp 𝕄G) :
    iprop((arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f7 f11, iprop((arg4.view.loc (c : Thread nD τ) ↦[arg4.view.set]{fullShare} X4) ∗ (arg7.view.loc (c : Thread nD τ) ↦[arg7.view.set]{fullShare} f7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11)
          ∗ ⌜(∀ y, arg7.view.read (Elt F) f7 y = outT (F := F) (arg11.view.read (Elt F) X11) (arg4.view.read (Elt F) X4) (1 - (i 0).val % 2) y)
            ∧ ∀ y, arg11.view.read (Elt F) f11 y = wUpd (F := F) ((i 0).val % 2) (308 * (i 1).val) 308
                (wTile (F := F) (arg8.view.read (Elt F) X8) q s) (arg11.view.read (Elt F) X11) y⌝)
        -∗ Q ⟨⟩))
      ⊢ wp frame (wpE (defs₀ (F := F)) 𝒱 (c : Thread nD τ) bd) E (cc1_dequant_matmul (F := F) i arg2 harg2 arg3 harg3 arg4 harg4 arg5 harg5 arg6 harg6 arg7 harg7 arg8 harg8 arg9 harg9 arg10 harg10 arg11 harg11) Q := by
  rw [cc1_dequant_matmul_eq_skeleton]; unfold cc1_dequant_matmul_skel
  simp only [dif_neg k1_h1, dif_neg k1_h2, dif_neg k1_h3, dif_pos k1_h4, bind_assoc, pure_bind]
  iintro ⟨H4, H7, H8, H9, H10, H11, HK⟩
  iapply (part16_bind (F := F) 𝒱 c bd E i arg2 harg2 arg3 harg3 arg4 harg4 arg5 harg5 arg6 harg6 arg7 harg7 arg8 harg8 arg9 harg9 arg10 harg10 arg11 harg11 (BitVec.ofNat 32 (i 1).val) (Scalar.andi (BitVec.ofNat 32 (i 0).val) 1#32) k1_h4 X4 X7 X8 _ _ X11 q s h8 h9 h10)
  isplitl [H4]; · iexact H4
  isplitl [H7]; · iexact H7
  isplitl [H8]; · iexact H8
  isplitl [H9]; · iexact H9
  isplitl [H10]; · iexact H10
  isplitl [H11]; · iexact H11
  iintro %fa ⟨H4, H7, H8, H9, H10, H11, %ha⟩ %v36
  dsimp only
  iapply (part17_bind (F := F) 𝒱 c bd E i arg2 harg2 arg3 harg3 arg4 harg4 arg5 harg5 arg6 harg6 arg7 harg7 arg8 harg8 arg9 harg9 arg10 harg10 arg11 harg11 (BitVec.ofNat 32 (i 1).val) (Scalar.andi (BitVec.ofNat 32 (i 0).val) 1#32) v36 9240#32 k1_h4 X4 _ X8 _ _ fa q s h8 h9 h10 (arg11.view.read (Elt F) X11) ha)
  isplitl [H4]; · iexact H4
  isplitl [H7]; · iexact H7
  isplitl [H8]; · iexact H8
  isplitl [H9]; · iexact H9
  isplitl [H10]; · iexact H10
  isplitl [H11]; · iexact H11
  iintro %fb ⟨H4, H7, H8, H9, H10, H11, %hb⟩
  iapply (loop9 (F := F) 𝒱 c bd E i arg2 harg2 arg3 harg3 arg4 harg4 arg5 harg5 arg6 harg6 arg7 harg7 arg8 harg8 arg9 harg9 arg10 harg10 arg11 harg11 (BitVec.ofNat 32 (i 1).val) k1_h4 X8 _ _ fb q s h8 h9 h10)
  isplitl [H8]; · iexact H8
  isplitl [H9]; · iexact H9
  isplitl [H10]; · iexact H10
  isplitl [H11]; · iexact H11
  iintro %fc ⟨H8, H9, H10, H11, %hc⟩
  rw [show arg11.view.read (Elt F) fb = _ from funext hb, wUpd_wUpd] at hc
  have e6 := rd_eq arg11.view fc i 6 _ _ _ _ hc (k1_off40_inb i k1_h4 6) rfl
  have e7 := rd_eq arg11.view fc i 7 _ _ _ _ hc (k1_off40_inb i k1_h4 7) rfl
  sl_exec
  sl_step

  iapply HK $$ %_ %fc
  isplitl [H4]; · iexact H4
  isplitl [H7]; · iexact H7
  isplitl [H8]; · iexact H8
  isplitl [H9]; · iexact H9
  isplitl [H10]; · iexact H10
  isplitl [H11]; · iexact H11
  ipureintro
  exact ⟨outT_of (F := F) arg4.view X4 arg7.view X7 _ _, hc⟩

theorem run_next (k1_h1 : ¬ k1_cond1 i = 1#1) (k1_h2 : k1_cond2 i = 1#1) (k1_h3 : ¬ k1_cond3 i = 1#1) (k1_h4 : k1_cond4 i = 1#1)
    (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (h8 : ∀ p : Fin 6160, DOk (arg8.view.read (Elt F) X8 (ValueIdx.ix1 p))) (Q : PUnit → sProp 𝕄G) :
    iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f7 f9 f10 f11, iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
          ∗ ⌜(∀ y, arg7.view.read (Elt F) f7 y = outT (F := F) (arg11.view.read (Elt F) X11) (arg4.view.read (Elt F) X4) (1 - (i 0).val % 2) y)
            ∧ (∀ y, arg9.view.read (Elt F) f9 y = spreadQ (F := F) (arg5.view.read (Elt F) X5) y)
            ∧ (∀ y, arg10.view.read (Elt F) f10 y = spreadS (F := F) (arg6.view.read (Elt F) X6) y)
            ∧ (∀ y, arg11.view.read (Elt F) f11 y = wUpd (F := F) ((i 0).val % 2) (308 * (i 1).val) 308
                (wTile (F := F) (arg8.view.read (Elt F) X8) (arg5.view.read (Elt F) X5) (arg6.view.read (Elt F) X6)) (arg11.view.read (Elt F) X11) y)⌝)
        -∗ Q ⟨⟩))
      ⊢ wp frame (wpE (defs₀ (F := F)) 𝒱 (c : Thread nD τ) bd) E (cc1_dequant_matmul (F := F) i arg2 harg2 arg3 harg3 arg4 harg4 arg5 harg5 arg6 harg6 arg7 harg7 arg8 harg8 arg9 harg9 arg10 harg10 arg11 harg11) Q := by
  rw [cc1_dequant_matmul_eq_skeleton]; unfold cc1_dequant_matmul_skel
  simp only [dif_neg k1_h1, dif_pos k1_h2, dif_neg k1_h3, dif_pos k1_h4, bind_assoc, pure_bind]
  iintro ⟨H4, H5, H6, H7, H8, H9, H10, H11, HK⟩
  iapply (part5_bind (F := F) 𝒱 c bd E i arg2 harg2 arg3 harg3 arg4 harg4 arg5 harg5 arg6 harg6 arg7 harg7 arg8 harg8 arg9 harg9 arg10 harg10 arg11 harg11 k1_h2 X5 X9)
  isplitl [H5]; · iexact H5
  isplitl [H9]; · iexact H9
  iintro %f9 ⟨H5, H9, %h9⟩
  sl_exec
  iapply (loop4 (F := F) 𝒱 c bd E i arg2 harg2 arg3 harg3 arg4 harg4 arg5 harg5 arg6 harg6 arg7 harg7 arg8 harg8 arg9 harg9 arg10 harg10 arg11 harg11 k1_h2 X6 X10)
  isplitl [H6]; · iexact H6
  isplitl [H10]; · iexact H10
  iintro %f10 ⟨H6, H10, %h10'⟩
  have h10 := fun y => h10' y (idx2_lt0 y)
  iapply (part16_bind (F := F) 𝒱 c bd E i arg2 harg2 arg3 harg3 arg4 harg4 arg5 harg5 arg6 harg6 arg7 harg7 arg8 harg8 arg9 harg9 arg10 harg10 arg11 harg11 (BitVec.ofNat 32 (i 1).val) (Scalar.andi (BitVec.ofNat 32 (i 0).val) 1#32) k1_h4 X4 X7 X8 _ _ X11 (arg5.view.read (Elt F) X5) (arg6.view.read (Elt F) X6) h8 (tail9 arg5.view X5 arg9.view f9 h9) h10)
  isplitl [H4]; · iexact H4
  isplitl [H7]; · iexact H7
  isplitl [H8]; · iexact H8
  isplitl [H9]; · iexact H9
  isplitl [H10]; · iexact H10
  isplitl [H11]; · iexact H11
  iintro %fa ⟨H4, H7, H8, H9, H10, H11, %ha⟩ %v36
  dsimp only
  iapply (part17_bind (F := F) 𝒱 c bd E i arg2 harg2 arg3 harg3 arg4 harg4 arg5 harg5 arg6 harg6 arg7 harg7 arg8 harg8 arg9 harg9 arg10 harg10 arg11 harg11 (BitVec.ofNat 32 (i 1).val) (Scalar.andi (BitVec.ofNat 32 (i 0).val) 1#32) v36 9240#32 k1_h4 X4 _ X8 _ _ fa (arg5.view.read (Elt F) X5) (arg6.view.read (Elt F) X6) h8 (tail9 arg5.view X5 arg9.view f9 h9) h10 (arg11.view.read (Elt F) X11) ha)
  isplitl [H4]; · iexact H4
  isplitl [H7]; · iexact H7
  isplitl [H8]; · iexact H8
  isplitl [H9]; · iexact H9
  isplitl [H10]; · iexact H10
  isplitl [H11]; · iexact H11
  iintro %fb ⟨H4, H7, H8, H9, H10, H11, %hb⟩
  iapply (loop9 (F := F) 𝒱 c bd E i arg2 harg2 arg3 harg3 arg4 harg4 arg5 harg5 arg6 harg6 arg7 harg7 arg8 harg8 arg9 harg9 arg10 harg10 arg11 harg11 (BitVec.ofNat 32 (i 1).val) k1_h4 X8 _ _ fb (arg5.view.read (Elt F) X5) (arg6.view.read (Elt F) X6) h8 (tail9 arg5.view X5 arg9.view f9 h9) h10)
  isplitl [H8]; · iexact H8
  isplitl [H9]; · iexact H9
  isplitl [H10]; · iexact H10
  isplitl [H11]; · iexact H11
  iintro %fc ⟨H8, H9, H10, H11, %hc⟩
  rw [show arg11.view.read (Elt F) fb = _ from funext hb, wUpd_wUpd] at hc
  have e6 := rd_eq arg11.view fc i 6 _ _ _ _ hc (k1_off40_inb i k1_h4 6) rfl
  have e7 := rd_eq arg11.view fc i 7 _ _ _ _ hc (k1_off40_inb i k1_h4 7) rfl
  sl_exec
  sl_step

  iapply HK $$ %_ %_ %f10 %fc
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  ipureintro
  exact ⟨outT_of (F := F) arg4.view X4 arg7.view X7 _ _, tail9 arg5.view X5 arg9.view f9 h9, h10, hc⟩

end

end Cert.KernelIdeal.Dq
-- ==== Proof.Tiles.lean ====
module

public import proofs.«01_k».proof.Proof.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.Kit
public import Idealize.ShloMosaic.Lib.Pipeline.Value
public import Idealize.ShloMosaic.Lib.Pipeline.ValueKit

@[expose] public section

set_option maxRecDepth 16384

noncomputable section

namespace Cert.KernelIdeal.Dq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Pipeline (Dat Cfg Window BodyObligation cellOf)

variable {F : FTy → Type} [FloatOps F]

/-! ## The descriptors, once all of them have been put in place -/

/-- The table by position: at place `p` the descriptor of the row that `P` sends to `p`; beyond the rows, the first one. -/
def placed (P T : Vec F S6144 .i32) : Vec F S6160 .i32 := fun y =>
  open Classical in if h : ∃ r : Fin 6144, (P (ValueIdx.ix1 r)).toNat = (y 0).val then T (ValueIdx.ix1 h.choose) else T (ValueIdx.ix1 0)

theorem placed_at {P T : Vec F S6144 .i32} (hP : PermOk (F := F) P) (r : Fin 6144) (p : Fin 6160) (hp : p.val = (P (ValueIdx.ix1 r)).toNat) :
    placed P T (ValueIdx.ix1 p) = T (ValueIdx.ix1 r) := by
  have h : ∃ r : Fin 6144, (P (ValueIdx.ix1 r)).toNat = ((ValueIdx.ix1 p : S6160.Idx) 0).val := ⟨r, hp.symm⟩
  unfold placed
  rw [dif_pos h]
  congr 1
  exact congrArg _ (hP.2 _ _ (BitVec.eq_of_toNat_eq (h.choose_spec.trans hp)))

theorem perm_surj {P : Vec F S6144 .i32} (hP : PermOk (F := F) P) (p : ℕ) (hp : p < 6144) : ∃ r : Fin 6144, (P (ValueIdx.ix1 r)).toNat = p := by
  have hinj : Function.Injective fun r : Fin 6144 => (⟨(P (ValueIdx.ix1 r)).toNat, hP.1 r⟩ : Fin 6144) := fun a b h =>
    hP.2 _ _ (BitVec.eq_of_toNat_eq (Fin.mk.inj h))
  obtain ⟨r, hr⟩ := (Finite.injective_iff_surjective.mp hinj) ⟨p, hp⟩
  exact ⟨r, congrArg Fin.val hr⟩

theorem eq_placed {P T : Vec F S6144 .i32} (hP : PermOk (F := F) P) {D : Vec F S6160 .i32} (hS : Scattered (F := F) P T 6144 D)
    (hp : Padded (F := F) T 16 D) : D = placed P T := by
  funext y
  obtain ⟨p, rfl⟩ : ∃ p : Fin 6160, y = ValueIdx.ix1 p := ⟨y 0, ValueIdx.eq_ix1 y⟩
  by_cases h : p.val < 6144
  · obtain ⟨r, hr⟩ := perm_surj hP p.val h
    rw [hS r r.isLt p hr.symm, placed_at hP r p hr.symm]
  · have hn : ¬ ∃ r : Fin 6144, (P (ValueIdx.ix1 r)).toNat = ((ValueIdx.ix1 p : S6160.Idx) 0).val := fun ⟨r, hr⟩ => by
      have := hP.1 r
      have e : ((ValueIdx.ix1 p : S6160.Idx) 0).val = p.val := rfl
      omega
    unfold placed
    rw [dif_neg hn]
    exact hp p (by omega) (by have := p.isLt; omega)

theorem placed_ok {P T : Vec F S6144 .i32} (hT : ∀ r : Fin 6144, DOk (T (ValueIdx.ix1 r))) (p : Fin 6160) : DOk (placed (F := F) P T (ValueIdx.ix1 p)) := by
  unfold placed
  split
  · exact hT _
  · exact hT 0

/-! ## The tiles -/

/-- Rows `[512 i, 512 i + 512)` of the activations. -/
def nT (A : Vec F S5120x6144 .bf16) (i : ℕ) : Vec F S512x6144 .bf16 := fun y =>
  A (ValueIdx.ix2 ⟨(512 * i + (y 0).val) % 5120, Nat.mod_lt _ (by decide)⟩ (y 1))

/-- Columns `[1024 j, 1024 j + 1024)` of the packed words. -/
def qT (A : Vec F S813x24576 .i32) (j : ℕ) : Vec F S813x1024 .i32 := fun y =>
  A (ValueIdx.ix2 (y 0) ⟨(1024 * j + (y 1).val) % 24576, Nat.mod_lt _ (by decide)⟩)

/-- Columns `[1024 j, 1024 j + 1024)` of the scales. -/
def sT (A : Vec F S192x24576 .bf16) (j : ℕ) : Vec F S192x1024 .bf16 := fun y =>
  A (ValueIdx.ix2 (y 0) ⟨(1024 * j + (y 1).val) % 24576, Nat.mod_lt _ (by decide)⟩)

/-! ## The points -/

theorem coord0 (t : Fin cfg1.N) : (grid1.coords t 0).val = t.val / 10 := by
  have h := Pipeline.Grid.coords_val (G := grid1) t 0 (S := 10) (B := 25) (by decide) rfl
  have := t.isLt
  have hN : cfg1.N = 250 := N_1
  omega

theorem coord1 (t : Fin cfg1.N) : (grid1.coords t 1).val = t.val % 10 := by
  have h := Pipeline.Grid.coords_val (G := grid1) t 1 (S := 1) (B := 10) (by decide) rfl
  omega

theorem cond1_iff (i : grid1.Coords) : k1_cond1 i = 1#1 ↔ (i 0).val = 0 ∧ (i 1).val = 0 :=
  (by decide : ∀ (a : Fin 25) (b : Fin 10), Scalar.cmpi .ne (Scalar.extui (Scalar.andi (Scalar.cmpi .eq (BitVec.ofNat 32 a.val) 0#32) (Scalar.cmpi .eq (BitVec.ofNat 32 b.val) 0#32)) : BitVec 32) 0#32 = 1#1 ↔ a.val = 0 ∧ b.val = 0) (i 0) (i 1)

theorem cond2_iff (i : grid1.Coords) : k1_cond2 i = 1#1 ↔ (i 1).val = 0 :=
  (by decide : ∀ (b : Fin 10), Scalar.cmpi .ne (Scalar.extui (Scalar.cmpi .eq (BitVec.ofNat 32 b.val) 0#32) : BitVec 32) 0#32 = 1#1 ↔ b.val = 0) (i 1)

theorem cond3_iff (i : grid1.Coords) : k1_cond3 i = 1#1 ↔ (i 0).val = 0 :=
  (by decide : ∀ (b : Fin 25), Scalar.cmpi .ne (Scalar.extui (Scalar.cmpi .eq (BitVec.ofNat 32 b.val) 0#32) : BitVec 32) 0#32 = 1#1 ↔ b.val = 0) (i 0)

theorem cond4_iff (i : grid1.Coords) : k1_cond4 i = 1#1 ↔ 0 < (i 0).val :=
  (by decide : ∀ (b : Fin 25), Scalar.cmpi .ne (Scalar.extui (Scalar.cmpi .sgt (BitVec.ofNat 32 b.val) 0#32) : BitVec 32) 0#32 = 1#1 ↔ 0 < b.val) (i 0)

theorem tr2_eq (i : grid1.Coords) : cc1_transform_2 i = ![if (i 0).val = 0 then 0 else (i 1).val, 0] := by
  have h := (by decide : ∀ (a : Fin 25) (b : Fin 10), (Scalar.select (Scalar.cmpi .eq (BitVec.ofNat 32 a.val) 0#32) 0#32 (BitVec.ofNat 32 b.val) : BitVec 32).toNat = if a.val = 0 then 0 else b.val) (i 0) (i 1)
  funext a
  match a with
  | ⟨0, _⟩ => exact h
  | ⟨1, _⟩ => rfl

theorem tr3_eq (i : grid1.Coords) : cc1_transform_3 i = ![0, min (i 0).val 23] := by
  have h := (by decide : ∀ (a : Fin 25), (Scalar.minsi (BitVec.ofNat 32 a.val) 23#32 : BitVec 32).toNat = min a.val 23) (i 0)
  funext a
  match a with
  | ⟨0, _⟩ => rfl
  | ⟨1, _⟩ => exact h

theorem tr4_eq (i : grid1.Coords) : cc1_transform_4 i = ![0, min (i 0).val 23] := tr3_eq i

theorem tr5_eq (i : grid1.Coords) : cc1_transform_5 i = ![if (i 0).val = 0 then 0 else (i 1).val, (i 0).val - 1] := by
  have h := (by decide : ∀ (a : Fin 25) (b : Fin 10), (Scalar.select (Scalar.cmpi .eq (BitVec.ofNat 32 a.val) 0#32) 0#32 (BitVec.ofNat 32 b.val) : BitVec 32).toNat = if a.val = 0 then 0 else b.val) (i 0) (i 1)
  have h' := (by decide : ∀ (a : Fin 25), (Scalar.maxsi (Scalar.subi (BitVec.ofNat 32 a.val) 1#32) 0#32 : BitVec 32).toNat = a.val - 1) (i 0)
  funext a
  match a with
  | ⟨0, _⟩ => exact h
  | ⟨1, _⟩ => exact h'

theorem flush5_early (t : Fin cfg1.N) (ht : t.val < 10) : (cfg1.win 5).flush t = false :=
  (by decide : ∀ u : Fin 10, (cfg1.win 5).flush (⟨u.val, Nat.lt_of_lt_of_le u.isLt (by decide)⟩ : Fin cfg1.N) = false) ⟨t.val, ht⟩

/-! ## The blocks the body is handed -/

variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem iblk0 (c : Dev nD) (t : Fin cfg1.N) : iblk V c 0 t = V c main_arg3 := by
  funext y
  have e : win1_0.index t = ![0] := rfl
  unfold iblk
  blk_ext [e]

theorem iblk1 (c : Dev nD) (t : Fin cfg1.N) : iblk V c 1 t = V c main_c := by
  funext y
  have e : win1_1.index t = ![0] := rfl
  unfold iblk
  blk_ext [e]

theorem iblk2 (c : Dev nD) (t : Fin cfg1.N) : iblk V c 2 t = nT (F := F) (V c main_v3_1) (if t.val / 10 = 0 then 0 else t.val % 10) := by
  funext y
  have e : win1_2.index t = ![if t.val / 10 = 0 then 0 else t.val % 10, 0] := by
    rw [← coord0 t, ← coord1 t]; exact tr2_eq _
  have hb : (if t.val / 10 = 0 then 0 else t.val % 10) < 10 := by split <;> omega
  unfold iblk nT
  generalize (if t.val / 10 = 0 then 0 else t.val % 10) = k at e hb ⊢
  blk_ext [e]

theorem iblk3 (c : Dev nD) (t : Fin cfg1.N) : iblk V c 3 t = qT (F := F) (V c main_v4) (min (t.val / 10) 23) := by
  funext y
  have e : win1_3.index t = ![0, min (t.val / 10) 23] := by
    rw [← coord0 t]; exact tr3_eq _
  unfold iblk qT
  blk_ext [e]

theorem iblk4 (c : Dev nD) (t : Fin cfg1.N) : iblk V c 4 t = sT (F := F) (V c main_arg5) (min (t.val / 10) 23) := by
  funext y
  have e : win1_4.index t = ![0, min (t.val / 10) 23] := by
    rw [← coord0 t]; exact tr4_eq _
  unfold iblk sT
  blk_ext [e]

/-! ## The state between points -/

/-- The output tile of the rows `n` and the weights that `D`, `q` and `s` give. -/
def tileOut (D : Vec F S6160 .i32) (q : Vec F S813x1024 .i32) (s : Vec F S192x1024 .bf16) (n : Vec F S512x6144 .bf16) : Vec F S512x1024 .bf16 :=
  outT (F := F) (wTile D q s) n 0

theorem rd_tile (X : Vec F S49280x2x128 .bf16) (D : Vec F S6160 .i32) (q : Vec F S813x1024 .i32) (s : Vec F S192x1024 .bf16) (σ r : ℕ) (hσ : σ < 2)
    (hr : r < 8) (h : ∀ y : S49280x2x128.Idx, (y 0).val / 24640 = σ → X y = wTile (F := F) D q s y) : rd X σ r = rd (wTile (F := F) D q s) 0 r := by
  funext x
  have hx0 : (x 0).val < 3072 := (x 0).isLt
  unfold rd
  have e1 : (σ * 24640 + 3080 * r + (x 0).val) % 49280 = σ * 24640 + 3080 * r + (x 0).val := Nat.mod_eq_of_lt (by omega)
  have e2 : (0 * 24640 + 3080 * r + (x 0).val) % 49280 = 3080 * r + (x 0).val := by
    rw [Nat.zero_mul, Nat.zero_add]; exact Nat.mod_eq_of_lt (by omega)
  have ed : (σ * 24640 + 3080 * r + (x 0).val) % 49280 / 24640 = σ := by rw [e1]; omega
  rw [h (ValueIdx.ix3 ⟨(σ * 24640 + 3080 * r + (x 0).val) % 49280, Nat.mod_lt _ (by decide)⟩ (x 1) (x 2)) ed]
  unfold wTile
  have a1 : 2 * ((σ * 24640 + 3080 * r + (x 0).val) % 49280 % 3080) = 2 * ((0 * 24640 + 3080 * r + (x 0).val) % 49280 % 3080) := by rw [e1, e2]; omega
  have a2 : (σ * 24640 + 3080 * r + (x 0).val) % 49280 % 24640 / 3080 = (0 * 24640 + 3080 * r + (x 0).val) % 49280 % 24640 / 3080 := by rw [e1, e2]; omega
  show deq (F := F) (D (ValueIdx.ix1 ⟨2 * ((σ * 24640 + 3080 * r + (x 0).val) % 49280 % 3080) + (x 1).val, _⟩)) q s
      ⟨128 * ((σ * 24640 + 3080 * r + (x 0).val) % 49280 % 24640 / 3080) + (x 2).val, _⟩
    = deq (F := F) (D (ValueIdx.ix1 ⟨2 * ((0 * 24640 + 3080 * r + (x 0).val) % 49280 % 3080) + (x 1).val, _⟩)) q s
      ⟨128 * ((0 * 24640 + 3080 * r + (x 0).val) % 49280 % 24640 / 3080) + (x 2).val, _⟩
  simp only [a1, a2]

theorem outT_tile (X : Vec F S49280x2x128 .bf16) (D : Vec F S6160 .i32) (q : Vec F S813x1024 .i32) (s : Vec F S192x1024 .bf16) (n : Vec F S512x6144 .bf16)
    (σ : ℕ) (hσ : σ < 2) (h : ∀ y : S49280x2x128.Idx, (y 0).val / 24640 = σ → X y = wTile (F := F) D q s y) :
    outT (F := F) X n σ = tileOut D q s n := by
  funext y
  have h1 := idx2_lt1 y
  unfold tileOut outT
  rw [rd_tile X D q s σ _ hσ (by omega) h, rd_tile X D q s σ _ hσ (by omega) h]

/-- What the four scratch buffers hold before point `n`: after the first point, the placed descriptors, the spread of the tile in hand, the part of its
    weights already written in one slot, and the weights of the tile before in the other. -/
def Inv (Dd : Vec F S6160 .i32) (q : ℕ → Vec F S813x1024 .i32) (s : ℕ → Vec F S192x1024 .bf16) (n : ℕ) (D : Vec F S6160 .i32) (Q : Vec F S6504x128 .i32)
    (S : Vec F S1536x128 .f32) (W : Vec F S49280x2x128 .bf16) : Prop :=
  n = 0 ∨ (D = Dd ∧ (∀ y, Q y = spreadQ (F := F) (q (min ((n - 1) / 10) 23)) y) ∧ (∀ y, S y = spreadS (F := F) (s (min ((n - 1) / 10) 23)) y)
    ∧ (∀ y : S49280x2x128.Idx, (y 0).val / 24640 = (n - 1) / 10 % 2 → (y 0).val % 3080 < 308 * ((n - 1) % 10 + 1) →
        W y = wTile (F := F) Dd (q (min ((n - 1) / 10) 23)) (s (min ((n - 1) / 10) 23)) y)
    ∧ (0 < (n - 1) / 10 → ∀ y : S49280x2x128.Idx, (y 0).val / 24640 = 1 - (n - 1) / 10 % 2 →
        W y = wTile (F := F) Dd (q ((n - 1) / 10 - 1)) (s ((n - 1) / 10 - 1)) y))

variable {Dd : Vec F S6160 .i32} {q : ℕ → Vec F S813x1024 .i32} {s : ℕ → Vec F S192x1024 .bf16} {n : ℕ} {D : Vec F S6160 .i32} {Q : Vec F S6504x128 .i32}
    {S : Vec F S1536x128 .f32} {W : Vec F S49280x2x128 .bf16}

/-- The slot that the products read at a point of a tile after the first holds the weights of the tile before. -/
theorem Inv.other (h : Inv Dd q s n D Q S W) (hn : n < 250) (hj : 0 < n / 10) (y : S49280x2x128.Idx) (hy : (y 0).val / 24640 = 1 - n / 10 % 2) :
    W y = wTile (F := F) Dd (q (n / 10 - 1)) (s (n / 10 - 1)) y := by
  rcases h with h | ⟨-, -, -, h4, h5⟩
  · omega
  · by_cases hi : n % 10 = 0
    · have e : min ((n - 1) / 10) 23 = n / 10 - 1 := by omega
      rw [e] at h4
      have := Nat.mod_lt (y 0).val (show 0 < 3080 by decide)
      exact h4 y (by omega) (by omega)
    · have e : (n - 1) / 10 = n / 10 := by omega
      rw [e] at h5
      exact h5 hj y hy

theorem Inv.desc (h : Inv Dd q s n D Q S W) (hn : 0 < n) : D = Dd := by
  rcases h with h | h
  · omega
  · exact h.1

theorem Inv.words (h : Inv Dd q s n D Q S W) (hi : n % 10 ≠ 0) (y) : Q y = spreadQ (F := F) (q (min (n / 10) 23)) y := by
  rcases h with h | h
  · omega
  · rw [show n / 10 = (n - 1) / 10 by omega]; exact h.2.1 y

theorem Inv.scales (h : Inv Dd q s n D Q S W) (hi : n % 10 ≠ 0) (y) : S y = spreadS (F := F) (s (min (n / 10) 23)) y := by
  rcases h with h | h
  · omega
  · rw [show n / 10 = (n - 1) / 10 by omega]; exact h.2.2.1 y

/-- One point's writing carries the state on. -/
theorem Inv.next (h : Inv Dd q s n D Q S W) (hn : n < 250) {D' : Vec F S6160 .i32} {Q' : Vec F S6504x128 .i32} {S' : Vec F S1536x128 .f32}
    {W' : Vec F S49280x2x128 .bf16} (hD : D' = Dd) (hQ : ∀ y, Q' y = spreadQ (F := F) (q (min (n / 10) 23)) y)
    (hS : ∀ y, S' y = spreadS (F := F) (s (min (n / 10) 23)) y)
    (hW : ∀ y, W' y = wUpd (F := F) (n / 10 % 2) (308 * (n % 10)) 308 (wTile (F := F) D' (q (min (n / 10) 23)) (s (min (n / 10) 23))) W y) :
    Inv Dd q s (n + 1) D' Q' S' W' := by
  subst hD
  refine Or.inr ⟨rfl, hQ, hS, ?_, ?_⟩
  · intro y h1 h2
    rw [Nat.add_sub_cancel] at h1 h2 ⊢
    rw [hW y]
    unfold wUpd
    by_cases hc : 308 * (n % 10) ≤ (y 0).val % 3080
    · exact if_pos ⟨h1, hc, by omega⟩
    · rw [if_neg (by omega)]
      rcases h with h | ⟨-, -, -, h4, -⟩
      · omega
      · have e : (n - 1) / 10 = n / 10 := by omega
        rw [e] at h4
        exact h4 y h1 (by omega)
  · intro hj y h1
    rw [Nat.add_sub_cancel] at hj h1 ⊢
    rw [hW y]
    unfold wUpd
    rw [if_neg (by omega)]
    exact h.other hn hj y h1

end Cert.KernelIdeal.Dq
-- ==== Proof.Region1.lean ====
module

public import proofs.«01_k».proof.Proof.Tiles
public import Idealize.ShloMosaic.Lib.Ring

@[expose] public section

set_option maxRecDepth 16384

noncomputable section

namespace Cert.KernelIdeal.Dq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄G" => MT nD τ sig Unit (Elt F) ℕ (UR sig nD τ) ℕ

variable (𝒱₀ : Variants) (V : (c : Dev nD) → (b : Ref sig .tc) → Buf (Elt F) ((c : Thread nD τ).loc b)) (Dw : Dev nD → CellTallies nD τ sig Unit)

/-- The buffers of the first call, at anything. -/
def idleBufs (c : Dev nD) : sProp 𝕄G :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The four scratch buffers at contents of which `Pr` holds. -/
def scr (c : Dev nD) (Pr : Vec F S6160 .i32 → Vec F S6504x128 .i32 → Vec F S1536x128 .f32 → Vec F S49280x2x128 .bf16 → Prop) : sProp 𝕄G :=
  iprop(∃ f8 f9 f10 f11, ((Memref.whole cc1_scratch0 : Memref sig .tc .smem S6160 .i32).view.loc (c : Thread nD τ) ↦[(Memref.whole cc1_scratch0 : Memref sig .tc .smem S6160 .i32).view.set]{fullShare} f8) ∗ ((Memref.whole cc1_scratch1 : Memref sig .tc .vmem S6504x128 .i32).view.loc (c : Thread nD τ) ↦[(Memref.whole cc1_scratch1 : Memref sig .tc .vmem S6504x128 .i32).view.set]{fullShare} f9) ∗ ((Memref.whole cc1_scratch2 : Memref sig .tc .vmem S1536x128 .f32).view.loc (c : Thread nD τ) ↦[(Memref.whole cc1_scratch2 : Memref sig .tc .vmem S1536x128 .f32).view.set]{fullShare} f10) ∗ ((Memref.whole cc1_scratch3 : Memref sig .tc .vmem S49280x2x128 .bf16).view.loc (c : Thread nD τ) ↦[(Memref.whole cc1_scratch3 : Memref sig .tc .vmem S49280x2x128 .bf16).view.set]{fullShare} f11)
    ∗ ⌜Pr ((Memref.whole cc1_scratch0 : Memref sig .tc .smem S6160 .i32).view.read (Elt F) f8) ((Memref.whole cc1_scratch1 : Memref sig .tc .vmem S6504x128 .i32).view.read (Elt F) f9) ((Memref.whole cc1_scratch2 : Memref sig .tc .vmem S1536x128 .f32).view.read (Elt F) f10) ((Memref.whole cc1_scratch3 : Memref sig .tc .vmem S49280x2x128 .bf16).view.read (Elt F) f11)⌝)

/-- The descriptors in their places. -/
def descs (c : Dev nD) : Vec F S6160 .i32 := placed (F := F) (V c main_arg3) (V c main_c)

/-- The state before point `n`: the scratch buffers as `Inv` says. -/
def ΦW (c : Dev nD) (n : ℕ) : sProp 𝕄G :=
  iprop(idleBufs c ∗ scr c (Inv (F := F) (descs V c) (qT (F := F) (V c main_v4)) (sT (F := F) (V c main_arg5)) n) ∗ ∃ r, prngReg c r)

abbrev ms0 (t : Fin cfg1.N) : Memref sig .tc .smem S6144 .i32 := win1_0.stage (cfg1.slots t 0)
abbrev ms1 (t : Fin cfg1.N) : Memref sig .tc .smem S6144 .i32 := win1_1.stage (cfg1.slots t 1)
abbrev ms2 (t : Fin cfg1.N) : Memref sig .tc .vmem S512x6144 .bf16 := win1_2.stage (cfg1.slots t 2)
abbrev ms3 (t : Fin cfg1.N) : Memref sig .tc .vmem S813x1024 .i32 := win1_3.stage (cfg1.slots t 3)
abbrev ms4 (t : Fin cfg1.N) : Memref sig .tc .vmem S192x1024 .bf16 := win1_4.stage (cfg1.slots t 4)
abbrev ms5 (t : Fin cfg1.N) : Memref sig .tc .vmem S512x1024 .bf16 := win1_5.stage (cfg1.slots t 5)

/-- What the body leaves in the output's buffer at a point that writes it. -/
def outAt (c : Dev nD) (t : Fin cfg1.N) : Vec F S512x1024 .bf16 :=
  tileOut (F := F) (descs V c) (qT (F := F) (V c main_v4) (t.val / 10 - 1)) (sT (F := F) (V c main_arg5) (t.val / 10 - 1))
    (nT (F := F) (V c main_v3_1) (t.val % 10))

/-- The proof data of the second call on core `c`: its arrays as the call finds them; after the body at a point each input's buffer at its block and
    the output's at the tile; the scratch buffers as `ΦW` says; the core owing `Dw c` throughout; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ n := ΦW V c n.val
  q _ := fullShare
  owed _ := Dw c

local notation "𝕕" => dat (F := F) V Dw

theorem A_eq (c : Dev nD) (w : Fin cfg1.W) : (𝕕 c).A w = V c (Pipeline.arrRef spec1 w) := by
  dsimp only [dat]

theorem after0 (c : Dev nD) (t : Fin cfg1.N) : (𝕕 c).after 0 t = iblk V c 0 t := by dsimp only [dat]
theorem after1 (c : Dev nD) (t : Fin cfg1.N) : (𝕕 c).after 1 t = iblk V c 1 t := by dsimp only [dat]
theorem after2 (c : Dev nD) (t : Fin cfg1.N) : (𝕕 c).after 2 t = iblk V c 2 t := by dsimp only [dat]
theorem after3 (c : Dev nD) (t : Fin cfg1.N) : (𝕕 c).after 3 t = iblk V c 3 t := by dsimp only [dat]
theorem after4 (c : Dev nD) (t : Fin cfg1.N) : (𝕕 c).after 4 t = iblk V c 4 t := by dsimp only [dat]
theorem after5 (c : Dev nD) (t : Fin cfg1.N) : (𝕕 c).after 5 t = outAt V c t := by dsimp only [dat]

theorem before0 (c : Dev nD) (t : Fin cfg1.N) (d) : (𝕕 c).before 0 t d = iblk V c 0 t :=
  ((𝕕 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (𝕕 c).before 1 t d = iblk V c 1 t :=
  ((𝕕 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (𝕕 c).before 2 t d = iblk V c 2 t :=
  ((𝕕 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg1.N) (d) : (𝕕 c).before 3 t d = iblk V c 3 t :=
  ((𝕕 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg1.N) (d) : (𝕕 c).before 4 t d = iblk V c 4 t :=
  ((𝕕 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- What the body is called with at point `t`, -/
def bodyPre (c : Dev nD) (t : Fin cfg1.N) : sProp 𝕄G :=
  iprop((𝕕 c).Φ t.castSucc ∗ (𝕕 c).owesAt () t.castSucc
    ∗ (∃ d, owns (c : Thread nD τ) (ms0 t) fullShare ((𝕕 c).before 0 t d))
    ∗ (∃ d, owns (c : Thread nD τ) (ms1 t) fullShare ((𝕕 c).before 1 t d))
    ∗ (∃ d, owns (c : Thread nD τ) (ms2 t) fullShare ((𝕕 c).before 2 t d))
    ∗ (∃ d, owns (c : Thread nD τ) (ms3 t) fullShare ((𝕕 c).before 3 t d))
    ∗ (∃ d, owns (c : Thread nD τ) (ms4 t) fullShare ((𝕕 c).before 4 t d))
    ∗ (∃ d, owns (c : Thread nD τ) (ms5 t) fullShare ((𝕕 c).before 5 t d)))

/-- what it returns at a point that leaves the output's buffer alone, -/
def bodyPostIdle (c : Dev nD) (t : Fin cfg1.N) : sProp 𝕄G :=
  iprop((𝕕 c).Φ t.succ ∗ (𝕕 c).owesAt () t.succ
    ∗ owns (c : Thread nD τ) (ms0 t) fullShare ((𝕕 c).after 0 t)
    ∗ owns (c : Thread nD τ) (ms1 t) fullShare ((𝕕 c).after 1 t)
    ∗ owns (c : Thread nD τ) (ms2 t) fullShare ((𝕕 c).after 2 t)
    ∗ owns (c : Thread nD τ) (ms3 t) fullShare ((𝕕 c).after 3 t)
    ∗ owns (c : Thread nD τ) (ms4 t) fullShare ((𝕕 c).after 4 t)
    ∗ (∃ d, owns (c : Thread nD τ) (ms5 t) fullShare ((𝕕 c).before 5 t d)))

/-- and at a point that writes it. -/
def bodyPost (c : Dev nD) (t : Fin cfg1.N) : sProp 𝕄G :=
  iprop((𝕕 c).Φ t.succ ∗ (𝕕 c).owesAt () t.succ
    ∗ owns (c : Thread nD τ) (ms0 t) fullShare ((𝕕 c).after 0 t)
    ∗ owns (c : Thread nD τ) (ms1 t) fullShare ((𝕕 c).after 1 t)
    ∗ owns (c : Thread nD τ) (ms2 t) fullShare ((𝕕 c).after 2 t)
    ∗ owns (c : Thread nD τ) (ms3 t) fullShare ((𝕕 c).after 3 t)
    ∗ owns (c : Thread nD τ) (ms4 t) fullShare ((𝕕 c).after 4 t)
    ∗ owns (c : Thread nD τ) (ms5 t) fullShare ((𝕕 c).after 5 t))

set_option maxHeartbeats 1000000 in
/-- The first point. -/
theorem sound_first (c : Dev nD) (t : Fin cfg1.N) (hP : PermOk (F := F) (V c main_arg3)) (hT : ∀ r : Fin 6144, DOk ((V c main_c : Vec F S6144 .i32) (ValueIdx.ix1 r)))
    (h0 : t.val / 10 = 0) (h1 : t.val % 10 = 0) :
    bodyPre V Dw c t ⊢ wp frame (wpE (defs₀ (F := F)) 𝒱₀ c none) Set.univ (bodyAt1 t) (fun _ => bodyPostIdle V Dw c t) := by
  unfold bodyPre bodyPostIdle bodyAt1
  simp only [before0, before1, before2, before3, before4, after0, after1, after2, after3, after4]
  rw [show (𝕕 c).Φ t.castSucc = ΦW V c t.val from rfl, show (𝕕 c).Φ t.succ = ΦW V c (t.val + 1) from rfl,
    show (𝕕 c).owesAt () t.succ = (𝕕 c).owesAt () t.castSucc from rfl]
  unfold ΦW scr owns
  iintro ⟨HΦ, Ho, ⟨%d0, %X2, %e2, H2⟩, ⟨%d1, %X3, %e3, H3⟩, ⟨%d2, %X4, %e4, H4⟩, ⟨%d3, %X5, %e5, H5⟩, ⟨%d4, %X6, %e6, H6⟩, ⟨%d5, %X7, %e7, H7⟩⟩
  icases HΦ with ⟨Hb, ⟨%X8, %X9, %X10, %X11, H8, H9, H10, H11, %hI⟩, Hg⟩
  have hN : cfg1.N = 250 := N_1
  have ht := t.isLt
  have c0 := coord0 t
  have c1 := coord1 t
  have E2 := e2.trans (iblk0 V c t)
  have E3 := e3.trans (iblk1 V c t)
  have E5 := e5.trans (iblk3 V c t)
  have E6 := e6.trans (iblk4 V c t)
  iapply (run_first (F := F) 𝒱₀ c none Set.univ (grid1.coords t) _ _ _ _ _ _ _ _ _ _ _ _ _ _ _ _ _ _ _ _ ((cond1_iff _).mpr (by omega)) ((cond2_iff _).mpr (by omega)) ((cond3_iff _).mpr (by omega)) (fun h => by have := (cond4_iff _).mp h; omega)
    X2 X3 X5 X6 X8 X9 X10 X11 (E2.symm ▸ hP) (fun D hs hp => by
      rw [E2, E3] at hs; rw [E3] at hp
      rw [eq_placed hP hs hp]; exact placed_ok hT) _)
  isplitl [H2]; · iexact H2
  isplitl [H3]; · iexact H3
  isplitl [H5]; · iexact H5
  isplitl [H6]; · iexact H6
  isplitl [H8]; · iexact H8
  isplitl [H9]; · iexact H9
  isplitl [H10]; · iexact H10
  isplitl [H11]; · iexact H11
  iintro %f8 %f9 %f10 %f11 ⟨H2, H3, H5, H6, H8, H9, H10, H11, %hr⟩
  obtain ⟨⟨hs, hp⟩, r9, r10, r11⟩ := hr
  rw [E2, E3] at hs; rw [E3] at hp
  rw [c0, c1] at r11
  rw [E5] at r9 r11; rw [E6] at r10 r11
  have hn := Inv.next hI (by omega) (eq_placed hP hs hp) r9 r10 r11
  isplitl [Hb H8 H9 H10 H11 Hg]
  · isplitl [Hb]; · iexact Hb
    isplitl [H8 H9 H10 H11]
    · iexists _; iexists _; iexists _; iexists _
      isplitl [H8]; · iexact H8
      isplitl [H9]; · iexact H9
      isplitl [H10]; · iexact H10
      isplitl [H11]; · iexact H11
      ipureintro
      exact hn
    iexact Hg
  isplitl [Ho]; · iexact Ho
  isplitl [H2]
  · iexists _
    isplitr
    · ipureintro; exact e2
    iexact H2
  isplitl [H3]
  · iexists _
    isplitr
    · ipureintro; exact e3
    iexact H3
  isplitl [H4]
  · iexists _
    isplitr
    · ipureintro; exact e4
    iexact H4
  isplitl [H5]
  · iexists _
    isplitr
    · ipureintro; exact e5
    iexact H5
  isplitl [H6]
  · iexists _
    isplitr
    · ipureintro; exact e6
    iexact H6

  iexists d5; iexists _; isplitr
  · ipureintro; exact e7
  iexact H7

set_option maxHeartbeats 1000000 in
/-- A later point of the first tile. -/
theorem sound_fill (c : Dev nD) (t : Fin cfg1.N) (hP : PermOk (F := F) (V c main_arg3)) (hT : ∀ r : Fin 6144, DOk ((V c main_c : Vec F S6144 .i32) (ValueIdx.ix1 r)))
    (h0 : t.val / 10 = 0) (h1 : t.val % 10 ≠ 0) :
    bodyPre V Dw c t ⊢ wp frame (wpE (defs₀ (F := F)) 𝒱₀ c none) Set.univ (bodyAt1 t) (fun _ => bodyPostIdle V Dw c t) := by
  unfold bodyPre bodyPostIdle bodyAt1
  simp only [before0, before1, before2, before3, before4, after0, after1, after2, after3, after4]
  rw [show (𝕕 c).Φ t.castSucc = ΦW V c t.val from rfl, show (𝕕 c).Φ t.succ = ΦW V c (t.val + 1) from rfl,
    show (𝕕 c).owesAt () t.succ = (𝕕 c).owesAt () t.castSucc from rfl]
  unfold ΦW scr owns
  iintro ⟨HΦ, Ho, ⟨%d0, %X2, %e2, H2⟩, ⟨%d1, %X3, %e3, H3⟩, ⟨%d2, %X4, %e4, H4⟩, ⟨%d3, %X5, %e5, H5⟩, ⟨%d4, %X6, %e6, H6⟩, ⟨%d5, %X7, %e7, H7⟩⟩
  icases HΦ with ⟨Hb, ⟨%X8, %X9, %X10, %X11, H8, H9, H10, H11, %hI⟩, Hg⟩
  have hN : cfg1.N = 250 := N_1
  have ht := t.isLt
  have c0 := coord0 t
  have c1 := coord1 t
  have E2 := e2.trans (iblk0 V c t)
  have E3 := e3.trans (iblk1 V c t)
  have E5 := e5.trans (iblk3 V c t)
  have E6 := e6.trans (iblk4 V c t)
  have hD := hI.desc (by omega)
  iapply (run_fill (F := F) 𝒱₀ c none Set.univ (grid1.coords t) _ _ _ _ _ _ _ _ _ _ _ _ _ _ _ _ _ _ _ _ (fun h => by have := (cond1_iff _).mp h; omega) (fun h => by have := (cond2_iff _).mp h; omega) ((cond3_iff _).mpr (by omega)) (fun h => by have := (cond4_iff _).mp h; omega)
    X8 X9 X10 X11 _ _ (hD.symm ▸ placed_ok hT) (hI.words h1) (hI.scales h1) _)
  isplitl [H8]; · iexact H8
  isplitl [H9]; · iexact H9
  isplitl [H10]; · iexact H10
  isplitl [H11]; · iexact H11
  iintro %f11 ⟨H8, H9, H10, H11, %r11⟩
  rw [c0, c1] at r11
  have hn := Inv.next hI (by omega) hD (hI.words h1) (hI.scales h1) r11
  isplitl [Hb H8 H9 H10 H11 Hg]
  · isplitl [Hb]; · iexact Hb
    isplitl [H8 H9 H10 H11]
    · iexists _; iexists _; iexists _; iexists _
      isplitl [H8]; · iexact H8
      isplitl [H9]; · iexact H9
      isplitl [H10]; · iexact H10
      isplitl [H11]; · iexact H11
      ipureintro
      exact hn
    iexact Hg
  isplitl [Ho]; · iexact Ho
  isplitl [H2]
  · iexists _
    isplitr
    · ipureintro; exact e2
    iexact H2
  isplitl [H3]
  · iexists _
    isplitr
    · ipureintro; exact e3
    iexact H3
  isplitl [H4]
  · iexists _
    isplitr
    · ipureintro; exact e4
    iexact H4
  isplitl [H5]
  · iexists _
    isplitr
    · ipureintro; exact e5
    iexact H5
  isplitl [H6]
  · iexists _
    isplitr
    · ipureintro; exact e6
    iexact H6

  iexists d5; iexists _; isplitr
  · ipureintro; exact e7
  iexact H7

set_option maxHeartbeats 1000000 in
/-- The first point of a later tile. -/
theorem sound_next (c : Dev nD) (t : Fin cfg1.N) (hP : PermOk (F := F) (V c main_arg3)) (hT : ∀ r : Fin 6144, DOk ((V c main_c : Vec F S6144 .i32) (ValueIdx.ix1 r)))
    (h0 : t.val / 10 ≠ 0) (h1 : t.val % 10 = 0) :
    bodyPre V Dw c t ⊢ wp frame (wpE (defs₀ (F := F)) 𝒱₀ c none) Set.univ (bodyAt1 t) (fun _ => bodyPost V Dw c t) := by
  unfold bodyPre bodyPost bodyAt1
  simp only [before0, before1, before2, before3, before4, after0, after1, after2, after3, after4, after5]
  rw [show (𝕕 c).Φ t.castSucc = ΦW V c t.val from rfl, show (𝕕 c).Φ t.succ = ΦW V c (t.val + 1) from rfl,
    show (𝕕 c).owesAt () t.succ = (𝕕 c).owesAt () t.castSucc from rfl]
  unfold ΦW scr owns
  iintro ⟨HΦ, Ho, ⟨%d0, %X2, %e2, H2⟩, ⟨%d1, %X3, %e3, H3⟩, ⟨%d2, %X4, %e4, H4⟩, ⟨%d3, %X5, %e5, H5⟩, ⟨%d4, %X6, %e6, H6⟩, ⟨%d5, %X7, %e7, H7⟩⟩
  icases HΦ with ⟨Hb, ⟨%X8, %X9, %X10, %X11, H8, H9, H10, H11, %hI⟩, Hg⟩
  have hN : cfg1.N = 250 := N_1
  have ht := t.isLt
  have c0 := coord0 t
  have c1 := coord1 t
  have E2 := e2.trans (iblk0 V c t)
  have E3 := e3.trans (iblk1 V c t)
  have E5 := e5.trans (iblk3 V c t)
  have E6 := e6.trans (iblk4 V c t)
  have E4 := e4.trans (iblk2 V c t)
  rw [if_neg h0] at E4
  have hD := hI.desc (by omega)
  iapply (run_next (F := F) 𝒱₀ c none Set.univ (grid1.coords t) _ _ _ _ _ _ _ _ _ _ _ _ _ _ _ _ _ _ _ _ (fun h => by have := (cond1_iff _).mp h; omega) ((cond2_iff _).mpr (by omega)) (fun h => by have := (cond3_iff _).mp h; omega) ((cond4_iff _).mpr (by omega))
    X4 X5 X6 X7 X8 X9 X10 X11 (hD.symm ▸ placed_ok hT) _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro %f7 %f9 %f10 %f11 ⟨H4, H5, H6, H7, H8, H9, H10, H11, %hr⟩
  obtain ⟨r7, r9, r10, r11⟩ := hr
  rw [c0, c1] at r11
  rw [c0] at r7
  rw [E5] at r9 r11; rw [E6] at r10 r11
  have hn := Inv.next hI (by omega) hD r9 r10 r11
  have ho : (ms5 t).view.read (Elt F) f7 = outAt V c t := funext fun y => (r7 y).trans (by
    rw [E4, outT_tile _ (descs V c) _ _ _ _ (by omega) (fun y hy => hI.other (by omega) (by omega) y hy)]; rfl)
  isplitl [Hb H8 H9 H10 H11 Hg]
  · isplitl [Hb]; · iexact Hb
    isplitl [H8 H9 H10 H11]
    · iexists _; iexists _; iexists _; iexists _
      isplitl [H8]; · iexact H8
      isplitl [H9]; · iexact H9
      isplitl [H10]; · iexact H10
      isplitl [H11]; · iexact H11
      ipureintro
      exact hn
    iexact Hg
  isplitl [Ho]; · iexact Ho
  isplitl [H2]
  · iexists _
    isplitr
    · ipureintro; exact e2
    iexact H2
  isplitl [H3]
  · iexists _
    isplitr
    · ipureintro; exact e3
    iexact H3
  isplitl [H4]
  · iexists _
    isplitr
    · ipureintro; exact e4
    iexact H4
  isplitl [H5]
  · iexists _
    isplitr
    · ipureintro; exact e5
    iexact H5
  isplitl [H6]
  · iexists _
    isplitr
    · ipureintro; exact e6
    iexact H6

  iexists _; isplitr
  · ipureintro; exact ho
  iexact H7

set_option maxHeartbeats 1000000 in
/-- A later point of a later tile. -/
theorem sound_mul (c : Dev nD) (t : Fin cfg1.N) (hP : PermOk (F := F) (V c main_arg3)) (hT : ∀ r : Fin 6144, DOk ((V c main_c : Vec F S6144 .i32) (ValueIdx.ix1 r)))
    (h0 : t.val / 10 ≠ 0) (h1 : t.val % 10 ≠ 0) :
    bodyPre V Dw c t ⊢ wp frame (wpE (defs₀ (F := F)) 𝒱₀ c none) Set.univ (bodyAt1 t) (fun _ => bodyPost V Dw c t) := by
  unfold bodyPre bodyPost bodyAt1
  simp only [before0, before1, before2, before3, before4, after0, after1, after2, after3, after4, after5]
  rw [show (𝕕 c).Φ t.castSucc = ΦW V c t.val from rfl, show (𝕕 c).Φ t.succ = ΦW V c (t.val + 1) from rfl,
    show (𝕕 c).owesAt () t.succ = (𝕕 c).owesAt () t.castSucc from rfl]
  unfold ΦW scr owns
  iintro ⟨HΦ, Ho, ⟨%d0, %X2, %e2, H2⟩, ⟨%d1, %X3, %e3, H3⟩, ⟨%d2, %X4, %e4, H4⟩, ⟨%d3, %X5, %e5, H5⟩, ⟨%d4, %X6, %e6, H6⟩, ⟨%d5, %X7, %e7, H7⟩⟩
  icases HΦ with ⟨Hb, ⟨%X8, %X9, %X10, %X11, H8, H9, H10, H11, %hI⟩, Hg⟩
  have hN : cfg1.N = 250 := N_1
  have ht := t.isLt
  have c0 := coord0 t
  have c1 := coord1 t
  have E2 := e2.trans (iblk0 V c t)
  have E3 := e3.trans (iblk1 V c t)
  have E5 := e5.trans (iblk3 V c t)
  have E6 := e6.trans (iblk4 V c t)
  have E4 := e4.trans (iblk2 V c t)
  rw [if_neg h0] at E4
  have hD := hI.desc (by omega)
  iapply (run_mul (F := F) 𝒱₀ c none Set.univ (grid1.coords t) _ _ _ _ _ _ _ _ _ _ _ _ _ _ _ _ _ _ _ _ (fun h => by have := (cond1_iff _).mp h; omega) (fun h => by have := (cond2_iff _).mp h; omega) (fun h => by have := (cond3_iff _).mp h; omega) ((cond4_iff _).mpr (by omega))
    X4 X7 X8 X9 X10 X11 _ _ (hD.symm ▸ placed_ok hT) (hI.words h1) (hI.scales h1) _)
  isplitl [H4]; · iexact H4
  isplitl [H7]; · iexact H7
  isplitl [H8]; · iexact H8
  isplitl [H9]; · iexact H9
  isplitl [H10]; · iexact H10
  isplitl [H11]; · iexact H11
  iintro %f7 %f11 ⟨H4, H7, H8, H9, H10, H11, %hr⟩
  obtain ⟨r7, r11⟩ := hr
  rw [c0, c1] at r11
  rw [c0] at r7
  have hn := Inv.next hI (by omega) hD (hI.words h1) (hI.scales h1) r11
  have ho : (ms5 t).view.read (Elt F) f7 = outAt V c t := funext fun y => (r7 y).trans (by
    rw [E4, outT_tile _ (descs V c) _ _ _ _ (by omega) (fun y hy => hI.other (by omega) (by omega) y hy)]; rfl)
  isplitl [Hb H8 H9 H10 H11 Hg]
  · isplitl [Hb]; · iexact Hb
    isplitl [H8 H9 H10 H11]
    · iexists _; iexists _; iexists _; iexists _
      isplitl [H8]; · iexact H8
      isplitl [H9]; · iexact H9
      isplitl [H10]; · iexact H10
      isplitl [H11]; · iexact H11
      ipureintro
      exact hn
    iexact Hg
  isplitl [Ho]; · iexact Ho
  isplitl [H2]
  · iexists _
    isplitr
    · ipureintro; exact e2
    iexact H2
  isplitl [H3]
  · iexists _
    isplitr
    · ipureintro; exact e3
    iexact H3
  isplitl [H4]
  · iexists _
    isplitr
    · ipureintro; exact e4
    iexact H4
  isplitl [H5]
  · iexists _
    isplitr
    · ipureintro; exact e5
    iexact H5
  isplitl [H6]
  · iexists _
    isplitr
    · ipureintro; exact e6
    iexact H6

  iexists _; isplitr
  · ipureintro; exact ho
  iexact H7

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

theorem idle5 (t : Fin cfg1.N) : idle1 5 (grid1.coords t) = decide (t.val / 10 = 0) := by
  show (!(k1_cond4 (grid1.coords t) == 1#1)) = _
  have c0 := coord0 t
  by_cases h : t.val / 10 = 0
  · have hc : ¬ k1_cond4 (grid1.coords t) = 1#1 := fun hc => by have := (cond4_iff _).mp hc; omega
    rw [decide_eq_true h]; simp [hc]
  · have hc : k1_cond4 (grid1.coords t) = 1#1 := (cond4_iff _).mpr (by omega)
    rw [decide_eq_false h]; simp [hc]

/-- The body obligation, at every point. -/
theorem body_obligation (c : Dev nD) (hP : PermOk (F := F) (V c main_arg3)) (hT : ∀ r : Fin 6144, DOk ((V c main_c : Vec F S6144 .i32) (ValueIdx.ix1 r))) :
    BodyObligation (𝕕 c) (defs₀ (F := F)) 𝒱₀ () Set.univ := fun t => by
  rw [bigSep_W1, bigSep_W1, defs₀_row]
  by_cases h0 : t.val / 10 = 0
  · have hi := (idle5 t).trans (decide_eq_true h0)
    have hf := flush5_early t (by omega)
    simp only [hi, hf]
    by_cases h1 : t.val % 10 = 0
    · exact triple_restated (sound_first 𝒱₀ V Dw c t hP hT h0 h1) rfl .rfl fun _ => .rfl
    · exact triple_restated (sound_fill 𝒱₀ V Dw c t hP hT h0 h1) rfl .rfl fun _ => .rfl
  · have hi := (idle5 t).trans (decide_eq_false h0)
    simp only [hi]
    by_cases h1 : t.val % 10 = 0
    · exact triple_restated (sound_next 𝒱₀ V Dw c t hP hT h0 h1) rfl .rfl fun _ => .rfl
    · exact triple_restated (sound_mul 𝒱₀ V Dw c t hP hT h0 h1) rfl .rfl fun _ => .rfl

end Cert.KernelIdeal.Dq
-- ==== Proof.Table.lean ====
module

public import proofs.«01_k».proof.Proof.Tiles

@[expose] public section

noncomputable section

/-! # The descriptor table's entries -/

namespace Cert.KernelIdeal.Dq

open Cert.KernelIdeal Cert.KernelIdeal.Gen
open Idealize.ShloMosaic Idealize.ShloMosaic.TcCoe

instance (d : BitVec 32) : Decidable (DOk d) := by unfold DOk; infer_instance

/-- Every entry names words and a scale row that exist. -/
theorem lit_ok : ∀ r : Fin 6144, DOk (lit0 r) := by decide +kernel

end Cert.KernelIdeal.Dq

end
-- ==== Proof.Calls.lean ====
module

public import proofs.«01_k».proof.Proof.Gen.KernelIdeal.Regions
public import proofs.«01_k».proof.Proof.NormCall
public import proofs.«01_k».proof.Proof.Region1
public import proofs.«01_k».proof.Proof.Table
public import Idealize.ShloMosaic.Lib.Pipeline.RegionArrays

@[expose] public section

noncomputable section

/-! # The two calls as the program's regions, and the program's run -/

namespace Cert.KernelIdeal.Calls

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄G" => MT nD τ sig Unit (Elt F) ℕ (UR sig nD τ) ℕ

/-- No variants. -/
abbrev 𝒱₀ : Variants := Variants.none
/-- A core owes nothing. -/
abbrev D0 : Dev nD → CellTallies nD τ sig Unit := fun _ => 0
/-- Every cell of the TensorCores has its one index, at level 0. -/
def L (g : GSem nD τ sig) : Finset Unit := if g.1.2 = .tc then {()} else ∅
def lv (_ : GSem nD τ sig) (_ : Unit) : ℕ := 0
theorem L_of_ne (g : GSem nD τ sig) (h : g.1.2 ≠ .tc) : L g = ∅ := if_neg h
theorem L_tc (c : Dev nD) (sm : SemLoc sig) : L ((c : Thread nD τ), sm) = {()} := if_pos rfl

theorem cut (p : Fin 2) : Pipeline.LevelCut (pcfgs (F := F)) adm () L lv p D0 (fun _ => 0) where
  hι c w s := by rw [L_tc]; exact Finset.mem_singleton_self _
  hιb c w s := le_rfl
  hD c g i h := absurd h (Nat.lt_irrefl 0)

/-! ## What the calls leave -/

variable (m : (ℓ : Loc nD τ sig) → Buf (Elt F) ℓ)

/-- The first call's data: entered after the first host operations. -/
def dat0 (c : Dev nD) : Dat τ (Elt F) Unit ℕ (UR sig nD τ) ℕ cfg0 c :=
  Norm.dat (Ix := Unit) (U := UR sig nD τ) (Lvl := ℕ) 𝒱₀ (fun c b => V1 m c (Proc.devRef .tc b)) D0 c

/-- The first call's results. -/
def outsA : Outs (F := F) := fun _ r c =>
  Function.update (Function.update (fun r : Ref sig .tc => m ((c : Thread nD τ).loc r)) main_v3_0 ((dat0 m c).arrAt 3 cfg0.N))
    main_v3_1 ((dat0 m c).arrAt 4 cfg0.N) r

/-- What the second call finds. -/
abbrev Vin (c : Dev nD) (b : Ref sig .tc) : Buf (Elt F) ((c : Thread nD τ).loc b) := V3 m (outsA m) c (Proc.devRef .tc b)

/-- The second call's data. -/
def dat1 (c : Dev nD) : Dat τ (Elt F) Unit ℕ (UR sig nD τ) ℕ cfg1 c := Dq.dat (F := F) (Vin m) D0 c

/-- Both calls' results. -/
def outs : Outs (F := F) := fun J r c =>
  Function.update (fun r : Ref sig .tc => outsA m J r c) main_v5 ((dat1 m c).arrAt 5 cfg1.N) r

theorem outs_h (J : ℕ) (c : Dev nD) : outs m J main_v3_0 c = (dat0 m c).arrAt 3 cfg0.N := by
  unfold outs outsA
  rw [Function.update_of_ne (by decide), Function.update_of_ne (by decide), Function.update_self]
theorem outs_n (J : ℕ) (c : Dev nD) : outs m J main_v3_1 c = (dat0 m c).arrAt 4 cfg0.N := by
  unfold outs outsA
  rw [Function.update_of_ne (by decide), Function.update_self]
theorem outs_y (J : ℕ) (c : Dev nD) : outs m J main_v5 c = (dat1 m c).arrAt 5 cfg1.N := by
  unfold outs
  rw [Function.update_self]

theorem V2_outs (c : Dev nD) : V2 m (outs m) c = V2 m (outsA m) c := by
  have e1 : outs m 2 main_v3_0 c = outsA m 2 main_v3_0 c := by
    unfold outs; rw [Function.update_of_ne (by decide)]
  have e2 : outs m 2 main_v3_1 c = outsA m 2 main_v3_1 c := by
    unfold outs; rw [Function.update_of_ne (by decide)]
  unfold V2; rw [e1, e2]

theorem V3_outs (c : Dev nD) : V3 m (outs m) c = V3 m (outsA m) c := by
  unfold V3; rw [V2_outs]

/-- Each call's data. -/
def pdats : (p : Fin 2) → (c : Dev nD) → Dat τ (Elt F) Unit ℕ (UR sig nD τ) ℕ (cfgs p) c
  | ⟨0, _⟩ => fun c => dat0 m c
  | ⟨1, _⟩ => fun c => dat1 m c

/-- Each window's array of region 0 (custom call 0), as a device buffer, is in the region's array set. -/
theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
/-- They are among the held buffers: unscoped. -/
theorem arr0_S : Pipeline.arrRefs (τ := τ) spec0 ⊆ Pipeline.ucRefs τ sig :=
  Pipeline.arrRefs_sub_ucRefs spec0 (by decide)
theorem V2_at_main_v3_0 (outs : Outs (F := F)) (c : Dev nD) : V2 m outs c (Proc.devRef .tc main_v3_0) = outs 2 main_v3_0 c := by
  simp only [V2, Function.update_of_ne (StableHlo.devRef_ne_of_ne (by decide : (main_v3_0 : Ref sig .tc) ≠ main_v3_1)), Function.update_self]

theorem V2_at_main_v3_1 (outs : Outs (F := F)) (c : Dev nD) : V2 m outs c (Proc.devRef .tc main_v3_1) = outs 2 main_v3_1 c := by
  simp only [V2, Function.update_self]

/-- Across region 0 every held buffer but its arrays keeps its contents: the frame has it change its output arrays alone. -/
theorem rest0_eq (outs : Outs (F := F)) (c : Dev nD) : ∀ b ∈ (Pipeline.ucRefs τ sig) \ Pipeline.arrRefs (τ := τ) spec0, V2 m outs c b = V1 m c b := fun b hb => by
  have hn : b ∉ Pipeline.arrRefs (τ := τ) spec0 := (Finset.mem_sdiff.mp hb).2
  have h_main_v3_0 : b ≠ Proc.devRef .tc main_v3_0 := by rintro rfl; exact hn (by first | exact arr0_mem 3 | decide)
  have h_main_v3_1 : b ≠ Proc.devRef .tc main_v3_1 := by rintro rfl; exact hn (by first | exact arr0_mem 4 | decide)
  simp only [V2, Function.update_of_ne h_main_v3_0, Function.update_of_ne h_main_v3_1]

theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
theorem arr1_S : Pipeline.arrRefs (τ := τ) spec1 ⊆ Pipeline.ucRefs τ sig :=
  Pipeline.arrRefs_sub_ucRefs spec1 (by decide)

theorem V4_at_main_v5 (outs : Outs (F := F)) (c : Dev nD) : V4 m outs c (Proc.devRef .tc main_v5) = outs 4 main_v5 c := by
  simp only [V4, Function.update_self]

theorem rest1_eq (outs : Outs (F := F)) (c : Dev nD) : ∀ b ∈ (Pipeline.ucRefs τ sig) \ Pipeline.arrRefs (τ := τ) spec1, V4 m outs c b = V3 m outs c b := fun b hb => by
  have hn : b ∉ Pipeline.arrRefs (τ := τ) spec1 := (Finset.mem_sdiff.mp hb).2
  have h : b ≠ Proc.devRef .tc main_v5 := by rintro rfl; exact hn (by first | exact arr1_mem 5 | decide)
  simp only [V4, Function.update_of_ne h]

/-! ## The second call's scratch buffers, as the launch hands them over and takes them back -/

theorem scr_in (c : Dev nD) (V : (c : Dev nD) → (b : Ref sig .tc) → Buf (Elt F) ((c : Thread nD τ).loc b)) :
    iprop(Pipeline.scopedRest (Ix := Unit) (Name := ℕ) (U := UR sig nD τ) (Lvl := ℕ) (Val := Elt F) spec1 c ∗ ∃ r, prngReg c r) ⊢ (Dq.ΦW (F := F) V c 0 : sProp 𝕄G) := by
  rw [scopedRest1_eq]
  unfold Dq.ΦW Dq.idleBufs Dq.scr
  simp only [View.set_whole]
  iintro ⟨⟨H0, H1, H2, H3, H4, H5, H6, H7, H8, ⟨%g9, K9⟩, ⟨%g10, K10⟩, ⟨%g11, K11⟩, ⟨%g8, K8⟩⟩, Hg⟩
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [K8 K9 K10 K11]
  · iexists g8; iexists g9; iexists g10; iexists g11
    isplitl [K8]; · iexact K8
    isplitl [K9]; · iexact K9
    isplitl [K10]; · iexact K10
    isplitl [K11]; · iexact K11
    ipureintro
    exact Or.inl rfl
  iexact Hg

theorem scr_out (c : Dev nD) (V : (c : Dev nD) → (b : Ref sig .tc) → Buf (Elt F) ((c : Thread nD τ).loc b)) (n : ℕ) :
    (Dq.ΦW (F := F) V c n : sProp 𝕄G) ⊢ iprop(Pipeline.scopedRest (Ix := Unit) (Name := ℕ) (U := UR sig nD τ) (Lvl := ℕ) (Val := Elt F) spec1 c ∗ ∃ r, prngReg c r) := by
  rw [scopedRest1_eq]
  unfold Dq.ΦW Dq.idleBufs Dq.scr
  simp only [View.set_whole]
  iintro ⟨⟨H0, H1, H2, H3, H4, H5, H6, H7, H8⟩, ⟨%g8, %g9, %g10, %g11, K8, K9, K10, K11, -⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [K9]; · iexists g9; iexact K9
    isplitl [K10]; · iexists g10; iexact K10
    isplitl [K11]; · iexists g11; iexact K11
    iexists g8; iexact K8
  iexact Hg

/-! ## The regions' records -/

/-- Between two items a core keeps its generator register and owes nothing. -/
def E (c : Dev nD) : sProp 𝕄G := iprop((∃ r, prngReg c r) ∗ ∃ W, owes (c : Thread nD τ) (D0 c) W)

set_option backward.isDefEq.respectTransparency.types false in
/-- Call 0: its arrays held before and after; every other held buffer rides along. -/
def R0 : RegionSeg (pcfgs (F := F)) adm (pdats m) () defs₀ 𝒱₀ L lv 0 :=
  Pipeline.RegionSeg.ofHeld (pcfgs (F := F)) adm (pdats m) () defs₀ 𝒱₀ L lv 0 D0
    (fun c => iprop(∃ r, prngReg c r)) (fun c => iprop(∃ r, prngReg c r))
    launch0.toP rfl
    (fun c => (Norm.body_obligation (Ix := Unit) (U := UR sig nD τ) (Lvl := ℕ) 𝒱₀ (fun c b => V1 m c (Proc.devRef .tc b)) D0 () c).loose) (fun _ _ => rfl) (fun _ => rfl)
    (fun c => (pdats m 0 c).share_full fun _ => rfl) (fun _ => .rfl) (fun _ => .rfl) (fun _ => 0) (cut 0)
    (fun c => StableHlo.held (c : Thread nD τ) ((Pipeline.ucRefs τ sig) \ Pipeline.arrRefs (τ := τ) spec0) (V1 m c))
    (V1 m) (V2 m (outs m)) (fun _ _ => rfl)
    (fun c => fun | 0 => ((pdats m 0 c).arrAt_in 0 rfl _).trans ((Norm.A_eq (Ix := Unit) (U := UR sig nD τ) (Lvl := ℕ) 𝒱₀ (fun c b => V1 m c (Proc.devRef .tc b)) D0 c 0).trans (V2_of m (outs m) c (Pipeline.arrRef spec0 0) (by decide)).symm) | 1 => ((pdats m 0 c).arrAt_in 1 rfl _).trans ((Norm.A_eq (Ix := Unit) (U := UR sig nD τ) (Lvl := ℕ) 𝒱₀ (fun c b => V1 m c (Proc.devRef .tc b)) D0 c 1).trans (V2_of m (outs m) c (Pipeline.arrRef spec0 1) (by decide)).symm) | 2 => ((pdats m 0 c).arrAt_in 2 rfl _).trans ((Norm.A_eq (Ix := Unit) (U := UR sig nD τ) (Lvl := ℕ) 𝒱₀ (fun c b => V1 m c (Proc.devRef .tc b)) D0 c 2).trans (V2_of m (outs m) c (Pipeline.arrRef spec0 2) (by decide)).symm) | 3 => (outs_h m 2 c).symm.trans (V2_at_main_v3_0 m (outs m) c).symm | 4 => (outs_n m 2 c).symm.trans (V2_at_main_v3_1 m (outs m) c).symm | ⟨_ + 5, h⟩ => absurd h (Nat.not_lt.2 (Nat.le_add_left _ _)))

theorem hpre0 (c : Dev nD) :
    iprop(StableHlo.held (c : Thread nD τ) (Pipeline.ucRefs τ sig) (V1 m c) ∗ E c) ⊢ (R0 m).pre c := by
  show _ ⊢ iprop(StableHlo.held (c : Thread nD τ) (Pipeline.arrRefs (τ := τ) spec0) (V1 m c) ∗ (∃ r, prngReg c r)
    ∗ (StableHlo.held (c : Thread nD τ) ((Pipeline.ucRefs τ sig) \ Pipeline.arrRefs (τ := τ) spec0) (V1 m c)) ∗ ∃ W, owes (c : Thread nD τ) (D0 c) W)
  rw [StableHlo.held_sub_split (c : Thread nD τ) arr0_S (V1 m c)]
  unfold E
  iintro ⟨⟨Ha, Hr⟩, Hp, HO⟩
  isplitl [Ha]; · iexact Ha
  isplitl [Hp]; · iexact Hp
  isplitl [Hr]; · iexact Hr
  iexact HO

theorem hpost0 (c : Dev nD) :
    (R0 m).post c ⊢ iprop(StableHlo.held (c : Thread nD τ) (Pipeline.ucRefs τ sig) (V2 m (outs m) c) ∗ E c) := by
  show iprop(StableHlo.held (c : Thread nD τ) (Pipeline.arrRefs (τ := τ) spec0) (V2 m (outs m) c) ∗ (∃ r, prngReg c r)
    ∗ (StableHlo.held (c : Thread nD τ) ((Pipeline.ucRefs τ sig) \ Pipeline.arrRefs (τ := τ) spec0) (V1 m c)) ∗ ∃ W, owes (c : Thread nD τ) (D0 c) W) ⊢ _
  rw [StableHlo.held_sub_split (c : Thread nD τ) arr0_S (V2 m (outs m) c),
    StableHlo.held_congr (c : Thread nD τ) (S := (Pipeline.ucRefs τ sig) \ Pipeline.arrRefs (τ := τ) spec0) (rest0_eq m (outs m) c)]
  unfold E
  iintro ⟨Ha, Hp, Hr, HO⟩
  isplitl [Ha Hr]; · isplitl [Ha] <;> iassumption
  isplitl [Hp]; · iexact Hp
  iexact HO

/-- The second call finds the permutation as launched, -/
theorem perm_in (c : Dev nD) (h : Dq.PermOk (F := F) (m ((c : Thread nD τ).loc main_arg3))) : Dq.PermOk (F := F) (Vin m c main_arg3) := by
  have e : Vin m c main_arg3 = m ((c : Thread nD τ).loc main_arg3) :=
    (V3_of m (outsA m) c main_arg3 (by decide)).trans <| (V2_of m (outsA m) c main_arg3 (by decide)).trans <| (V1_of m c main_arg3 (by decide)).trans rfl
  rw [e]; exact h

/-- and the descriptors as the program states them. -/
theorem table_eq (c : Dev nD) : Vin m c main_c = fun i => lit0 (S6144.rowMajor i) := by
  refine (V3_of m (outsA m) c main_c (by decide)).trans <| (V2_of m (outsA m) c main_c (by decide)).trans ?_
  show StableHlo.after hostOps0 (V0 m c) (Proc.devRef .tc main_c) = _
  rfl

theorem table_at (c : Dev nD) (r : Fin 6144) : (Vin m c main_c : Vec F S6144 .i32) (ValueIdx.ix1 r) = lit0 r := by
  rw [table_eq]
  have h : S6144.rowMajor (ValueIdx.ix1 r) = r := Fin.ext (Shape.rowMajor_val_one _)
  show lit0 (S6144.rowMajor (ValueIdx.ix1 r)) = _
  rw [h]

theorem table_in (c : Dev nD) (r : Fin 6144) : Dq.DOk ((Vin m c main_c : Vec F S6144 .i32) (ValueIdx.ix1 r)) := by
  rw [table_at]; exact Dq.lit_ok r

set_option backward.isDefEq.respectTransparency.types false in
/-- Call 1: its arrays held before and after; every other held buffer rides along. -/
def R1 (hP : ∀ c : Dev nD, Dq.PermOk (F := F) (m ((c : Thread nD τ).loc main_arg3))) : RegionSeg (pcfgs (F := F)) adm (pdats m) () defs₀ 𝒱₀ L lv 1 :=
  Pipeline.RegionSeg.ofHeld (pcfgs (F := F)) adm (pdats m) () defs₀ 𝒱₀ L lv 1 D0
    (fun c => iprop(∃ r, prngReg c r)) (fun c => iprop(∃ r, prngReg c r))
    launch1.toP rfl
    (fun c => (Dq.body_obligation (F := F) 𝒱₀ (Vin m) D0 c (perm_in m c (hP c)) (table_in m c)).loose) (fun _ _ => rfl) (fun _ => rfl)
    (fun c => (pdats m 1 c).share_full fun _ => rfl) (fun c => scr_in c (Vin m)) (fun c => scr_out c (Vin m) _) (fun _ => 0) (cut 1)
    (fun c => StableHlo.held (c : Thread nD τ) ((Pipeline.ucRefs τ sig) \ Pipeline.arrRefs (τ := τ) spec1) (V3 m (outs m) c))
    (V3 m (outs m)) (V4 m (outs m)) (fun c w => (Dq.A_eq (F := F) (Vin m) D0 c w).trans (congrFun (V3_outs m c) _).symm)
    (fun c => fun | 0 => ((pdats m 1 c).arrAt_in 0 rfl _).trans ((Dq.A_eq (F := F) (Vin m) D0 c 0).trans ((congrFun (V3_outs m c) _).symm.trans (V4_of m (outs m) c (Pipeline.arrRef spec1 0) (by decide)).symm)) | 1 => ((pdats m 1 c).arrAt_in 1 rfl _).trans ((Dq.A_eq (F := F) (Vin m) D0 c 1).trans ((congrFun (V3_outs m c) _).symm.trans (V4_of m (outs m) c (Pipeline.arrRef spec1 1) (by decide)).symm)) | 2 => ((pdats m 1 c).arrAt_in 2 rfl _).trans ((Dq.A_eq (F := F) (Vin m) D0 c 2).trans ((congrFun (V3_outs m c) _).symm.trans (V4_of m (outs m) c (Pipeline.arrRef spec1 2) (by decide)).symm)) | 3 => ((pdats m 1 c).arrAt_in 3 rfl _).trans ((Dq.A_eq (F := F) (Vin m) D0 c 3).trans ((congrFun (V3_outs m c) _).symm.trans (V4_of m (outs m) c (Pipeline.arrRef spec1 3) (by decide)).symm)) | 4 => ((pdats m 1 c).arrAt_in 4 rfl _).trans ((Dq.A_eq (F := F) (Vin m) D0 c 4).trans ((congrFun (V3_outs m c) _).symm.trans (V4_of m (outs m) c (Pipeline.arrRef spec1 4) (by decide)).symm)) | 5 => (outs_y m 4 c).symm.trans (V4_at_main_v5 m (outs m) c).symm | ⟨_ + 6, h⟩ => absurd h (Nat.not_lt.2 (Nat.le_add_left _ _)))

theorem hpre1 (hP : ∀ c : Dev nD, Dq.PermOk (F := F) (m ((c : Thread nD τ).loc main_arg3))) (c : Dev nD) :
    iprop(StableHlo.held (c : Thread nD τ) (Pipeline.ucRefs τ sig) (V3 m (outs m) c) ∗ E c) ⊢ (R1 m hP).pre c := by
  show _ ⊢ iprop(StableHlo.held (c : Thread nD τ) (Pipeline.arrRefs (τ := τ) spec1) (V3 m (outs m) c) ∗ (∃ r, prngReg c r)
    ∗ (StableHlo.held (c : Thread nD τ) ((Pipeline.ucRefs τ sig) \ Pipeline.arrRefs (τ := τ) spec1) (V3 m (outs m) c)) ∗ ∃ W, owes (c : Thread nD τ) (D0 c) W)
  rw [StableHlo.held_sub_split (c : Thread nD τ) arr1_S (V3 m (outs m) c)]
  unfold E
  iintro ⟨⟨Ha, Hr⟩, Hp, HO⟩
  isplitl [Ha]; · iexact Ha
  isplitl [Hp]; · iexact Hp
  isplitl [Hr]; · iexact Hr
  iexact HO

theorem hpost1 (hP : ∀ c : Dev nD, Dq.PermOk (F := F) (m ((c : Thread nD τ).loc main_arg3))) (c : Dev nD) :
    (R1 m hP).post c ⊢ iprop(StableHlo.held (c : Thread nD τ) (Pipeline.ucRefs τ sig) (V4 m (outs m) c) ∗ E c) := by
  show iprop(StableHlo.held (c : Thread nD τ) (Pipeline.arrRefs (τ := τ) spec1) (V4 m (outs m) c) ∗ (∃ r, prngReg c r)
    ∗ (StableHlo.held (c : Thread nD τ) ((Pipeline.ucRefs τ sig) \ Pipeline.arrRefs (τ := τ) spec1) (V3 m (outs m) c)) ∗ ∃ W, owes (c : Thread nD τ) (D0 c) W) ⊢ _
  rw [StableHlo.held_sub_split (c : Thread nD τ) arr1_S (V4 m (outs m) c),
    StableHlo.held_congr (c : Thread nD τ) (S := (Pipeline.ucRefs τ sig) \ Pipeline.arrRefs (τ := τ) spec1) (rest1_eq m (outs m) c)]
  unfold E
  iintro ⟨Ha, Hp, Hr, HO⟩
  isplitl [Ha Hr]; · isplitl [Ha] <;> iassumption
  isplitl [Hp]; · iexact Hp
  iexact HO

/-! ## The run -/

set_option backward.isDefEq.respectTransparency.types false in
/-- From a memory with a permutation for the feature order the program ends, with every buffer the calls and host operations
    share at the last contents named above and every counter at zero. -/
theorem run_all (ρ : Dev nD → PrngReg) (hP : ∀ c : Dev nD, Dq.PermOk (F := F) (m ((c : Thread nD τ).loc main_arg3))) :
    θ_run defs (onTc (τ := τ) (main (F := F))) ⟨m, fun _ => 0, ρ⟩ (fun r => (∀ c : Dev nD, ∀ b ∈ Pipeline.ucRefs τ sig,
      r.2.mem ((c : Thread nD τ).1, b) = V5 m (outs m) c b) ∧ r.2.sem = fun _ => 0) := by
  refine Pipeline.θ_run_regions_kit_dev_sems (pcfgs (F := F)) adm (pdats m) () cellOf_inj emb₁ defs₀ 𝒱₀ L lv m ρ main
    (segs m (outs m) 𝒱₀ L lv (fun _ => E) () (pdats m) (R0 m) (R1 m hP))
    (fun c Q => by
      rewrite [main_chain c, Seg.run_eq_chain,
        show (segs m (outs m) 𝒱₀ L lv (fun _ => E) () (pdats m) (R0 m) (R1 m hP) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0) L_of_ne (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ E c))
    (Tₙ := fun c => StableHlo.held (c : Thread nD τ) (Pipeline.ucRefs τ sig) (V5 m (outs m) c))
    (hch := fun c => ⟨.rfl, hpre0 m c, hpost0 m c, hpre1 m hP c, hpost1 m hP c, sep_mono .rfl ?_⟩)
    (hinit := ?_) (QY := fun c s => ∀ b ∈ Pipeline.ucRefs τ sig, s.mem ((c : Thread nD τ).1, b) = V5 m (outs m) c b)
    (hfin := fun c s' => ?_) (hQ := fun _ h hz => ⟨h, funext fun g => hz g (.inr (regions_no_unscoped g.2))⟩)
  · iintro Hu; imodintro
    isplitl [Hu]
    · iapply (show (ownU (initOf (Pipeline.cells cfgs cellOf_inj) (Pipeline.launchToks cfgs cellOf_inj)) : sProp 𝕄G)
            ⊢ BI.own (emb₁ (initOf (Pipeline.cells cfgs cellOf_inj) (Pipeline.launchToks cfgs cellOf_inj))) from .rfl)
      iexact Hu
    iapply (show (BI.emp : sProp 𝕄G) ⊢ bigSep Finset.univ (fun _ : Dev nD => (BI.emp : sProp 𝕄G)) from by rw [BI.bigSep_emp_const])
    iempintro
  · unfold E
    iintro ⟨-, HO⟩
    iexact HO
  · refine Pipeline.initEach L lv fun c => ?_
    rw [show unscopedBufs c (fun b => m ((c.tc : Thread nD τ).loc b)) = StableHlo.held (c : Thread nD τ) (Pipeline.ucRefs τ sig) (V0 m c)
      from Pipeline.unscopedBufs_held c (V0 m c)]
    unfold E
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => ((c : Thread nD τ).1, b)) (V5 m (outs m) c) s')
    isplitl [Hh] <;> iassumption

theorem run_frame (ρ : Dev nD → PrngReg) (hP : ∀ c : Dev nD, Dq.PermOk (F := F) (m ((c : Thread nD τ).loc main_arg3))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c (Proc.devRef .tc main_arg0) (Finset.mem_filter.mpr ⟨StableHlo.devRef_mem_tcRefs main_arg0, by decide⟩)).trans (V5_main_arg0 m (outs m) c),
    (h.1 c (Proc.devRef .tc main_arg1) (Finset.mem_filter.mpr ⟨StableHlo.devRef_mem_tcRefs main_arg1, by decide⟩)).trans (V5_main_arg1 m (outs m) c),
    (h.1 c (Proc.devRef .tc main_arg2) (Finset.mem_filter.mpr ⟨StableHlo.devRef_mem_tcRefs main_arg2, by decide⟩)).trans (V5_main_arg2 m (outs m) c),
    (h.1 c (Proc.devRef .tc main_arg3) (Finset.mem_filter.mpr ⟨StableHlo.devRef_mem_tcRefs main_arg3, by decide⟩)).trans (V5_main_arg3 m (outs m) c),
    (h.1 c (Proc.devRef .tc main_arg4) (Finset.mem_filter.mpr ⟨StableHlo.devRef_mem_tcRefs main_arg4, by decide⟩)).trans (V5_main_arg4 m (outs m) c),
    (h.1 c (Proc.devRef .tc main_arg5) (Finset.mem_filter.mpr ⟨StableHlo.devRef_mem_tcRefs main_arg5, by decide⟩)).trans (V5_main_arg5 m (outs m) c)⟩, h.2⟩) (run_all m ρ hP)

end Cert.KernelIdeal.Calls

end
-- ==== Proof.KNormCall.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.Norm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec0 c` at any index and level type. -/
def ΦK (c : Dev nD) : sProp 𝕄 :=
  iprop(Pipeline.scopedRest (Ix := Ix) (Name := ℕ) (U := U) (Lvl := Lvl) (Val := Elt F) spec0 c ∗ ∃ r, prngReg c r)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`)by `Dat.before_in_eq_fetched` (unfetched, the index has not moved), the window uncut and never idle. -/
theorem before0_0_of {c : Dev nD} (dat : Dat τ (Elt F) Ix ℕ U Lvl cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`)by `Dat.before_in_eq_fetched` (unfetched, the index has not moved), the window uncut and never idle. -/
theorem before0_1_of {c : Dev nD} (dat : Dat τ (Elt F) Ix ℕ U Lvl cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`)by `Dat.before_in_eq_fetched` (unfetched, the index has not moved), the window uncut and never idle. -/
theorem before0_2_of {c : Dev nD} (dat : Dat τ (Elt F) Ix ℕ U Lvl cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 3, through which its contents are stated (`View.read_writes_of_cover`: the
    choice does not matter). -/
abbrev VO0_3 : View sig .tc .vmem S256x6144 .bf16 := (Memref.whole cc0_stg3_0 : Memref sig .tc .vmem S256x6144 .bf16).view
/-- One staging buffer of output window 4, through which its contents are stated (`View.read_writes_of_cover`: the
    choice does not matter). -/
abbrev VO0_4 : View sig .tc .vmem S256x6144 .bf16 := (Memref.whole cc0_stg4_0 : Memref sig .tc .vmem S256x6144 .bf16).view
/-- Each window's current staging memref at point `t`, spelled as the pipeline passes it (`bodyAt0`), and its wholeness. -/
abbrev ms0_0 (t : Fin cfg0.N) : Memref sig .tc .vmem S256x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x6144 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6144 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x6144 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x6144 .bf16 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs; the pieces are
    the witness that run finds (assigned when `iexact` hands the buffer to the continuation). -/
noncomputable def kernelRun0_A (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S1x6144 .f32) (harg3 : arg3.IsWhole) (arg4 : Memref sig .tc .vmem S256x6144 .bf16) (harg4 : arg4.IsWhole) (arg5 : Memref sig .tc .vmem S256x6144 .bf16) (harg5 : arg5.IsWhole)
    (x0 : Vec F S256x6144 .bf16) (x1 : Vec F S256x6144 .bf16) (x2 : Vec F S1x6144 .f32) :
    Σ' (L3 : List (View.Piece (Elt F) S256x6144 .bf16)), { L4 : List (View.Piece (Elt F) S256x6144 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) 𝒱₀ c none) E (cc0_add_rmsnorm i arg1 harg1 arg2 harg2 arg3 harg3 arg4 harg4 arg5 harg5) K } := by
  refine ⟨?_, ?_, fun E K => ?run⟩
  case run =>
    simp only [cc0_add_rmsnorm_eq_skeleton]; unfold cc0_add_rmsnorm_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-- The run's pieces for output 3 tile its block (1 store of `S256x6144`, checked by the kernel's evaluationby `Piece.tiledL`, linear in the pieces, through a loop's `@[irreducible]` trip theorem too), so they cover it. -/
theorem cover0_A_3 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S1x6144 .f32) (harg3 : arg3.IsWhole) (arg4 : Memref sig .tc .vmem S256x6144 .bf16) (harg4 : arg4.IsWhole) (arg5 : Memref sig .tc .vmem S256x6144 .bf16) (harg5 : arg5.IsWhole)
    (x0 : Vec F S256x6144 .bf16) (x1 : Vec F S256x6144 .bf16) (x2 : Vec F S1x6144 .f32) (y : S256x6144.Idx) :
    ∃ pc ∈ (kernelRun0_A (Ix := Ix) (U := U) (Lvl := Lvl) 𝒱₀ c i arg1 harg1 arg2 harg2 arg3 harg3 arg4 harg4 arg5 harg5 x0 x1 x2).1, y ∈ pc.1.set :=
  View.cover_of_tiledL (kernelRun0_A (Ix := Ix) (U := U) (Lvl := Lvl) 𝒱₀ c i arg1 harg1 arg2 harg2 arg3 harg3 arg4 harg4 arg5 harg5 x0 x1 x2).1 S256x6144.size (by sl_kernel_rfl) y

/-- What the run leaves in output 3's staging buffer: its pieces read back over junk. -/
def out0_A_3 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S1x6144 .f32) (harg3 : arg3.IsWhole) (arg4 : Memref sig .tc .vmem S256x6144 .bf16) (harg4 : arg4.IsWhole) (arg5 : Memref sig .tc .vmem S256x6144 .bf16) (harg5 : arg5.IsWhole)
    (x0 : Vec F S256x6144 .bf16) (x1 : Vec F S256x6144 .bf16) (x2 : Vec F S1x6144 .f32) : Vec F S256x6144 .bf16 :=
  VO0_3.read (Elt F) (VO0_3.writes (Elt F) VO0_3.junk (kernelRun0_A (Ix := Ix) (U := U) (Lvl := Lvl) 𝒱₀ c i arg1 harg1 arg2 harg2 arg3 harg3 arg4 harg4 arg5 harg5 x0 x1 x2).1)

/-- The run's pieces for output 4 tile its block (1 store of `S256x6144`, checked by the kernel's evaluationby `Piece.tiledL`, linear in the pieces, through a loop's `@[irreducible]` trip theorem too), so they cover it. -/
theorem cover0_A_4 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S1x6144 .f32) (harg3 : arg3.IsWhole) (arg4 : Memref sig .tc .vmem S256x6144 .bf16) (harg4 : arg4.IsWhole) (arg5 : Memref sig .tc .vmem S256x6144 .bf16) (harg5 : arg5.IsWhole)
    (x0 : Vec F S256x6144 .bf16) (x1 : Vec F S256x6144 .bf16) (x2 : Vec F S1x6144 .f32) (y : S256x6144.Idx) :
    ∃ pc ∈ (kernelRun0_A (Ix := Ix) (U := U) (Lvl := Lvl) 𝒱₀ c i arg1 harg1 arg2 harg2 arg3 harg3 arg4 harg4 arg5 harg5 x0 x1 x2).2.1, y ∈ pc.1.set :=
  View.cover_of_tiledL (kernelRun0_A (Ix := Ix) (U := U) (Lvl := Lvl) 𝒱₀ c i arg1 harg1 arg2 harg2 arg3 harg3 arg4 harg4 arg5 harg5 x0 x1 x2).2.1 S256x6144.size (by sl_kernel_rfl) y

/-- What the run leaves in output 4's staging buffer: its pieces read back over junk. -/
def out0_A_4 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S1x6144 .f32) (harg3 : arg3.IsWhole) (arg4 : Memref sig .tc .vmem S256x6144 .bf16) (harg4 : arg4.IsWhole) (arg5 : Memref sig .tc .vmem S256x6144 .bf16) (harg5 : arg5.IsWhole)
    (x0 : Vec F S256x6144 .bf16) (x1 : Vec F S256x6144 .bf16) (x2 : Vec F S1x6144 .f32) : Vec F S256x6144 .bf16 :=
  VO0_4.read (Elt F) (VO0_4.writes (Elt F) VO0_4.junk (kernelRun0_A (Ix := Ix) (U := U) (Lvl := Lvl) 𝒱₀ c i arg1 harg1 arg2 harg2 arg3 harg3 arg4 harg4 arg5 harg5 x0 x1 x2).2.1)

/-! ## What the outputs hold after each point -/

/-- What the outputs' staging buffers hold after the body at point `t` (as a tuple, in window order): the run's contents at
    the point's memrefs and input blocks. -/
def outsAt0 (c : Dev nD) (t : Fin cfg0.N) : Vec F S256x6144 .bf16 × Vec F S256x6144 .bf16 :=
  (out0_A_3 (Ix := Ix) (U := U) (Lvl := Lvl) 𝒱₀ c (grid0.coords t) (ms0_0 t) (hs0_0 t) (ms0_1 t) (hs0_1 t) (ms0_2 t) (hs0_2 t) (ms0_3 t) (hs0_3 t) (ms0_4 t) (hs0_4 t) (iblk V c 0 t) (iblk V c 1 t) (iblk V c 2 t), out0_A_4 (Ix := Ix) (U := U) (Lvl := Lvl) 𝒱₀ c (grid0.coords t) (ms0_0 t) (hs0_0 t) (ms0_1 t) (hs0_1 t) (ms0_2 t) (hs0_2 t) (ms0_3 t) (hs0_3 t) (ms0_4 t) (hs0_4 t) (iblk V c 0 t) (iblk V c 1 t) (iblk V c 2 t))

/-! ## The pipeline's proof data -/

/-- The proof data of pipeline 0 on core `c`: the arrays as the region finds them (`V`); after the body at
    point `t` each input's buffer at its block and the outputs' at `outsAt0`; the invariant the class's; the core owing `D c` throughout; full shares. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt0 (Ix := Ix) (U := U) (Lvl := Lvl) 𝒱₀ V c t).1
    | ⟨4, _⟩ => (outsAt0 (Ix := Ix) (U := U) (Lvl := Lvl) 𝒱₀ V c t).2
  Φ _ := ΦK (F := F) (Ix := Ix) (U := U) (Lvl := Lvl) c
  q _ := fullShare
  owed _ := D c

variable (ι : Ix)

local notation "𝕕" => dat (Ix := Ix) (U := U) (Lvl := Lvl) 𝒱₀ V D

/-- The proof data's arrays are the region-entry contents `V`: the proof data's definition projected (`dsimp`). -/
theorem A_eq (c : Dev nD) (w : Fin cfg0.W) : (𝕕 c).A w = V c (Pipeline.arrRef spec0 w) := by
  dsimp only [dat]

/-- What the body leaves, window by window (the proof data's `match` reduced by `dsimp`). -/
theorem after0_0 (c : Dev nD) (t : Fin cfg0.N) : (𝕕 c).after 0 t = iblk V c 0 t := by dsimp only [dat]
theorem after0_1 (c : Dev nD) (t : Fin cfg0.N) : (𝕕 c).after 1 t = iblk V c 1 t := by dsimp only [dat]
theorem after0_2 (c : Dev nD) (t : Fin cfg0.N) : (𝕕 c).after 2 t = iblk V c 2 t := by dsimp only [dat]
theorem after0_3 (c : Dev nD) (t : Fin cfg0.N) : (𝕕 c).after 3 t = (outsAt0 (Ix := Ix) (U := U) (Lvl := Lvl) 𝒱₀ V c t).1 := by dsimp only [dat]
theorem after0_4 (c : Dev nD) (t : Fin cfg0.N) : (𝕕 c).after 4 t = (outsAt0 (Ix := Ix) (U := U) (Lvl := Lvl) 𝒱₀ V c t).2 := by dsimp only [dat]

/-- Each input's current staging buffer holds its block at every point, fetched there or not (`beforeK_W_of`). -/
theorem before0_0 (c : Dev nD) (t : Fin cfg0.N) (d) : (𝕕 c).before 0 t d = iblk V c 0 t :=
  before0_0_of V (𝕕 c) (A_eq 𝒱₀ V D c 0) (after0_0 𝒱₀ V D c) t d
theorem before0_1 (c : Dev nD) (t : Fin cfg0.N) (d) : (𝕕 c).before 1 t d = iblk V c 1 t :=
  before0_1_of V (𝕕 c) (A_eq 𝒱₀ V D c 1) (after0_1 𝒱₀ V D c) t d
theorem before0_2 (c : Dev nD) (t : Fin cfg0.N) (d) : (𝕕 c).before 2 t d = iblk V c 2 t :=
  before0_2_of V (𝕕 c) (A_eq 𝒱₀ V D c 2) (after0_2 𝒱₀ V D c) t d

/-! ## The body obligation, at a generic point -/

/-- What the body is called with at point `t`, -/
def bodyPre (c : Dev nD) (t : Fin cfg0.N) : sProp 𝕄 :=
  iprop((𝕕 c).Φ t.castSucc ∗ (𝕕 c).owesAt ι t.castSucc
    ∗ (∃ d, owns (c : Thread nD τ) (ms0_0 t) fullShare ((𝕕 c).before 0 t d))
    ∗ (∃ d, owns (c : Thread nD τ) (ms0_1 t) fullShare ((𝕕 c).before 1 t d))
    ∗ (∃ d, owns (c : Thread nD τ) (ms0_2 t) fullShare ((𝕕 c).before 2 t d))
    ∗ (∃ d, owns (c : Thread nD τ) (ms0_3 t) fullShare ((𝕕 c).before 3 t d))
    ∗ (∃ d, owns (c : Thread nD τ) (ms0_4 t) fullShare ((𝕕 c).before 4 t d)))

/-- and what it returns. -/
def bodyPost (c : Dev nD) (t : Fin cfg0.N) : sProp 𝕄 :=
  iprop((𝕕 c).Φ t.succ ∗ (𝕕 c).owesAt ι t.succ
    ∗ owns (c : Thread nD τ) (ms0_0 t) fullShare ((𝕕 c).after 0 t)
    ∗ owns (c : Thread nD τ) (ms0_1 t) fullShare ((𝕕 c).after 1 t)
    ∗ owns (c : Thread nD τ) (ms0_2 t) fullShare ((𝕕 c).after 2 t)
    ∗ owns (c : Thread nD τ) (ms0_3 t) fullShare ((𝕕 c).after 3 t)
    ∗ owns (c : Thread nD τ) (ms0_4 t) fullShare ((𝕕 c).after 4 t))

/-- The body at any point: the inputs' memrefs hold their blocks (`before0_W`); so the
    run applies; the invariant passes through unread; the core owes `D c` throughout. -/
theorem sound_body (c : Dev nD) (t : Fin cfg0.N) :
    bodyPre (U := U) (Lvl := Lvl) 𝒱₀ V D ι c t ⊢ wp frame (wpE (defs₀ (F := F)) 𝒱₀ c none) Set.univ (bodyAt0 t) (fun _ => bodyPost (U := U) (Lvl := Lvl) 𝒱₀ V D ι c t) := by
  unfold bodyPre bodyPost bodyAt0
  simp only [before0_0, before0_1, before0_2]
  rw [show (𝕕 c).Φ t.succ = (𝕕 c).Φ t.castSucc from rfl,
    show (𝕕 c).owesAt ι t.succ = (𝕕 c).owesAt ι t.castSucc from rfl,
    after0_0, after0_1, after0_2, after0_3, after0_4]
  unfold outsAt0
  unfold out0_A_3 out0_A_4; (try dsimp only)
  iintro ⟨HΦ, Ho, ⟨%d0, H0⟩, ⟨%d1, H1⟩, ⟨%d2, H2⟩, ⟨%d3, H3⟩, ⟨%d4, H4⟩⟩
  iapply ((kernelRun0_A (Ix := Ix) (U := U) (Lvl := Lvl) 𝒱₀ c (grid0.coords t) _ _ _ _ _ _ _ _ _ _ (iblk V c 0 t) (iblk V c 1 t) (iblk V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 (Ix := Ix) (U := U) (Lvl := Lvl) 𝒱₀ c _ _ _ _ _ _ _ _ _ _ _ _ _ _)
  unfold owns; iexists _; isplitr
  swap; · iexact H4
  ipureintro; exact View.read_writes_of_cover _ _ _ _ _ (cover0_A_4 (Ix := Ix) (U := U) (Lvl := Lvl) 𝒱₀ c _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (𝕕 c) (defs₀ (F := F)) 𝒱₀ ι Set.univ := fun t => by
  rw [bigSep_W0, bigSep_W0, defs₀_row]
  exact triple_restated (sound_body (U := U) (Lvl := Lvl) 𝒱₀ V D ι c t) rfl .rfl fun _ => .rfl

end Cert.Kernel.Norm

end
-- ==== Proof.KSpread.lean ====
module

public import proofs.«01_k».proof.Proof.Gen.Kernel.Loops
public import Idealize.ShloMosaic.Lib.CellWrites
public import Idealize.ShloMosaic.Lib.Pipeline.Value
public import Idealize.ShloMosaic.Lib.ValueIdxCore

@[expose] public section

set_option maxRecDepth 16384

noncomputable section

namespace Cert.Kernel.Dq

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [BitOps F]

/-- The resource algebra of the run. -/
local notation "𝕄G" => MT nD τ sig Unit (Elt F) ℕ (UR sig nD τ) ℕ

/-- The words of a permutation of the 6144 rows: each below 6144, no two alike. -/
def PermOk (P : Vec F S6144 .i32) : Prop :=
  (∀ r : Fin 6144, (P (ix1 r)).toNat < 6144) ∧ ∀ r r' : Fin 6144, P (ix1 r) = P (ix1 r') → r = r'

/-- The first `n` descriptors lie at their places. -/
def Scattered (P T : Vec F S6144 .i32) (n : ℕ) (D : Vec F S6160 .i32) : Prop :=
  ∀ r : Fin 6144, r.val < n → ∀ p : Fin 6160, p.val = (P (ix1 r)).toNat → D (ix1 p) = T (ix1 r)

/-- A load of one word of a scalar buffer at cell `k`. -/
theorem readAt_cell {n : ℕ} {κ : Kind} {sp : Space} (v : View sig κ sp (⟨1, ![n]⟩ : Shape) .i32) (f : v.ty.Contents (Elt F))
    {off : Fin 1 → ℕ} (pf : ∀ a, off a + (![1] : Fin 1 → ℕ) a ≤ (⟨1, ![n]⟩ : Shape).size a) (k : Fin n) (h0 : off 0 = k.val)
    (x : (Rect.unit (s := ⟨1, ![n]⟩) off ![1] pf).toLoadRect.shape.Idx) :
    v.readAt (Elt F) (Rect.unit (s := ⟨1, ![n]⟩) off ![1] pf).toLoadRect f x = v.read (Elt F) f (ix1 k) := by
  rw [View.readAt_apply]
  congr 1; funext a; apply Fin.ext
  have : a = 0 := Subsingleton.elim _ _
  subst this
  have hx : (x 0).val < 1 := (x 0).isLt
  show off 0 + 1 * (x 0).val = k.val
  omega

/-- Under a list of writes whose pieces all agree with one function `G`, a place that some piece holds, or that read `G` before, reads `G`. -/
theorem read_writes_agree {κ : Kind} {sp : Space} {s : Shape} {e : EltTy} {Val : EltTy → Type} (v : View sig κ sp s e) (f : v.ty.Contents Val) (G : s.Idx → Val e) (y : s.Idx) :
    ∀ L : List (View.Piece Val s e), (∀ p ∈ L, ∀ x : p.1.shape.Idx, p.2 x = G (p.1.emb x)) →
      ((∃ p ∈ L, y ∈ p.1.set) ∨ v.read Val f y = G y) → v.read Val (v.writes Val f L) y = G y
  | [], _, h => by
    rcases h with ⟨p, hp, _⟩ | h
    · exact absurd hp List.not_mem_nil
    · rw [View.writes_nil]; exact h
  | p :: L, hG, h => by
    by_cases hy : y ∈ p.1.set
    · obtain ⟨x, rfl⟩ : ∃ x, p.1.emb x = y := p.1.exists_idx_of_mem hy
      obtain ⟨r, w⟩ := p
      rw [View.read_writes_cons_emb]
      exact hG ⟨r, w⟩ List.mem_cons_self x
    · rw [View.read_writes_cons_miss _ _ _ _ _ hy]
      refine read_writes_agree v f G y L (fun p' hp' => hG p' (List.mem_cons_of_mem _ hp')) ?_
      rcases h with ⟨p', hp', hy'⟩ | h
      · rcases List.mem_cons.mp hp' with rfl | hm
        · exact absurd hy' hy
        · exact Or.inl ⟨p', hm, hy'⟩
      · exact Or.inr h

/-- The pads hold the first descriptor, the `n` first of them. -/
def Padded (T : Vec F S6144 .i32) (n : ℕ) (D : Vec F S6160 .i32) : Prop :=
  ∀ p : Fin 6160, 6144 ≤ p.val → p.val < 6144 + n → D (ix1 p) = T (ix1 0)

theorem read_cell {κ : Kind} {sp : Space} (v : View sig κ sp S6160 .i32) (f : v.ty.Contents (Elt F)) {off : Fin 1 → ℕ}
    (pf : ∀ a, off a + S1.size a ≤ S6160.size a) (w : Elt F .i32) (p : Fin 6160) :
    v.read (Elt F) (v.writes (Elt F) f [⟨Rect.unit (s := S6160) off S1.size pf, fun _ => w⟩]) (ix1 p)
      = if p.val = off 0 then w else v.read (Elt F) f (ix1 p) :=
  View.read_writes_cons_cell v f pf w [] (ix1 p)

theorem scatter_step (P T : Vec F S6144 .i32) (hP : PermOk P) (k : ℕ) (hk : k < 6144) {κ : Kind} {sp : Space} (v : View sig κ sp S6160 .i32)
    (f : v.ty.Contents (Elt F)) {off : Fin 1 → ℕ} (pf : ∀ a, off a + S1.size a ≤ S6160.size a) (w : Elt F .i32)
    (ho : off 0 = (P (ix1 ⟨k, hk⟩)).toNat) (hw : w = T (ix1 ⟨k, hk⟩)) (h : Scattered P T k (v.read (Elt F) f)) :
    Scattered P T (k + 1) (v.read (Elt F) (v.writes (Elt F) f [⟨Rect.unit (s := S6160) off S1.size pf, fun _ => w⟩])) := by
  intro r hr p hp
  rw [read_cell]
  by_cases hrk : r = ⟨k, hk⟩
  · subst hrk
    rw [if_pos (hp.trans ho.symm), hw]
  · have hne : p.val ≠ off 0 := fun he => hrk (hP.2 _ _ (BitVec.eq_of_toNat_eq (hp.symm.trans (he.trans ho))))
    rw [if_neg hne]
    exact h r (by have : r.val ≠ k := fun he => hrk (Fin.ext he); omega) p hp

theorem pad_step (P T : Vec F S6144 .i32) (hP : PermOk P) (k : ℕ) (hk : k < 16) {κ : Kind} {sp : Space} (v : View sig κ sp S6160 .i32)
    (f : v.ty.Contents (Elt F)) {off : Fin 1 → ℕ} (pf : ∀ a, off a + S1.size a ≤ S6160.size a) (w : Elt F .i32)
    (ho : off 0 = 6144 + k) (hw : w = T (ix1 0)) (h : Scattered P T 6144 (v.read (Elt F) f) ∧ Padded T k (v.read (Elt F) f)) :
    Scattered P T 6144 (v.read (Elt F) (v.writes (Elt F) f [⟨Rect.unit (s := S6160) off S1.size pf, fun _ => w⟩]))
      ∧ Padded T (k + 1) (v.read (Elt F) (v.writes (Elt F) f [⟨Rect.unit (s := S6160) off S1.size pf, fun _ => w⟩])) := by
  refine ⟨fun r hr p hp => ?_, fun p h1 h2 => ?_⟩
  · have := hP.1 r
    rw [read_cell, if_neg (by omega)]
    exact h.1 r hr p hp
  · rw [read_cell]
    by_cases hpk : p.val = 6144 + k
    · rw [if_pos (hpk.trans ho.symm), hw]
    · rw [if_neg (by omega)]
      exact h.2 p h1 (by omega)

/-- What the spread of the packed words puts at row `8 w + b`, lane `l`: word `w` of column `128 b + l`. -/
def spreadQ (q : Vec F S813x1024 .i32) : Vec F S6504x128 .i32 := fun y =>
  q (ix2 ⟨(y 0).val / 8, by have := idx2_lt0 y; omega⟩ ⟨128 * ((y 0).val % 8) + (y 1).val, by have := idx2_lt1 y; omega⟩)

/-- What the spread of the scales puts at row `8 g + b`, lane `l`: the scale of group `g`, column `128 b + l`. -/
def spreadS (s : Vec F S192x1024 .bf16) : Vec F S1536x128 .f32 := fun y =>
  extf .f32 s bitsLt_bf16_f32 (ix2 ⟨(y 0).val / 8, by have := idx2_lt0 y; omega⟩ ⟨128 * ((y 0).val % 8) + (y 1).val, by have := idx2_lt1 y; omega⟩)

theorem pay8_eq (v : Vec F S8x128 .i32) : k1_pay8 (F := F) v = v := by
  unfold k1_pay8; exact (congrArg (fun z => shapeCast S8x128 z shapeCasts_S8x128_S8x128) (shapeCast_self _ _)).trans (shapeCast_self _ _)
theorem pay9_eq (v : Vec F S8x128 .i32) : k1_pay9 (F := F) v = v := by
  unfold k1_pay9; exact (congrArg (fun z => shapeCast S8x128 z shapeCasts_S8x128_S8x128) (shapeCast_self _ _)).trans (shapeCast_self _ _)
theorem pay10_eq (v : Vec F S8x128 .i32) : k1_pay10 (F := F) v = v := by
  unfold k1_pay10; exact (congrArg (fun z => shapeCast S8x128 z shapeCasts_S8x128_S8x128) (shapeCast_self _ _)).trans (shapeCast_self _ _)
theorem pay11_eq (v : Vec F S8x128 .i32) : k1_pay11 (F := F) v = v := by
  unfold k1_pay11; exact (congrArg (fun z => shapeCast S8x128 z shapeCasts_S8x128_S8x128) (shapeCast_self _ _)).trans (shapeCast_self _ _)
theorem pay12_eq (v : Vec F S8x128 .i32) : k1_pay12 (F := F) v = v := by
  unfold k1_pay12; exact (congrArg (fun z => shapeCast S8x128 z shapeCasts_S8x128_S8x128) (shapeCast_self _ _)).trans (shapeCast_self _ _)
theorem pay13_eq (v : Vec F S8x128 .i32) : k1_pay13 (F := F) v = v := by
  unfold k1_pay13; exact (congrArg (fun z => shapeCast S8x128 z shapeCasts_S8x128_S8x128) (shapeCast_self _ _)).trans (shapeCast_self _ _)
theorem pay20_eq (v : Vec F S8x128 .i32) : k1_pay20 (F := F) v = v := by
  unfold k1_pay20; exact (congrArg (fun z => shapeCast S8x128 z shapeCasts_S8x128_S8x128) (shapeCast_self _ _)).trans (shapeCast_self _ _)
theorem pay21_eq (v : Vec F S8x128 .i32) : k1_pay21 (F := F) v = v := by
  unfold k1_pay21; exact (congrArg (fun z => shapeCast S8x128 z shapeCasts_S8x128_S8x128) (shapeCast_self _ _)).trans (shapeCast_self _ _)
theorem pay22_eq (v : Vec F S5x128 .i32) : k1_pay22 (F := F) v = v := by
  unfold k1_pay22; exact (congrArg (fun z => shapeCast S5x128 z shapeCasts_S5x128_S5x128) (shapeCast_self _ _)).trans (shapeCast_self _ _)
theorem pay23_eq (v : Vec F S5x128 .i32) : k1_pay23 (F := F) v = v := by
  unfold k1_pay23; exact (congrArg (fun z => shapeCast S5x128 z shapeCasts_S5x128_S5x128) (shapeCast_self _ _)).trans (shapeCast_self _ _)
theorem pay24_eq (v : Vec F S5x128 .i32) : k1_pay24 (F := F) v = v := by
  unfold k1_pay24; exact (congrArg (fun z => shapeCast S5x128 z shapeCasts_S5x128_S5x128) (shapeCast_self _ _)).trans (shapeCast_self _ _)
theorem pay25_eq (v : Vec F S5x128 .i32) : k1_pay25 (F := F) v = v := by
  unfold k1_pay25; exact (congrArg (fun z => shapeCast S5x128 z shapeCasts_S5x128_S5x128) (shapeCast_self _ _)).trans (shapeCast_self _ _)
theorem pay26_eq (v : Vec F S5x128 .i32) : k1_pay26 (F := F) v = v := by
  unfold k1_pay26; exact (congrArg (fun z => shapeCast S5x128 z shapeCasts_S5x128_S5x128) (shapeCast_self _ _)).trans (shapeCast_self _ _)
theorem pay2_eq (v : Vec F S5x128 .i32) : k1_pay2 (F := F) v = v := by
  unfold k1_pay2; exact (congrArg (fun z => shapeCast S5x128 z shapeCasts_S5x128_S5x128) (shapeCast_self _ _)).trans (shapeCast_self _ _)
theorem pay3_eq (v : Vec F S5x128 .i32) : k1_pay3 (F := F) v = v := by
  unfold k1_pay3; exact (congrArg (fun z => shapeCast S5x128 z shapeCasts_S5x128_S5x128) (shapeCast_self _ _)).trans (shapeCast_self _ _)
theorem pay1_eq (v : IVec S5x128 32) : k1_pay1 v = v := shapeCast_self _ _
theorem pay27_eq (v : Vec F S5x128 .i32) : k1_pay27 (F := F) v = v := shapeCast_self _ _
theorem pay14_eq (v : Vec F S16x128 .bf16) : k1_pay14 (F := F) v = extf .f32 v bitsLt_bf16_f32 := by
  unfold k1_pay14; exact shapeCast_self _ _
theorem pay15_eq (v : Vec F S16x128 .bf16) : k1_pay15 (F := F) v = extf .f32 v bitsLt_bf16_f32 := by
  unfold k1_pay15; exact shapeCast_self _ _
theorem pay16_eq (v : Vec F S16x128 .bf16) : k1_pay16 (F := F) v = extf .f32 v bitsLt_bf16_f32 := by
  unfold k1_pay16; exact shapeCast_self _ _
theorem pay17_eq (v : Vec F S16x128 .bf16) : k1_pay17 (F := F) v = extf .f32 v bitsLt_bf16_f32 := by
  unfold k1_pay17; exact shapeCast_self _ _
theorem pay18_eq (v : Vec F S16x128 .bf16) : k1_pay18 (F := F) v = extf .f32 v bitsLt_bf16_f32 := by
  unfold k1_pay18; exact shapeCast_self _ _
theorem pay19_eq (v : Vec F S16x128 .bf16) : k1_pay19 (F := F) v = extf .f32 v bitsLt_bf16_f32 := by
  unfold k1_pay19; exact shapeCast_self _ _
theorem pay4_eq (v : Vec F S16x128 .bf16) : k1_pay4 (F := F) v = extf .f32 v bitsLt_bf16_f32 := by
  unfold k1_pay4; exact shapeCast_self _ _
theorem pay5_eq (v : Vec F S16x128 .bf16) : k1_pay5 (F := F) v = extf .f32 v bitsLt_bf16_f32 := by
  unfold k1_pay5; exact shapeCast_self _ _

theorem spreadQ_piece {R : ℕ} {κ : Kind} {sp : Space} (v : View sig κ sp S813x1024 .i32) (X : v.ty.Contents (Elt F)) {off5 off9 : Fin 2 → ℕ}
    (inb5 : ∀ a, off5 a + (![R, 128] : Fin 2 → ℕ) a ≤ S813x1024.size a)
    (inb9 : ∀ a, (![R, 128] : Fin 2 → ℕ) a = 0 ∨ off9 a + (![8, 1] : Fin 2 → ℕ) a * ((![R, 128] : Fin 2 → ℕ) a - 1) < S6504x128.size a)
    (spos : ∀ a, 0 < (![8, 1] : Fin 2 → ℕ) a) (w b : ℕ)
    (h5 : off5 = ![w, 128 * b]) (h9 : off9 = ![8 * w + b, 0]) (hb : b < 8) (x : (⟨2, ![R, 128]⟩ : Shape).Idx) :
    v.readAt (Elt F) (Rect.unit (s := S813x1024) off5 ![R, 128] inb5).toLoadRect X x
      = spreadQ (F := F) (v.read (Elt F) X) ((⟨⟨off9, ![R, 128], ![8, 1], inb9⟩, spos⟩ : Rect S6504x128).emb x) := by
  subst h5 h9
  rw [View.readAt_apply]
  unfold spreadQ
  congr 1
  funext a
  apply Fin.ext
  have h0 := idx2_lt0 x
  have h1 := idx2_lt1 x
  match a with
  | ⟨0, _⟩ => show w + 1 * (x 0).val = (8 * w + b + 8 * (x 0).val) / 8; omega
  | ⟨1, _⟩ => show 128 * b + 1 * (x 1).val = 128 * ((8 * w + b + 8 * (x 0).val) % 8) + (0 + 1 * (x 1).val); omega

theorem spreadS_piece {κ : Kind} {sp : Space} (v : View sig κ sp S192x1024 .bf16) (X : v.ty.Contents (Elt F)) {off5 off9 : Fin 2 → ℕ}
    (inb5 : ∀ a, off5 a + (![16, 128] : Fin 2 → ℕ) a ≤ S192x1024.size a)
    (inb9 : ∀ a, (![16, 128] : Fin 2 → ℕ) a = 0 ∨ off9 a + (![8, 1] : Fin 2 → ℕ) a * ((![16, 128] : Fin 2 → ℕ) a - 1) < S1536x128.size a)
    (spos : ∀ a, 0 < (![8, 1] : Fin 2 → ℕ) a) (w b : ℕ)
    (h5 : off5 = ![w, 128 * b]) (h9 : off9 = ![8 * w + b, 0]) (hb : b < 8) (x : S16x128.Idx) :
    extf (F := F) (s := S16x128) .f32 (v.readAt (Elt F) (Rect.unit (s := S192x1024) off5 ![16, 128] inb5).toLoadRect X) bitsLt_bf16_f32 x
      = spreadS (F := F) (v.read (Elt F) X) ((⟨⟨off9, ![16, 128], ![8, 1], inb9⟩, spos⟩ : Rect S1536x128).emb x) := by
  subst h5 h9
  unfold spreadS
  show FloatOps.extf _ _ _ = FloatOps.extf _ _ _
  rw [View.readAt_apply]
  congr 2
  funext a
  apply Fin.ext
  have h0 := idx2_lt0 x
  have h1 := idx2_lt1 x
  match a with
  | ⟨0, _⟩ => show w + 1 * (x 0).val = (8 * w + b + 8 * (x 0).val) / 8; omega
  | ⟨1, _⟩ => show 128 * b + 1 * (x 1).val = 128 * ((8 * w + b + 8 * (x 0).val) % 8) + (0 + 1 * (x 1).val); omega

/-- A row `8 j + b` with `j` below the row count lies in the strided rectangle that starts at row `b`. -/
theorem spread_mem {n : ℕ} {o R : ℕ} (inb9 : ∀ a, (![R, 128] : Fin 2 → ℕ) a = 0 ∨ (![o, 0] : Fin 2 → ℕ) a + (![8, 1] : Fin 2 → ℕ) a * ((![R, 128] : Fin 2 → ℕ) a - 1) < (⟨2, ![n, 128]⟩ : Shape).size a)
    (spos : ∀ a, 0 < (![8, 1] : Fin 2 → ℕ) a) (y : (⟨2, ![n, 128]⟩ : Shape).Idx) (h1 : o ≤ (y 0).val) (h2 : (y 0).val < o + 8 * R)
    (h3 : (y 0).val % 8 = o % 8) : y ∈ (⟨⟨![o, 0], ![R, 128], ![8, 1], inb9⟩, spos⟩ : Rect (⟨2, ![n, 128]⟩ : Shape)).set := by
  refine (⟨⟨![o, 0], ![R, 128], ![8, 1], inb9⟩, spos⟩ : Rect (⟨2, ![n, 128]⟩ : Shape)).mem_set.mpr fun a => ?_
  match a with
  | ⟨0, _⟩ => exact ⟨((y 0).val - o) / 8, by show ((y 0).val - o) / 8 < R; omega, by show (y 0).val = o + 8 * (((y 0).val - o) / 8); omega⟩
  | ⟨1, _⟩ => exact ⟨(y 1).val, (y 1).isLt, by show (y 1).val = 0 + 1 * (y 1).val; omega⟩

section
variable (𝒱 : Variants) (c : Dev nD) (bd : Option 𝒱.V) (E : Set ℕ) (i : grid1.Coords)
  (arg2 : Memref sig .tc .smem S6144 .i32) (harg2 : arg2.IsWhole) (arg3 : Memref sig .tc .smem S6144 .i32) (harg3 : arg3.IsWhole) (arg4 : Memref sig .tc .vmem S512x6144 .bf16) (harg4 : arg4.IsWhole) (arg5 : Memref sig .tc .vmem S813x1024 .i32) (harg5 : arg5.IsWhole) (arg6 : Memref sig .tc .vmem S192x1024 .bf16) (harg6 : arg6.IsWhole) (arg7 : Memref sig .tc .vmem S512x1024 .bf16) (harg7 : arg7.IsWhole) (arg8 : Memref sig .tc .smem S6160 .i32) (harg8 : arg8.IsWhole) (arg9 : Memref sig .tc .vmem S6504x128 .i32) (harg9 : arg9.IsWhole) (arg10 : Memref sig .tc .vmem S1536x128 .f32) (harg10 : arg10.IsWhole) (arg11 : Memref sig .tc .vmem S49280x128 .i32) (harg11 : arg11.IsWhole)

abbrev inv1 (X2 : BufTy.Contents (Elt F) arg2.view.ty) (X3 : BufTy.Contents (Elt F) arg3.view.ty) (k : ℕ) (_ : Unit) : sProp 𝕄G :=
  iprop((arg2.view.loc (c : Thread nD τ) ↦[arg2.view.set]{fullShare} X2) ∗ (arg3.view.loc (c : Thread nD τ) ↦[arg3.view.set]{fullShare} X3)
    ∗ ∃ f, (arg8.view.loc (c : Thread nD τ) ↦[arg8.view.set]{fullShare} f)
      ∗ ⌜Scattered (F := F) (arg2.view.read (Elt F) X2) (arg3.view.read (Elt F) X3) k (arg8.view.read (Elt F) f)⌝)

theorem step1 (k1_h1 : k1_cond1 i = 1#1) (X2 : BufTy.Contents (Elt F) arg2.view.ty) (X3 : BufTy.Contents (Elt F) arg3.view.ty)
    (hP : PermOk (F := F) (arg2.view.read (Elt F) X2)) (k : Fin k1_t1_loop.trips) :
    inv1 (F := F) c arg2 arg3 arg8 X2 X3 k ()
      ⊢ wp frame (wpE (defs₀ (F := F)) 𝒱 (c : Thread nD τ) bd) E (k1_t1_body (F := F) i arg2 harg2 arg3 harg3 arg4 harg4 arg5 harg5 arg6 harg6 arg7 harg7 arg8 harg8 arg9 harg9 arg10 harg10 arg11 harg11 k1_h1 k ())
          (fun _ => inv1 (F := F) c arg2 arg3 arg8 X2 X3 (k + 1) ()) := by
  unfold k1_t1_body
  iintro ⟨H2, H3, ⟨%f, H8, %h8⟩⟩
  have hk : k.val < 6144 := Nat.lt_of_lt_of_le k.isLt k1_t1_abs.2.1
  have hread : ∀ x, arg2.view.readAt (Elt F) (Rect.unit (s := S6144) (k1_off1 k) S1.size (k1_off1_inb i k k1_h1)).toLoadRect X2 x
      = arg2.view.read (Elt F) X2 (ix1 ⟨k.val, hk⟩) := fun x =>
    readAt_cell _ _ _ ⟨k.val, hk⟩ (by rw [k1_off1_eq]; rfl) _
  have hlt := hP.1 ⟨k.val, hk⟩
  have hoff : ∀ w : BitVec 32, k1_off2 w = ![w.toNat] := fun w => rfl
  have hchk : ∀ x, k1_chk1 i (arg2.view.readAt (Elt F) (Rect.unit (s := S6144) (k1_off1 k) S1.size (k1_off1_inb i k k1_h1)).toLoadRect X2 x) := by
    intro x h a
    rw [hread x, hoff]
    have : a = 0 := Subsingleton.elim _ _
    subst this
    show (View.read (Elt F) arg2.view X2 (ix1 ⟨k.val, hk⟩)).toNat + 1 ≤ 6160
    omega
  sl_exec (disch := exact hchk _)
  sl_step
  isplitl [H2]; · iexact H2
  isplitl [H3]; · iexact H3
  iexists _
  isplitl [H8]; · iexact H8
  ipureintro
  refine scatter_step _ _ hP k.val hk _ _ _ _ ?_ ?_ h8
  · exact congrArg BitVec.toNat (hread _)
  · exact readAt_cell _ _ _ ⟨k.val, hk⟩ (by rw [k1_off1_eq]; rfl) _

abbrev inv2 (X2 : BufTy.Contents (Elt F) arg2.view.ty) (X3 : BufTy.Contents (Elt F) arg3.view.ty) (k : ℕ) (_ : Unit) : sProp 𝕄G :=
  iprop((arg2.view.loc (c : Thread nD τ) ↦[arg2.view.set]{fullShare} X2) ∗ (arg3.view.loc (c : Thread nD τ) ↦[arg3.view.set]{fullShare} X3)
    ∗ ∃ f, (arg8.view.loc (c : Thread nD τ) ↦[arg8.view.set]{fullShare} f)
      ∗ ⌜Scattered (F := F) (arg2.view.read (Elt F) X2) (arg3.view.read (Elt F) X3) 6144 (arg8.view.read (Elt F) f)
        ∧ Padded (F := F) (arg3.view.read (Elt F) X3) k (arg8.view.read (Elt F) f)⌝)

theorem step2 (k1_h1 : k1_cond1 i = 1#1) (X2 : BufTy.Contents (Elt F) arg2.view.ty) (X3 : BufTy.Contents (Elt F) arg3.view.ty)
    (hP : PermOk (F := F) (arg2.view.read (Elt F) X2)) (k : Fin k1_t2_loop.trips) :
    inv2 (F := F) c arg2 arg3 arg8 X2 X3 k ()
      ⊢ wp frame (wpE (defs₀ (F := F)) 𝒱 (c : Thread nD τ) bd) E (k1_t2_body (F := F) i arg2 harg2 arg3 harg3 arg4 harg4 arg5 harg5 arg6 harg6 arg7 harg7 arg8 harg8 arg9 harg9 arg10 harg10 arg11 harg11 k1_h1 k ())
          (fun _ => inv2 (F := F) c arg2 arg3 arg8 X2 X3 (k + 1) ()) := by
  unfold k1_t2_body
  iintro ⟨H2, H3, ⟨%f, H8, %h8⟩⟩
  have hk : k.val < 16 := Nat.lt_of_lt_of_le k.isLt k1_t2_abs.2.1
  sl_exec
  sl_step
  isplitl [H2]; · iexact H2
  isplitl [H3]; · iexact H3
  iexists _
  isplitl [H8]; · iexact H8
  ipureintro
  refine pad_step _ _ hP k.val hk _ _ _ _ ?_ ?_ h8
  · rw [k1_off3_eq]; show k.val + 6144 = _; omega
  · exact readAt_cell _ _ _ (0 : Fin 6144) rfl _

abbrev inv3 (X5 : BufTy.Contents (Elt F) arg5.view.ty) (k : ℕ) (_ : Unit) : sProp 𝕄G :=
  iprop((arg5.view.loc (c : Thread nD τ) ↦[arg5.view.set]{fullShare} X5)
    ∗ ∃ f, (arg9.view.loc (c : Thread nD τ) ↦[arg9.view.set]{fullShare} f)
      ∗ ⌜∀ y : S6504x128.Idx, (y 0).val < 64 * k → arg9.view.read (Elt F) f y = spreadQ (F := F) (arg5.view.read (Elt F) X5) y⌝)

theorem step3 (k1_h2 : k1_cond2 i = 1#1) (X5 : BufTy.Contents (Elt F) arg5.view.ty) (k : Fin k1_t3_loop.trips) :
    inv3 (F := F) c arg5 arg9 X5 k ()
      ⊢ wp frame (wpE (defs₀ (F := F)) 𝒱 (c : Thread nD τ) bd) E (k1_t3_body (F := F) i arg2 harg2 arg3 harg3 arg4 harg4 arg5 harg5 arg6 harg6 arg7 harg7 arg8 harg8 arg9 harg9 arg10 harg10 arg11 harg11 k1_h2 k ())
          (fun _ => inv3 (F := F) c arg5 arg9 X5 (k + 1) ()) := by
  unfold k1_t3_body
  sl_open_parts
  iintro ⟨H5, ⟨%f, H9, %h9C⟩⟩
  have hk : k.val < 101 := Nat.lt_of_lt_of_le k.isLt k1_t3_abs.2.1
  sl_exec
  sl_step
  isplitl [H5]; · iexact H5
  iexists _
  isplitl [H9]; · iexact H9
  ipureintro
  intro y hy
  have hoff : ∀ r : Fin 8, k1_off5 k (BitVec.ofNat 32 r.val) = ![64 * k.val + r.val, 0] := k1_off5_eq k
  have h0 := idx2_lt0 y
  have h1 := idx2_lt1 y
  refine read_writes_agree _ _ _ y _ ?_ ?_
  · simp only [List.forall_mem_cons]
    refine ⟨?_, ?_, ?_, ?_, ?_, ?_, ?_, ?_, fun p hp => absurd hp List.not_mem_nil⟩ <;> intro x <;>
      simp only [pay8_eq, pay9_eq, pay10_eq, pay11_eq, pay12_eq, pay13_eq, pay20_eq, pay21_eq]
    · exact spreadQ_piece _ _ _ _ _ (8 * k.val) 7 (k1_off12_eq k) ((hoff 7).trans (by congr 1; show 64 * k.val + 7 = _; omega)) (by omega) x
    · exact spreadQ_piece _ _ _ _ _ (8 * k.val) 6 (k1_off11_eq k) ((hoff 6).trans (by congr 1; show 64 * k.val + 6 = _; omega)) (by omega) x
    · exact spreadQ_piece _ _ _ _ _ (8 * k.val) 5 (k1_off10_eq k) ((hoff 5).trans (by congr 1; show 64 * k.val + 5 = _; omega)) (by omega) x
    · exact spreadQ_piece _ _ _ _ _ (8 * k.val) 4 (k1_off9_eq k) ((hoff 4).trans (by congr 1; show 64 * k.val + 4 = _; omega)) (by omega) x
    · exact spreadQ_piece _ _ _ _ _ (8 * k.val) 3 (k1_off8_eq k) ((hoff 3).trans (by congr 1; show 64 * k.val + 3 = _; omega)) (by omega) x
    · exact spreadQ_piece _ _ _ _ _ (8 * k.val) 2 (k1_off7_eq k) ((hoff 2).trans (by congr 1; show 64 * k.val + 2 = _; omega)) (by omega) x
    · exact spreadQ_piece _ _ _ _ _ (8 * k.val) 1 (k1_off6_eq k) ((hoff 1).trans (by congr 1; show 64 * k.val + 1 = _; omega)) (by omega) x
    · exact spreadQ_piece _ _ _ _ _ (8 * k.val) 0 (k1_off4_eq k) ((hoff 0).trans (by congr 1; show 64 * k.val + 0 = _; omega)) (by omega) x
  · by_cases hlt : (y 0).val < 64 * k.val
    · exact Or.inr (h9C y hlt)
    · left
      have hb : (y 0).val % 8 = 7 ∨ (y 0).val % 8 = 6 ∨ (y 0).val % 8 = 5 ∨ (y 0).val % 8 = 4 ∨ (y 0).val % 8 = 3 ∨ (y 0).val % 8 = 2
        ∨ (y 0).val % 8 = 1 ∨ (y 0).val % 8 = 0 := by omega
      have mem : ∀ (b : Fin 8) {off9 : Fin 2 → ℕ} (h9 : off9 = k1_off5 k (BitVec.ofNat 32 b.val)) (inb9), (y 0).val % 8 = b.val →
          y ∈ (⟨⟨off9, ![8, 128], ![8, 1], inb9⟩, spos_8_1⟩ : Rect S6504x128).set := by
        intro b off9 h9 inb9 hy8
        rw [hoff b] at h9
        subst h9
        exact spread_mem _ _ y (by omega) (by omega) (by omega)
      simp only [List.exists_mem_cons_iff]
      rcases hb with hb | hb | hb | hb | hb | hb | hb | hb
      · exact Or.inl (mem 7 rfl _ hb)
      · exact Or.inr (Or.inl (mem 6 rfl _ hb))
      · exact Or.inr (Or.inr (Or.inl (mem 5 rfl _ hb)))
      · exact Or.inr (Or.inr (Or.inr (Or.inl (mem 4 rfl _ hb))))
      · exact Or.inr (Or.inr (Or.inr (Or.inr (Or.inl (mem 3 rfl _ hb)))))
      · exact Or.inr (Or.inr (Or.inr (Or.inr (Or.inr (Or.inl (mem 2 rfl _ hb))))))
      · exact Or.inr (Or.inr (Or.inr (Or.inr (Or.inr (Or.inr (Or.inl (mem 1 rfl _ hb)))))))
      · exact Or.inr (Or.inr (Or.inr (Or.inr (Or.inr (Or.inr (Or.inr (Or.inl (mem 0 rfl _ hb))))))))

abbrev inv4 (X6 : BufTy.Contents (Elt F) arg6.view.ty) (k : ℕ) (_ : Unit) : sProp 𝕄G :=
  iprop((arg6.view.loc (c : Thread nD τ) ↦[arg6.view.set]{fullShare} X6)
    ∗ ∃ f, (arg10.view.loc (c : Thread nD τ) ↦[arg10.view.set]{fullShare} f)
      ∗ ⌜∀ y : S1536x128.Idx, (y 0).val < 128 * k → arg10.view.read (Elt F) f y = spreadS (F := F) (arg6.view.read (Elt F) X6) y⌝)

theorem step4 (k1_h2 : k1_cond2 i = 1#1) (X6 : BufTy.Contents (Elt F) arg6.view.ty) (k : Fin k1_t4_loop.trips) :
    inv4 (F := F) c arg6 arg10 X6 k ()
      ⊢ wp frame (wpE (defs₀ (F := F)) 𝒱 (c : Thread nD τ) bd) E (k1_t4_body (F := F) i arg2 harg2 arg3 harg3 arg4 harg4 arg5 harg5 arg6 harg6 arg7 harg7 arg8 harg8 arg9 harg9 arg10 harg10 arg11 harg11 k1_h2 k ())
          (fun _ => inv4 (F := F) c arg6 arg10 X6 (k + 1) ()) := by
  unfold k1_t4_body
  iintro ⟨H6, ⟨%f, H10, %h10⟩⟩
  have hk : k.val < 12 := Nat.lt_of_lt_of_le k.isLt k1_t4_abs.2.1
  sl_exec
  sl_step
  isplitl [H6]; · iexact H6
  iexists _
  isplitl [H10]; · iexact H10
  ipureintro
  intro y hy
  have hoff : ∀ r : Fin 8, k1_off14 k (BitVec.ofNat 32 r.val) = ![128 * k.val + r.val, 0] := k1_off14_eq k
  have h0 := idx2_lt0 y
  have h1 := idx2_lt1 y
  refine read_writes_agree _ _ _ y _ ?_ ?_
  · simp only [List.forall_mem_cons]
    refine ⟨?_, ?_, ?_, ?_, ?_, ?_, ?_, ?_, fun p hp => absurd hp List.not_mem_nil⟩ <;> intro x <;>
      simp only [pay14_eq, pay15_eq, pay16_eq, pay17_eq, pay18_eq, pay19_eq, pay4_eq, pay5_eq]
    · exact spreadS_piece _ _ _ _ _ (16 * k.val) 7 (k1_off21_eq k) ((hoff 7).trans (by congr 1; show 128 * k.val + 7 = _; omega)) (by omega) x
    · exact spreadS_piece _ _ _ _ _ (16 * k.val) 6 (k1_off20_eq k) ((hoff 6).trans (by congr 1; show 128 * k.val + 6 = _; omega)) (by omega) x
    · exact spreadS_piece _ _ _ _ _ (16 * k.val) 5 (k1_off19_eq k) ((hoff 5).trans (by congr 1; show 128 * k.val + 5 = _; omega)) (by omega) x
    · exact spreadS_piece _ _ _ _ _ (16 * k.val) 4 (k1_off18_eq k) ((hoff 4).trans (by congr 1; show 128 * k.val + 4 = _; omega)) (by omega) x
    · exact spreadS_piece _ _ _ _ _ (16 * k.val) 3 (k1_off17_eq k) ((hoff 3).trans (by congr 1; show 128 * k.val + 3 = _; omega)) (by omega) x
    · exact spreadS_piece _ _ _ _ _ (16 * k.val) 2 (k1_off16_eq k) ((hoff 2).trans (by congr 1; show 128 * k.val + 2 = _; omega)) (by omega) x
    · exact spreadS_piece _ _ _ _ _ (16 * k.val) 1 (k1_off15_eq k) ((hoff 1).trans (by congr 1; show 128 * k.val + 1 = _; omega)) (by omega) x
    · exact spreadS_piece _ _ _ _ _ (16 * k.val) 0 (k1_off13_eq k) ((hoff 0).trans (by congr 1; show 128 * k.val + 0 = _; omega)) (by omega) x
  · by_cases hlt : (y 0).val < 128 * k.val
    · exact Or.inr (h10 y hlt)
    · left
      have hb : (y 0).val % 8 = 7 ∨ (y 0).val % 8 = 6 ∨ (y 0).val % 8 = 5 ∨ (y 0).val % 8 = 4 ∨ (y 0).val % 8 = 3 ∨ (y 0).val % 8 = 2
        ∨ (y 0).val % 8 = 1 ∨ (y 0).val % 8 = 0 := by omega
      have mem : ∀ (b : Fin 8) {off9 : Fin 2 → ℕ} (h9 : off9 = k1_off14 k (BitVec.ofNat 32 b.val)) (inb9), (y 0).val % 8 = b.val →
          y ∈ (⟨⟨off9, ![16, 128], ![8, 1], inb9⟩, spos_8_1⟩ : Rect S1536x128).set := by
        intro b off9 h9 inb9 hy8
        rw [hoff b] at h9
        subst h9
        exact spread_mem _ _ y (by omega) (by omega) (by omega)
      simp only [List.exists_mem_cons_iff]
      rcases hb with hb | hb | hb | hb | hb | hb | hb | hb
      · exact Or.inl (mem 7 rfl _ hb)
      · exact Or.inr (Or.inl (mem 6 rfl _ hb))
      · exact Or.inr (Or.inr (Or.inl (mem 5 rfl _ hb)))
      · exact Or.inr (Or.inr (Or.inr (Or.inl (mem 4 rfl _ hb))))
      · exact Or.inr (Or.inr (Or.inr (Or.inr (Or.inl (mem 3 rfl _ hb)))))
      · exact Or.inr (Or.inr (Or.inr (Or.inr (Or.inr (Or.inl (mem 2 rfl _ hb))))))
      · exact Or.inr (Or.inr (Or.inr (Or.inr (Or.inr (Or.inr (Or.inl (mem 1 rfl _ hb)))))))
      · exact Or.inr (Or.inr (Or.inr (Or.inr (Or.inr (Or.inr (Or.inr (Or.inl (mem 0 rfl _ hb))))))))
end

end Cert.Kernel.Dq
-- ==== Proof.KDequant.lean ====
module

public import proofs.«01_k».proof.Proof.KSpread
public import Idealize.ShloMosaic.Lib.Pointwise

@[expose] public section

set_option maxRecDepth 16384

noncomputable section

namespace Cert.Kernel.Dq

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- The fields of a descriptor: the word a code begins in, -/
def dLo (d : BitVec 32) : BitVec 32 := Scalar.andi d 1023#32
/-- the word its high bits lie in, -/
def dHi (d : BitVec 32) : BitVec 32 := Scalar.addi (Scalar.andi d 1023#32) (Scalar.andi (Scalar.shrsi d 27#32) 1#32)
/-- the bit it begins at, -/
def dSh (d : BitVec 32) : BitVec 32 := Scalar.andi (Scalar.shrsi d 10#32) 31#32
/-- its width -/
def dBits (d : BitVec 32) : BitVec 32 := Scalar.andi (Scalar.shrsi d 15#32) 15#32
/-- and its group. -/
def dGrp (d : BitVec 32) : BitVec 32 := Scalar.andi (Scalar.shrsi d 19#32) 255#32

/-- A descriptor whose words and group exist. -/
def DOk (d : BitVec 32) : Prop := (dLo d).toNat ≤ 812 ∧ (dHi d).toNat ≤ 812 ∧ (dGrp d).toNat ≤ 191

/-- The code of a descriptor, cut out of its two words and made signed. -/
def codeOf (d x y : BitVec 32) : BitVec 32 :=
  IntOp.subi (IntOp.andi (IntOp.ori (IntOp.shrui .vector x (dSh d)) (IntOp.shli .vector (IntOp.shli .vector y 1#32) (Scalar.subi 31#32 (dSh d))))
    (Scalar.subi (Scalar.shli 1#32 (dBits d)) 1#32)) (Scalar.shli 1#32 (Scalar.subi (dBits d) 1#32))

/-- The weight: code times scale, narrowed. -/
def valOf (d x y : BitVec 32) (s : F .f32) : F .bf16 :=
  FloatOps.truncf .bf16 bitsLt_bf16_f32 (FloatOps.mulf (FloatOps.sitofp .f32 (codeOf d x y)) s)

/-- The weight at descriptor `d` and column `c` of a tile of packed words and scales. -/
def deq (d : BitVec 32) (q : Vec F S813x1024 .i32) (s : Vec F S192x1024 .bf16) (c : Fin 1024) : F .bf16 :=
  valOf (F := F) d (q (ValueIdx.ix2 ⟨(dLo d).toNat % 813, Nat.mod_lt _ (by decide)⟩ c)) (q (ValueIdx.ix2 ⟨(dHi d).toNat % 813, Nat.mod_lt _ (by decide)⟩ c))
    (FloatOps.extf .f32 bitsLt_bf16_f32 (s (ValueIdx.ix2 ⟨(dGrp d).toNat % 192, Nat.mod_lt _ (by decide)⟩ c)))

/-- One word of the weight buffer: the patterns of two weights, the first in the low half. -/
def packTwo (a b : F .bf16) : BitVec 32 := BitOps.toBits b ++ BitOps.toBits a

/-- A slot of the weight buffer, written by the descriptors `D` from the tile `q`, `s`. -/
def wTile (D : Vec F S6160 .i32) (q : Vec F S813x1024 .i32) (s : Vec F S192x1024 .bf16) : Vec F S49280x128 .i32 := fun y =>
  packTwo (deq (F := F) (D (ValueIdx.ix1 ⟨2 * ((y 0).val % 3080), by omega⟩)) q s
      ⟨128 * ((y 0).val % 24640 / 3080) + (y 1).val, by have h2 : (y 1).val < 128 := (y 1).isLt; omega⟩)
    (deq (F := F) (D (ValueIdx.ix1 ⟨2 * ((y 0).val % 3080) + 1, by omega⟩)) q s
      ⟨128 * ((y 0).val % 24640 / 3080) + (y 1).val, by have h2 : (y 1).val < 128 := (y 1).isLt; omega⟩)

/-- The weight buffer `G` after the pairs `[a, a + k)` of slot `σ` have been rewritten by `W`. -/
def wUpd (σ a k : ℕ) (W G : Vec F S49280x128 .i32) : Vec F S49280x128 .i32 := fun y =>
  if (y 0).val / 24640 = σ ∧ a ≤ (y 0).val % 3080 ∧ (y 0).val % 3080 < a + k then W y else G y

theorem wUpd_zero (σ a : ℕ) (W G : Vec F S49280x128 .i32) : wUpd σ a 0 W G = G := by
  funext y; unfold wUpd; exact if_neg (by omega)

theorem wUpd_wUpd (σ a k k' : ℕ) (W G : Vec F S49280x128 .i32) : wUpd σ (a + k) k' W (wUpd σ a k W G) = wUpd σ a (k + k') W G := by
  funext y; unfold wUpd
  by_cases h1 : (y 0).val / 24640 = σ ∧ a + k ≤ (y 0).val % 3080 ∧ (y 0).val % 3080 < a + k + k'
  · rw [if_pos h1, if_pos (by omega)]
  · rw [if_neg h1]
    by_cases h2 : (y 0).val / 24640 = σ ∧ a ≤ (y 0).val % 3080 ∧ (y 0).val % 3080 < a + k
    · rw [if_pos h2, if_pos (by omega)]
    · rw [if_neg h2, if_neg (by omega)]

theorem pay28_apply (d : Elt F .i32) (v w : Vec F S8x128 .i32) (x : S8x128.Idx) : k1_pay28 (F := F) d v w x = codeOf d (v x) (w x) := rfl

theorem pay6_apply (d d' : BitVec 32) (v w v' w' : Vec F S8x128 .i32) (s s' : Vec F S8x128 .f32) (x : S8x128.Idx) :
    k1_pay6 (F := F) (k1_pay29 (k1_pay28 (F := F) d v w) s) (Scalar.andi (Scalar.shrsi d' 15#32) 15#32) (k1_pay30 (F := F) d' v' w') 1#32 s' x
      = packTwo (valOf (F := F) d (v x) (w x) (s x)) (valOf (F := F) d' (v' x) (w' x) (s' x)) := by
  unfold k1_pay6
  rw [shapeCast_self]
  rfl

/-- The slot a step writes: the parity of its first coordinate. -/
theorem slot_isInt (i : grid1.Coords) : Affine.IsInt (Scalar.andi (BitVec.ofNat 32 (i 0).val) 1#32) (((i 0).val % 2 : ℕ) : Int) := by
  have h : ∀ a : Fin 25, Scalar.andi (BitVec.ofNat 32 a.val) 1#32 = BitVec.ofNat 32 (a.val % 2) := by decide
  rw [h (i 0)]
  exact Affine.ofNat _ ⟨rfl, by omega⟩

theorem k1_off30_eq (i : grid1.Coords) (k : Fin k1_t5_loop.trips) :
    k1_off30 i k = ![(i 0).val % 2 * 24640 + 308 * (i 1).val + k.val, 0] := by
  have r1 : (i 1).val < 10 := (i 1).isLt
  have rk : k.val < 308 := Nat.lt_of_lt_of_le k.isLt k1_t5_abs.2.1
  have r0 : (i 0).val % 2 < 2 := Nat.mod_lt _ (by decide)
  have hs := Affine.muli (slot_isInt i) (Affine.ofNat 24640 ⟨rfl, by omega⟩) ⟨rfl, by omega, by omega⟩
  have h1 : Affine.IsInt (BitVec.ofNat 32 (i 1).val) (((i 1).val : Int)) := Affine.ofNat _ (by omega)
  have h2 := Affine.muli h1 (Affine.ofNat 308 ⟨rfl, by omega⟩) ⟨rfl, by omega, by omega⟩
  have h3 : Affine.IsInt _ ((k.val : Int) + 0) := Affine.iv (Affine.ofNat 0 ⟨rfl, by omega⟩) (Affine.ofNat 1 ⟨rfl, by omega⟩) k.val (by omega)
  have h4 := Affine.addi h2 h3 ⟨rfl, by omega, by omega⟩
  have h5 := Affine.indexCast (Affine.addi hs h4 ⟨rfl, by omega, by omega⟩)
  exact Affine.vec_cons h5 (by omega) <| Affine.vec_cons (Affine.ofNat 0 ⟨rfl, by omega⟩) (by omega) <| Affine.vec_nil
theorem k1_off39_eq (i : grid1.Coords) (k : Fin k1_t6_loop.trips) :
    k1_off39 i k = ![(i 0).val % 2 * 24640 + 308 * (i 1).val + k.val, 0] := by
  have r1 : (i 1).val < 10 := (i 1).isLt
  have rk : k.val < 77 := Nat.lt_of_lt_of_le k.isLt k1_t6_abs.2.1
  have r0 : (i 0).val % 2 < 2 := Nat.mod_lt _ (by decide)
  have hs := Affine.muli (slot_isInt i) (Affine.ofNat 24640 ⟨rfl, by omega⟩) ⟨rfl, by omega, by omega⟩
  have h1 : Affine.IsInt (BitVec.ofNat 32 (i 1).val) (((i 1).val : Int)) := Affine.ofNat _ (by omega)
  have h2 := Affine.muli h1 (Affine.ofNat 308 ⟨rfl, by omega⟩) ⟨rfl, by omega, by omega⟩
  have h3 : Affine.IsInt _ ((k.val : Int) + 0) := Affine.iv (Affine.ofNat 0 ⟨rfl, by omega⟩) (Affine.ofNat 1 ⟨rfl, by omega⟩) k.val (by omega)
  have h4 := Affine.addi h2 h3 ⟨rfl, by omega, by omega⟩
  have h5 := Affine.indexCast (Affine.addi hs h4 ⟨rfl, by omega, by omega⟩)
  exact Affine.vec_cons h5 (by omega) <| Affine.vec_cons (Affine.ofNat 0 ⟨rfl, by omega⟩) (by omega) <| Affine.vec_nil
theorem k1_off49_eq (i : grid1.Coords) (k : Fin k1_t7_loop.trips) :
    k1_off49 i k = ![(i 0).val % 2 * 24640 + 308 * (i 1).val + 77 + k.val, 0] := by
  have r1 : (i 1).val < 10 := (i 1).isLt
  have rk : k.val < 77 := Nat.lt_of_lt_of_le k.isLt k1_t7_abs.2.1
  have r0 : (i 0).val % 2 < 2 := Nat.mod_lt _ (by decide)
  have hs := Affine.muli (slot_isInt i) (Affine.ofNat 24640 ⟨rfl, by omega⟩) ⟨rfl, by omega, by omega⟩
  have h1 : Affine.IsInt (BitVec.ofNat 32 (i 1).val) (((i 1).val : Int)) := Affine.ofNat _ (by omega)
  have h2 := Affine.muli h1 (Affine.ofNat 308 ⟨rfl, by omega⟩) ⟨rfl, by omega, by omega⟩
  have h3 : Affine.IsInt _ ((k.val : Int) + 77) := Affine.iv (Affine.ofNat 77 ⟨rfl, by omega⟩) (Affine.ofNat 1 ⟨rfl, by omega⟩) k.val (by omega)
  have h4 := Affine.addi h2 h3 ⟨rfl, by omega, by omega⟩
  have h5 := Affine.indexCast (Affine.addi hs h4 ⟨rfl, by omega, by omega⟩)
  exact Affine.vec_cons h5 (by omega) <| Affine.vec_cons (Affine.ofNat 0 ⟨rfl, by omega⟩) (by omega) <| Affine.vec_nil
theorem k1_off58_eq (i : grid1.Coords) (k : Fin k1_t8_loop.trips) :
    k1_off58 i k = ![(i 0).val % 2 * 24640 + 308 * (i 1).val + 154 + k.val, 0] := by
  have r1 : (i 1).val < 10 := (i 1).isLt
  have rk : k.val < 77 := Nat.lt_of_lt_of_le k.isLt k1_t8_abs.2.1
  have r0 : (i 0).val % 2 < 2 := Nat.mod_lt _ (by decide)
  have hs := Affine.muli (slot_isInt i) (Affine.ofNat 24640 ⟨rfl, by omega⟩) ⟨rfl, by omega, by omega⟩
  have h1 : Affine.IsInt (BitVec.ofNat 32 (i 1).val) (((i 1).val : Int)) := Affine.ofNat _ (by omega)
  have h2 := Affine.muli h1 (Affine.ofNat 308 ⟨rfl, by omega⟩) ⟨rfl, by omega, by omega⟩
  have h3 : Affine.IsInt _ ((k.val : Int) + 154) := Affine.iv (Affine.ofNat 154 ⟨rfl, by omega⟩) (Affine.ofNat 1 ⟨rfl, by omega⟩) k.val (by omega)
  have h4 := Affine.addi h2 h3 ⟨rfl, by omega, by omega⟩
  have h5 := Affine.indexCast (Affine.addi hs h4 ⟨rfl, by omega, by omega⟩)
  exact Affine.vec_cons h5 (by omega) <| Affine.vec_cons (Affine.ofNat 0 ⟨rfl, by omega⟩) (by omega) <| Affine.vec_nil
theorem k1_off67_eq (i : grid1.Coords) (k : Fin k1_t9_loop.trips) :
    k1_off67 i k = ![(i 0).val % 2 * 24640 + 308 * (i 1).val + 231 + k.val, 0] := by
  have r1 : (i 1).val < 10 := (i 1).isLt
  have rk : k.val < 77 := Nat.lt_of_lt_of_le k.isLt k1_t9_abs.2.1
  have r0 : (i 0).val % 2 < 2 := Nat.mod_lt _ (by decide)
  have hs := Affine.muli (slot_isInt i) (Affine.ofNat 24640 ⟨rfl, by omega⟩) ⟨rfl, by omega, by omega⟩
  have h1 : Affine.IsInt (BitVec.ofNat 32 (i 1).val) (((i 1).val : Int)) := Affine.ofNat _ (by omega)
  have h2 := Affine.muli h1 (Affine.ofNat 308 ⟨rfl, by omega⟩) ⟨rfl, by omega, by omega⟩
  have h3 : Affine.IsInt _ ((k.val : Int) + 231) := Affine.iv (Affine.ofNat 231 ⟨rfl, by omega⟩) (Affine.ofNat 1 ⟨rfl, by omega⟩) k.val (by omega)
  have h4 := Affine.addi h2 h3 ⟨rfl, by omega, by omega⟩
  have h5 := Affine.indexCast (Affine.addi hs h4 ⟨rfl, by omega, by omega⟩)
  exact Affine.vec_cons h5 (by omega) <| Affine.vec_cons (Affine.ofNat 0 ⟨rfl, by omega⟩) (by omega) <| Affine.vec_nil
theorem k1_off40_eq (i : grid1.Coords) (r : Fin 8) :
    k1_off40 i (BitVec.ofNat 32 (3080 * r.val)) = ![(1 - (i 0).val % 2) * 24640 + 3080 * r.val, 0] := by
  have r0 : (i 0).val % 2 < 2 := Nat.mod_lt _ (by decide)
  have rr := r.isLt
  have h0 : Affine.IsInt _ (1 - (((i 0).val % 2 : ℕ) : Int)) := Affine.subi (Affine.ofNat 1 ⟨rfl, by omega⟩) (slot_isInt i) ⟨rfl, by omega, by omega⟩
  have hs := Affine.muli h0 (Affine.ofNat 24640 ⟨rfl, by omega⟩) ⟨rfl, by omega, by omega⟩
  have h1 : Affine.IsInt (BitVec.ofNat 32 (3080 * r.val)) ((3080 * r.val : ℕ) : Int) := Affine.ofNat _ ⟨rfl, by omega⟩
  have h5 := Affine.indexCast (Affine.addi hs h1 ⟨rfl, by omega, by omega⟩)
  exact Affine.vec_cons h5 (by omega) <| Affine.vec_cons (Affine.ofNat 0 ⟨rfl, by omega⟩) (by omega) <| Affine.vec_nil

theorem off23_eq (d : BitVec 32) (h : DOk d) : k1_off23 d = ![8 * (dLo d).toNat, 0] := by
  have h1 := h.1
  have : (IntOp.muli (dLo d) 8#32).toNat = 8 * (dLo d).toNat := by
    show ((dLo d) * 8#32).toNat = _
    rw [BitVec.toNat_mul]
    show (dLo d).toNat * 8 % 4294967296 = _
    omega
  show ![(IntOp.muli (dLo d) 8#32).toNat, 0] = _
  rw [this]
theorem off24_eq (d : BitVec 32) (h : DOk d) : k1_off24 d = ![8 * (dHi d).toNat, 0] := by
  have h1 := h.2.1
  have : (IntOp.muli (dHi d) 8#32).toNat = 8 * (dHi d).toNat := by
    show ((dHi d) * 8#32).toNat = _
    rw [BitVec.toNat_mul]
    show (dHi d).toNat * 8 % 4294967296 = _
    omega
  show ![(IntOp.muli (dHi d) 8#32).toNat, 0] = _
  rw [this]
theorem off25_eq (d : BitVec 32) (h : DOk d) : k1_off25 d = ![8 * (dGrp d).toNat, 0] := by
  have h1 := h.2.2
  have : (IntOp.muli (dGrp d) 8#32).toNat = 8 * (dGrp d).toNat := by
    show ((dGrp d) * 8#32).toNat = _
    rw [BitVec.toNat_mul]
    show (dGrp d).toNat * 8 % 4294967296 = _
    omega
  show ![(IntOp.muli (dGrp d) 8#32).toNat, 0] = _
  rw [this]

end Cert.Kernel.Dq
-- ==== Proof.KDequantLoop.lean ====
module

public import proofs.«01_k».proof.Proof.KDequant

@[expose] public section

set_option maxRecDepth 16384

noncomputable section

namespace Cert.Kernel.Dq

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [BitOps F]

local notation "𝕄G" => MT nD τ sig Unit (Elt F) ℕ (UR sig nD τ) ℕ

theorem vec3 {a b : ℕ} (h : a = b) : (![a, 0] : Fin 2 → ℕ) = ![b, 0] := by rw [h]

theorem wUpd_step {κ : Kind} {sp : Space} (v : View sig κ sp S49280x128 .i32) (f : v.ty.Contents (Elt F)) (σ a k : ℕ) (hσ : σ < 2) (hk : a + k < 3080)
    {off : Fin 2 → ℕ} (inb : ∀ b, S8x128.size b = 0 ∨ off b + (![3080, 1] : Fin 2 → ℕ) b * (S8x128.size b - 1) < S49280x128.size b)
    (spos : ∀ b, 0 < (![3080, 1] : Fin 2 → ℕ) b) (hoff : off = ![σ * 24640 + (a + k), 0]) (W G : Vec F S49280x128 .i32)
    (P : S8x128.Idx → Elt F .i32) (hP : ∀ x, P x = W ((⟨⟨off, S8x128.size, ![3080, 1], inb⟩, spos⟩ : Rect S49280x128).emb x))
    (h : ∀ y, v.read (Elt F) f y = wUpd (F := F) σ a k W G y) (y : S49280x128.Idx) :
    v.read (Elt F) (v.writes (Elt F) f [⟨⟨⟨off, S8x128.size, ![3080, 1], inb⟩, spos⟩, P⟩]) y = wUpd (F := F) σ a (k + 1) W G y := by
  subst hoff
  by_cases hy : y ∈ (⟨⟨![σ * 24640 + (a + k), 0], S8x128.size, ![3080, 1], inb⟩, spos⟩ : Rect S49280x128).set
  · obtain ⟨x, rfl⟩ : ∃ x, (⟨⟨![σ * 24640 + (a + k), 0], S8x128.size, ![3080, 1], inb⟩, spos⟩ : Rect S49280x128).emb x = y :=
      (⟨⟨![σ * 24640 + (a + k), 0], S8x128.size, ![3080, 1], inb⟩, spos⟩ : Rect S49280x128).exists_idx_of_mem hy
    rw [View.read_writes_cons_emb, hP]
    have hx : (x 0).val < 8 := (x 0).isLt
    have e0 : ((⟨⟨![σ * 24640 + (a + k), 0], S8x128.size, ![3080, 1], inb⟩, spos⟩ : Rect S49280x128).emb x 0).val = σ * 24640 + (a + k) + 3080 * (x 0).val := rfl
    generalize (⟨⟨![σ * 24640 + (a + k), 0], S8x128.size, ![3080, 1], inb⟩, spos⟩ : Rect S49280x128).emb x = z at e0
    unfold wUpd
    have z1 : (z 0).val / 24640 = σ := by omega
    have z2 : (z 0).val % 3080 = a + k := by omega
    rw [if_pos (show (z 0).val / 24640 = σ ∧ a ≤ (z 0).val % 3080 ∧ (z 0).val % 3080 < a + (k + 1) from ⟨z1, by rw [z2]; exact Nat.le_add_right _ _, by rw [z2]; exact Nat.lt_succ_self _⟩)]
  · rw [View.read_writes_cons_miss _ _ _ _ _ (by exact hy), View.writes_nil, h]
    have hne : ¬((y 0).val / 24640 = σ ∧ (y 0).val % 3080 = a + k) := by
      intro hc
      apply hy
      have h0 : (y 0).val < 49280 := (y 0).isLt
      refine (⟨⟨![σ * 24640 + (a + k), 0], S8x128.size, ![3080, 1], inb⟩, spos⟩ : Rect S49280x128).mem_set.mpr fun b => ?_
      match b with
      | ⟨0, _⟩ => exact ⟨(y 0).val % 24640 / 3080, by show (y 0).val % 24640 / 3080 < 8; omega, by
          show (y 0).val = σ * 24640 + (a + k) + 3080 * ((y 0).val % 24640 / 3080); omega⟩
      | ⟨1, _⟩ => exact ⟨(y 1).val, (y 1).isLt, by show (y 1).val = 0 + 1 * (y 1).val; omega⟩
    unfold wUpd
    by_cases h1 : (y 0).val / 24640 = σ ∧ a ≤ (y 0).val % 3080 ∧ (y 0).val % 3080 < a + k
    · rw [if_pos h1, if_pos (by omega)]
    · rw [if_neg h1, if_neg (by omega)]

theorem qread {κ : Kind} {sp : Space} (v : View sig κ sp S6504x128 .i32) (X : v.ty.Contents (Elt F)) (q : Vec F S813x1024 .i32)
    (h : ∀ y, v.read (Elt F) X y = spreadQ (F := F) q y) {off : Fin 2 → ℕ} (inb : ∀ a, off a + S8x128.size a ≤ S6504x128.size a) (w : ℕ) (hw : w ≤ 812)
    (ho : off = ![8 * w, 0]) (x : S8x128.Idx) :
    v.readAt (Elt F) (Rect.unit (s := S6504x128) off S8x128.size inb).toLoadRect X x
      = q (ValueIdx.ix2 ⟨w % 813, Nat.mod_lt _ (by decide)⟩ ⟨128 * (x 0).val + (x 1).val, by have := idx2_lt0 x; have := idx2_lt1 x; omega⟩) := by
  subst ho
  rw [View.readAt_apply, h]
  have h0 := idx2_lt0 x
  have h1 := idx2_lt1 x
  unfold spreadQ
  congr 1
  funext a
  apply Fin.ext
  match a with
  | ⟨0, _⟩ => show (8 * w + 1 * (x 0).val) / 8 = w % 813; omega
  | ⟨1, _⟩ => show 128 * ((8 * w + 1 * (x 0).val) % 8) + (0 + 1 * (x 1).val) = 128 * (x 0).val + (x 1).val; omega

theorem sread {κ : Kind} {sp : Space} (v : View sig κ sp S1536x128 .f32) (X : v.ty.Contents (Elt F)) (s : Vec F S192x1024 .bf16)
    (h : ∀ y, v.read (Elt F) X y = spreadS (F := F) s y) {off : Fin 2 → ℕ} (inb : ∀ a, off a + S8x128.size a ≤ S1536x128.size a) (w : ℕ) (hw : w ≤ 191)
    (ho : off = ![8 * w, 0]) (x : S8x128.Idx) :
    v.readAt (Elt F) (Rect.unit (s := S1536x128) off S8x128.size inb).toLoadRect X x
      = FloatOps.extf .f32 bitsLt_bf16_f32 (s (ValueIdx.ix2 ⟨w % 192, Nat.mod_lt _ (by decide)⟩ ⟨128 * (x 0).val + (x 1).val, by have := idx2_lt0 x; have := idx2_lt1 x; omega⟩)) := by
  subst ho
  rw [View.readAt_apply, h]
  have h0 := idx2_lt0 x
  have h1 := idx2_lt1 x
  unfold spreadS
  show FloatOps.extf _ _ _ = FloatOps.extf _ _ _
  congr 2
  funext a
  apply Fin.ext
  match a with
  | ⟨0, _⟩ => show (8 * w + 1 * (x 0).val) / 8 = w % 192; omega
  | ⟨1, _⟩ => show 128 * ((8 * w + 1 * (x 0).val) % 8) + (0 + 1 * (x 1).val) = 128 * (x 0).val + (x 1).val; omega

/-- The pair of weights a trip stores, read off the spread tile, is the slot's at its rows. -/
theorem pair_value (v9 : View sig .tc .vmem S6504x128 .i32) (X9 : v9.ty.Contents (Elt F)) (v10 : View sig .tc .vmem S1536x128 .f32) (X10 : v10.ty.Contents (Elt F))
    (D : Vec F S6160 .i32) (q : Vec F S813x1024 .i32) (s : Vec F S192x1024 .bf16)
    (h9 : ∀ y, v9.read (Elt F) X9 y = spreadQ (F := F) q y) (h10 : ∀ y, v10.read (Elt F) X10 y = spreadS (F := F) s y)
    (σ p : ℕ) (hσ : σ < 2) (hp : p < 3080) (d d' : BitVec 32) (hd : DOk d) (hd' : DOk d')
    (ed : d = D (ValueIdx.ix1 ⟨2 * p, by omega⟩)) (ed' : d' = D (ValueIdx.ix1 ⟨2 * p + 1, by omega⟩))
    (i1 : ∀ a, k1_off23 d a + S8x128.size a ≤ S6504x128.size a) (i2 : ∀ a, k1_off24 d a + S8x128.size a ≤ S6504x128.size a) (i3 : ∀ a, k1_off25 d a + S8x128.size a ≤ S1536x128.size a)
    (i1' : ∀ a, k1_off23 d' a + S8x128.size a ≤ S6504x128.size a) (i2' : ∀ a, k1_off24 d' a + S8x128.size a ≤ S6504x128.size a) (i3' : ∀ a, k1_off25 d' a + S8x128.size a ≤ S1536x128.size a)
    {off : Fin 2 → ℕ} (inb : ∀ b, S8x128.size b = 0 ∨ off b + (![3080, 1] : Fin 2 → ℕ) b * (S8x128.size b - 1) < S49280x128.size b)
    (spos : ∀ b, 0 < (![3080, 1] : Fin 2 → ℕ) b) (hoff : off = ![σ * 24640 + p, 0]) (x : S8x128.Idx) :
    k1_pay6 (F := F) (k1_pay29 (k1_pay28 (F := F) d (v9.readAt (Elt F) (Rect.unit (s := S6504x128) (k1_off23 d) S8x128.size i1).toLoadRect X9)
        (v9.readAt (Elt F) (Rect.unit (s := S6504x128) (k1_off24 d) S8x128.size i2).toLoadRect X9))
        (v10.readAt (Elt F) (Rect.unit (s := S1536x128) (k1_off25 d) S8x128.size i3).toLoadRect X10))
      (Scalar.andi (Scalar.shrsi d' 15#32) 15#32)
      (k1_pay30 (F := F) d' (v9.readAt (Elt F) (Rect.unit (s := S6504x128) (k1_off23 d') S8x128.size i1').toLoadRect X9)
        (v9.readAt (Elt F) (Rect.unit (s := S6504x128) (k1_off24 d') S8x128.size i2').toLoadRect X9)) 1#32
      (v10.readAt (Elt F) (Rect.unit (s := S1536x128) (k1_off25 d') S8x128.size i3').toLoadRect X10) x
      = wTile (F := F) D q s ((⟨⟨off, S8x128.size, ![3080, 1], inb⟩, spos⟩ : Rect S49280x128).emb x) := by
  have hx0 : (x 0).val < 8 := (x 0).isLt
  have hx1 : (x 1).val < 128 := (x 1).isLt
  rw [pay6_apply, qread v9 X9 q h9 i1 _ hd.1 (off23_eq d hd), qread v9 X9 q h9 i2 _ hd.2.1 (off24_eq d hd), sread v10 X10 s h10 i3 _ hd.2.2 (off25_eq d hd),
    qread v9 X9 q h9 i1' _ hd'.1 (off23_eq d' hd'), qread v9 X9 q h9 i2' _ hd'.2.1 (off24_eq d' hd'), sread v10 X10 s h10 i3' _ hd'.2.2 (off25_eq d' hd')]
  subst hoff
  have e0 : ((⟨⟨![σ * 24640 + p, 0], S8x128.size, ![3080, 1], inb⟩, spos⟩ : Rect S49280x128).emb x 0).val = σ * 24640 + p + 3080 * (x 0).val := rfl
  have e1 : ((⟨⟨![σ * 24640 + p, 0], S8x128.size, ![3080, 1], inb⟩, spos⟩ : Rect S49280x128).emb x 1).val = 0 + 1 * (x 1).val := rfl
  unfold wTile
  generalize (⟨⟨![σ * 24640 + p, 0], S8x128.size, ![3080, 1], inb⟩, spos⟩ : Rect S49280x128).emb x = y at e0 e1
  have ec : (⟨128 * ((y 0).val % 24640 / 3080) + (y 1).val, by rw [e0, e1]; omega⟩ : Fin 1024) = ⟨128 * (x 0).val + (x 1).val, by omega⟩ := by
    apply Fin.ext; show 128 * ((y 0).val % 24640 / 3080) + (y 1).val = _; rw [e0, e1]; show _ = 128 * (x 0).val + (x 1).val; omega
  rw [ec]
  have er : (⟨2 * ((y 0).val % 3080), by omega⟩ : Fin 6160) = ⟨2 * p, by omega⟩ := by
    apply Fin.ext; show 2 * ((y 0).val % 3080) = 2 * p; rw [e0]; omega
  have er' : (⟨2 * ((y 0).val % 3080) + 1, by omega⟩ : Fin 6160) = ⟨2 * p + 1, by omega⟩ := by
    apply Fin.ext; show 2 * ((y 0).val % 3080) + 1 = 2 * p + 1; rw [e0]; omega
  rw [er, er', ← ed, ← ed']; rfl

theorem off23_inb (d : BitVec 32) (h : DOk d) (a : Fin 2) : k1_off23 d a + S8x128.size a ≤ S6504x128.size a := by
  rw [off23_eq d h]; have := h.1
  match a with
  | ⟨0, _⟩ => show 8 * (dLo d).toNat + 8 ≤ 6504; omega
  | ⟨1, _⟩ => show 0 + 128 ≤ 128; omega
theorem off24_inb (d : BitVec 32) (h : DOk d) (a : Fin 2) : k1_off24 d a + S8x128.size a ≤ S6504x128.size a := by
  rw [off24_eq d h]; have := h.2.1
  match a with
  | ⟨0, _⟩ => show 8 * (dHi d).toNat + 8 ≤ 6504; omega
  | ⟨1, _⟩ => show 0 + 128 ≤ 128; omega
theorem off25_inb (d : BitVec 32) (h : DOk d) (a : Fin 2) : k1_off25 d a + S8x128.size a ≤ S1536x128.size a := by
  rw [off25_eq d h]; have := h.2.2
  match a with
  | ⟨0, _⟩ => show 8 * (dGrp d).toNat + 8 ≤ 1536; omega
  | ⟨1, _⟩ => show 0 + 128 ≤ 128; omega

section
variable (𝒱 : Variants) (c : Dev nD) (bd : Option 𝒱.V) (E : Set ℕ) (i : grid1.Coords)
  (arg2 : Memref sig .tc .smem S6144 .i32) (harg2 : arg2.IsWhole) (arg3 : Memref sig .tc .smem S6144 .i32) (harg3 : arg3.IsWhole) (arg4 : Memref sig .tc .vmem S512x6144 .bf16) (harg4 : arg4.IsWhole) (arg5 : Memref sig .tc .vmem S813x1024 .i32) (harg5 : arg5.IsWhole) (arg6 : Memref sig .tc .vmem S192x1024 .bf16) (harg6 : arg6.IsWhole) (arg7 : Memref sig .tc .vmem S512x1024 .bf16) (harg7 : arg7.IsWhole) (arg8 : Memref sig .tc .smem S6160 .i32) (harg8 : arg8.IsWhole) (arg9 : Memref sig .tc .vmem S6504x128 .i32) (harg9 : arg9.IsWhole) (arg10 : Memref sig .tc .vmem S1536x128 .f32) (harg10 : arg10.IsWhole) (arg11 : Memref sig .tc .vmem S49280x128 .i32) (harg11 : arg11.IsWhole)

abbrev invW (X8 : BufTy.Contents (Elt F) arg8.view.ty) (X9 : BufTy.Contents (Elt F) arg9.view.ty) (X10 : BufTy.Contents (Elt F) arg10.view.ty)
    (W G : Vec F S49280x128 .i32) (σ a : ℕ) (k : ℕ) (_ : Unit) : sProp 𝕄G :=
  iprop((arg8.view.loc (c : Thread nD τ) ↦[arg8.view.set]{fullShare} X8) ∗ (arg9.view.loc (c : Thread nD τ) ↦[arg9.view.set]{fullShare} X9)
    ∗ (arg10.view.loc (c : Thread nD τ) ↦[arg10.view.set]{fullShare} X10)
    ∗ ∃ f, (arg11.view.loc (c : Thread nD τ) ↦[arg11.view.set]{fullShare} f)
      ∗ ⌜∀ y : S49280x128.Idx, arg11.view.read (Elt F) f y = wUpd (F := F) σ a k W G y⌝)

theorem step5 (arg1 : BitVec 32) (k1_h3 : k1_cond3 i = 1#1) (X8 : BufTy.Contents (Elt F) arg8.view.ty) (X9 : BufTy.Contents (Elt F) arg9.view.ty) (X10 : BufTy.Contents (Elt F) arg10.view.ty)
    (q : Vec F S813x1024 .i32) (s : Vec F S192x1024 .bf16) (G : Vec F S49280x128 .i32)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (k : Fin k1_t5_loop.trips) :
    invW (F := F) c arg8 arg9 arg10 arg11 X8 X9 X10 (wTile (F := F) (arg8.view.read (Elt F) X8) q s) G ((i 0).val % 2) (308 * (i 1).val) k ()
      ⊢ wp frame (wpE (defs₀ (F := F)) 𝒱 (c : Thread nD τ) bd) E (k1_t5_body (F := F) i arg2 harg2 arg3 harg3 arg4 harg4 arg5 harg5 arg6 harg6 arg7 harg7 arg8 harg8 arg9 harg9 arg10 harg10 arg11 harg11 arg1 k1_h3 k ())
          (fun _ => invW (F := F) c arg8 arg9 arg10 arg11 X8 X9 X10 (wTile (F := F) (arg8.view.read (Elt F) X8) q s) G ((i 0).val % 2) (308 * (i 1).val) (k + 1) ()) := by
  unfold k1_t5_body
  sl_open_parts
  have r1 : (i 1).val < 10 := (i 1).isLt
  have hk : k.val < 308 := Nat.lt_of_lt_of_le k.isLt k1_t5_abs.2.1
  have hr1 : ∀ x, arg8.view.readAt (Elt F) (Rect.unit (s := S6160) (k1_off22 i k) S1.size (k1_off22_inb i k k1_h3)).toLoadRect X8 x
      = arg8.view.read (Elt F) X8 (ValueIdx.ix1 ⟨2 * (308 * (i 1).val + k.val), by omega⟩) := fun x =>
    readAt_cell _ _ _ ⟨2 * (308 * (i 1).val + k.val), by omega⟩ (by rw [k1_off22_eq]; show 616 * (i 1).val + 2 * k.val = 2 * (308 * (i 1).val + k.val); omega) x
  have hr2 : ∀ x, arg8.view.readAt (Elt F) (Rect.unit (s := S6160) (k1_off26 i k) S1.size (k1_off26_inb i k k1_h3)).toLoadRect X8 x
      = arg8.view.read (Elt F) X8 (ValueIdx.ix1 ⟨2 * (308 * (i 1).val + k.val) + 1, by omega⟩) := fun x =>
    readAt_cell _ _ _ ⟨2 * (308 * (i 1).val + k.val) + 1, by omega⟩ (by rw [k1_off26_eq]; show 616 * (i 1).val + 2 * k.val + 1 = 2 * (308 * (i 1).val + k.val) + 1; omega) x
  have hok1 : ∀ x, DOk (arg8.view.readAt (Elt F) (Rect.unit (s := S6160) (k1_off22 i k) S1.size (k1_off22_inb i k k1_h3)).toLoadRect X8 x) := fun x => by
    rw [hr1 x]; exact h8 _
  have hok2 : ∀ x, DOk (arg8.view.readAt (Elt F) (Rect.unit (s := S6160) (k1_off26 i k) S1.size (k1_off26_inb i k k1_h3)).toLoadRect X8 x) := fun x => by
    rw [hr2 x]; exact h8 _
  have hchk1 : ∀ x, k1_chk2 i (arg8.view.readAt (Elt F) (Rect.unit (s := S6160) (k1_off22 i k) S1.size (k1_off22_inb i k k1_h3)).toLoadRect X8 x) := fun x =>
    ⟨fun _ => off23_inb _ (hok1 x), fun _ => off24_inb _ (hok1 x), fun _ => off25_inb _ (hok1 x)⟩
  have hchk2 : ∀ x, k1_chk3 i (arg8.view.readAt (Elt F) (Rect.unit (s := S6160) (k1_off26 i k) S1.size (k1_off26_inb i k k1_h3)).toLoadRect X8 x) := fun x =>
    ⟨fun _ => off23_inb _ (hok2 x), fun _ => off24_inb _ (hok2 x), fun _ => off25_inb _ (hok2 x)⟩
  iintro ⟨H8, H9, H10, ⟨%f, H11, %h11⟩⟩
  sl_exec (disch := first | exact hchk1 _ | exact hchk2 _)
  sl_step
  isplitl [H8]; · iexact H8
  isplitl [H9]; · iexact H9
  isplitl [H10]; · iexact H10
  iexists _
  isplitl [H11]; · iexact H11
  ipureintro
  refine wUpd_step _ _ ((i 0).val % 2) (308 * (i 1).val) k.val (Nat.mod_lt _ (by decide)) (by omega) _ _ (by rw [k1_off30_eq]; exact vec3 (by omega)) _ _ _ (fun x => ?_) h11
  exact pair_value arg9.view X9 arg10.view X10 _ q s h9 h10 ((i 0).val % 2) (308 * (i 1).val + k.val) (Nat.mod_lt _ (by decide)) (by omega) _ _ (hok1 _) (hok2 _)
    (hr1 _) (hr2 _) _ _ _ _ _ _ _ _ (by rw [k1_off30_eq]; exact vec3 (by omega)) x

theorem step6 (arg1 v8 : BitVec 32) (k1_h4 : k1_cond4 i = 1#1) (X8 : BufTy.Contents (Elt F) arg8.view.ty) (X9 : BufTy.Contents (Elt F) arg9.view.ty) (X10 : BufTy.Contents (Elt F) arg10.view.ty)
    (q : Vec F S813x1024 .i32) (s : Vec F S192x1024 .bf16) (G : Vec F S49280x128 .i32)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (k : Fin k1_t6_loop.trips) :
    invW (F := F) c arg8 arg9 arg10 arg11 X8 X9 X10 (wTile (F := F) (arg8.view.read (Elt F) X8) q s) G ((i 0).val % 2) (308 * (i 1).val) k ()
      ⊢ wp frame (wpE (defs₀ (F := F)) 𝒱 (c : Thread nD τ) bd) E (k1_t6_body (F := F) i arg2 harg2 arg3 harg3 arg4 harg4 arg5 harg5 arg6 harg6 arg7 harg7 arg8 harg8 arg9 harg9 arg10 harg10 arg11 harg11 arg1 v8 k1_h4 k ())
          (fun _ => invW (F := F) c arg8 arg9 arg10 arg11 X8 X9 X10 (wTile (F := F) (arg8.view.read (Elt F) X8) q s) G ((i 0).val % 2) (308 * (i 1).val) (k + 1) ()) := by
  unfold k1_t6_body
  sl_open_parts
  have r1 : (i 1).val < 10 := (i 1).isLt
  have hk : k.val < 77 := Nat.lt_of_lt_of_le k.isLt k1_t6_abs.2.1
  have hr1 : ∀ x, arg8.view.readAt (Elt F) (Rect.unit (s := S6160) (k1_off31 i k) S1.size (k1_off31_inb i k k1_h4)).toLoadRect X8 x
      = arg8.view.read (Elt F) X8 (ValueIdx.ix1 ⟨2 * (308 * (i 1).val + k.val), by omega⟩) := fun x =>
    readAt_cell _ _ _ ⟨2 * (308 * (i 1).val + k.val), by omega⟩ (by rw [k1_off31_eq]; show 616 * (i 1).val + 2 * k.val = 2 * (308 * (i 1).val + k.val); omega) x
  have hr2 : ∀ x, arg8.view.readAt (Elt F) (Rect.unit (s := S6160) (k1_off35 i k) S1.size (k1_off35_inb i k k1_h4)).toLoadRect X8 x
      = arg8.view.read (Elt F) X8 (ValueIdx.ix1 ⟨2 * (308 * (i 1).val + k.val) + 1, by omega⟩) := fun x =>
    readAt_cell _ _ _ ⟨2 * (308 * (i 1).val + k.val) + 1, by omega⟩ (by rw [k1_off35_eq]; show 616 * (i 1).val + 2 * k.val + 1 = 2 * (308 * (i 1).val + k.val) + 1; omega) x
  have hok1 : ∀ x, DOk (arg8.view.readAt (Elt F) (Rect.unit (s := S6160) (k1_off31 i k) S1.size (k1_off31_inb i k k1_h4)).toLoadRect X8 x) := fun x => by
    rw [hr1 x]; exact h8 _
  have hok2 : ∀ x, DOk (arg8.view.readAt (Elt F) (Rect.unit (s := S6160) (k1_off35 i k) S1.size (k1_off35_inb i k k1_h4)).toLoadRect X8 x) := fun x => by
    rw [hr2 x]; exact h8 _
  have hchk1 : ∀ x, k1_chk4 i (arg8.view.readAt (Elt F) (Rect.unit (s := S6160) (k1_off31 i k) S1.size (k1_off31_inb i k k1_h4)).toLoadRect X8 x) := fun x =>
    ⟨fun _ => off23_inb _ (hok1 x), fun _ => off24_inb _ (hok1 x), fun _ => off25_inb _ (hok1 x)⟩
  have hchk2 : ∀ x, k1_chk5 i (arg8.view.readAt (Elt F) (Rect.unit (s := S6160) (k1_off35 i k) S1.size (k1_off35_inb i k k1_h4)).toLoadRect X8 x) := fun x =>
    ⟨fun _ => off23_inb _ (hok2 x), fun _ => off24_inb _ (hok2 x), fun _ => off25_inb _ (hok2 x)⟩
  iintro ⟨H8, H9, H10, ⟨%f, H11, %h11⟩⟩
  sl_exec (disch := first | exact hchk1 _ | exact hchk2 _)
  sl_step
  isplitl [H8]; · iexact H8
  isplitl [H9]; · iexact H9
  isplitl [H10]; · iexact H10
  iexists _
  isplitl [H11]; · iexact H11
  ipureintro
  refine wUpd_step _ _ ((i 0).val % 2) (308 * (i 1).val) k.val (Nat.mod_lt _ (by decide)) (by omega) _ _ (by rw [k1_off39_eq]; exact vec3 (by omega)) _ _ _ (fun x => ?_) h11
  exact pair_value arg9.view X9 arg10.view X10 _ q s h9 h10 ((i 0).val % 2) (308 * (i 1).val + k.val) (Nat.mod_lt _ (by decide)) (by omega) _ _ (hok1 _) (hok2 _)
    (hr1 _) (hr2 _) _ _ _ _ _ _ _ _ (by rw [k1_off39_eq]; exact vec3 (by omega)) x

theorem step7 (arg1 v8 : BitVec 32) (k1_h4 : k1_cond4 i = 1#1) (X8 : BufTy.Contents (Elt F) arg8.view.ty) (X9 : BufTy.Contents (Elt F) arg9.view.ty) (X10 : BufTy.Contents (Elt F) arg10.view.ty)
    (q : Vec F S813x1024 .i32) (s : Vec F S192x1024 .bf16) (G : Vec F S49280x128 .i32)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (k : Fin k1_t7_loop.trips) :
    invW (F := F) c arg8 arg9 arg10 arg11 X8 X9 X10 (wTile (F := F) (arg8.view.read (Elt F) X8) q s) G ((i 0).val % 2) (308 * (i 1).val + 77) k ()
      ⊢ wp frame (wpE (defs₀ (F := F)) 𝒱 (c : Thread nD τ) bd) E (k1_t7_body (F := F) i arg2 harg2 arg3 harg3 arg4 harg4 arg5 harg5 arg6 harg6 arg7 harg7 arg8 harg8 arg9 harg9 arg10 harg10 arg11 harg11 arg1 v8 k1_h4 k ())
          (fun _ => invW (F := F) c arg8 arg9 arg10 arg11 X8 X9 X10 (wTile (F := F) (arg8.view.read (Elt F) X8) q s) G ((i 0).val % 2) (308 * (i 1).val + 77) (k + 1) ()) := by
  unfold k1_t7_body
  sl_open_parts
  have r1 : (i 1).val < 10 := (i 1).isLt
  have hk : k.val < 77 := Nat.lt_of_lt_of_le k.isLt k1_t7_abs.2.1
  have hr1 : ∀ x, arg8.view.readAt (Elt F) (Rect.unit (s := S6160) (k1_off41 i k) S1.size (k1_off41_inb i k k1_h4)).toLoadRect X8 x
      = arg8.view.read (Elt F) X8 (ValueIdx.ix1 ⟨2 * (308 * (i 1).val + 77 + k.val), by omega⟩) := fun x =>
    readAt_cell _ _ _ ⟨2 * (308 * (i 1).val + 77 + k.val), by omega⟩ (by rw [k1_off41_eq]; show 616 * (i 1).val + 2 * k.val + 154 = 2 * (308 * (i 1).val + 77 + k.val); omega) x
  have hr2 : ∀ x, arg8.view.readAt (Elt F) (Rect.unit (s := S6160) (k1_off45 i k) S1.size (k1_off45_inb i k k1_h4)).toLoadRect X8 x
      = arg8.view.read (Elt F) X8 (ValueIdx.ix1 ⟨2 * (308 * (i 1).val + 77 + k.val) + 1, by omega⟩) := fun x =>
    readAt_cell _ _ _ ⟨2 * (308 * (i 1).val + 77 + k.val) + 1, by omega⟩ (by rw [k1_off45_eq]; show 616 * (i 1).val + 2 * k.val + 155 = 2 * (308 * (i 1).val + 77 + k.val) + 1; omega) x
  have hok1 : ∀ x, DOk (arg8.view.readAt (Elt F) (Rect.unit (s := S6160) (k1_off41 i k) S1.size (k1_off41_inb i k k1_h4)).toLoadRect X8 x) := fun x => by
    rw [hr1 x]; exact h8 _
  have hok2 : ∀ x, DOk (arg8.view.readAt (Elt F) (Rect.unit (s := S6160) (k1_off45 i k) S1.size (k1_off45_inb i k k1_h4)).toLoadRect X8 x) := fun x => by
    rw [hr2 x]; exact h8 _
  have hchk1 : ∀ x, k1_chk6 i (arg8.view.readAt (Elt F) (Rect.unit (s := S6160) (k1_off41 i k) S1.size (k1_off41_inb i k k1_h4)).toLoadRect X8 x) := fun x =>
    ⟨fun _ => off23_inb _ (hok1 x), fun _ => off24_inb _ (hok1 x), fun _ => off25_inb _ (hok1 x)⟩
  have hchk2 : ∀ x, k1_chk7 i (arg8.view.readAt (Elt F) (Rect.unit (s := S6160) (k1_off45 i k) S1.size (k1_off45_inb i k k1_h4)).toLoadRect X8 x) := fun x =>
    ⟨fun _ => off23_inb _ (hok2 x), fun _ => off24_inb _ (hok2 x), fun _ => off25_inb _ (hok2 x)⟩
  iintro ⟨H8, H9, H10, ⟨%f, H11, %h11⟩⟩
  sl_exec (disch := first | exact hchk1 _ | exact hchk2 _)
  sl_step
  isplitl [H8]; · iexact H8
  isplitl [H9]; · iexact H9
  isplitl [H10]; · iexact H10
  iexists _
  isplitl [H11]; · iexact H11
  ipureintro
  refine wUpd_step _ _ ((i 0).val % 2) (308 * (i 1).val + 77) k.val (Nat.mod_lt _ (by decide)) (by omega) _ _ (by rw [k1_off49_eq]; exact vec3 (by omega)) _ _ _ (fun x => ?_) h11
  exact pair_value arg9.view X9 arg10.view X10 _ q s h9 h10 ((i 0).val % 2) (308 * (i 1).val + 77 + k.val) (Nat.mod_lt _ (by decide)) (by omega) _ _ (hok1 _) (hok2 _)
    (hr1 _) (hr2 _) _ _ _ _ _ _ _ _ (by rw [k1_off49_eq]; exact vec3 (by omega)) x

theorem step8 (arg1 v8 : BitVec 32) (v41 v46 : FVec F S6144x128 .bf16) (k1_h4 : k1_cond4 i = 1#1) (X8 : BufTy.Contents (Elt F) arg8.view.ty) (X9 : BufTy.Contents (Elt F) arg9.view.ty) (X10 : BufTy.Contents (Elt F) arg10.view.ty)
    (q : Vec F S813x1024 .i32) (s : Vec F S192x1024 .bf16) (G : Vec F S49280x128 .i32)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (k : Fin k1_t8_loop.trips) :
    invW (F := F) c arg8 arg9 arg10 arg11 X8 X9 X10 (wTile (F := F) (arg8.view.read (Elt F) X8) q s) G ((i 0).val % 2) (308 * (i 1).val + 154) k ()
      ⊢ wp frame (wpE (defs₀ (F := F)) 𝒱 (c : Thread nD τ) bd) E (k1_t8_body (F := F) i arg2 harg2 arg3 harg3 arg4 harg4 arg5 harg5 arg6 harg6 arg7 harg7 arg8 harg8 arg9 harg9 arg10 harg10 arg11 harg11 arg1 v8 k1_h4 v41 v46 k ())
          (fun _ => invW (F := F) c arg8 arg9 arg10 arg11 X8 X9 X10 (wTile (F := F) (arg8.view.read (Elt F) X8) q s) G ((i 0).val % 2) (308 * (i 1).val + 154) (k + 1) ()) := by
  unfold k1_t8_body
  sl_open_parts
  have r1 : (i 1).val < 10 := (i 1).isLt
  have hk : k.val < 77 := Nat.lt_of_lt_of_le k.isLt k1_t8_abs.2.1
  have hr1 : ∀ x, arg8.view.readAt (Elt F) (Rect.unit (s := S6160) (k1_off50 i k) S1.size (k1_off50_inb i k k1_h4)).toLoadRect X8 x
      = arg8.view.read (Elt F) X8 (ValueIdx.ix1 ⟨2 * (308 * (i 1).val + 154 + k.val), by omega⟩) := fun x =>
    readAt_cell _ _ _ ⟨2 * (308 * (i 1).val + 154 + k.val), by omega⟩ (by rw [k1_off50_eq]; show 616 * (i 1).val + 2 * k.val + 308 = 2 * (308 * (i 1).val + 154 + k.val); omega) x
  have hr2 : ∀ x, arg8.view.readAt (Elt F) (Rect.unit (s := S6160) (k1_off54 i k) S1.size (k1_off54_inb i k k1_h4)).toLoadRect X8 x
      = arg8.view.read (Elt F) X8 (ValueIdx.ix1 ⟨2 * (308 * (i 1).val + 154 + k.val) + 1, by omega⟩) := fun x =>
    readAt_cell _ _ _ ⟨2 * (308 * (i 1).val + 154 + k.val) + 1, by omega⟩ (by rw [k1_off54_eq]; show 616 * (i 1).val + 2 * k.val + 309 = 2 * (308 * (i 1).val + 154 + k.val) + 1; omega) x
  have hok1 : ∀ x, DOk (arg8.view.readAt (Elt F) (Rect.unit (s := S6160) (k1_off50 i k) S1.size (k1_off50_inb i k k1_h4)).toLoadRect X8 x) := fun x => by
    rw [hr1 x]; exact h8 _
  have hok2 : ∀ x, DOk (arg8.view.readAt (Elt F) (Rect.unit (s := S6160) (k1_off54 i k) S1.size (k1_off54_inb i k k1_h4)).toLoadRect X8 x) := fun x => by
    rw [hr2 x]; exact h8 _
  have hchk1 : ∀ x, k1_chk8 i (arg8.view.readAt (Elt F) (Rect.unit (s := S6160) (k1_off50 i k) S1.size (k1_off50_inb i k k1_h4)).toLoadRect X8 x) := fun x =>
    ⟨fun _ => off23_inb _ (hok1 x), fun _ => off24_inb _ (hok1 x), fun _ => off25_inb _ (hok1 x)⟩
  have hchk2 : ∀ x, k1_chk9 i (arg8.view.readAt (Elt F) (Rect.unit (s := S6160) (k1_off54 i k) S1.size (k1_off54_inb i k k1_h4)).toLoadRect X8 x) := fun x =>
    ⟨fun _ => off23_inb _ (hok2 x), fun _ => off24_inb _ (hok2 x), fun _ => off25_inb _ (hok2 x)⟩
  iintro ⟨H8, H9, H10, ⟨%f, H11, %h11⟩⟩
  sl_exec (disch := first | exact hchk1 _ | exact hchk2 _)
  sl_step
  isplitl [H8]; · iexact H8
  isplitl [H9]; · iexact H9
  isplitl [H10]; · iexact H10
  iexists _
  isplitl [H11]; · iexact H11
  ipureintro
  refine wUpd_step _ _ ((i 0).val % 2) (308 * (i 1).val + 154) k.val (Nat.mod_lt _ (by decide)) (by omega) _ _ (by rw [k1_off58_eq]; exact vec3 (by omega)) _ _ _ (fun x => ?_) h11
  exact pair_value arg9.view X9 arg10.view X10 _ q s h9 h10 ((i 0).val % 2) (308 * (i 1).val + 154 + k.val) (Nat.mod_lt _ (by decide)) (by omega) _ _ (hok1 _) (hok2 _)
    (hr1 _) (hr2 _) _ _ _ _ _ _ _ _ (by rw [k1_off58_eq]; exact vec3 (by omega)) x

theorem step9 (arg1 v8 : BitVec 32) (v41 v46 : FVec F S6144x128 .bf16) (k1_h4 : k1_cond4 i = 1#1) (X8 : BufTy.Contents (Elt F) arg8.view.ty) (X9 : BufTy.Contents (Elt F) arg9.view.ty) (X10 : BufTy.Contents (Elt F) arg10.view.ty)
    (q : Vec F S813x1024 .i32) (s : Vec F S192x1024 .bf16) (G : Vec F S49280x128 .i32)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (k : Fin k1_t9_loop.trips) :
    invW (F := F) c arg8 arg9 arg10 arg11 X8 X9 X10 (wTile (F := F) (arg8.view.read (Elt F) X8) q s) G ((i 0).val % 2) (308 * (i 1).val + 231) k ()
      ⊢ wp frame (wpE (defs₀ (F := F)) 𝒱 (c : Thread nD τ) bd) E (k1_t9_body (F := F) i arg2 harg2 arg3 harg3 arg4 harg4 arg5 harg5 arg6 harg6 arg7 harg7 arg8 harg8 arg9 harg9 arg10 harg10 arg11 harg11 arg1 v8 k1_h4 v41 v46 k ())
          (fun _ => invW (F := F) c arg8 arg9 arg10 arg11 X8 X9 X10 (wTile (F := F) (arg8.view.read (Elt F) X8) q s) G ((i 0).val % 2) (308 * (i 1).val + 231) (k + 1) ()) := by
  unfold k1_t9_body
  sl_open_parts
  have r1 : (i 1).val < 10 := (i 1).isLt
  have hk : k.val < 77 := Nat.lt_of_lt_of_le k.isLt k1_t9_abs.2.1
  have hr1 : ∀ x, arg8.view.readAt (Elt F) (Rect.unit (s := S6160) (k1_off59 i k) S1.size (k1_off59_inb i k k1_h4)).toLoadRect X8 x
      = arg8.view.read (Elt F) X8 (ValueIdx.ix1 ⟨2 * (308 * (i 1).val + 231 + k.val), by omega⟩) := fun x =>
    readAt_cell _ _ _ ⟨2 * (308 * (i 1).val + 231 + k.val), by omega⟩ (by rw [k1_off59_eq]; show 616 * (i 1).val + 2 * k.val + 462 = 2 * (308 * (i 1).val + 231 + k.val); omega) x
  have hr2 : ∀ x, arg8.view.readAt (Elt F) (Rect.unit (s := S6160) (k1_off63 i k) S1.size (k1_off63_inb i k k1_h4)).toLoadRect X8 x
      = arg8.view.read (Elt F) X8 (ValueIdx.ix1 ⟨2 * (308 * (i 1).val + 231 + k.val) + 1, by omega⟩) := fun x =>
    readAt_cell _ _ _ ⟨2 * (308 * (i 1).val + 231 + k.val) + 1, by omega⟩ (by rw [k1_off63_eq]; show 616 * (i 1).val + 2 * k.val + 463 = 2 * (308 * (i 1).val + 231 + k.val) + 1; omega) x
  have hok1 : ∀ x, DOk (arg8.view.readAt (Elt F) (Rect.unit (s := S6160) (k1_off59 i k) S1.size (k1_off59_inb i k k1_h4)).toLoadRect X8 x) := fun x => by
    rw [hr1 x]; exact h8 _
  have hok2 : ∀ x, DOk (arg8.view.readAt (Elt F) (Rect.unit (s := S6160) (k1_off63 i k) S1.size (k1_off63_inb i k k1_h4)).toLoadRect X8 x) := fun x => by
    rw [hr2 x]; exact h8 _
  have hchk1 : ∀ x, k1_chk10 i (arg8.view.readAt (Elt F) (Rect.unit (s := S6160) (k1_off59 i k) S1.size (k1_off59_inb i k k1_h4)).toLoadRect X8 x) := fun x =>
    ⟨fun _ => off23_inb _ (hok1 x), fun _ => off24_inb _ (hok1 x), fun _ => off25_inb _ (hok1 x)⟩
  have hchk2 : ∀ x, k1_chk11 i (arg8.view.readAt (Elt F) (Rect.unit (s := S6160) (k1_off63 i k) S1.size (k1_off63_inb i k k1_h4)).toLoadRect X8 x) := fun x =>
    ⟨fun _ => off23_inb _ (hok2 x), fun _ => off24_inb _ (hok2 x), fun _ => off25_inb _ (hok2 x)⟩
  iintro ⟨H8, H9, H10, ⟨%f, H11, %h11⟩⟩
  sl_exec (disch := first | exact hchk1 _ | exact hchk2 _)
  sl_step
  isplitl [H8]; · iexact H8
  isplitl [H9]; · iexact H9
  isplitl [H10]; · iexact H10
  iexists _
  isplitl [H11]; · iexact H11
  ipureintro
  refine wUpd_step _ _ ((i 0).val % 2) (308 * (i 1).val + 231) k.val (Nat.mod_lt _ (by decide)) (by omega) _ _ (by rw [k1_off67_eq]; exact vec3 (by omega)) _ _ _ (fun x => ?_) h11
  exact pair_value arg9.view X9 arg10.view X10 _ q s h9 h10 ((i 0).val % 2) (308 * (i 1).val + 231 + k.val) (Nat.mod_lt _ (by decide)) (by omega) _ _ (hok1 _) (hok2 _)
    (hr1 _) (hr2 _) _ _ _ _ _ _ _ _ (by rw [k1_off67_eq]; exact vec3 (by omega)) x

end

end Cert.Kernel.Dq
-- ==== Proof.KLoopRuns.lean ====
module

public import proofs.«01_k».proof.Proof.KDequantLoop

@[expose] public section

set_option maxRecDepth 16384

noncomputable section

namespace Cert.Kernel.Dq

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [BitOps F]

local notation "𝕄G" => MT nD τ sig Unit (Elt F) ℕ (UR sig nD τ) ℕ

section
variable (𝒱 : Variants) (c : Dev nD) (bd : Option 𝒱.V) (E : Set ℕ) (i : grid1.Coords)
  (arg2 : Memref sig .tc .smem S6144 .i32) (harg2 : arg2.IsWhole) (arg3 : Memref sig .tc .smem S6144 .i32) (harg3 : arg3.IsWhole) (arg4 : Memref sig .tc .vmem S512x6144 .bf16) (harg4 : arg4.IsWhole) (arg5 : Memref sig .tc .vmem S813x1024 .i32) (harg5 : arg5.IsWhole) (arg6 : Memref sig .tc .vmem S192x1024 .bf16) (harg6 : arg6.IsWhole) (arg7 : Memref sig .tc .vmem S512x1024 .bf16) (harg7 : arg7.IsWhole) (arg8 : Memref sig .tc .smem S6160 .i32) (harg8 : arg8.IsWhole) (arg9 : Memref sig .tc .vmem S6504x128 .i32) (harg9 : arg9.IsWhole) (arg10 : Memref sig .tc .vmem S1536x128 .f32) (harg10 : arg10.IsWhole) (arg11 : Memref sig .tc .vmem S49280x128 .i32) (harg11 : arg11.IsWhole)

theorem trips1 : k1_t1_loop.trips = 6144 := by decide
theorem trips2 : k1_t2_loop.trips = 16 := by decide
theorem trips3 : k1_t3_loop.trips = 101 := by decide
theorem trips4 : k1_t4_loop.trips = 12 := by decide
theorem trips5 : k1_t5_loop.trips = 308 := by decide
theorem trips6 : k1_t6_loop.trips = 77 := by decide
theorem trips7 : k1_t7_loop.trips = 77 := by decide
theorem trips8 : k1_t8_loop.trips = 77 := by decide
theorem trips9 : k1_t9_loop.trips = 77 := by decide

theorem loop5 (arg1 : BitVec 32) (k1_h3 : k1_cond3 i = 1#1) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y)
    {β : Type} (kk : PUnit → Prog (TpuEff nD τ sig (Elt F) Λ₀ .tc) β) (Q : β → sProp 𝕄G) :
    iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x128.Idx, arg11.view.read (Elt F) f y = wUpd (F := F) ((i 0).val % 2) (308 * (i 1).val) 308 (wTile (F := F) (arg8.view.read (Elt F) X8) q s) (arg11.view.read (Elt F) X11) y⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t5_loop (k1_t5_ok i k1_h3) ⟨⟩ (k1_t5_body (F := F) i arg2 harg2 arg3 harg3 arg4 harg4 arg5 harg5 arg6 harg6 arg7 harg7 arg8 harg8 arg9 harg9 arg10 harg10 arg11 harg11 arg1 k1_h3) >>= kk) Q := by
  iintro ⟨H8, H9, H10, H11, HK⟩
  unfold Scf.Loop.for
  iapply (Scf.wp_for_bind frame (wpE (defs₀ (F := F)) 𝒱 (c : Thread nD τ) bd) E _ _ _ _ _ _
    (fun k u => invW (F := F) c arg8 arg9 arg10 arg11 X8 X9 X10 (wTile (F := F) (arg8.view.read (Elt F) X8) q s) (arg11.view.read (Elt F) X11) ((i 0).val % 2) (308 * (i 1).val) k u)
    (fun k _ => step5 (F := F) 𝒱 c bd E i arg2 harg2 arg3 harg3 arg4 harg4 arg5 harg5 arg6 harg6 arg7 harg7 arg8 harg8 arg9 harg9 arg10 harg10 arg11 harg11 arg1 k1_h3 X8 X9 X10 q s (arg11.view.read (Elt F) X11) h8 h9 h10 k)) $$ [H8 H9 H10 H11]
  · isplitl [H8]; · iexact H8
    isplitl [H9]; · iexact H9
    isplitl [H10]; · iexact H10
    iexists X11
    isplitl [H11]; · iexact H11
    ipureintro; intro y; rw [wUpd_zero]
  iintro %_ ⟨H8, H9, H10, ⟨%f, H11, %hf⟩⟩
  iapply HK $$ %f
  isplitl [H8]; · iexact H8
  isplitl [H9]; · iexact H9
  isplitl [H10]; · iexact H10
  isplitl [H11]; · iexact H11
  ipureintro
  have ht : Scf.trips k1_t5_loop.lb k1_t5_loop.ub k1_t5_loop.st = 308 := trips5
  rw [ht] at hf
  exact hf

theorem loop6 (arg1 v8 : BitVec 32) (k1_h4 : k1_cond4 i = 1#1) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y)
    {β : Type} (kk : PUnit → Prog (TpuEff nD τ sig (Elt F) Λ₀ .tc) β) (Q : β → sProp 𝕄G) :
    iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x128.Idx, arg11.view.read (Elt F) f y = wUpd (F := F) ((i 0).val % 2) (308 * (i 1).val) 77 (wTile (F := F) (arg8.view.read (Elt F) X8) q s) (arg11.view.read (Elt F) X11) y⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t6_loop (k1_t6_ok i k1_h4) ⟨⟩ (k1_t6_body (F := F) i arg2 harg2 arg3 harg3 arg4 harg4 arg5 harg5 arg6 harg6 arg7 harg7 arg8 harg8 arg9 harg9 arg10 harg10 arg11 harg11 arg1 v8 k1_h4) >>= kk) Q := by
  iintro ⟨H8, H9, H10, H11, HK⟩
  unfold Scf.Loop.for
  iapply (Scf.wp_for_bind frame (wpE (defs₀ (F := F)) 𝒱 (c : Thread nD τ) bd) E _ _ _ _ _ _
    (fun k u => invW (F := F) c arg8 arg9 arg10 arg11 X8 X9 X10 (wTile (F := F) (arg8.view.read (Elt F) X8) q s) (arg11.view.read (Elt F) X11) ((i 0).val % 2) (308 * (i 1).val) k u)
    (fun k _ => step6 (F := F) 𝒱 c bd E i arg2 harg2 arg3 harg3 arg4 harg4 arg5 harg5 arg6 harg6 arg7 harg7 arg8 harg8 arg9 harg9 arg10 harg10 arg11 harg11 arg1 v8 k1_h4 X8 X9 X10 q s (arg11.view.read (Elt F) X11) h8 h9 h10 k)) $$ [H8 H9 H10 H11]
  · isplitl [H8]; · iexact H8
    isplitl [H9]; · iexact H9
    isplitl [H10]; · iexact H10
    iexists X11
    isplitl [H11]; · iexact H11
    ipureintro; intro y; rw [wUpd_zero]
  iintro %_ ⟨H8, H9, H10, ⟨%f, H11, %hf⟩⟩
  iapply HK $$ %f
  isplitl [H8]; · iexact H8
  isplitl [H9]; · iexact H9
  isplitl [H10]; · iexact H10
  isplitl [H11]; · iexact H11
  ipureintro
  have ht : Scf.trips k1_t6_loop.lb k1_t6_loop.ub k1_t6_loop.st = 77 := trips6
  rw [ht] at hf
  exact hf

theorem loop7 (arg1 v8 : BitVec 32) (k1_h4 : k1_cond4 i = 1#1) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y)
    {β : Type} (kk : PUnit → Prog (TpuEff nD τ sig (Elt F) Λ₀ .tc) β) (Q : β → sProp 𝕄G) :
    iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x128.Idx, arg11.view.read (Elt F) f y = wUpd (F := F) ((i 0).val % 2) (308 * (i 1).val + 77) 77 (wTile (F := F) (arg8.view.read (Elt F) X8) q s) (arg11.view.read (Elt F) X11) y⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t7_loop (k1_t7_ok i k1_h4) ⟨⟩ (k1_t7_body (F := F) i arg2 harg2 arg3 harg3 arg4 harg4 arg5 harg5 arg6 harg6 arg7 harg7 arg8 harg8 arg9 harg9 arg10 harg10 arg11 harg11 arg1 v8 k1_h4) >>= kk) Q := by
  iintro ⟨H8, H9, H10, H11, HK⟩
  unfold Scf.Loop.for
  iapply (Scf.wp_for_bind frame (wpE (defs₀ (F := F)) 𝒱 (c : Thread nD τ) bd) E _ _ _ _ _ _
    (fun k u => invW (F := F) c arg8 arg9 arg10 arg11 X8 X9 X10 (wTile (F := F) (arg8.view.read (Elt F) X8) q s) (arg11.view.read (Elt F) X11) ((i 0).val % 2) (308 * (i 1).val + 77) k u)
    (fun k _ => step7 (F := F) 𝒱 c bd E i arg2 harg2 arg3 harg3 arg4 harg4 arg5 harg5 arg6 harg6 arg7 harg7 arg8 harg8 arg9 harg9 arg10 harg10 arg11 harg11 arg1 v8 k1_h4 X8 X9 X10 q s (arg11.view.read (Elt F) X11) h8 h9 h10 k)) $$ [H8 H9 H10 H11]
  · isplitl [H8]; · iexact H8
    isplitl [H9]; · iexact H9
    isplitl [H10]; · iexact H10
    iexists X11
    isplitl [H11]; · iexact H11
    ipureintro; intro y; rw [wUpd_zero]
  iintro %_ ⟨H8, H9, H10, ⟨%f, H11, %hf⟩⟩
  iapply HK $$ %f
  isplitl [H8]; · iexact H8
  isplitl [H9]; · iexact H9
  isplitl [H10]; · iexact H10
  isplitl [H11]; · iexact H11
  ipureintro
  have ht : Scf.trips k1_t7_loop.lb k1_t7_loop.ub k1_t7_loop.st = 77 := trips7
  rw [ht] at hf
  exact hf

theorem loop8 (arg1 v8 : BitVec 32) (v41 v46 : FVec F S6144x128 .bf16) (k1_h4 : k1_cond4 i = 1#1) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y)
    {β : Type} (kk : PUnit → Prog (TpuEff nD τ sig (Elt F) Λ₀ .tc) β) (Q : β → sProp 𝕄G) :
    iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x128.Idx, arg11.view.read (Elt F) f y = wUpd (F := F) ((i 0).val % 2) (308 * (i 1).val + 154) 77 (wTile (F := F) (arg8.view.read (Elt F) X8) q s) (arg11.view.read (Elt F) X11) y⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t8_loop (k1_t8_ok i k1_h4) ⟨⟩ (k1_t8_body (F := F) i arg2 harg2 arg3 harg3 arg4 harg4 arg5 harg5 arg6 harg6 arg7 harg7 arg8 harg8 arg9 harg9 arg10 harg10 arg11 harg11 arg1 v8 k1_h4 v41 v46) >>= kk) Q := by
  iintro ⟨H8, H9, H10, H11, HK⟩
  unfold Scf.Loop.for
  iapply (Scf.wp_for_bind frame (wpE (defs₀ (F := F)) 𝒱 (c : Thread nD τ) bd) E _ _ _ _ _ _
    (fun k u => invW (F := F) c arg8 arg9 arg10 arg11 X8 X9 X10 (wTile (F := F) (arg8.view.read (Elt F) X8) q s) (arg11.view.read (Elt F) X11) ((i 0).val % 2) (308 * (i 1).val + 154) k u)
    (fun k _ => step8 (F := F) 𝒱 c bd E i arg2 harg2 arg3 harg3 arg4 harg4 arg5 harg5 arg6 harg6 arg7 harg7 arg8 harg8 arg9 harg9 arg10 harg10 arg11 harg11 arg1 v8 v41 v46 k1_h4 X8 X9 X10 q s (arg11.view.read (Elt F) X11) h8 h9 h10 k)) $$ [H8 H9 H10 H11]
  · isplitl [H8]; · iexact H8
    isplitl [H9]; · iexact H9
    isplitl [H10]; · iexact H10
    iexists X11
    isplitl [H11]; · iexact H11
    ipureintro; intro y; rw [wUpd_zero]
  iintro %_ ⟨H8, H9, H10, ⟨%f, H11, %hf⟩⟩
  iapply HK $$ %f
  isplitl [H8]; · iexact H8
  isplitl [H9]; · iexact H9
  isplitl [H10]; · iexact H10
  isplitl [H11]; · iexact H11
  ipureintro
  have ht : Scf.trips k1_t8_loop.lb k1_t8_loop.ub k1_t8_loop.st = 77 := trips8
  rw [ht] at hf
  exact hf

theorem loop9 (arg1 v8 : BitVec 32) (v41 v46 : FVec F S6144x128 .bf16) (k1_h4 : k1_cond4 i = 1#1) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y)
    {β : Type} (kk : PUnit → Prog (TpuEff nD τ sig (Elt F) Λ₀ .tc) β) (Q : β → sProp 𝕄G) :
    iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x128.Idx, arg11.view.read (Elt F) f y = wUpd (F := F) ((i 0).val % 2) (308 * (i 1).val + 231) 77 (wTile (F := F) (arg8.view.read (Elt F) X8) q s) (arg11.view.read (Elt F) X11) y⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t9_loop (k1_t9_ok i k1_h4) ⟨⟩ (k1_t9_body (F := F) i arg2 harg2 arg3 harg3 arg4 harg4 arg5 harg5 arg6 harg6 arg7 harg7 arg8 harg8 arg9 harg9 arg10 harg10 arg11 harg11 arg1 v8 k1_h4 v41 v46) >>= kk) Q := by
  iintro ⟨H8, H9, H10, H11, HK⟩
  unfold Scf.Loop.for
  iapply (Scf.wp_for_bind frame (wpE (defs₀ (F := F)) 𝒱 (c : Thread nD τ) bd) E _ _ _ _ _ _
    (fun k u => invW (F := F) c arg8 arg9 arg10 arg11 X8 X9 X10 (wTile (F := F) (arg8.view.read (Elt F) X8) q s) (arg11.view.read (Elt F) X11) ((i 0).val % 2) (308 * (i 1).val + 231) k u)
    (fun k _ => step9 (F := F) 𝒱 c bd E i arg2 harg2 arg3 harg3 arg4 harg4 arg5 harg5 arg6 harg6 arg7 harg7 arg8 harg8 arg9 harg9 arg10 harg10 arg11 harg11 arg1 v8 v41 v46 k1_h4 X8 X9 X10 q s (arg11.view.read (Elt F) X11) h8 h9 h10 k)) $$ [H8 H9 H10 H11]
  · isplitl [H8]; · iexact H8
    isplitl [H9]; · iexact H9
    isplitl [H10]; · iexact H10
    iexists X11
    isplitl [H11]; · iexact H11
    ipureintro; intro y; rw [wUpd_zero]
  iintro %_ ⟨H8, H9, H10, ⟨%f, H11, %hf⟩⟩
  iapply HK $$ %f
  isplitl [H8]; · iexact H8
  isplitl [H9]; · iexact H9
  isplitl [H10]; · iexact H10
  isplitl [H11]; · iexact H11
  ipureintro
  have ht : Scf.trips k1_t9_loop.lb k1_t9_loop.ub k1_t9_loop.st = 77 := trips9
  rw [ht] at hf
  exact hf

theorem loop1 (k1_h1 : k1_cond1 i = 1#1) (X2 : BufTy.Contents (Elt F) arg2.view.ty) (X3 : BufTy.Contents (Elt F) arg3.view.ty) (X8 : BufTy.Contents (Elt F) arg8.view.ty)
    (hP : PermOk (F := F) (arg2.view.read (Elt F) X2))
    {β : Type} (kk : PUnit → Prog (TpuEff nD τ sig (Elt F) Λ₀ .tc) β) (Q : β → sProp 𝕄G) :
    iprop((arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} X8)
      ∗ (∀ f, iprop((arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} f)
          ∗ ⌜Scattered (F := F) (arg2.view.read (Elt F) X2) (arg3.view.read (Elt F) X3) 6144 (arg8.view.read (Elt F) f)⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t1_loop (k1_t1_ok i k1_h1) ⟨⟩ (k1_t1_body (F := F) i arg2 harg2 arg3 harg3 arg4 harg4 arg5 harg5 arg6 harg6 arg7 harg7 arg8 harg8 arg9 harg9 arg10 harg10 arg11 harg11 k1_h1) >>= kk) Q := by
  iintro ⟨H2, H3, H8, HK⟩
  unfold Scf.Loop.for
  iapply (Scf.wp_for_bind frame (wpE (defs₀ (F := F)) 𝒱 (c : Thread nD τ) bd) E _ _ _ _ _ _
    (fun k u => inv1 (F := F) c arg2 arg3 arg8 X2 X3 k u)
    (fun k _ => step1 (F := F) 𝒱 c bd E i arg2 harg2 arg3 harg3 arg4 harg4 arg5 harg5 arg6 harg6 arg7 harg7 arg8 harg8 arg9 harg9 arg10 harg10 arg11 harg11 k1_h1 X2 X3 hP k)) $$ [H2 H3 H8]
  · isplitl [H2]; · iexact H2
    isplitl [H3]; · iexact H3
    iexists X8
    isplitl [H8]; · iexact H8
    ipureintro; intro r hr; exact absurd hr (Nat.not_lt_zero _)
  iintro %_ ⟨H2, H3, ⟨%f, H8, %hf⟩⟩
  iapply HK $$ %f
  isplitl [H2]; · iexact H2
  isplitl [H3]; · iexact H3
  isplitl [H8]; · iexact H8
  ipureintro
  have ht : Scf.trips k1_t1_loop.lb k1_t1_loop.ub k1_t1_loop.st = 6144 := trips1
  rw [ht] at hf
  exact hf

theorem loop2 (k1_h1 : k1_cond1 i = 1#1) (X2 : BufTy.Contents (Elt F) arg2.view.ty) (X3 : BufTy.Contents (Elt F) arg3.view.ty) (X8 : BufTy.Contents (Elt F) arg8.view.ty)
    (hP : PermOk (F := F) (arg2.view.read (Elt F) X2))
    (hS : Scattered (F := F) (arg2.view.read (Elt F) X2) (arg3.view.read (Elt F) X3) 6144 (arg8.view.read (Elt F) X8))
    {β : Type} (kk : PUnit → Prog (TpuEff nD τ sig (Elt F) Λ₀ .tc) β) (Q : β → sProp 𝕄G) :
    iprop((arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} X8)
      ∗ (∀ f, iprop((arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} f)
          ∗ ⌜Scattered (F := F) (arg2.view.read (Elt F) X2) (arg3.view.read (Elt F) X3) 6144 (arg8.view.read (Elt F) f)
            ∧ Padded (F := F) (arg3.view.read (Elt F) X3) 16 (arg8.view.read (Elt F) f)⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t2_loop (k1_t2_ok i k1_h1) ⟨⟩ (k1_t2_body (F := F) i arg2 harg2 arg3 harg3 arg4 harg4 arg5 harg5 arg6 harg6 arg7 harg7 arg8 harg8 arg9 harg9 arg10 harg10 arg11 harg11 k1_h1) >>= kk) Q := by
  iintro ⟨H2, H3, H8, HK⟩
  unfold Scf.Loop.for
  iapply (Scf.wp_for_bind frame (wpE (defs₀ (F := F)) 𝒱 (c : Thread nD τ) bd) E _ _ _ _ _ _
    (fun k u => inv2 (F := F) c arg2 arg3 arg8 X2 X3 k u)
    (fun k _ => step2 (F := F) 𝒱 c bd E i arg2 harg2 arg3 harg3 arg4 harg4 arg5 harg5 arg6 harg6 arg7 harg7 arg8 harg8 arg9 harg9 arg10 harg10 arg11 harg11 k1_h1 X2 X3 hP k)) $$ [H2 H3 H8]
  · isplitl [H2]; · iexact H2
    isplitl [H3]; · iexact H3
    iexists X8
    isplitl [H8]; · iexact H8
    ipureintro; exact ⟨hS, fun p h1 h2 => absurd h2 (by omega)⟩
  iintro %_ ⟨H2, H3, ⟨%f, H8, %hf⟩⟩
  iapply HK $$ %f
  isplitl [H2]; · iexact H2
  isplitl [H3]; · iexact H3
  isplitl [H8]; · iexact H8
  ipureintro
  have ht : Scf.trips k1_t2_loop.lb k1_t2_loop.ub k1_t2_loop.st = 16 := trips2
  rw [ht] at hf
  exact hf

theorem loop3 (k1_h2 : k1_cond2 i = 1#1) (X5 : BufTy.Contents (Elt F) arg5.view.ty) (X9 : BufTy.Contents (Elt F) arg9.view.ty)
    {β : Type} (kk : PUnit → Prog (TpuEff nD τ sig (Elt F) Λ₀ .tc) β) (Q : β → sProp 𝕄G) :
    iprop((arg5.view.loc (c : Thread nD τ) ↦[arg5.view.set]{fullShare} X5) ∗ (arg9.view.loc (c : Thread nD τ) ↦[arg9.view.set]{fullShare} X9)
      ∗ (∀ f, iprop((arg5.view.loc (c : Thread nD τ) ↦[arg5.view.set]{fullShare} X5) ∗ (arg9.view.loc (c : Thread nD τ) ↦[arg9.view.set]{fullShare} f)
          ∗ ⌜∀ y : S6504x128.Idx, (y 0).val < 6464 → arg9.view.read (Elt F) f y = spreadQ (F := F) (arg5.view.read (Elt F) X5) y⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t3_loop (k1_t3_ok i k1_h2) ⟨⟩ (k1_t3_body (F := F) i arg2 harg2 arg3 harg3 arg4 harg4 arg5 harg5 arg6 harg6 arg7 harg7 arg8 harg8 arg9 harg9 arg10 harg10 arg11 harg11 k1_h2) >>= kk) Q := by
  iintro ⟨HA, HB, HK⟩
  unfold Scf.Loop.for
  iapply (Scf.wp_for_bind frame (wpE (defs₀ (F := F)) 𝒱 (c : Thread nD τ) bd) E _ _ _ _ _ _
    (fun k u => inv3 (F := F) c arg5 arg9 X5 k u)
    (fun k _ => step3 (F := F) 𝒱 c bd E i arg2 harg2 arg3 harg3 arg4 harg4 arg5 harg5 arg6 harg6 arg7 harg7 arg8 harg8 arg9 harg9 arg10 harg10 arg11 harg11 k1_h2 X5 k)) $$ [HA HB]
  · isplitl [HA]; · iexact HA
    iexists X9
    isplitl [HB]; · iexact HB
    ipureintro; intro y hy; exact absurd hy (Nat.not_lt_zero _)
  iintro %_ ⟨HA, ⟨%f, HB, %hf⟩⟩
  iapply HK $$ %f
  isplitl [HA]; · iexact HA
  isplitl [HB]; · iexact HB
  ipureintro
  have ht : Scf.trips k1_t3_loop.lb k1_t3_loop.ub k1_t3_loop.st = 101 := trips3
  rw [ht] at hf
  exact hf

theorem loop4 (k1_h2 : k1_cond2 i = 1#1) (X6 : BufTy.Contents (Elt F) arg6.view.ty) (X10 : BufTy.Contents (Elt F) arg10.view.ty)
    {β : Type} (kk : PUnit → Prog (TpuEff nD τ sig (Elt F) Λ₀ .tc) β) (Q : β → sProp 𝕄G) :
    iprop((arg6.view.loc (c : Thread nD τ) ↦[arg6.view.set]{fullShare} X6) ∗ (arg10.view.loc (c : Thread nD τ) ↦[arg10.view.set]{fullShare} X10)
      ∗ (∀ f, iprop((arg6.view.loc (c : Thread nD τ) ↦[arg6.view.set]{fullShare} X6) ∗ (arg10.view.loc (c : Thread nD τ) ↦[arg10.view.set]{fullShare} f)
          ∗ ⌜∀ y : S1536x128.Idx, (y 0).val < 1536 → arg10.view.read (Elt F) f y = spreadS (F := F) (arg6.view.read (Elt F) X6) y⌝)
        -∗ wp frame (wpE (defs₀ (F := F)) 𝒱 (c : Thread nD τ) bd) E (kk ⟨⟩) Q))
      ⊢ wp frame (wpE (defs₀ (F := F)) 𝒱 (c : Thread nD τ) bd) E (Scf.Loop.for k1_t4_loop (k1_t4_ok i k1_h2) ⟨⟩ (k1_t4_body (F := F) i arg2 harg2 arg3 harg3 arg4 harg4 arg5 harg5 arg6 harg6 arg7 harg7 arg8 harg8 arg9 harg9 arg10 harg10 arg11 harg11 k1_h2) >>= kk) Q := by
  iintro ⟨HA, HB, HK⟩
  unfold Scf.Loop.for
  iapply (Scf.wp_for_bind frame (wpE (defs₀ (F := F)) 𝒱 (c : Thread nD τ) bd) E _ _ _ _ _ _
    (fun k u => inv4 (F := F) c arg6 arg10 X6 k u)
    (fun k _ => step4 (F := F) 𝒱 c bd E i arg2 harg2 arg3 harg3 arg4 harg4 arg5 harg5 arg6 harg6 arg7 harg7 arg8 harg8 arg9 harg9 arg10 harg10 arg11 harg11 k1_h2 X6 k)) $$ [HA HB]
  · isplitl [HA]; · iexact HA
    iexists X10
    isplitl [HB]; · iexact HB
    ipureintro; intro y hy; exact absurd hy (Nat.not_lt_zero _)
  iintro %_ ⟨HA, ⟨%f, HB, %hf⟩⟩
  iapply HK $$ %f
  isplitl [HA]; · iexact HA
  isplitl [HB]; · iexact HB
  ipureintro
  have ht : Scf.trips k1_t4_loop.lb k1_t4_loop.ub k1_t4_loop.st = 12 := trips4
  rw [ht] at hf
  exact hf

end

end Cert.Kernel.Dq
-- ==== Proof.KParts.lean ====
module

public import proofs.«01_k».proof.Proof.KLoopRuns

@[expose] public section

set_option maxRecDepth 16384

noncomputable section

namespace Cert.Kernel.Dq

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- The slab of the weight buffer that a product reads: 3072 pairs of rows of one block of 128 columns (block `r` of slot `σ`). -/
def rd (G : Vec F S49280x128 .i32) (σ r : ℕ) : Vec F S3072x128 .i32 := fun x =>
  G (ValueIdx.ix2 ⟨(σ * 24640 + 3080 * r + (x 0).val) % 49280, Nat.mod_lt _ (by decide)⟩ (x 1))

theorem rd_eq {κ : Kind} {sp : Space} (v : View sig κ sp S49280x128 .i32) (f : v.ty.Contents (Elt F)) (i : grid1.Coords) (r : Fin 8) (a k : ℕ)
    (W G : Vec F S49280x128 .i32) (h : ∀ y, v.read (Elt F) f y = wUpd (F := F) ((i 0).val % 2) a k W G y) {off : Fin 2 → ℕ}
    (inb : ∀ b, off b + S3072x128.size b ≤ S49280x128.size b) (ho : off = k1_off40 i (BitVec.ofNat 32 (3080 * r.val))) :
    v.readAt (Elt F) (Rect.unit (s := S49280x128) off S3072x128.size inb).toLoadRect f = rd (F := F) G (1 - (i 0).val % 2) r.val := by
  rw [k1_off40_eq] at ho
  subst ho
  funext x
  rw [View.readAt_apply, h]
  have hx0 : (x 0).val < 3072 := (x 0).isLt
  have hr := r.isLt
  have h2 : (i 0).val % 2 < 2 := Nat.mod_lt _ (by decide)
  have e : ((Rect.unit (s := S49280x128) ![(1 - (i 0).val % 2) * 24640 + 3080 * r.val, 0] S3072x128.size inb).toLoadRect.idx x)
      = ValueIdx.ix2 ⟨((1 - (i 0).val % 2) * 24640 + 3080 * r.val + (x 0).val) % 49280, Nat.mod_lt _ (by decide)⟩ (x 1) := by
    funext b
    apply Fin.ext
    match b with
    | ⟨0, _⟩ => show (1 - (i 0).val % 2) * 24640 + 3080 * r.val + 1 * (x 0).val = ((1 - (i 0).val % 2) * 24640 + 3080 * r.val + (x 0).val) % 49280; omega
    | ⟨1, _⟩ => show 0 + 1 * (x 1).val = (x 1).val; omega
  rw [e]
  unfold wUpd rd
  refine if_neg fun hc => ?_
  have h1 : ((1 - (i 0).val % 2) * 24640 + 3080 * r.val + (x 0).val) % 49280 / 24640 = (i 0).val % 2 := hc.1
  omega

/-- The output tile: each block of 256 columns is the product of the rows with two slabs. -/
def outT (G : Vec F S49280x128 .i32) (n : Vec F S512x6144 .bf16) (σ : ℕ) : Vec F S512x1024 .bf16 := fun y =>
  k1_pay7 (F := F) (rd G σ (2 * ((y 1).val / 256))) (rd G σ (2 * ((y 1).val / 256) + 1)) n (ValueIdx.ix2 (y 0) ⟨(y 1).val % 256, Nat.mod_lt _ (by decide)⟩)

section
variable (𝒱 : Variants) (c : Dev nD) (bd : Option 𝒱.V) (E : Set ℕ) (i : grid1.Coords)
  (arg2 : Memref sig .tc .smem S6144 .i32) (harg2 : arg2.IsWhole) (arg3 : Memref sig .tc .smem S6144 .i32) (harg3 : arg3.IsWhole) (arg4 : Memref sig .tc .vmem S512x6144 .bf16) (harg4 : arg4.IsWhole) (arg5 : Memref sig .tc .vmem S813x1024 .i32) (harg5 : arg5.IsWhole) (arg6 : Memref sig .tc .vmem S192x1024 .bf16) (harg6 : arg6.IsWhole) (arg7 : Memref sig .tc .vmem S512x1024 .bf16) (harg7 : arg7.IsWhole) (arg8 : Memref sig .tc .smem S6160 .i32) (harg8 : arg8.IsWhole) (arg9 : Memref sig .tc .vmem S6504x128 .i32) (harg9 : arg9.IsWhole) (arg10 : Memref sig .tc .vmem S1536x128 .f32) (harg10 : arg10.IsWhole) (arg11 : Memref sig .tc .vmem S49280x128 .i32) (harg11 : arg11.IsWhole)

theorem part16_run (arg1 v8 : BitVec 32) (k1_h4 : k1_cond4 i = 1#1) (X4 : BufTy.Contents (Elt F) arg4.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (Q : (Σ' (v41 : FVec F S6144x128 .bf16), FVec F S6144x128 .bf16) → sProp 𝕄G) :
    iprop((arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg4.view.loc (c : Thread nD τ) ↦[arg4.view.set]{fullShare} X4) ∗ (arg7.view.loc (c : Thread nD τ) ↦[arg7.view.set]{fullShare} (arg7.view.writes (Elt F) X7 [⟨Rect.unit (s := S512x1024) ![0, 0] S512x256.size inb_S512x1024_S512x256_0_0,
          k1_pay44 (F := F) (rd (arg11.view.read (Elt F) X11) (1 - (i 0).val % 2) 0) (rd (arg11.view.read (Elt F) X11) (1 - (i 0).val % 2) 1) (arg4.view.readAt (Elt F) (Rect.unit (s := S512x6144) ![0, 0] S512x6144.size inb_S512x6144_S512x6144_0_0).toLoadRect X4)⟩]))
          ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x128.Idx, arg11.view.read (Elt F) f y = wUpd (F := F) ((i 0).val % 2) (308 * (i 1).val) 154 (wTile (F := F) (arg8.view.read (Elt F) X8) q s) (arg11.view.read (Elt F) X11) y⌝)
        -∗ Q ⟨k1_pay46 (F := F) (rd (arg11.view.read (Elt F) X11) (1 - (i 0).val % 2) (2 : Fin 8).val), k1_pay47 (F := F) (rd (arg11.view.read (Elt F) X11) (1 - (i 0).val % 2) (3 : Fin 8).val)⟩))
      ⊢ wp frame (wpE (defs₀ (F := F)) 𝒱 (c : Thread nD τ) bd) E (k1_part16 (F := F) i arg2 harg2 arg3 harg3 arg4 harg4 arg5 harg5 arg6 harg6 arg7 harg7 arg8 harg8 arg9 harg9 arg10 harg10 arg11 harg11 arg1 v8 k1_h4) Q := by
  rw [k1_part16_eq_skeleton]; unfold k1_part16_skel
  iintro ⟨H4, H7, H8, H9, H10, H11, HK⟩
  iapply (loop6 (F := F) 𝒱 c bd E i arg2 harg2 arg3 harg3 arg4 harg4 arg5 harg5 arg6 harg6 arg7 harg7 arg8 harg8 arg9 harg9 arg10 harg10 arg11 harg11 arg1 v8 k1_h4 X8 X9 X10 X11 q s h8 h9 h10)
  isplitl [H8]; · iexact H8
  isplitl [H9]; · iexact H9
  isplitl [H10]; · iexact H10
  isplitl [H11]; · iexact H11
  iintro %f6 ⟨H8, H9, H10, H11, %h6⟩
  have e0 := rd_eq arg11.view f6 i 0 _ _ _ _ h6 (k1_off40_inb i k1_h4 0) rfl
  have e1 := rd_eq arg11.view f6 i 1 _ _ _ _ h6 (k1_off40_inb i k1_h4 1) rfl
  sl_exec
  iapply (loop7 (F := F) 𝒱 c bd E i arg2 harg2 arg3 harg3 arg4 harg4 arg5 harg5 arg6 harg6 arg7 harg7 arg8 harg8 arg9 harg9 arg10 harg10 arg11 harg11 arg1 v8 k1_h4 X8 X9 X10 f6 q s h8 h9 h10)
  isplitl [H8]; · iexact H8
  isplitl [H9]; · iexact H9
  isplitl [H10]; · iexact H10
  isplitl [H11]; · iexact H11
  iintro %f7 ⟨H8, H9, H10, H11, %h7⟩
  rw [show arg11.view.read (Elt F) f6 = _ from funext h6, wUpd_wUpd] at h7
  have e2 := rd_eq arg11.view f7 i 2 _ _ _ _ h7 (k1_off40_inb i k1_h4 2) rfl
  have e3 := rd_eq arg11.view f7 i 3 _ _ _ _ h7 (k1_off40_inb i k1_h4 3) rfl
  sl_exec
  sl_step
  ispecialize HK $$ %f7
  iapply HK $$ [H4 H7 H8 H9 H10 H11]
  isplitl [H4]; · iexact H4
  isplitl [H7]; · iexact H7
  isplitl [H8]; · iexact H8
  isplitl [H9]; · iexact H9
  isplitl [H10]; · iexact H10
  isplitl [H11]; · iexact H11
  ipureintro; exact h7

theorem part17_run (arg1 v8 : BitVec 32) (k1_h4 : k1_cond4 i = 1#1) (X4 : BufTy.Contents (Elt F) arg4.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (G : Vec F S49280x128 .i32)
    (h11 : ∀ y : S49280x128.Idx, arg11.view.read (Elt F) X11 y = wUpd (F := F) ((i 0).val % 2) (308 * (i 1).val) 154 (wTile (F := F) (arg8.view.read (Elt F) X8) q s) G y) (Q : (Σ' (v74 : BitVec 32), BitVec 32) → sProp 𝕄G) :
    iprop((arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg4.view.loc (c : Thread nD τ) ↦[arg4.view.set]{fullShare} X4) ∗ (arg7.view.loc (c : Thread nD τ) ↦[arg7.view.set]{fullShare} (arg7.view.writes (Elt F) X7 [⟨Rect.unit (s := S512x1024) ![0, 512] S512x256.size inb_S512x1024_S512x256_0_512,
            k1_pay50 (F := F) (rd G (1 - (i 0).val % 2) 4) (rd G (1 - (i 0).val % 2) 5) (arg4.view.readAt (Elt F) (Rect.unit (s := S512x6144) ![0, 0] S512x6144.size inb_S512x6144_S512x6144_0_0).toLoadRect X4)⟩,
          ⟨Rect.unit (s := S512x1024) ![0, 256] S512x256.size inb_S512x1024_S512x256_0_256,
            k1_pay48 (F := F) (k1_pay46 (F := F) (rd G (1 - (i 0).val % 2) (2 : Fin 8).val)) (k1_pay47 (F := F) (rd G (1 - (i 0).val % 2) (3 : Fin 8).val)) (arg4.view.readAt (Elt F) (Rect.unit (s := S512x6144) ![0, 0] S512x6144.size inb_S512x6144_S512x6144_0_0).toLoadRect X4)⟩]))
          ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x128.Idx, arg11.view.read (Elt F) f y = wUpd (F := F) ((i 0).val % 2) (308 * (i 1).val) 308 (wTile (F := F) (arg8.view.read (Elt F) X8) q s) G y⌝)
        -∗ ∀ v, Q v))
      ⊢ wp frame (wpE (defs₀ (F := F)) 𝒱 (c : Thread nD τ) bd) E (k1_part17 (F := F) i arg2 harg2 arg3 harg3 arg4 harg4 arg5 harg5 arg6 harg6 arg7 harg7 arg8 harg8 arg9 harg9 arg10 harg10 arg11 harg11 arg1 v8 k1_h4 (k1_pay46 (F := F) (rd G (1 - (i 0).val % 2) (2 : Fin 8).val)) (k1_pay47 (F := F) (rd G (1 - (i 0).val % 2) (3 : Fin 8).val))) Q := by
  rw [k1_part17_eq_skeleton]; unfold k1_part17_skel
  iintro ⟨H4, H7, H8, H9, H10, H11, HK⟩
  sl_exec
  iapply (loop8 (F := F) 𝒱 c bd E i arg2 harg2 arg3 harg3 arg4 harg4 arg5 harg5 arg6 harg6 arg7 harg7 arg8 harg8 arg9 harg9 arg10 harg10 arg11 harg11 arg1 v8 _ _ k1_h4 X8 X9 X10 X11 q s h8 h9 h10)
  isplitl [H8]; · iexact H8
  isplitl [H9]; · iexact H9
  isplitl [H10]; · iexact H10
  isplitl [H11]; · iexact H11
  iintro %f8 ⟨H8, H9, H10, H11, %hf8⟩
  rw [show arg11.view.read (Elt F) X11 = _ from funext h11, wUpd_wUpd] at hf8
  have e4 := rd_eq arg11.view f8 i 4 _ _ _ _ hf8 (k1_off40_inb i k1_h4 4) rfl
  have e5 := rd_eq arg11.view f8 i 5 _ _ _ _ hf8 (k1_off40_inb i k1_h4 5) rfl
  sl_exec
  iapply (loop9 (F := F) 𝒱 c bd E i arg2 harg2 arg3 harg3 arg4 harg4 arg5 harg5 arg6 harg6 arg7 harg7 arg8 harg8 arg9 harg9 arg10 harg10 arg11 harg11 arg1 v8 _ _ k1_h4 X8 X9 X10 f8 q s h8 h9 h10)
  isplitl [H8]; · iexact H8
  isplitl [H9]; · iexact H9
  isplitl [H10]; · iexact H10
  isplitl [H11]; · iexact H11
  iintro %f9 ⟨H8, H9, H10, H11, %hf9⟩
  rw [show arg11.view.read (Elt F) f8 = _ from funext hf8, wUpd_wUpd] at hf9
  sl_exec
  sl_step
  ispecialize HK $$ %f9
  iapply HK $$ [H4 H7 H8 H9 H10 H11]
  isplitl [H4]; · iexact H4
  isplitl [H7]; · iexact H7
  isplitl [H8]; · iexact H8
  isplitl [H9]; · iexact H9
  isplitl [H10]; · iexact H10
  isplitl [H11]; · iexact H11
  ipureintro; exact hf9

theorem part5_run (k1_h2 : k1_cond2 i = 1#1) (X5 : BufTy.Contents (Elt F) arg5.view.ty) (X9 : BufTy.Contents (Elt F) arg9.view.ty) (Q : IVec S5x128 32 → sProp 𝕄G) :
    iprop((arg5.view.loc (c : Thread nD τ) ↦[arg5.view.set]{fullShare} X5) ∗ (arg9.view.loc (c : Thread nD τ) ↦[arg9.view.set]{fullShare} X9)
      ∗ (∀ f, iprop((arg5.view.loc (c : Thread nD τ) ↦[arg5.view.set]{fullShare} X5) ∗ (arg9.view.loc (c : Thread nD τ) ↦[arg9.view.set]{fullShare} f)
          ∗ ⌜∀ y : S6504x128.Idx, ((y 0).val < 6464 ∨ (y 0).val % 8 < 5) → arg9.view.read (Elt F) f y = spreadQ (F := F) (arg5.view.read (Elt F) X5) y⌝)
        -∗ Q (arg5.view.readAt (Elt F) (Rect.unit (s := S813x1024) ![808, 640] S5x128.size inb_S813x1024_S5x128_808_640).toLoadRect X5)))
      ⊢ wp frame (wpE (defs₀ (F := F)) 𝒱 (c : Thread nD τ) bd) E (k1_part5 (F := F) i arg2 harg2 arg3 harg3 arg4 harg4 arg5 harg5 arg6 harg6 arg7 harg7 arg8 harg8 arg9 harg9 arg10 harg10 arg11 harg11 k1_h2) Q := by
  rw [k1_part5_eq_skeleton]; unfold k1_part5_skel
  iintro ⟨H5, H9, HK⟩
  iapply (loop3 (F := F) 𝒱 c bd E i arg2 harg2 arg3 harg3 arg4 harg4 arg5 harg5 arg6 harg6 arg7 harg7 arg8 harg8 arg9 harg9 arg10 harg10 arg11 harg11 k1_h2 X5 X9)
  isplitl [H5]; · iexact H5
  isplitl [H9]; · iexact H9
  iintro %f ⟨H5, H9, %hf⟩
  sl_exec
  sl_step
  rw [pay27_eq]
  iapply HK $$ %_
  isplitl [H5]; · iexact H5
  isplitl [H9]; · iexact H9
  ipureintro
  intro y hy
  refine read_writes_agree _ _ _ y _ ?_ ?_
  · simp only [List.forall_mem_cons]
    refine ⟨?_, ?_, ?_, ?_, ?_, fun p hp => absurd hp List.not_mem_nil⟩ <;> intro x <;>
      simp only [pay22_eq, pay23_eq, pay24_eq, pay25_eq, pay26_eq]
    · exact spreadQ_piece _ _ _ _ _ 808 4 rfl rfl (by omega) x
    · exact spreadQ_piece _ _ _ _ _ 808 3 rfl rfl (by omega) x
    · exact spreadQ_piece _ _ _ _ _ 808 2 rfl rfl (by omega) x
    · exact spreadQ_piece _ _ _ _ _ 808 1 rfl rfl (by omega) x
    · exact spreadQ_piece _ _ _ _ _ 808 0 rfl rfl (by omega) x
  · by_cases hlt : (y 0).val < 6464
    · exact Or.inr (hf y hlt)
    · left
      have h0 := idx2_lt0 y
      have hb : (y 0).val % 8 = 4 ∨ (y 0).val % 8 = 3 ∨ (y 0).val % 8 = 2 ∨ (y 0).val % 8 = 1 ∨ (y 0).val % 8 = 0 := by omega
      simp only [List.exists_mem_cons_iff]
      rcases hb with hb | hb | hb | hb | hb
      · exact Or.inl (spread_mem _ (fun a => by fin_cases a <;> decide) y (by omega) (by omega) (by omega))
      · exact Or.inr (Or.inl (spread_mem _ (fun a => by fin_cases a <;> decide) y (by omega) (by omega) (by omega)))
      · exact Or.inr (Or.inr (Or.inl (spread_mem _ (fun a => by fin_cases a <;> decide) y (by omega) (by omega) (by omega))))
      · exact Or.inr (Or.inr (Or.inr (Or.inl (spread_mem _ (fun a => by fin_cases a <;> decide) y (by omega) (by omega) (by omega)))))
      · exact Or.inr (Or.inr (Or.inr (Or.inr (Or.inl (spread_mem _ (fun a => by fin_cases a <;> decide) y (by omega) (by omega) (by omega))))))
end

end Cert.Kernel.Dq
-- ==== Proof.KBody.lean ====
module

public import proofs.«01_k».proof.Proof.KParts

@[expose] public section

set_option maxRecDepth 16384

noncomputable section

namespace Cert.Kernel.Dq

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [BitOps F]

local notation "𝕄G" => MT nD τ sig Unit (Elt F) ℕ (UR sig nD τ) ℕ

/-- The last three stores of the words' spread fill the rows that were left. -/
theorem tail9 (v5 : View sig .tc .vmem S813x1024 .i32) (X : v5.ty.Contents (Elt F)) (v9 : View sig .tc .vmem S6504x128 .i32) (f : v9.ty.Contents (Elt F))
    (hf : ∀ y : S6504x128.Idx, ((y 0).val < 6464 ∨ (y 0).val % 8 < 5) → v9.read (Elt F) f y = spreadQ (F := F) (v5.read (Elt F) X) y) (y : S6504x128.Idx) :
    v9.read (Elt F) (v9.writes (Elt F) f [
      ⟨⟨(⟨![6471, 0], S5x128.size, ![8, 1], inb_S6504x128_S5x128_6471_0_s_8_1⟩ : LoadRect S6504x128), spos_8_1⟩,
        k1_pay3 (F := F) (v5.readAt (Elt F) (Rect.unit (s := S813x1024) ![808, 896] S5x128.size inb_S813x1024_S5x128_808_896).toLoadRect X)⟩,
      ⟨⟨(⟨![6470, 0], S5x128.size, ![8, 1], inb_S6504x128_S5x128_6470_0_s_8_1⟩ : LoadRect S6504x128), spos_8_1⟩,
        k1_pay2 (F := F) (v5.readAt (Elt F) (Rect.unit (s := S813x1024) ![808, 768] S5x128.size inb_S813x1024_S5x128_808_768).toLoadRect X)⟩,
      ⟨⟨(⟨![6469, 0], S5x128.size, ![8, 1], inb_S6504x128_S5x128_6469_0_s_8_1⟩ : LoadRect S6504x128), spos_8_1⟩,
        k1_pay1 (v5.readAt (Elt F) (Rect.unit (s := S813x1024) ![808, 640] S5x128.size inb_S813x1024_S5x128_808_640).toLoadRect X)⟩]) y
      = spreadQ (F := F) (v5.read (Elt F) X) y := by
  refine read_writes_agree _ _ _ y _ ?_ ?_
  · simp only [List.forall_mem_cons]
    refine ⟨?_, ?_, ?_, fun p hp => absurd hp List.not_mem_nil⟩ <;> intro x <;>
      simp only [pay1_eq, pay2_eq, pay3_eq]
    · exact spreadQ_piece _ _ _ _ _ 808 7 rfl rfl (by omega) x
    · exact spreadQ_piece _ _ _ _ _ 808 6 rfl rfl (by omega) x
    · exact spreadQ_piece _ _ _ _ _ 808 5 rfl rfl (by omega) x
  · by_cases hlt : (y 0).val < 6464 ∨ (y 0).val % 8 < 5
    · exact Or.inr (hf y hlt)
    · left
      have h0 := idx2_lt0 y
      have hb : (y 0).val % 8 = 7 ∨ (y 0).val % 8 = 6 ∨ (y 0).val % 8 = 5 := by omega
      simp only [List.exists_mem_cons_iff]
      rcases hb with hb | hb | hb
      · exact Or.inl (spread_mem _ (fun a => by fin_cases a <;> decide) y (by omega) (by omega) (by omega))
      · exact Or.inr (Or.inl (spread_mem _ (fun a => by fin_cases a <;> decide) y (by omega) (by omega) (by omega)))
      · exact Or.inr (Or.inr (Or.inl (spread_mem _ (fun a => by fin_cases a <;> decide) y (by omega) (by omega) (by omega))))

/-- A load of all of a matrix reads its contents. -/
theorem readAt_all {κ : Kind} {sp : Space} (v : View sig κ sp S512x6144 .bf16) (f : v.ty.Contents (Elt F)) :
    v.readAt (Elt F) (Rect.unit (s := S512x6144) ![0, 0] S512x6144.size inb_S512x6144_S512x6144_0_0).toLoadRect f = v.read (Elt F) f := by
  funext x
  rw [View.readAt_apply]
  congr 1
  funext a
  apply Fin.ext
  match a with
  | ⟨0, _⟩ => show 0 + 1 * (x 0).val = (x 0).val; omega
  | ⟨1, _⟩ => show 0 + 1 * (x 1).val = (x 1).val; omega

/-- A block of 256 columns of the output tile. -/
theorem outT_piece (G : Vec F S49280x128 .i32) (n : Vec F S512x6144 .bf16) (σ a o : ℕ) (ho : o = 256 * a)
    (inb : ∀ b, (![0, o] : Fin 2 → ℕ) b + S512x256.size b ≤ S512x1024.size b) (x : S512x256.Idx) :
    k1_pay7 (F := F) (rd G σ (2 * a)) (rd G σ (2 * a + 1)) n x = outT G n σ ((Rect.unit (s := S512x1024) ![0, o] S512x256.size inb).emb x) := by
  subst ho
  unfold outT
  have h1 : (x 1).val < 256 := (x 1).isLt
  have e1 : (((Rect.unit (s := S512x1024) ![0, 256 * a] S512x256.size inb).emb x) 1).val = 256 * a + (x 1).val := by
    show 256 * a + 1 * (x 1).val = _; omega
  have e0 : (((Rect.unit (s := S512x1024) ![0, 256 * a] S512x256.size inb).emb x) 0).val = (x 0).val := by
    show 0 + 1 * (x 0).val = _; omega
  have e2 : (((Rect.unit (s := S512x1024) ![0, 256 * a] S512x256.size inb).emb x) 1).val / 256 = a := by rw [e1]; omega
  simp only [e2]
  refine congrArg _ ?_
  funext b
  apply Fin.ext
  match b with
  | ⟨0, _⟩ => exact e0.symm
  | ⟨1, _⟩ => show (x 1).val = (((Rect.unit (s := S512x1024) ![0, 256 * a] S512x256.size inb).emb x) 1).val % 256; rw [e1]; omega

theorem outT_of (v4 : View sig .tc .vmem S512x6144 .bf16) (X4 : v4.ty.Contents (Elt F)) (v7 : View sig .tc .vmem S512x1024 .bf16) (X7 : v7.ty.Contents (Elt F))
    (G : Vec F S49280x128 .i32) (σ : ℕ) (y : S512x1024.Idx) :
    v7.read (Elt F) (v7.writes (Elt F) X7 [⟨Rect.unit (s := S512x1024) ![0, 768] S512x256.size inb_S512x1024_S512x256_0_768,
            k1_pay7 (F := F) (rd G σ 6) (rd G σ 7) (v4.readAt (Elt F) (Rect.unit (s := S512x6144) ![0, 0] S512x6144.size inb_S512x6144_S512x6144_0_0).toLoadRect X4)⟩,
          ⟨Rect.unit (s := S512x1024) ![0, 512] S512x256.size inb_S512x1024_S512x256_0_512,
            k1_pay50 (F := F) (rd G σ 4) (rd G σ 5) (v4.readAt (Elt F) (Rect.unit (s := S512x6144) ![0, 0] S512x6144.size inb_S512x6144_S512x6144_0_0).toLoadRect X4)⟩,
          ⟨Rect.unit (s := S512x1024) ![0, 256] S512x256.size inb_S512x1024_S512x256_0_256,
            k1_pay48 (F := F) (k1_pay46 (F := F) (rd G σ 2)) (k1_pay47 (F := F) (rd G σ 3)) (v4.readAt (Elt F) (Rect.unit (s := S512x6144) ![0, 0] S512x6144.size inb_S512x6144_S512x6144_0_0).toLoadRect X4)⟩,
          ⟨Rect.unit (s := S512x1024) ![0, 0] S512x256.size inb_S512x1024_S512x256_0_0,
            k1_pay44 (F := F) (rd G σ 0) (rd G σ 1) (v4.readAt (Elt F) (Rect.unit (s := S512x6144) ![0, 0] S512x6144.size inb_S512x6144_S512x6144_0_0).toLoadRect X4)⟩]) y = outT (F := F) G (v4.read (Elt F) X4) σ y := by
  rw [readAt_all]
  refine read_writes_agree _ _ _ y _ ?_ ?_
  · simp only [List.forall_mem_cons]
    refine ⟨?_, ?_, ?_, ?_, fun p hp => absurd hp List.not_mem_nil⟩ <;> intro x
    · exact outT_piece G _ σ 3 768 rfl _ x
    · exact outT_piece G _ σ 2 512 rfl _ x
    · exact outT_piece G _ σ 1 256 rfl _ x
    · exact outT_piece G _ σ 0 0 rfl _ x
  · left
    have h1 := idx2_lt1 y
    have hm : ∀ (o : ℕ) (inb : ∀ b, (![0, o] : Fin 2 → ℕ) b + S512x256.size b ≤ S512x1024.size b), o ≤ (y 1).val → (y 1).val < o + 256 →
        y ∈ (Rect.unit (s := S512x1024) ![0, o] S512x256.size inb).set := fun o inb l u => by
      refine (Rect.unit (s := S512x1024) ![0, o] S512x256.size inb).mem_set.mpr fun a => ?_
      match a with
      | ⟨0, _⟩ => exact ⟨(y 0).val, (y 0).isLt, by show (y 0).val = 0 + 1 * (y 0).val; omega⟩
      | ⟨1, _⟩ => exact ⟨(y 1).val - o, by show (y 1).val - o < 256; omega, by show (y 1).val = o + 1 * ((y 1).val - o); omega⟩
    simp only [List.exists_mem_cons_iff]
    have hb : 768 ≤ (y 1).val ∨ (512 ≤ (y 1).val ∧ (y 1).val < 768) ∨ (256 ≤ (y 1).val ∧ (y 1).val < 512) ∨ (y 1).val < 256 := by omega
    rcases hb with hb | hb | hb | hb
    · exact Or.inl (hm _ _ (by omega) (by omega))
    · exact Or.inr (Or.inl (hm _ _ (by omega) (by omega)))
    · exact Or.inr (Or.inr (Or.inl (hm _ _ (by omega) (by omega))))
    · exact Or.inr (Or.inr (Or.inr (Or.inl (hm _ _ (by omega) (by omega)))))

section
variable (𝒱 : Variants) (c : Dev nD) (bd : Option 𝒱.V) (E : Set ℕ) (i : grid1.Coords)
  (arg2 : Memref sig .tc .smem S6144 .i32) (harg2 : arg2.IsWhole) (arg3 : Memref sig .tc .smem S6144 .i32) (harg3 : arg3.IsWhole) (arg4 : Memref sig .tc .vmem S512x6144 .bf16) (harg4 : arg4.IsWhole) (arg5 : Memref sig .tc .vmem S813x1024 .i32) (harg5 : arg5.IsWhole) (arg6 : Memref sig .tc .vmem S192x1024 .bf16) (harg6 : arg6.IsWhole) (arg7 : Memref sig .tc .vmem S512x1024 .bf16) (harg7 : arg7.IsWhole) (arg8 : Memref sig .tc .smem S6160 .i32) (harg8 : arg8.IsWhole) (arg9 : Memref sig .tc .vmem S6504x128 .i32) (harg9 : arg9.IsWhole) (arg10 : Memref sig .tc .vmem S1536x128 .f32) (harg10 : arg10.IsWhole) (arg11 : Memref sig .tc .vmem S49280x128 .i32) (harg11 : arg11.IsWhole)

theorem part5_bind (k1_h2 : k1_cond2 i = 1#1) (X5 : BufTy.Contents (Elt F) arg5.view.ty) (X9 : BufTy.Contents (Elt F) arg9.view.ty)
    {β : Type} (kk : IVec S5x128 32 → Prog (TpuEff nD τ sig (Elt F) Λ₀ .tc) β) (Q : β → sProp 𝕄G) :
    iprop((arg5.view.loc (c : Thread nD τ) ↦[arg5.view.set]{fullShare} X5) ∗ (arg9.view.loc (c : Thread nD τ) ↦[arg9.view.set]{fullShare} X9)
      ∗ (∀ f, iprop((arg5.view.loc (c : Thread nD τ) ↦[arg5.view.set]{fullShare} X5) ∗ (arg9.view.loc (c : Thread nD τ) ↦[arg9.view.set]{fullShare} f)
          ∗ ⌜∀ y : S6504x128.Idx, ((y 0).val < 6464 ∨ (y 0).val % 8 < 5) → arg9.view.read (Elt F) f y = spreadQ (F := F) (arg5.view.read (Elt F) X5) y⌝)
        -∗ wp frame (wpE (defs₀ (F := F)) 𝒱 (c : Thread nD τ) bd) E (kk (arg5.view.readAt (Elt F) (Rect.unit (s := S813x1024) ![808, 640] S5x128.size inb_S813x1024_S5x128_808_640).toLoadRect X5)) Q))
      ⊢ wp frame (wpE (defs₀ (F := F)) 𝒱 (c : Thread nD τ) bd) E (k1_part5 (F := F) i arg2 harg2 arg3 harg3 arg4 harg4 arg5 harg5 arg6 harg6 arg7 harg7 arg8 harg8 arg9 harg9 arg10 harg10 arg11 harg11 k1_h2 >>= kk) Q := by
  rw [wp_bind]
  exact part5_run (F := F) 𝒱 c bd E i arg2 harg2 arg3 harg3 arg4 harg4 arg5 harg5 arg6 harg6 arg7 harg7 arg8 harg8 arg9 harg9 arg10 harg10 arg11 harg11 k1_h2 X5 X9 (fun v => wp frame (wpE (defs₀ (F := F)) 𝒱 (c : Thread nD τ) bd) E (kk v) Q)

theorem run_first (k1_h1 : k1_cond1 i = 1#1) (k1_h2 : k1_cond2 i = 1#1) (k1_h3 : k1_cond3 i = 1#1) (k1_h4 : ¬ k1_cond4 i = 1#1)
    (X2 : BufTy.Contents (Elt F) arg2.view.ty) (X3 : BufTy.Contents (Elt F) arg3.view.ty) (X5 : BufTy.Contents (Elt F) arg5.view.ty) (X6 : BufTy.Contents (Elt F) arg6.view.ty) (X8 : BufTy.Contents (Elt F) arg8.view.ty) (X9 : BufTy.Contents (Elt F) arg9.view.ty) (X10 : BufTy.Contents (Elt F) arg10.view.ty) (X11 : BufTy.Contents (Elt F) arg11.view.ty) (hP : PermOk (F := F) (arg2.view.read (Elt F) X2))
    (hD : ∀ D : Vec F S6160 .i32, Scattered (F := F) (arg2.view.read (Elt F) X2) (arg3.view.read (Elt F) X3) 6144 D →
      Padded (F := F) (arg3.view.read (Elt F) X3) 16 D → ∀ p : Fin 6160, DOk (D (ValueIdx.ix1 p))) (Q : PUnit → sProp 𝕄G) :
    iprop((arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f8 f9 f10 f11, iprop((arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
          ∗ ⌜(Scattered (F := F) (arg2.view.read (Elt F) X2) (arg3.view.read (Elt F) X3) 6144 (arg8.view.read (Elt F) f8)
              ∧ Padded (F := F) (arg3.view.read (Elt F) X3) 16 (arg8.view.read (Elt F) f8))
            ∧ (∀ y, arg9.view.read (Elt F) f9 y = spreadQ (F := F) (arg5.view.read (Elt F) X5) y)
            ∧ (∀ y, arg10.view.read (Elt F) f10 y = spreadS (F := F) (arg6.view.read (Elt F) X6) y)
            ∧ (∀ y, arg11.view.read (Elt F) f11 y = wUpd (F := F) ((i 0).val % 2) (308 * (i 1).val) 308
                (wTile (F := F) (arg8.view.read (Elt F) f8) (arg5.view.read (Elt F) X5) (arg6.view.read (Elt F) X6)) (arg11.view.read (Elt F) X11) y)⌝)
        -∗ Q ⟨⟩))
      ⊢ wp frame (wpE (defs₀ (F := F)) 𝒱 (c : Thread nD τ) bd) E (cc1_dequant_matmul (F := F) i arg2 harg2 arg3 harg3 arg4 harg4 arg5 harg5 arg6 harg6 arg7 harg7 arg8 harg8 arg9 harg9 arg10 harg10 arg11 harg11) Q := by
  rw [cc1_dequant_matmul_eq_skeleton]; unfold cc1_dequant_matmul_skel
  simp only [dif_pos k1_h1, dif_pos k1_h2, dif_pos k1_h3, dif_neg k1_h4, bind_assoc, pure_bind]
  iintro ⟨H2, H3, H5, H6, H8, H9, H10, H11, HK⟩
  iapply (loop1 (F := F) 𝒱 c bd E i arg2 harg2 arg3 harg3 arg4 harg4 arg5 harg5 arg6 harg6 arg7 harg7 arg8 harg8 arg9 harg9 arg10 harg10 arg11 harg11 k1_h1 X2 X3 X8 hP)
  isplitl [H2]; · iexact H2
  isplitl [H3]; · iexact H3
  isplitl [H8]; · iexact H8
  iintro %f0 ⟨H2, H3, H8, %hS⟩
  iapply (loop2 (F := F) 𝒱 c bd E i arg2 harg2 arg3 harg3 arg4 harg4 arg5 harg5 arg6 harg6 arg7 harg7 arg8 harg8 arg9 harg9 arg10 harg10 arg11 harg11 k1_h1 X2 X3 f0 hP hS)
  isplitl [H2]; · iexact H2
  isplitl [H3]; · iexact H3
  isplitl [H8]; · iexact H8
  iintro %f8 ⟨H2, H3, H8, %hSP⟩
  iapply (part5_bind (F := F) 𝒱 c bd E i arg2 harg2 arg3 harg3 arg4 harg4 arg5 harg5 arg6 harg6 arg7 harg7 arg8 harg8 arg9 harg9 arg10 harg10 arg11 harg11 k1_h2 X5 X9)
  isplitl [H5]; · iexact H5
  isplitl [H9]; · iexact H9
  iintro %f9 ⟨H5, H9, %h9⟩
  sl_exec
  iapply (loop4 (F := F) 𝒱 c bd E i arg2 harg2 arg3 harg3 arg4 harg4 arg5 harg5 arg6 harg6 arg7 harg7 arg8 harg8 arg9 harg9 arg10 harg10 arg11 harg11 k1_h2 X6 X10)
  isplitl [H6]; · iexact H6
  isplitl [H10]; · iexact H10
  iintro %f10 ⟨H6, H10, %h10'⟩
  have h10 := fun y => h10' y (idx2_lt0 y)
  iapply (loop5 (F := F) 𝒱 c bd E i arg2 harg2 arg3 harg3 arg4 harg4 arg5 harg5 arg6 harg6 arg7 harg7 arg8 harg8 arg9 harg9 arg10 harg10 arg11 harg11 (BitVec.ofNat 32 (i 1).val) k1_h3 f8 _ f10 X11 (arg5.view.read (Elt F) X5) (arg6.view.read (Elt F) X6) (hD _ hSP.1 hSP.2) (tail9 arg5.view X5 arg9.view f9 h9) h10)
  isplitl [H8]; · iexact H8
  isplitl [H9]; · iexact H9
  isplitl [H10]; · iexact H10
  isplitl [H11]; · iexact H11
  iintro %f11 ⟨H8, H9, H10, H11, %h11⟩
  sl_step
  iapply HK $$ %f8 %_ %f10 %f11
  isplitl [H2]; · iexact H2
  isplitl [H3]; · iexact H3
  isplitl [H5]; · iexact H5
  isplitl [H6]; · iexact H6
  isplitl [H8]; · iexact H8
  isplitl [H9]; · iexact H9
  isplitl [H10]; · iexact H10
  isplitl [H11]; · iexact H11
  ipureintro
  exact ⟨hSP, tail9 arg5.view X5 arg9.view f9 h9, h10, h11⟩

theorem part16_bind (arg1 v8 : BitVec 32) (k1_h4 : k1_cond4 i = 1#1) (X4 : BufTy.Contents (Elt F) arg4.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) {β : Type} (kk : (Σ' (v41 : FVec F S6144x128 .bf16), FVec F S6144x128 .bf16) → Prog (TpuEff nD τ sig (Elt F) Λ₀ .tc) β) (Q : β → sProp 𝕄G) :
    iprop((arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg4.view.loc (c : Thread nD τ) ↦[arg4.view.set]{fullShare} X4) ∗ (arg7.view.loc (c : Thread nD τ) ↦[arg7.view.set]{fullShare} (arg7.view.writes (Elt F) X7 [⟨Rect.unit (s := S512x1024) ![0, 0] S512x256.size inb_S512x1024_S512x256_0_0,
          k1_pay44 (F := F) (rd (arg11.view.read (Elt F) X11) (1 - (i 0).val % 2) 0) (rd (arg11.view.read (Elt F) X11) (1 - (i 0).val % 2) 1) (arg4.view.readAt (Elt F) (Rect.unit (s := S512x6144) ![0, 0] S512x6144.size inb_S512x6144_S512x6144_0_0).toLoadRect X4)⟩]))
          ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x128.Idx, arg11.view.read (Elt F) f y = wUpd (F := F) ((i 0).val % 2) (308 * (i 1).val) 154 (wTile (F := F) (arg8.view.read (Elt F) X8) q s) (arg11.view.read (Elt F) X11) y⌝)
        -∗ wp frame (wpE (defs₀ (F := F)) 𝒱 (c : Thread nD τ) bd) E (kk ⟨k1_pay46 (F := F) (rd (arg11.view.read (Elt F) X11) (1 - (i 0).val % 2) (2 : Fin 8).val), k1_pay47 (F := F) (rd (arg11.view.read (Elt F) X11) (1 - (i 0).val % 2) (3 : Fin 8).val)⟩) Q))
      ⊢ wp frame (wpE (defs₀ (F := F)) 𝒱 (c : Thread nD τ) bd) E (k1_part16 (F := F) i arg2 harg2 arg3 harg3 arg4 harg4 arg5 harg5 arg6 harg6 arg7 harg7 arg8 harg8 arg9 harg9 arg10 harg10 arg11 harg11 arg1 v8 k1_h4 >>= kk) Q := by
  rw [wp_bind]
  exact part16_run (F := F) 𝒱 c bd E i arg2 harg2 arg3 harg3 arg4 harg4 arg5 harg5 arg6 harg6 arg7 harg7 arg8 harg8 arg9 harg9 arg10 harg10 arg11 harg11 arg1 v8 k1_h4 X4 X7 X8 X9 X10 X11 q s h8 h9 h10 (fun v => wp frame (wpE (defs₀ (F := F)) 𝒱 (c : Thread nD τ) bd) E (kk v) Q)

theorem part17_bind (arg1 v8 : BitVec 32) (k1_h4 : k1_cond4 i = 1#1) (X4 : BufTy.Contents (Elt F) arg4.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty)
    (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (G : Vec F S49280x128 .i32)
    (h11 : ∀ y : S49280x128.Idx, arg11.view.read (Elt F) X11 y = wUpd (F := F) ((i 0).val % 2) (308 * (i 1).val) 154 (wTile (F := F) (arg8.view.read (Elt F) X8) q s) G y)
    {β : Type} (kk : (Σ' (v74 : BitVec 32), BitVec 32) → Prog (TpuEff nD τ sig (Elt F) Λ₀ .tc) β) (Q : β → sProp 𝕄G) :
    iprop((arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f, iprop((arg4.view.loc (c : Thread nD τ) ↦[arg4.view.set]{fullShare} X4) ∗ (arg7.view.loc (c : Thread nD τ) ↦[arg7.view.set]{fullShare} (arg7.view.writes (Elt F) X7 [⟨Rect.unit (s := S512x1024) ![0, 512] S512x256.size inb_S512x1024_S512x256_0_512,
            k1_pay50 (F := F) (rd G (1 - (i 0).val % 2) 4) (rd G (1 - (i 0).val % 2) 5) (arg4.view.readAt (Elt F) (Rect.unit (s := S512x6144) ![0, 0] S512x6144.size inb_S512x6144_S512x6144_0_0).toLoadRect X4)⟩,
          ⟨Rect.unit (s := S512x1024) ![0, 256] S512x256.size inb_S512x1024_S512x256_0_256,
            k1_pay48 (F := F) (k1_pay46 (F := F) (rd G (1 - (i 0).val % 2) (2 : Fin 8).val)) (k1_pay47 (F := F) (rd G (1 - (i 0).val % 2) (3 : Fin 8).val)) (arg4.view.readAt (Elt F) (Rect.unit (s := S512x6144) ![0, 0] S512x6144.size inb_S512x6144_S512x6144_0_0).toLoadRect X4)⟩]))
          ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f)
          ∗ ⌜∀ y : S49280x128.Idx, arg11.view.read (Elt F) f y = wUpd (F := F) ((i 0).val % 2) (308 * (i 1).val) 308 (wTile (F := F) (arg8.view.read (Elt F) X8) q s) G y⌝)
        -∗ ∀ v, wp frame (wpE (defs₀ (F := F)) 𝒱 (c : Thread nD τ) bd) E (kk v) Q))
      ⊢ wp frame (wpE (defs₀ (F := F)) 𝒱 (c : Thread nD τ) bd) E (k1_part17 (F := F) i arg2 harg2 arg3 harg3 arg4 harg4 arg5 harg5 arg6 harg6 arg7 harg7 arg8 harg8 arg9 harg9 arg10 harg10 arg11 harg11 arg1 v8 k1_h4 (k1_pay46 (F := F) (rd G (1 - (i 0).val % 2) (2 : Fin 8).val)) (k1_pay47 (F := F) (rd G (1 - (i 0).val % 2) (3 : Fin 8).val)) >>= kk) Q := by
  rw [wp_bind]
  exact part17_run (F := F) 𝒱 c bd E i arg2 harg2 arg3 harg3 arg4 harg4 arg5 harg5 arg6 harg6 arg7 harg7 arg8 harg8 arg9 harg9 arg10 harg10 arg11 harg11 arg1 v8 k1_h4 X4 X7 X8 X9 X10 X11 q s h8 h9 h10 G h11 (fun v => wp frame (wpE (defs₀ (F := F)) 𝒱 (c : Thread nD τ) bd) E (kk v) Q)

theorem run_fill (k1_h1 : ¬ k1_cond1 i = 1#1) (k1_h2 : ¬ k1_cond2 i = 1#1) (k1_h3 : k1_cond3 i = 1#1) (k1_h4 : ¬ k1_cond4 i = 1#1)
    (X8 : BufTy.Contents (Elt F) arg8.view.ty) (X9 : BufTy.Contents (Elt F) arg9.view.ty) (X10 : BufTy.Contents (Elt F) arg10.view.ty) (X11 : BufTy.Contents (Elt F) arg11.view.ty) (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (Q : PUnit → sProp 𝕄G) :
    iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f11, iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11)
          ∗ ⌜∀ y, arg11.view.read (Elt F) f11 y = wUpd (F := F) ((i 0).val % 2) (308 * (i 1).val) 308
                (wTile (F := F) (arg8.view.read (Elt F) X8) q s) (arg11.view.read (Elt F) X11) y⌝)
        -∗ Q ⟨⟩))
      ⊢ wp frame (wpE (defs₀ (F := F)) 𝒱 (c : Thread nD τ) bd) E (cc1_dequant_matmul (F := F) i arg2 harg2 arg3 harg3 arg4 harg4 arg5 harg5 arg6 harg6 arg7 harg7 arg8 harg8 arg9 harg9 arg10 harg10 arg11 harg11) Q := by
  rw [cc1_dequant_matmul_eq_skeleton]; unfold cc1_dequant_matmul_skel
  simp only [dif_neg k1_h1, dif_neg k1_h2, dif_pos k1_h3, dif_neg k1_h4, bind_assoc, pure_bind]
  iintro ⟨H8, H9, H10, H11, HK⟩
  iapply (loop5 (F := F) 𝒱 c bd E i arg2 harg2 arg3 harg3 arg4 harg4 arg5 harg5 arg6 harg6 arg7 harg7 arg8 harg8 arg9 harg9 arg10 harg10 arg11 harg11 (BitVec.ofNat 32 (i 1).val) k1_h3 X8 X9 X10 X11 q s h8 h9 h10)
  isplitl [H8]; · iexact H8
  isplitl [H9]; · iexact H9
  isplitl [H10]; · iexact H10
  isplitl [H11]; · iexact H11
  iintro %f11 ⟨H8, H9, H10, H11, %h11⟩
  sl_step
  iapply HK $$ %f11
  isplitl [H8]; · iexact H8
  isplitl [H9]; · iexact H9
  isplitl [H10]; · iexact H10
  isplitl [H11]; · iexact H11
  ipureintro
  exact h11

theorem run_mul (k1_h1 : ¬ k1_cond1 i = 1#1) (k1_h2 : ¬ k1_cond2 i = 1#1) (k1_h3 : ¬ k1_cond3 i = 1#1) (k1_h4 : k1_cond4 i = 1#1)
    (X4 : BufTy.Contents (Elt F) arg4.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (q : Vec F S813x1024 .i32) (s : Vec F S192x1024 .bf16)
    (h8 : ∀ p : Fin 6160, DOk (arg8.view.read (Elt F) X8 (ValueIdx.ix1 p)))
    (h9 : ∀ y, arg9.view.read (Elt F) X9 y = spreadQ (F := F) q y) (h10 : ∀ y, arg10.view.read (Elt F) X10 y = spreadS (F := F) s y) (Q : PUnit → sProp 𝕄G) :
    iprop((arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f7 f11, iprop((arg4.view.loc (c : Thread nD τ) ↦[arg4.view.set]{fullShare} X4) ∗ (arg7.view.loc (c : Thread nD τ) ↦[arg7.view.set]{fullShare} f7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} f11)
          ∗ ⌜(∀ y, arg7.view.read (Elt F) f7 y = outT (F := F) (arg11.view.read (Elt F) X11) (arg4.view.read (Elt F) X4) (1 - (i 0).val % 2) y)
            ∧ ∀ y, arg11.view.read (Elt F) f11 y = wUpd (F := F) ((i 0).val % 2) (308 * (i 1).val) 308
                (wTile (F := F) (arg8.view.read (Elt F) X8) q s) (arg11.view.read (Elt F) X11) y⌝)
        -∗ Q ⟨⟩))
      ⊢ wp frame (wpE (defs₀ (F := F)) 𝒱 (c : Thread nD τ) bd) E (cc1_dequant_matmul (F := F) i arg2 harg2 arg3 harg3 arg4 harg4 arg5 harg5 arg6 harg6 arg7 harg7 arg8 harg8 arg9 harg9 arg10 harg10 arg11 harg11) Q := by
  rw [cc1_dequant_matmul_eq_skeleton]; unfold cc1_dequant_matmul_skel
  simp only [dif_neg k1_h1, dif_neg k1_h2, dif_neg k1_h3, dif_pos k1_h4, bind_assoc, pure_bind]
  iintro ⟨H4, H7, H8, H9, H10, H11, HK⟩
  iapply (part16_bind (F := F) 𝒱 c bd E i arg2 harg2 arg3 harg3 arg4 harg4 arg5 harg5 arg6 harg6 arg7 harg7 arg8 harg8 arg9 harg9 arg10 harg10 arg11 harg11 (BitVec.ofNat 32 (i 1).val) (Scalar.andi (BitVec.ofNat 32 (i 0).val) 1#32) k1_h4 X4 X7 X8 _ _ X11 q s h8 h9 h10)
  isplitl [H4]; · iexact H4
  isplitl [H7]; · iexact H7
  isplitl [H8]; · iexact H8
  isplitl [H9]; · iexact H9
  isplitl [H10]; · iexact H10
  isplitl [H11]; · iexact H11
  iintro %fa ⟨H4, H7, H8, H9, H10, H11, %ha⟩
  dsimp only
  iapply (part17_bind (F := F) 𝒱 c bd E i arg2 harg2 arg3 harg3 arg4 harg4 arg5 harg5 arg6 harg6 arg7 harg7 arg8 harg8 arg9 harg9 arg10 harg10 arg11 harg11 (BitVec.ofNat 32 (i 1).val) (Scalar.andi (BitVec.ofNat 32 (i 0).val) 1#32) k1_h4 X4 _ X8 _ _ fa q s h8 h9 h10 (arg11.view.read (Elt F) X11) ha)
  isplitl [H4]; · iexact H4
  isplitl [H7]; · iexact H7
  isplitl [H8]; · iexact H8
  isplitl [H9]; · iexact H9
  isplitl [H10]; · iexact H10
  isplitl [H11]; · iexact H11
  iintro %fb ⟨H4, H7, H8, H9, H10, H11, %hb⟩ %vv
  have e6 := rd_eq arg11.view fb i 6 _ _ _ _ hb (k1_off40_inb i k1_h4 6) rfl
  have e7 := rd_eq arg11.view fb i 7 _ _ _ _ hb (k1_off40_inb i k1_h4 7) rfl
  sl_exec
  sl_step

  iapply HK $$ %_ %fb
  isplitl [H4]; · iexact H4
  isplitl [H7]; · iexact H7
  isplitl [H8]; · iexact H8
  isplitl [H9]; · iexact H9
  isplitl [H10]; · iexact H10
  isplitl [H11]; · iexact H11
  ipureintro
  exact ⟨outT_of (F := F) arg4.view X4 arg7.view X7 _ _, hb⟩

theorem run_next (k1_h1 : ¬ k1_cond1 i = 1#1) (k1_h2 : k1_cond2 i = 1#1) (k1_h3 : ¬ k1_cond3 i = 1#1) (k1_h4 : k1_cond4 i = 1#1)
    (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (h8 : ∀ p : Fin 6160, DOk (arg8.view.read (Elt F) X8 (ValueIdx.ix1 p))) (Q : PUnit → sProp 𝕄G) :
    iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)
      ∗ (∀ f7 f9 f10 f11, iprop((arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)
          ∗ ⌜(∀ y, arg7.view.read (Elt F) f7 y = outT (F := F) (arg11.view.read (Elt F) X11) (arg4.view.read (Elt F) X4) (1 - (i 0).val % 2) y)
            ∧ (∀ y, arg9.view.read (Elt F) f9 y = spreadQ (F := F) (arg5.view.read (Elt F) X5) y)
            ∧ (∀ y, arg10.view.read (Elt F) f10 y = spreadS (F := F) (arg6.view.read (Elt F) X6) y)
            ∧ (∀ y, arg11.view.read (Elt F) f11 y = wUpd (F := F) ((i 0).val % 2) (308 * (i 1).val) 308
                (wTile (F := F) (arg8.view.read (Elt F) X8) (arg5.view.read (Elt F) X5) (arg6.view.read (Elt F) X6)) (arg11.view.read (Elt F) X11) y)⌝)
        -∗ Q ⟨⟩))
      ⊢ wp frame (wpE (defs₀ (F := F)) 𝒱 (c : Thread nD τ) bd) E (cc1_dequant_matmul (F := F) i arg2 harg2 arg3 harg3 arg4 harg4 arg5 harg5 arg6 harg6 arg7 harg7 arg8 harg8 arg9 harg9 arg10 harg10 arg11 harg11) Q := by
  rw [cc1_dequant_matmul_eq_skeleton]; unfold cc1_dequant_matmul_skel
  simp only [dif_neg k1_h1, dif_pos k1_h2, dif_neg k1_h3, dif_pos k1_h4, bind_assoc, pure_bind]
  iintro ⟨H4, H5, H6, H7, H8, H9, H10, H11, HK⟩
  iapply (part5_bind (F := F) 𝒱 c bd E i arg2 harg2 arg3 harg3 arg4 harg4 arg5 harg5 arg6 harg6 arg7 harg7 arg8 harg8 arg9 harg9 arg10 harg10 arg11 harg11 k1_h2 X5 X9)
  isplitl [H5]; · iexact H5
  isplitl [H9]; · iexact H9
  iintro %f9 ⟨H5, H9, %h9⟩
  sl_exec
  iapply (loop4 (F := F) 𝒱 c bd E i arg2 harg2 arg3 harg3 arg4 harg4 arg5 harg5 arg6 harg6 arg7 harg7 arg8 harg8 arg9 harg9 arg10 harg10 arg11 harg11 k1_h2 X6 X10)
  isplitl [H6]; · iexact H6
  isplitl [H10]; · iexact H10
  iintro %f10 ⟨H6, H10, %h10'⟩
  have h10 := fun y => h10' y (idx2_lt0 y)
  iapply (part16_bind (F := F) 𝒱 c bd E i arg2 harg2 arg3 harg3 arg4 harg4 arg5 harg5 arg6 harg6 arg7 harg7 arg8 harg8 arg9 harg9 arg10 harg10 arg11 harg11 (BitVec.ofNat 32 (i 1).val) (Scalar.andi (BitVec.ofNat 32 (i 0).val) 1#32) k1_h4 X4 X7 X8 _ _ X11 (arg5.view.read (Elt F) X5) (arg6.view.read (Elt F) X6) h8 (tail9 arg5.view X5 arg9.view f9 h9) h10)
  isplitl [H4]; · iexact H4
  isplitl [H7]; · iexact H7
  isplitl [H8]; · iexact H8
  isplitl [H9]; · iexact H9
  isplitl [H10]; · iexact H10
  isplitl [H11]; · iexact H11
  iintro %fa ⟨H4, H7, H8, H9, H10, H11, %ha⟩
  dsimp only
  iapply (part17_bind (F := F) 𝒱 c bd E i arg2 harg2 arg3 harg3 arg4 harg4 arg5 harg5 arg6 harg6 arg7 harg7 arg8 harg8 arg9 harg9 arg10 harg10 arg11 harg11 (BitVec.ofNat 32 (i 1).val) (Scalar.andi (BitVec.ofNat 32 (i 0).val) 1#32) k1_h4 X4 _ X8 _ _ fa (arg5.view.read (Elt F) X5) (arg6.view.read (Elt F) X6) h8 (tail9 arg5.view X5 arg9.view f9 h9) h10 (arg11.view.read (Elt F) X11) ha)
  isplitl [H4]; · iexact H4
  isplitl [H7]; · iexact H7
  isplitl [H8]; · iexact H8
  isplitl [H9]; · iexact H9
  isplitl [H10]; · iexact H10
  isplitl [H11]; · iexact H11
  iintro %fb ⟨H4, H7, H8, H9, H10, H11, %hb⟩ %vv
  have e6 := rd_eq arg11.view fb i 6 _ _ _ _ hb (k1_off40_inb i k1_h4 6) rfl
  have e7 := rd_eq arg11.view fb i 7 _ _ _ _ hb (k1_off40_inb i k1_h4 7) rfl
  sl_exec
  sl_step

  iapply HK $$ %_ %_ %f10 %fb
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  ipureintro
  exact ⟨outT_of (F := F) arg4.view X4 arg7.view X7 _ _, tail9 arg5.view X5 arg9.view f9 h9, h10, hb⟩

end

end Cert.Kernel.Dq
-- ==== Proof.KTiles.lean ====
module

public import proofs.«01_k».proof.Proof.KBody
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Pipeline.Kit
public import Idealize.ShloMosaic.Lib.Pipeline.Value
public import Idealize.ShloMosaic.Lib.Pipeline.ValueKit

@[expose] public section

set_option maxRecDepth 16384

noncomputable section

namespace Cert.Kernel.Dq

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Pipeline (Dat Cfg Window BodyObligation cellOf)

variable {F : FTy → Type} [BitOps F]

/-! ## The descriptors, once all of them have been put in place -/

/-- The table by position: at place `p` the descriptor of the row that `P` sends to `p`; beyond the rows, the first one. -/
def placed (P T : Vec F S6144 .i32) : Vec F S6160 .i32 := fun y =>
  open Classical in if h : ∃ r : Fin 6144, (P (ValueIdx.ix1 r)).toNat = (y 0).val then T (ValueIdx.ix1 h.choose) else T (ValueIdx.ix1 0)

theorem placed_at {P T : Vec F S6144 .i32} (hP : PermOk (F := F) P) (r : Fin 6144) (p : Fin 6160) (hp : p.val = (P (ValueIdx.ix1 r)).toNat) :
    placed P T (ValueIdx.ix1 p) = T (ValueIdx.ix1 r) := by
  have h : ∃ r : Fin 6144, (P (ValueIdx.ix1 r)).toNat = ((ValueIdx.ix1 p : S6160.Idx) 0).val := ⟨r, hp.symm⟩
  unfold placed
  rw [dif_pos h]
  congr 1
  exact congrArg _ (hP.2 _ _ (BitVec.eq_of_toNat_eq (h.choose_spec.trans hp)))

theorem perm_surj {P : Vec F S6144 .i32} (hP : PermOk (F := F) P) (p : ℕ) (hp : p < 6144) : ∃ r : Fin 6144, (P (ValueIdx.ix1 r)).toNat = p := by
  have hinj : Function.Injective fun r : Fin 6144 => (⟨(P (ValueIdx.ix1 r)).toNat, hP.1 r⟩ : Fin 6144) := fun a b h =>
    hP.2 _ _ (BitVec.eq_of_toNat_eq (Fin.mk.inj h))
  obtain ⟨r, hr⟩ := (Finite.injective_iff_surjective.mp hinj) ⟨p, hp⟩
  exact ⟨r, congrArg Fin.val hr⟩

theorem eq_placed {P T : Vec F S6144 .i32} (hP : PermOk (F := F) P) {D : Vec F S6160 .i32} (hS : Scattered (F := F) P T 6144 D)
    (hp : Padded (F := F) T 16 D) : D = placed P T := by
  funext y
  obtain ⟨p, rfl⟩ : ∃ p : Fin 6160, y = ValueIdx.ix1 p := ⟨y 0, ValueIdx.eq_ix1 y⟩
  by_cases h : p.val < 6144
  · obtain ⟨r, hr⟩ := perm_surj hP p.val h
    rw [hS r r.isLt p hr.symm, placed_at hP r p hr.symm]
  · have hn : ¬ ∃ r : Fin 6144, (P (ValueIdx.ix1 r)).toNat = ((ValueIdx.ix1 p : S6160.Idx) 0).val := fun ⟨r, hr⟩ => by
      have := hP.1 r
      have e : ((ValueIdx.ix1 p : S6160.Idx) 0).val = p.val := rfl
      omega
    unfold placed
    rw [dif_neg hn]
    exact hp p (by omega) (by have := p.isLt; omega)

theorem placed_ok {P T : Vec F S6144 .i32} (hT : ∀ r : Fin 6144, DOk (T (ValueIdx.ix1 r))) (p : Fin 6160) : DOk (placed (F := F) P T (ValueIdx.ix1 p)) := by
  unfold placed
  split
  · exact hT _
  · exact hT 0

/-! ## The tiles -/

/-- Rows `[512 i, 512 i + 512)` of the activations. -/
def nT (A : Vec F S5120x6144 .bf16) (i : ℕ) : Vec F S512x6144 .bf16 := fun y =>
  A (ValueIdx.ix2 ⟨(512 * i + (y 0).val) % 5120, Nat.mod_lt _ (by decide)⟩ (y 1))

/-- Columns `[1024 j, 1024 j + 1024)` of the packed words. -/
def qT (A : Vec F S813x24576 .i32) (j : ℕ) : Vec F S813x1024 .i32 := fun y =>
  A (ValueIdx.ix2 (y 0) ⟨(1024 * j + (y 1).val) % 24576, Nat.mod_lt _ (by decide)⟩)

/-- Columns `[1024 j, 1024 j + 1024)` of the scales. -/
def sT (A : Vec F S192x24576 .bf16) (j : ℕ) : Vec F S192x1024 .bf16 := fun y =>
  A (ValueIdx.ix2 (y 0) ⟨(1024 * j + (y 1).val) % 24576, Nat.mod_lt _ (by decide)⟩)

/-! ## The points -/

theorem coord0 (t : Fin cfg1.N) : (grid1.coords t 0).val = t.val / 10 := by
  have h := Pipeline.Grid.coords_val (G := grid1) t 0 (S := 10) (B := 25) (by decide) rfl
  have := t.isLt
  have hN : cfg1.N = 250 := N_1
  omega

theorem coord1 (t : Fin cfg1.N) : (grid1.coords t 1).val = t.val % 10 := by
  have h := Pipeline.Grid.coords_val (G := grid1) t 1 (S := 1) (B := 10) (by decide) rfl
  omega

theorem cond1_iff (i : grid1.Coords) : k1_cond1 i = 1#1 ↔ (i 0).val = 0 ∧ (i 1).val = 0 :=
  (by decide : ∀ (a : Fin 25) (b : Fin 10), Scalar.cmpi .ne (Scalar.extui (Scalar.andi (Scalar.cmpi .eq (BitVec.ofNat 32 a.val) 0#32) (Scalar.cmpi .eq (BitVec.ofNat 32 b.val) 0#32)) : BitVec 32) 0#32 = 1#1 ↔ a.val = 0 ∧ b.val = 0) (i 0) (i 1)

theorem cond2_iff (i : grid1.Coords) : k1_cond2 i = 1#1 ↔ (i 1).val = 0 :=
  (by decide : ∀ (b : Fin 10), Scalar.cmpi .ne (Scalar.extui (Scalar.cmpi .eq (BitVec.ofNat 32 b.val) 0#32) : BitVec 32) 0#32 = 1#1 ↔ b.val = 0) (i 1)

theorem cond3_iff (i : grid1.Coords) : k1_cond3 i = 1#1 ↔ (i 0).val = 0 :=
  (by decide : ∀ (b : Fin 25), Scalar.cmpi .ne (Scalar.extui (Scalar.cmpi .eq (BitVec.ofNat 32 b.val) 0#32) : BitVec 32) 0#32 = 1#1 ↔ b.val = 0) (i 0)

theorem cond4_iff (i : grid1.Coords) : k1_cond4 i = 1#1 ↔ 0 < (i 0).val :=
  (by decide : ∀ (b : Fin 25), Scalar.cmpi .ne (Scalar.extui (Scalar.cmpi .sgt (BitVec.ofNat 32 b.val) 0#32) : BitVec 32) 0#32 = 1#1 ↔ 0 < b.val) (i 0)

theorem tr2_eq (i : grid1.Coords) : cc1_transform_2 i = ![if (i 0).val = 0 then 0 else (i 1).val, 0] := by
  have h := (by decide : ∀ (a : Fin 25) (b : Fin 10), (Scalar.select (Scalar.cmpi .eq (BitVec.ofNat 32 a.val) 0#32) 0#32 (BitVec.ofNat 32 b.val) : BitVec 32).toNat = if a.val = 0 then 0 else b.val) (i 0) (i 1)
  funext a
  match a with
  | ⟨0, _⟩ => exact h
  | ⟨1, _⟩ => rfl

theorem tr3_eq (i : grid1.Coords) : cc1_transform_3 i = ![0, min (i 0).val 23] := by
  have h := (by decide : ∀ (a : Fin 25), (Scalar.minsi (BitVec.ofNat 32 a.val) 23#32 : BitVec 32).toNat = min a.val 23) (i 0)
  funext a
  match a with
  | ⟨0, _⟩ => rfl
  | ⟨1, _⟩ => exact h

theorem tr4_eq (i : grid1.Coords) : cc1_transform_4 i = ![0, min (i 0).val 23] := tr3_eq i

theorem tr5_eq (i : grid1.Coords) : cc1_transform_5 i = ![if (i 0).val = 0 then 0 else (i 1).val, (i 0).val - 1] := by
  have h := (by decide : ∀ (a : Fin 25) (b : Fin 10), (Scalar.select (Scalar.cmpi .eq (BitVec.ofNat 32 a.val) 0#32) 0#32 (BitVec.ofNat 32 b.val) : BitVec 32).toNat = if a.val = 0 then 0 else b.val) (i 0) (i 1)
  have h' := (by decide : ∀ (a : Fin 25), (Scalar.maxsi (Scalar.subi (BitVec.ofNat 32 a.val) 1#32) 0#32 : BitVec 32).toNat = a.val - 1) (i 0)
  funext a
  match a with
  | ⟨0, _⟩ => exact h
  | ⟨1, _⟩ => exact h'

theorem flush5_early (t : Fin cfg1.N) (ht : t.val < 10) : (cfg1.win 5).flush t = false :=
  (by decide : ∀ u : Fin 10, (cfg1.win 5).flush (⟨u.val, Nat.lt_of_lt_of_le u.isLt (by decide)⟩ : Fin cfg1.N) = false) ⟨t.val, ht⟩

/-! ## The blocks the body is handed -/

variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem iblk0 (c : Dev nD) (t : Fin cfg1.N) : iblk V c 0 t = V c main_arg3 := by
  funext y
  have e : win1_0.index t = ![0] := rfl
  unfold iblk
  blk_ext [e]

theorem iblk1 (c : Dev nD) (t : Fin cfg1.N) : iblk V c 1 t = V c main_c := by
  funext y
  have e : win1_1.index t = ![0] := rfl
  unfold iblk
  blk_ext [e]

theorem iblk2 (c : Dev nD) (t : Fin cfg1.N) : iblk V c 2 t = nT (F := F) (V c main_v3_1) (if t.val / 10 = 0 then 0 else t.val % 10) := by
  funext y
  have e : win1_2.index t = ![if t.val / 10 = 0 then 0 else t.val % 10, 0] := by
    rw [← coord0 t, ← coord1 t]; exact tr2_eq _
  have hb : (if t.val / 10 = 0 then 0 else t.val % 10) < 10 := by split <;> omega
  unfold iblk nT
  generalize (if t.val / 10 = 0 then 0 else t.val % 10) = k at e hb ⊢
  blk_ext [e]

theorem iblk3 (c : Dev nD) (t : Fin cfg1.N) : iblk V c 3 t = qT (F := F) (V c main_v4) (min (t.val / 10) 23) := by
  funext y
  have e : win1_3.index t = ![0, min (t.val / 10) 23] := by
    rw [← coord0 t]; exact tr3_eq _
  unfold iblk qT
  blk_ext [e]

theorem iblk4 (c : Dev nD) (t : Fin cfg1.N) : iblk V c 4 t = sT (F := F) (V c main_arg5) (min (t.val / 10) 23) := by
  funext y
  have e : win1_4.index t = ![0, min (t.val / 10) 23] := by
    rw [← coord0 t]; exact tr4_eq _
  unfold iblk sT
  blk_ext [e]

/-! ## The state between points -/

/-- The output tile of the rows `n` and the weights that `D`, `q` and `s` give. -/
def tileOut (D : Vec F S6160 .i32) (q : Vec F S813x1024 .i32) (s : Vec F S192x1024 .bf16) (n : Vec F S512x6144 .bf16) : Vec F S512x1024 .bf16 :=
  outT (F := F) (wTile D q s) n 0

theorem rd_tile (X : Vec F S49280x128 .i32) (D : Vec F S6160 .i32) (q : Vec F S813x1024 .i32) (s : Vec F S192x1024 .bf16) (σ r : ℕ) (hσ : σ < 2)
    (hr : r < 8) (h : ∀ y : S49280x128.Idx, (y 0).val / 24640 = σ → X y = wTile (F := F) D q s y) : rd X σ r = rd (wTile (F := F) D q s) 0 r := by
  funext x
  have hx0 : (x 0).val < 3072 := (x 0).isLt
  unfold rd
  have e1 : (σ * 24640 + 3080 * r + (x 0).val) % 49280 = σ * 24640 + 3080 * r + (x 0).val := Nat.mod_eq_of_lt (by omega)
  have e2 : (0 * 24640 + 3080 * r + (x 0).val) % 49280 = 3080 * r + (x 0).val := by
    rw [Nat.zero_mul, Nat.zero_add]; exact Nat.mod_eq_of_lt (by omega)
  have ed : (σ * 24640 + 3080 * r + (x 0).val) % 49280 / 24640 = σ := by rw [e1]; omega
  rw [h (ValueIdx.ix2 ⟨(σ * 24640 + 3080 * r + (x 0).val) % 49280, Nat.mod_lt _ (by decide)⟩ (x 1)) ed]
  unfold wTile
  have a1 : 2 * ((σ * 24640 + 3080 * r + (x 0).val) % 49280 % 3080) = 2 * ((0 * 24640 + 3080 * r + (x 0).val) % 49280 % 3080) := by rw [e1, e2]; omega
  have a2 : (σ * 24640 + 3080 * r + (x 0).val) % 49280 % 24640 / 3080 = (0 * 24640 + 3080 * r + (x 0).val) % 49280 % 24640 / 3080 := by rw [e1, e2]; omega
  show packTwo (deq (F := F) (D (ValueIdx.ix1 ⟨2 * ((σ * 24640 + 3080 * r + (x 0).val) % 49280 % 3080), _⟩)) q s
      ⟨128 * ((σ * 24640 + 3080 * r + (x 0).val) % 49280 % 24640 / 3080) + (x 1).val, _⟩)
      (deq (F := F) (D (ValueIdx.ix1 ⟨2 * ((σ * 24640 + 3080 * r + (x 0).val) % 49280 % 3080) + 1, _⟩)) q s
      ⟨128 * ((σ * 24640 + 3080 * r + (x 0).val) % 49280 % 24640 / 3080) + (x 1).val, _⟩)
    = packTwo (deq (F := F) (D (ValueIdx.ix1 ⟨2 * ((0 * 24640 + 3080 * r + (x 0).val) % 49280 % 3080), _⟩)) q s
      ⟨128 * ((0 * 24640 + 3080 * r + (x 0).val) % 49280 % 24640 / 3080) + (x 1).val, _⟩)
      (deq (F := F) (D (ValueIdx.ix1 ⟨2 * ((0 * 24640 + 3080 * r + (x 0).val) % 49280 % 3080) + 1, _⟩)) q s
      ⟨128 * ((0 * 24640 + 3080 * r + (x 0).val) % 49280 % 24640 / 3080) + (x 1).val, _⟩)
  simp only [a1, a2]

theorem outT_tile (X : Vec F S49280x128 .i32) (D : Vec F S6160 .i32) (q : Vec F S813x1024 .i32) (s : Vec F S192x1024 .bf16) (n : Vec F S512x6144 .bf16)
    (σ : ℕ) (hσ : σ < 2) (h : ∀ y : S49280x128.Idx, (y 0).val / 24640 = σ → X y = wTile (F := F) D q s y) :
    outT (F := F) X n σ = tileOut D q s n := by
  funext y
  have h1 := idx2_lt1 y
  unfold tileOut outT
  rw [rd_tile X D q s σ _ hσ (by omega) h, rd_tile X D q s σ _ hσ (by omega) h]

/-- What the four scratch buffers hold before point `n`: after the first point, the placed descriptors, the spread of the tile in hand, the part of its
    weights already written in one slot, and the weights of the tile before in the other. -/
def Inv (Dd : Vec F S6160 .i32) (q : ℕ → Vec F S813x1024 .i32) (s : ℕ → Vec F S192x1024 .bf16) (n : ℕ) (D : Vec F S6160 .i32) (Q : Vec F S6504x128 .i32)
    (S : Vec F S1536x128 .f32) (W : Vec F S49280x128 .i32) : Prop :=
  n = 0 ∨ (D = Dd ∧ (∀ y, Q y = spreadQ (F := F) (q (min ((n - 1) / 10) 23)) y) ∧ (∀ y, S y = spreadS (F := F) (s (min ((n - 1) / 10) 23)) y)
    ∧ (∀ y : S49280x128.Idx, (y 0).val / 24640 = (n - 1) / 10 % 2 → (y 0).val % 3080 < 308 * ((n - 1) % 10 + 1) →
        W y = wTile (F := F) Dd (q (min ((n - 1) / 10) 23)) (s (min ((n - 1) / 10) 23)) y)
    ∧ (0 < (n - 1) / 10 → ∀ y : S49280x128.Idx, (y 0).val / 24640 = 1 - (n - 1) / 10 % 2 →
        W y = wTile (F := F) Dd (q ((n - 1) / 10 - 1)) (s ((n - 1) / 10 - 1)) y))

variable {Dd : Vec F S6160 .i32} {q : ℕ → Vec F S813x1024 .i32} {s : ℕ → Vec F S192x1024 .bf16} {n : ℕ} {D : Vec F S6160 .i32} {Q : Vec F S6504x128 .i32}
    {S : Vec F S1536x128 .f32} {W : Vec F S49280x128 .i32}

/-- The slot that the products read at a point of a tile after the first holds the weights of the tile before. -/
theorem Inv.other (h : Inv Dd q s n D Q S W) (hn : n < 250) (hj : 0 < n / 10) (y : S49280x128.Idx) (hy : (y 0).val / 24640 = 1 - n / 10 % 2) :
    W y = wTile (F := F) Dd (q (n / 10 - 1)) (s (n / 10 - 1)) y := by
  rcases h with h | ⟨-, -, -, h4, h5⟩
  · omega
  · by_cases hi : n % 10 = 0
    · have e : min ((n - 1) / 10) 23 = n / 10 - 1 := by omega
      rw [e] at h4
      have := Nat.mod_lt (y 0).val (show 0 < 3080 by decide)
      exact h4 y (by omega) (by omega)
    · have e : (n - 1) / 10 = n / 10 := by omega
      rw [e] at h5
      exact h5 hj y hy

theorem Inv.desc (h : Inv Dd q s n D Q S W) (hn : 0 < n) : D = Dd := by
  rcases h with h | h
  · omega
  · exact h.1

theorem Inv.words (h : Inv Dd q s n D Q S W) (hi : n % 10 ≠ 0) (y) : Q y = spreadQ (F := F) (q (min (n / 10) 23)) y := by
  rcases h with h | h
  · omega
  · rw [show n / 10 = (n - 1) / 10 by omega]; exact h.2.1 y

theorem Inv.scales (h : Inv Dd q s n D Q S W) (hi : n % 10 ≠ 0) (y) : S y = spreadS (F := F) (s (min (n / 10) 23)) y := by
  rcases h with h | h
  · omega
  · rw [show n / 10 = (n - 1) / 10 by omega]; exact h.2.2.1 y

/-- One point's writing carries the state on. -/
theorem Inv.next (h : Inv Dd q s n D Q S W) (hn : n < 250) {D' : Vec F S6160 .i32} {Q' : Vec F S6504x128 .i32} {S' : Vec F S1536x128 .f32}
    {W' : Vec F S49280x128 .i32} (hD : D' = Dd) (hQ : ∀ y, Q' y = spreadQ (F := F) (q (min (n / 10) 23)) y)
    (hS : ∀ y, S' y = spreadS (F := F) (s (min (n / 10) 23)) y)
    (hW : ∀ y, W' y = wUpd (F := F) (n / 10 % 2) (308 * (n % 10)) 308 (wTile (F := F) D' (q (min (n / 10) 23)) (s (min (n / 10) 23))) W y) :
    Inv Dd q s (n + 1) D' Q' S' W' := by
  subst hD
  refine Or.inr ⟨rfl, hQ, hS, ?_, ?_⟩
  · intro y h1 h2
    rw [Nat.add_sub_cancel] at h1 h2 ⊢
    rw [hW y]
    unfold wUpd
    by_cases hc : 308 * (n % 10) ≤ (y 0).val % 3080
    · exact if_pos ⟨h1, hc, by omega⟩
    · rw [if_neg (by omega)]
      rcases h with h | ⟨-, -, -, h4, -⟩
      · omega
      · have e : (n - 1) / 10 = n / 10 := by omega
        rw [e] at h4
        exact h4 y h1 (by omega)
  · intro hj y h1
    rw [Nat.add_sub_cancel] at hj h1 ⊢
    rw [hW y]
    unfold wUpd
    rw [if_neg (by omega)]
    exact h.other hn hj y h1

end Cert.Kernel.Dq
-- ==== Proof.KRegion1.lean ====
module

public import proofs.«01_k».proof.Proof.KTiles
public import Idealize.ShloMosaic.Lib.Ring

@[expose] public section

set_option maxRecDepth 16384

noncomputable section

namespace Cert.Kernel.Dq

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄G" => MT nD τ sig Unit (Elt F) ℕ (UR sig nD τ) ℕ

variable (𝒱₀ : Variants) (V : (c : Dev nD) → (b : Ref sig .tc) → Buf (Elt F) ((c : Thread nD τ).loc b)) (Dw : Dev nD → CellTallies nD τ sig Unit)

/-- The buffers of the first call, at anything. -/
def idleBufs (c : Dev nD) : sProp 𝕄G :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The four scratch buffers at contents of which `Pr` holds. -/
def scr (c : Dev nD) (Pr : Vec F S6160 .i32 → Vec F S6504x128 .i32 → Vec F S1536x128 .f32 → Vec F S49280x128 .i32 → Prop) : sProp 𝕄G :=
  iprop(∃ f8 f9 f10 f11, ((Memref.whole cc1_scratch0 : Memref sig .tc .smem S6160 .i32).view.loc (c : Thread nD τ) ↦[(Memref.whole cc1_scratch0 : Memref sig .tc .smem S6160 .i32).view.set]{fullShare} f8) ∗ ((Memref.whole cc1_scratch1 : Memref sig .tc .vmem S6504x128 .i32).view.loc (c : Thread nD τ) ↦[(Memref.whole cc1_scratch1 : Memref sig .tc .vmem S6504x128 .i32).view.set]{fullShare} f9) ∗ ((Memref.whole cc1_scratch2 : Memref sig .tc .vmem S1536x128 .f32).view.loc (c : Thread nD τ) ↦[(Memref.whole cc1_scratch2 : Memref sig .tc .vmem S1536x128 .f32).view.set]{fullShare} f10) ∗ ((Memref.whole cc1_scratch3 : Memref sig .tc .vmem S49280x128 .i32).view.loc (c : Thread nD τ) ↦[(Memref.whole cc1_scratch3 : Memref sig .tc .vmem S49280x128 .i32).view.set]{fullShare} f11)
    ∗ ⌜Pr ((Memref.whole cc1_scratch0 : Memref sig .tc .smem S6160 .i32).view.read (Elt F) f8) ((Memref.whole cc1_scratch1 : Memref sig .tc .vmem S6504x128 .i32).view.read (Elt F) f9) ((Memref.whole cc1_scratch2 : Memref sig .tc .vmem S1536x128 .f32).view.read (Elt F) f10) ((Memref.whole cc1_scratch3 : Memref sig .tc .vmem S49280x128 .i32).view.read (Elt F) f11)⌝)

/-- The descriptors in their places. -/
def descs (c : Dev nD) : Vec F S6160 .i32 := placed (F := F) (V c main_arg3) (V c main_c)

/-- The state before point `n`: the scratch buffers as `Inv` says. -/
def ΦW (c : Dev nD) (n : ℕ) : sProp 𝕄G :=
  iprop(idleBufs c ∗ scr c (Inv (F := F) (descs V c) (qT (F := F) (V c main_v4)) (sT (F := F) (V c main_arg5)) n) ∗ ∃ r, prngReg c r)

abbrev ms0 (t : Fin cfg1.N) : Memref sig .tc .smem S6144 .i32 := win1_0.stage (cfg1.slots t 0)
abbrev ms1 (t : Fin cfg1.N) : Memref sig .tc .smem S6144 .i32 := win1_1.stage (cfg1.slots t 1)
abbrev ms2 (t : Fin cfg1.N) : Memref sig .tc .vmem S512x6144 .bf16 := win1_2.stage (cfg1.slots t 2)
abbrev ms3 (t : Fin cfg1.N) : Memref sig .tc .vmem S813x1024 .i32 := win1_3.stage (cfg1.slots t 3)
abbrev ms4 (t : Fin cfg1.N) : Memref sig .tc .vmem S192x1024 .bf16 := win1_4.stage (cfg1.slots t 4)
abbrev ms5 (t : Fin cfg1.N) : Memref sig .tc .vmem S512x1024 .bf16 := win1_5.stage (cfg1.slots t 5)

/-- What the body leaves in the output's buffer at a point that writes it. -/
def outAt (c : Dev nD) (t : Fin cfg1.N) : Vec F S512x1024 .bf16 :=
  tileOut (F := F) (descs V c) (qT (F := F) (V c main_v4) (t.val / 10 - 1)) (sT (F := F) (V c main_arg5) (t.val / 10 - 1))
    (nT (F := F) (V c main_v3_1) (t.val % 10))

/-- The proof data of the second call on core `c`: its arrays as the call finds them; after the body at a point each input's buffer at its block and
    the output's at the tile; the scratch buffers as `ΦW` says; the core owing `Dw c` throughout; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t
  Φ n := ΦW V c n.val
  q _ := fullShare
  owed _ := Dw c

local notation "𝕕" => dat (F := F) V Dw

theorem A_eq (c : Dev nD) (w : Fin cfg1.W) : (𝕕 c).A w = V c (Pipeline.arrRef spec1 w) := by
  dsimp only [dat]

theorem after0 (c : Dev nD) (t : Fin cfg1.N) : (𝕕 c).after 0 t = iblk V c 0 t := by dsimp only [dat]
theorem after1 (c : Dev nD) (t : Fin cfg1.N) : (𝕕 c).after 1 t = iblk V c 1 t := by dsimp only [dat]
theorem after2 (c : Dev nD) (t : Fin cfg1.N) : (𝕕 c).after 2 t = iblk V c 2 t := by dsimp only [dat]
theorem after3 (c : Dev nD) (t : Fin cfg1.N) : (𝕕 c).after 3 t = iblk V c 3 t := by dsimp only [dat]
theorem after4 (c : Dev nD) (t : Fin cfg1.N) : (𝕕 c).after 4 t = iblk V c 4 t := by dsimp only [dat]
theorem after5 (c : Dev nD) (t : Fin cfg1.N) : (𝕕 c).after 5 t = outAt V c t := by dsimp only [dat]

theorem before0 (c : Dev nD) (t : Fin cfg1.N) (d) : (𝕕 c).before 0 t d = iblk V c 0 t :=
  ((𝕕 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg1.N) (d) : (𝕕 c).before 1 t d = iblk V c 1 t :=
  ((𝕕 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg1.N) (d) : (𝕕 c).before 2 t d = iblk V c 2 t :=
  ((𝕕 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg1.N) (d) : (𝕕 c).before 3 t d = iblk V c 3 t :=
  ((𝕕 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg1.N) (d) : (𝕕 c).before 4 t d = iblk V c 4 t :=
  ((𝕕 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-- What the body is called with at point `t`, -/
def bodyPre (c : Dev nD) (t : Fin cfg1.N) : sProp 𝕄G :=
  iprop((𝕕 c).Φ t.castSucc ∗ (𝕕 c).owesAt () t.castSucc
    ∗ (∃ d, owns (c : Thread nD τ) (ms0 t) fullShare ((𝕕 c).before 0 t d))
    ∗ (∃ d, owns (c : Thread nD τ) (ms1 t) fullShare ((𝕕 c).before 1 t d))
    ∗ (∃ d, owns (c : Thread nD τ) (ms2 t) fullShare ((𝕕 c).before 2 t d))
    ∗ (∃ d, owns (c : Thread nD τ) (ms3 t) fullShare ((𝕕 c).before 3 t d))
    ∗ (∃ d, owns (c : Thread nD τ) (ms4 t) fullShare ((𝕕 c).before 4 t d))
    ∗ (∃ d, owns (c : Thread nD τ) (ms5 t) fullShare ((𝕕 c).before 5 t d)))

/-- what it returns at a point that leaves the output's buffer alone, -/
def bodyPostIdle (c : Dev nD) (t : Fin cfg1.N) : sProp 𝕄G :=
  iprop((𝕕 c).Φ t.succ ∗ (𝕕 c).owesAt () t.succ
    ∗ owns (c : Thread nD τ) (ms0 t) fullShare ((𝕕 c).after 0 t)
    ∗ owns (c : Thread nD τ) (ms1 t) fullShare ((𝕕 c).after 1 t)
    ∗ owns (c : Thread nD τ) (ms2 t) fullShare ((𝕕 c).after 2 t)
    ∗ owns (c : Thread nD τ) (ms3 t) fullShare ((𝕕 c).after 3 t)
    ∗ owns (c : Thread nD τ) (ms4 t) fullShare ((𝕕 c).after 4 t)
    ∗ (∃ d, owns (c : Thread nD τ) (ms5 t) fullShare ((𝕕 c).before 5 t d)))

/-- and at a point that writes it. -/
def bodyPost (c : Dev nD) (t : Fin cfg1.N) : sProp 𝕄G :=
  iprop((𝕕 c).Φ t.succ ∗ (𝕕 c).owesAt () t.succ
    ∗ owns (c : Thread nD τ) (ms0 t) fullShare ((𝕕 c).after 0 t)
    ∗ owns (c : Thread nD τ) (ms1 t) fullShare ((𝕕 c).after 1 t)
    ∗ owns (c : Thread nD τ) (ms2 t) fullShare ((𝕕 c).after 2 t)
    ∗ owns (c : Thread nD τ) (ms3 t) fullShare ((𝕕 c).after 3 t)
    ∗ owns (c : Thread nD τ) (ms4 t) fullShare ((𝕕 c).after 4 t)
    ∗ owns (c : Thread nD τ) (ms5 t) fullShare ((𝕕 c).after 5 t))

set_option maxHeartbeats 1000000 in
/-- The first point. -/
theorem sound_first (c : Dev nD) (t : Fin cfg1.N) (hP : PermOk (F := F) (V c main_arg3)) (hT : ∀ r : Fin 6144, DOk ((V c main_c : Vec F S6144 .i32) (ValueIdx.ix1 r)))
    (h0 : t.val / 10 = 0) (h1 : t.val % 10 = 0) :
    bodyPre V Dw c t ⊢ wp frame (wpE (defs₀ (F := F)) 𝒱₀ c none) Set.univ (bodyAt1 t) (fun _ => bodyPostIdle V Dw c t) := by
  unfold bodyPre bodyPostIdle bodyAt1
  simp only [before0, before1, before2, before3, before4, after0, after1, after2, after3, after4]
  rw [show (𝕕 c).Φ t.castSucc = ΦW V c t.val from rfl, show (𝕕 c).Φ t.succ = ΦW V c (t.val + 1) from rfl,
    show (𝕕 c).owesAt () t.succ = (𝕕 c).owesAt () t.castSucc from rfl]
  unfold ΦW scr owns
  iintro ⟨HΦ, Ho, ⟨%d0, %X2, %e2, H2⟩, ⟨%d1, %X3, %e3, H3⟩, ⟨%d2, %X4, %e4, H4⟩, ⟨%d3, %X5, %e5, H5⟩, ⟨%d4, %X6, %e6, H6⟩, ⟨%d5, %X7, %e7, H7⟩⟩
  icases HΦ with ⟨Hb, ⟨%X8, %X9, %X10, %X11, H8, H9, H10, H11, %hI⟩, Hg⟩
  have hN : cfg1.N = 250 := N_1
  have ht := t.isLt
  have c0 := coord0 t
  have c1 := coord1 t
  have E2 := e2.trans (iblk0 V c t)
  have E3 := e3.trans (iblk1 V c t)
  have E5 := e5.trans (iblk3 V c t)
  have E6 := e6.trans (iblk4 V c t)
  iapply (run_first (F := F) 𝒱₀ c none Set.univ (grid1.coords t) _ _ _ _ _ _ _ _ _ _ _ _ _ _ _ _ _ _ _ _ ((cond1_iff _).mpr (by omega)) ((cond2_iff _).mpr (by omega)) ((cond3_iff _).mpr (by omega)) (fun h => by have := (cond4_iff _).mp h; omega)
    X2 X3 X5 X6 X8 X9 X10 X11 (E2.symm ▸ hP) (fun D hs hp => by
      rw [E2, E3] at hs; rw [E3] at hp
      rw [eq_placed hP hs hp]; exact placed_ok hT) _)
  isplitl [H2]; · iexact H2
  isplitl [H3]; · iexact H3
  isplitl [H5]; · iexact H5
  isplitl [H6]; · iexact H6
  isplitl [H8]; · iexact H8
  isplitl [H9]; · iexact H9
  isplitl [H10]; · iexact H10
  isplitl [H11]; · iexact H11
  iintro %f8 %f9 %f10 %f11 ⟨H2, H3, H5, H6, H8, H9, H10, H11, %hr⟩
  obtain ⟨⟨hs, hp⟩, r9, r10, r11⟩ := hr
  rw [E2, E3] at hs; rw [E3] at hp
  rw [c0, c1] at r11
  rw [E5] at r9 r11; rw [E6] at r10 r11
  have hn := Inv.next hI (by omega) (eq_placed hP hs hp) r9 r10 r11
  isplitl [Hb H8 H9 H10 H11 Hg]
  · isplitl [Hb]; · iexact Hb
    isplitl [H8 H9 H10 H11]
    · iexists _; iexists _; iexists _; iexists _
      isplitl [H8]; · iexact H8
      isplitl [H9]; · iexact H9
      isplitl [H10]; · iexact H10
      isplitl [H11]; · iexact H11
      ipureintro
      exact hn
    iexact Hg
  isplitl [Ho]; · iexact Ho
  isplitl [H2]
  · iexists _
    isplitr
    · ipureintro; exact e2
    iexact H2
  isplitl [H3]
  · iexists _
    isplitr
    · ipureintro; exact e3
    iexact H3
  isplitl [H4]
  · iexists _
    isplitr
    · ipureintro; exact e4
    iexact H4
  isplitl [H5]
  · iexists _
    isplitr
    · ipureintro; exact e5
    iexact H5
  isplitl [H6]
  · iexists _
    isplitr
    · ipureintro; exact e6
    iexact H6

  iexists d5; iexists _; isplitr
  · ipureintro; exact e7
  iexact H7

set_option maxHeartbeats 1000000 in
/-- A later point of the first tile. -/
theorem sound_fill (c : Dev nD) (t : Fin cfg1.N) (hP : PermOk (F := F) (V c main_arg3)) (hT : ∀ r : Fin 6144, DOk ((V c main_c : Vec F S6144 .i32) (ValueIdx.ix1 r)))
    (h0 : t.val / 10 = 0) (h1 : t.val % 10 ≠ 0) :
    bodyPre V Dw c t ⊢ wp frame (wpE (defs₀ (F := F)) 𝒱₀ c none) Set.univ (bodyAt1 t) (fun _ => bodyPostIdle V Dw c t) := by
  unfold bodyPre bodyPostIdle bodyAt1
  simp only [before0, before1, before2, before3, before4, after0, after1, after2, after3, after4]
  rw [show (𝕕 c).Φ t.castSucc = ΦW V c t.val from rfl, show (𝕕 c).Φ t.succ = ΦW V c (t.val + 1) from rfl,
    show (𝕕 c).owesAt () t.succ = (𝕕 c).owesAt () t.castSucc from rfl]
  unfold ΦW scr owns
  iintro ⟨HΦ, Ho, ⟨%d0, %X2, %e2, H2⟩, ⟨%d1, %X3, %e3, H3⟩, ⟨%d2, %X4, %e4, H4⟩, ⟨%d3, %X5, %e5, H5⟩, ⟨%d4, %X6, %e6, H6⟩, ⟨%d5, %X7, %e7, H7⟩⟩
  icases HΦ with ⟨Hb, ⟨%X8, %X9, %X10, %X11, H8, H9, H10, H11, %hI⟩, Hg⟩
  have hN : cfg1.N = 250 := N_1
  have ht := t.isLt
  have c0 := coord0 t
  have c1 := coord1 t
  have E2 := e2.trans (iblk0 V c t)
  have E3 := e3.trans (iblk1 V c t)
  have E5 := e5.trans (iblk3 V c t)
  have E6 := e6.trans (iblk4 V c t)
  have hD := hI.desc (by omega)
  iapply (run_fill (F := F) 𝒱₀ c none Set.univ (grid1.coords t) _ _ _ _ _ _ _ _ _ _ _ _ _ _ _ _ _ _ _ _ (fun h => by have := (cond1_iff _).mp h; omega) (fun h => by have := (cond2_iff _).mp h; omega) ((cond3_iff _).mpr (by omega)) (fun h => by have := (cond4_iff _).mp h; omega)
    X8 X9 X10 X11 _ _ (hD.symm ▸ placed_ok hT) (hI.words h1) (hI.scales h1) _)
  isplitl [H8]; · iexact H8
  isplitl [H9]; · iexact H9
  isplitl [H10]; · iexact H10
  isplitl [H11]; · iexact H11
  iintro %f11 ⟨H8, H9, H10, H11, %r11⟩
  rw [c0, c1] at r11
  have hn := Inv.next hI (by omega) hD (hI.words h1) (hI.scales h1) r11
  isplitl [Hb H8 H9 H10 H11 Hg]
  · isplitl [Hb]; · iexact Hb
    isplitl [H8 H9 H10 H11]
    · iexists _; iexists _; iexists _; iexists _
      isplitl [H8]; · iexact H8
      isplitl [H9]; · iexact H9
      isplitl [H10]; · iexact H10
      isplitl [H11]; · iexact H11
      ipureintro
      exact hn
    iexact Hg
  isplitl [Ho]; · iexact Ho
  isplitl [H2]
  · iexists _
    isplitr
    · ipureintro; exact e2
    iexact H2
  isplitl [H3]
  · iexists _
    isplitr
    · ipureintro; exact e3
    iexact H3
  isplitl [H4]
  · iexists _
    isplitr
    · ipureintro; exact e4
    iexact H4
  isplitl [H5]
  · iexists _
    isplitr
    · ipureintro; exact e5
    iexact H5
  isplitl [H6]
  · iexists _
    isplitr
    · ipureintro; exact e6
    iexact H6

  iexists d5; iexists _; isplitr
  · ipureintro; exact e7
  iexact H7

set_option maxHeartbeats 1000000 in
/-- The first point of a later tile. -/
theorem sound_next (c : Dev nD) (t : Fin cfg1.N) (hP : PermOk (F := F) (V c main_arg3)) (hT : ∀ r : Fin 6144, DOk ((V c main_c : Vec F S6144 .i32) (ValueIdx.ix1 r)))
    (h0 : t.val / 10 ≠ 0) (h1 : t.val % 10 = 0) :
    bodyPre V Dw c t ⊢ wp frame (wpE (defs₀ (F := F)) 𝒱₀ c none) Set.univ (bodyAt1 t) (fun _ => bodyPost V Dw c t) := by
  unfold bodyPre bodyPost bodyAt1
  simp only [before0, before1, before2, before3, before4, after0, after1, after2, after3, after4, after5]
  rw [show (𝕕 c).Φ t.castSucc = ΦW V c t.val from rfl, show (𝕕 c).Φ t.succ = ΦW V c (t.val + 1) from rfl,
    show (𝕕 c).owesAt () t.succ = (𝕕 c).owesAt () t.castSucc from rfl]
  unfold ΦW scr owns
  iintro ⟨HΦ, Ho, ⟨%d0, %X2, %e2, H2⟩, ⟨%d1, %X3, %e3, H3⟩, ⟨%d2, %X4, %e4, H4⟩, ⟨%d3, %X5, %e5, H5⟩, ⟨%d4, %X6, %e6, H6⟩, ⟨%d5, %X7, %e7, H7⟩⟩
  icases HΦ with ⟨Hb, ⟨%X8, %X9, %X10, %X11, H8, H9, H10, H11, %hI⟩, Hg⟩
  have hN : cfg1.N = 250 := N_1
  have ht := t.isLt
  have c0 := coord0 t
  have c1 := coord1 t
  have E2 := e2.trans (iblk0 V c t)
  have E3 := e3.trans (iblk1 V c t)
  have E5 := e5.trans (iblk3 V c t)
  have E6 := e6.trans (iblk4 V c t)
  have E4 := e4.trans (iblk2 V c t)
  rw [if_neg h0] at E4
  have hD := hI.desc (by omega)
  iapply (run_next (F := F) 𝒱₀ c none Set.univ (grid1.coords t) _ _ _ _ _ _ _ _ _ _ _ _ _ _ _ _ _ _ _ _ (fun h => by have := (cond1_iff _).mp h; omega) ((cond2_iff _).mpr (by omega)) (fun h => by have := (cond3_iff _).mp h; omega) ((cond4_iff _).mpr (by omega))
    X4 X5 X6 X7 X8 X9 X10 X11 (hD.symm ▸ placed_ok hT) _)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro %f7 %f9 %f10 %f11 ⟨H4, H5, H6, H7, H8, H9, H10, H11, %hr⟩
  obtain ⟨r7, r9, r10, r11⟩ := hr
  rw [c0, c1] at r11
  rw [c0] at r7
  rw [E5] at r9 r11; rw [E6] at r10 r11
  have hn := Inv.next hI (by omega) hD r9 r10 r11
  have ho : (ms5 t).view.read (Elt F) f7 = outAt V c t := funext fun y => (r7 y).trans (by
    rw [E4, outT_tile _ (descs V c) _ _ _ _ (by omega) (fun y hy => hI.other (by omega) (by omega) y hy)]; rfl)
  isplitl [Hb H8 H9 H10 H11 Hg]
  · isplitl [Hb]; · iexact Hb
    isplitl [H8 H9 H10 H11]
    · iexists _; iexists _; iexists _; iexists _
      isplitl [H8]; · iexact H8
      isplitl [H9]; · iexact H9
      isplitl [H10]; · iexact H10
      isplitl [H11]; · iexact H11
      ipureintro
      exact hn
    iexact Hg
  isplitl [Ho]; · iexact Ho
  isplitl [H2]
  · iexists _
    isplitr
    · ipureintro; exact e2
    iexact H2
  isplitl [H3]
  · iexists _
    isplitr
    · ipureintro; exact e3
    iexact H3
  isplitl [H4]
  · iexists _
    isplitr
    · ipureintro; exact e4
    iexact H4
  isplitl [H5]
  · iexists _
    isplitr
    · ipureintro; exact e5
    iexact H5
  isplitl [H6]
  · iexists _
    isplitr
    · ipureintro; exact e6
    iexact H6

  iexists _; isplitr
  · ipureintro; exact ho
  iexact H7

set_option maxHeartbeats 1000000 in
/-- A later point of a later tile. -/
theorem sound_mul (c : Dev nD) (t : Fin cfg1.N) (hP : PermOk (F := F) (V c main_arg3)) (hT : ∀ r : Fin 6144, DOk ((V c main_c : Vec F S6144 .i32) (ValueIdx.ix1 r)))
    (h0 : t.val / 10 ≠ 0) (h1 : t.val % 10 ≠ 0) :
    bodyPre V Dw c t ⊢ wp frame (wpE (defs₀ (F := F)) 𝒱₀ c none) Set.univ (bodyAt1 t) (fun _ => bodyPost V Dw c t) := by
  unfold bodyPre bodyPost bodyAt1
  simp only [before0, before1, before2, before3, before4, after0, after1, after2, after3, after4, after5]
  rw [show (𝕕 c).Φ t.castSucc = ΦW V c t.val from rfl, show (𝕕 c).Φ t.succ = ΦW V c (t.val + 1) from rfl,
    show (𝕕 c).owesAt () t.succ = (𝕕 c).owesAt () t.castSucc from rfl]
  unfold ΦW scr owns
  iintro ⟨HΦ, Ho, ⟨%d0, %X2, %e2, H2⟩, ⟨%d1, %X3, %e3, H3⟩, ⟨%d2, %X4, %e4, H4⟩, ⟨%d3, %X5, %e5, H5⟩, ⟨%d4, %X6, %e6, H6⟩, ⟨%d5, %X7, %e7, H7⟩⟩
  icases HΦ with ⟨Hb, ⟨%X8, %X9, %X10, %X11, H8, H9, H10, H11, %hI⟩, Hg⟩
  have hN : cfg1.N = 250 := N_1
  have ht := t.isLt
  have c0 := coord0 t
  have c1 := coord1 t
  have E2 := e2.trans (iblk0 V c t)
  have E3 := e3.trans (iblk1 V c t)
  have E5 := e5.trans (iblk3 V c t)
  have E6 := e6.trans (iblk4 V c t)
  have E4 := e4.trans (iblk2 V c t)
  rw [if_neg h0] at E4
  have hD := hI.desc (by omega)
  iapply (run_mul (F := F) 𝒱₀ c none Set.univ (grid1.coords t) _ _ _ _ _ _ _ _ _ _ _ _ _ _ _ _ _ _ _ _ (fun h => by have := (cond1_iff _).mp h; omega) (fun h => by have := (cond2_iff _).mp h; omega) (fun h => by have := (cond3_iff _).mp h; omega) ((cond4_iff _).mpr (by omega))
    X4 X7 X8 X9 X10 X11 _ _ (hD.symm ▸ placed_ok hT) (hI.words h1) (hI.scales h1) _)
  isplitl [H4]; · iexact H4
  isplitl [H7]; · iexact H7
  isplitl [H8]; · iexact H8
  isplitl [H9]; · iexact H9
  isplitl [H10]; · iexact H10
  isplitl [H11]; · iexact H11
  iintro %f7 %f11 ⟨H4, H7, H8, H9, H10, H11, %hr⟩
  obtain ⟨r7, r11⟩ := hr
  rw [c0, c1] at r11
  rw [c0] at r7
  have hn := Inv.next hI (by omega) hD (hI.words h1) (hI.scales h1) r11
  have ho : (ms5 t).view.read (Elt F) f7 = outAt V c t := funext fun y => (r7 y).trans (by
    rw [E4, outT_tile _ (descs V c) _ _ _ _ (by omega) (fun y hy => hI.other (by omega) (by omega) y hy)]; rfl)
  isplitl [Hb H8 H9 H10 H11 Hg]
  · isplitl [Hb]; · iexact Hb
    isplitl [H8 H9 H10 H11]
    · iexists _; iexists _; iexists _; iexists _
      isplitl [H8]; · iexact H8
      isplitl [H9]; · iexact H9
      isplitl [H10]; · iexact H10
      isplitl [H11]; · iexact H11
      ipureintro
      exact hn
    iexact Hg
  isplitl [Ho]; · iexact Ho
  isplitl [H2]
  · iexists _
    isplitr
    · ipureintro; exact e2
    iexact H2
  isplitl [H3]
  · iexists _
    isplitr
    · ipureintro; exact e3
    iexact H3
  isplitl [H4]
  · iexists _
    isplitr
    · ipureintro; exact e4
    iexact H4
  isplitl [H5]
  · iexists _
    isplitr
    · ipureintro; exact e5
    iexact H5
  isplitl [H6]
  · iexists _
    isplitr
    · ipureintro; exact e6
    iexact H6

  iexists _; isplitr
  · ipureintro; exact ho
  iexact H7

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

theorem idle5 (t : Fin cfg1.N) : idle1 5 (grid1.coords t) = decide (t.val / 10 = 0) := by
  show (!(k1_cond4 (grid1.coords t) == 1#1)) = _
  have c0 := coord0 t
  by_cases h : t.val / 10 = 0
  · have hc : ¬ k1_cond4 (grid1.coords t) = 1#1 := fun hc => by have := (cond4_iff _).mp hc; omega
    rw [decide_eq_true h]; simp [hc]
  · have hc : k1_cond4 (grid1.coords t) = 1#1 := (cond4_iff _).mpr (by omega)
    rw [decide_eq_false h]; simp [hc]

/-- The body obligation, at every point. -/
theorem body_obligation (c : Dev nD) (hP : PermOk (F := F) (V c main_arg3)) (hT : ∀ r : Fin 6144, DOk ((V c main_c : Vec F S6144 .i32) (ValueIdx.ix1 r))) :
    BodyObligation (𝕕 c) (defs₀ (F := F)) 𝒱₀ () Set.univ := fun t => by
  rw [bigSep_W1, bigSep_W1, defs₀_row]
  by_cases h0 : t.val / 10 = 0
  · have hi := (idle5 t).trans (decide_eq_true h0)
    have hf := flush5_early t (by omega)
    simp only [hi, hf]
    by_cases h1 : t.val % 10 = 0
    · exact triple_restated (sound_first 𝒱₀ V Dw c t hP hT h0 h1) rfl .rfl fun _ => .rfl
    · exact triple_restated (sound_fill 𝒱₀ V Dw c t hP hT h0 h1) rfl .rfl fun _ => .rfl
  · have hi := (idle5 t).trans (decide_eq_false h0)
    simp only [hi]
    by_cases h1 : t.val % 10 = 0
    · exact triple_restated (sound_next 𝒱₀ V Dw c t hP hT h0 h1) rfl .rfl fun _ => .rfl
    · exact triple_restated (sound_mul 𝒱₀ V Dw c t hP hT h0 h1) rfl .rfl fun _ => .rfl

end Cert.Kernel.Dq
-- ==== Proof.KTable.lean ====
module

public import proofs.«01_k».proof.Proof.KTiles

@[expose] public section

noncomputable section

/-! # The descriptor table's entries -/

namespace Cert.Kernel.Dq

open Cert.Kernel Cert.Kernel.Gen
open Idealize.ShloMosaic Idealize.ShloMosaic.TcCoe

instance (d : BitVec 32) : Decidable (DOk d) := by unfold DOk; infer_instance

/-- Every entry names words and a scale row that exist. -/
theorem lit_ok : ∀ r : Fin 6144, DOk (lit0 r) := by decide +kernel

end Cert.Kernel.Dq

end
-- ==== Proof.KCalls.lean ====
module

public import proofs.«01_k».proof.Proof.Gen.Kernel.Regions
public import proofs.«01_k».proof.Proof.KNormCall
public import proofs.«01_k».proof.Proof.KRegion1
public import proofs.«01_k».proof.Proof.KTable
public import Idealize.ShloMosaic.Lib.Pipeline.RegionArrays

@[expose] public section

noncomputable section

/-! # The two calls as the program's regions, and the program's run -/

namespace Cert.Kernel.Calls

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [BitOps F]

local notation "𝕄G" => MT nD τ sig Unit (Elt F) ℕ (UR sig nD τ) ℕ

/-- No variants. -/
abbrev 𝒱₀ : Variants := Variants.none
/-- A core owes nothing. -/
abbrev D0 : Dev nD → CellTallies nD τ sig Unit := fun _ => 0
/-- Every cell of the TensorCores has its one index, at level 0. -/
def L (g : GSem nD τ sig) : Finset Unit := if g.1.2 = .tc then {()} else ∅
def lv (_ : GSem nD τ sig) (_ : Unit) : ℕ := 0
theorem L_of_ne (g : GSem nD τ sig) (h : g.1.2 ≠ .tc) : L g = ∅ := if_neg h
theorem L_tc (c : Dev nD) (sm : SemLoc sig) : L ((c : Thread nD τ), sm) = {()} := if_pos rfl

theorem cut (p : Fin 2) : Pipeline.LevelCut (pcfgs (F := F)) adm () L lv p D0 (fun _ => 0) where
  hι c w s := by rw [L_tc]; exact Finset.mem_singleton_self _
  hιb c w s := le_rfl
  hD c g i h := absurd h (Nat.lt_irrefl 0)

/-! ## What the calls leave -/

variable (m : (ℓ : Loc nD τ sig) → Buf (Elt F) ℓ)

/-- The first call's data: entered after the first host operations. -/
def dat0 (c : Dev nD) : Dat τ (Elt F) Unit ℕ (UR sig nD τ) ℕ cfg0 c :=
  Norm.dat (Ix := Unit) (U := UR sig nD τ) (Lvl := ℕ) 𝒱₀ (fun c b => V1 m c (Proc.devRef .tc b)) D0 c

/-- The first call's results. -/
def outsA : Outs (F := F) := fun _ r c =>
  Function.update (Function.update (fun r : Ref sig .tc => m ((c : Thread nD τ).loc r)) main_v3_0 ((dat0 m c).arrAt 3 cfg0.N))
    main_v3_1 ((dat0 m c).arrAt 4 cfg0.N) r

/-- What the second call finds. -/
abbrev Vin (c : Dev nD) (b : Ref sig .tc) : Buf (Elt F) ((c : Thread nD τ).loc b) := V3 m (outsA m) c (Proc.devRef .tc b)

/-- The second call's data. -/
def dat1 (c : Dev nD) : Dat τ (Elt F) Unit ℕ (UR sig nD τ) ℕ cfg1 c := Dq.dat (F := F) (Vin m) D0 c

/-- Both calls' results. -/
def outs : Outs (F := F) := fun J r c =>
  Function.update (fun r : Ref sig .tc => outsA m J r c) main_v5 ((dat1 m c).arrAt 5 cfg1.N) r

theorem outs_h (J : ℕ) (c : Dev nD) : outs m J main_v3_0 c = (dat0 m c).arrAt 3 cfg0.N := by
  unfold outs outsA
  rw [Function.update_of_ne (by decide), Function.update_of_ne (by decide), Function.update_self]
theorem outs_n (J : ℕ) (c : Dev nD) : outs m J main_v3_1 c = (dat0 m c).arrAt 4 cfg0.N := by
  unfold outs outsA
  rw [Function.update_of_ne (by decide), Function.update_self]
theorem outs_y (J : ℕ) (c : Dev nD) : outs m J main_v5 c = (dat1 m c).arrAt 5 cfg1.N := by
  unfold outs
  rw [Function.update_self]

theorem V2_outs (c : Dev nD) : V2 m (outs m) c = V2 m (outsA m) c := by
  have e1 : outs m 2 main_v3_0 c = outsA m 2 main_v3_0 c := by
    unfold outs; rw [Function.update_of_ne (by decide)]
  have e2 : outs m 2 main_v3_1 c = outsA m 2 main_v3_1 c := by
    unfold outs; rw [Function.update_of_ne (by decide)]
  unfold V2; rw [e1, e2]

theorem V3_outs (c : Dev nD) : V3 m (outs m) c = V3 m (outsA m) c := by
  unfold V3; rw [V2_outs]

/-- Each call's data. -/
def pdats : (p : Fin 2) → (c : Dev nD) → Dat τ (Elt F) Unit ℕ (UR sig nD τ) ℕ (cfgs p) c
  | ⟨0, _⟩ => fun c => dat0 m c
  | ⟨1, _⟩ => fun c => dat1 m c

/-- Each window's array of region 0 (custom call 0), as a device buffer, is in the region's array set. -/
theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
/-- They are among the held buffers: unscoped. -/
theorem arr0_S : Pipeline.arrRefs (τ := τ) spec0 ⊆ Pipeline.ucRefs τ sig :=
  Pipeline.arrRefs_sub_ucRefs spec0 (by decide)
theorem V2_at_main_v3_0 (outs : Outs (F := F)) (c : Dev nD) : V2 m outs c (Proc.devRef .tc main_v3_0) = outs 2 main_v3_0 c := by
  simp only [V2, Function.update_of_ne (StableHlo.devRef_ne_of_ne (by decide : (main_v3_0 : Ref sig .tc) ≠ main_v3_1)), Function.update_self]

theorem V2_at_main_v3_1 (outs : Outs (F := F)) (c : Dev nD) : V2 m outs c (Proc.devRef .tc main_v3_1) = outs 2 main_v3_1 c := by
  simp only [V2, Function.update_self]

/-- Across region 0 every held buffer but its arrays keeps its contents: the frame has it change its output arrays alone. -/
theorem rest0_eq (outs : Outs (F := F)) (c : Dev nD) : ∀ b ∈ (Pipeline.ucRefs τ sig) \ Pipeline.arrRefs (τ := τ) spec0, V2 m outs c b = V1 m c b := fun b hb => by
  have hn : b ∉ Pipeline.arrRefs (τ := τ) spec0 := (Finset.mem_sdiff.mp hb).2
  have h_main_v3_0 : b ≠ Proc.devRef .tc main_v3_0 := by rintro rfl; exact hn (by first | exact arr0_mem 3 | decide)
  have h_main_v3_1 : b ≠ Proc.devRef .tc main_v3_1 := by rintro rfl; exact hn (by first | exact arr0_mem 4 | decide)
  simp only [V2, Function.update_of_ne h_main_v3_0, Function.update_of_ne h_main_v3_1]

theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
theorem arr1_S : Pipeline.arrRefs (τ := τ) spec1 ⊆ Pipeline.ucRefs τ sig :=
  Pipeline.arrRefs_sub_ucRefs spec1 (by decide)

theorem V4_at_main_v5 (outs : Outs (F := F)) (c : Dev nD) : V4 m outs c (Proc.devRef .tc main_v5) = outs 4 main_v5 c := by
  simp only [V4, Function.update_self]

theorem rest1_eq (outs : Outs (F := F)) (c : Dev nD) : ∀ b ∈ (Pipeline.ucRefs τ sig) \ Pipeline.arrRefs (τ := τ) spec1, V4 m outs c b = V3 m outs c b := fun b hb => by
  have hn : b ∉ Pipeline.arrRefs (τ := τ) spec1 := (Finset.mem_sdiff.mp hb).2
  have h : b ≠ Proc.devRef .tc main_v5 := by rintro rfl; exact hn (by first | exact arr1_mem 5 | decide)
  simp only [V4, Function.update_of_ne h]

/-! ## The second call's scratch buffers, as the launch hands them over and takes them back -/

theorem scr_in (c : Dev nD) (V : (c : Dev nD) → (b : Ref sig .tc) → Buf (Elt F) ((c : Thread nD τ).loc b)) :
    iprop(Pipeline.scopedRest (Ix := Unit) (Name := ℕ) (U := UR sig nD τ) (Lvl := ℕ) (Val := Elt F) spec1 c ∗ ∃ r, prngReg c r) ⊢ (Dq.ΦW (F := F) V c 0 : sProp 𝕄G) := by
  rw [scopedRest1_eq]
  unfold Dq.ΦW Dq.idleBufs Dq.scr
  simp only [View.set_whole]
  iintro ⟨⟨H0, H1, H2, H3, H4, H5, H6, H7, H8, ⟨%g9, K9⟩, ⟨%g10, K10⟩, ⟨%g11, K11⟩, ⟨%g8, K8⟩⟩, Hg⟩
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [K8 K9 K10 K11]
  · iexists g8; iexists g9; iexists g10; iexists g11
    isplitl [K8]; · iexact K8
    isplitl [K9]; · iexact K9
    isplitl [K10]; · iexact K10
    isplitl [K11]; · iexact K11
    ipureintro
    exact Or.inl rfl
  iexact Hg

theorem scr_out (c : Dev nD) (V : (c : Dev nD) → (b : Ref sig .tc) → Buf (Elt F) ((c : Thread nD τ).loc b)) (n : ℕ) :
    (Dq.ΦW (F := F) V c n : sProp 𝕄G) ⊢ iprop(Pipeline.scopedRest (Ix := Unit) (Name := ℕ) (U := UR sig nD τ) (Lvl := ℕ) (Val := Elt F) spec1 c ∗ ∃ r, prngReg c r) := by
  rw [scopedRest1_eq]
  unfold Dq.ΦW Dq.idleBufs Dq.scr
  simp only [View.set_whole]
  iintro ⟨⟨H0, H1, H2, H3, H4, H5, H6, H7, H8⟩, ⟨%g8, %g9, %g10, %g11, K8, K9, K10, K11, -⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [K9]; · iexists g9; iexact K9
    isplitl [K10]; · iexists g10; iexact K10
    isplitl [K11]; · iexists g11; iexact K11
    iexists g8; iexact K8
  iexact Hg

/-! ## The regions' records -/

/-- Between two items a core keeps its generator register and owes nothing. -/
def E (c : Dev nD) : sProp 𝕄G := iprop((∃ r, prngReg c r) ∗ ∃ W, owes (c : Thread nD τ) (D0 c) W)

set_option backward.isDefEq.respectTransparency.types false in
/-- Call 0: its arrays held before and after; every other held buffer rides along. -/
def R0 : RegionSeg (pcfgs (F := F)) adm (pdats m) () defs₀ 𝒱₀ L lv 0 :=
  Pipeline.RegionSeg.ofHeld (pcfgs (F := F)) adm (pdats m) () defs₀ 𝒱₀ L lv 0 D0
    (fun c => iprop(∃ r, prngReg c r)) (fun c => iprop(∃ r, prngReg c r))
    launch0.toP rfl
    (fun c => (Norm.body_obligation (Ix := Unit) (U := UR sig nD τ) (Lvl := ℕ) 𝒱₀ (fun c b => V1 m c (Proc.devRef .tc b)) D0 () c).loose) (fun _ _ => rfl) (fun _ => rfl)
    (fun c => (pdats m 0 c).share_full fun _ => rfl) (fun _ => .rfl) (fun _ => .rfl) (fun _ => 0) (cut 0)
    (fun c => StableHlo.held (c : Thread nD τ) ((Pipeline.ucRefs τ sig) \ Pipeline.arrRefs (τ := τ) spec0) (V1 m c))
    (V1 m) (V2 m (outs m)) (fun _ _ => rfl)
    (fun c => fun | 0 => ((pdats m 0 c).arrAt_in 0 rfl _).trans ((Norm.A_eq (Ix := Unit) (U := UR sig nD τ) (Lvl := ℕ) 𝒱₀ (fun c b => V1 m c (Proc.devRef .tc b)) D0 c 0).trans (V2_of m (outs m) c (Pipeline.arrRef spec0 0) (by decide)).symm) | 1 => ((pdats m 0 c).arrAt_in 1 rfl _).trans ((Norm.A_eq (Ix := Unit) (U := UR sig nD τ) (Lvl := ℕ) 𝒱₀ (fun c b => V1 m c (Proc.devRef .tc b)) D0 c 1).trans (V2_of m (outs m) c (Pipeline.arrRef spec0 1) (by decide)).symm) | 2 => ((pdats m 0 c).arrAt_in 2 rfl _).trans ((Norm.A_eq (Ix := Unit) (U := UR sig nD τ) (Lvl := ℕ) 𝒱₀ (fun c b => V1 m c (Proc.devRef .tc b)) D0 c 2).trans (V2_of m (outs m) c (Pipeline.arrRef spec0 2) (by decide)).symm) | 3 => (outs_h m 2 c).symm.trans (V2_at_main_v3_0 m (outs m) c).symm | 4 => (outs_n m 2 c).symm.trans (V2_at_main_v3_1 m (outs m) c).symm | ⟨_ + 5, h⟩ => absurd h (Nat.not_lt.2 (Nat.le_add_left _ _)))

theorem hpre0 (c : Dev nD) :
    iprop(StableHlo.held (c : Thread nD τ) (Pipeline.ucRefs τ sig) (V1 m c) ∗ E c) ⊢ (R0 m).pre c := by
  show _ ⊢ iprop(StableHlo.held (c : Thread nD τ) (Pipeline.arrRefs (τ := τ) spec0) (V1 m c) ∗ (∃ r, prngReg c r)
    ∗ (StableHlo.held (c : Thread nD τ) ((Pipeline.ucRefs τ sig) \ Pipeline.arrRefs (τ := τ) spec0) (V1 m c)) ∗ ∃ W, owes (c : Thread nD τ) (D0 c) W)
  rw [StableHlo.held_sub_split (c : Thread nD τ) arr0_S (V1 m c)]
  unfold E
  iintro ⟨⟨Ha, Hr⟩, Hp, HO⟩
  isplitl [Ha]; · iexact Ha
  isplitl [Hp]; · iexact Hp
  isplitl [Hr]; · iexact Hr
  iexact HO

theorem hpost0 (c : Dev nD) :
    (R0 m).post c ⊢ iprop(StableHlo.held (c : Thread nD τ) (Pipeline.ucRefs τ sig) (V2 m (outs m) c) ∗ E c) := by
  show iprop(StableHlo.held (c : Thread nD τ) (Pipeline.arrRefs (τ := τ) spec0) (V2 m (outs m) c) ∗ (∃ r, prngReg c r)
    ∗ (StableHlo.held (c : Thread nD τ) ((Pipeline.ucRefs τ sig) \ Pipeline.arrRefs (τ := τ) spec0) (V1 m c)) ∗ ∃ W, owes (c : Thread nD τ) (D0 c) W) ⊢ _
  rw [StableHlo.held_sub_split (c : Thread nD τ) arr0_S (V2 m (outs m) c),
    StableHlo.held_congr (c : Thread nD τ) (S := (Pipeline.ucRefs τ sig) \ Pipeline.arrRefs (τ := τ) spec0) (rest0_eq m (outs m) c)]
  unfold E
  iintro ⟨Ha, Hp, Hr, HO⟩
  isplitl [Ha Hr]; · isplitl [Ha] <;> iassumption
  isplitl [Hp]; · iexact Hp
  iexact HO

/-- The second call finds the permutation as launched, -/
theorem perm_in (c : Dev nD) (h : Dq.PermOk (F := F) (m ((c : Thread nD τ).loc main_arg3))) : Dq.PermOk (F := F) (Vin m c main_arg3) := by
  have e : Vin m c main_arg3 = m ((c : Thread nD τ).loc main_arg3) :=
    (V3_of m (outsA m) c main_arg3 (by decide)).trans <| (V2_of m (outsA m) c main_arg3 (by decide)).trans <| (V1_of m c main_arg3 (by decide)).trans rfl
  rw [e]; exact h

/-- and the descriptors as the program states them. -/
theorem table_eq (c : Dev nD) : Vin m c main_c = fun i => lit0 (S6144.rowMajor i) := by
  refine (V3_of m (outsA m) c main_c (by decide)).trans <| (V2_of m (outsA m) c main_c (by decide)).trans ?_
  show StableHlo.after hostOps0 (V0 m c) (Proc.devRef .tc main_c) = _
  rfl

theorem table_at (c : Dev nD) (r : Fin 6144) : (Vin m c main_c : Vec F S6144 .i32) (ValueIdx.ix1 r) = lit0 r := by
  rw [table_eq]
  have h : S6144.rowMajor (ValueIdx.ix1 r) = r := Fin.ext (Shape.rowMajor_val_one _)
  show lit0 (S6144.rowMajor (ValueIdx.ix1 r)) = _
  rw [h]

theorem table_in (c : Dev nD) (r : Fin 6144) : Dq.DOk ((Vin m c main_c : Vec F S6144 .i32) (ValueIdx.ix1 r)) := by
  rw [table_at]; exact Dq.lit_ok r

set_option backward.isDefEq.respectTransparency.types false in
/-- Call 1: its arrays held before and after; every other held buffer rides along. -/
def R1 (hP : ∀ c : Dev nD, Dq.PermOk (F := F) (m ((c : Thread nD τ).loc main_arg3))) : RegionSeg (pcfgs (F := F)) adm (pdats m) () defs₀ 𝒱₀ L lv 1 :=
  Pipeline.RegionSeg.ofHeld (pcfgs (F := F)) adm (pdats m) () defs₀ 𝒱₀ L lv 1 D0
    (fun c => iprop(∃ r, prngReg c r)) (fun c => iprop(∃ r, prngReg c r))
    launch1.toP rfl
    (fun c => (Dq.body_obligation (F := F) 𝒱₀ (Vin m) D0 c (perm_in m c (hP c)) (table_in m c)).loose) (fun _ _ => rfl) (fun _ => rfl)
    (fun c => (pdats m 1 c).share_full fun _ => rfl) (fun c => scr_in c (Vin m)) (fun c => scr_out c (Vin m) _) (fun _ => 0) (cut 1)
    (fun c => StableHlo.held (c : Thread nD τ) ((Pipeline.ucRefs τ sig) \ Pipeline.arrRefs (τ := τ) spec1) (V3 m (outs m) c))
    (V3 m (outs m)) (V4 m (outs m)) (fun c w => (Dq.A_eq (F := F) (Vin m) D0 c w).trans (congrFun (V3_outs m c) _).symm)
    (fun c => fun | 0 => ((pdats m 1 c).arrAt_in 0 rfl _).trans ((Dq.A_eq (F := F) (Vin m) D0 c 0).trans ((congrFun (V3_outs m c) _).symm.trans (V4_of m (outs m) c (Pipeline.arrRef spec1 0) (by decide)).symm)) | 1 => ((pdats m 1 c).arrAt_in 1 rfl _).trans ((Dq.A_eq (F := F) (Vin m) D0 c 1).trans ((congrFun (V3_outs m c) _).symm.trans (V4_of m (outs m) c (Pipeline.arrRef spec1 1) (by decide)).symm)) | 2 => ((pdats m 1 c).arrAt_in 2 rfl _).trans ((Dq.A_eq (F := F) (Vin m) D0 c 2).trans ((congrFun (V3_outs m c) _).symm.trans (V4_of m (outs m) c (Pipeline.arrRef spec1 2) (by decide)).symm)) | 3 => ((pdats m 1 c).arrAt_in 3 rfl _).trans ((Dq.A_eq (F := F) (Vin m) D0 c 3).trans ((congrFun (V3_outs m c) _).symm.trans (V4_of m (outs m) c (Pipeline.arrRef spec1 3) (by decide)).symm)) | 4 => ((pdats m 1 c).arrAt_in 4 rfl _).trans ((Dq.A_eq (F := F) (Vin m) D0 c 4).trans ((congrFun (V3_outs m c) _).symm.trans (V4_of m (outs m) c (Pipeline.arrRef spec1 4) (by decide)).symm)) | 5 => (outs_y m 4 c).symm.trans (V4_at_main_v5 m (outs m) c).symm | ⟨_ + 6, h⟩ => absurd h (Nat.not_lt.2 (Nat.le_add_left _ _)))

theorem hpre1 (hP : ∀ c : Dev nD, Dq.PermOk (F := F) (m ((c : Thread nD τ).loc main_arg3))) (c : Dev nD) :
    iprop(StableHlo.held (c : Thread nD τ) (Pipeline.ucRefs τ sig) (V3 m (outs m) c) ∗ E c) ⊢ (R1 m hP).pre c := by
  show _ ⊢ iprop(StableHlo.held (c : Thread nD τ) (Pipeline.arrRefs (τ := τ) spec1) (V3 m (outs m) c) ∗ (∃ r, prngReg c r)
    ∗ (StableHlo.held (c : Thread nD τ) ((Pipeline.ucRefs τ sig) \ Pipeline.arrRefs (τ := τ) spec1) (V3 m (outs m) c)) ∗ ∃ W, owes (c : Thread nD τ) (D0 c) W)
  rw [StableHlo.held_sub_split (c : Thread nD τ) arr1_S (V3 m (outs m) c)]
  unfold E
  iintro ⟨⟨Ha, Hr⟩, Hp, HO⟩
  isplitl [Ha]; · iexact Ha
  isplitl [Hp]; · iexact Hp
  isplitl [Hr]; · iexact Hr
  iexact HO

theorem hpost1 (hP : ∀ c : Dev nD, Dq.PermOk (F := F) (m ((c : Thread nD τ).loc main_arg3))) (c : Dev nD) :
    (R1 m hP).post c ⊢ iprop(StableHlo.held (c : Thread nD τ) (Pipeline.ucRefs τ sig) (V4 m (outs m) c) ∗ E c) := by
  show iprop(StableHlo.held (c : Thread nD τ) (Pipeline.arrRefs (τ := τ) spec1) (V4 m (outs m) c) ∗ (∃ r, prngReg c r)
    ∗ (StableHlo.held (c : Thread nD τ) ((Pipeline.ucRefs τ sig) \ Pipeline.arrRefs (τ := τ) spec1) (V3 m (outs m) c)) ∗ ∃ W, owes (c : Thread nD τ) (D0 c) W) ⊢ _
  rw [StableHlo.held_sub_split (c : Thread nD τ) arr1_S (V4 m (outs m) c),
    StableHlo.held_congr (c : Thread nD τ) (S := (Pipeline.ucRefs τ sig) \ Pipeline.arrRefs (τ := τ) spec1) (rest1_eq m (outs m) c)]
  unfold E
  iintro ⟨Ha, Hp, Hr, HO⟩
  isplitl [Ha Hr]; · isplitl [Ha] <;> iassumption
  isplitl [Hp]; · iexact Hp
  iexact HO

/-! ## The run -/

set_option backward.isDefEq.respectTransparency.types false in
/-- From a memory with a permutation for the feature order the program ends, with every buffer the calls and host operations
    share at the last contents named above and every counter at zero. -/
theorem run_all (ρ : Dev nD → PrngReg) (hP : ∀ c : Dev nD, Dq.PermOk (F := F) (m ((c : Thread nD τ).loc main_arg3))) :
    θ_run defs (onTc (τ := τ) (main (F := F))) ⟨m, fun _ => 0, ρ⟩ (fun r => (∀ c : Dev nD, ∀ b ∈ Pipeline.ucRefs τ sig,
      r.2.mem ((c : Thread nD τ).1, b) = V5 m (outs m) c b) ∧ r.2.sem = fun _ => 0) := by
  refine Pipeline.θ_run_regions_kit_dev_sems (pcfgs (F := F)) adm (pdats m) () cellOf_inj emb₁ defs₀ 𝒱₀ L lv m ρ main
    (segs m (outs m) 𝒱₀ L lv (fun _ => E) () (pdats m) (R0 m) (R1 m hP))
    (fun c Q => by
      rewrite [main_chain c, Seg.run_eq_chain,
        show (segs m (outs m) 𝒱₀ L lv (fun _ => E) () (pdats m) (R0 m) (R1 m hP) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (O₀ := 0) L_of_ne (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ E c))
    (Tₙ := fun c => StableHlo.held (c : Thread nD τ) (Pipeline.ucRefs τ sig) (V5 m (outs m) c))
    (hch := fun c => ⟨.rfl, hpre0 m c, hpost0 m c, hpre1 m hP c, hpost1 m hP c, sep_mono .rfl ?_⟩)
    (hinit := ?_) (QY := fun c s => ∀ b ∈ Pipeline.ucRefs τ sig, s.mem ((c : Thread nD τ).1, b) = V5 m (outs m) c b)
    (hfin := fun c s' => ?_) (hQ := fun _ h hz => ⟨h, funext fun g => hz g (.inr (regions_no_unscoped g.2))⟩)
  · iintro Hu; imodintro
    isplitl [Hu]
    · iapply (show (ownU (initOf (Pipeline.cells cfgs cellOf_inj) (Pipeline.launchToks cfgs cellOf_inj)) : sProp 𝕄G)
            ⊢ BI.own (emb₁ (initOf (Pipeline.cells cfgs cellOf_inj) (Pipeline.launchToks cfgs cellOf_inj))) from .rfl)
      iexact Hu
    iapply (show (BI.emp : sProp 𝕄G) ⊢ bigSep Finset.univ (fun _ : Dev nD => (BI.emp : sProp 𝕄G)) from by rw [BI.bigSep_emp_const])
    iempintro
  · unfold E
    iintro ⟨-, HO⟩
    iexact HO
  · refine Pipeline.initEach L lv fun c => ?_
    rw [show unscopedBufs c (fun b => m ((c.tc : Thread nD τ).loc b)) = StableHlo.held (c : Thread nD τ) (Pipeline.ucRefs τ sig) (V0 m c)
      from Pipeline.unscopedBufs_held c (V0 m c)]
    unfold E
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => ((c : Thread nD τ).1, b)) (V5 m (outs m) c) s')
    isplitl [Hh] <;> iassumption

theorem run_frame (ρ : Dev nD → PrngReg) (hP : ∀ c : Dev nD, Dq.PermOk (F := F) (m ((c : Thread nD τ).loc main_arg3))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c (Proc.devRef .tc main_arg0) (Finset.mem_filter.mpr ⟨StableHlo.devRef_mem_tcRefs main_arg0, by decide⟩)).trans (V5_main_arg0 m (outs m) c),
    (h.1 c (Proc.devRef .tc main_arg1) (Finset.mem_filter.mpr ⟨StableHlo.devRef_mem_tcRefs main_arg1, by decide⟩)).trans (V5_main_arg1 m (outs m) c),
    (h.1 c (Proc.devRef .tc main_arg2) (Finset.mem_filter.mpr ⟨StableHlo.devRef_mem_tcRefs main_arg2, by decide⟩)).trans (V5_main_arg2 m (outs m) c),
    (h.1 c (Proc.devRef .tc main_arg3) (Finset.mem_filter.mpr ⟨StableHlo.devRef_mem_tcRefs main_arg3, by decide⟩)).trans (V5_main_arg3 m (outs m) c),
    (h.1 c (Proc.devRef .tc main_arg4) (Finset.mem_filter.mpr ⟨StableHlo.devRef_mem_tcRefs main_arg4, by decide⟩)).trans (V5_main_arg4 m (outs m) c),
    (h.1 c (Proc.devRef .tc main_arg5) (Finset.mem_filter.mpr ⟨StableHlo.devRef_mem_tcRefs main_arg5, by decide⟩)).trans (V5_main_arg5 m (outs m) c)⟩, h.2⟩) (run_all m ρ hP)

end Cert.Kernel.Calls

end
-- ==== Proof.Frames.lean ====
/- The runs of the kernel as printed, of its form over the reals and of the reference: each ends with its arguments unchanged and every
   semaphore at zero. And the statements of the rules the form over the reals was rewritten by. -/
module

public import proofs.«01_k».proof.Defs
public import proofs.«01_k».proof.Proof.Gen.Pre_permutation
public import proofs.«01_k».proof.Proof.Gen.ReferenceIdeal.Run
public import proofs.«01_k».proof.Proof.PermPre
public import proofs.«01_k».proof.Proof.Calls
public import proofs.«01_k».proof.Proof.KCalls
public import Idealize.ShloMosaic.Adequacy
public import Idealize.ShloMosaic.Init
public import Idealize.ShloMosaic.Lib.Quiescent
public import Idealize.ShloMosaic.Lib.Bf16Pair
public import Idealize.ShloMosaic.Lib.Bf16PairInverse

@[expose] public section

noncomputable section

namespace Cert.Proof

open Idealize.ShloMosaic Idealize.SL.Sem

theorem kernel_frame [Cert.Pre_permutation.Facts] : Cert.quiescent_Kernel := fun m g hpre =>
  Cert.Kernel.Calls.run_frame m g fun c => Cert.Pre_permutation.perm_of _ _ _ _ _ _ (hpre c)

theorem kernelIdeal_frame [Cert.Pre_permutation.Facts] : Cert.quiescent_KernelIdeal := fun m g hpre =>
  Cert.KernelIdeal.Calls.run_frame m g fun c => Cert.Pre_permutation.perm_of _ _ _ _ _ _ (hpre c)

theorem reference_frame : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

theorem rules : Cert.preserves_Kernel_KernelIdeal :=
  ⟨IdealRules.bf16_pair.bufferStatement _ _ (by decide), IdealRules.bf16_pair.packStatement _, IdealRules.bf16_pair.statement _ _,
    IdealRules.bf16_pair.statement _ _, IdealRules.bf16_pair.statement _ _⟩

end Cert.Proof

end
-- ==== Proof.Arrays.lean ====
/- The arrays the two calls leave: the sum and the normalised rows, and the product of the normalised rows with the weights. -/
module

public import proofs.«01_k».proof.Proof.Calls
public import Idealize.ShloMosaic.Lib.Pipeline.ValueKit
public import Idealize.ShloMosaic.Lib.Pipeline.Covers
public import Idealize.ShloMosaic.Lib.Pointwise
public import Idealize.ShloMosaic.PureOps.Ideal

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.ValueIdx
open Idealize.ShloMosaic.Pipeline (Dat Cfg Window)

variable {F : FTy → Type} [FloatOps F]
variable (m : (ℓ : Loc nD τ sig) → Buf (Elt F) ℓ)

theorem row_coord (t : Fin cfg0.N) : (grid0.coords t 0).val = t.val := by
  have h := Pipeline.Grid.coords_val (G := grid0) t 0 (S := 1) (B := 20) (by decide) rfl
  have := t.isLt
  have hN : cfg0.N = 20 := N_0
  omega

/-- Rows `[256 i, 256 i + 256)` of an array of rows. -/
def rT (A : Vec F S5120x6144 .bf16) (i : ℕ) : Vec F S256x6144 .bf16 := fun y =>
  A (ValueIdx.ix2 ⟨(256 * i + (y 0).val) % 5120, Nat.mod_lt _ (by decide)⟩ (y 1))

variable (V : (c : Dev nD) → (b : Ref sig .tc) → Buf (Elt F) ((c : Thread nD τ).loc b)) (c : Dev nD)

theorem nblk0 (t : Fin cfg0.N) : Norm.iblk V c 0 t = rT (F := F) (V c main_v0) t.val := by
  funext y
  have e : win0_0.index t = ![t.val, 0] := by
    rw [← row_coord t]; funext a
    match a with
    | ⟨0, _⟩ => exact BitVec.toNat_ofNat .. |>.trans (Nat.mod_eq_of_lt (by have := (grid0.coords t 0).isLt; have h : grid0.bound 0 = 20 := rfl; omega))
    | ⟨1, _⟩ => rfl
  have ht : t.val < 20 := Nat.lt_of_lt_of_eq t.isLt N_0
  unfold Norm.iblk rT
  generalize t.val = k at e ht ⊢
  blk_ext [e]

theorem nblk1 (t : Fin cfg0.N) : Norm.iblk V c 1 t = rT (F := F) (V c main_v1) t.val := by
  funext y
  have e : win0_1.index t = ![t.val, 0] := by
    rw [← row_coord t]; funext a
    match a with
    | ⟨0, _⟩ => exact BitVec.toNat_ofNat .. |>.trans (Nat.mod_eq_of_lt (by have := (grid0.coords t 0).isLt; have h : grid0.bound 0 = 20 := rfl; omega))
    | ⟨1, _⟩ => rfl
  have ht : t.val < 20 := Nat.lt_of_lt_of_eq t.isLt N_0
  unfold Norm.iblk rT
  generalize t.val = k at e ht ⊢
  blk_ext [e]

theorem nblk2 (t : Fin cfg0.N) : Norm.iblk V c 2 t = V c main_v2 := by
  funext y
  have e : win0_2.index t = ![0, 0] := rfl
  unfold Norm.iblk
  blk_ext [e]

theorem oidx3 (t : Fin cfg0.N) : win0_3.index t = ![t.val, 0] := by
    rw [← row_coord t]; funext a
    match a with
    | ⟨0, _⟩ => exact BitVec.toNat_ofNat .. |>.trans (Nat.mod_eq_of_lt (by have := (grid0.coords t 0).isLt; have h : grid0.bound 0 = 20 := rfl; omega))
    | ⟨1, _⟩ => rfl

theorem oidx4 (t : Fin cfg0.N) : win0_4.index t = ![t.val, 0] := oidx3 t

/-- The sum of the first call's two arrays, and its rows normalised, tile by tile. -/
def hArr (X R : Vec F S5120x6144 .bf16) : Vec F S5120x6144 .bf16 := fun i =>
  k0_pay1 (F := F) (rT X ((i 0).val / 256)) (rT R ((i 0).val / 256)) (ValueIdx.ix2 ⟨(i 0).val % 256, Nat.mod_lt _ (by decide)⟩ (i 1))

def nArr (X R : Vec F S5120x6144 .bf16) (g : Vec F S1x6144 .f32) : Vec F S5120x6144 .bf16 := fun i =>
  k0_pay2 (F := F) (rT X ((i 0).val / 256)) (rT R ((i 0).val / 256)) g (ValueIdx.ix2 ⟨(i 0).val % 256, Nat.mod_lt _ (by decide)⟩ (i 1))

theorem hArr_at (X R : Vec F S5120x6144 .bf16) (k : ℕ) (y : S256x6144.Idx) (j : S5120x6144.Idx) (h0 : (j 0).val = k * 256 + (y 0).val)
    (h1 : (j 1).val = (y 1).val) : k0_pay1 (F := F) (rT X k) (rT R k) y = hArr X R j := by
  have hy := idx2_lt0 y
  have a : (j 0).val / 256 = k := by omega
  have b : (j 0).val % 256 = (y 0).val := by omega
  unfold hArr
  simp only [a, b]
  congr 1
  refine (ValueIdx.eq_ix2 y).trans ?_
  congr 1
  exact Fin.ext h1.symm

theorem nArr_at (X R : Vec F S5120x6144 .bf16) (g : Vec F S1x6144 .f32) (k : ℕ) (y : S256x6144.Idx) (j : S5120x6144.Idx) (h0 : (j 0).val = k * 256 + (y 0).val)
    (h1 : (j 1).val = (y 1).val) : k0_pay2 (F := F) (rT X k) (rT R k) g y = nArr X R g j := by
  have hy := idx2_lt0 y
  have a : (j 0).val / 256 = k := by omega
  have b : (j 0).val % 256 = (y 0).val := by omega
  unfold nArr
  simp only [a, b]
  congr 1
  refine (ValueIdx.eq_ix2 y).trans ?_
  congr 1
  exact Fin.ext h1.symm

theorem h_array : (dat0 m c).arrAt 3 cfg0.N = hArr (F := F) (V1 m c main_v0) (V1 m c main_v1) := by
  refine (dat0 m c).arrAt_eq_of_covers 3 _ (by decide +kernel) fun t hf y => ?_
  blk_simp
  unfold dat0
  rw [Norm.after0_3]
  unfold Norm.outsAt0
  frame_out
  rw [nblk0, nblk1]
  have e := oidx3 t
  have ht : t.val < 20 := Nat.lt_of_lt_of_eq t.isLt N_0
  exact hArr_at _ _ _ _ _ (by blk_simp [e]) (by blk_simp [e])

theorem n_array : (dat0 m c).arrAt 4 cfg0.N = nArr (F := F) (V1 m c main_v0) (V1 m c main_v1) (V1 m c main_v2) := by
  refine (dat0 m c).arrAt_eq_of_covers 4 _ (by decide +kernel) fun t hf y => ?_
  blk_simp
  unfold dat0
  rw [Norm.after0_4]
  unfold Norm.outsAt0
  frame_out
  rw [nblk0, nblk1, nblk2]
  have e := oidx4 t
  have ht : t.val < 20 := Nat.lt_of_lt_of_eq t.isLt N_0
  exact nArr_at _ _ _ _ _ _ (by blk_simp [e]) (by blk_simp [e])

/-- The product, tile by tile. -/
def yArr (D : Vec F S6160 .i32) (Q : Vec F S813x24576 .i32) (S : Vec F S192x24576 .bf16) (N : Vec F S5120x6144 .bf16) : Vec F S5120x24576 .bf16 := fun i =>
  Dq.tileOut (F := F) D (Dq.qT Q ((i 1).val / 1024)) (Dq.sT S ((i 1).val / 1024)) (Dq.nT N ((i 0).val / 512))
    (ValueIdx.ix2 ⟨(i 0).val % 512, Nat.mod_lt _ (by decide)⟩ ⟨(i 1).val % 1024, Nat.mod_lt _ (by decide)⟩)

theorem yArr_at (D : Vec F S6160 .i32) (Q : Vec F S813x24576 .i32) (S : Vec F S192x24576 .bf16) (N : Vec F S5120x6144 .bf16) (a b : ℕ) (y : S512x1024.Idx)
    (j : S5120x24576.Idx) (h0 : (j 0).val = b * 512 + (y 0).val) (h1 : (j 1).val = a * 1024 + (y 1).val) :
    Dq.tileOut (F := F) D (Dq.qT Q a) (Dq.sT S a) (Dq.nT N b) y = yArr D Q S N j := by
  have hy := idx2_lt0 y
  have hy1 := idx2_lt1 y
  have e1 : (j 0).val / 512 = b := by omega
  have e2 : (j 0).val % 512 = (y 0).val := by omega
  have e3 : (j 1).val / 1024 = a := by omega
  have e4 : (j 1).val % 1024 = (y 1).val := by omega
  unfold yArr
  simp only [e1, e2, e3, e4]
  exact congrArg _ (ValueIdx.eq_ix2 y)

theorem y_array : (dat1 m c).arrAt 5 cfg1.N = yArr (F := F) (Dq.placed (Vin m c main_arg3) (Vin m c main_c)) (Vin m c main_v4) (Vin m c main_arg5) (Vin m c main_v3_1) := by
  have e : ∀ t : Fin cfg1.N, win1_5.index t = ![if t.val / 10 = 0 then 0 else t.val % 10, t.val / 10 - 1] := fun t => by
    rw [← Dq.coord0 t, ← Dq.coord1 t]; exact Dq.tr5_eq _
  have hcov : (cfg1.win 5).Covers :=
    (cfg1.win 5).covers_of_indexMap_surj rfl (by decide) fun β => by
      have b0 : (β 0).val < 10 := (β 0).isLt
      have b1 : (β 1).val < 24 := (β 1).isLt
      let i : grid1.Coords := fun | ⟨0, _⟩ => ⟨(β 1).val + 1, by show (β 1).val + 1 < 25; omega⟩ | ⟨1, _⟩ => ⟨(β 0).val, by show (β 0).val < 10; omega⟩
      refine ⟨i, fun a => ?_⟩
      show cc1_transform_5 i a = (β a).val
      rw [Dq.tr5_eq i]
      match a with
      | ⟨0, _⟩ => show (if (β 1).val + 1 = 0 then 0 else (β 0).val) = (β 0).val; exact if_neg (Nat.succ_ne_zero _)
      | ⟨1, _⟩ => show (β 1).val + 1 - 1 = (β 1).val; exact Nat.add_sub_cancel _ _
  refine (dat1 m c).arrAt_eq_of_covers 5 _ hcov fun t hf y => ?_
  blk_simp
  unfold dat1
  rw [Dq.after5]
  have ht : 10 ≤ t.val := by
    by_contra h
    rw [Dq.flush5_early t (by omega)] at hf
    exact absurd hf (by decide)
  have e' := e t
  rw [if_neg (by omega)] at e'
  exact yArr_at _ _ _ _ _ _ _ _ (by blk_simp [e']) (by blk_simp [e'])

end Cert.KernelIdeal.Calls

end
-- ==== Proof.Product.lean ====
/- The product's array read at an index: the sum over the rows of the weights, each weight cut from its words by its row's descriptor. -/
module

public import proofs.«01_k».proof.Proof.Arrays

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.ValueIdx

theorem pay8_apply (A B : Vec Ideal S3072x2x128 .bf16) (n : Vec Ideal S512x6144 .bf16) (y : S512x256.Idx) :
    k1_pay8 (F := Ideal) A B n y = ∑ k : Fin 6144, n (ValueIdx.ix2 (y 0) k) *
      (if (y 1).val < 128 then A else B) (ValueIdx.ix3 ⟨k.val / 2, by omega⟩ ⟨k.val % 2, by omega⟩ ⟨(y 1).val % 128, by omega⟩) := by
  unfold k1_pay8
  pointwise
  have hy1 := idx2_lt1 y
  refine Finset.sum_congr rfl fun k _ => ?_
  congr 1
  by_cases h : (y 1).val < 128
  · rw [dif_pos h, if_pos h]
    by_cases hk : k.val % 2 = 0
    · rw [if_pos hk]; blk_ext
    · rw [if_neg hk]; blk_ext
  · rw [dif_neg h, if_neg h]
    by_cases hk : k.val % 2 = 0
    · rw [if_pos hk]; blk_ext
    · rw [if_neg hk]; blk_ext

/-- The weight of row `r` of the table and column `n`: the code that the row's descriptor names, times its group's scale. -/
def weight (Q : Vec Ideal S813x24576 .i32) (S : Vec Ideal S192x24576 .bf16) (d : BitVec 32) (n : Fin 24576) : Ideal .bf16 :=
  Dq.valOf (F := Ideal) d (Q (ValueIdx.ix2 ⟨(Dq.dLo d).toNat % 813, Nat.mod_lt _ (by decide)⟩ n)) (Q (ValueIdx.ix2 ⟨(Dq.dHi d).toNat % 813, Nat.mod_lt _ (by decide)⟩ n))
    (FloatOps.extf .f32 bitsLt_bf16_f32 (S (ValueIdx.ix2 ⟨(Dq.dGrp d).toNat % 192, Nat.mod_lt _ (by decide)⟩ n)))

theorem deq_tile (Q : Vec Ideal S813x24576 .i32) (S : Vec Ideal S192x24576 .bf16) (d : BitVec 32) (a : ℕ) (c : Fin 1024) (n : Fin 24576) (h : 1024 * a + c.val = n.val) :
    Dq.deq (F := Ideal) d (Dq.qT Q a) (Dq.sT S a) c = weight Q S d n := by
  have e : ∀ p, (⟨(1024 * a + c.val) % 24576, p⟩ : Fin 24576) = n := fun p => Fin.ext (by show _ % _ = _; rw [h]; exact Nat.mod_eq_of_lt n.isLt)
  have e1 : ∀ x : Fin 813, Dq.qT (F := Ideal) Q a (ValueIdx.ix2 x c) = Q (ValueIdx.ix2 x n) := fun x => congrArg (fun z => Q (ValueIdx.ix2 x z)) (e _)
  have e2 : ∀ x : Fin 192, Dq.sT (F := Ideal) S a (ValueIdx.ix2 x c) = S (ValueIdx.ix2 x n) := fun x => congrArg (fun z => S (ValueIdx.ix2 x z)) (e _)
  unfold Dq.deq weight
  rw [e1, e1, e2]

theorem yArr_apply (D : Vec Ideal S6160 .i32) (Q : Vec Ideal S813x24576 .i32) (S : Vec Ideal S192x24576 .bf16) (N : Vec Ideal S5120x6144 .bf16)
    (i : Fin 5120) (n : Fin 24576) :
    yArr (F := Ideal) D Q S N (ValueIdx.ix2 i n) = ∑ k : Fin 6144, N (ValueIdx.ix2 i k) * weight Q S (D (ValueIdx.ix1 ⟨k.val, by omega⟩)) n := by
  have hi := i.isLt
  have hn := n.isLt
  unfold yArr Dq.tileOut Dq.outT
  rw [pay8_apply]
  refine Finset.sum_congr rfl fun k _ => ?_
  have hk := k.isLt
  congr 1
  · unfold Dq.nT
    congr 1
    congr 1
    exact Fin.ext (by show (512 * (i.val / 512) + i.val % 512) % 5120 = i.val; omega)
  · show (if n.val % 1024 % 256 < 128 then Dq.rd (F := Ideal) _ 0 (2 * (n.val % 1024 / 256)) else Dq.rd (F := Ideal) _ 0 (2 * (n.val % 1024 / 256) + 1))
      (ValueIdx.ix3 ⟨k.val / 2, _⟩ ⟨k.val % 2, _⟩ ⟨n.val % 1024 % 256 % 128, _⟩) = _
    have key : ∀ r : ℕ, r < 8 → 128 * r + n.val % 1024 % 256 % 128 = n.val % 1024 →
        Dq.rd (F := Ideal) (Dq.wTile D (Dq.qT Q (n.val / 1024)) (Dq.sT S (n.val / 1024))) 0 r
          (ValueIdx.ix3 ⟨k.val / 2, by omega⟩ ⟨k.val % 2, by omega⟩ ⟨n.val % 1024 % 256 % 128, by omega⟩)
          = weight Q S (D (ValueIdx.ix1 ⟨k.val, by omega⟩)) n := by
      intro r hr h
      unfold Dq.rd Dq.wTile
      show Dq.deq (F := Ideal) (D (ValueIdx.ix1 ⟨2 * ((0 * 24640 + 3080 * r + k.val / 2) % 49280 % 3080) + k.val % 2, _⟩)) _ _
        ⟨128 * ((0 * 24640 + 3080 * r + k.val / 2) % 49280 % 24640 / 3080) + n.val % 1024 % 256 % 128, _⟩ = _
      have e1 : 2 * ((0 * 24640 + 3080 * r + k.val / 2) % 49280 % 3080) + k.val % 2 = k.val := by omega
      have e2 : 128 * ((0 * 24640 + 3080 * r + k.val / 2) % 49280 % 24640 / 3080) + n.val % 1024 % 256 % 128 = n.val % 1024 := by omega
      simp only [e1, e2]
      exact deq_tile Q S _ _ _ n (by show 1024 * (n.val / 1024) + n.val % 1024 = n.val; omega)
    split
    · exact key _ (by omega) (by omega)
    · exact key _ (by omega) (by omega)

end Cert.KernelIdeal.Calls

end
-- ==== Proof.Codes.lean ====
/- A code cut out of the word its row begins in, and the same code cut out of the window of four that it lies in. -/
module

public import proofs.«01_k».proof.Proof.Dequant
public import Idealize.ShloMosaic.Lib.KernelVsHost
public import Idealize.ShloMosaic.Lib.ValueIdxCore

@[expose] public section

set_option maxRecDepth 16384

noncomputable section

namespace Cert.KernelIdeal.Dq

open Cert.KernelIdeal
open Idealize.ShloMosaic

/-- The code at place `c` of a window: the window cut from the words `x` and `y` at bit `s`, shifted by `c` codes of `b` bits, masked and made signed. -/
def windowCode (x y s b c : BitVec 32) : BitVec 32 :=
  IntOp.subi (IntOp.andi (IntOp.shrui .host (IntOp.ori (IntOp.shrui .host x s) (IntOp.shli .host (IntOp.shli .host y 1#32) (IntOp.subi 31#32 s)))
    (IntOp.muli c b)) (IntOp.subi (IntOp.shli .host 1#32 b) 1#32)) (IntOp.shli .host 1#32 (IntOp.subi b 1#32))

theorem shr_bit (u : ArithUnit) (x s : BitVec 32) (hs : s.toNat < 32) (j : ℕ) : (IntOp.shrui u x s).getLsbD j = x.getLsbD (s.toNat + j) := by
  unfold IntOp.shrui
  rw [if_pos hs, BitVec.ushiftRight_eq', BitVec.getLsbD_ushiftRight]

/-- Bit `j` of a window that begins at bit `s` of the pair of words `x`, `y`. -/
theorem window_bit (u u' u'' : ArithUnit) (x y s : BitVec 32) (hs : s.toNat < 32) (j : ℕ) (hj : j < 32) :
    (IntOp.ori (IntOp.shrui u x s) (IntOp.shli u' (IntOp.shli u'' y 1#32) (IntOp.subi 31#32 s))).getLsbD j
      = if s.toNat + j < 32 then x.getLsbD (s.toNat + j) else y.getLsbD (s.toNat + j - 32) := by
  have e31 : (IntOp.subi 31#32 s).toNat = 31 - s.toNat := by
    unfold IntOp.subi
    rw [BitVec.toNat_sub_of_le (by rw [BitVec.le_def]; show s.toNat ≤ 31; omega)]; rfl
  unfold IntOp.ori
  rw [BitVec.getLsbD_or, shr_bit u x s hs]
  unfold IntOp.shli
  rw [if_pos (show (IntOp.subi 31#32 s).toNat < 32 by rw [e31]; omega), if_pos (show (1#32 : BitVec 32).toNat < 32 from by decide), BitVec.shiftLeft_eq', BitVec.shiftLeft_eq', e31, BitVec.getLsbD_shiftLeft, BitVec.getLsbD_shiftLeft]
  by_cases h : s.toNat + j < 32
  · rw [if_pos h]
    have : (1#32 : BitVec 32).toNat = 1 := rfl
    by_cases h' : j < 31 - s.toNat
    · simp [h']
    · have : j - (31 - s.toNat) = 0 := by omega
      simp [this]
  · rw [if_neg h, BitVec.getLsbD_of_ge _ _ (by omega)]
    have e1 : (1#32 : BitVec 32).toNat = 1 := rfl
    rw [e1, show j - (31 - s.toNat) - 1 = s.toNat + j - 32 by omega]
    simp [hj, show ¬ j < 31 - s.toNat by omega, show ¬ j - (31 - s.toNat) < 1 by omega, show j - (31 - s.toNat) < 32 by omega]

theorem mask_bit (b : BitVec 32) (hb : b.toNat ≤ 8) (j : ℕ) (hj : j < 32) :
    (IntOp.subi (IntOp.shli .host 1#32 b) 1#32).getLsbD j = decide (j < b.toNat) := by
  have h := (by decide : ∀ (b : Fin 9) (j : Fin 32), (((1#32 : BitVec 32) <<< b.val) - 1#32).getLsbD j.val = decide (j.val < b.val)) ⟨b.toNat, by omega⟩ ⟨j, hj⟩
  unfold IntOp.shli IntOp.subi
  rw [if_pos (by omega), BitVec.shiftLeft_eq']
  exact h

theorem code_eq (d s b : BitVec 32) (c : ℕ) (x y x' y' : BitVec 32) (hb : dBits d = b) (b8 : b.toNat ≤ 8) (hs : s.toNat < 32)
    (hc : c * b.toNat + b.toNat ≤ 32) (hS : (dSh d).toNat < 32)
    (h : (s.toNat + c * b.toNat < 32 ∧ x' = x ∧ (dSh d).toNat = s.toNat + c * b.toNat ∧ (s.toNat + c * b.toNat + b.toNat ≤ 32 ∨ y' = y))
      ∨ (32 ≤ s.toNat + c * b.toNat ∧ x' = y ∧ (dSh d).toNat + 32 = s.toNat + c * b.toNat ∧ (dSh d).toNat + b.toNat ≤ 32)) :
    codeOf d x' y' = windowCode x y s b (BitVec.ofNat 32 c) := by
  unfold codeOf windowCode
  rw [hb]
  have em : Scalar.subi (Scalar.shli 1#32 b) 1#32 = IntOp.subi (IntOp.shli .host 1#32 b) 1#32 := by
    unfold Scalar.subi Scalar.shli; rw [shli_unit .scalar .host]
  have eh : Scalar.shli 1#32 (Scalar.subi b 1#32) = IntOp.shli .host 1#32 (IntOp.subi b 1#32) := by
    unfold Scalar.subi Scalar.shli; rw [shli_unit .scalar .host]
  rw [em, eh]
  congr 1
  apply BitVec.eq_of_getLsbD_eq
  intro j hj
  unfold IntOp.andi
  rw [BitVec.getLsbD_and, BitVec.getLsbD_and, mask_bit b b8 j hj]
  by_cases hjb : j < b.toNat
  · rw [decide_eq_true hjb, Bool.and_true, Bool.and_true]
    by_cases h0 : b.toNat = 0
    · omega
    have hcb : c * b.toNat < 32 := by omega
    have ec : (IntOp.muli (BitVec.ofNat 32 c) b).toNat = c * b.toNat := by
      have hc32 : c < 32 := by
        have := Nat.le_mul_of_pos_right c (Nat.pos_of_ne_zero h0)
        omega
      unfold IntOp.muli
      rw [BitVec.toNat_mul, BitVec.toNat_ofNat, Nat.mod_eq_of_lt (a := c) (by omega)]
      exact Nat.mod_eq_of_lt (by omega)
    rw [shr_bit _ _ _ (by rw [ec]; omega), ec]
    rw [window_bit .host .host .host x y s hs _ (by omega)]
    have hk := window_bit .vector .vector .vector x' y' (dSh d) hS j hj
    unfold Scalar.subi
    rw [hk]
    generalize c * b.toNat = p at *
    rcases h with ⟨h1, rfl, h3, h4⟩ | ⟨h1, rfl, h3, h4⟩
    · rw [h3, show s.toNat + p + j = s.toNat + (p + j) by omega]
      by_cases hl : s.toNat + (p + j) < 32
      · rw [if_pos hl, if_pos hl]
      · rw [if_neg hl, if_neg hl]
        rcases h4 with h4 | rfl
        · omega
        · rfl
    · rw [if_pos (by omega), if_neg (by omega), show s.toNat + (p + j) - 32 = (dSh d).toNat + j by omega]
  · rw [decide_eq_false hjb, Bool.and_false, Bool.and_false]

end Cert.KernelIdeal.Dq

end
-- ==== Proof.Match.lean ====
/- The descriptors of the rows against the table of the windows. -/
module

public import proofs.«01_k».proof.Proof.Codes
public import proofs.«01_k».proof.ReferenceIdeal

@[expose] public section

set_option maxRecDepth 16384

noncomputable section

namespace Cert.KernelIdeal.Dq

open Cert.KernelIdeal
open Idealize.ShloMosaic

/-- The descriptor `d` names the code at place `c` of the window that begins at bit `s` of word `lo` and runs on into word `hi`, of width `b`, in group `g`. -/
def Matches (d s lo hi b : BitVec 32) (c g : ℕ) : Prop :=
  dBits d = b ∧ b.toNat ≤ 8 ∧ s.toNat < 32 ∧ c * b.toNat + b.toNat ≤ 32 ∧ (dSh d).toNat < 32 ∧ (dGrp d).toNat = g ∧ lo.toNat ≤ 812 ∧ hi.toNat ≤ 812 ∧
  ((s.toNat + c * b.toNat < 32 ∧ dLo d = lo ∧ (dSh d).toNat = s.toNat + c * b.toNat ∧ (s.toNat + c * b.toNat + b.toNat ≤ 32 ∨ dHi d = hi))
      ∨ (32 ≤ s.toNat + c * b.toNat ∧ dLo d = hi ∧ (dSh d).toNat + 32 = s.toNat + c * b.toNat ∧ (dSh d).toNat + b.toNat ≤ 32))

instance (d s lo hi b : BitVec 32) (c g : ℕ) : Decidable (Matches d s lo hi b c g) := by unfold Matches; infer_instance

/-- Row `4 w + c` names the code at place `c` of window `w`. -/
theorem rows_match : ∀ (w : Fin 1536) (c : Fin 4), Matches (lit0 ⟨4 * w.val + c.val, by omega⟩) (Cert.ReferenceIdeal.lit0 w) (Cert.ReferenceIdeal.lit1 w)
    (Cert.ReferenceIdeal.lit2 w) (Cert.ReferenceIdeal.lit3 w) c.val (w.val / 8) := by decide +kernel

end Cert.KernelIdeal.Dq

end
-- ==== Proof.RefVal.lean ====
/- What the reference computes, read at an index. -/
module

public import proofs.«01_k».proof.Proof.Gen.ReferenceIdeal.Run
public import proofs.«01_k».proof.Proof.Codes
public import Idealize.ShloMosaic.Lib.Pipeline.ValueKit
public import Idealize.ShloMosaic.Lib.Pointwise
public import Idealize.ShloMosaic.Lib.Routing.Ops
public import Idealize.ShloMosaic.PureOps.Ideal

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.Sem

/-- The words of the packed array at rows named by a table: entry `(w, n)` is the word in column `n` of the row
    the table names for `w`, the table's entries being below 813. -/
theorem gather_words (Q : S813x24576.Idx → BitVec 32) (idx : IVec S1536x1 32)
    (h : ∀ w : Fin 1536, (idx (ValueIdx.ix2 w (0 : Fin 1))).toNat < 813) :
    Host.gather gather_S813x24576_S1536x1_S1536x24576_1_0_n_n_0_1_124576 Q idx
      = fun i => Q (ValueIdx.ix2 ⟨(idx (ValueIdx.ix2 (i 0) (0 : Fin 1))).toNat % 813, Nat.mod_lt _ (by decide)⟩ (i 1)) := by
  funext i
  have hi : i = ValueIdx.ix2 (i 0) (i 1) := by
    funext a
    match a with
    | ⟨0, _⟩ => rfl
    | ⟨1, _⟩ => rfl
  conv_lhs => rw [hi]
  refine Routing.gather_row _ rfl rfl rfl rfl rfl Q idx (i 0) (i 1) _ ?_ (by decide)
  have := h (i 0)
  apply BitVec.eq_of_toNat_eq
  rw [BitVec.toNat_ofNat]
  simp only [Nat.mod_eq_of_lt this]
  rw [Nat.mod_eq_of_lt (idx _).isLt]

/-- Rows of a 6144-row array at rows named by an index column, its entries being below 6144. -/
theorem gather_rows {α : Type} (X : S6144x5120.Idx → α) (idx : IVec S6144x1 32)
    (h : ∀ w : Fin 6144, (idx (ValueIdx.ix2 w (0 : Fin 1))).toNat < 6144) :
    Host.gather gather_S6144x5120_S6144x1_S6144x5120_1_0_n_n_0_1_15120 X idx
      = fun i => X (ValueIdx.ix2 ⟨(idx (ValueIdx.ix2 (i 0) (0 : Fin 1))).toNat % 6144, Nat.mod_lt _ (by decide)⟩ (i 1)) := by
  funext i
  have hi : i = ValueIdx.ix2 (i 0) (i 1) := by
    funext a
    match a with
    | ⟨0, _⟩ => rfl
    | ⟨1, _⟩ => rfl
  conv_lhs => rw [hi]
  refine Routing.gather_row _ rfl rfl rfl rfl rfl X idx (i 0) (i 1) _ ?_ (by decide)
  have := h (i 0)
  apply BitVec.eq_of_toNat_eq
  rw [BitVec.toNat_ofNat]
  simp only [Nat.mod_eq_of_lt this]
  rw [Nat.mod_eq_of_lt (idx _).isLt]

/-- The sum of the two inputs, as the reference rounds it. -/
def refH (A B : FVec Ideal S2x2560x6144 .bf16) : FVec Ideal S2x2560x6144 .bf16 :=
  truncf .bf16 (addf (extf .f32 A bitsLt_bf16_f32) (extf .f32 B bitsLt_bf16_f32)) bitsLt_bf16_f32

/-- The normalized sum, as the reference writes it. -/
def refN (H : FVec Ideal S2x2560x6144 .bf16) (G : FVec Ideal S6144 .f32) : FVec Ideal S2x2560x6144 .bf16 :=
  (truncf .bf16 (mulf (mulf (extf .f32 H bitsLt_bf16_f32) (broadcastInDim S2x2560x6144 ![0, 1, 2]
    bcast_S2x2560x1_S2x2560x6144_0_1_2 (Host.rsqrt (addf (Host.divf (broadcastInDim S2x2560x1 ![0, 1]
    bcast_S2x2560_S2x2560x1_0_1 (Host.reduceAdd (mulf (extf .f32 H bitsLt_bf16_f32) (extf .f32 H bitsLt_bf16_f32))
    (constant S_ .f32 0x00000000#32) reducesTo_S2x2560x6144_S2x2560_d2 h_S_)) (broadcastInDim S2x2560x1 ![]
    bcast_S_S2x2560x1 (constant S_ .f32 0x45C00000#32))) (broadcastInDim S2x2560x1 ![] bcast_S_S2x2560x1 (constant S_
    .f32 0x358637BD#32)))))) (broadcastInDim S2x2560x6144 ![0, 1, 2] bcast_S1x1x6144_S2x2560x6144_0_1_2 (broadcastInDim
    S1x1x6144 ![2] bcast_S6144_S1x1x6144_2 G))) bitsLt_bf16_f32)

/-- The reference's order of the columns: the permutation read slot by slot. -/
def refIdx (P : IVec S6144 32) : IVec S6144x1 32 :=
  (broadcastInDim S6144x1 ![0] bcast_S6144_S6144x1_0 (shapeCast _ (transpose S4x1536 [1, 0] (shapeCast _ P
    shapeCasts_S6144_S1536x4) transposes_S1536x4_S4x1536_1_0) shapeCasts_S4x1536_S6144))

/-- The reference's dequantized weights, in its own order of rows, from the first and second word of every packed
    word position and the scales. -/
def refW (X Y : IVec S1536x24576 32) (S : FVec Ideal S192x24576 .bf16) : FVec Ideal S6144x24576 .bf16 :=
  (shapeCast S6144x24576 (mulf (sitofp .bf16 (subi (andi (Host.shrui (broadcastInDim S4x1536x24576 ![0, 1, 2]
    bcast_S1x1536x24576_S4x1536x24576_0_1_2 (broadcastInDim S1x1536x24576 ![1, 2] bcast_S1536x24576_S1x1536x24576_1_2
    (ori (Host.shrui X (broadcastInDim S1536x24576 ![0, 1] bcast_S1536x1_S1536x24576_0_1 (broadcastInDim S1536x1 ![0]
    bcast_S1536_S1536x1_0 ((fun i => lit0 (S1536.rowMajor i)))))) (Host.shli (Host.shli Y (broadcastInDim S1536x24576 ![]
    bcast_S_S1536x24576 (constantI S_ 32 1#32))) (broadcastInDim S1536x24576 ![0, 1] bcast_S1536x1_S1536x24576_0_1 (subi
    (broadcastInDim S1536x1 ![] bcast_S_S1536x1 (constantI S_ 32 31#32)) (broadcastInDim S1536x1 ![0]
    bcast_S1536_S1536x1_0 ((fun i => lit0 (S1536.rowMajor i)))))))))) (broadcastInDim S4x1536x24576 ![0, 1, 2]
    bcast_S4x1536x1_S4x1536x24576_0_1_2 (broadcastInDim S4x1536x1 ![0, 1] bcast_S4x1536_S4x1536x1_0_1 (muli
    (broadcastInDim S4x1536 ![0, 1] bcast_S4x1_S4x1536_0_1 (broadcastInDim S4x1 ![0] bcast_S4_S4x1_0 (iotaInDim S4 32
    0))) (broadcastInDim S4x1536 ![0, 1] bcast_S1x1536_S4x1536_0_1 (broadcastInDim S1x1536 ![1] bcast_S1536_S1x1536_1
    ((fun i => lit3 (S1536.rowMajor i))))))))) (broadcastInDim S4x1536x24576 ![0, 1, 2]
    bcast_S1x1536x1_S4x1536x24576_0_1_2 (broadcastInDim S1x1536x1 ![1] bcast_S1536_S1x1536x1_1 (subi (Host.shli
    (broadcastInDim S1536 ![] bcast_S_S1536 (constantI S_ 32 1#32)) ((fun i => lit3 (S1536.rowMajor i)))) (broadcastInDim
    S1536 ![] bcast_S_S1536 (constantI S_ 32 1#32)))))) (broadcastInDim S4x1536x24576 ![0, 1, 2]
    bcast_S1x1536x1_S4x1536x24576_0_1_2 (broadcastInDim S1x1536x1 ![1] bcast_S1536_S1x1536x1_1 (Host.shli (broadcastInDim
    S1536 ![] bcast_S_S1536 (constantI S_ 32 1#32)) (subi ((fun i => lit3 (S1536.rowMajor i))) (broadcastInDim S1536 ![]
    bcast_S_S1536 (constantI S_ 32 1#32)))))))) (broadcastInDim S4x1536x24576 ![0, 1, 2]
    bcast_S1x1536x24576_S4x1536x24576_0_1_2 (broadcastInDim S1x1536x24576 ![1, 2] bcast_S1536x24576_S1x1536x24576_1_2
    (shapeCast _ (broadcastInDim S192x8x24576 ![0, 2] bcast_S192x24576_S192x8x24576_0_2 S)
    shapeCasts_S192x8x24576_S1536x24576)))) shapeCasts_S4x1536x24576_S6144x24576)

/-- The reference's first result in these terms. -/
def refY (A B : FVec Ideal S2x2560x6144 .bf16) (G : FVec Ideal S6144 .f32) (P : IVec S6144 32) (Q : IVec S813x24576 32)
    (S : FVec Ideal S192x24576 .bf16) : FVec Ideal S2x2560x24576 .bf16 :=
  shapeCast S2x2560x24576 (truncf .bf16 (Host.dotGeneral dot_S6144x5120_S6144x24576_S5120x24576_0_0_1_1_n_n none
    (Host.gather gather_S6144x5120_S6144x1_S6144x5120_1_0_n_n_0_1_15120 (transpose S6144x5120 [1, 0] (shapeCast
    S5120x6144 (refN (refH A B) G) shapeCasts_S2x2560x6144_S5120x6144) transposes_S5120x6144_S6144x5120_1_0) (refIdx P))
    (refW (Host.gather gather_S813x24576_S1536x1_S1536x24576_1_0_n_n_0_1_124576 Q (broadcastInDim S1536x1 ![0]
    bcast_S1536_S1536x1_0 ((fun i => lit1 (S1536.rowMajor i))))) (Host.gather
    gather_S813x24576_S1536x1_S1536x24576_1_0_n_n_0_1_124576 Q (broadcastInDim S1536x1 ![0] bcast_S1536_S1536x1_0 ((fun i
    => lit2 (S1536.rowMajor i))))) S)) bitsLt_bf16_f32) shapeCasts_S5120x24576_S2x2560x24576

theorem y_res (m : (ℓ : Loc nD τ sig) → Buf (Elt Ideal) ℓ) (c : Dev nD) :
    res_main_v74 (F := Ideal) m c
      = refY (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := rfl

/-- The first table of rows, as a column of indices. -/
theorem lo_at (w : Fin 1536) :
    broadcastInDim S1536x1 ![0] bcast_S1536_S1536x1_0 (fun i => lit1 (S1536.rowMajor i)) (ValueIdx.ix2 w (0 : Fin 1)) = lit1 w := by
  pointwise
  exact congrArg lit1 (Fin.ext (Shape.rowMajor_val_one _))

/-- The second table of rows, as a column of indices. -/
theorem hi_at (w : Fin 1536) :
    broadcastInDim S1536x1 ![0] bcast_S1536_S1536x1_0 (fun i => lit2 (S1536.rowMajor i)) (ValueIdx.ix2 w (0 : Fin 1)) = lit2 w := by
  pointwise
  exact congrArg lit2 (Fin.ext (Shape.rowMajor_val_one _))

/-- Place `x` in the reference's order is slot `x / 1536` of packed position `x % 1536`. -/
def slotOf (x : Fin 6144) : Fin 6144 := ⟨4 * (x.val % 1536) + x.val / 1536, by omega⟩

/-- The packed position of a place in the reference's order. -/
def posOf (x : Fin 6144) : Fin 1536 := ⟨x.val % 1536, by omega⟩

theorem refIdx_at (P : IVec S6144 32) (x : Fin 6144) :
    refIdx P (ValueIdx.ix2 x (0 : Fin 1)) = P (ValueIdx.ix1 (slotOf x)) := by
  unfold refIdx
  pointwise
  refine congrArg (fun z => P (ValueIdx.ix1 z)) (Fin.ext ?_)
  show x.val % 1536 * 4 + x.val / 1536 = 4 * (x.val % 1536) + x.val / 1536
  omega

/-- A table of 1536 entries read at a rank-1 index. -/
theorem tab_at (T : Fin 1536 → BitVec 32) (w : Fin 1536) : T (S1536.rowMajor (ValueIdx.ix1 w)) = T w :=
  congrArg T (Fin.ext (Shape.rowMajor_val_one _))

/-- One weight of the reference. -/
def refWt (x y : BitVec 32) (p : Fin 6144) (z : Ideal .bf16) : Ideal .bf16 :=
  FloatOps.sitofp (F := Ideal) .bf16
    (Cert.KernelIdeal.Dq.windowCode x y (lit0 (posOf p)) (lit3 (posOf p)) (BitVec.ofNat 32 (p.val / 1536))) * z

theorem refW_at (X Y : IVec S1536x24576 32) (S : FVec Ideal S192x24576 .bf16) (x : Fin 6144) (n : Fin 24576) :
    refW X Y S (ValueIdx.ix2 x n)
      = refWt (X (ValueIdx.ix2 (posOf x) n)) (Y (ValueIdx.ix2 (posOf x) n)) x
          (S (ValueIdx.ix2 ⟨x.val % 1536 / 8, by omega⟩ n)) := by
  have e0 := tab_at lit0 (posOf x)
  have e3 := tab_at lit3 (posOf x)
  unfold refW refWt Cert.KernelIdeal.Dq.windowCode
  rw [← e0, ← e3]
  pointwise
  rfl

theorem refY_at (A B : FVec Ideal S2x2560x6144 .bf16) (G : FVec Ideal S6144 .f32) (P : IVec S6144 32) (Q : IVec S813x24576 32)
    (S : FVec Ideal S192x24576 .bf16) (h1 : ∀ w : Fin 1536, (lit1 w).toNat < 813) (h2 : ∀ w : Fin 1536, (lit2 w).toNat < 813)
    (hP : ∀ r : Fin 6144, (P (ValueIdx.ix1 r)).toNat < 6144) (b : Fin 2) (s : Fin 2560) (n : Fin 24576) :
    refY A B G P Q S (ValueIdx.ix3 b s n)
      = ∑ x : Fin 6144, refN (refH A B) G (ValueIdx.ix3 b s ⟨(P (ValueIdx.ix1 (slotOf x))).toNat, hP _⟩)
          * refWt (Q (ValueIdx.ix2 ⟨(lit1 (posOf x)).toNat, h1 _⟩ n)) (Q (ValueIdx.ix2 ⟨(lit2 (posOf x)).toNat, h2 _⟩ n)) x
              (S (ValueIdx.ix2 ⟨x.val % 1536 / 8, by omega⟩ n)) := by
  unfold refY
  rw [gather_words _ _ (fun w => by rw [lo_at]; exact h1 w), gather_words _ _ (fun w => by rw [hi_at]; exact h2 w),
    gather_rows _ _ (fun w => by rw [refIdx_at]; exact hP _)]
  generalize refN (refH A B) G = N
  pointwise
  refine Finset.sum_congr rfl fun x _ => ?_
  refine congrArg₂ (· * ·) ?_ ?_
  · refine congrArg N ?_
    have hb := b.isLt
    have hs := s.isLt
    refine funext fun a => Fin.ext ?_
    match a with
    | ⟨0, _⟩ => show (b.val * 2560 + s.val) / 2560 = b.val; omega
    | ⟨1, _⟩ => show (b.val * 2560 + s.val) % 2560 = s.val; omega
    | ⟨2, _⟩ => exact (congrArg (fun z : BitVec 32 => z.toNat % 6144) (refIdx_at P x)).trans (Nat.mod_eq_of_lt (hP _))
  · refine (refW_at _ _ S x n).trans ?_
    refine congrArg₂ (fun u v => refWt (Q (ValueIdx.ix2 u n)) (Q (ValueIdx.ix2 v n)) x _) (Fin.ext ?_) (Fin.ext ?_)
    · refine (congrArg (fun z => (BitVec.toNat z) % 813) (lo_at (posOf x))).trans (Nat.mod_eq_of_lt (h1 _))
    · refine (congrArg (fun z => (BitVec.toNat z) % 813) (hi_at (posOf x))).trans (Nat.mod_eq_of_lt (h2 _))

theorem refN_at (H : FVec Ideal S2x2560x6144 .bf16) (G : FVec Ideal S6144 .f32) (b : Fin 2) (s : Fin 2560) (k : Fin 6144) :
    refN H G (ValueIdx.ix3 b s k)
      = H (ValueIdx.ix3 b s k)
          * Ideal.rsqrt (Ideal.div (∑ x : Fin 6144, H (ValueIdx.ix3 b s x) * H (ValueIdx.ix3 b s x))
              (Ideal.ofBits FTy.f32 1170210816#32) + Ideal.ofBits FTy.f32 897988541#32)
          * G (ValueIdx.ix1 k) := by
  unfold refN
  pointwise
  rfl

end Cert.ReferenceIdeal.Value

end
-- ==== Proof.Values.lean ====
/- What the two calls leave, read as the reference's two results. -/
module

public import proofs.«01_k».proof.Proof.Product
public import proofs.«01_k».proof.Proof.Match
public import proofs.«01_k».proof.Proof.RefVal

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI Idealize.SL.Sem
open Cert.ReferenceIdeal.Value (refH refN refY refWt refN_at refY_at slotOf posOf)

/-- The row of the flat arrays that holds row `s` of batch `b`. -/
def rowOf (b : Fin 2) (s : Fin 2560) : Fin 5120 := ⟨b.val * 2560 + s.val, by omega⟩

/-- The two batches one below the other. -/
abbrev flat (A : Vec Ideal S2x2560x6144 .bf16) : Vec Ideal S5120x6144 .bf16 := shapeCast S5120x6144 A shapeCasts_S2x2560x6144_S5120x6144

theorem flat_at (A : Vec Ideal S2x2560x6144 .bf16) (b : Fin 2) (s : Fin 2560) (k : Fin 6144) :
    flat A (ValueIdx.ix2 (rowOf b s) k) = A (ValueIdx.ix3 b s k) := by
  pointwise
  refine congrArg A (funext fun a => Fin.ext ?_)
  match a with
  | ⟨0, _⟩ => show (b.val * 2560 + s.val) / 2560 = b.val; omega
  | ⟨1, _⟩ => show (b.val * 2560 + s.val) % 2560 = s.val; omega
  | ⟨2, _⟩ => rfl

/-- A tile's row is the array's. -/
theorem rT_at (X : Vec Ideal S5120x6144 .bf16) (i : Fin 5120) (k : Fin 6144) :
    rT (F := Ideal) X (i.val / 256) (ValueIdx.ix2 ⟨i.val % 256, Nat.mod_lt _ (by decide)⟩ k) = X (ValueIdx.ix2 i k) := by
  have hi := i.isLt
  unfold rT
  refine congrArg (fun z => X (ValueIdx.ix2 z k)) (Fin.ext ?_)
  show (256 * (i.val / 256) + i.val % 256) % 5120 = i.val
  omega

theorem pay1_at (X R : Vec Ideal S256x6144 .bf16) (y : S256x6144.Idx) :
    k0_pay1 (F := Ideal) X R y = X y + R y := by
  unfold k0_pay1
  pointwise

theorem pay2_at (X R : Vec Ideal S256x6144 .bf16) (g : Vec Ideal S1x6144 .f32) (p : Fin 256) (k : Fin 6144) :
    k0_pay2 (F := Ideal) X R g (ValueIdx.ix2 p k)
      = k0_pay1 (F := Ideal) X R (ValueIdx.ix2 p k)
          * Ideal.rsqrt (Ideal.div (∑ x : Fin 6144, k0_pay1 (F := Ideal) X R (ValueIdx.ix2 p x) * k0_pay1 (F := Ideal) X R (ValueIdx.ix2 p x))
              (Ideal.ofBits FTy.f32 1170210816#32) + Ideal.ofBits FTy.f32 897988541#32)
          * g (ValueIdx.ix2 (0 : Fin 1) k) := by
  unfold k0_pay2
  generalize k0_pay1 (F := Ideal) X R = H
  pointwise
  rfl

theorem refH_at (A B : Vec Ideal S2x2560x6144 .bf16) (i : S2x2560x6144.Idx) : refH A B i = A i + B i := by
  unfold refH
  pointwise

theorem hArr_eq (A B : Vec Ideal S2x2560x6144 .bf16) (b : Fin 2) (s : Fin 2560) (k : Fin 6144) :
    hArr (F := Ideal) (flat A) (flat B) (ValueIdx.ix2 (rowOf b s) k) = refH A B (ValueIdx.ix3 b s k) := by
  refine (pay1_at _ _ _).trans ?_
  rw [refH_at]
  exact congrArg₂ (· + ·) ((rT_at (flat A) (rowOf b s) k).trans (flat_at A b s k)) ((rT_at (flat B) (rowOf b s) k).trans (flat_at B b s k))

/-- The gain as a row. -/
abbrev gainRow (G : Vec Ideal S6144 .f32) : Vec Ideal S1x6144 .f32 := shapeCast S1x6144 G shapeCasts_S6144_S1x6144

theorem gainRow_at (G : Vec Ideal S6144 .f32) (k : Fin 6144) : gainRow G (ValueIdx.ix2 (0 : Fin 1) k) = G (ValueIdx.ix1 k) := by
  pointwise
  rfl

theorem nArr_eq (A B : Vec Ideal S2x2560x6144 .bf16) (G : Vec Ideal S6144 .f32) (b : Fin 2) (s : Fin 2560) (k : Fin 6144) :
    nArr (F := Ideal) (flat A) (flat B) (gainRow G) (ValueIdx.ix2 (rowOf b s) k) = refN (refH A B) G (ValueIdx.ix3 b s k) := by
  refine (pay2_at _ _ _ _ _).trans ?_
  rw [refN_at]
  have e : ∀ x : Fin 6144, k0_pay1 (F := Ideal) (rT (flat A) ((rowOf b s).val / 256)) (rT (flat B) ((rowOf b s).val / 256))
      (ValueIdx.ix2 ⟨(rowOf b s).val % 256, Nat.mod_lt _ (by decide)⟩ x) = refH A B (ValueIdx.ix3 b s x) := fun x => hArr_eq A B b s x
  refine congrArg₂ (· * ·) (congrArg₂ (· * ·) (e k) (congrArg (fun z => Ideal.rsqrt (Ideal.div z _ + _)) ?_)) (gainRow_at G k)
  exact Finset.sum_congr rfl fun x _ => congrArg₂ (· * ·) (e x) (e x)

theorem slot_nat (a b : ℕ) (ha : a < 6144) (hb : b < 6144) (h : 4 * (a % 1536) + a / 1536 = 4 * (b % 1536) + b / 1536) : a = b := by
  have ea := Nat.div_add_mod a 1536
  have eb := Nat.div_add_mod b 1536
  have qa : a / 1536 < 4 := Nat.div_lt_of_lt_mul ha
  have qb : b / 1536 < 4 := Nat.div_lt_of_lt_mul hb
  clear ha hb
  generalize a / 1536 = p at *
  generalize a % 1536 = r at *
  generalize b / 1536 = p' at *
  generalize b % 1536 = r' at *
  have h1 : p = p' := by clear ea eb; omega
  have h2 : r = r' := by clear ea eb; omega
  rw [← ea, ← eb, h1, h2]

theorem slot_inj (x x' : Fin 6144) (h : slotOf x = slotOf x') : x = x' :=
  Fin.ext (slot_nat x.val x'.val x.isLt x'.isLt (congrArg Fin.val h))

/-- The column a place of the reference's order reads. -/
def colOf {P : Vec Ideal S6144 .i32} (hP : Dq.PermOk (F := Ideal) P) (x : Fin 6144) : Fin 6144 :=
  ⟨(P (ValueIdx.ix1 (slotOf x))).toNat, hP.1 _⟩

/-- Every column is read at exactly one place. -/
theorem col_bij {P : Vec Ideal S6144 .i32} (hP : Dq.PermOk (F := Ideal) P) : Function.Bijective (colOf hP) := by
  have hi : Function.Injective (colOf hP) := fun x x' h =>
    slot_inj x x' (hP.2 _ _ (BitVec.eq_of_toNat_eq (show (colOf hP x).val = (colOf hP x').val from congrArg Fin.val h)))
  exact Finite.injective_iff_bijective.mp hi

theorem lo_lt (w : Fin 1536) : (Cert.ReferenceIdeal.lit1 w).toNat < 813 := by
  obtain ⟨_, _, _, _, _, _, h, _⟩ := Dq.rows_match w 0
  omega

theorem hi_lt (w : Fin 1536) : (Cert.ReferenceIdeal.lit2 w).toNat < 813 := by
  obtain ⟨_, _, _, _, _, _, _, h, _⟩ := Dq.rows_match w 0
  omega

/-- A weight as the kernel unpacks it from its own slot's descriptor is the reference's. -/
theorem weight_eq (Q : Vec Ideal S813x24576 .i32) (S : Vec Ideal S192x24576 .bf16) (x : Fin 6144) (n : Fin 24576) :
    weight Q S (lit0 (slotOf x)) n
      = refWt (Q (ValueIdx.ix2 ⟨(Cert.ReferenceIdeal.lit1 (posOf x)).toNat, lo_lt _⟩ n))
          (Q (ValueIdx.ix2 ⟨(Cert.ReferenceIdeal.lit2 (posOf x)).toNat, hi_lt _⟩ n)) x (S (ValueIdx.ix2 ⟨x.val % 1536 / 8, by omega⟩ n)) := by
  have hx := x.isLt
  obtain ⟨hb, b8, hs, hc, hS, hg, hl, hh, hcase⟩ := Dq.rows_match (posOf x) ⟨x.val / 1536, by omega⟩
  have hd : lit0 ⟨4 * (posOf x).val + x.val / 1536, by show 4 * (x.val % 1536) + x.val / 1536 < 6144; omega⟩ = lit0 (slotOf x) := rfl
  rw [hd] at hb hS hg hcase
  have hcode : Dq.codeOf (lit0 (slotOf x)) (Q (ValueIdx.ix2 ⟨(Dq.dLo (lit0 (slotOf x))).toNat % 813, Nat.mod_lt _ (by decide)⟩ n))
      (Q (ValueIdx.ix2 ⟨(Dq.dHi (lit0 (slotOf x))).toNat % 813, Nat.mod_lt _ (by decide)⟩ n))
        = Dq.windowCode (Q (ValueIdx.ix2 ⟨(Cert.ReferenceIdeal.lit1 (posOf x)).toNat, lo_lt _⟩ n))
          (Q (ValueIdx.ix2 ⟨(Cert.ReferenceIdeal.lit2 (posOf x)).toNat, hi_lt _⟩ n)) (Cert.ReferenceIdeal.lit0 (posOf x))
          (Cert.ReferenceIdeal.lit3 (posOf x)) (BitVec.ofNat 32 (x.val / 1536)) := by
    have q : ∀ (u v : BitVec 32) (h : v.toNat < 813), u = v →
        Q (ValueIdx.ix2 ⟨u.toNat % 813, Nat.mod_lt _ (by decide)⟩ n) = Q (ValueIdx.ix2 ⟨v.toNat, h⟩ n) := fun u v h e => by
      subst e
      exact congrArg (fun z => Q (ValueIdx.ix2 z n)) (Fin.ext (Nat.mod_eq_of_lt h))
    refine Dq.code_eq _ _ _ _ _ _ _ _ hb b8 hs hc hS ?_
    rcases hcase with ⟨h1, h2, h3, h4⟩ | ⟨h1, h2, h3, h4⟩
    · exact Or.inl ⟨h1, q _ _ _ h2, h3, h4.imp id fun h => q _ _ _ h⟩
    · exact Or.inr ⟨h1, q _ _ _ h2, h3, h4⟩
  unfold weight Dq.valOf refWt
  rw [hcode]
  refine congrArg₂ (· * ·) rfl (congrArg (fun z => S (ValueIdx.ix2 z n)) (Fin.ext ?_))
  show (Dq.dGrp (lit0 (slotOf x))).toNat % 192 = x.val % 1536 / 8
  rw [hg]
  show x.val % 1536 / 8 % 192 = _
  omega

/-- The product's array is the reference's first result. -/
theorem yArr_eq (A B : Vec Ideal S2x2560x6144 .bf16) (G : Vec Ideal S6144 .f32) {P T : Vec Ideal S6144 .i32} (Q : Vec Ideal S813x24576 .i32)
    (S : Vec Ideal S192x24576 .bf16) (hP : Dq.PermOk (F := Ideal) P) (hT : ∀ r : Fin 6144, T (ValueIdx.ix1 r) = lit0 r)
    (b : Fin 2) (s : Fin 2560) (n : Fin 24576) :
    yArr (F := Ideal) (Dq.placed P T) Q S (nArr (F := Ideal) (flat A) (flat B) (gainRow G)) (ValueIdx.ix2 (rowOf b s) n)
      = refY A B G P Q S (ValueIdx.ix3 b s n) := by
  rw [yArr_apply, refY_at A B G P Q S lo_lt hi_lt hP.1]
  refine (Fintype.sum_bijective (colOf hP) (col_bij hP) _ _ fun x => ?_).symm
  have hd : Dq.placed (F := Ideal) P T (ValueIdx.ix1 ⟨(colOf hP x).val, by omega⟩) = lit0 (slotOf x) :=
    (Dq.placed_at hP (slotOf x) _ rfl).trans (hT _)
  rw [hd, nArr_eq, weight_eq]
  rfl

end Cert.KernelIdeal.Calls

end
-- ==== Proof.Results.lean ====
/- The kernel's two results are the reference's: what the host's reshapes hand to the calls and take from them, and the two programs'
   results side by side. -/
module

public import proofs.«01_k».proof.Proof.Frames
public import proofs.«01_k».proof.Proof.Values

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI Idealize.SL.Sem
open Cert.ReferenceIdeal.Value (refH refN refY)

/-! ## What the host's operations leave, from any buffers -/

section Host
variable (W : Valuation τ sig (Elt Ideal))

theorem read_v0 : StableHlo.after hostOps0 W (Proc.devRef .tc main_v0) = flat (W (Proc.devRef .tc main_arg0)) := by
  after_results_simp
  rfl

theorem read_v1 : StableHlo.after hostOps0 W (Proc.devRef .tc main_v1) = flat (W (Proc.devRef .tc main_arg1)) := by
  after_results_simp
  rfl

theorem read_v2 : StableHlo.after hostOps0 W (Proc.devRef .tc main_v2) = gainRow (W (Proc.devRef .tc main_arg2)) := by
  after_results_simp
  rfl

theorem read_v4 : StableHlo.after hostOps1 W (Proc.devRef .tc main_v4) = W (Proc.devRef .tc main_arg4) := by
  after_results_simp
  rfl

theorem read_v6 : StableHlo.after hostOps2 W (Proc.devRef .tc main_v6)
    = shapeCast S2x2560x24576 (W (Proc.devRef .tc main_v5) : Vec Ideal S5120x24576 .bf16) shapeCasts_S5120x24576_S2x2560x24576 := by
  after_results_simp
  rfl

theorem read_v7 : StableHlo.after hostOps2 W (Proc.devRef .tc main_v7)
    = shapeCast S2x2560x6144 (W (Proc.devRef .tc main_v3_0) : Vec Ideal S5120x6144 .bf16) shapeCasts_S5120x6144_S2x2560x6144 := by
  after_results_simp
  rfl

end Host

variable (m : (ℓ : Loc nD τ sig) → Buf (Elt Ideal) ℓ) (c : Dev nD)

/-- An argument array as launched. -/
abbrev arg (r : Ref sig .tc) : Buf (Elt Ideal) ((c : Thread nD τ).loc r) := m ((c : Thread nD τ).loc r)

/-! ## What the second call finds -/

theorem vin_arg3 : Vin m c main_arg3 = arg m c main_arg3 :=
  (V3_of m (outsA m) c main_arg3 (by decide)).trans <| (V2_of m (outsA m) c main_arg3 (by decide)).trans (V1_of m c main_arg3 (by decide))

theorem vin_arg5 : Vin m c main_arg5 = arg m c main_arg5 :=
  (V3_of m (outsA m) c main_arg5 (by decide)).trans <| (V2_of m (outsA m) c main_arg5 (by decide)).trans (V1_of m c main_arg5 (by decide))

theorem vin_v4 : Vin m c main_v4 = arg m c main_arg4 :=
  (read_v4 (V2 m (outsA m) c)).trans <| (V2_of m (outsA m) c main_arg4 (by decide)).trans (V1_of m c main_arg4 (by decide))

theorem vin_n : Vin m c main_v3_1 = nArr (F := Ideal) (flat (arg m c main_arg0)) (flat (arg m c main_arg1)) (gainRow (arg m c main_arg2)) := by
  refine (V3_of m (outsA m) c main_v3_1 (by decide)).trans ?_
  have e : V2 m (outsA m) c (Proc.devRef .tc main_v3_1) = outsA m 2 main_v3_1 c := Function.update_self ..
  rw [e]
  have e' : outsA m 2 main_v3_1 c = (dat0 m c).arrAt 4 cfg0.N := by unfold outsA; rw [Function.update_self]
  rw [e', n_array]
  rw [show V1 m c (Proc.devRef .tc main_v0) = _ from read_v0 (V0 m c), show V1 m c (Proc.devRef .tc main_v1) = _ from read_v1 (V0 m c),
    show V1 m c (Proc.devRef .tc main_v2) = _ from read_v2 (V0 m c)]

/-! ## The two results -/

theorem out_h (b : Fin 2) (s : Fin 2560) (k : Fin 6144) :
    (V5 m (outs m) c (Proc.devRef .tc main_v7) : Vec Ideal S2x2560x6144 .bf16) (ValueIdx.ix3 b s k)
      = refH (arg m c main_arg0) (arg m c main_arg1) (ValueIdx.ix3 b s k) := by
  refine (congrFun (read_v7 (V4 m (outs m) c)) _).trans ?_
  have e : V4 m (outs m) c (Proc.devRef .tc main_v3_0) = hArr (F := Ideal) (flat (arg m c main_arg0)) (flat (arg m c main_arg1)) := by
    refine (V4_of m (outs m) c main_v3_0 (by decide)).trans <| (V3_of m (outs m) c main_v3_0 (by decide)).trans ?_
    have e1 : V2 m (outs m) c (Proc.devRef .tc main_v3_0) = outs m 2 main_v3_0 c :=
      (Function.update_of_ne (StableHlo.devRef_ne_of_ne (by decide)) _ _).trans (Function.update_self ..)
    rw [e1, outs_h, h_array]
    rw [show V1 m c (Proc.devRef .tc main_v0) = _ from read_v0 (V0 m c), show V1 m c (Proc.devRef .tc main_v1) = _ from read_v1 (V0 m c)]
  rw [e]
  generalize arg m c main_arg0 = A
  generalize arg m c main_arg1 = B
  have h := hArr_eq A B b s k
  rw [← h]
  generalize hArr (F := Ideal) (flat A) (flat B) = H
  pointwise
  rfl

theorem out_y (hP : Dq.PermOk (F := Ideal) (arg m c main_arg3)) (b : Fin 2) (s : Fin 2560) (n : Fin 24576) :
    (V5 m (outs m) c (Proc.devRef .tc main_v6) : Vec Ideal S2x2560x24576 .bf16) (ValueIdx.ix3 b s n)
      = refY (arg m c main_arg0) (arg m c main_arg1) (arg m c main_arg2) (arg m c main_arg3) (arg m c main_arg4) (arg m c main_arg5)
          (ValueIdx.ix3 b s n) := by
  refine (congrFun (read_v6 (V4 m (outs m) c)) _).trans ?_
  have e : V4 m (outs m) c (Proc.devRef .tc main_v5)
      = yArr (F := Ideal) (Dq.placed (arg m c main_arg3) (Vin m c main_c)) (arg m c main_arg4) (arg m c main_arg5)
          (nArr (F := Ideal) (flat (arg m c main_arg0)) (flat (arg m c main_arg1)) (gainRow (arg m c main_arg2))) := by
    refine (Function.update_self ..).trans ?_
    rw [outs_y, y_array, vin_arg3, vin_arg5, vin_v4, vin_n]
  rw [e]
  have h := yArr_eq (arg m c main_arg0) (arg m c main_arg1) (arg m c main_arg2) (T := Vin m c main_c) (arg m c main_arg4) (arg m c main_arg5) hP
    (table_at m c) b s n
  rw [← h]
  generalize yArr (F := Ideal) _ _ _ _ = Y
  pointwise
  rfl

theorem out_h_eq : V5 m (outs m) c (Proc.devRef .tc main_v7) = refH (arg m c main_arg0) (arg m c main_arg1) := by
  funext i
  have e := ValueIdx.eq_ix3 (n0 := 2) (n1 := 2560) (n2 := 6144) i
  rw [e]
  exact out_h m c _ _ _

theorem out_y_eq (hP : Dq.PermOk (F := Ideal) (arg m c main_arg3)) :
    V5 m (outs m) c (Proc.devRef .tc main_v6)
      = refY (arg m c main_arg0) (arg m c main_arg1) (arg m c main_arg2) (arg m c main_arg3) (arg m c main_arg4) (arg m c main_arg5) := by
  funext i
  have e := ValueIdx.eq_ix3 (n0 := 2) (n1 := 2560) (n2 := 24576) i
  rw [e]
  exact out_y m c hP _ _ _

end Cert.KernelIdeal.Calls

namespace Cert.Proof

open Idealize.ShloMosaic Idealize.SL.Sem

theorem reference_frame_pre [Cert.Pre_permutation.Facts] : Cert.quiescent_ReferenceIdeal_pre_permutation := fun m g _ =>
  reference_frame m g trivial

/-- Over the reals the kernel's two results are the reference's. -/
theorem algebraic [Cert.Pre_permutation.Facts] : Cert.algebraic_KernelIdeal_ReferenceIdeal := by
  intro m g m' g' hpre hargs
  have hP := fun c => Cert.Pre_permutation.perm_of _ _ _ _ _ _ (hpre c)
  refine ⟨fun c => Cert.KernelIdeal.Gen.V5 m (Cert.KernelIdeal.Calls.outs m) c (Proc.devRef .tc Cert.KernelIdeal.main_v6),
    fun c => Cert.KernelIdeal.Gen.V5 m (Cert.KernelIdeal.Calls.outs m) c (Proc.devRef .tc Cert.KernelIdeal.main_v7), ?_, ?_⟩
  · refine (θ_run Cert.KernelIdeal.defs _ _).mono (fun r h c => ?_) (Cert.KernelIdeal.Calls.run_all m g hP)
    have mem : ∀ b : Ref Cert.KernelIdeal.sig .tc, Proc.devRef .tc b ∈ Pipeline.ucRefs Cert.KernelIdeal.τ Cert.KernelIdeal.sig →
        r.2.mem (c, Proc.devRef .tc b) = Cert.KernelIdeal.Gen.V5 m (Cert.KernelIdeal.Calls.outs m) c (Proc.devRef .tc b) := fun b hb => h.1 c _ hb
    exact ⟨mem _ (Finset.mem_filter.mpr ⟨StableHlo.devRef_mem_tcRefs _, by decide⟩), mem _ (Finset.mem_filter.mpr ⟨StableHlo.devRef_mem_tcRefs _, by decide⟩),
      (mem _ (Finset.mem_filter.mpr ⟨StableHlo.devRef_mem_tcRefs _, by decide⟩)).trans (Cert.KernelIdeal.Gen.V5_main_arg0 m _ c),
      (mem _ (Finset.mem_filter.mpr ⟨StableHlo.devRef_mem_tcRefs _, by decide⟩)).trans (Cert.KernelIdeal.Gen.V5_main_arg1 m _ c),
      (mem _ (Finset.mem_filter.mpr ⟨StableHlo.devRef_mem_tcRefs _, by decide⟩)).trans (Cert.KernelIdeal.Gen.V5_main_arg2 m _ c),
      (mem _ (Finset.mem_filter.mpr ⟨StableHlo.devRef_mem_tcRefs _, by decide⟩)).trans (Cert.KernelIdeal.Gen.V5_main_arg3 m _ c),
      (mem _ (Finset.mem_filter.mpr ⟨StableHlo.devRef_mem_tcRefs _, by decide⟩)).trans (Cert.KernelIdeal.Gen.V5_main_arg4 m _ c),
      (mem _ (Finset.mem_filter.mpr ⟨StableHlo.devRef_mem_tcRefs _, by decide⟩)).trans (Cert.KernelIdeal.Gen.V5_main_arg5 m _ c)⟩
  · refine (θ_run Cert.ReferenceIdeal.defs _ _).mono (fun r h c => ?_) (Cert.ReferenceIdeal.Value.run (F := Ideal) m' g')
    obtain ⟨hy, hh, hrest⟩ := h c
    obtain ⟨a0, a1, a2, a3, a4, a5⟩ := hargs c
    refine ⟨hy.trans ?_, hh.trans ?_, hrest⟩
    · rw [Cert.ReferenceIdeal.Value.y_res, a0, a1, a2, a3, a4, a5]
      exact (Cert.KernelIdeal.Calls.out_y_eq m c (hP c)).symm
    · rw [a0, a1]
      exact (Cert.KernelIdeal.Calls.out_h_eq m c).symm

end Cert.Proof

end
-- ==== Proof.lean ====
module

public import proofs.«01_k».proof.Proof.Results
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_permutation.Gen.facts,
  kernel_frame, kernelIdeal_frame, reference_frame, reference_frame_pre, rules, algebraic⟩

end Cert.Proof

end
